-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x4096 : Shape := ⟨3, ![32, 1, 4096]⟩
abbrev S4096x14336 : Shape := ⟨2, ![4096, 14336]⟩
abbrev S14336 : Shape := ⟨1, ![14336]⟩
abbrev S14336x4096 : Shape := ⟨2, ![14336, 4096]⟩
abbrev S4096 : Shape := ⟨1, ![4096]⟩
abbrev S32x4096 : Shape := ⟨2, ![32, 4096]⟩
abbrev S1x14336 : Shape := ⟨2, ![1, 14336]⟩
abbrev S1x4096 : Shape := ⟨2, ![1, 4096]⟩
abbrev S1x32 : Shape := ⟨2, ![1, 32]⟩
abbrev S32x14336 : Shape := ⟨2, ![32, 14336]⟩
abbrev S32x128 : Shape := ⟨2, ![32, 128]⟩
abbrev S8x4096x512 : Shape := ⟨3, ![8, 4096, 512]⟩
abbrev S7168x4096 : Shape := ⟨2, ![7168, 4096]⟩
abbrev S32x14464 : Shape := ⟨2, ![32, 14464]⟩
abbrev S116 : Shape := ⟨1, ![116]⟩
abbrev S4 : Shape := ⟨1, ![4]⟩
abbrev S5 : Shape := ⟨1, ![5]⟩
abbrev S8 : Shape := ⟨1, ![8]⟩
abbrev S14 : Shape := ⟨1, ![14]⟩
abbrev S1 : Shape := ⟨1, ![1]⟩
abbrev S_ : Shape := ⟨0, ![]⟩
abbrev S1x4096x512 : Shape := ⟨3, ![1, 4096, 512]⟩
abbrev S4096x512 : Shape := ⟨2, ![4096, 512]⟩
abbrev S32 : Shape := ⟨1, ![32]⟩
abbrev S32x1 : Shape := ⟨2, ![32, 1]⟩
abbrev S32x255 : Shape := ⟨2, ![32, 255]⟩
abbrev S32x32 : Shape := ⟨2, ![32, 32]⟩
abbrev S32x512 : Shape := ⟨2, ![32, 512]⟩
abbrev S1x512 : Shape := ⟨2, ![1, 512]⟩
abbrev S1x32x128 : Shape := ⟨3, ![1, 32, 128]⟩
abbrev S1x1x1 : Shape := ⟨3, ![1, 1, 1]⟩
abbrev S128x4096 : Shape := ⟨2, ![128, 4096]⟩
abbrev S512x4096 : Shape := ⟨2, ![512, 4096]⟩

abbrev nBuf : Space → Nat
  | .hbm => 15
  | .vmem => 14
  | .smem => 1
  | _ => 0

abbrev bufTy : (tb : Table) → Fin (tcTables nBuf tb) → BufTy
  | .hbm, ⟨0, _⟩ => ⟨S32x1x4096, .bf16⟩
  | .hbm, ⟨1, _⟩ => ⟨S4096x14336, .fp8e4m3⟩
  | .hbm, ⟨2, _⟩ => ⟨S14336, .f32⟩
  | .hbm, ⟨3, _⟩ => ⟨S14336, .f32⟩
  | .hbm, ⟨4, _⟩ => ⟨S14336x4096, .fp8e4m3⟩
  | .hbm, ⟨5, _⟩ => ⟨S4096, .f32⟩
  | .hbm, ⟨6, _⟩ => ⟨S32x4096, .bf16⟩
  | .hbm, ⟨7, _⟩ => ⟨S1x14336, .f32⟩
  | .hbm, ⟨8, _⟩ => ⟨S1x14336, .f32⟩
  | .hbm, ⟨9, _⟩ => ⟨S1x4096, .f32⟩
  | .hbm, ⟨10, _⟩ => ⟨S32x4096, .bf16⟩
  | .hbm, ⟨11, _⟩ => ⟨S32x4096, .fp8e4m3⟩
  | .hbm, ⟨12, _⟩ => ⟨S1x32, .f32⟩
  | .hbm, ⟨13, _⟩ => ⟨S32x14336, .fp8e4m3⟩
  | .hbm, ⟨14, _⟩ => ⟨S1x32, .f32⟩
  | .local _ .vmem, ⟨0, _⟩ => ⟨S32x4096, .bf16⟩
  | .local _ .vmem, ⟨1, _⟩ => ⟨S1x14336, .f32⟩
  | .local _ .vmem, ⟨2, _⟩ => ⟨S1x14336, .f32⟩
  | .local _ .vmem, ⟨3, _⟩ => ⟨S1x4096, .f32⟩
  | .local _ .vmem, ⟨4, _⟩ => ⟨S32x4096, .fp8e4m3⟩
  | .local _ .vmem, ⟨5, _⟩ => ⟨S32x128, .f32⟩
  | .local _ .vmem, ⟨6, _⟩ => ⟨S1x32, .f32⟩
  | .local _ .vmem, ⟨7, _⟩ => ⟨S1x32, .f32⟩
  | .local _ .vmem, ⟨8, _⟩ => ⟨S8x4096x512, .fp8e4m3⟩
  | .local _ .vmem, ⟨9, _⟩ => ⟨S7168x4096, .fp8e4m3⟩
  | .local _ .vmem, ⟨10, _⟩ => ⟨S32x14336, .f32⟩
  | .local _ .vmem, ⟨11, _⟩ => ⟨S32x14464, .fp8e4m3⟩
  | .local _ .vmem, ⟨12, _⟩ => ⟨S32x4096, .f32⟩
  | .local _ .vmem, ⟨13, _⟩ => ⟨S32x4096, .bf16⟩
  | .local _ .smem, ⟨0, _⟩ => ⟨S116, .i32⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.smem, 0, rfl⟩

abbrev nD : Nat := 1
abbrev τ : Topo := Topo.v7x

variable {F : FTy → Type} [FloatOps F]

abbrev grid0 : Pipeline.Grid := .none

def k0_off1 (c0_i32_0_r0 : BitVec 32) : Fin 1 → Nat :=
  let c8_i32_r0 : BitVec 32 := 8#32
  let v12_r0 : BitVec 32 := Scalar.remsi c0_i32_0_r0 c8_i32_r0
  ![v12_r0.toNat]
def k0_off2 (c0_i32_0_r0 : BitVec 32) : Fin 3 → Nat :=
  let c8_i32_r0 : BitVec 32 := 8#32
  let v12_r0 : BitVec 32 := Scalar.remsi c0_i32_0_r0 c8_i32_r0
  let c0_i32_1_r0 : BitVec 32 := 0#32
  let c0_i32_2_r0 : BitVec 32 := 0#32
  ![v12_r0.toNat, 0, 0]
@[reducible] def k0_t1_loop : Scf.Loop 32 :=
  let c0_i32_64_r0 : BitVec 32 := 0#32
  let c28_i32_r0 : BitVec 32 := 28#32
  let v142_r0 : BitVec 32 := Scalar.addi c0_i32_64_r0 c28_i32_r0
  let c1_i32_65_r0 : BitVec 32 := 1#32
  ⟨c0_i32_64_r0, v142_r0, c1_i32_65_r0⟩
def k0_off3 (k0_t1 : Fin k0_t1_loop.trips) : Fin 1 → Nat :=
  let c0_i32_64_r0 : BitVec 32 := 0#32
  let c1_i32_65_r0 : BitVec 32 := 1#32
  let arg26_r0 : BitVec 32 := Scf.iv c0_i32_64_r0 c1_i32_65_r0 k0_t1
  let c8_i32_146_r0 : BitVec 32 := 8#32
  let v299_r0 : BitVec 32 := Scalar.remsi arg26_r0 c8_i32_146_r0
  ![v299_r0.toNat]
def k0_off4 (k0_t1 : Fin k0_t1_loop.trips) : Fin 3 → Nat :=
  let c0_i32_64_r0 : BitVec 32 := 0#32
  let c1_i32_65_r0 : BitVec 32 := 1#32
  let arg26_r0 : BitVec 32 := Scf.iv c0_i32_64_r0 c1_i32_65_r0 k0_t1
  let c8_i32_146_r0 : BitVec 32 := 8#32
  let v299_r0 : BitVec 32 := Scalar.remsi arg26_r0 c8_i32_146_r0
  let c0_i32_148_r0 : BitVec 32 := 0#32
  let c0_i32_149_r0 : BitVec 32 := 0#32
  ![v299_r0.toNat, 0, 0]
def k0_off5 (k0_t1 : Fin k0_t1_loop.trips) : Fin 2 → Nat :=
  let c0_i32_150_r0 : BitVec 32 := 0#32
  let c0_i32_64_r0 : BitVec 32 := 0#32
  let c1_i32_65_r0 : BitVec 32 := 1#32
  let arg26_r0 : BitVec 32 := Scf.iv c0_i32_64_r0 c1_i32_65_r0 k0_t1
  let c512_i32_147_r0 : BitVec 32 := 512#32
  let v300_r0 : BitVec 32 := Scalar.muli arg26_r0 c512_i32_147_r0
  ![0, v300_r0.toNat]
def k0_mult1 (k0_t1 : Fin k0_t1_loop.trips) : BitVec 32 :=
  let c0_i32_64_r0 : BitVec 32 := 0#32
  let c1_i32_65_r0 : BitVec 32 := 1#32
  let arg26_r0 : BitVec 32 := Scf.iv c0_i32_64_r0 c1_i32_65_r0 k0_t1
  let c512_i32_151_r0 : BitVec 32 := 512#32
  let v306_r0 : BitVec 32 := Scalar.muli arg26_r0 c512_i32_151_r0
  v306_r0
def k0_off6 (k0_t1 : Fin k0_t1_loop.trips) : Fin 3 → Nat :=
  let c0_i32_64_r0 : BitVec 32 := 0#32
  let c1_i32_65_r0 : BitVec 32 := 1#32
  let arg26_r0 : BitVec 32 := Scf.iv c0_i32_64_r0 c1_i32_65_r0 k0_t1
  let c8_i32_154_r0 : BitVec 32 := 8#32
  let v309_r0 : BitVec 32 := Scalar.remsi arg26_r0 c8_i32_154_r0
  let v310_r0 : Index := Scalar.indexCast v309_r0
  let c0_155_r0 : Index := 0#32
  let c0_156_r0 : Index := 0#32
  ![v310_r0.toNat, 0, 0]
def k0_off7 (k0_t1 : Fin k0_t1_loop.trips) : Fin 2 → Nat :=
  let c0_160_r0 : Index := 0#32
  let c0_i32_64_r0 : BitVec 32 := 0#32
  let c1_i32_65_r0 : BitVec 32 := 1#32
  let arg26_r0 : BitVec 32 := Scf.iv c0_i32_64_r0 c1_i32_65_r0 k0_t1
  let c512_i32_151_r0 : BitVec 32 := 512#32
  let v306_r0 : BitVec 32 := Scalar.muli arg26_r0 c512_i32_151_r0
  let v307_r0 : BitVec 32 := v306_r0
  let v317_r0 : Index := Scalar.indexCast v307_r0
  ![0, v317_r0.toNat]
def k0_off8 (k0_t1 : Fin k0_t1_loop.trips) : Fin 2 → Nat :=
  let c0_163_r0 : Index := 0#32
  let c0_i32_64_r0 : BitVec 32 := 0#32
  let c1_i32_65_r0 : BitVec 32 := 1#32
  let arg26_r0 : BitVec 32 := Scf.iv c0_i32_64_r0 c1_i32_65_r0 k0_t1
  let c512_i32_151_r0 : BitVec 32 := 512#32
  let v306_r0 : BitVec 32 := Scalar.muli arg26_r0 c512_i32_151_r0
  let v307_r0 : BitVec 32 := v306_r0
  let v327_r0 : Index := Scalar.indexCast v307_r0
  ![0, v327_r0.toNat]
def k0_cond1 (k0_t1 : Fin k0_t1_loop.trips) : BitVec 1 :=
  let c0_i32_64_r0 : BitVec 32 := 0#32
  let c1_i32_65_r0 : BitVec 32 := 1#32
  let arg26_r0 : BitVec 32 := Scf.iv c0_i32_64_r0 c1_i32_65_r0 k0_t1
  let c8_i32_164_r0 : BitVec 32 := 8#32
  let v331_r0 : BitVec 32 := Scalar.addi arg26_r0 c8_i32_164_r0
  let c28_i32_165_r0 : BitVec 32 := 28#32
  let v332_r0 : BitVec 1 := Scalar.cmpi .slt v331_r0 c28_i32_165_r0
  let v333_r0 : BitVec 32 := Scalar.extui v332_r0
  let c0_i32_166_r0 : BitVec 32 := 0#32
  let v334_r0 : BitVec 1 := Scalar.cmpi .ne v333_r0 c0_i32_166_r0
  v334_r0

def k0_off9 (k0_t1 : Fin k0_t1_loop.trips) : Fin 1 → Nat :=
  let c0_i32_64_r0 : BitVec 32 := 0#32
  let c1_i32_65_r0 : BitVec 32 := 1#32
  let arg26_r0 : BitVec 32 := Scf.iv c0_i32_64_r0 c1_i32_65_r0 k0_t1
  let c8_i32_187_r0 : BitVec 32 := 8#32
  let v395_r0 : BitVec 32 := Scalar.addi arg26_r0 c8_i32_187_r0
  let c8_i32_188_r0 : BitVec 32 := 8#32
  let v396_r0 : BitVec 32 := Scalar.remsi v395_r0 c8_i32_188_r0
  ![v396_r0.toNat]
def k0_off10 (k0_t1 : Fin k0_t1_loop.trips) : Fin 3 → Nat :=
  let c0_i32_64_r0 : BitVec 32 := 0#32
  let c1_i32_65_r0 : BitVec 32 := 1#32
  let arg26_r0 : BitVec 32 := Scf.iv c0_i32_64_r0 c1_i32_65_r0 k0_t1
  let c8_i32_187_r0 : BitVec 32 := 8#32
  let v395_r0 : BitVec 32 := Scalar.addi arg26_r0 c8_i32_187_r0
  let c8_i32_188_r0 : BitVec 32 := 8#32
  let v396_r0 : BitVec 32 := Scalar.remsi v395_r0 c8_i32_188_r0
  let c0_i32_190_r0 : BitVec 32 := 0#32
  let c0_i32_191_r0 : BitVec 32 := 0#32
  ![v396_r0.toNat, 0, 0]
def k0_off11 (k0_t1 : Fin k0_t1_loop.trips) : Fin 2 → Nat :=
  let c0_i32_192_r0 : BitVec 32 := 0#32
  let c0_i32_64_r0 : BitVec 32 := 0#32
  let c1_i32_65_r0 : BitVec 32 := 1#32
  let arg26_r0 : BitVec 32 := Scf.iv c0_i32_64_r0 c1_i32_65_r0 k0_t1
  let c8_i32_187_r0 : BitVec 32 := 8#32
  let v395_r0 : BitVec 32 := Scalar.addi arg26_r0 c8_i32_187_r0
  let c512_i32_189_r0 : BitVec 32 := 512#32
  let v397_r0 : BitVec 32 := Scalar.muli v395_r0 c512_i32_189_r0
  ![0, v397_r0.toNat]
def k0_off12 (arg27_r0 : BitVec 32) : Fin 1 → Nat :=
  let v397_r0 : Index := Scalar.indexCast arg27_r0
  ![v397_r0.toNat]
def k0_cond2 (v341_r0 : BitVec 1) : BitVec 1 :=
  let v342_r0 : BitVec 32 := Scalar.extui v341_r0
  let c0_i32_169_r0 : BitVec 32 := 0#32
  let v343_r0 : BitVec 1 := Scalar.cmpi .ne v342_r0 c0_i32_169_r0
  v343_r0

def k0_off13 (arg27_r0 : BitVec 32) : Fin 1 → Nat :=
  let v396_r0 : Index := Scalar.indexCast arg27_r0
  ![v396_r0.toNat]
def k0_cond3 (arg27_r0 : BitVec 32) (v341_r0 : BitVec 1) : BitVec 1 :=
  let c56_i32_170_r0 : BitVec 32 := 56#32
  let v344_r0 : BitVec 1 := Scalar.cmpi .slt arg27_r0 c56_i32_170_r0
  let v345_r0 : BitVec 1 := Scalar.andi v341_r0 v344_r0
  let v346_r0 : BitVec 32 := Scalar.extui v345_r0
  let c0_i32_171_r0 : BitVec 32 := 0#32
  let v347_r0 : BitVec 1 := Scalar.cmpi .ne v346_r0 c0_i32_171_r0
  v347_r0

def k0_off14 (arg27_r0 : BitVec 32) : Fin 1 → Nat :=
  let c56_i32_187_r0 : BitVec 32 := 56#32
  let v395_r0 : BitVec 32 := Scalar.remsi arg27_r0 c56_i32_187_r0
  let c0_i32_190_r0 : BitVec 32 := 0#32
  let v401_r0 : BitVec 1 := Scalar.cmpi .sgt v395_r0 c0_i32_190_r0
  let v402_r0 : BitVec 32 := Scalar.extui v401_r0
  let c0_i32_191_r0 : BitVec 32 := 0#32
  let v403_r0 : BitVec 1 := Scalar.cmpi .slt v395_r0 c0_i32_191_r0
  let v404_r0 : BitVec 32 := Scalar.extui v403_r0
  let v405_r0 : BitVec 32 := Scalar.subi v402_r0 v404_r0
  let c4_i32_189_r0 : BitVec 32 := 4#32
  let c0_i32_192_r0 : BitVec 32 := 0#32
  let v406_r0 : BitVec 1 := Scalar.cmpi .sgt c4_i32_189_r0 c0_i32_192_r0
  let v407_r0 : BitVec 32 := Scalar.extui v406_r0
  let c0_i32_193_r0 : BitVec 32 := 0#32
  let v408_r0 : BitVec 1 := Scalar.cmpi .slt c4_i32_189_r0 c0_i32_193_r0
  let v409_r0 : BitVec 32 := Scalar.extui v408_r0
  let v410_r0 : BitVec 32 := Scalar.subi v407_r0 v409_r0
  let v411_r0 : BitVec 1 := Scalar.cmpi .ne v405_r0 v410_r0
  let v412_r0 : BitVec 32 := Scalar.remsi v395_r0 c4_i32_189_r0
  let c0_i32_194_r0 : BitVec 32 := 0#32
  let v413_r0 : BitVec 1 := Scalar.cmpi .ne v412_r0 c0_i32_194_r0
  let v414_r0 : BitVec 1 := Scalar.andi v411_r0 v413_r0
  let v400_r0 : BitVec 32 := Scalar.divsi v395_r0 c4_i32_189_r0
  let c1_i32_195_r0 : BitVec 32 := 1#32
  let v415_r0 : BitVec 32 := Scalar.subi v400_r0 c1_i32_195_r0
  let v416_r0 : BitVec 32 := Scalar.select v414_r0 v415_r0 v400_r0
  ![v416_r0.toNat]
def k0_off15 (arg27_r0 : BitVec 32) : Fin 2 → Nat :=
  let c56_i32_187_r0 : BitVec 32 := 56#32
  let v395_r0 : BitVec 32 := Scalar.remsi arg27_r0 c56_i32_187_r0
  let c128_i32_188_r0 : BitVec 32 := 128#32
  let v399_r0 : BitVec 32 := Scalar.muli v395_r0 c128_i32_188_r0
  let c0_i32_196_r0 : BitVec 32 := 0#32
  ![v399_r0.toNat, 0]
def k0_off16 (v397_r0 : BitVec 32) : Fin 2 → Nat :=
  let c128_i32_r0 : BitVec 32 := 128#32
  let v398_r0 : BitVec 32 := Scalar.muli v397_r0 c128_i32_r0
  let c0_i32_197_r0 : BitVec 32 := 0#32
  ![v398_r0.toNat, 0]

def k0_chk2 (arg27_r0 : BitVec 32) (v341_r0 : BitVec 1) (v397_r0 : BitVec 32) : Prop :=
  (∀ (k0_h3 : k0_cond3 arg27_r0 v341_r0 = 1#1), ∀ a, (k0_off16 v397_r0) a + S128x4096.size a ≤ S14336x4096.size a) ∧
  (∀ (k0_h3 : k0_cond3 arg27_r0 v341_r0 = 1#1), ∀ (hinb : ∀ a, (k0_off16 v397_r0) a + S128x4096.size a ≤ S14336x4096.size a), (Rect.unit (s := S14336x4096) (k0_off16 v397_r0) S128x4096.size hinb).WholeWords (EltTy.packing .fp8e4m3))
theorem k0_off16_inb : ∀ (arg27_r0 : BitVec 32) (v341_r0 : BitVec 1) (v397_r0 : BitVec 32) (k0_hw2 : k0_chk2 arg27_r0 v341_r0 v397_r0), ∀ (k0_h3 : k0_cond3 arg27_r0 v341_r0 = 1#1), ∀ a, (k0_off16 v397_r0) a + S128x4096.size a ≤ S14336x4096.size a := fun arg27_r0 v341_r0 v397_r0 k0_hw2 k0_h3 => k0_hw2.1 k0_h3
theorem k0_off16_wordsfp8e4m3 : ∀ (arg27_r0 : BitVec 32) (v341_r0 : BitVec 1) (v397_r0 : BitVec 32) (k0_hw2 : k0_chk2 arg27_r0 v341_r0 v397_r0), ∀ (k0_h3 : k0_cond3 arg27_r0 v341_r0 = 1#1), (Rect.unit (s := S14336x4096) (k0_off16 v397_r0) S128x4096.size (k0_off16_inb arg27_r0 v341_r0 v397_r0 k0_hw2 k0_h3)).WholeWords (EltTy.packing .fp8e4m3) := fun arg27_r0 v341_r0 v397_r0 k0_hw2 k0_h3 => k0_hw2.2 k0_h3 (k0_off16_inb arg27_r0 v341_r0 v397_r0 k0_hw2 k0_h3)

def k0_chk1 (arg27_r0 : BitVec 32) (v341_r0 : BitVec 1) : Prop :=
  (∀ (k0_h2 : k0_cond2 v341_r0 = 1#1), ∀ a, (k0_off12 arg27_r0) a + S1.size a ≤ S116.size a) ∧
  (∀ (k0_h3 : k0_cond3 arg27_r0 v341_r0 = 1#1), ∀ a, (k0_off13 arg27_r0) a + S1.size a ≤ S116.size a) ∧
  (∀ (k0_h3 : k0_cond3 arg27_r0 v341_r0 = 1#1), ∀ a, (k0_off14 arg27_r0) a + S1.size a ≤ S14.size a) ∧
  (∀ (k0_h3 : k0_cond3 arg27_r0 v341_r0 = 1#1), ∀ a, (k0_off15 arg27_r0) a + S128x4096.size a ≤ S7168x4096.size a) ∧
  (∀ (k0_h3 : k0_cond3 arg27_r0 v341_r0 = 1#1), ∀ (hinb : ∀ a, (k0_off15 arg27_r0) a + S128x4096.size a ≤ S7168x4096.size a), (Rect.unit (s := S7168x4096) (k0_off15 arg27_r0) S128x4096.size hinb).WholeWords (EltTy.packing .fp8e4m3))
theorem k0_off12_inb : ∀ (arg27_r0 : BitVec 32) (v341_r0 : BitVec 1) (k0_hw1 : k0_chk1 arg27_r0 v341_r0), ∀ (k0_h2 : k0_cond2 v341_r0 = 1#1), ∀ a, (k0_off12 arg27_r0) a + S1.size a ≤ S116.size a := fun arg27_r0 v341_r0 k0_hw1 k0_h2 => k0_hw1.1 k0_h2
theorem k0_off13_inb : ∀ (arg27_r0 : BitVec 32) (v341_r0 : BitVec 1) (k0_hw1 : k0_chk1 arg27_r0 v341_r0), ∀ (k0_h3 : k0_cond3 arg27_r0 v341_r0 = 1#1), ∀ a, (k0_off13 arg27_r0) a + S1.size a ≤ S116.size a := fun arg27_r0 v341_r0 k0_hw1 k0_h3 => k0_hw1.2.1 k0_h3
theorem k0_off14_inb : ∀ (arg27_r0 : BitVec 32) (v341_r0 : BitVec 1) (k0_hw1 : k0_chk1 arg27_r0 v341_r0), ∀ (k0_h3 : k0_cond3 arg27_r0 v341_r0 = 1#1), ∀ a, (k0_off14 arg27_r0) a + S1.size a ≤ S14.size a := fun arg27_r0 v341_r0 k0_hw1 k0_h3 => k0_hw1.2.2.1 k0_h3
theorem k0_off15_inb : ∀ (arg27_r0 : BitVec 32) (v341_r0 : BitVec 1) (k0_hw1 : k0_chk1 arg27_r0 v341_r0), ∀ (k0_h3 : k0_cond3 arg27_r0 v341_r0 = 1#1), ∀ a, (k0_off15 arg27_r0) a + S128x4096.size a ≤ S7168x4096.size a := fun arg27_r0 v341_r0 k0_hw1 k0_h3 => k0_hw1.2.2.2.1 k0_h3
theorem k0_off15_wordsfp8e4m3 : ∀ (arg27_r0 : BitVec 32) (v341_r0 : BitVec 1) (k0_hw1 : k0_chk1 arg27_r0 v341_r0), ∀ (k0_h3 : k0_cond3 arg27_r0 v341_r0 = 1#1), (Rect.unit (s := S7168x4096) (k0_off15 arg27_r0) S128x4096.size (k0_off15_inb arg27_r0 v341_r0 k0_hw1 k0_h3)).WholeWords (EltTy.packing .fp8e4m3) := fun arg27_r0 v341_r0 k0_hw1 k0_h3 => k0_hw1.2.2.2.2 k0_h3 (k0_off15_inb arg27_r0 v341_r0 k0_hw1 k0_h3)

def k0_off17 (arg27_r0 : BitVec 32) (v341_r0 : BitVec 1) : Fin 1 → Nat :=
  let v348_r0 : BitVec 32 := Scalar.extui v341_r0
  let v349_r0 : BitVec 32 := Scalar.addi arg27_r0 v348_r0
  let v397_r0 : Index := Scalar.indexCast v349_r0
  ![v397_r0.toNat]
def k0_cond4 (v356_r0 : BitVec 1) : BitVec 1 :=
  let v357_r0 : BitVec 32 := Scalar.extui v356_r0
  let c0_i32_174_r0 : BitVec 32 := 0#32
  let v358_r0 : BitVec 1 := Scalar.cmpi .ne v357_r0 c0_i32_174_r0
  v358_r0

def k0_off18 (arg27_r0 : BitVec 32) (v341_r0 : BitVec 1) : Fin 1 → Nat :=
  let v348_r0 : BitVec 32 := Scalar.extui v341_r0
  let v349_r0 : BitVec 32 := Scalar.addi arg27_r0 v348_r0
  let v396_r0 : Index := Scalar.indexCast v349_r0
  ![v396_r0.toNat]
def k0_cond5 (arg27_r0 : BitVec 32) (v341_r0 : BitVec 1) (v356_r0 : BitVec 1) : BitVec 1 :=
  let v348_r0 : BitVec 32 := Scalar.extui v341_r0
  let v349_r0 : BitVec 32 := Scalar.addi arg27_r0 v348_r0
  let c56_i32_175_r0 : BitVec 32 := 56#32
  let v359_r0 : BitVec 1 := Scalar.cmpi .slt v349_r0 c56_i32_175_r0
  let v360_r0 : BitVec 1 := Scalar.andi v356_r0 v359_r0
  let v361_r0 : BitVec 32 := Scalar.extui v360_r0
  let c0_i32_176_r0 : BitVec 32 := 0#32
  let v362_r0 : BitVec 1 := Scalar.cmpi .ne v361_r0 c0_i32_176_r0
  v362_r0

def k0_off19 (arg27_r0 : BitVec 32) (v341_r0 : BitVec 1) : Fin 1 → Nat :=
  let v348_r0 : BitVec 32 := Scalar.extui v341_r0
  let v349_r0 : BitVec 32 := Scalar.addi arg27_r0 v348_r0
  let c56_i32_187_r0 : BitVec 32 := 56#32
  let v395_r0 : BitVec 32 := Scalar.remsi v349_r0 c56_i32_187_r0
  let c0_i32_190_r0 : BitVec 32 := 0#32
  let v401_r0 : BitVec 1 := Scalar.cmpi .sgt v395_r0 c0_i32_190_r0
  let v402_r0 : BitVec 32 := Scalar.extui v401_r0
  let c0_i32_191_r0 : BitVec 32 := 0#32
  let v403_r0 : BitVec 1 := Scalar.cmpi .slt v395_r0 c0_i32_191_r0
  let v404_r0 : BitVec 32 := Scalar.extui v403_r0
  let v405_r0 : BitVec 32 := Scalar.subi v402_r0 v404_r0
  let c4_i32_189_r0 : BitVec 32 := 4#32
  let c0_i32_192_r0 : BitVec 32 := 0#32
  let v406_r0 : BitVec 1 := Scalar.cmpi .sgt c4_i32_189_r0 c0_i32_192_r0
  let v407_r0 : BitVec 32 := Scalar.extui v406_r0
  let c0_i32_193_r0 : BitVec 32 := 0#32
  let v408_r0 : BitVec 1 := Scalar.cmpi .slt c4_i32_189_r0 c0_i32_193_r0
  let v409_r0 : BitVec 32 := Scalar.extui v408_r0
  let v410_r0 : BitVec 32 := Scalar.subi v407_r0 v409_r0
  let v411_r0 : BitVec 1 := Scalar.cmpi .ne v405_r0 v410_r0
  let v412_r0 : BitVec 32 := Scalar.remsi v395_r0 c4_i32_189_r0
  let c0_i32_194_r0 : BitVec 32 := 0#32
  let v413_r0 : BitVec 1 := Scalar.cmpi .ne v412_r0 c0_i32_194_r0
  let v414_r0 : BitVec 1 := Scalar.andi v411_r0 v413_r0
  let v400_r0 : BitVec 32 := Scalar.divsi v395_r0 c4_i32_189_r0
  let c1_i32_195_r0 : BitVec 32 := 1#32
  let v415_r0 : BitVec 32 := Scalar.subi v400_r0 c1_i32_195_r0
  let v416_r0 : BitVec 32 := Scalar.select v414_r0 v415_r0 v400_r0
  ![v416_r0.toNat]
def k0_off20 (arg27_r0 : BitVec 32) (v341_r0 : BitVec 1) : Fin 2 → Nat :=
  let v348_r0 : BitVec 32 := Scalar.extui v341_r0
  let v349_r0 : BitVec 32 := Scalar.addi arg27_r0 v348_r0
  let c56_i32_187_r0 : BitVec 32 := 56#32
  let v395_r0 : BitVec 32 := Scalar.remsi v349_r0 c56_i32_187_r0
  let c128_i32_188_r0 : BitVec 32 := 128#32
  let v399_r0 : BitVec 32 := Scalar.muli v395_r0 c128_i32_188_r0
  let c0_i32_196_r0 : BitVec 32 := 0#32
  ![v399_r0.toNat, 0]
def k0_off21 (v397_r0 : BitVec 32) : Fin 2 → Nat :=
  let c128_i32_r0 : BitVec 32 := 128#32
  let v398_r0 : BitVec 32 := Scalar.muli v397_r0 c128_i32_r0
  let c0_i32_197_r0 : BitVec 32 := 0#32
  ![v398_r0.toNat, 0]

def k0_chk4 (arg27_r0 : BitVec 32) (v341_r0 : BitVec 1) (v356_r0 : BitVec 1) (v397_r0 : BitVec 32) : Prop :=
  (∀ (k0_h5 : k0_cond5 arg27_r0 v341_r0 v356_r0 = 1#1), ∀ a, (k0_off21 v397_r0) a + S128x4096.size a ≤ S14336x4096.size a) ∧
  (∀ (k0_h5 : k0_cond5 arg27_r0 v341_r0 v356_r0 = 1#1), ∀ (hinb : ∀ a, (k0_off21 v397_r0) a + S128x4096.size a ≤ S14336x4096.size a), (Rect.unit (s := S14336x4096) (k0_off21 v397_r0) S128x4096.size hinb).WholeWords (EltTy.packing .fp8e4m3))
theorem k0_off21_inb : ∀ (arg27_r0 : BitVec 32) (v341_r0 : BitVec 1) (v356_r0 : BitVec 1) (v397_r0 : BitVec 32) (k0_hw4 : k0_chk4 arg27_r0 v341_r0 v356_r0 v397_r0), ∀ (k0_h5 : k0_cond5 arg27_r0 v341_r0 v356_r0 = 1#1), ∀ a, (k0_off21 v397_r0) a + S128x4096.size a ≤ S14336x4096.size a := fun arg27_r0 v341_r0 v356_r0 v397_r0 k0_hw4 k0_h5 => k0_hw4.1 k0_h5
theorem k0_off21_wordsfp8e4m3 : ∀ (arg27_r0 : BitVec 32) (v341_r0 : BitVec 1) (v356_r0 : BitVec 1) (v397_r0 : BitVec 32) (k0_hw4 : k0_chk4 arg27_r0 v341_r0 v356_r0 v397_r0), ∀ (k0_h5 : k0_cond5 arg27_r0 v341_r0 v356_r0 = 1#1), (Rect.unit (s := S14336x4096) (k0_off21 v397_r0) S128x4096.size (k0_off21_inb arg27_r0 v341_r0 v356_r0 v397_r0 k0_hw4 k0_h5)).WholeWords (EltTy.packing .fp8e4m3) := fun arg27_r0 v341_r0 v356_r0 v397_r0 k0_hw4 k0_h5 => k0_hw4.2 k0_h5 (k0_off21_inb arg27_r0 v341_r0 v356_r0 v397_r0 k0_hw4 k0_h5)

def k0_chk3 (arg27_r0 : BitVec 32) (v341_r0 : BitVec 1) (v356_r0 : BitVec 1) : Prop :=
  (∀ (k0_h4 : k0_cond4 v356_r0 = 1#1), ∀ a, (k0_off17 arg27_r0 v341_r0) a + S1.size a ≤ S116.size a) ∧
  (∀ (k0_h5 : k0_cond5 arg27_r0 v341_r0 v356_r0 = 1#1), ∀ a, (k0_off18 arg27_r0 v341_r0) a + S1.size a ≤ S116.size a) ∧
  (∀ (k0_h5 : k0_cond5 arg27_r0 v341_r0 v356_r0 = 1#1), ∀ a, (k0_off19 arg27_r0 v341_r0) a + S1.size a ≤ S14.size a) ∧
  (∀ (k0_h5 : k0_cond5 arg27_r0 v341_r0 v356_r0 = 1#1), ∀ a, (k0_off20 arg27_r0 v341_r0) a + S128x4096.size a ≤ S7168x4096.size a) ∧
  (∀ (k0_h5 : k0_cond5 arg27_r0 v341_r0 v356_r0 = 1#1), ∀ (hinb : ∀ a, (k0_off20 arg27_r0 v341_r0) a + S128x4096.size a ≤ S7168x4096.size a), (Rect.unit (s := S7168x4096) (k0_off20 arg27_r0 v341_r0) S128x4096.size hinb).WholeWords (EltTy.packing .fp8e4m3))
theorem k0_off17_inb : ∀ (arg27_r0 : BitVec 32) (v341_r0 : BitVec 1) (v356_r0 : BitVec 1) (k0_hw3 : k0_chk3 arg27_r0 v341_r0 v356_r0), ∀ (k0_h4 : k0_cond4 v356_r0 = 1#1), ∀ a, (k0_off17 arg27_r0 v341_r0) a + S1.size a ≤ S116.size a := fun arg27_r0 v341_r0 v356_r0 k0_hw3 k0_h4 => k0_hw3.1 k0_h4
theorem k0_off18_inb : ∀ (arg27_r0 : BitVec 32) (v341_r0 : BitVec 1) (v356_r0 : BitVec 1) (k0_hw3 : k0_chk3 arg27_r0 v341_r0 v356_r0), ∀ (k0_h5 : k0_cond5 arg27_r0 v341_r0 v356_r0 = 1#1), ∀ a, (k0_off18 arg27_r0 v341_r0) a + S1.size a ≤ S116.size a := fun arg27_r0 v341_r0 v356_r0 k0_hw3 k0_h5 => k0_hw3.2.1 k0_h5
theorem k0_off19_inb : ∀ (arg27_r0 : BitVec 32) (v341_r0 : BitVec 1) (v356_r0 : BitVec 1) (k0_hw3 : k0_chk3 arg27_r0 v341_r0 v356_r0), ∀ (k0_h5 : k0_cond5 arg27_r0 v341_r0 v356_r0 = 1#1), ∀ a, (k0_off19 arg27_r0 v341_r0) a + S1.size a ≤ S14.size a := fun arg27_r0 v341_r0 v356_r0 k0_hw3 k0_h5 => k0_hw3.2.2.1 k0_h5
theorem k0_off20_inb : ∀ (arg27_r0 : BitVec 32) (v341_r0 : BitVec 1) (v356_r0 : BitVec 1) (k0_hw3 : k0_chk3 arg27_r0 v341_r0 v356_r0), ∀ (k0_h5 : k0_cond5 arg27_r0 v341_r0 v356_r0 = 1#1), ∀ a, (k0_off20 arg27_r0 v341_r0) a + S128x4096.size a ≤ S7168x4096.size a := fun arg27_r0 v341_r0 v356_r0 k0_hw3 k0_h5 => k0_hw3.2.2.2.1 k0_h5
theorem k0_off20_wordsfp8e4m3 : ∀ (arg27_r0 : BitVec 32) (v341_r0 : BitVec 1) (v356_r0 : BitVec 1) (k0_hw3 : k0_chk3 arg27_r0 v341_r0 v356_r0), ∀ (k0_h5 : k0_cond5 arg27_r0 v341_r0 v356_r0 = 1#1), (Rect.unit (s := S7168x4096) (k0_off20 arg27_r0 v341_r0) S128x4096.size (k0_off20_inb arg27_r0 v341_r0 v356_r0 k0_hw3 k0_h5)).WholeWords (EltTy.packing .fp8e4m3) := fun arg27_r0 v341_r0 v356_r0 k0_hw3 k0_h5 => k0_hw3.2.2.2.2 k0_h5 (k0_off20_inb arg27_r0 v341_r0 v356_r0 k0_hw3 k0_h5)

def k0_off22 (arg27_r0 : BitVec 32) (v341_r0 : BitVec 1) (v356_r0 : BitVec 1) : Fin 1 → Nat :=
  let v348_r0 : BitVec 32 := Scalar.extui v341_r0
  let v349_r0 : BitVec 32 := Scalar.addi arg27_r0 v348_r0
  let v363_r0 : BitVec 32 := Scalar.extui v356_r0
  let v364_r0 : BitVec 32 := Scalar.addi v349_r0 v363_r0
  let v397_r0 : Index := Scalar.indexCast v364_r0
  ![v397_r0.toNat]
def k0_cond6 (v371_r0 : BitVec 1) : BitVec 1 :=
  let v372_r0 : BitVec 32 := Scalar.extui v371_r0
  let c0_i32_179_r0 : BitVec 32 := 0#32
  let v373_r0 : BitVec 1 := Scalar.cmpi .ne v372_r0 c0_i32_179_r0
  v373_r0

def k0_off23 (arg27_r0 : BitVec 32) (v341_r0 : BitVec 1) (v356_r0 : BitVec 1) : Fin 1 → Nat :=
  let v348_r0 : BitVec 32 := Scalar.extui v341_r0
  let v349_r0 : BitVec 32 := Scalar.addi arg27_r0 v348_r0
  let v363_r0 : BitVec 32 := Scalar.extui v356_r0
  let v364_r0 : BitVec 32 := Scalar.addi v349_r0 v363_r0
  let v396_r0 : Index := Scalar.indexCast v364_r0
  ![v396_r0.toNat]
def k0_cond7 (arg27_r0 : BitVec 32) (v341_r0 : BitVec 1) (v356_r0 : BitVec 1) (v371_r0 : BitVec 1) : BitVec 1 :=
  let v348_r0 : BitVec 32 := Scalar.extui v341_r0
  let v349_r0 : BitVec 32 := Scalar.addi arg27_r0 v348_r0
  let v363_r0 : BitVec 32 := Scalar.extui v356_r0
  let v364_r0 : BitVec 32 := Scalar.addi v349_r0 v363_r0
  let c56_i32_180_r0 : BitVec 32 := 56#32
  let v374_r0 : BitVec 1 := Scalar.cmpi .slt v364_r0 c56_i32_180_r0
  let v375_r0 : BitVec 1 := Scalar.andi v371_r0 v374_r0
  let v376_r0 : BitVec 32 := Scalar.extui v375_r0
  let c0_i32_181_r0 : BitVec 32 := 0#32
  let v377_r0 : BitVec 1 := Scalar.cmpi .ne v376_r0 c0_i32_181_r0
  v377_r0

def k0_off24 (arg27_r0 : BitVec 32) (v341_r0 : BitVec 1) (v356_r0 : BitVec 1) : Fin 1 → Nat :=
  let v348_r0 : BitVec 32 := Scalar.extui v341_r0
  let v349_r0 : BitVec 32 := Scalar.addi arg27_r0 v348_r0
  let v363_r0 : BitVec 32 := Scalar.extui v356_r0
  let v364_r0 : BitVec 32 := Scalar.addi v349_r0 v363_r0
  let c56_i32_187_r0 : BitVec 32 := 56#32
  let v395_r0 : BitVec 32 := Scalar.remsi v364_r0 c56_i32_187_r0
  let c0_i32_190_r0 : BitVec 32 := 0#32
  let v401_r0 : BitVec 1 := Scalar.cmpi .sgt v395_r0 c0_i32_190_r0
  let v402_r0 : BitVec 32 := Scalar.extui v401_r0
  let c0_i32_191_r0 : BitVec 32 := 0#32
  let v403_r0 : BitVec 1 := Scalar.cmpi .slt v395_r0 c0_i32_191_r0
  let v404_r0 : BitVec 32 := Scalar.extui v403_r0
  let v405_r0 : BitVec 32 := Scalar.subi v402_r0 v404_r0
  let c4_i32_189_r0 : BitVec 32 := 4#32
  let c0_i32_192_r0 : BitVec 32 := 0#32
  let v406_r0 : BitVec 1 := Scalar.cmpi .sgt c4_i32_189_r0 c0_i32_192_r0
  let v407_r0 : BitVec 32 := Scalar.extui v406_r0
  let c0_i32_193_r0 : BitVec 32 := 0#32
  let v408_r0 : BitVec 1 := Scalar.cmpi .slt c4_i32_189_r0 c0_i32_193_r0
  let v409_r0 : BitVec 32 := Scalar.extui v408_r0
  let v410_r0 : BitVec 32 := Scalar.subi v407_r0 v409_r0
  let v411_r0 : BitVec 1 := Scalar.cmpi .ne v405_r0 v410_r0
  let v412_r0 : BitVec 32 := Scalar.remsi v395_r0 c4_i32_189_r0
  let c0_i32_194_r0 : BitVec 32 := 0#32
  let v413_r0 : BitVec 1 := Scalar.cmpi .ne v412_r0 c0_i32_194_r0
  let v414_r0 : BitVec 1 := Scalar.andi v411_r0 v413_r0
  let v400_r0 : BitVec 32 := Scalar.divsi v395_r0 c4_i32_189_r0
  let c1_i32_195_r0 : BitVec 32 := 1#32
  let v415_r0 : BitVec 32 := Scalar.subi v400_r0 c1_i32_195_r0
  let v416_r0 : BitVec 32 := Scalar.select v414_r0 v415_r0 v400_r0
  ![v416_r0.toNat]
def k0_off25 (arg27_r0 : BitVec 32) (v341_r0 : BitVec 1) (v356_r0 : BitVec 1) : Fin 2 → Nat :=
  let v348_r0 : BitVec 32 := Scalar.extui v341_r0
  let v349_r0 : BitVec 32 := Scalar.addi arg27_r0 v348_r0
  let v363_r0 : BitVec 32 := Scalar.extui v356_r0
  let v364_r0 : BitVec 32 := Scalar.addi v349_r0 v363_r0
  let c56_i32_187_r0 : BitVec 32 := 56#32
  let v395_r0 : BitVec 32 := Scalar.remsi v364_r0 c56_i32_187_r0
  let c128_i32_188_r0 : BitVec 32 := 128#32
  let v399_r0 : BitVec 32 := Scalar.muli v395_r0 c128_i32_188_r0
  let c0_i32_196_r0 : BitVec 32 := 0#32
  ![v399_r0.toNat, 0]
def k0_off26 (v397_r0 : BitVec 32) : Fin 2 → Nat :=
  let c128_i32_r0 : BitVec 32 := 128#32
  let v398_r0 : BitVec 32 := Scalar.muli v397_r0 c128_i32_r0
  let c0_i32_197_r0 : BitVec 32 := 0#32
  ![v398_r0.toNat, 0]

def k0_chk6 (arg27_r0 : BitVec 32) (v341_r0 : BitVec 1) (v356_r0 : BitVec 1) (v371_r0 : BitVec 1) (v397_r0 : BitVec 32) : Prop :=
  (∀ (k0_h7 : k0_cond7 arg27_r0 v341_r0 v356_r0 v371_r0 = 1#1), ∀ a, (k0_off26 v397_r0) a + S128x4096.size a ≤ S14336x4096.size a) ∧
  (∀ (k0_h7 : k0_cond7 arg27_r0 v341_r0 v356_r0 v371_r0 = 1#1), ∀ (hinb : ∀ a, (k0_off26 v397_r0) a + S128x4096.size a ≤ S14336x4096.size a), (Rect.unit (s := S14336x4096) (k0_off26 v397_r0) S128x4096.size hinb).WholeWords (EltTy.packing .fp8e4m3))
theorem k0_off26_inb : ∀ (arg27_r0 : BitVec 32) (v341_r0 : BitVec 1) (v356_r0 : BitVec 1) (v371_r0 : BitVec 1) (v397_r0 : BitVec 32) (k0_hw6 : k0_chk6 arg27_r0 v341_r0 v356_r0 v371_r0 v397_r0), ∀ (k0_h7 : k0_cond7 arg27_r0 v341_r0 v356_r0 v371_r0 = 1#1), ∀ a, (k0_off26 v397_r0) a + S128x4096.size a ≤ S14336x4096.size a := fun arg27_r0 v341_r0 v356_r0 v371_r0 v397_r0 k0_hw6 k0_h7 => k0_hw6.1 k0_h7
theorem k0_off26_wordsfp8e4m3 : ∀ (arg27_r0 : BitVec 32) (v341_r0 : BitVec 1) (v356_r0 : BitVec 1) (v371_r0 : BitVec 1) (v397_r0 : BitVec 32) (k0_hw6 : k0_chk6 arg27_r0 v341_r0 v356_r0 v371_r0 v397_r0), ∀ (k0_h7 : k0_cond7 arg27_r0 v341_r0 v356_r0 v371_r0 = 1#1), (Rect.unit (s := S14336x4096) (k0_off26 v397_r0) S128x4096.size (k0_off26_inb arg27_r0 v341_r0 v356_r0 v371_r0 v397_r0 k0_hw6 k0_h7)).WholeWords (EltTy.packing .fp8e4m3) := fun arg27_r0 v341_r0 v356_r0 v371_r0 v397_r0 k0_hw6 k0_h7 => k0_hw6.2 k0_h7 (k0_off26_inb arg27_r0 v341_r0 v356_r0 v371_r0 v397_r0 k0_hw6 k0_h7)

def k0_chk5 (arg27_r0 : BitVec 32) (v341_r0 : BitVec 1) (v356_r0 : BitVec 1) (v371_r0 : BitVec 1) : Prop :=
  (∀ (k0_h6 : k0_cond6 v371_r0 = 1#1), ∀ a, (k0_off22 arg27_r0 v341_r0 v356_r0) a + S1.size a ≤ S116.size a) ∧
  (∀ (k0_h7 : k0_cond7 arg27_r0 v341_r0 v356_r0 v371_r0 = 1#1), ∀ a, (k0_off23 arg27_r0 v341_r0 v356_r0) a + S1.size a ≤ S116.size a) ∧
  (∀ (k0_h7 : k0_cond7 arg27_r0 v341_r0 v356_r0 v371_r0 = 1#1), ∀ a, (k0_off24 arg27_r0 v341_r0 v356_r0) a + S1.size a ≤ S14.size a) ∧
  (∀ (k0_h7 : k0_cond7 arg27_r0 v341_r0 v356_r0 v371_r0 = 1#1), ∀ a, (k0_off25 arg27_r0 v341_r0 v356_r0) a + S128x4096.size a ≤ S7168x4096.size a) ∧
  (∀ (k0_h7 : k0_cond7 arg27_r0 v341_r0 v356_r0 v371_r0 = 1#1), ∀ (hinb : ∀ a, (k0_off25 arg27_r0 v341_r0 v356_r0) a + S128x4096.size a ≤ S7168x4096.size a), (Rect.unit (s := S7168x4096) (k0_off25 arg27_r0 v341_r0 v356_r0) S128x4096.size hinb).WholeWords (EltTy.packing .fp8e4m3))
theorem k0_off22_inb : ∀ (arg27_r0 : BitVec 32) (v341_r0 : BitVec 1) (v356_r0 : BitVec 1) (v371_r0 : BitVec 1) (k0_hw5 : k0_chk5 arg27_r0 v341_r0 v356_r0 v371_r0), ∀ (k0_h6 : k0_cond6 v371_r0 = 1#1), ∀ a, (k0_off22 arg27_r0 v341_r0 v356_r0) a + S1.size a ≤ S116.size a := fun arg27_r0 v341_r0 v356_r0 v371_r0 k0_hw5 k0_h6 => k0_hw5.1 k0_h6
theorem k0_off23_inb : ∀ (arg27_r0 : BitVec 32) (v341_r0 : BitVec 1) (v356_r0 : BitVec 1) (v371_r0 : BitVec 1) (k0_hw5 : k0_chk5 arg27_r0 v341_r0 v356_r0 v371_r0), ∀ (k0_h7 : k0_cond7 arg27_r0 v341_r0 v356_r0 v371_r0 = 1#1), ∀ a, (k0_off23 arg27_r0 v341_r0 v356_r0) a + S1.size a ≤ S116.size a := fun arg27_r0 v341_r0 v356_r0 v371_r0 k0_hw5 k0_h7 => k0_hw5.2.1 k0_h7
theorem k0_off24_inb : ∀ (arg27_r0 : BitVec 32) (v341_r0 : BitVec 1) (v356_r0 : BitVec 1) (v371_r0 : BitVec 1) (k0_hw5 : k0_chk5 arg27_r0 v341_r0 v356_r0 v371_r0), ∀ (k0_h7 : k0_cond7 arg27_r0 v341_r0 v356_r0 v371_r0 = 1#1), ∀ a, (k0_off24 arg27_r0 v341_r0 v356_r0) a + S1.size a ≤ S14.size a := fun arg27_r0 v341_r0 v356_r0 v371_r0 k0_hw5 k0_h7 => k0_hw5.2.2.1 k0_h7
theorem k0_off25_inb : ∀ (arg27_r0 : BitVec 32) (v341_r0 : BitVec 1) (v356_r0 : BitVec 1) (v371_r0 : BitVec 1) (k0_hw5 : k0_chk5 arg27_r0 v341_r0 v356_r0 v371_r0), ∀ (k0_h7 : k0_cond7 arg27_r0 v341_r0 v356_r0 v371_r0 = 1#1), ∀ a, (k0_off25 arg27_r0 v341_r0 v356_r0) a + S128x4096.size a ≤ S7168x4096.size a := fun arg27_r0 v341_r0 v356_r0 v371_r0 k0_hw5 k0_h7 => k0_hw5.2.2.2.1 k0_h7
theorem k0_off25_wordsfp8e4m3 : ∀ (arg27_r0 : BitVec 32) (v341_r0 : BitVec 1) (v356_r0 : BitVec 1) (v371_r0 : BitVec 1) (k0_hw5 : k0_chk5 arg27_r0 v341_r0 v356_r0 v371_r0), ∀ (k0_h7 : k0_cond7 arg27_r0 v341_r0 v356_r0 v371_r0 = 1#1), (Rect.unit (s := S7168x4096) (k0_off25 arg27_r0 v341_r0 v356_r0) S128x4096.size (k0_off25_inb arg27_r0 v341_r0 v356_r0 v371_r0 k0_hw5 k0_h7)).WholeWords (EltTy.packing .fp8e4m3) := fun arg27_r0 v341_r0 v356_r0 v371_r0 k0_hw5 k0_h7 => k0_hw5.2.2.2.2 k0_h7 (k0_off25_inb arg27_r0 v341_r0 v356_r0 v371_r0 k0_hw5 k0_h7)

def k0_off27 (arg27_r0 : BitVec 32) (v341_r0 : BitVec 1) (v356_r0 : BitVec 1) (v371_r0 : BitVec 1) : Fin 1 → Nat :=
  let v348_r0 : BitVec 32 := Scalar.extui v341_r0
  let v349_r0 : BitVec 32 := Scalar.addi arg27_r0 v348_r0
  let v363_r0 : BitVec 32 := Scalar.extui v356_r0
  let v364_r0 : BitVec 32 := Scalar.addi v349_r0 v363_r0
  let v378_r0 : BitVec 32 := Scalar.extui v371_r0
  let v379_r0 : BitVec 32 := Scalar.addi v364_r0 v378_r0
  let v397_r0 : Index := Scalar.indexCast v379_r0
  ![v397_r0.toNat]
def k0_cond8 (v386_r0 : BitVec 1) : BitVec 1 :=
  let v387_r0 : BitVec 32 := Scalar.extui v386_r0
  let c0_i32_184_r0 : BitVec 32 := 0#32
  let v388_r0 : BitVec 1 := Scalar.cmpi .ne v387_r0 c0_i32_184_r0
  v388_r0

def k0_off28 (arg27_r0 : BitVec 32) (v341_r0 : BitVec 1) (v356_r0 : BitVec 1) (v371_r0 : BitVec 1) : Fin 1 → Nat :=
  let v348_r0 : BitVec 32 := Scalar.extui v341_r0
  let v349_r0 : BitVec 32 := Scalar.addi arg27_r0 v348_r0
  let v363_r0 : BitVec 32 := Scalar.extui v356_r0
  let v364_r0 : BitVec 32 := Scalar.addi v349_r0 v363_r0
  let v378_r0 : BitVec 32 := Scalar.extui v371_r0
  let v379_r0 : BitVec 32 := Scalar.addi v364_r0 v378_r0
  let v396_r0 : Index := Scalar.indexCast v379_r0
  ![v396_r0.toNat]
def k0_cond9 (arg27_r0 : BitVec 32) (v341_r0 : BitVec 1) (v356_r0 : BitVec 1) (v371_r0 : BitVec 1) (v386_r0 : BitVec 1) : BitVec 1 :=
  let v348_r0 : BitVec 32 := Scalar.extui v341_r0
  let v349_r0 : BitVec 32 := Scalar.addi arg27_r0 v348_r0
  let v363_r0 : BitVec 32 := Scalar.extui v356_r0
  let v364_r0 : BitVec 32 := Scalar.addi v349_r0 v363_r0
  let v378_r0 : BitVec 32 := Scalar.extui v371_r0
  let v379_r0 : BitVec 32 := Scalar.addi v364_r0 v378_r0
  let c56_i32_185_r0 : BitVec 32 := 56#32
  let v389_r0 : BitVec 1 := Scalar.cmpi .slt v379_r0 c56_i32_185_r0
  let v390_r0 : BitVec 1 := Scalar.andi v386_r0 v389_r0
  let v391_r0 : BitVec 32 := Scalar.extui v390_r0
  let c0_i32_186_r0 : BitVec 32 := 0#32
  let v392_r0 : BitVec 1 := Scalar.cmpi .ne v391_r0 c0_i32_186_r0
  v392_r0

def k0_off29 (arg27_r0 : BitVec 32) (v341_r0 : BitVec 1) (v356_r0 : BitVec 1) (v371_r0 : BitVec 1) : Fin 1 → Nat :=
  let v348_r0 : BitVec 32 := Scalar.extui v341_r0
  let v349_r0 : BitVec 32 := Scalar.addi arg27_r0 v348_r0
  let v363_r0 : BitVec 32 := Scalar.extui v356_r0
  let v364_r0 : BitVec 32 := Scalar.addi v349_r0 v363_r0
  let v378_r0 : BitVec 32 := Scalar.extui v371_r0
  let v379_r0 : BitVec 32 := Scalar.addi v364_r0 v378_r0
  let c56_i32_187_r0 : BitVec 32 := 56#32
  let v395_r0 : BitVec 32 := Scalar.remsi v379_r0 c56_i32_187_r0
  let c0_i32_190_r0 : BitVec 32 := 0#32
  let v401_r0 : BitVec 1 := Scalar.cmpi .sgt v395_r0 c0_i32_190_r0
  let v402_r0 : BitVec 32 := Scalar.extui v401_r0
  let c0_i32_191_r0 : BitVec 32 := 0#32
  let v403_r0 : BitVec 1 := Scalar.cmpi .slt v395_r0 c0_i32_191_r0
  let v404_r0 : BitVec 32 := Scalar.extui v403_r0
  let v405_r0 : BitVec 32 := Scalar.subi v402_r0 v404_r0
  let c4_i32_189_r0 : BitVec 32 := 4#32
  let c0_i32_192_r0 : BitVec 32 := 0#32
  let v406_r0 : BitVec 1 := Scalar.cmpi .sgt c4_i32_189_r0 c0_i32_192_r0
  let v407_r0 : BitVec 32 := Scalar.extui v406_r0
  let c0_i32_193_r0 : BitVec 32 := 0#32
  let v408_r0 : BitVec 1 := Scalar.cmpi .slt c4_i32_189_r0 c0_i32_193_r0
  let v409_r0 : BitVec 32 := Scalar.extui v408_r0
  let v410_r0 : BitVec 32 := Scalar.subi v407_r0 v409_r0
  let v411_r0 : BitVec 1 := Scalar.cmpi .ne v405_r0 v410_r0
  let v412_r0 : BitVec 32 := Scalar.remsi v395_r0 c4_i32_189_r0
  let c0_i32_194_r0 : BitVec 32 := 0#32
  let v413_r0 : BitVec 1 := Scalar.cmpi .ne v412_r0 c0_i32_194_r0
  let v414_r0 : BitVec 1 := Scalar.andi v411_r0 v413_r0
  let v400_r0 : BitVec 32 := Scalar.divsi v395_r0 c4_i32_189_r0
  let c1_i32_195_r0 : BitVec 32 := 1#32
  let v415_r0 : BitVec 32 := Scalar.subi v400_r0 c1_i32_195_r0
  let v416_r0 : BitVec 32 := Scalar.select v414_r0 v415_r0 v400_r0
  ![v416_r0.toNat]
def k0_off30 (arg27_r0 : BitVec 32) (v341_r0 : BitVec 1) (v356_r0 : BitVec 1) (v371_r0 : BitVec 1) : Fin 2 → Nat :=
  let v348_r0 : BitVec 32 := Scalar.extui v341_r0
  let v349_r0 : BitVec 32 := Scalar.addi arg27_r0 v348_r0
  let v363_r0 : BitVec 32 := Scalar.extui v356_r0
  let v364_r0 : BitVec 32 := Scalar.addi v349_r0 v363_r0
  let v378_r0 : BitVec 32 := Scalar.extui v371_r0
  let v379_r0 : BitVec 32 := Scalar.addi v364_r0 v378_r0
  let c56_i32_187_r0 : BitVec 32 := 56#32
  let v395_r0 : BitVec 32 := Scalar.remsi v379_r0 c56_i32_187_r0
  let c128_i32_188_r0 : BitVec 32 := 128#32
  let v399_r0 : BitVec 32 := Scalar.muli v395_r0 c128_i32_188_r0
  let c0_i32_196_r0 : BitVec 32 := 0#32
  ![v399_r0.toNat, 0]
def k0_off31 (v397_r0 : BitVec 32) : Fin 2 → Nat :=
  let c128_i32_r0 : BitVec 32 := 128#32
  let v398_r0 : BitVec 32 := Scalar.muli v397_r0 c128_i32_r0
  let c0_i32_197_r0 : BitVec 32 := 0#32
  ![v398_r0.toNat, 0]

def k0_chk8 (arg27_r0 : BitVec 32) (v341_r0 : BitVec 1) (v356_r0 : BitVec 1) (v371_r0 : BitVec 1) (v386_r0 : BitVec 1) (v397_r0 : BitVec 32) : Prop :=
  (∀ (k0_h9 : k0_cond9 arg27_r0 v341_r0 v356_r0 v371_r0 v386_r0 = 1#1), ∀ a, (k0_off31 v397_r0) a + S128x4096.size a ≤ S14336x4096.size a) ∧
  (∀ (k0_h9 : k0_cond9 arg27_r0 v341_r0 v356_r0 v371_r0 v386_r0 = 1#1), ∀ (hinb : ∀ a, (k0_off31 v397_r0) a + S128x4096.size a ≤ S14336x4096.size a), (Rect.unit (s := S14336x4096) (k0_off31 v397_r0) S128x4096.size hinb).WholeWords (EltTy.packing .fp8e4m3))
theorem k0_off31_inb : ∀ (arg27_r0 : BitVec 32) (v341_r0 : BitVec 1) (v356_r0 : BitVec 1) (v371_r0 : BitVec 1) (v386_r0 : BitVec 1) (v397_r0 : BitVec 32) (k0_hw8 : k0_chk8 arg27_r0 v341_r0 v356_r0 v371_r0 v386_r0 v397_r0), ∀ (k0_h9 : k0_cond9 arg27_r0 v341_r0 v356_r0 v371_r0 v386_r0 = 1#1), ∀ a, (k0_off31 v397_r0) a + S128x4096.size a ≤ S14336x4096.size a := fun arg27_r0 v341_r0 v356_r0 v371_r0 v386_r0 v397_r0 k0_hw8 k0_h9 => k0_hw8.1 k0_h9
theorem k0_off31_wordsfp8e4m3 : ∀ (arg27_r0 : BitVec 32) (v341_r0 : BitVec 1) (v356_r0 : BitVec 1) (v371_r0 : BitVec 1) (v386_r0 : BitVec 1) (v397_r0 : BitVec 32) (k0_hw8 : k0_chk8 arg27_r0 v341_r0 v356_r0 v371_r0 v386_r0 v397_r0), ∀ (k0_h9 : k0_cond9 arg27_r0 v341_r0 v356_r0 v371_r0 v386_r0 = 1#1), (Rect.unit (s := S14336x4096) (k0_off31 v397_r0) S128x4096.size (k0_off31_inb arg27_r0 v341_r0 v356_r0 v371_r0 v386_r0 v397_r0 k0_hw8 k0_h9)).WholeWords (EltTy.packing .fp8e4m3) := fun arg27_r0 v341_r0 v356_r0 v371_r0 v386_r0 v397_r0 k0_hw8 k0_h9 => k0_hw8.2 k0_h9 (k0_off31_inb arg27_r0 v341_r0 v356_r0 v371_r0 v386_r0 v397_r0 k0_hw8 k0_h9)

def k0_chk7 (arg27_r0 : BitVec 32) (v341_r0 : BitVec 1) (v356_r0 : BitVec 1) (v371_r0 : BitVec 1) (v386_r0 : BitVec 1) : Prop :=
  (∀ (k0_h8 : k0_cond8 v386_r0 = 1#1), ∀ a, (k0_off27 arg27_r0 v341_r0 v356_r0 v371_r0) a + S1.size a ≤ S116.size a) ∧
  (∀ (k0_h9 : k0_cond9 arg27_r0 v341_r0 v356_r0 v371_r0 v386_r0 = 1#1), ∀ a, (k0_off28 arg27_r0 v341_r0 v356_r0 v371_r0) a + S1.size a ≤ S116.size a) ∧
  (∀ (k0_h9 : k0_cond9 arg27_r0 v341_r0 v356_r0 v371_r0 v386_r0 = 1#1), ∀ a, (k0_off29 arg27_r0 v341_r0 v356_r0 v371_r0) a + S1.size a ≤ S14.size a) ∧
  (∀ (k0_h9 : k0_cond9 arg27_r0 v341_r0 v356_r0 v371_r0 v386_r0 = 1#1), ∀ a, (k0_off30 arg27_r0 v341_r0 v356_r0 v371_r0) a + S128x4096.size a ≤ S7168x4096.size a) ∧
  (∀ (k0_h9 : k0_cond9 arg27_r0 v341_r0 v356_r0 v371_r0 v386_r0 = 1#1), ∀ (hinb : ∀ a, (k0_off30 arg27_r0 v341_r0 v356_r0 v371_r0) a + S128x4096.size a ≤ S7168x4096.size a), (Rect.unit (s := S7168x4096) (k0_off30 arg27_r0 v341_r0 v356_r0 v371_r0) S128x4096.size hinb).WholeWords (EltTy.packing .fp8e4m3))
theorem k0_off27_inb : ∀ (arg27_r0 : BitVec 32) (v341_r0 : BitVec 1) (v356_r0 : BitVec 1) (v371_r0 : BitVec 1) (v386_r0 : BitVec 1) (k0_hw7 : k0_chk7 arg27_r0 v341_r0 v356_r0 v371_r0 v386_r0), ∀ (k0_h8 : k0_cond8 v386_r0 = 1#1), ∀ a, (k0_off27 arg27_r0 v341_r0 v356_r0 v371_r0) a + S1.size a ≤ S116.size a := fun arg27_r0 v341_r0 v356_r0 v371_r0 v386_r0 k0_hw7 k0_h8 => k0_hw7.1 k0_h8
theorem k0_off28_inb : ∀ (arg27_r0 : BitVec 32) (v341_r0 : BitVec 1) (v356_r0 : BitVec 1) (v371_r0 : BitVec 1) (v386_r0 : BitVec 1) (k0_hw7 : k0_chk7 arg27_r0 v341_r0 v356_r0 v371_r0 v386_r0), ∀ (k0_h9 : k0_cond9 arg27_r0 v341_r0 v356_r0 v371_r0 v386_r0 = 1#1), ∀ a, (k0_off28 arg27_r0 v341_r0 v356_r0 v371_r0) a + S1.size a ≤ S116.size a := fun arg27_r0 v341_r0 v356_r0 v371_r0 v386_r0 k0_hw7 k0_h9 => k0_hw7.2.1 k0_h9
theorem k0_off29_inb : ∀ (arg27_r0 : BitVec 32) (v341_r0 : BitVec 1) (v356_r0 : BitVec 1) (v371_r0 : BitVec 1) (v386_r0 : BitVec 1) (k0_hw7 : k0_chk7 arg27_r0 v341_r0 v356_r0 v371_r0 v386_r0), ∀ (k0_h9 : k0_cond9 arg27_r0 v341_r0 v356_r0 v371_r0 v386_r0 = 1#1), ∀ a, (k0_off29 arg27_r0 v341_r0 v356_r0 v371_r0) a + S1.size a ≤ S14.size a := fun arg27_r0 v341_r0 v356_r0 v371_r0 v386_r0 k0_hw7 k0_h9 => k0_hw7.2.2.1 k0_h9
theorem k0_off30_inb : ∀ (arg27_r0 : BitVec 32) (v341_r0 : BitVec 1) (v356_r0 : BitVec 1) (v371_r0 : BitVec 1) (v386_r0 : BitVec 1) (k0_hw7 : k0_chk7 arg27_r0 v341_r0 v356_r0 v371_r0 v386_r0), ∀ (k0_h9 : k0_cond9 arg27_r0 v341_r0 v356_r0 v371_r0 v386_r0 = 1#1), ∀ a, (k0_off30 arg27_r0 v341_r0 v356_r0 v371_r0) a + S128x4096.size a ≤ S7168x4096.size a := fun arg27_r0 v341_r0 v356_r0 v371_r0 v386_r0 k0_hw7 k0_h9 => k0_hw7.2.2.2.1 k0_h9
theorem k0_off30_wordsfp8e4m3 : ∀ (arg27_r0 : BitVec 32) (v341_r0 : BitVec 1) (v356_r0 : BitVec 1) (v371_r0 : BitVec 1) (v386_r0 : BitVec 1) (k0_hw7 : k0_chk7 arg27_r0 v341_r0 v356_r0 v371_r0 v386_r0), ∀ (k0_h9 : k0_cond9 arg27_r0 v341_r0 v356_r0 v371_r0 v386_r0 = 1#1), (Rect.unit (s := S7168x4096) (k0_off30 arg27_r0 v341_r0 v356_r0 v371_r0) S128x4096.size (k0_off30_inb arg27_r0 v341_r0 v356_r0 v371_r0 v386_r0 k0_hw7 k0_h9)).WholeWords (EltTy.packing .fp8e4m3) := fun arg27_r0 v341_r0 v356_r0 v371_r0 v386_r0 k0_hw7 k0_h9 => k0_hw7.2.2.2.2 k0_h9 (k0_off30_inb arg27_r0 v341_r0 v356_r0 v371_r0 v386_r0 k0_hw7 k0_h9)

def k0_off32 (v143_0_r0 : BitVec 32) : Fin 1 → Nat :=
  let c0_i32_76_r0 : BitVec 32 := 0#32
  let v163_r0 : BitVec 32 := Scalar.addi v143_0_r0 c0_i32_76_r0
  let v299_r0 : Index := Scalar.indexCast v163_r0
  ![v299_r0.toNat]
def k0_cond10 (v143_0_r0 : BitVec 32) : BitVec 1 :=
  let c0_i32_76_r0 : BitVec 32 := 0#32
  let v163_r0 : BitVec 32 := Scalar.addi v143_0_r0 c0_i32_76_r0
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let c4_i32_77_r0 : BitVec 32 := 4#32
  let v164_r0 : BitVec 32 := Scalar.muli v162_r0 c4_i32_77_r0
  let v165_r0 : BitVec 1 := Scalar.cmpi .slt v163_r0 v164_r0
  let v166_r0 : BitVec 32 := Scalar.extui v165_r0
  let c0_i32_78_r0 : BitVec 32 := 0#32
  let v167_r0 : BitVec 1 := Scalar.cmpi .ne v166_r0 c0_i32_78_r0
  v167_r0

def k0_mult2 (v143_0_r0 : BitVec 32) : BitVec 32 :=
  let c0_i32_76_r0 : BitVec 32 := 0#32
  let v163_r0 : BitVec 32 := Scalar.addi v143_0_r0 c0_i32_76_r0
  let c128_i32_r0 : BitVec 32 := 128#32
  let v300_r0 : BitVec 32 := Scalar.muli v163_r0 c128_i32_r0
  v300_r0
def k0_cond11 (v143_0_r0 : BitVec 32) : BitVec 1 :=
  let c0_i32_76_r0 : BitVec 32 := 0#32
  let v163_r0 : BitVec 32 := Scalar.addi v143_0_r0 c0_i32_76_r0
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let c4_i32_79_r0 : BitVec 32 := 4#32
  let v168_r0 : BitVec 32 := Scalar.muli v162_r0 c4_i32_79_r0
  let v169_r0 : BitVec 1 := Scalar.cmpi .slt v163_r0 v168_r0
  let c56_i32_r0 : BitVec 32 := 56#32
  let v170_r0 : BitVec 1 := Scalar.cmpi .slt v163_r0 c56_i32_r0
  let v171_r0 : BitVec 1 := Scalar.andi v169_r0 v170_r0
  let v172_r0 : BitVec 32 := Scalar.extui v171_r0
  let c0_i32_80_r0 : BitVec 32 := 0#32
  let v173_r0 : BitVec 1 := Scalar.cmpi .ne v172_r0 c0_i32_80_r0
  v173_r0

def k0_off33 (v143_0_r0 : BitVec 32) : Fin 2 → Nat :=
  let c0_i32_76_r0 : BitVec 32 := 0#32
  let v163_r0 : BitVec 32 := Scalar.addi v143_0_r0 c0_i32_76_r0
  let c128_i32_r0 : BitVec 32 := 128#32
  let v300_r0 : BitVec 32 := Scalar.muli v163_r0 c128_i32_r0
  let v301_r0 : BitVec 32 := v300_r0
  let v302_r0 : Index := Scalar.indexCast v301_r0
  let c0_147_r0 : Index := 0#32
  ![v302_r0.toNat, 0]
def k0_off34 (v143_0_r0 : BitVec 32) : Fin 1 → Nat :=
  let c1_i32_81_r0 : BitVec 32 := 1#32
  let v174_r0 : BitVec 32 := Scalar.addi v143_0_r0 c1_i32_81_r0
  let v299_r0 : Index := Scalar.indexCast v174_r0
  ![v299_r0.toNat]
def k0_cond12 (v143_0_r0 : BitVec 32) : BitVec 1 :=
  let c1_i32_81_r0 : BitVec 32 := 1#32
  let v174_r0 : BitVec 32 := Scalar.addi v143_0_r0 c1_i32_81_r0
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let c4_i32_82_r0 : BitVec 32 := 4#32
  let v175_r0 : BitVec 32 := Scalar.muli v162_r0 c4_i32_82_r0
  let v176_r0 : BitVec 1 := Scalar.cmpi .slt v174_r0 v175_r0
  let v177_r0 : BitVec 32 := Scalar.extui v176_r0
  let c0_i32_83_r0 : BitVec 32 := 0#32
  let v178_r0 : BitVec 1 := Scalar.cmpi .ne v177_r0 c0_i32_83_r0
  v178_r0

def k0_mult3 (v143_0_r0 : BitVec 32) : BitVec 32 :=
  let c1_i32_81_r0 : BitVec 32 := 1#32
  let v174_r0 : BitVec 32 := Scalar.addi v143_0_r0 c1_i32_81_r0
  let c128_i32_r0 : BitVec 32 := 128#32
  let v300_r0 : BitVec 32 := Scalar.muli v174_r0 c128_i32_r0
  v300_r0
def k0_cond13 (v143_0_r0 : BitVec 32) : BitVec 1 :=
  let c1_i32_81_r0 : BitVec 32 := 1#32
  let v174_r0 : BitVec 32 := Scalar.addi v143_0_r0 c1_i32_81_r0
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let c4_i32_84_r0 : BitVec 32 := 4#32
  let v179_r0 : BitVec 32 := Scalar.muli v162_r0 c4_i32_84_r0
  let v180_r0 : BitVec 1 := Scalar.cmpi .slt v174_r0 v179_r0
  let c56_i32_85_r0 : BitVec 32 := 56#32
  let v181_r0 : BitVec 1 := Scalar.cmpi .slt v174_r0 c56_i32_85_r0
  let v182_r0 : BitVec 1 := Scalar.andi v180_r0 v181_r0
  let v183_r0 : BitVec 32 := Scalar.extui v182_r0
  let c0_i32_86_r0 : BitVec 32 := 0#32
  let v184_r0 : BitVec 1 := Scalar.cmpi .ne v183_r0 c0_i32_86_r0
  v184_r0

def k0_off35 (v143_0_r0 : BitVec 32) : Fin 2 → Nat :=
  let c1_i32_81_r0 : BitVec 32 := 1#32
  let v174_r0 : BitVec 32 := Scalar.addi v143_0_r0 c1_i32_81_r0
  let c128_i32_r0 : BitVec 32 := 128#32
  let v300_r0 : BitVec 32 := Scalar.muli v174_r0 c128_i32_r0
  let v301_r0 : BitVec 32 := v300_r0
  let v302_r0 : Index := Scalar.indexCast v301_r0
  let c0_147_r0 : Index := 0#32
  ![v302_r0.toNat, 0]
def k0_off36 (v143_0_r0 : BitVec 32) : Fin 1 → Nat :=
  let c2_i32_87_r0 : BitVec 32 := 2#32
  let v185_r0 : BitVec 32 := Scalar.addi v143_0_r0 c2_i32_87_r0
  let v299_r0 : Index := Scalar.indexCast v185_r0
  ![v299_r0.toNat]
def k0_cond14 (v143_0_r0 : BitVec 32) : BitVec 1 :=
  let c2_i32_87_r0 : BitVec 32 := 2#32
  let v185_r0 : BitVec 32 := Scalar.addi v143_0_r0 c2_i32_87_r0
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let c4_i32_88_r0 : BitVec 32 := 4#32
  let v186_r0 : BitVec 32 := Scalar.muli v162_r0 c4_i32_88_r0
  let v187_r0 : BitVec 1 := Scalar.cmpi .slt v185_r0 v186_r0
  let v188_r0 : BitVec 32 := Scalar.extui v187_r0
  let c0_i32_89_r0 : BitVec 32 := 0#32
  let v189_r0 : BitVec 1 := Scalar.cmpi .ne v188_r0 c0_i32_89_r0
  v189_r0

def k0_mult4 (v143_0_r0 : BitVec 32) : BitVec 32 :=
  let c2_i32_87_r0 : BitVec 32 := 2#32
  let v185_r0 : BitVec 32 := Scalar.addi v143_0_r0 c2_i32_87_r0
  let c128_i32_r0 : BitVec 32 := 128#32
  let v300_r0 : BitVec 32 := Scalar.muli v185_r0 c128_i32_r0
  v300_r0
def k0_cond15 (v143_0_r0 : BitVec 32) : BitVec 1 :=
  let c2_i32_87_r0 : BitVec 32 := 2#32
  let v185_r0 : BitVec 32 := Scalar.addi v143_0_r0 c2_i32_87_r0
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let c4_i32_90_r0 : BitVec 32 := 4#32
  let v190_r0 : BitVec 32 := Scalar.muli v162_r0 c4_i32_90_r0
  let v191_r0 : BitVec 1 := Scalar.cmpi .slt v185_r0 v190_r0
  let c56_i32_91_r0 : BitVec 32 := 56#32
  let v192_r0 : BitVec 1 := Scalar.cmpi .slt v185_r0 c56_i32_91_r0
  let v193_r0 : BitVec 1 := Scalar.andi v191_r0 v192_r0
  let v194_r0 : BitVec 32 := Scalar.extui v193_r0
  let c0_i32_92_r0 : BitVec 32 := 0#32
  let v195_r0 : BitVec 1 := Scalar.cmpi .ne v194_r0 c0_i32_92_r0
  v195_r0

def k0_off37 (v143_0_r0 : BitVec 32) : Fin 2 → Nat :=
  let c2_i32_87_r0 : BitVec 32 := 2#32
  let v185_r0 : BitVec 32 := Scalar.addi v143_0_r0 c2_i32_87_r0
  let c128_i32_r0 : BitVec 32 := 128#32
  let v300_r0 : BitVec 32 := Scalar.muli v185_r0 c128_i32_r0
  let v301_r0 : BitVec 32 := v300_r0
  let v302_r0 : Index := Scalar.indexCast v301_r0
  let c0_147_r0 : Index := 0#32
  ![v302_r0.toNat, 0]
@[reducible] def k0_t2_loop (v143_0_r0 : BitVec 32) : Scf.Loop 32 :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_130_r0 : BitVec 32 := 1#32
  ⟨c0_i32_128_r0, v275_r0, c1_i32_130_r0⟩
def k0_off38 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c0_i32_186_r0 : BitVec 32 := 0#32
  let v376_r0 : BitVec 32 := Scalar.addi v299_r0 c0_i32_186_r0
  let v378_r0 : Index := Scalar.indexCast v376_r0
  ![v378_r0.toNat]
def k0_cond16 (v143_0_r0 : BitVec 32) (k0_t2 : Fin (k0_t2_loop v143_0_r0).trips) : BitVec 1 :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c0_i32_147_r0 : BitVec 32 := 0#32
  let v300_r0 : BitVec 32 := Scalar.addi v299_r0 c0_i32_147_r0
  let v301_r0 : BitVec 1 := Scalar.cmpi .slt v300_r0 v143_0_r0
  let v302_r0 : BitVec 32 := Scalar.extui v301_r0
  let c0_i32_148_r0 : BitVec 32 := 0#32
  let v303_r0 : BitVec 1 := Scalar.cmpi .ne v302_r0 c0_i32_148_r0
  v303_r0

def k0_off39 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c0_i32_186_r0 : BitVec 32 := 0#32
  let v376_r0 : BitVec 32 := Scalar.addi v299_r0 c0_i32_186_r0
  let c56_i32_187_r0 : BitVec 32 := 56#32
  let v377_r0 : BitVec 32 := Scalar.remsi v376_r0 c56_i32_187_r0
  let c0_i32_191_r0 : BitVec 32 := 0#32
  let v383_r0 : BitVec 1 := Scalar.cmpi .sgt v377_r0 c0_i32_191_r0
  let v384_r0 : BitVec 32 := Scalar.extui v383_r0
  let c0_i32_192_r0 : BitVec 32 := 0#32
  let v385_r0 : BitVec 1 := Scalar.cmpi .slt v377_r0 c0_i32_192_r0
  let v386_r0 : BitVec 32 := Scalar.extui v385_r0
  let v387_r0 : BitVec 32 := Scalar.subi v384_r0 v386_r0
  let c4_i32_190_r0 : BitVec 32 := 4#32
  let c0_i32_193_r0 : BitVec 32 := 0#32
  let v388_r0 : BitVec 1 := Scalar.cmpi .sgt c4_i32_190_r0 c0_i32_193_r0
  let v389_r0 : BitVec 32 := Scalar.extui v388_r0
  let c0_i32_194_r0 : BitVec 32 := 0#32
  let v390_r0 : BitVec 1 := Scalar.cmpi .slt c4_i32_190_r0 c0_i32_194_r0
  let v391_r0 : BitVec 32 := Scalar.extui v390_r0
  let v392_r0 : BitVec 32 := Scalar.subi v389_r0 v391_r0
  let v393_r0 : BitVec 1 := Scalar.cmpi .ne v387_r0 v392_r0
  let v394_r0 : BitVec 32 := Scalar.remsi v377_r0 c4_i32_190_r0
  let c0_i32_195_r0 : BitVec 32 := 0#32
  let v395_r0 : BitVec 1 := Scalar.cmpi .ne v394_r0 c0_i32_195_r0
  let v396_r0 : BitVec 1 := Scalar.andi v393_r0 v395_r0
  let v382_r0 : BitVec 32 := Scalar.divsi v377_r0 c4_i32_190_r0
  let c1_i32_196_r0 : BitVec 32 := 1#32
  let v397_r0 : BitVec 32 := Scalar.subi v382_r0 c1_i32_196_r0
  let v398_r0 : BitVec 32 := Scalar.select v396_r0 v397_r0 v382_r0
  ![v398_r0.toNat]
def k0_off40 (v143_0_r0 : BitVec 32) (k0_t2 : Fin (k0_t2_loop v143_0_r0).trips) : Fin 2 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c0_i32_186_r0 : BitVec 32 := 0#32
  let v376_r0 : BitVec 32 := Scalar.addi v299_r0 c0_i32_186_r0
  let c56_i32_187_r0 : BitVec 32 := 56#32
  let v377_r0 : BitVec 32 := Scalar.remsi v376_r0 c56_i32_187_r0
  let c128_i32_189_r0 : BitVec 32 := 128#32
  let v381_r0 : BitVec 32 := Scalar.muli v377_r0 c128_i32_189_r0
  let c0_i32_197_r0 : BitVec 32 := 0#32
  ![v381_r0.toNat, 0]
def k0_off41 (v379_r0 : BitVec 32) : Fin 2 → Nat :=
  let c128_i32_188_r0 : BitVec 32 := 128#32
  let v380_r0 : BitVec 32 := Scalar.muli v379_r0 c128_i32_188_r0
  let c0_i32_198_r0 : BitVec 32 := 0#32
  ![v380_r0.toNat, 0]

def k0_chk10 (v143_0_r0 : BitVec 32) (k0_t2 : Fin (k0_t2_loop v143_0_r0).trips) (v379_r0 : BitVec 32) : Prop :=
  (∀ (k0_h16 : k0_cond16 v143_0_r0 k0_t2 = 1#1), ∀ a, (k0_off41 v379_r0) a + S128x4096.size a ≤ S14336x4096.size a) ∧
  (∀ (k0_h16 : k0_cond16 v143_0_r0 k0_t2 = 1#1), ∀ (hinb : ∀ a, (k0_off41 v379_r0) a + S128x4096.size a ≤ S14336x4096.size a), (Rect.unit (s := S14336x4096) (k0_off41 v379_r0) S128x4096.size hinb).WholeWords (EltTy.packing .fp8e4m3))
theorem k0_off41_inb : ∀ (v143_0_r0 : BitVec 32) (k0_t2 : Fin (k0_t2_loop v143_0_r0).trips) (v379_r0 : BitVec 32) (k0_hw10 : k0_chk10 v143_0_r0 k0_t2 v379_r0), ∀ (k0_h16 : k0_cond16 v143_0_r0 k0_t2 = 1#1), ∀ a, (k0_off41 v379_r0) a + S128x4096.size a ≤ S14336x4096.size a := fun v143_0_r0 k0_t2 v379_r0 k0_hw10 k0_h16 => k0_hw10.1 k0_h16
theorem k0_off41_wordsfp8e4m3 : ∀ (v143_0_r0 : BitVec 32) (k0_t2 : Fin (k0_t2_loop v143_0_r0).trips) (v379_r0 : BitVec 32) (k0_hw10 : k0_chk10 v143_0_r0 k0_t2 v379_r0), ∀ (k0_h16 : k0_cond16 v143_0_r0 k0_t2 = 1#1), (Rect.unit (s := S14336x4096) (k0_off41 v379_r0) S128x4096.size (k0_off41_inb v143_0_r0 k0_t2 v379_r0 k0_hw10 k0_h16)).WholeWords (EltTy.packing .fp8e4m3) := fun v143_0_r0 k0_t2 v379_r0 k0_hw10 k0_h16 => k0_hw10.2 k0_h16 (k0_off41_inb v143_0_r0 k0_t2 v379_r0 k0_hw10 k0_h16)

def k0_off42 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c1_i32_186_r0 : BitVec 32 := 1#32
  let v376_r0 : BitVec 32 := Scalar.addi v299_r0 c1_i32_186_r0
  let v378_r0 : Index := Scalar.indexCast v376_r0
  ![v378_r0.toNat]
def k0_cond17 (v143_0_r0 : BitVec 32) (k0_t2 : Fin (k0_t2_loop v143_0_r0).trips) : BitVec 1 :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c1_i32_149_r0 : BitVec 32 := 1#32
  let v304_r0 : BitVec 32 := Scalar.addi v299_r0 c1_i32_149_r0
  let v305_r0 : BitVec 1 := Scalar.cmpi .slt v304_r0 v143_0_r0
  let v306_r0 : BitVec 32 := Scalar.extui v305_r0
  let c0_i32_150_r0 : BitVec 32 := 0#32
  let v307_r0 : BitVec 1 := Scalar.cmpi .ne v306_r0 c0_i32_150_r0
  v307_r0

def k0_off43 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c1_i32_186_r0 : BitVec 32 := 1#32
  let v376_r0 : BitVec 32 := Scalar.addi v299_r0 c1_i32_186_r0
  let c56_i32_187_r0 : BitVec 32 := 56#32
  let v377_r0 : BitVec 32 := Scalar.remsi v376_r0 c56_i32_187_r0
  let c0_i32_191_r0 : BitVec 32 := 0#32
  let v383_r0 : BitVec 1 := Scalar.cmpi .sgt v377_r0 c0_i32_191_r0
  let v384_r0 : BitVec 32 := Scalar.extui v383_r0
  let c0_i32_192_r0 : BitVec 32 := 0#32
  let v385_r0 : BitVec 1 := Scalar.cmpi .slt v377_r0 c0_i32_192_r0
  let v386_r0 : BitVec 32 := Scalar.extui v385_r0
  let v387_r0 : BitVec 32 := Scalar.subi v384_r0 v386_r0
  let c4_i32_190_r0 : BitVec 32 := 4#32
  let c0_i32_193_r0 : BitVec 32 := 0#32
  let v388_r0 : BitVec 1 := Scalar.cmpi .sgt c4_i32_190_r0 c0_i32_193_r0
  let v389_r0 : BitVec 32 := Scalar.extui v388_r0
  let c0_i32_194_r0 : BitVec 32 := 0#32
  let v390_r0 : BitVec 1 := Scalar.cmpi .slt c4_i32_190_r0 c0_i32_194_r0
  let v391_r0 : BitVec 32 := Scalar.extui v390_r0
  let v392_r0 : BitVec 32 := Scalar.subi v389_r0 v391_r0
  let v393_r0 : BitVec 1 := Scalar.cmpi .ne v387_r0 v392_r0
  let v394_r0 : BitVec 32 := Scalar.remsi v377_r0 c4_i32_190_r0
  let c0_i32_195_r0 : BitVec 32 := 0#32
  let v395_r0 : BitVec 1 := Scalar.cmpi .ne v394_r0 c0_i32_195_r0
  let v396_r0 : BitVec 1 := Scalar.andi v393_r0 v395_r0
  let v382_r0 : BitVec 32 := Scalar.divsi v377_r0 c4_i32_190_r0
  let c1_i32_196_r0 : BitVec 32 := 1#32
  let v397_r0 : BitVec 32 := Scalar.subi v382_r0 c1_i32_196_r0
  let v398_r0 : BitVec 32 := Scalar.select v396_r0 v397_r0 v382_r0
  ![v398_r0.toNat]
def k0_off44 (v143_0_r0 : BitVec 32) (k0_t2 : Fin (k0_t2_loop v143_0_r0).trips) : Fin 2 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c1_i32_186_r0 : BitVec 32 := 1#32
  let v376_r0 : BitVec 32 := Scalar.addi v299_r0 c1_i32_186_r0
  let c56_i32_187_r0 : BitVec 32 := 56#32
  let v377_r0 : BitVec 32 := Scalar.remsi v376_r0 c56_i32_187_r0
  let c128_i32_189_r0 : BitVec 32 := 128#32
  let v381_r0 : BitVec 32 := Scalar.muli v377_r0 c128_i32_189_r0
  let c0_i32_197_r0 : BitVec 32 := 0#32
  ![v381_r0.toNat, 0]
def k0_off45 (v379_r0 : BitVec 32) : Fin 2 → Nat :=
  let c128_i32_188_r0 : BitVec 32 := 128#32
  let v380_r0 : BitVec 32 := Scalar.muli v379_r0 c128_i32_188_r0
  let c0_i32_198_r0 : BitVec 32 := 0#32
  ![v380_r0.toNat, 0]

def k0_chk11 (v143_0_r0 : BitVec 32) (k0_t2 : Fin (k0_t2_loop v143_0_r0).trips) (v379_r0 : BitVec 32) : Prop :=
  (∀ (k0_h17 : k0_cond17 v143_0_r0 k0_t2 = 1#1), ∀ a, (k0_off45 v379_r0) a + S128x4096.size a ≤ S14336x4096.size a) ∧
  (∀ (k0_h17 : k0_cond17 v143_0_r0 k0_t2 = 1#1), ∀ (hinb : ∀ a, (k0_off45 v379_r0) a + S128x4096.size a ≤ S14336x4096.size a), (Rect.unit (s := S14336x4096) (k0_off45 v379_r0) S128x4096.size hinb).WholeWords (EltTy.packing .fp8e4m3))
theorem k0_off45_inb : ∀ (v143_0_r0 : BitVec 32) (k0_t2 : Fin (k0_t2_loop v143_0_r0).trips) (v379_r0 : BitVec 32) (k0_hw11 : k0_chk11 v143_0_r0 k0_t2 v379_r0), ∀ (k0_h17 : k0_cond17 v143_0_r0 k0_t2 = 1#1), ∀ a, (k0_off45 v379_r0) a + S128x4096.size a ≤ S14336x4096.size a := fun v143_0_r0 k0_t2 v379_r0 k0_hw11 k0_h17 => k0_hw11.1 k0_h17
theorem k0_off45_wordsfp8e4m3 : ∀ (v143_0_r0 : BitVec 32) (k0_t2 : Fin (k0_t2_loop v143_0_r0).trips) (v379_r0 : BitVec 32) (k0_hw11 : k0_chk11 v143_0_r0 k0_t2 v379_r0), ∀ (k0_h17 : k0_cond17 v143_0_r0 k0_t2 = 1#1), (Rect.unit (s := S14336x4096) (k0_off45 v379_r0) S128x4096.size (k0_off45_inb v143_0_r0 k0_t2 v379_r0 k0_hw11 k0_h17)).WholeWords (EltTy.packing .fp8e4m3) := fun v143_0_r0 k0_t2 v379_r0 k0_hw11 k0_h17 => k0_hw11.2 k0_h17 (k0_off45_inb v143_0_r0 k0_t2 v379_r0 k0_hw11 k0_h17)

def k0_off46 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c2_i32_186_r0 : BitVec 32 := 2#32
  let v376_r0 : BitVec 32 := Scalar.addi v299_r0 c2_i32_186_r0
  let v378_r0 : Index := Scalar.indexCast v376_r0
  ![v378_r0.toNat]
def k0_cond18 (v143_0_r0 : BitVec 32) (k0_t2 : Fin (k0_t2_loop v143_0_r0).trips) : BitVec 1 :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c2_i32_151_r0 : BitVec 32 := 2#32
  let v308_r0 : BitVec 32 := Scalar.addi v299_r0 c2_i32_151_r0
  let v309_r0 : BitVec 1 := Scalar.cmpi .slt v308_r0 v143_0_r0
  let v310_r0 : BitVec 32 := Scalar.extui v309_r0
  let c0_i32_152_r0 : BitVec 32 := 0#32
  let v311_r0 : BitVec 1 := Scalar.cmpi .ne v310_r0 c0_i32_152_r0
  v311_r0

def k0_off47 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c2_i32_186_r0 : BitVec 32 := 2#32
  let v376_r0 : BitVec 32 := Scalar.addi v299_r0 c2_i32_186_r0
  let c56_i32_187_r0 : BitVec 32 := 56#32
  let v377_r0 : BitVec 32 := Scalar.remsi v376_r0 c56_i32_187_r0
  let c0_i32_191_r0 : BitVec 32 := 0#32
  let v383_r0 : BitVec 1 := Scalar.cmpi .sgt v377_r0 c0_i32_191_r0
  let v384_r0 : BitVec 32 := Scalar.extui v383_r0
  let c0_i32_192_r0 : BitVec 32 := 0#32
  let v385_r0 : BitVec 1 := Scalar.cmpi .slt v377_r0 c0_i32_192_r0
  let v386_r0 : BitVec 32 := Scalar.extui v385_r0
  let v387_r0 : BitVec 32 := Scalar.subi v384_r0 v386_r0
  let c4_i32_190_r0 : BitVec 32 := 4#32
  let c0_i32_193_r0 : BitVec 32 := 0#32
  let v388_r0 : BitVec 1 := Scalar.cmpi .sgt c4_i32_190_r0 c0_i32_193_r0
  let v389_r0 : BitVec 32 := Scalar.extui v388_r0
  let c0_i32_194_r0 : BitVec 32 := 0#32
  let v390_r0 : BitVec 1 := Scalar.cmpi .slt c4_i32_190_r0 c0_i32_194_r0
  let v391_r0 : BitVec 32 := Scalar.extui v390_r0
  let v392_r0 : BitVec 32 := Scalar.subi v389_r0 v391_r0
  let v393_r0 : BitVec 1 := Scalar.cmpi .ne v387_r0 v392_r0
  let v394_r0 : BitVec 32 := Scalar.remsi v377_r0 c4_i32_190_r0
  let c0_i32_195_r0 : BitVec 32 := 0#32
  let v395_r0 : BitVec 1 := Scalar.cmpi .ne v394_r0 c0_i32_195_r0
  let v396_r0 : BitVec 1 := Scalar.andi v393_r0 v395_r0
  let v382_r0 : BitVec 32 := Scalar.divsi v377_r0 c4_i32_190_r0
  let c1_i32_196_r0 : BitVec 32 := 1#32
  let v397_r0 : BitVec 32 := Scalar.subi v382_r0 c1_i32_196_r0
  let v398_r0 : BitVec 32 := Scalar.select v396_r0 v397_r0 v382_r0
  ![v398_r0.toNat]
def k0_off48 (v143_0_r0 : BitVec 32) (k0_t2 : Fin (k0_t2_loop v143_0_r0).trips) : Fin 2 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c2_i32_186_r0 : BitVec 32 := 2#32
  let v376_r0 : BitVec 32 := Scalar.addi v299_r0 c2_i32_186_r0
  let c56_i32_187_r0 : BitVec 32 := 56#32
  let v377_r0 : BitVec 32 := Scalar.remsi v376_r0 c56_i32_187_r0
  let c128_i32_189_r0 : BitVec 32 := 128#32
  let v381_r0 : BitVec 32 := Scalar.muli v377_r0 c128_i32_189_r0
  let c0_i32_197_r0 : BitVec 32 := 0#32
  ![v381_r0.toNat, 0]
def k0_off49 (v379_r0 : BitVec 32) : Fin 2 → Nat :=
  let c128_i32_188_r0 : BitVec 32 := 128#32
  let v380_r0 : BitVec 32 := Scalar.muli v379_r0 c128_i32_188_r0
  let c0_i32_198_r0 : BitVec 32 := 0#32
  ![v380_r0.toNat, 0]

def k0_chk12 (v143_0_r0 : BitVec 32) (k0_t2 : Fin (k0_t2_loop v143_0_r0).trips) (v379_r0 : BitVec 32) : Prop :=
  (∀ (k0_h18 : k0_cond18 v143_0_r0 k0_t2 = 1#1), ∀ a, (k0_off49 v379_r0) a + S128x4096.size a ≤ S14336x4096.size a) ∧
  (∀ (k0_h18 : k0_cond18 v143_0_r0 k0_t2 = 1#1), ∀ (hinb : ∀ a, (k0_off49 v379_r0) a + S128x4096.size a ≤ S14336x4096.size a), (Rect.unit (s := S14336x4096) (k0_off49 v379_r0) S128x4096.size hinb).WholeWords (EltTy.packing .fp8e4m3))
theorem k0_off49_inb : ∀ (v143_0_r0 : BitVec 32) (k0_t2 : Fin (k0_t2_loop v143_0_r0).trips) (v379_r0 : BitVec 32) (k0_hw12 : k0_chk12 v143_0_r0 k0_t2 v379_r0), ∀ (k0_h18 : k0_cond18 v143_0_r0 k0_t2 = 1#1), ∀ a, (k0_off49 v379_r0) a + S128x4096.size a ≤ S14336x4096.size a := fun v143_0_r0 k0_t2 v379_r0 k0_hw12 k0_h18 => k0_hw12.1 k0_h18
theorem k0_off49_wordsfp8e4m3 : ∀ (v143_0_r0 : BitVec 32) (k0_t2 : Fin (k0_t2_loop v143_0_r0).trips) (v379_r0 : BitVec 32) (k0_hw12 : k0_chk12 v143_0_r0 k0_t2 v379_r0), ∀ (k0_h18 : k0_cond18 v143_0_r0 k0_t2 = 1#1), (Rect.unit (s := S14336x4096) (k0_off49 v379_r0) S128x4096.size (k0_off49_inb v143_0_r0 k0_t2 v379_r0 k0_hw12 k0_h18)).WholeWords (EltTy.packing .fp8e4m3) := fun v143_0_r0 k0_t2 v379_r0 k0_hw12 k0_h18 => k0_hw12.2 k0_h18 (k0_off49_inb v143_0_r0 k0_t2 v379_r0 k0_hw12 k0_h18)

def k0_off50 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c3_i32_186_r0 : BitVec 32 := 3#32
  let v376_r0 : BitVec 32 := Scalar.addi v299_r0 c3_i32_186_r0
  let v378_r0 : Index := Scalar.indexCast v376_r0
  ![v378_r0.toNat]
def k0_cond19 (v143_0_r0 : BitVec 32) (k0_t2 : Fin (k0_t2_loop v143_0_r0).trips) : BitVec 1 :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c3_i32_153_r0 : BitVec 32 := 3#32
  let v312_r0 : BitVec 32 := Scalar.addi v299_r0 c3_i32_153_r0
  let v313_r0 : BitVec 1 := Scalar.cmpi .slt v312_r0 v143_0_r0
  let v314_r0 : BitVec 32 := Scalar.extui v313_r0
  let c0_i32_154_r0 : BitVec 32 := 0#32
  let v315_r0 : BitVec 1 := Scalar.cmpi .ne v314_r0 c0_i32_154_r0
  v315_r0

def k0_off51 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c3_i32_186_r0 : BitVec 32 := 3#32
  let v376_r0 : BitVec 32 := Scalar.addi v299_r0 c3_i32_186_r0
  let c56_i32_187_r0 : BitVec 32 := 56#32
  let v377_r0 : BitVec 32 := Scalar.remsi v376_r0 c56_i32_187_r0
  let c0_i32_191_r0 : BitVec 32 := 0#32
  let v383_r0 : BitVec 1 := Scalar.cmpi .sgt v377_r0 c0_i32_191_r0
  let v384_r0 : BitVec 32 := Scalar.extui v383_r0
  let c0_i32_192_r0 : BitVec 32 := 0#32
  let v385_r0 : BitVec 1 := Scalar.cmpi .slt v377_r0 c0_i32_192_r0
  let v386_r0 : BitVec 32 := Scalar.extui v385_r0
  let v387_r0 : BitVec 32 := Scalar.subi v384_r0 v386_r0
  let c4_i32_190_r0 : BitVec 32 := 4#32
  let c0_i32_193_r0 : BitVec 32 := 0#32
  let v388_r0 : BitVec 1 := Scalar.cmpi .sgt c4_i32_190_r0 c0_i32_193_r0
  let v389_r0 : BitVec 32 := Scalar.extui v388_r0
  let c0_i32_194_r0 : BitVec 32 := 0#32
  let v390_r0 : BitVec 1 := Scalar.cmpi .slt c4_i32_190_r0 c0_i32_194_r0
  let v391_r0 : BitVec 32 := Scalar.extui v390_r0
  let v392_r0 : BitVec 32 := Scalar.subi v389_r0 v391_r0
  let v393_r0 : BitVec 1 := Scalar.cmpi .ne v387_r0 v392_r0
  let v394_r0 : BitVec 32 := Scalar.remsi v377_r0 c4_i32_190_r0
  let c0_i32_195_r0 : BitVec 32 := 0#32
  let v395_r0 : BitVec 1 := Scalar.cmpi .ne v394_r0 c0_i32_195_r0
  let v396_r0 : BitVec 1 := Scalar.andi v393_r0 v395_r0
  let v382_r0 : BitVec 32 := Scalar.divsi v377_r0 c4_i32_190_r0
  let c1_i32_196_r0 : BitVec 32 := 1#32
  let v397_r0 : BitVec 32 := Scalar.subi v382_r0 c1_i32_196_r0
  let v398_r0 : BitVec 32 := Scalar.select v396_r0 v397_r0 v382_r0
  ![v398_r0.toNat]
def k0_off52 (v143_0_r0 : BitVec 32) (k0_t2 : Fin (k0_t2_loop v143_0_r0).trips) : Fin 2 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c3_i32_186_r0 : BitVec 32 := 3#32
  let v376_r0 : BitVec 32 := Scalar.addi v299_r0 c3_i32_186_r0
  let c56_i32_187_r0 : BitVec 32 := 56#32
  let v377_r0 : BitVec 32 := Scalar.remsi v376_r0 c56_i32_187_r0
  let c128_i32_189_r0 : BitVec 32 := 128#32
  let v381_r0 : BitVec 32 := Scalar.muli v377_r0 c128_i32_189_r0
  let c0_i32_197_r0 : BitVec 32 := 0#32
  ![v381_r0.toNat, 0]
def k0_off53 (v379_r0 : BitVec 32) : Fin 2 → Nat :=
  let c128_i32_188_r0 : BitVec 32 := 128#32
  let v380_r0 : BitVec 32 := Scalar.muli v379_r0 c128_i32_188_r0
  let c0_i32_198_r0 : BitVec 32 := 0#32
  ![v380_r0.toNat, 0]

def k0_chk13 (v143_0_r0 : BitVec 32) (k0_t2 : Fin (k0_t2_loop v143_0_r0).trips) (v379_r0 : BitVec 32) : Prop :=
  (∀ (k0_h19 : k0_cond19 v143_0_r0 k0_t2 = 1#1), ∀ a, (k0_off53 v379_r0) a + S128x4096.size a ≤ S14336x4096.size a) ∧
  (∀ (k0_h19 : k0_cond19 v143_0_r0 k0_t2 = 1#1), ∀ (hinb : ∀ a, (k0_off53 v379_r0) a + S128x4096.size a ≤ S14336x4096.size a), (Rect.unit (s := S14336x4096) (k0_off53 v379_r0) S128x4096.size hinb).WholeWords (EltTy.packing .fp8e4m3))
theorem k0_off53_inb : ∀ (v143_0_r0 : BitVec 32) (k0_t2 : Fin (k0_t2_loop v143_0_r0).trips) (v379_r0 : BitVec 32) (k0_hw13 : k0_chk13 v143_0_r0 k0_t2 v379_r0), ∀ (k0_h19 : k0_cond19 v143_0_r0 k0_t2 = 1#1), ∀ a, (k0_off53 v379_r0) a + S128x4096.size a ≤ S14336x4096.size a := fun v143_0_r0 k0_t2 v379_r0 k0_hw13 k0_h19 => k0_hw13.1 k0_h19
theorem k0_off53_wordsfp8e4m3 : ∀ (v143_0_r0 : BitVec 32) (k0_t2 : Fin (k0_t2_loop v143_0_r0).trips) (v379_r0 : BitVec 32) (k0_hw13 : k0_chk13 v143_0_r0 k0_t2 v379_r0), ∀ (k0_h19 : k0_cond19 v143_0_r0 k0_t2 = 1#1), (Rect.unit (s := S14336x4096) (k0_off53 v379_r0) S128x4096.size (k0_off53_inb v143_0_r0 k0_t2 v379_r0 k0_hw13 k0_h19)).WholeWords (EltTy.packing .fp8e4m3) := fun v143_0_r0 k0_t2 v379_r0 k0_hw13 k0_h19 => k0_hw13.2 k0_h19 (k0_off53_inb v143_0_r0 k0_t2 v379_r0 k0_hw13 k0_h19)

def k0_off54 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c0_i32_155_r0 : BitVec 32 := 0#32
  let v316_r0 : BitVec 32 := Scalar.addi v299_r0 c0_i32_155_r0
  let v317_r0 : Index := Scalar.indexCast v316_r0
  ![v317_r0.toNat]
def k0_mult5 (v318_r0 : BitVec 32) : BitVec 32 :=
  let c128_i32_r0 : BitVec 32 := 128#32
  let v319_r0 : BitVec 32 := Scalar.muli v318_r0 c128_i32_r0
  v319_r0

def k0_off55 (v318_r0 : BitVec 32) : Fin 2 → Nat :=
  let c0_156_r0 : Index := 0#32
  let c128_i32_r0 : BitVec 32 := 128#32
  let v319_r0 : BitVec 32 := Scalar.muli v318_r0 c128_i32_r0
  let v320_r0 : BitVec 32 := v319_r0
  let v321_r0 : Index := Scalar.indexCast v320_r0
  ![0, v321_r0.toNat]

def k0_chk14 (v318_r0 : BitVec 32) : Prop :=
  (128 ∣ (k0_mult5 v318_r0).toNat) ∧
  (∀ a, (k0_off55 v318_r0) a + S32x128.size a ≤ S32x14464.size a)
theorem k0_mult5_dvd : ∀ (v318_r0 : BitVec 32) (k0_hw14 : k0_chk14 v318_r0), 128 ∣ (k0_mult5 v318_r0).toNat := fun v318_r0 k0_hw14 => k0_hw14.1
theorem k0_off55_inb : ∀ (v318_r0 : BitVec 32) (k0_hw14 : k0_chk14 v318_r0), ∀ a, (k0_off55 v318_r0) a + S32x128.size a ≤ S32x14464.size a := fun v318_r0 k0_hw14 => k0_hw14.2

def k0_off56 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c1_i32_157_r0 : BitVec 32 := 1#32
  let v323_r0 : BitVec 32 := Scalar.addi v299_r0 c1_i32_157_r0
  let v324_r0 : Index := Scalar.indexCast v323_r0
  ![v324_r0.toNat]
def k0_mult6 (v325_r0 : BitVec 32) : BitVec 32 :=
  let c128_i32_158_r0 : BitVec 32 := 128#32
  let v326_r0 : BitVec 32 := Scalar.muli v325_r0 c128_i32_158_r0
  v326_r0

def k0_off57 (v325_r0 : BitVec 32) : Fin 2 → Nat :=
  let c0_159_r0 : Index := 0#32
  let c128_i32_158_r0 : BitVec 32 := 128#32
  let v326_r0 : BitVec 32 := Scalar.muli v325_r0 c128_i32_158_r0
  let v327_r0 : BitVec 32 := v326_r0
  let v328_r0 : Index := Scalar.indexCast v327_r0
  ![0, v328_r0.toNat]

def k0_chk15 (v325_r0 : BitVec 32) : Prop :=
  (128 ∣ (k0_mult6 v325_r0).toNat) ∧
  (∀ a, (k0_off57 v325_r0) a + S32x128.size a ≤ S32x14464.size a)
theorem k0_mult6_dvd : ∀ (v325_r0 : BitVec 32) (k0_hw15 : k0_chk15 v325_r0), 128 ∣ (k0_mult6 v325_r0).toNat := fun v325_r0 k0_hw15 => k0_hw15.1
theorem k0_off57_inb : ∀ (v325_r0 : BitVec 32) (k0_hw15 : k0_chk15 v325_r0), ∀ a, (k0_off57 v325_r0) a + S32x128.size a ≤ S32x14464.size a := fun v325_r0 k0_hw15 => k0_hw15.2

def k0_off58 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c2_i32_160_r0 : BitVec 32 := 2#32
  let v330_r0 : BitVec 32 := Scalar.addi v299_r0 c2_i32_160_r0
  let v331_r0 : Index := Scalar.indexCast v330_r0
  ![v331_r0.toNat]
def k0_mult7 (v332_r0 : BitVec 32) : BitVec 32 :=
  let c128_i32_161_r0 : BitVec 32 := 128#32
  let v333_r0 : BitVec 32 := Scalar.muli v332_r0 c128_i32_161_r0
  v333_r0

def k0_off59 (v332_r0 : BitVec 32) : Fin 2 → Nat :=
  let c0_162_r0 : Index := 0#32
  let c128_i32_161_r0 : BitVec 32 := 128#32
  let v333_r0 : BitVec 32 := Scalar.muli v332_r0 c128_i32_161_r0
  let v334_r0 : BitVec 32 := v333_r0
  let v335_r0 : Index := Scalar.indexCast v334_r0
  ![0, v335_r0.toNat]

def k0_chk16 (v332_r0 : BitVec 32) : Prop :=
  (128 ∣ (k0_mult7 v332_r0).toNat) ∧
  (∀ a, (k0_off59 v332_r0) a + S32x128.size a ≤ S32x14464.size a)
theorem k0_mult7_dvd : ∀ (v332_r0 : BitVec 32) (k0_hw16 : k0_chk16 v332_r0), 128 ∣ (k0_mult7 v332_r0).toNat := fun v332_r0 k0_hw16 => k0_hw16.1
theorem k0_off59_inb : ∀ (v332_r0 : BitVec 32) (k0_hw16 : k0_chk16 v332_r0), ∀ a, (k0_off59 v332_r0) a + S32x128.size a ≤ S32x14464.size a := fun v332_r0 k0_hw16 => k0_hw16.2

def k0_off60 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c3_i32_163_r0 : BitVec 32 := 3#32
  let v337_r0 : BitVec 32 := Scalar.addi v299_r0 c3_i32_163_r0
  let v338_r0 : Index := Scalar.indexCast v337_r0
  ![v338_r0.toNat]
def k0_mult8 (v339_r0 : BitVec 32) : BitVec 32 :=
  let c128_i32_164_r0 : BitVec 32 := 128#32
  let v340_r0 : BitVec 32 := Scalar.muli v339_r0 c128_i32_164_r0
  v340_r0

def k0_off61 (v339_r0 : BitVec 32) : Fin 2 → Nat :=
  let c0_165_r0 : Index := 0#32
  let c128_i32_164_r0 : BitVec 32 := 128#32
  let v340_r0 : BitVec 32 := Scalar.muli v339_r0 c128_i32_164_r0
  let v341_r0 : BitVec 32 := v340_r0
  let v342_r0 : Index := Scalar.indexCast v341_r0
  ![0, v342_r0.toNat]

def k0_chk17 (v339_r0 : BitVec 32) : Prop :=
  (128 ∣ (k0_mult8 v339_r0).toNat) ∧
  (∀ a, (k0_off61 v339_r0) a + S32x128.size a ≤ S32x14464.size a)
theorem k0_mult8_dvd : ∀ (v339_r0 : BitVec 32) (k0_hw17 : k0_chk17 v339_r0), 128 ∣ (k0_mult8 v339_r0).toNat := fun v339_r0 k0_hw17 => k0_hw17.1
theorem k0_off61_inb : ∀ (v339_r0 : BitVec 32) (k0_hw17 : k0_chk17 v339_r0), ∀ a, (k0_off61 v339_r0) a + S32x128.size a ≤ S32x14464.size a := fun v339_r0 k0_hw17 => k0_hw17.2

def k0_mult9 (v143_0_r0 : BitVec 32) (k0_t2 : Fin (k0_t2_loop v143_0_r0).trips) : BitVec 32 :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_166_r0 : BitVec 32 := 56#32
  let v345_r0 : BitVec 32 := Scalar.remsi v299_r0 c56_i32_166_r0
  let c128_i32_167_r0 : BitVec 32 := 128#32
  let v346_r0 : BitVec 32 := Scalar.muli v345_r0 c128_i32_167_r0
  v346_r0
def k0_off62 (v143_0_r0 : BitVec 32) (k0_t2 : Fin (k0_t2_loop v143_0_r0).trips) : Fin 2 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_166_r0 : BitVec 32 := 56#32
  let v345_r0 : BitVec 32 := Scalar.remsi v299_r0 c56_i32_166_r0
  let c128_i32_167_r0 : BitVec 32 := 128#32
  let v346_r0 : BitVec 32 := Scalar.muli v345_r0 c128_i32_167_r0
  let v347_r0 : BitVec 32 := v346_r0
  let v349_r0 : Index := Scalar.indexCast v347_r0
  let c0_170_r0 : Index := 0#32
  ![v349_r0.toNat, 0]
def k0_off63 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c0_i32_187_r0 : BitVec 32 := 0#32
  let v377_r0 : BitVec 32 := Scalar.addi v376_r0 c0_i32_187_r0
  let v379_r0 : Index := Scalar.indexCast v377_r0
  ![v379_r0.toNat]
def k0_cond20 (v143_0_r0 : BitVec 32) (k0_t2 : Fin (k0_t2_loop v143_0_r0).trips) : BitVec 1 :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_174_r0 : BitVec 32 := 56#32
  let v356_r0 : BitVec 32 := Scalar.addi v299_r0 c56_i32_174_r0
  let c0_i32_175_r0 : BitVec 32 := 0#32
  let v357_r0 : BitVec 32 := Scalar.addi v356_r0 c0_i32_175_r0
  let v358_r0 : BitVec 1 := Scalar.cmpi .slt v357_r0 v143_0_r0
  let v359_r0 : BitVec 32 := Scalar.extui v358_r0
  let c0_i32_176_r0 : BitVec 32 := 0#32
  let v360_r0 : BitVec 1 := Scalar.cmpi .ne v359_r0 c0_i32_176_r0
  v360_r0

def k0_off64 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c0_i32_187_r0 : BitVec 32 := 0#32
  let v377_r0 : BitVec 32 := Scalar.addi v376_r0 c0_i32_187_r0
  let c56_i32_188_r0 : BitVec 32 := 56#32
  let v378_r0 : BitVec 32 := Scalar.remsi v377_r0 c56_i32_188_r0
  let c0_i32_192_r0 : BitVec 32 := 0#32
  let v384_r0 : BitVec 1 := Scalar.cmpi .sgt v378_r0 c0_i32_192_r0
  let v385_r0 : BitVec 32 := Scalar.extui v384_r0
  let c0_i32_193_r0 : BitVec 32 := 0#32
  let v386_r0 : BitVec 1 := Scalar.cmpi .slt v378_r0 c0_i32_193_r0
  let v387_r0 : BitVec 32 := Scalar.extui v386_r0
  let v388_r0 : BitVec 32 := Scalar.subi v385_r0 v387_r0
  let c4_i32_191_r0 : BitVec 32 := 4#32
  let c0_i32_194_r0 : BitVec 32 := 0#32
  let v389_r0 : BitVec 1 := Scalar.cmpi .sgt c4_i32_191_r0 c0_i32_194_r0
  let v390_r0 : BitVec 32 := Scalar.extui v389_r0
  let c0_i32_195_r0 : BitVec 32 := 0#32
  let v391_r0 : BitVec 1 := Scalar.cmpi .slt c4_i32_191_r0 c0_i32_195_r0
  let v392_r0 : BitVec 32 := Scalar.extui v391_r0
  let v393_r0 : BitVec 32 := Scalar.subi v390_r0 v392_r0
  let v394_r0 : BitVec 1 := Scalar.cmpi .ne v388_r0 v393_r0
  let v395_r0 : BitVec 32 := Scalar.remsi v378_r0 c4_i32_191_r0
  let c0_i32_196_r0 : BitVec 32 := 0#32
  let v396_r0 : BitVec 1 := Scalar.cmpi .ne v395_r0 c0_i32_196_r0
  let v397_r0 : BitVec 1 := Scalar.andi v394_r0 v396_r0
  let v383_r0 : BitVec 32 := Scalar.divsi v378_r0 c4_i32_191_r0
  let c1_i32_197_r0 : BitVec 32 := 1#32
  let v398_r0 : BitVec 32 := Scalar.subi v383_r0 c1_i32_197_r0
  let v399_r0 : BitVec 32 := Scalar.select v397_r0 v398_r0 v383_r0
  ![v399_r0.toNat]
def k0_off65 (v143_0_r0 : BitVec 32) (k0_t2 : Fin (k0_t2_loop v143_0_r0).trips) : Fin 2 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c0_i32_187_r0 : BitVec 32 := 0#32
  let v377_r0 : BitVec 32 := Scalar.addi v376_r0 c0_i32_187_r0
  let c56_i32_188_r0 : BitVec 32 := 56#32
  let v378_r0 : BitVec 32 := Scalar.remsi v377_r0 c56_i32_188_r0
  let c128_i32_190_r0 : BitVec 32 := 128#32
  let v382_r0 : BitVec 32 := Scalar.muli v378_r0 c128_i32_190_r0
  let c0_i32_198_r0 : BitVec 32 := 0#32
  ![v382_r0.toNat, 0]
def k0_off66 (v380_r0 : BitVec 32) : Fin 2 → Nat :=
  let c128_i32_189_r0 : BitVec 32 := 128#32
  let v381_r0 : BitVec 32 := Scalar.muli v380_r0 c128_i32_189_r0
  let c0_i32_199_r0 : BitVec 32 := 0#32
  ![v381_r0.toNat, 0]

def k0_chk18 (v143_0_r0 : BitVec 32) (k0_t2 : Fin (k0_t2_loop v143_0_r0).trips) (v380_r0 : BitVec 32) : Prop :=
  (∀ (k0_h20 : k0_cond20 v143_0_r0 k0_t2 = 1#1), ∀ a, (k0_off66 v380_r0) a + S128x4096.size a ≤ S14336x4096.size a) ∧
  (∀ (k0_h20 : k0_cond20 v143_0_r0 k0_t2 = 1#1), ∀ (hinb : ∀ a, (k0_off66 v380_r0) a + S128x4096.size a ≤ S14336x4096.size a), (Rect.unit (s := S14336x4096) (k0_off66 v380_r0) S128x4096.size hinb).WholeWords (EltTy.packing .fp8e4m3))
theorem k0_off66_inb : ∀ (v143_0_r0 : BitVec 32) (k0_t2 : Fin (k0_t2_loop v143_0_r0).trips) (v380_r0 : BitVec 32) (k0_hw18 : k0_chk18 v143_0_r0 k0_t2 v380_r0), ∀ (k0_h20 : k0_cond20 v143_0_r0 k0_t2 = 1#1), ∀ a, (k0_off66 v380_r0) a + S128x4096.size a ≤ S14336x4096.size a := fun v143_0_r0 k0_t2 v380_r0 k0_hw18 k0_h20 => k0_hw18.1 k0_h20
theorem k0_off66_wordsfp8e4m3 : ∀ (v143_0_r0 : BitVec 32) (k0_t2 : Fin (k0_t2_loop v143_0_r0).trips) (v380_r0 : BitVec 32) (k0_hw18 : k0_chk18 v143_0_r0 k0_t2 v380_r0), ∀ (k0_h20 : k0_cond20 v143_0_r0 k0_t2 = 1#1), (Rect.unit (s := S14336x4096) (k0_off66 v380_r0) S128x4096.size (k0_off66_inb v143_0_r0 k0_t2 v380_r0 k0_hw18 k0_h20)).WholeWords (EltTy.packing .fp8e4m3) := fun v143_0_r0 k0_t2 v380_r0 k0_hw18 k0_h20 => k0_hw18.2 k0_h20 (k0_off66_inb v143_0_r0 k0_t2 v380_r0 k0_hw18 k0_h20)

def k0_off67 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c1_i32_187_r0 : BitVec 32 := 1#32
  let v377_r0 : BitVec 32 := Scalar.addi v376_r0 c1_i32_187_r0
  let v379_r0 : Index := Scalar.indexCast v377_r0
  ![v379_r0.toNat]
def k0_cond21 (v143_0_r0 : BitVec 32) (k0_t2 : Fin (k0_t2_loop v143_0_r0).trips) : BitVec 1 :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_177_r0 : BitVec 32 := 56#32
  let v361_r0 : BitVec 32 := Scalar.addi v299_r0 c56_i32_177_r0
  let c1_i32_178_r0 : BitVec 32 := 1#32
  let v362_r0 : BitVec 32 := Scalar.addi v361_r0 c1_i32_178_r0
  let v363_r0 : BitVec 1 := Scalar.cmpi .slt v362_r0 v143_0_r0
  let v364_r0 : BitVec 32 := Scalar.extui v363_r0
  let c0_i32_179_r0 : BitVec 32 := 0#32
  let v365_r0 : BitVec 1 := Scalar.cmpi .ne v364_r0 c0_i32_179_r0
  v365_r0

def k0_off68 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c1_i32_187_r0 : BitVec 32 := 1#32
  let v377_r0 : BitVec 32 := Scalar.addi v376_r0 c1_i32_187_r0
  let c56_i32_188_r0 : BitVec 32 := 56#32
  let v378_r0 : BitVec 32 := Scalar.remsi v377_r0 c56_i32_188_r0
  let c0_i32_192_r0 : BitVec 32 := 0#32
  let v384_r0 : BitVec 1 := Scalar.cmpi .sgt v378_r0 c0_i32_192_r0
  let v385_r0 : BitVec 32 := Scalar.extui v384_r0
  let c0_i32_193_r0 : BitVec 32 := 0#32
  let v386_r0 : BitVec 1 := Scalar.cmpi .slt v378_r0 c0_i32_193_r0
  let v387_r0 : BitVec 32 := Scalar.extui v386_r0
  let v388_r0 : BitVec 32 := Scalar.subi v385_r0 v387_r0
  let c4_i32_191_r0 : BitVec 32 := 4#32
  let c0_i32_194_r0 : BitVec 32 := 0#32
  let v389_r0 : BitVec 1 := Scalar.cmpi .sgt c4_i32_191_r0 c0_i32_194_r0
  let v390_r0 : BitVec 32 := Scalar.extui v389_r0
  let c0_i32_195_r0 : BitVec 32 := 0#32
  let v391_r0 : BitVec 1 := Scalar.cmpi .slt c4_i32_191_r0 c0_i32_195_r0
  let v392_r0 : BitVec 32 := Scalar.extui v391_r0
  let v393_r0 : BitVec 32 := Scalar.subi v390_r0 v392_r0
  let v394_r0 : BitVec 1 := Scalar.cmpi .ne v388_r0 v393_r0
  let v395_r0 : BitVec 32 := Scalar.remsi v378_r0 c4_i32_191_r0
  let c0_i32_196_r0 : BitVec 32 := 0#32
  let v396_r0 : BitVec 1 := Scalar.cmpi .ne v395_r0 c0_i32_196_r0
  let v397_r0 : BitVec 1 := Scalar.andi v394_r0 v396_r0
  let v383_r0 : BitVec 32 := Scalar.divsi v378_r0 c4_i32_191_r0
  let c1_i32_197_r0 : BitVec 32 := 1#32
  let v398_r0 : BitVec 32 := Scalar.subi v383_r0 c1_i32_197_r0
  let v399_r0 : BitVec 32 := Scalar.select v397_r0 v398_r0 v383_r0
  ![v399_r0.toNat]
def k0_off69 (v143_0_r0 : BitVec 32) (k0_t2 : Fin (k0_t2_loop v143_0_r0).trips) : Fin 2 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c1_i32_187_r0 : BitVec 32 := 1#32
  let v377_r0 : BitVec 32 := Scalar.addi v376_r0 c1_i32_187_r0
  let c56_i32_188_r0 : BitVec 32 := 56#32
  let v378_r0 : BitVec 32 := Scalar.remsi v377_r0 c56_i32_188_r0
  let c128_i32_190_r0 : BitVec 32 := 128#32
  let v382_r0 : BitVec 32 := Scalar.muli v378_r0 c128_i32_190_r0
  let c0_i32_198_r0 : BitVec 32 := 0#32
  ![v382_r0.toNat, 0]
def k0_off70 (v380_r0 : BitVec 32) : Fin 2 → Nat :=
  let c128_i32_189_r0 : BitVec 32 := 128#32
  let v381_r0 : BitVec 32 := Scalar.muli v380_r0 c128_i32_189_r0
  let c0_i32_199_r0 : BitVec 32 := 0#32
  ![v381_r0.toNat, 0]

def k0_chk19 (v143_0_r0 : BitVec 32) (k0_t2 : Fin (k0_t2_loop v143_0_r0).trips) (v380_r0 : BitVec 32) : Prop :=
  (∀ (k0_h21 : k0_cond21 v143_0_r0 k0_t2 = 1#1), ∀ a, (k0_off70 v380_r0) a + S128x4096.size a ≤ S14336x4096.size a) ∧
  (∀ (k0_h21 : k0_cond21 v143_0_r0 k0_t2 = 1#1), ∀ (hinb : ∀ a, (k0_off70 v380_r0) a + S128x4096.size a ≤ S14336x4096.size a), (Rect.unit (s := S14336x4096) (k0_off70 v380_r0) S128x4096.size hinb).WholeWords (EltTy.packing .fp8e4m3))
theorem k0_off70_inb : ∀ (v143_0_r0 : BitVec 32) (k0_t2 : Fin (k0_t2_loop v143_0_r0).trips) (v380_r0 : BitVec 32) (k0_hw19 : k0_chk19 v143_0_r0 k0_t2 v380_r0), ∀ (k0_h21 : k0_cond21 v143_0_r0 k0_t2 = 1#1), ∀ a, (k0_off70 v380_r0) a + S128x4096.size a ≤ S14336x4096.size a := fun v143_0_r0 k0_t2 v380_r0 k0_hw19 k0_h21 => k0_hw19.1 k0_h21
theorem k0_off70_wordsfp8e4m3 : ∀ (v143_0_r0 : BitVec 32) (k0_t2 : Fin (k0_t2_loop v143_0_r0).trips) (v380_r0 : BitVec 32) (k0_hw19 : k0_chk19 v143_0_r0 k0_t2 v380_r0), ∀ (k0_h21 : k0_cond21 v143_0_r0 k0_t2 = 1#1), (Rect.unit (s := S14336x4096) (k0_off70 v380_r0) S128x4096.size (k0_off70_inb v143_0_r0 k0_t2 v380_r0 k0_hw19 k0_h21)).WholeWords (EltTy.packing .fp8e4m3) := fun v143_0_r0 k0_t2 v380_r0 k0_hw19 k0_h21 => k0_hw19.2 k0_h21 (k0_off70_inb v143_0_r0 k0_t2 v380_r0 k0_hw19 k0_h21)

def k0_off71 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c2_i32_187_r0 : BitVec 32 := 2#32
  let v377_r0 : BitVec 32 := Scalar.addi v376_r0 c2_i32_187_r0
  let v379_r0 : Index := Scalar.indexCast v377_r0
  ![v379_r0.toNat]
def k0_cond22 (v143_0_r0 : BitVec 32) (k0_t2 : Fin (k0_t2_loop v143_0_r0).trips) : BitVec 1 :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_180_r0 : BitVec 32 := 56#32
  let v366_r0 : BitVec 32 := Scalar.addi v299_r0 c56_i32_180_r0
  let c2_i32_181_r0 : BitVec 32 := 2#32
  let v367_r0 : BitVec 32 := Scalar.addi v366_r0 c2_i32_181_r0
  let v368_r0 : BitVec 1 := Scalar.cmpi .slt v367_r0 v143_0_r0
  let v369_r0 : BitVec 32 := Scalar.extui v368_r0
  let c0_i32_182_r0 : BitVec 32 := 0#32
  let v370_r0 : BitVec 1 := Scalar.cmpi .ne v369_r0 c0_i32_182_r0
  v370_r0

def k0_off72 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c2_i32_187_r0 : BitVec 32 := 2#32
  let v377_r0 : BitVec 32 := Scalar.addi v376_r0 c2_i32_187_r0
  let c56_i32_188_r0 : BitVec 32 := 56#32
  let v378_r0 : BitVec 32 := Scalar.remsi v377_r0 c56_i32_188_r0
  let c0_i32_192_r0 : BitVec 32 := 0#32
  let v384_r0 : BitVec 1 := Scalar.cmpi .sgt v378_r0 c0_i32_192_r0
  let v385_r0 : BitVec 32 := Scalar.extui v384_r0
  let c0_i32_193_r0 : BitVec 32 := 0#32
  let v386_r0 : BitVec 1 := Scalar.cmpi .slt v378_r0 c0_i32_193_r0
  let v387_r0 : BitVec 32 := Scalar.extui v386_r0
  let v388_r0 : BitVec 32 := Scalar.subi v385_r0 v387_r0
  let c4_i32_191_r0 : BitVec 32 := 4#32
  let c0_i32_194_r0 : BitVec 32 := 0#32
  let v389_r0 : BitVec 1 := Scalar.cmpi .sgt c4_i32_191_r0 c0_i32_194_r0
  let v390_r0 : BitVec 32 := Scalar.extui v389_r0
  let c0_i32_195_r0 : BitVec 32 := 0#32
  let v391_r0 : BitVec 1 := Scalar.cmpi .slt c4_i32_191_r0 c0_i32_195_r0
  let v392_r0 : BitVec 32 := Scalar.extui v391_r0
  let v393_r0 : BitVec 32 := Scalar.subi v390_r0 v392_r0
  let v394_r0 : BitVec 1 := Scalar.cmpi .ne v388_r0 v393_r0
  let v395_r0 : BitVec 32 := Scalar.remsi v378_r0 c4_i32_191_r0
  let c0_i32_196_r0 : BitVec 32 := 0#32
  let v396_r0 : BitVec 1 := Scalar.cmpi .ne v395_r0 c0_i32_196_r0
  let v397_r0 : BitVec 1 := Scalar.andi v394_r0 v396_r0
  let v383_r0 : BitVec 32 := Scalar.divsi v378_r0 c4_i32_191_r0
  let c1_i32_197_r0 : BitVec 32 := 1#32
  let v398_r0 : BitVec 32 := Scalar.subi v383_r0 c1_i32_197_r0
  let v399_r0 : BitVec 32 := Scalar.select v397_r0 v398_r0 v383_r0
  ![v399_r0.toNat]
def k0_off73 (v143_0_r0 : BitVec 32) (k0_t2 : Fin (k0_t2_loop v143_0_r0).trips) : Fin 2 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c2_i32_187_r0 : BitVec 32 := 2#32
  let v377_r0 : BitVec 32 := Scalar.addi v376_r0 c2_i32_187_r0
  let c56_i32_188_r0 : BitVec 32 := 56#32
  let v378_r0 : BitVec 32 := Scalar.remsi v377_r0 c56_i32_188_r0
  let c128_i32_190_r0 : BitVec 32 := 128#32
  let v382_r0 : BitVec 32 := Scalar.muli v378_r0 c128_i32_190_r0
  let c0_i32_198_r0 : BitVec 32 := 0#32
  ![v382_r0.toNat, 0]
def k0_off74 (v380_r0 : BitVec 32) : Fin 2 → Nat :=
  let c128_i32_189_r0 : BitVec 32 := 128#32
  let v381_r0 : BitVec 32 := Scalar.muli v380_r0 c128_i32_189_r0
  let c0_i32_199_r0 : BitVec 32 := 0#32
  ![v381_r0.toNat, 0]

def k0_chk20 (v143_0_r0 : BitVec 32) (k0_t2 : Fin (k0_t2_loop v143_0_r0).trips) (v380_r0 : BitVec 32) : Prop :=
  (∀ (k0_h22 : k0_cond22 v143_0_r0 k0_t2 = 1#1), ∀ a, (k0_off74 v380_r0) a + S128x4096.size a ≤ S14336x4096.size a) ∧
  (∀ (k0_h22 : k0_cond22 v143_0_r0 k0_t2 = 1#1), ∀ (hinb : ∀ a, (k0_off74 v380_r0) a + S128x4096.size a ≤ S14336x4096.size a), (Rect.unit (s := S14336x4096) (k0_off74 v380_r0) S128x4096.size hinb).WholeWords (EltTy.packing .fp8e4m3))
theorem k0_off74_inb : ∀ (v143_0_r0 : BitVec 32) (k0_t2 : Fin (k0_t2_loop v143_0_r0).trips) (v380_r0 : BitVec 32) (k0_hw20 : k0_chk20 v143_0_r0 k0_t2 v380_r0), ∀ (k0_h22 : k0_cond22 v143_0_r0 k0_t2 = 1#1), ∀ a, (k0_off74 v380_r0) a + S128x4096.size a ≤ S14336x4096.size a := fun v143_0_r0 k0_t2 v380_r0 k0_hw20 k0_h22 => k0_hw20.1 k0_h22
theorem k0_off74_wordsfp8e4m3 : ∀ (v143_0_r0 : BitVec 32) (k0_t2 : Fin (k0_t2_loop v143_0_r0).trips) (v380_r0 : BitVec 32) (k0_hw20 : k0_chk20 v143_0_r0 k0_t2 v380_r0), ∀ (k0_h22 : k0_cond22 v143_0_r0 k0_t2 = 1#1), (Rect.unit (s := S14336x4096) (k0_off74 v380_r0) S128x4096.size (k0_off74_inb v143_0_r0 k0_t2 v380_r0 k0_hw20 k0_h22)).WholeWords (EltTy.packing .fp8e4m3) := fun v143_0_r0 k0_t2 v380_r0 k0_hw20 k0_h22 => k0_hw20.2 k0_h22 (k0_off74_inb v143_0_r0 k0_t2 v380_r0 k0_hw20 k0_h22)

def k0_off75 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c3_i32_187_r0 : BitVec 32 := 3#32
  let v377_r0 : BitVec 32 := Scalar.addi v376_r0 c3_i32_187_r0
  let v379_r0 : Index := Scalar.indexCast v377_r0
  ![v379_r0.toNat]
def k0_cond23 (v143_0_r0 : BitVec 32) (k0_t2 : Fin (k0_t2_loop v143_0_r0).trips) : BitVec 1 :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_183_r0 : BitVec 32 := 56#32
  let v371_r0 : BitVec 32 := Scalar.addi v299_r0 c56_i32_183_r0
  let c3_i32_184_r0 : BitVec 32 := 3#32
  let v372_r0 : BitVec 32 := Scalar.addi v371_r0 c3_i32_184_r0
  let v373_r0 : BitVec 1 := Scalar.cmpi .slt v372_r0 v143_0_r0
  let v374_r0 : BitVec 32 := Scalar.extui v373_r0
  let c0_i32_185_r0 : BitVec 32 := 0#32
  let v375_r0 : BitVec 1 := Scalar.cmpi .ne v374_r0 c0_i32_185_r0
  v375_r0

def k0_off76 (v143_0_r0 : BitVec 32) (k0_t2 : Fin (k0_t2_loop v143_0_r0).trips) : Fin 1 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c3_i32_187_r0 : BitVec 32 := 3#32
  let v377_r0 : BitVec 32 := Scalar.addi v376_r0 c3_i32_187_r0
  let c56_i32_188_r0 : BitVec 32 := 56#32
  let v378_r0 : BitVec 32 := Scalar.remsi v377_r0 c56_i32_188_r0
  let c0_i32_192_r0 : BitVec 32 := 0#32
  let v384_r0 : BitVec 1 := Scalar.cmpi .sgt v378_r0 c0_i32_192_r0
  let v385_r0 : BitVec 32 := Scalar.extui v384_r0
  let c0_i32_193_r0 : BitVec 32 := 0#32
  let v386_r0 : BitVec 1 := Scalar.cmpi .slt v378_r0 c0_i32_193_r0
  let v387_r0 : BitVec 32 := Scalar.extui v386_r0
  let v388_r0 : BitVec 32 := Scalar.subi v385_r0 v387_r0
  let c4_i32_191_r0 : BitVec 32 := 4#32
  let c0_i32_194_r0 : BitVec 32 := 0#32
  let v389_r0 : BitVec 1 := Scalar.cmpi .sgt c4_i32_191_r0 c0_i32_194_r0
  let v390_r0 : BitVec 32 := Scalar.extui v389_r0
  let c0_i32_195_r0 : BitVec 32 := 0#32
  let v391_r0 : BitVec 1 := Scalar.cmpi .slt c4_i32_191_r0 c0_i32_195_r0
  let v392_r0 : BitVec 32 := Scalar.extui v391_r0
  let v393_r0 : BitVec 32 := Scalar.subi v390_r0 v392_r0
  let v394_r0 : BitVec 1 := Scalar.cmpi .ne v388_r0 v393_r0
  let v395_r0 : BitVec 32 := Scalar.remsi v378_r0 c4_i32_191_r0
  let c0_i32_196_r0 : BitVec 32 := 0#32
  let v396_r0 : BitVec 1 := Scalar.cmpi .ne v395_r0 c0_i32_196_r0
  let v397_r0 : BitVec 1 := Scalar.andi v394_r0 v396_r0
  let v383_r0 : BitVec 32 := Scalar.divsi v378_r0 c4_i32_191_r0
  let c1_i32_197_r0 : BitVec 32 := 1#32
  let v398_r0 : BitVec 32 := Scalar.subi v383_r0 c1_i32_197_r0
  let v399_r0 : BitVec 32 := Scalar.select v397_r0 v398_r0 v383_r0
  ![v399_r0.toNat]
def k0_off77 (v143_0_r0 : BitVec 32) (k0_t2 : Fin (k0_t2_loop v143_0_r0).trips) : Fin 2 → Nat :=
  let c0_i32_128_r0 : BitVec 32 := 0#32
  let c1_i32_130_r0 : BitVec 32 := 1#32
  let arg26_r0 : BitVec 32 := Scf.iv c0_i32_128_r0 c1_i32_130_r0 k0_t2
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c3_i32_187_r0 : BitVec 32 := 3#32
  let v377_r0 : BitVec 32 := Scalar.addi v376_r0 c3_i32_187_r0
  let c56_i32_188_r0 : BitVec 32 := 56#32
  let v378_r0 : BitVec 32 := Scalar.remsi v377_r0 c56_i32_188_r0
  let c128_i32_190_r0 : BitVec 32 := 128#32
  let v382_r0 : BitVec 32 := Scalar.muli v378_r0 c128_i32_190_r0
  let c0_i32_198_r0 : BitVec 32 := 0#32
  ![v382_r0.toNat, 0]
def k0_off78 (v380_r0 : BitVec 32) : Fin 2 → Nat :=
  let c128_i32_189_r0 : BitVec 32 := 128#32
  let v381_r0 : BitVec 32 := Scalar.muli v380_r0 c128_i32_189_r0
  let c0_i32_199_r0 : BitVec 32 := 0#32
  ![v381_r0.toNat, 0]

def k0_chk21 (v143_0_r0 : BitVec 32) (k0_t2 : Fin (k0_t2_loop v143_0_r0).trips) (v380_r0 : BitVec 32) : Prop :=
  (∀ (k0_h23 : k0_cond23 v143_0_r0 k0_t2 = 1#1), ∀ a, (k0_off78 v380_r0) a + S128x4096.size a ≤ S14336x4096.size a) ∧
  (∀ (k0_h23 : k0_cond23 v143_0_r0 k0_t2 = 1#1), ∀ (hinb : ∀ a, (k0_off78 v380_r0) a + S128x4096.size a ≤ S14336x4096.size a), (Rect.unit (s := S14336x4096) (k0_off78 v380_r0) S128x4096.size hinb).WholeWords (EltTy.packing .fp8e4m3))
theorem k0_off78_inb : ∀ (v143_0_r0 : BitVec 32) (k0_t2 : Fin (k0_t2_loop v143_0_r0).trips) (v380_r0 : BitVec 32) (k0_hw21 : k0_chk21 v143_0_r0 k0_t2 v380_r0), ∀ (k0_h23 : k0_cond23 v143_0_r0 k0_t2 = 1#1), ∀ a, (k0_off78 v380_r0) a + S128x4096.size a ≤ S14336x4096.size a := fun v143_0_r0 k0_t2 v380_r0 k0_hw21 k0_h23 => k0_hw21.1 k0_h23
theorem k0_off78_wordsfp8e4m3 : ∀ (v143_0_r0 : BitVec 32) (k0_t2 : Fin (k0_t2_loop v143_0_r0).trips) (v380_r0 : BitVec 32) (k0_hw21 : k0_chk21 v143_0_r0 k0_t2 v380_r0), ∀ (k0_h23 : k0_cond23 v143_0_r0 k0_t2 = 1#1), (Rect.unit (s := S14336x4096) (k0_off78 v380_r0) S128x4096.size (k0_off78_inb v143_0_r0 k0_t2 v380_r0 k0_hw21 k0_h23)).WholeWords (EltTy.packing .fp8e4m3) := fun v143_0_r0 k0_t2 v380_r0 k0_hw21 k0_h23 => k0_hw21.2 k0_h23 (k0_off78_inb v143_0_r0 k0_t2 v380_r0 k0_hw21 k0_h23)

@[reducible] def k0_t3_loop (v143_0_r0 : BitVec 32) : Scf.Loop 32 :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let v272_r0 : BitVec 32 := Scalar.addi c0_i32_128_r0 v271_r0
  let c1_i32_131_r0 : BitVec 32 := 1#32
  ⟨v275_r0, v272_r0, c1_i32_131_r0⟩
def k0_off79 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c0_i32_186_r0 : BitVec 32 := 0#32
  let v376_r0 : BitVec 32 := Scalar.addi v299_r0 c0_i32_186_r0
  let v378_r0 : Index := Scalar.indexCast v376_r0
  ![v378_r0.toNat]
def k0_cond24 (v143_0_r0 : BitVec 32) (k0_t3 : Fin (k0_t3_loop v143_0_r0).trips) : BitVec 1 :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c0_i32_147_r0 : BitVec 32 := 0#32
  let v300_r0 : BitVec 32 := Scalar.addi v299_r0 c0_i32_147_r0
  let v301_r0 : BitVec 1 := Scalar.cmpi .slt v300_r0 v143_0_r0
  let v302_r0 : BitVec 32 := Scalar.extui v301_r0
  let c0_i32_148_r0 : BitVec 32 := 0#32
  let v303_r0 : BitVec 1 := Scalar.cmpi .ne v302_r0 c0_i32_148_r0
  v303_r0

def k0_off80 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c0_i32_186_r0 : BitVec 32 := 0#32
  let v376_r0 : BitVec 32 := Scalar.addi v299_r0 c0_i32_186_r0
  let c56_i32_187_r0 : BitVec 32 := 56#32
  let v377_r0 : BitVec 32 := Scalar.remsi v376_r0 c56_i32_187_r0
  let c0_i32_191_r0 : BitVec 32 := 0#32
  let v383_r0 : BitVec 1 := Scalar.cmpi .sgt v377_r0 c0_i32_191_r0
  let v384_r0 : BitVec 32 := Scalar.extui v383_r0
  let c0_i32_192_r0 : BitVec 32 := 0#32
  let v385_r0 : BitVec 1 := Scalar.cmpi .slt v377_r0 c0_i32_192_r0
  let v386_r0 : BitVec 32 := Scalar.extui v385_r0
  let v387_r0 : BitVec 32 := Scalar.subi v384_r0 v386_r0
  let c4_i32_190_r0 : BitVec 32 := 4#32
  let c0_i32_193_r0 : BitVec 32 := 0#32
  let v388_r0 : BitVec 1 := Scalar.cmpi .sgt c4_i32_190_r0 c0_i32_193_r0
  let v389_r0 : BitVec 32 := Scalar.extui v388_r0
  let c0_i32_194_r0 : BitVec 32 := 0#32
  let v390_r0 : BitVec 1 := Scalar.cmpi .slt c4_i32_190_r0 c0_i32_194_r0
  let v391_r0 : BitVec 32 := Scalar.extui v390_r0
  let v392_r0 : BitVec 32 := Scalar.subi v389_r0 v391_r0
  let v393_r0 : BitVec 1 := Scalar.cmpi .ne v387_r0 v392_r0
  let v394_r0 : BitVec 32 := Scalar.remsi v377_r0 c4_i32_190_r0
  let c0_i32_195_r0 : BitVec 32 := 0#32
  let v395_r0 : BitVec 1 := Scalar.cmpi .ne v394_r0 c0_i32_195_r0
  let v396_r0 : BitVec 1 := Scalar.andi v393_r0 v395_r0
  let v382_r0 : BitVec 32 := Scalar.divsi v377_r0 c4_i32_190_r0
  let c1_i32_196_r0 : BitVec 32 := 1#32
  let v397_r0 : BitVec 32 := Scalar.subi v382_r0 c1_i32_196_r0
  let v398_r0 : BitVec 32 := Scalar.select v396_r0 v397_r0 v382_r0
  ![v398_r0.toNat]
def k0_off81 (v143_0_r0 : BitVec 32) (k0_t3 : Fin (k0_t3_loop v143_0_r0).trips) : Fin 2 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c0_i32_186_r0 : BitVec 32 := 0#32
  let v376_r0 : BitVec 32 := Scalar.addi v299_r0 c0_i32_186_r0
  let c56_i32_187_r0 : BitVec 32 := 56#32
  let v377_r0 : BitVec 32 := Scalar.remsi v376_r0 c56_i32_187_r0
  let c128_i32_189_r0 : BitVec 32 := 128#32
  let v381_r0 : BitVec 32 := Scalar.muli v377_r0 c128_i32_189_r0
  let c0_i32_197_r0 : BitVec 32 := 0#32
  ![v381_r0.toNat, 0]
def k0_off82 (v379_r0 : BitVec 32) : Fin 2 → Nat :=
  let c128_i32_188_r0 : BitVec 32 := 128#32
  let v380_r0 : BitVec 32 := Scalar.muli v379_r0 c128_i32_188_r0
  let c0_i32_198_r0 : BitVec 32 := 0#32
  ![v380_r0.toNat, 0]

def k0_chk22 (v143_0_r0 : BitVec 32) (k0_t3 : Fin (k0_t3_loop v143_0_r0).trips) (v379_r0 : BitVec 32) : Prop :=
  (∀ (k0_h24 : k0_cond24 v143_0_r0 k0_t3 = 1#1), ∀ a, (k0_off82 v379_r0) a + S128x4096.size a ≤ S14336x4096.size a) ∧
  (∀ (k0_h24 : k0_cond24 v143_0_r0 k0_t3 = 1#1), ∀ (hinb : ∀ a, (k0_off82 v379_r0) a + S128x4096.size a ≤ S14336x4096.size a), (Rect.unit (s := S14336x4096) (k0_off82 v379_r0) S128x4096.size hinb).WholeWords (EltTy.packing .fp8e4m3))
theorem k0_off82_inb : ∀ (v143_0_r0 : BitVec 32) (k0_t3 : Fin (k0_t3_loop v143_0_r0).trips) (v379_r0 : BitVec 32) (k0_hw22 : k0_chk22 v143_0_r0 k0_t3 v379_r0), ∀ (k0_h24 : k0_cond24 v143_0_r0 k0_t3 = 1#1), ∀ a, (k0_off82 v379_r0) a + S128x4096.size a ≤ S14336x4096.size a := fun v143_0_r0 k0_t3 v379_r0 k0_hw22 k0_h24 => k0_hw22.1 k0_h24
theorem k0_off82_wordsfp8e4m3 : ∀ (v143_0_r0 : BitVec 32) (k0_t3 : Fin (k0_t3_loop v143_0_r0).trips) (v379_r0 : BitVec 32) (k0_hw22 : k0_chk22 v143_0_r0 k0_t3 v379_r0), ∀ (k0_h24 : k0_cond24 v143_0_r0 k0_t3 = 1#1), (Rect.unit (s := S14336x4096) (k0_off82 v379_r0) S128x4096.size (k0_off82_inb v143_0_r0 k0_t3 v379_r0 k0_hw22 k0_h24)).WholeWords (EltTy.packing .fp8e4m3) := fun v143_0_r0 k0_t3 v379_r0 k0_hw22 k0_h24 => k0_hw22.2 k0_h24 (k0_off82_inb v143_0_r0 k0_t3 v379_r0 k0_hw22 k0_h24)

def k0_off83 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c1_i32_186_r0 : BitVec 32 := 1#32
  let v376_r0 : BitVec 32 := Scalar.addi v299_r0 c1_i32_186_r0
  let v378_r0 : Index := Scalar.indexCast v376_r0
  ![v378_r0.toNat]
def k0_cond25 (v143_0_r0 : BitVec 32) (k0_t3 : Fin (k0_t3_loop v143_0_r0).trips) : BitVec 1 :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c1_i32_149_r0 : BitVec 32 := 1#32
  let v304_r0 : BitVec 32 := Scalar.addi v299_r0 c1_i32_149_r0
  let v305_r0 : BitVec 1 := Scalar.cmpi .slt v304_r0 v143_0_r0
  let v306_r0 : BitVec 32 := Scalar.extui v305_r0
  let c0_i32_150_r0 : BitVec 32 := 0#32
  let v307_r0 : BitVec 1 := Scalar.cmpi .ne v306_r0 c0_i32_150_r0
  v307_r0

def k0_off84 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c1_i32_186_r0 : BitVec 32 := 1#32
  let v376_r0 : BitVec 32 := Scalar.addi v299_r0 c1_i32_186_r0
  let c56_i32_187_r0 : BitVec 32 := 56#32
  let v377_r0 : BitVec 32 := Scalar.remsi v376_r0 c56_i32_187_r0
  let c0_i32_191_r0 : BitVec 32 := 0#32
  let v383_r0 : BitVec 1 := Scalar.cmpi .sgt v377_r0 c0_i32_191_r0
  let v384_r0 : BitVec 32 := Scalar.extui v383_r0
  let c0_i32_192_r0 : BitVec 32 := 0#32
  let v385_r0 : BitVec 1 := Scalar.cmpi .slt v377_r0 c0_i32_192_r0
  let v386_r0 : BitVec 32 := Scalar.extui v385_r0
  let v387_r0 : BitVec 32 := Scalar.subi v384_r0 v386_r0
  let c4_i32_190_r0 : BitVec 32 := 4#32
  let c0_i32_193_r0 : BitVec 32 := 0#32
  let v388_r0 : BitVec 1 := Scalar.cmpi .sgt c4_i32_190_r0 c0_i32_193_r0
  let v389_r0 : BitVec 32 := Scalar.extui v388_r0
  let c0_i32_194_r0 : BitVec 32 := 0#32
  let v390_r0 : BitVec 1 := Scalar.cmpi .slt c4_i32_190_r0 c0_i32_194_r0
  let v391_r0 : BitVec 32 := Scalar.extui v390_r0
  let v392_r0 : BitVec 32 := Scalar.subi v389_r0 v391_r0
  let v393_r0 : BitVec 1 := Scalar.cmpi .ne v387_r0 v392_r0
  let v394_r0 : BitVec 32 := Scalar.remsi v377_r0 c4_i32_190_r0
  let c0_i32_195_r0 : BitVec 32 := 0#32
  let v395_r0 : BitVec 1 := Scalar.cmpi .ne v394_r0 c0_i32_195_r0
  let v396_r0 : BitVec 1 := Scalar.andi v393_r0 v395_r0
  let v382_r0 : BitVec 32 := Scalar.divsi v377_r0 c4_i32_190_r0
  let c1_i32_196_r0 : BitVec 32 := 1#32
  let v397_r0 : BitVec 32 := Scalar.subi v382_r0 c1_i32_196_r0
  let v398_r0 : BitVec 32 := Scalar.select v396_r0 v397_r0 v382_r0
  ![v398_r0.toNat]
def k0_off85 (v143_0_r0 : BitVec 32) (k0_t3 : Fin (k0_t3_loop v143_0_r0).trips) : Fin 2 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c1_i32_186_r0 : BitVec 32 := 1#32
  let v376_r0 : BitVec 32 := Scalar.addi v299_r0 c1_i32_186_r0
  let c56_i32_187_r0 : BitVec 32 := 56#32
  let v377_r0 : BitVec 32 := Scalar.remsi v376_r0 c56_i32_187_r0
  let c128_i32_189_r0 : BitVec 32 := 128#32
  let v381_r0 : BitVec 32 := Scalar.muli v377_r0 c128_i32_189_r0
  let c0_i32_197_r0 : BitVec 32 := 0#32
  ![v381_r0.toNat, 0]
def k0_off86 (v379_r0 : BitVec 32) : Fin 2 → Nat :=
  let c128_i32_188_r0 : BitVec 32 := 128#32
  let v380_r0 : BitVec 32 := Scalar.muli v379_r0 c128_i32_188_r0
  let c0_i32_198_r0 : BitVec 32 := 0#32
  ![v380_r0.toNat, 0]

def k0_chk23 (v143_0_r0 : BitVec 32) (k0_t3 : Fin (k0_t3_loop v143_0_r0).trips) (v379_r0 : BitVec 32) : Prop :=
  (∀ (k0_h25 : k0_cond25 v143_0_r0 k0_t3 = 1#1), ∀ a, (k0_off86 v379_r0) a + S128x4096.size a ≤ S14336x4096.size a) ∧
  (∀ (k0_h25 : k0_cond25 v143_0_r0 k0_t3 = 1#1), ∀ (hinb : ∀ a, (k0_off86 v379_r0) a + S128x4096.size a ≤ S14336x4096.size a), (Rect.unit (s := S14336x4096) (k0_off86 v379_r0) S128x4096.size hinb).WholeWords (EltTy.packing .fp8e4m3))
theorem k0_off86_inb : ∀ (v143_0_r0 : BitVec 32) (k0_t3 : Fin (k0_t3_loop v143_0_r0).trips) (v379_r0 : BitVec 32) (k0_hw23 : k0_chk23 v143_0_r0 k0_t3 v379_r0), ∀ (k0_h25 : k0_cond25 v143_0_r0 k0_t3 = 1#1), ∀ a, (k0_off86 v379_r0) a + S128x4096.size a ≤ S14336x4096.size a := fun v143_0_r0 k0_t3 v379_r0 k0_hw23 k0_h25 => k0_hw23.1 k0_h25
theorem k0_off86_wordsfp8e4m3 : ∀ (v143_0_r0 : BitVec 32) (k0_t3 : Fin (k0_t3_loop v143_0_r0).trips) (v379_r0 : BitVec 32) (k0_hw23 : k0_chk23 v143_0_r0 k0_t3 v379_r0), ∀ (k0_h25 : k0_cond25 v143_0_r0 k0_t3 = 1#1), (Rect.unit (s := S14336x4096) (k0_off86 v379_r0) S128x4096.size (k0_off86_inb v143_0_r0 k0_t3 v379_r0 k0_hw23 k0_h25)).WholeWords (EltTy.packing .fp8e4m3) := fun v143_0_r0 k0_t3 v379_r0 k0_hw23 k0_h25 => k0_hw23.2 k0_h25 (k0_off86_inb v143_0_r0 k0_t3 v379_r0 k0_hw23 k0_h25)

def k0_off87 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c2_i32_186_r0 : BitVec 32 := 2#32
  let v376_r0 : BitVec 32 := Scalar.addi v299_r0 c2_i32_186_r0
  let v378_r0 : Index := Scalar.indexCast v376_r0
  ![v378_r0.toNat]
def k0_cond26 (v143_0_r0 : BitVec 32) (k0_t3 : Fin (k0_t3_loop v143_0_r0).trips) : BitVec 1 :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c2_i32_151_r0 : BitVec 32 := 2#32
  let v308_r0 : BitVec 32 := Scalar.addi v299_r0 c2_i32_151_r0
  let v309_r0 : BitVec 1 := Scalar.cmpi .slt v308_r0 v143_0_r0
  let v310_r0 : BitVec 32 := Scalar.extui v309_r0
  let c0_i32_152_r0 : BitVec 32 := 0#32
  let v311_r0 : BitVec 1 := Scalar.cmpi .ne v310_r0 c0_i32_152_r0
  v311_r0

def k0_off88 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c2_i32_186_r0 : BitVec 32 := 2#32
  let v376_r0 : BitVec 32 := Scalar.addi v299_r0 c2_i32_186_r0
  let c56_i32_187_r0 : BitVec 32 := 56#32
  let v377_r0 : BitVec 32 := Scalar.remsi v376_r0 c56_i32_187_r0
  let c0_i32_191_r0 : BitVec 32 := 0#32
  let v383_r0 : BitVec 1 := Scalar.cmpi .sgt v377_r0 c0_i32_191_r0
  let v384_r0 : BitVec 32 := Scalar.extui v383_r0
  let c0_i32_192_r0 : BitVec 32 := 0#32
  let v385_r0 : BitVec 1 := Scalar.cmpi .slt v377_r0 c0_i32_192_r0
  let v386_r0 : BitVec 32 := Scalar.extui v385_r0
  let v387_r0 : BitVec 32 := Scalar.subi v384_r0 v386_r0
  let c4_i32_190_r0 : BitVec 32 := 4#32
  let c0_i32_193_r0 : BitVec 32 := 0#32
  let v388_r0 : BitVec 1 := Scalar.cmpi .sgt c4_i32_190_r0 c0_i32_193_r0
  let v389_r0 : BitVec 32 := Scalar.extui v388_r0
  let c0_i32_194_r0 : BitVec 32 := 0#32
  let v390_r0 : BitVec 1 := Scalar.cmpi .slt c4_i32_190_r0 c0_i32_194_r0
  let v391_r0 : BitVec 32 := Scalar.extui v390_r0
  let v392_r0 : BitVec 32 := Scalar.subi v389_r0 v391_r0
  let v393_r0 : BitVec 1 := Scalar.cmpi .ne v387_r0 v392_r0
  let v394_r0 : BitVec 32 := Scalar.remsi v377_r0 c4_i32_190_r0
  let c0_i32_195_r0 : BitVec 32 := 0#32
  let v395_r0 : BitVec 1 := Scalar.cmpi .ne v394_r0 c0_i32_195_r0
  let v396_r0 : BitVec 1 := Scalar.andi v393_r0 v395_r0
  let v382_r0 : BitVec 32 := Scalar.divsi v377_r0 c4_i32_190_r0
  let c1_i32_196_r0 : BitVec 32 := 1#32
  let v397_r0 : BitVec 32 := Scalar.subi v382_r0 c1_i32_196_r0
  let v398_r0 : BitVec 32 := Scalar.select v396_r0 v397_r0 v382_r0
  ![v398_r0.toNat]
def k0_off89 (v143_0_r0 : BitVec 32) (k0_t3 : Fin (k0_t3_loop v143_0_r0).trips) : Fin 2 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c2_i32_186_r0 : BitVec 32 := 2#32
  let v376_r0 : BitVec 32 := Scalar.addi v299_r0 c2_i32_186_r0
  let c56_i32_187_r0 : BitVec 32 := 56#32
  let v377_r0 : BitVec 32 := Scalar.remsi v376_r0 c56_i32_187_r0
  let c128_i32_189_r0 : BitVec 32 := 128#32
  let v381_r0 : BitVec 32 := Scalar.muli v377_r0 c128_i32_189_r0
  let c0_i32_197_r0 : BitVec 32 := 0#32
  ![v381_r0.toNat, 0]
def k0_off90 (v379_r0 : BitVec 32) : Fin 2 → Nat :=
  let c128_i32_188_r0 : BitVec 32 := 128#32
  let v380_r0 : BitVec 32 := Scalar.muli v379_r0 c128_i32_188_r0
  let c0_i32_198_r0 : BitVec 32 := 0#32
  ![v380_r0.toNat, 0]

def k0_chk24 (v143_0_r0 : BitVec 32) (k0_t3 : Fin (k0_t3_loop v143_0_r0).trips) (v379_r0 : BitVec 32) : Prop :=
  (∀ (k0_h26 : k0_cond26 v143_0_r0 k0_t3 = 1#1), ∀ a, (k0_off90 v379_r0) a + S128x4096.size a ≤ S14336x4096.size a) ∧
  (∀ (k0_h26 : k0_cond26 v143_0_r0 k0_t3 = 1#1), ∀ (hinb : ∀ a, (k0_off90 v379_r0) a + S128x4096.size a ≤ S14336x4096.size a), (Rect.unit (s := S14336x4096) (k0_off90 v379_r0) S128x4096.size hinb).WholeWords (EltTy.packing .fp8e4m3))
theorem k0_off90_inb : ∀ (v143_0_r0 : BitVec 32) (k0_t3 : Fin (k0_t3_loop v143_0_r0).trips) (v379_r0 : BitVec 32) (k0_hw24 : k0_chk24 v143_0_r0 k0_t3 v379_r0), ∀ (k0_h26 : k0_cond26 v143_0_r0 k0_t3 = 1#1), ∀ a, (k0_off90 v379_r0) a + S128x4096.size a ≤ S14336x4096.size a := fun v143_0_r0 k0_t3 v379_r0 k0_hw24 k0_h26 => k0_hw24.1 k0_h26
theorem k0_off90_wordsfp8e4m3 : ∀ (v143_0_r0 : BitVec 32) (k0_t3 : Fin (k0_t3_loop v143_0_r0).trips) (v379_r0 : BitVec 32) (k0_hw24 : k0_chk24 v143_0_r0 k0_t3 v379_r0), ∀ (k0_h26 : k0_cond26 v143_0_r0 k0_t3 = 1#1), (Rect.unit (s := S14336x4096) (k0_off90 v379_r0) S128x4096.size (k0_off90_inb v143_0_r0 k0_t3 v379_r0 k0_hw24 k0_h26)).WholeWords (EltTy.packing .fp8e4m3) := fun v143_0_r0 k0_t3 v379_r0 k0_hw24 k0_h26 => k0_hw24.2 k0_h26 (k0_off90_inb v143_0_r0 k0_t3 v379_r0 k0_hw24 k0_h26)

def k0_off91 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c3_i32_186_r0 : BitVec 32 := 3#32
  let v376_r0 : BitVec 32 := Scalar.addi v299_r0 c3_i32_186_r0
  let v378_r0 : Index := Scalar.indexCast v376_r0
  ![v378_r0.toNat]
def k0_cond27 (v143_0_r0 : BitVec 32) (k0_t3 : Fin (k0_t3_loop v143_0_r0).trips) : BitVec 1 :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c3_i32_153_r0 : BitVec 32 := 3#32
  let v312_r0 : BitVec 32 := Scalar.addi v299_r0 c3_i32_153_r0
  let v313_r0 : BitVec 1 := Scalar.cmpi .slt v312_r0 v143_0_r0
  let v314_r0 : BitVec 32 := Scalar.extui v313_r0
  let c0_i32_154_r0 : BitVec 32 := 0#32
  let v315_r0 : BitVec 1 := Scalar.cmpi .ne v314_r0 c0_i32_154_r0
  v315_r0

def k0_off92 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c3_i32_186_r0 : BitVec 32 := 3#32
  let v376_r0 : BitVec 32 := Scalar.addi v299_r0 c3_i32_186_r0
  let c56_i32_187_r0 : BitVec 32 := 56#32
  let v377_r0 : BitVec 32 := Scalar.remsi v376_r0 c56_i32_187_r0
  let c0_i32_191_r0 : BitVec 32 := 0#32
  let v383_r0 : BitVec 1 := Scalar.cmpi .sgt v377_r0 c0_i32_191_r0
  let v384_r0 : BitVec 32 := Scalar.extui v383_r0
  let c0_i32_192_r0 : BitVec 32 := 0#32
  let v385_r0 : BitVec 1 := Scalar.cmpi .slt v377_r0 c0_i32_192_r0
  let v386_r0 : BitVec 32 := Scalar.extui v385_r0
  let v387_r0 : BitVec 32 := Scalar.subi v384_r0 v386_r0
  let c4_i32_190_r0 : BitVec 32 := 4#32
  let c0_i32_193_r0 : BitVec 32 := 0#32
  let v388_r0 : BitVec 1 := Scalar.cmpi .sgt c4_i32_190_r0 c0_i32_193_r0
  let v389_r0 : BitVec 32 := Scalar.extui v388_r0
  let c0_i32_194_r0 : BitVec 32 := 0#32
  let v390_r0 : BitVec 1 := Scalar.cmpi .slt c4_i32_190_r0 c0_i32_194_r0
  let v391_r0 : BitVec 32 := Scalar.extui v390_r0
  let v392_r0 : BitVec 32 := Scalar.subi v389_r0 v391_r0
  let v393_r0 : BitVec 1 := Scalar.cmpi .ne v387_r0 v392_r0
  let v394_r0 : BitVec 32 := Scalar.remsi v377_r0 c4_i32_190_r0
  let c0_i32_195_r0 : BitVec 32 := 0#32
  let v395_r0 : BitVec 1 := Scalar.cmpi .ne v394_r0 c0_i32_195_r0
  let v396_r0 : BitVec 1 := Scalar.andi v393_r0 v395_r0
  let v382_r0 : BitVec 32 := Scalar.divsi v377_r0 c4_i32_190_r0
  let c1_i32_196_r0 : BitVec 32 := 1#32
  let v397_r0 : BitVec 32 := Scalar.subi v382_r0 c1_i32_196_r0
  let v398_r0 : BitVec 32 := Scalar.select v396_r0 v397_r0 v382_r0
  ![v398_r0.toNat]
def k0_off93 (v143_0_r0 : BitVec 32) (k0_t3 : Fin (k0_t3_loop v143_0_r0).trips) : Fin 2 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c3_i32_186_r0 : BitVec 32 := 3#32
  let v376_r0 : BitVec 32 := Scalar.addi v299_r0 c3_i32_186_r0
  let c56_i32_187_r0 : BitVec 32 := 56#32
  let v377_r0 : BitVec 32 := Scalar.remsi v376_r0 c56_i32_187_r0
  let c128_i32_189_r0 : BitVec 32 := 128#32
  let v381_r0 : BitVec 32 := Scalar.muli v377_r0 c128_i32_189_r0
  let c0_i32_197_r0 : BitVec 32 := 0#32
  ![v381_r0.toNat, 0]
def k0_off94 (v379_r0 : BitVec 32) : Fin 2 → Nat :=
  let c128_i32_188_r0 : BitVec 32 := 128#32
  let v380_r0 : BitVec 32 := Scalar.muli v379_r0 c128_i32_188_r0
  let c0_i32_198_r0 : BitVec 32 := 0#32
  ![v380_r0.toNat, 0]

def k0_chk25 (v143_0_r0 : BitVec 32) (k0_t3 : Fin (k0_t3_loop v143_0_r0).trips) (v379_r0 : BitVec 32) : Prop :=
  (∀ (k0_h27 : k0_cond27 v143_0_r0 k0_t3 = 1#1), ∀ a, (k0_off94 v379_r0) a + S128x4096.size a ≤ S14336x4096.size a) ∧
  (∀ (k0_h27 : k0_cond27 v143_0_r0 k0_t3 = 1#1), ∀ (hinb : ∀ a, (k0_off94 v379_r0) a + S128x4096.size a ≤ S14336x4096.size a), (Rect.unit (s := S14336x4096) (k0_off94 v379_r0) S128x4096.size hinb).WholeWords (EltTy.packing .fp8e4m3))
theorem k0_off94_inb : ∀ (v143_0_r0 : BitVec 32) (k0_t3 : Fin (k0_t3_loop v143_0_r0).trips) (v379_r0 : BitVec 32) (k0_hw25 : k0_chk25 v143_0_r0 k0_t3 v379_r0), ∀ (k0_h27 : k0_cond27 v143_0_r0 k0_t3 = 1#1), ∀ a, (k0_off94 v379_r0) a + S128x4096.size a ≤ S14336x4096.size a := fun v143_0_r0 k0_t3 v379_r0 k0_hw25 k0_h27 => k0_hw25.1 k0_h27
theorem k0_off94_wordsfp8e4m3 : ∀ (v143_0_r0 : BitVec 32) (k0_t3 : Fin (k0_t3_loop v143_0_r0).trips) (v379_r0 : BitVec 32) (k0_hw25 : k0_chk25 v143_0_r0 k0_t3 v379_r0), ∀ (k0_h27 : k0_cond27 v143_0_r0 k0_t3 = 1#1), (Rect.unit (s := S14336x4096) (k0_off94 v379_r0) S128x4096.size (k0_off94_inb v143_0_r0 k0_t3 v379_r0 k0_hw25 k0_h27)).WholeWords (EltTy.packing .fp8e4m3) := fun v143_0_r0 k0_t3 v379_r0 k0_hw25 k0_h27 => k0_hw25.2 k0_h27 (k0_off94_inb v143_0_r0 k0_t3 v379_r0 k0_hw25 k0_h27)

def k0_off95 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c0_i32_155_r0 : BitVec 32 := 0#32
  let v316_r0 : BitVec 32 := Scalar.addi v299_r0 c0_i32_155_r0
  let v317_r0 : Index := Scalar.indexCast v316_r0
  ![v317_r0.toNat]
def k0_mult10 (v318_r0 : BitVec 32) : BitVec 32 :=
  let c128_i32_r0 : BitVec 32 := 128#32
  let v319_r0 : BitVec 32 := Scalar.muli v318_r0 c128_i32_r0
  v319_r0

def k0_off96 (v318_r0 : BitVec 32) : Fin 2 → Nat :=
  let c0_156_r0 : Index := 0#32
  let c128_i32_r0 : BitVec 32 := 128#32
  let v319_r0 : BitVec 32 := Scalar.muli v318_r0 c128_i32_r0
  let v320_r0 : BitVec 32 := v319_r0
  let v321_r0 : Index := Scalar.indexCast v320_r0
  ![0, v321_r0.toNat]

def k0_chk26 (v318_r0 : BitVec 32) : Prop :=
  (128 ∣ (k0_mult10 v318_r0).toNat) ∧
  (∀ a, (k0_off96 v318_r0) a + S32x128.size a ≤ S32x14464.size a)
theorem k0_mult10_dvd : ∀ (v318_r0 : BitVec 32) (k0_hw26 : k0_chk26 v318_r0), 128 ∣ (k0_mult10 v318_r0).toNat := fun v318_r0 k0_hw26 => k0_hw26.1
theorem k0_off96_inb : ∀ (v318_r0 : BitVec 32) (k0_hw26 : k0_chk26 v318_r0), ∀ a, (k0_off96 v318_r0) a + S32x128.size a ≤ S32x14464.size a := fun v318_r0 k0_hw26 => k0_hw26.2

def k0_off97 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c1_i32_157_r0 : BitVec 32 := 1#32
  let v323_r0 : BitVec 32 := Scalar.addi v299_r0 c1_i32_157_r0
  let v324_r0 : Index := Scalar.indexCast v323_r0
  ![v324_r0.toNat]
def k0_mult11 (v325_r0 : BitVec 32) : BitVec 32 :=
  let c128_i32_158_r0 : BitVec 32 := 128#32
  let v326_r0 : BitVec 32 := Scalar.muli v325_r0 c128_i32_158_r0
  v326_r0

def k0_off98 (v325_r0 : BitVec 32) : Fin 2 → Nat :=
  let c0_159_r0 : Index := 0#32
  let c128_i32_158_r0 : BitVec 32 := 128#32
  let v326_r0 : BitVec 32 := Scalar.muli v325_r0 c128_i32_158_r0
  let v327_r0 : BitVec 32 := v326_r0
  let v328_r0 : Index := Scalar.indexCast v327_r0
  ![0, v328_r0.toNat]

def k0_chk27 (v325_r0 : BitVec 32) : Prop :=
  (128 ∣ (k0_mult11 v325_r0).toNat) ∧
  (∀ a, (k0_off98 v325_r0) a + S32x128.size a ≤ S32x14464.size a)
theorem k0_mult11_dvd : ∀ (v325_r0 : BitVec 32) (k0_hw27 : k0_chk27 v325_r0), 128 ∣ (k0_mult11 v325_r0).toNat := fun v325_r0 k0_hw27 => k0_hw27.1
theorem k0_off98_inb : ∀ (v325_r0 : BitVec 32) (k0_hw27 : k0_chk27 v325_r0), ∀ a, (k0_off98 v325_r0) a + S32x128.size a ≤ S32x14464.size a := fun v325_r0 k0_hw27 => k0_hw27.2

def k0_off99 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c2_i32_160_r0 : BitVec 32 := 2#32
  let v330_r0 : BitVec 32 := Scalar.addi v299_r0 c2_i32_160_r0
  let v331_r0 : Index := Scalar.indexCast v330_r0
  ![v331_r0.toNat]
def k0_mult12 (v332_r0 : BitVec 32) : BitVec 32 :=
  let c128_i32_161_r0 : BitVec 32 := 128#32
  let v333_r0 : BitVec 32 := Scalar.muli v332_r0 c128_i32_161_r0
  v333_r0

def k0_off100 (v332_r0 : BitVec 32) : Fin 2 → Nat :=
  let c0_162_r0 : Index := 0#32
  let c128_i32_161_r0 : BitVec 32 := 128#32
  let v333_r0 : BitVec 32 := Scalar.muli v332_r0 c128_i32_161_r0
  let v334_r0 : BitVec 32 := v333_r0
  let v335_r0 : Index := Scalar.indexCast v334_r0
  ![0, v335_r0.toNat]

def k0_chk28 (v332_r0 : BitVec 32) : Prop :=
  (128 ∣ (k0_mult12 v332_r0).toNat) ∧
  (∀ a, (k0_off100 v332_r0) a + S32x128.size a ≤ S32x14464.size a)
theorem k0_mult12_dvd : ∀ (v332_r0 : BitVec 32) (k0_hw28 : k0_chk28 v332_r0), 128 ∣ (k0_mult12 v332_r0).toNat := fun v332_r0 k0_hw28 => k0_hw28.1
theorem k0_off100_inb : ∀ (v332_r0 : BitVec 32) (k0_hw28 : k0_chk28 v332_r0), ∀ a, (k0_off100 v332_r0) a + S32x128.size a ≤ S32x14464.size a := fun v332_r0 k0_hw28 => k0_hw28.2

def k0_off101 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c3_i32_163_r0 : BitVec 32 := 3#32
  let v337_r0 : BitVec 32 := Scalar.addi v299_r0 c3_i32_163_r0
  let v338_r0 : Index := Scalar.indexCast v337_r0
  ![v338_r0.toNat]
def k0_mult13 (v339_r0 : BitVec 32) : BitVec 32 :=
  let c128_i32_164_r0 : BitVec 32 := 128#32
  let v340_r0 : BitVec 32 := Scalar.muli v339_r0 c128_i32_164_r0
  v340_r0

def k0_off102 (v339_r0 : BitVec 32) : Fin 2 → Nat :=
  let c0_165_r0 : Index := 0#32
  let c128_i32_164_r0 : BitVec 32 := 128#32
  let v340_r0 : BitVec 32 := Scalar.muli v339_r0 c128_i32_164_r0
  let v341_r0 : BitVec 32 := v340_r0
  let v342_r0 : Index := Scalar.indexCast v341_r0
  ![0, v342_r0.toNat]

def k0_chk29 (v339_r0 : BitVec 32) : Prop :=
  (128 ∣ (k0_mult13 v339_r0).toNat) ∧
  (∀ a, (k0_off102 v339_r0) a + S32x128.size a ≤ S32x14464.size a)
theorem k0_mult13_dvd : ∀ (v339_r0 : BitVec 32) (k0_hw29 : k0_chk29 v339_r0), 128 ∣ (k0_mult13 v339_r0).toNat := fun v339_r0 k0_hw29 => k0_hw29.1
theorem k0_off102_inb : ∀ (v339_r0 : BitVec 32) (k0_hw29 : k0_chk29 v339_r0), ∀ a, (k0_off102 v339_r0) a + S32x128.size a ≤ S32x14464.size a := fun v339_r0 k0_hw29 => k0_hw29.2

def k0_mult14 (v143_0_r0 : BitVec 32) (k0_t3 : Fin (k0_t3_loop v143_0_r0).trips) : BitVec 32 :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_166_r0 : BitVec 32 := 56#32
  let v345_r0 : BitVec 32 := Scalar.remsi v299_r0 c56_i32_166_r0
  let c128_i32_167_r0 : BitVec 32 := 128#32
  let v346_r0 : BitVec 32 := Scalar.muli v345_r0 c128_i32_167_r0
  v346_r0
def k0_off103 (v143_0_r0 : BitVec 32) (k0_t3 : Fin (k0_t3_loop v143_0_r0).trips) : Fin 2 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_166_r0 : BitVec 32 := 56#32
  let v345_r0 : BitVec 32 := Scalar.remsi v299_r0 c56_i32_166_r0
  let c128_i32_167_r0 : BitVec 32 := 128#32
  let v346_r0 : BitVec 32 := Scalar.muli v345_r0 c128_i32_167_r0
  let v347_r0 : BitVec 32 := v346_r0
  let v349_r0 : Index := Scalar.indexCast v347_r0
  let c0_170_r0 : Index := 0#32
  ![v349_r0.toNat, 0]
def k0_off104 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c0_i32_187_r0 : BitVec 32 := 0#32
  let v377_r0 : BitVec 32 := Scalar.addi v376_r0 c0_i32_187_r0
  let v379_r0 : Index := Scalar.indexCast v377_r0
  ![v379_r0.toNat]
def k0_cond28 (v143_0_r0 : BitVec 32) (k0_t3 : Fin (k0_t3_loop v143_0_r0).trips) : BitVec 1 :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_174_r0 : BitVec 32 := 56#32
  let v356_r0 : BitVec 32 := Scalar.addi v299_r0 c56_i32_174_r0
  let c0_i32_175_r0 : BitVec 32 := 0#32
  let v357_r0 : BitVec 32 := Scalar.addi v356_r0 c0_i32_175_r0
  let v358_r0 : BitVec 1 := Scalar.cmpi .slt v357_r0 v143_0_r0
  let v359_r0 : BitVec 32 := Scalar.extui v358_r0
  let c0_i32_176_r0 : BitVec 32 := 0#32
  let v360_r0 : BitVec 1 := Scalar.cmpi .ne v359_r0 c0_i32_176_r0
  v360_r0

def k0_off105 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c0_i32_187_r0 : BitVec 32 := 0#32
  let v377_r0 : BitVec 32 := Scalar.addi v376_r0 c0_i32_187_r0
  let c56_i32_188_r0 : BitVec 32 := 56#32
  let v378_r0 : BitVec 32 := Scalar.remsi v377_r0 c56_i32_188_r0
  let c0_i32_192_r0 : BitVec 32 := 0#32
  let v384_r0 : BitVec 1 := Scalar.cmpi .sgt v378_r0 c0_i32_192_r0
  let v385_r0 : BitVec 32 := Scalar.extui v384_r0
  let c0_i32_193_r0 : BitVec 32 := 0#32
  let v386_r0 : BitVec 1 := Scalar.cmpi .slt v378_r0 c0_i32_193_r0
  let v387_r0 : BitVec 32 := Scalar.extui v386_r0
  let v388_r0 : BitVec 32 := Scalar.subi v385_r0 v387_r0
  let c4_i32_191_r0 : BitVec 32 := 4#32
  let c0_i32_194_r0 : BitVec 32 := 0#32
  let v389_r0 : BitVec 1 := Scalar.cmpi .sgt c4_i32_191_r0 c0_i32_194_r0
  let v390_r0 : BitVec 32 := Scalar.extui v389_r0
  let c0_i32_195_r0 : BitVec 32 := 0#32
  let v391_r0 : BitVec 1 := Scalar.cmpi .slt c4_i32_191_r0 c0_i32_195_r0
  let v392_r0 : BitVec 32 := Scalar.extui v391_r0
  let v393_r0 : BitVec 32 := Scalar.subi v390_r0 v392_r0
  let v394_r0 : BitVec 1 := Scalar.cmpi .ne v388_r0 v393_r0
  let v395_r0 : BitVec 32 := Scalar.remsi v378_r0 c4_i32_191_r0
  let c0_i32_196_r0 : BitVec 32 := 0#32
  let v396_r0 : BitVec 1 := Scalar.cmpi .ne v395_r0 c0_i32_196_r0
  let v397_r0 : BitVec 1 := Scalar.andi v394_r0 v396_r0
  let v383_r0 : BitVec 32 := Scalar.divsi v378_r0 c4_i32_191_r0
  let c1_i32_197_r0 : BitVec 32 := 1#32
  let v398_r0 : BitVec 32 := Scalar.subi v383_r0 c1_i32_197_r0
  let v399_r0 : BitVec 32 := Scalar.select v397_r0 v398_r0 v383_r0
  ![v399_r0.toNat]
def k0_off106 (v143_0_r0 : BitVec 32) (k0_t3 : Fin (k0_t3_loop v143_0_r0).trips) : Fin 2 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c0_i32_187_r0 : BitVec 32 := 0#32
  let v377_r0 : BitVec 32 := Scalar.addi v376_r0 c0_i32_187_r0
  let c56_i32_188_r0 : BitVec 32 := 56#32
  let v378_r0 : BitVec 32 := Scalar.remsi v377_r0 c56_i32_188_r0
  let c128_i32_190_r0 : BitVec 32 := 128#32
  let v382_r0 : BitVec 32 := Scalar.muli v378_r0 c128_i32_190_r0
  let c0_i32_198_r0 : BitVec 32 := 0#32
  ![v382_r0.toNat, 0]
def k0_off107 (v380_r0 : BitVec 32) : Fin 2 → Nat :=
  let c128_i32_189_r0 : BitVec 32 := 128#32
  let v381_r0 : BitVec 32 := Scalar.muli v380_r0 c128_i32_189_r0
  let c0_i32_199_r0 : BitVec 32 := 0#32
  ![v381_r0.toNat, 0]

def k0_chk30 (v143_0_r0 : BitVec 32) (k0_t3 : Fin (k0_t3_loop v143_0_r0).trips) (v380_r0 : BitVec 32) : Prop :=
  (∀ (k0_h28 : k0_cond28 v143_0_r0 k0_t3 = 1#1), ∀ a, (k0_off107 v380_r0) a + S128x4096.size a ≤ S14336x4096.size a) ∧
  (∀ (k0_h28 : k0_cond28 v143_0_r0 k0_t3 = 1#1), ∀ (hinb : ∀ a, (k0_off107 v380_r0) a + S128x4096.size a ≤ S14336x4096.size a), (Rect.unit (s := S14336x4096) (k0_off107 v380_r0) S128x4096.size hinb).WholeWords (EltTy.packing .fp8e4m3))
theorem k0_off107_inb : ∀ (v143_0_r0 : BitVec 32) (k0_t3 : Fin (k0_t3_loop v143_0_r0).trips) (v380_r0 : BitVec 32) (k0_hw30 : k0_chk30 v143_0_r0 k0_t3 v380_r0), ∀ (k0_h28 : k0_cond28 v143_0_r0 k0_t3 = 1#1), ∀ a, (k0_off107 v380_r0) a + S128x4096.size a ≤ S14336x4096.size a := fun v143_0_r0 k0_t3 v380_r0 k0_hw30 k0_h28 => k0_hw30.1 k0_h28
theorem k0_off107_wordsfp8e4m3 : ∀ (v143_0_r0 : BitVec 32) (k0_t3 : Fin (k0_t3_loop v143_0_r0).trips) (v380_r0 : BitVec 32) (k0_hw30 : k0_chk30 v143_0_r0 k0_t3 v380_r0), ∀ (k0_h28 : k0_cond28 v143_0_r0 k0_t3 = 1#1), (Rect.unit (s := S14336x4096) (k0_off107 v380_r0) S128x4096.size (k0_off107_inb v143_0_r0 k0_t3 v380_r0 k0_hw30 k0_h28)).WholeWords (EltTy.packing .fp8e4m3) := fun v143_0_r0 k0_t3 v380_r0 k0_hw30 k0_h28 => k0_hw30.2 k0_h28 (k0_off107_inb v143_0_r0 k0_t3 v380_r0 k0_hw30 k0_h28)

def k0_off108 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c1_i32_187_r0 : BitVec 32 := 1#32
  let v377_r0 : BitVec 32 := Scalar.addi v376_r0 c1_i32_187_r0
  let v379_r0 : Index := Scalar.indexCast v377_r0
  ![v379_r0.toNat]
def k0_cond29 (v143_0_r0 : BitVec 32) (k0_t3 : Fin (k0_t3_loop v143_0_r0).trips) : BitVec 1 :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_177_r0 : BitVec 32 := 56#32
  let v361_r0 : BitVec 32 := Scalar.addi v299_r0 c56_i32_177_r0
  let c1_i32_178_r0 : BitVec 32 := 1#32
  let v362_r0 : BitVec 32 := Scalar.addi v361_r0 c1_i32_178_r0
  let v363_r0 : BitVec 1 := Scalar.cmpi .slt v362_r0 v143_0_r0
  let v364_r0 : BitVec 32 := Scalar.extui v363_r0
  let c0_i32_179_r0 : BitVec 32 := 0#32
  let v365_r0 : BitVec 1 := Scalar.cmpi .ne v364_r0 c0_i32_179_r0
  v365_r0

def k0_off109 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c1_i32_187_r0 : BitVec 32 := 1#32
  let v377_r0 : BitVec 32 := Scalar.addi v376_r0 c1_i32_187_r0
  let c56_i32_188_r0 : BitVec 32 := 56#32
  let v378_r0 : BitVec 32 := Scalar.remsi v377_r0 c56_i32_188_r0
  let c0_i32_192_r0 : BitVec 32 := 0#32
  let v384_r0 : BitVec 1 := Scalar.cmpi .sgt v378_r0 c0_i32_192_r0
  let v385_r0 : BitVec 32 := Scalar.extui v384_r0
  let c0_i32_193_r0 : BitVec 32 := 0#32
  let v386_r0 : BitVec 1 := Scalar.cmpi .slt v378_r0 c0_i32_193_r0
  let v387_r0 : BitVec 32 := Scalar.extui v386_r0
  let v388_r0 : BitVec 32 := Scalar.subi v385_r0 v387_r0
  let c4_i32_191_r0 : BitVec 32 := 4#32
  let c0_i32_194_r0 : BitVec 32 := 0#32
  let v389_r0 : BitVec 1 := Scalar.cmpi .sgt c4_i32_191_r0 c0_i32_194_r0
  let v390_r0 : BitVec 32 := Scalar.extui v389_r0
  let c0_i32_195_r0 : BitVec 32 := 0#32
  let v391_r0 : BitVec 1 := Scalar.cmpi .slt c4_i32_191_r0 c0_i32_195_r0
  let v392_r0 : BitVec 32 := Scalar.extui v391_r0
  let v393_r0 : BitVec 32 := Scalar.subi v390_r0 v392_r0
  let v394_r0 : BitVec 1 := Scalar.cmpi .ne v388_r0 v393_r0
  let v395_r0 : BitVec 32 := Scalar.remsi v378_r0 c4_i32_191_r0
  let c0_i32_196_r0 : BitVec 32 := 0#32
  let v396_r0 : BitVec 1 := Scalar.cmpi .ne v395_r0 c0_i32_196_r0
  let v397_r0 : BitVec 1 := Scalar.andi v394_r0 v396_r0
  let v383_r0 : BitVec 32 := Scalar.divsi v378_r0 c4_i32_191_r0
  let c1_i32_197_r0 : BitVec 32 := 1#32
  let v398_r0 : BitVec 32 := Scalar.subi v383_r0 c1_i32_197_r0
  let v399_r0 : BitVec 32 := Scalar.select v397_r0 v398_r0 v383_r0
  ![v399_r0.toNat]
def k0_off110 (v143_0_r0 : BitVec 32) (k0_t3 : Fin (k0_t3_loop v143_0_r0).trips) : Fin 2 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c1_i32_187_r0 : BitVec 32 := 1#32
  let v377_r0 : BitVec 32 := Scalar.addi v376_r0 c1_i32_187_r0
  let c56_i32_188_r0 : BitVec 32 := 56#32
  let v378_r0 : BitVec 32 := Scalar.remsi v377_r0 c56_i32_188_r0
  let c128_i32_190_r0 : BitVec 32 := 128#32
  let v382_r0 : BitVec 32 := Scalar.muli v378_r0 c128_i32_190_r0
  let c0_i32_198_r0 : BitVec 32 := 0#32
  ![v382_r0.toNat, 0]
def k0_off111 (v380_r0 : BitVec 32) : Fin 2 → Nat :=
  let c128_i32_189_r0 : BitVec 32 := 128#32
  let v381_r0 : BitVec 32 := Scalar.muli v380_r0 c128_i32_189_r0
  let c0_i32_199_r0 : BitVec 32 := 0#32
  ![v381_r0.toNat, 0]

def k0_chk31 (v143_0_r0 : BitVec 32) (k0_t3 : Fin (k0_t3_loop v143_0_r0).trips) (v380_r0 : BitVec 32) : Prop :=
  (∀ (k0_h29 : k0_cond29 v143_0_r0 k0_t3 = 1#1), ∀ a, (k0_off111 v380_r0) a + S128x4096.size a ≤ S14336x4096.size a) ∧
  (∀ (k0_h29 : k0_cond29 v143_0_r0 k0_t3 = 1#1), ∀ (hinb : ∀ a, (k0_off111 v380_r0) a + S128x4096.size a ≤ S14336x4096.size a), (Rect.unit (s := S14336x4096) (k0_off111 v380_r0) S128x4096.size hinb).WholeWords (EltTy.packing .fp8e4m3))
theorem k0_off111_inb : ∀ (v143_0_r0 : BitVec 32) (k0_t3 : Fin (k0_t3_loop v143_0_r0).trips) (v380_r0 : BitVec 32) (k0_hw31 : k0_chk31 v143_0_r0 k0_t3 v380_r0), ∀ (k0_h29 : k0_cond29 v143_0_r0 k0_t3 = 1#1), ∀ a, (k0_off111 v380_r0) a + S128x4096.size a ≤ S14336x4096.size a := fun v143_0_r0 k0_t3 v380_r0 k0_hw31 k0_h29 => k0_hw31.1 k0_h29
theorem k0_off111_wordsfp8e4m3 : ∀ (v143_0_r0 : BitVec 32) (k0_t3 : Fin (k0_t3_loop v143_0_r0).trips) (v380_r0 : BitVec 32) (k0_hw31 : k0_chk31 v143_0_r0 k0_t3 v380_r0), ∀ (k0_h29 : k0_cond29 v143_0_r0 k0_t3 = 1#1), (Rect.unit (s := S14336x4096) (k0_off111 v380_r0) S128x4096.size (k0_off111_inb v143_0_r0 k0_t3 v380_r0 k0_hw31 k0_h29)).WholeWords (EltTy.packing .fp8e4m3) := fun v143_0_r0 k0_t3 v380_r0 k0_hw31 k0_h29 => k0_hw31.2 k0_h29 (k0_off111_inb v143_0_r0 k0_t3 v380_r0 k0_hw31 k0_h29)

def k0_off112 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c2_i32_187_r0 : BitVec 32 := 2#32
  let v377_r0 : BitVec 32 := Scalar.addi v376_r0 c2_i32_187_r0
  let v379_r0 : Index := Scalar.indexCast v377_r0
  ![v379_r0.toNat]
def k0_cond30 (v143_0_r0 : BitVec 32) (k0_t3 : Fin (k0_t3_loop v143_0_r0).trips) : BitVec 1 :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_180_r0 : BitVec 32 := 56#32
  let v366_r0 : BitVec 32 := Scalar.addi v299_r0 c56_i32_180_r0
  let c2_i32_181_r0 : BitVec 32 := 2#32
  let v367_r0 : BitVec 32 := Scalar.addi v366_r0 c2_i32_181_r0
  let v368_r0 : BitVec 1 := Scalar.cmpi .slt v367_r0 v143_0_r0
  let v369_r0 : BitVec 32 := Scalar.extui v368_r0
  let c0_i32_182_r0 : BitVec 32 := 0#32
  let v370_r0 : BitVec 1 := Scalar.cmpi .ne v369_r0 c0_i32_182_r0
  v370_r0

def k0_off113 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c2_i32_187_r0 : BitVec 32 := 2#32
  let v377_r0 : BitVec 32 := Scalar.addi v376_r0 c2_i32_187_r0
  let c56_i32_188_r0 : BitVec 32 := 56#32
  let v378_r0 : BitVec 32 := Scalar.remsi v377_r0 c56_i32_188_r0
  let c0_i32_192_r0 : BitVec 32 := 0#32
  let v384_r0 : BitVec 1 := Scalar.cmpi .sgt v378_r0 c0_i32_192_r0
  let v385_r0 : BitVec 32 := Scalar.extui v384_r0
  let c0_i32_193_r0 : BitVec 32 := 0#32
  let v386_r0 : BitVec 1 := Scalar.cmpi .slt v378_r0 c0_i32_193_r0
  let v387_r0 : BitVec 32 := Scalar.extui v386_r0
  let v388_r0 : BitVec 32 := Scalar.subi v385_r0 v387_r0
  let c4_i32_191_r0 : BitVec 32 := 4#32
  let c0_i32_194_r0 : BitVec 32 := 0#32
  let v389_r0 : BitVec 1 := Scalar.cmpi .sgt c4_i32_191_r0 c0_i32_194_r0
  let v390_r0 : BitVec 32 := Scalar.extui v389_r0
  let c0_i32_195_r0 : BitVec 32 := 0#32
  let v391_r0 : BitVec 1 := Scalar.cmpi .slt c4_i32_191_r0 c0_i32_195_r0
  let v392_r0 : BitVec 32 := Scalar.extui v391_r0
  let v393_r0 : BitVec 32 := Scalar.subi v390_r0 v392_r0
  let v394_r0 : BitVec 1 := Scalar.cmpi .ne v388_r0 v393_r0
  let v395_r0 : BitVec 32 := Scalar.remsi v378_r0 c4_i32_191_r0
  let c0_i32_196_r0 : BitVec 32 := 0#32
  let v396_r0 : BitVec 1 := Scalar.cmpi .ne v395_r0 c0_i32_196_r0
  let v397_r0 : BitVec 1 := Scalar.andi v394_r0 v396_r0
  let v383_r0 : BitVec 32 := Scalar.divsi v378_r0 c4_i32_191_r0
  let c1_i32_197_r0 : BitVec 32 := 1#32
  let v398_r0 : BitVec 32 := Scalar.subi v383_r0 c1_i32_197_r0
  let v399_r0 : BitVec 32 := Scalar.select v397_r0 v398_r0 v383_r0
  ![v399_r0.toNat]
def k0_off114 (v143_0_r0 : BitVec 32) (k0_t3 : Fin (k0_t3_loop v143_0_r0).trips) : Fin 2 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c2_i32_187_r0 : BitVec 32 := 2#32
  let v377_r0 : BitVec 32 := Scalar.addi v376_r0 c2_i32_187_r0
  let c56_i32_188_r0 : BitVec 32 := 56#32
  let v378_r0 : BitVec 32 := Scalar.remsi v377_r0 c56_i32_188_r0
  let c128_i32_190_r0 : BitVec 32 := 128#32
  let v382_r0 : BitVec 32 := Scalar.muli v378_r0 c128_i32_190_r0
  let c0_i32_198_r0 : BitVec 32 := 0#32
  ![v382_r0.toNat, 0]
def k0_off115 (v380_r0 : BitVec 32) : Fin 2 → Nat :=
  let c128_i32_189_r0 : BitVec 32 := 128#32
  let v381_r0 : BitVec 32 := Scalar.muli v380_r0 c128_i32_189_r0
  let c0_i32_199_r0 : BitVec 32 := 0#32
  ![v381_r0.toNat, 0]

def k0_chk32 (v143_0_r0 : BitVec 32) (k0_t3 : Fin (k0_t3_loop v143_0_r0).trips) (v380_r0 : BitVec 32) : Prop :=
  (∀ (k0_h30 : k0_cond30 v143_0_r0 k0_t3 = 1#1), ∀ a, (k0_off115 v380_r0) a + S128x4096.size a ≤ S14336x4096.size a) ∧
  (∀ (k0_h30 : k0_cond30 v143_0_r0 k0_t3 = 1#1), ∀ (hinb : ∀ a, (k0_off115 v380_r0) a + S128x4096.size a ≤ S14336x4096.size a), (Rect.unit (s := S14336x4096) (k0_off115 v380_r0) S128x4096.size hinb).WholeWords (EltTy.packing .fp8e4m3))
theorem k0_off115_inb : ∀ (v143_0_r0 : BitVec 32) (k0_t3 : Fin (k0_t3_loop v143_0_r0).trips) (v380_r0 : BitVec 32) (k0_hw32 : k0_chk32 v143_0_r0 k0_t3 v380_r0), ∀ (k0_h30 : k0_cond30 v143_0_r0 k0_t3 = 1#1), ∀ a, (k0_off115 v380_r0) a + S128x4096.size a ≤ S14336x4096.size a := fun v143_0_r0 k0_t3 v380_r0 k0_hw32 k0_h30 => k0_hw32.1 k0_h30
theorem k0_off115_wordsfp8e4m3 : ∀ (v143_0_r0 : BitVec 32) (k0_t3 : Fin (k0_t3_loop v143_0_r0).trips) (v380_r0 : BitVec 32) (k0_hw32 : k0_chk32 v143_0_r0 k0_t3 v380_r0), ∀ (k0_h30 : k0_cond30 v143_0_r0 k0_t3 = 1#1), (Rect.unit (s := S14336x4096) (k0_off115 v380_r0) S128x4096.size (k0_off115_inb v143_0_r0 k0_t3 v380_r0 k0_hw32 k0_h30)).WholeWords (EltTy.packing .fp8e4m3) := fun v143_0_r0 k0_t3 v380_r0 k0_hw32 k0_h30 => k0_hw32.2 k0_h30 (k0_off115_inb v143_0_r0 k0_t3 v380_r0 k0_hw32 k0_h30)

def k0_off116 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c3_i32_187_r0 : BitVec 32 := 3#32
  let v377_r0 : BitVec 32 := Scalar.addi v376_r0 c3_i32_187_r0
  let v379_r0 : Index := Scalar.indexCast v377_r0
  ![v379_r0.toNat]
def k0_cond31 (v143_0_r0 : BitVec 32) (k0_t3 : Fin (k0_t3_loop v143_0_r0).trips) : BitVec 1 :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_183_r0 : BitVec 32 := 56#32
  let v371_r0 : BitVec 32 := Scalar.addi v299_r0 c56_i32_183_r0
  let c3_i32_184_r0 : BitVec 32 := 3#32
  let v372_r0 : BitVec 32 := Scalar.addi v371_r0 c3_i32_184_r0
  let v373_r0 : BitVec 1 := Scalar.cmpi .slt v372_r0 v143_0_r0
  let v374_r0 : BitVec 32 := Scalar.extui v373_r0
  let c0_i32_185_r0 : BitVec 32 := 0#32
  let v375_r0 : BitVec 1 := Scalar.cmpi .ne v374_r0 c0_i32_185_r0
  v375_r0

def k0_off117 (v143_0_r0 : BitVec 32) (k0_t3 : Fin (k0_t3_loop v143_0_r0).trips) : Fin 1 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c3_i32_187_r0 : BitVec 32 := 3#32
  let v377_r0 : BitVec 32 := Scalar.addi v376_r0 c3_i32_187_r0
  let c56_i32_188_r0 : BitVec 32 := 56#32
  let v378_r0 : BitVec 32 := Scalar.remsi v377_r0 c56_i32_188_r0
  let c0_i32_192_r0 : BitVec 32 := 0#32
  let v384_r0 : BitVec 1 := Scalar.cmpi .sgt v378_r0 c0_i32_192_r0
  let v385_r0 : BitVec 32 := Scalar.extui v384_r0
  let c0_i32_193_r0 : BitVec 32 := 0#32
  let v386_r0 : BitVec 1 := Scalar.cmpi .slt v378_r0 c0_i32_193_r0
  let v387_r0 : BitVec 32 := Scalar.extui v386_r0
  let v388_r0 : BitVec 32 := Scalar.subi v385_r0 v387_r0
  let c4_i32_191_r0 : BitVec 32 := 4#32
  let c0_i32_194_r0 : BitVec 32 := 0#32
  let v389_r0 : BitVec 1 := Scalar.cmpi .sgt c4_i32_191_r0 c0_i32_194_r0
  let v390_r0 : BitVec 32 := Scalar.extui v389_r0
  let c0_i32_195_r0 : BitVec 32 := 0#32
  let v391_r0 : BitVec 1 := Scalar.cmpi .slt c4_i32_191_r0 c0_i32_195_r0
  let v392_r0 : BitVec 32 := Scalar.extui v391_r0
  let v393_r0 : BitVec 32 := Scalar.subi v390_r0 v392_r0
  let v394_r0 : BitVec 1 := Scalar.cmpi .ne v388_r0 v393_r0
  let v395_r0 : BitVec 32 := Scalar.remsi v378_r0 c4_i32_191_r0
  let c0_i32_196_r0 : BitVec 32 := 0#32
  let v396_r0 : BitVec 1 := Scalar.cmpi .ne v395_r0 c0_i32_196_r0
  let v397_r0 : BitVec 1 := Scalar.andi v394_r0 v396_r0
  let v383_r0 : BitVec 32 := Scalar.divsi v378_r0 c4_i32_191_r0
  let c1_i32_197_r0 : BitVec 32 := 1#32
  let v398_r0 : BitVec 32 := Scalar.subi v383_r0 c1_i32_197_r0
  let v399_r0 : BitVec 32 := Scalar.select v397_r0 v398_r0 v383_r0
  ![v399_r0.toNat]
def k0_off118 (v143_0_r0 : BitVec 32) (k0_t3 : Fin (k0_t3_loop v143_0_r0).trips) : Fin 2 → Nat :=
  let c0_i32_128_r0 : BitVec 32 := 0#32
  let c4_i32_67_r0 : BitVec 32 := 4#32
  let v144_r0 : BitVec 32 := Scalar.addi v143_0_r0 c4_i32_67_r0
  let c1_i32_68_r0 : BitVec 32 := 1#32
  let v145_r0 : BitVec 32 := Scalar.subi v144_r0 c1_i32_68_r0
  let c0_i32_70_r0 : BitVec 32 := 0#32
  let v147_r0 : BitVec 1 := Scalar.cmpi .sgt v145_r0 c0_i32_70_r0
  let v148_r0 : BitVec 32 := Scalar.extui v147_r0
  let c0_i32_71_r0 : BitVec 32 := 0#32
  let v149_r0 : BitVec 1 := Scalar.cmpi .slt v145_r0 c0_i32_71_r0
  let v150_r0 : BitVec 32 := Scalar.extui v149_r0
  let v151_r0 : BitVec 32 := Scalar.subi v148_r0 v150_r0
  let c4_i32_69_r0 : BitVec 32 := 4#32
  let c0_i32_72_r0 : BitVec 32 := 0#32
  let v152_r0 : BitVec 1 := Scalar.cmpi .sgt c4_i32_69_r0 c0_i32_72_r0
  let v153_r0 : BitVec 32 := Scalar.extui v152_r0
  let c0_i32_73_r0 : BitVec 32 := 0#32
  let v154_r0 : BitVec 1 := Scalar.cmpi .slt c4_i32_69_r0 c0_i32_73_r0
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 c4_i32_69_r0
  let c0_i32_74_r0 : BitVec 32 := 0#32
  let v159_r0 : BitVec 1 := Scalar.cmpi .ne v158_r0 c0_i32_74_r0
  let v160_r0 : BitVec 1 := Scalar.andi v157_r0 v159_r0
  let v146_r0 : BitVec 32 := Scalar.divsi v145_r0 c4_i32_69_r0
  let c1_i32_75_r0 : BitVec 32 := 1#32
  let v161_r0 : BitVec 32 := Scalar.subi v146_r0 c1_i32_75_r0
  let v162_r0 : BitVec 32 := Scalar.select v160_r0 v161_r0 v146_r0
  let v271_r0 : BitVec 32 := Scalar.subi v162_r0 c0_i32_128_r0
  let c1_i32_129_r0 : BitVec 32 := 1#32
  let v273_r0 : BitVec 32 := Scalar.divsi v271_r0 c1_i32_129_r0
  let v274_r0 : BitVec 32 := Scalar.muli v273_r0 c1_i32_129_r0
  let v275_r0 : BitVec 32 := Scalar.addi c0_i32_128_r0 v274_r0
  let c1_i32_131_r0 : BitVec 32 := 1#32
  let arg26_r0 : BitVec 32 := Scf.iv v275_r0 c1_i32_131_r0 k0_t3
  let c4_i32_146_r0 : BitVec 32 := 4#32
  let v299_r0 : BitVec 32 := Scalar.muli arg26_r0 c4_i32_146_r0
  let c56_i32_186_r0 : BitVec 32 := 56#32
  let v376_r0 : BitVec 32 := Scalar.addi v299_r0 c56_i32_186_r0
  let c3_i32_187_r0 : BitVec 32 := 3#32
  let v377_r0 : BitVec 32 := Scalar.addi v376_r0 c3_i32_187_r0
  let c56_i32_188_r0 : BitVec 32 := 56#32
  let v378_r0 : BitVec 32 := Scalar.remsi v377_r0 c56_i32_188_r0
  let c128_i32_190_r0 : BitVec 32 := 128#32
  let v382_r0 : BitVec 32 := Scalar.muli v378_r0 c128_i32_190_r0
  let c0_i32_198_r0 : BitVec 32 := 0#32
  ![v382_r0.toNat, 0]
def k0_off119 (v380_r0 : BitVec 32) : Fin 2 → Nat :=
  let c128_i32_189_r0 : BitVec 32 := 128#32
  let v381_r0 : BitVec 32 := Scalar.muli v380_r0 c128_i32_189_r0
  let c0_i32_199_r0 : BitVec 32 := 0#32
  ![v381_r0.toNat, 0]

def k0_chk33 (v143_0_r0 : BitVec 32) (k0_t3 : Fin (k0_t3_loop v143_0_r0).trips) (v380_r0 : BitVec 32) : Prop :=
  (∀ (k0_h31 : k0_cond31 v143_0_r0 k0_t3 = 1#1), ∀ a, (k0_off119 v380_r0) a + S128x4096.size a ≤ S14336x4096.size a) ∧
  (∀ (k0_h31 : k0_cond31 v143_0_r0 k0_t3 = 1#1), ∀ (hinb : ∀ a, (k0_off119 v380_r0) a + S128x4096.size a ≤ S14336x4096.size a), (Rect.unit (s := S14336x4096) (k0_off119 v380_r0) S128x4096.size hinb).WholeWords (EltTy.packing .fp8e4m3))
theorem k0_off119_inb : ∀ (v143_0_r0 : BitVec 32) (k0_t3 : Fin (k0_t3_loop v143_0_r0).trips) (v380_r0 : BitVec 32) (k0_hw33 : k0_chk33 v143_0_r0 k0_t3 v380_r0), ∀ (k0_h31 : k0_cond31 v143_0_r0 k0_t3 = 1#1), ∀ a, (k0_off119 v380_r0) a + S128x4096.size a ≤ S14336x4096.size a := fun v143_0_r0 k0_t3 v380_r0 k0_hw33 k0_h31 => k0_hw33.1 k0_h31
theorem k0_off119_wordsfp8e4m3 : ∀ (v143_0_r0 : BitVec 32) (k0_t3 : Fin (k0_t3_loop v143_0_r0).trips) (v380_r0 : BitVec 32) (k0_hw33 : k0_chk33 v143_0_r0 k0_t3 v380_r0), ∀ (k0_h31 : k0_cond31 v143_0_r0 k0_t3 = 1#1), (Rect.unit (s := S14336x4096) (k0_off119 v380_r0) S128x4096.size (k0_off119_inb v143_0_r0 k0_t3 v380_r0 k0_hw33 k0_h31)).WholeWords (EltTy.packing .fp8e4m3) := fun v143_0_r0 k0_t3 v380_r0 k0_hw33 k0_h31 => k0_hw33.2 k0_h31 (k0_off119_inb v143_0_r0 k0_t3 v380_r0 k0_hw33 k0_h31)

def k0_chk9_0 (v143_0_r0 : BitVec 32) : Prop :=
  (∀ (k0_h10 : k0_cond10 v143_0_r0 = 1#1), ∀ a, (k0_off32 v143_0_r0) a + S1.size a ≤ S116.size a) ∧
  (∀ (k0_h11 : k0_cond11 v143_0_r0 = 1#1), 128 ∣ (k0_mult2 v143_0_r0).toNat) ∧
  (∀ (k0_h11 : k0_cond11 v143_0_r0 = 1#1), ∀ a, (k0_off33 v143_0_r0) a + S128x4096.size a ≤ S7168x4096.size a) ∧
  (∀ (k0_h11 : k0_cond11 v143_0_r0 = 1#1), ∀ (hinb : ∀ a, (k0_off33 v143_0_r0) a + S128x4096.size a ≤ S7168x4096.size a), (Rect.unit (s := S7168x4096) (k0_off33 v143_0_r0) S128x4096.size hinb).PackedRows (EltTy.packing .fp8e4m3)) ∧
  (∀ (k0_h12 : k0_cond12 v143_0_r0 = 1#1), ∀ a, (k0_off34 v143_0_r0) a + S1.size a ≤ S116.size a) ∧
  (∀ (k0_h13 : k0_cond13 v143_0_r0 = 1#1), 128 ∣ (k0_mult3 v143_0_r0).toNat) ∧
  (∀ (k0_h13 : k0_cond13 v143_0_r0 = 1#1), ∀ a, (k0_off35 v143_0_r0) a + S128x4096.size a ≤ S7168x4096.size a) ∧
  (∀ (k0_h13 : k0_cond13 v143_0_r0 = 1#1), ∀ (hinb : ∀ a, (k0_off35 v143_0_r0) a + S128x4096.size a ≤ S7168x4096.size a), (Rect.unit (s := S7168x4096) (k0_off35 v143_0_r0) S128x4096.size hinb).PackedRows (EltTy.packing .fp8e4m3)) ∧
  (∀ (k0_h14 : k0_cond14 v143_0_r0 = 1#1), ∀ a, (k0_off36 v143_0_r0) a + S1.size a ≤ S116.size a) ∧
  (∀ (k0_h15 : k0_cond15 v143_0_r0 = 1#1), 128 ∣ (k0_mult4 v143_0_r0).toNat) ∧
  (∀ (k0_h15 : k0_cond15 v143_0_r0 = 1#1), ∀ a, (k0_off37 v143_0_r0) a + S128x4096.size a ≤ S7168x4096.size a) ∧
  (∀ (k0_h15 : k0_cond15 v143_0_r0 = 1#1), ∀ (hinb : ∀ a, (k0_off37 v143_0_r0) a + S128x4096.size a ≤ S7168x4096.size a), (Rect.unit (s := S7168x4096) (k0_off37 v143_0_r0) S128x4096.size hinb).PackedRows (EltTy.packing .fp8e4m3)) ∧
  ((k0_t2_loop v143_0_r0).OK) ∧
  (∀ k0_t2 : Fin (k0_t2_loop v143_0_r0).trips, ∀ (k0_h16 : k0_cond16 v143_0_r0 k0_t2 = 1#1), ∀ a, (k0_off38 v143_0_r0 k0_t2) a + S1.size a ≤ S116.size a) ∧
  (∀ k0_t2 : Fin (k0_t2_loop v143_0_r0).trips, ∀ (k0_h16 : k0_cond16 v143_0_r0 k0_t2 = 1#1), ∀ a, (k0_off39 v143_0_r0 k0_t2) a + S1.size a ≤ S14.size a) ∧
  (∀ k0_t2 : Fin (k0_t2_loop v143_0_r0).trips, ∀ (k0_h16 : k0_cond16 v143_0_r0 k0_t2 = 1#1), ∀ a, (k0_off40 v143_0_r0 k0_t2) a + S128x4096.size a ≤ S7168x4096.size a) ∧
  (∀ k0_t2 : Fin (k0_t2_loop v143_0_r0).trips, ∀ (k0_h16 : k0_cond16 v143_0_r0 k0_t2 = 1#1), ∀ (hinb : ∀ a, (k0_off40 v143_0_r0 k0_t2) a + S128x4096.size a ≤ S7168x4096.size a), (Rect.unit (s := S7168x4096) (k0_off40 v143_0_r0 k0_t2) S128x4096.size hinb).WholeWords (EltTy.packing .fp8e4m3)) ∧
  (∀ k0_t2 : Fin (k0_t2_loop v143_0_r0).trips, ∀ (k0_h17 : k0_cond17 v143_0_r0 k0_t2 = 1#1), ∀ a, (k0_off42 v143_0_r0 k0_t2) a + S1.size a ≤ S116.size a) ∧
  (∀ k0_t2 : Fin (k0_t2_loop v143_0_r0).trips, ∀ (k0_h17 : k0_cond17 v143_0_r0 k0_t2 = 1#1), ∀ a, (k0_off43 v143_0_r0 k0_t2) a + S1.size a ≤ S14.size a) ∧
  (∀ k0_t2 : Fin (k0_t2_loop v143_0_r0).trips, ∀ (k0_h17 : k0_cond17 v143_0_r0 k0_t2 = 1#1), ∀ a, (k0_off44 v143_0_r0 k0_t2) a + S128x4096.size a ≤ S7168x4096.size a) ∧
  (∀ k0_t2 : Fin (k0_t2_loop v143_0_r0).trips, ∀ (k0_h17 : k0_cond17 v143_0_r0 k0_t2 = 1#1), ∀ (hinb : ∀ a, (k0_off44 v143_0_r0 k0_t2) a + S128x4096.size a ≤ S7168x4096.size a), (Rect.unit (s := S7168x4096) (k0_off44 v143_0_r0 k0_t2) S128x4096.size hinb).WholeWords (EltTy.packing .fp8e4m3)) ∧
  (∀ k0_t2 : Fin (k0_t2_loop v143_0_r0).trips, ∀ (k0_h18 : k0_cond18 v143_0_r0 k0_t2 = 1#1), ∀ a, (k0_off46 v143_0_r0 k0_t2) a + S1.size a ≤ S116.size a) ∧
  (∀ k0_t2 : Fin (k0_t2_loop v143_0_r0).trips, ∀ (k0_h18 : k0_cond18 v143_0_r0 k0_t2 = 1#1), ∀ a, (k0_off47 v143_0_r0 k0_t2) a + S1.size a ≤ S14.size a) ∧
  (∀ k0_t2 : Fin (k0_t2_loop v143_0_r0).trips, ∀ (k0_h18 : k0_cond18 v143_0_r0 k0_t2 = 1#1), ∀ a, (k0_off48 v143_0_r0 k0_t2) a + S128x4096.size a ≤ S7168x4096.size a) ∧
  (∀ k0_t2 : Fin (k0_t2_loop v143_0_r0).trips, ∀ (k0_h18 : k0_cond18 v143_0_r0 k0_t2 = 1#1), ∀ (hinb : ∀ a, (k0_off48 v143_0_r0 k0_t2) a + S128x4096.size a ≤ S7168x4096.size a), (Rect.unit (s := S7168x4096) (k0_off48 v143_0_r0 k0_t2) S128x4096.size hinb).WholeWords (EltTy.packing .fp8e4m3)) ∧
  (∀ k0_t2 : Fin (k0_t2_loop v143_0_r0).trips, ∀ (k0_h19 : k0_cond19 v143_0_r0 k0_t2 = 1#1), ∀ a, (k0_off50 v143_0_r0 k0_t2) a + S1.size a ≤ S116.size a) ∧
  (∀ k0_t2 : Fin (k0_t2_loop v143_0_r0).trips, ∀ (k0_h19 : k0_cond19 v143_0_r0 k0_t2 = 1#1), ∀ a, (k0_off51 v143_0_r0 k0_t2) a + S1.size a ≤ S14.size a) ∧
  (∀ k0_t2 : Fin (k0_t2_loop v143_0_r0).trips, ∀ (k0_h19 : k0_cond19 v143_0_r0 k0_t2 = 1#1), ∀ a, (k0_off52 v143_0_r0 k0_t2) a + S128x4096.size a ≤ S7168x4096.size a) ∧
  (∀ k0_t2 : Fin (k0_t2_loop v143_0_r0).trips, ∀ (k0_h19 : k0_cond19 v143_0_r0 k0_t2 = 1#1), ∀ (hinb : ∀ a, (k0_off52 v143_0_r0 k0_t2) a + S128x4096.size a ≤ S7168x4096.size a), (Rect.unit (s := S7168x4096) (k0_off52 v143_0_r0 k0_t2) S128x4096.size hinb).WholeWords (EltTy.packing .fp8e4m3)) ∧
  (∀ k0_t2 : Fin (k0_t2_loop v143_0_r0).trips, ∀ a, (k0_off54 v143_0_r0 k0_t2) a + S1.size a ≤ S116.size a) ∧
  (∀ k0_t2 : Fin (k0_t2_loop v143_0_r0).trips, ∀ a, (k0_off56 v143_0_r0 k0_t2) a + S1.size a ≤ S116.size a) ∧
  (∀ k0_t2 : Fin (k0_t2_loop v143_0_r0).trips, ∀ a, (k0_off58 v143_0_r0 k0_t2) a + S1.size a ≤ S116.size a)
def k0_chk9_1 (v143_0_r0 : BitVec 32) : Prop :=
  (∀ k0_t2 : Fin (k0_t2_loop v143_0_r0).trips, ∀ a, (k0_off60 v143_0_r0 k0_t2) a + S1.size a ≤ S116.size a) ∧
  (∀ k0_t2 : Fin (k0_t2_loop v143_0_r0).trips, 512 ∣ (k0_mult9 v143_0_r0 k0_t2).toNat) ∧
  (∀ k0_t2 : Fin (k0_t2_loop v143_0_r0).trips, ∀ a, (k0_off62 v143_0_r0 k0_t2) a + S512x4096.size a ≤ S7168x4096.size a) ∧
  (∀ k0_t2 : Fin (k0_t2_loop v143_0_r0).trips, ∀ (k0_h20 : k0_cond20 v143_0_r0 k0_t2 = 1#1), ∀ a, (k0_off63 v143_0_r0 k0_t2) a + S1.size a ≤ S116.size a) ∧
  (∀ k0_t2 : Fin (k0_t2_loop v143_0_r0).trips, ∀ (k0_h20 : k0_cond20 v143_0_r0 k0_t2 = 1#1), ∀ a, (k0_off64 v143_0_r0 k0_t2) a + S1.size a ≤ S14.size a) ∧
  (∀ k0_t2 : Fin (k0_t2_loop v143_0_r0).trips, ∀ (k0_h20 : k0_cond20 v143_0_r0 k0_t2 = 1#1), ∀ a, (k0_off65 v143_0_r0 k0_t2) a + S128x4096.size a ≤ S7168x4096.size a) ∧
  (∀ k0_t2 : Fin (k0_t2_loop v143_0_r0).trips, ∀ (k0_h20 : k0_cond20 v143_0_r0 k0_t2 = 1#1), ∀ (hinb : ∀ a, (k0_off65 v143_0_r0 k0_t2) a + S128x4096.size a ≤ S7168x4096.size a), (Rect.unit (s := S7168x4096) (k0_off65 v143_0_r0 k0_t2) S128x4096.size hinb).WholeWords (EltTy.packing .fp8e4m3)) ∧
  (∀ k0_t2 : Fin (k0_t2_loop v143_0_r0).trips, ∀ (k0_h21 : k0_cond21 v143_0_r0 k0_t2 = 1#1), ∀ a, (k0_off67 v143_0_r0 k0_t2) a + S1.size a ≤ S116.size a) ∧
  (∀ k0_t2 : Fin (k0_t2_loop v143_0_r0).trips, ∀ (k0_h21 : k0_cond21 v143_0_r0 k0_t2 = 1#1), ∀ a, (k0_off68 v143_0_r0 k0_t2) a + S1.size a ≤ S14.size a) ∧
  (∀ k0_t2 : Fin (k0_t2_loop v143_0_r0).trips, ∀ (k0_h21 : k0_cond21 v143_0_r0 k0_t2 = 1#1), ∀ a, (k0_off69 v143_0_r0 k0_t2) a + S128x4096.size a ≤ S7168x4096.size a) ∧
  (∀ k0_t2 : Fin (k0_t2_loop v143_0_r0).trips, ∀ (k0_h21 : k0_cond21 v143_0_r0 k0_t2 = 1#1), ∀ (hinb : ∀ a, (k0_off69 v143_0_r0 k0_t2) a + S128x4096.size a ≤ S7168x4096.size a), (Rect.unit (s := S7168x4096) (k0_off69 v143_0_r0 k0_t2) S128x4096.size hinb).WholeWords (EltTy.packing .fp8e4m3)) ∧
  (∀ k0_t2 : Fin (k0_t2_loop v143_0_r0).trips, ∀ (k0_h22 : k0_cond22 v143_0_r0 k0_t2 = 1#1), ∀ a, (k0_off71 v143_0_r0 k0_t2) a + S1.size a ≤ S116.size a) ∧
  (∀ k0_t2 : Fin (k0_t2_loop v143_0_r0).trips, ∀ (k0_h22 : k0_cond22 v143_0_r0 k0_t2 = 1#1), ∀ a, (k0_off72 v143_0_r0 k0_t2) a + S1.size a ≤ S14.size a) ∧
  (∀ k0_t2 : Fin (k0_t2_loop v143_0_r0).trips, ∀ (k0_h22 : k0_cond22 v143_0_r0 k0_t2 = 1#1), ∀ a, (k0_off73 v143_0_r0 k0_t2) a + S128x4096.size a ≤ S7168x4096.size a) ∧
  (∀ k0_t2 : Fin (k0_t2_loop v143_0_r0).trips, ∀ (k0_h22 : k0_cond22 v143_0_r0 k0_t2 = 1#1), ∀ (hinb : ∀ a, (k0_off73 v143_0_r0 k0_t2) a + S128x4096.size a ≤ S7168x4096.size a), (Rect.unit (s := S7168x4096) (k0_off73 v143_0_r0 k0_t2) S128x4096.size hinb).WholeWords (EltTy.packing .fp8e4m3)) ∧
  (∀ k0_t2 : Fin (k0_t2_loop v143_0_r0).trips, ∀ (k0_h23 : k0_cond23 v143_0_r0 k0_t2 = 1#1), ∀ a, (k0_off75 v143_0_r0 k0_t2) a + S1.size a ≤ S116.size a) ∧
  (∀ k0_t2 : Fin (k0_t2_loop v143_0_r0).trips, ∀ (k0_h23 : k0_cond23 v143_0_r0 k0_t2 = 1#1), ∀ a, (k0_off76 v143_0_r0 k0_t2) a + S1.size a ≤ S14.size a) ∧
  (∀ k0_t2 : Fin (k0_t2_loop v143_0_r0).trips, ∀ (k0_h23 : k0_cond23 v143_0_r0 k0_t2 = 1#1), ∀ a, (k0_off77 v143_0_r0 k0_t2) a + S128x4096.size a ≤ S7168x4096.size a) ∧
  (∀ k0_t2 : Fin (k0_t2_loop v143_0_r0).trips, ∀ (k0_h23 : k0_cond23 v143_0_r0 k0_t2 = 1#1), ∀ (hinb : ∀ a, (k0_off77 v143_0_r0 k0_t2) a + S128x4096.size a ≤ S7168x4096.size a), (Rect.unit (s := S7168x4096) (k0_off77 v143_0_r0 k0_t2) S128x4096.size hinb).WholeWords (EltTy.packing .fp8e4m3)) ∧
  ((k0_t3_loop v143_0_r0).OK) ∧
  (∀ k0_t3 : Fin (k0_t3_loop v143_0_r0).trips, ∀ (k0_h24 : k0_cond24 v143_0_r0 k0_t3 = 1#1), ∀ a, (k0_off79 v143_0_r0 k0_t3) a + S1.size a ≤ S116.size a) ∧
  (∀ k0_t3 : Fin (k0_t3_loop v143_0_r0).trips, ∀ (k0_h24 : k0_cond24 v143_0_r0 k0_t3 = 1#1), ∀ a, (k0_off80 v143_0_r0 k0_t3) a + S1.size a ≤ S14.size a) ∧
  (∀ k0_t3 : Fin (k0_t3_loop v143_0_r0).trips, ∀ (k0_h24 : k0_cond24 v143_0_r0 k0_t3 = 1#1), ∀ a, (k0_off81 v143_0_r0 k0_t3) a + S128x4096.size a ≤ S7168x4096.size a) ∧
  (∀ k0_t3 : Fin (k0_t3_loop v143_0_r0).trips, ∀ (k0_h24 : k0_cond24 v143_0_r0 k0_t3 = 1#1), ∀ (hinb : ∀ a, (k0_off81 v143_0_r0 k0_t3) a + S128x4096.size a ≤ S7168x4096.size a), (Rect.unit (s := S7168x4096) (k0_off81 v143_0_r0 k0_t3) S128x4096.size hinb).WholeWords (EltTy.packing .fp8e4m3)) ∧
  (∀ k0_t3 : Fin (k0_t3_loop v143_0_r0).trips, ∀ (k0_h25 : k0_cond25 v143_0_r0 k0_t3 = 1#1), ∀ a, (k0_off83 v143_0_r0 k0_t3) a + S1.size a ≤ S116.size a) ∧
  (∀ k0_t3 : Fin (k0_t3_loop v143_0_r0).trips, ∀ (k0_h25 : k0_cond25 v143_0_r0 k0_t3 = 1#1), ∀ a, (k0_off84 v143_0_r0 k0_t3) a + S1.size a ≤ S14.size a) ∧
  (∀ k0_t3 : Fin (k0_t3_loop v143_0_r0).trips, ∀ (k0_h25 : k0_cond25 v143_0_r0 k0_t3 = 1#1), ∀ a, (k0_off85 v143_0_r0 k0_t3) a + S128x4096.size a ≤ S7168x4096.size a) ∧
  (∀ k0_t3 : Fin (k0_t3_loop v143_0_r0).trips, ∀ (k0_h25 : k0_cond25 v143_0_r0 k0_t3 = 1#1), ∀ (hinb : ∀ a, (k0_off85 v143_0_r0 k0_t3) a + S128x4096.size a ≤ S7168x4096.size a), (Rect.unit (s := S7168x4096) (k0_off85 v143_0_r0 k0_t3) S128x4096.size hinb).WholeWords (EltTy.packing .fp8e4m3)) ∧
  (∀ k0_t3 : Fin (k0_t3_loop v143_0_r0).trips, ∀ (k0_h26 : k0_cond26 v143_0_r0 k0_t3 = 1#1), ∀ a, (k0_off87 v143_0_r0 k0_t3) a + S1.size a ≤ S116.size a) ∧
  (∀ k0_t3 : Fin (k0_t3_loop v143_0_r0).trips, ∀ (k0_h26 : k0_cond26 v143_0_r0 k0_t3 = 1#1), ∀ a, (k0_off88 v143_0_r0 k0_t3) a + S1.size a ≤ S14.size a) ∧
  (∀ k0_t3 : Fin (k0_t3_loop v143_0_r0).trips, ∀ (k0_h26 : k0_cond26 v143_0_r0 k0_t3 = 1#1), ∀ a, (k0_off89 v143_0_r0 k0_t3) a + S128x4096.size a ≤ S7168x4096.size a) ∧
  (∀ k0_t3 : Fin (k0_t3_loop v143_0_r0).trips, ∀ (k0_h26 : k0_cond26 v143_0_r0 k0_t3 = 1#1), ∀ (hinb : ∀ a, (k0_off89 v143_0_r0 k0_t3) a + S128x4096.size a ≤ S7168x4096.size a), (Rect.unit (s := S7168x4096) (k0_off89 v143_0_r0 k0_t3) S128x4096.size hinb).WholeWords (EltTy.packing .fp8e4m3))
def k0_chk9_2 (v143_0_r0 : BitVec 32) : Prop :=
  (∀ k0_t3 : Fin (k0_t3_loop v143_0_r0).trips, ∀ (k0_h27 : k0_cond27 v143_0_r0 k0_t3 = 1#1), ∀ a, (k0_off91 v143_0_r0 k0_t3) a + S1.size a ≤ S116.size a) ∧
  (∀ k0_t3 : Fin (k0_t3_loop v143_0_r0).trips, ∀ (k0_h27 : k0_cond27 v143_0_r0 k0_t3 = 1#1), ∀ a, (k0_off92 v143_0_r0 k0_t3) a + S1.size a ≤ S14.size a) ∧
  (∀ k0_t3 : Fin (k0_t3_loop v143_0_r0).trips, ∀ (k0_h27 : k0_cond27 v143_0_r0 k0_t3 = 1#1), ∀ a, (k0_off93 v143_0_r0 k0_t3) a + S128x4096.size a ≤ S7168x4096.size a) ∧
  (∀ k0_t3 : Fin (k0_t3_loop v143_0_r0).trips, ∀ (k0_h27 : k0_cond27 v143_0_r0 k0_t3 = 1#1), ∀ (hinb : ∀ a, (k0_off93 v143_0_r0 k0_t3) a + S128x4096.size a ≤ S7168x4096.size a), (Rect.unit (s := S7168x4096) (k0_off93 v143_0_r0 k0_t3) S128x4096.size hinb).WholeWords (EltTy.packing .fp8e4m3)) ∧
  (∀ k0_t3 : Fin (k0_t3_loop v143_0_r0).trips, ∀ a, (k0_off95 v143_0_r0 k0_t3) a + S1.size a ≤ S116.size a) ∧
  (∀ k0_t3 : Fin (k0_t3_loop v143_0_r0).trips, ∀ a, (k0_off97 v143_0_r0 k0_t3) a + S1.size a ≤ S116.size a) ∧
  (∀ k0_t3 : Fin (k0_t3_loop v143_0_r0).trips, ∀ a, (k0_off99 v143_0_r0 k0_t3) a + S1.size a ≤ S116.size a) ∧
  (∀ k0_t3 : Fin (k0_t3_loop v143_0_r0).trips, ∀ a, (k0_off101 v143_0_r0 k0_t3) a + S1.size a ≤ S116.size a) ∧
  (∀ k0_t3 : Fin (k0_t3_loop v143_0_r0).trips, 512 ∣ (k0_mult14 v143_0_r0 k0_t3).toNat) ∧
  (∀ k0_t3 : Fin (k0_t3_loop v143_0_r0).trips, ∀ a, (k0_off103 v143_0_r0 k0_t3) a + S512x4096.size a ≤ S7168x4096.size a) ∧
  (∀ k0_t3 : Fin (k0_t3_loop v143_0_r0).trips, ∀ (k0_h28 : k0_cond28 v143_0_r0 k0_t3 = 1#1), ∀ a, (k0_off104 v143_0_r0 k0_t3) a + S1.size a ≤ S116.size a) ∧
  (∀ k0_t3 : Fin (k0_t3_loop v143_0_r0).trips, ∀ (k0_h28 : k0_cond28 v143_0_r0 k0_t3 = 1#1), ∀ a, (k0_off105 v143_0_r0 k0_t3) a + S1.size a ≤ S14.size a) ∧
  (∀ k0_t3 : Fin (k0_t3_loop v143_0_r0).trips, ∀ (k0_h28 : k0_cond28 v143_0_r0 k0_t3 = 1#1), ∀ a, (k0_off106 v143_0_r0 k0_t3) a + S128x4096.size a ≤ S7168x4096.size a) ∧
  (∀ k0_t3 : Fin (k0_t3_loop v143_0_r0).trips, ∀ (k0_h28 : k0_cond28 v143_0_r0 k0_t3 = 1#1), ∀ (hinb : ∀ a, (k0_off106 v143_0_r0 k0_t3) a + S128x4096.size a ≤ S7168x4096.size a), (Rect.unit (s := S7168x4096) (k0_off106 v143_0_r0 k0_t3) S128x4096.size hinb).WholeWords (EltTy.packing .fp8e4m3)) ∧
  (∀ k0_t3 : Fin (k0_t3_loop v143_0_r0).trips, ∀ (k0_h29 : k0_cond29 v143_0_r0 k0_t3 = 1#1), ∀ a, (k0_off108 v143_0_r0 k0_t3) a + S1.size a ≤ S116.size a) ∧
  (∀ k0_t3 : Fin (k0_t3_loop v143_0_r0).trips, ∀ (k0_h29 : k0_cond29 v143_0_r0 k0_t3 = 1#1), ∀ a, (k0_off109 v143_0_r0 k0_t3) a + S1.size a ≤ S14.size a) ∧
  (∀ k0_t3 : Fin (k0_t3_loop v143_0_r0).trips, ∀ (k0_h29 : k0_cond29 v143_0_r0 k0_t3 = 1#1), ∀ a, (k0_off110 v143_0_r0 k0_t3) a + S128x4096.size a ≤ S7168x4096.size a) ∧
  (∀ k0_t3 : Fin (k0_t3_loop v143_0_r0).trips, ∀ (k0_h29 : k0_cond29 v143_0_r0 k0_t3 = 1#1), ∀ (hinb : ∀ a, (k0_off110 v143_0_r0 k0_t3) a + S128x4096.size a ≤ S7168x4096.size a), (Rect.unit (s := S7168x4096) (k0_off110 v143_0_r0 k0_t3) S128x4096.size hinb).WholeWords (EltTy.packing .fp8e4m3)) ∧
  (∀ k0_t3 : Fin (k0_t3_loop v143_0_r0).trips, ∀ (k0_h30 : k0_cond30 v143_0_r0 k0_t3 = 1#1), ∀ a, (k0_off112 v143_0_r0 k0_t3) a + S1.size a ≤ S116.size a) ∧
  (∀ k0_t3 : Fin (k0_t3_loop v143_0_r0).trips, ∀ (k0_h30 : k0_cond30 v143_0_r0 k0_t3 = 1#1), ∀ a, (k0_off113 v143_0_r0 k0_t3) a + S1.size a ≤ S14.size a) ∧
  (∀ k0_t3 : Fin (k0_t3_loop v143_0_r0).trips, ∀ (k0_h30 : k0_cond30 v143_0_r0 k0_t3 = 1#1), ∀ a, (k0_off114 v143_0_r0 k0_t3) a + S128x4096.size a ≤ S7168x4096.size a) ∧
  (∀ k0_t3 : Fin (k0_t3_loop v143_0_r0).trips, ∀ (k0_h30 : k0_cond30 v143_0_r0 k0_t3 = 1#1), ∀ (hinb : ∀ a, (k0_off114 v143_0_r0 k0_t3) a + S128x4096.size a ≤ S7168x4096.size a), (Rect.unit (s := S7168x4096) (k0_off114 v143_0_r0 k0_t3) S128x4096.size hinb).WholeWords (EltTy.packing .fp8e4m3)) ∧
  (∀ k0_t3 : Fin (k0_t3_loop v143_0_r0).trips, ∀ (k0_h31 : k0_cond31 v143_0_r0 k0_t3 = 1#1), ∀ a, (k0_off116 v143_0_r0 k0_t3) a + S1.size a ≤ S116.size a) ∧
  (∀ k0_t3 : Fin (k0_t3_loop v143_0_r0).trips, ∀ (k0_h31 : k0_cond31 v143_0_r0 k0_t3 = 1#1), ∀ a, (k0_off117 v143_0_r0 k0_t3) a + S1.size a ≤ S14.size a) ∧
  (∀ k0_t3 : Fin (k0_t3_loop v143_0_r0).trips, ∀ (k0_h31 : k0_cond31 v143_0_r0 k0_t3 = 1#1), ∀ a, (k0_off118 v143_0_r0 k0_t3) a + S128x4096.size a ≤ S7168x4096.size a) ∧
  (∀ k0_t3 : Fin (k0_t3_loop v143_0_r0).trips, ∀ (k0_h31 : k0_cond31 v143_0_r0 k0_t3 = 1#1), ∀ (hinb : ∀ a, (k0_off118 v143_0_r0 k0_t3) a + S128x4096.size a ≤ S7168x4096.size a), (Rect.unit (s := S7168x4096) (k0_off118 v143_0_r0 k0_t3) S128x4096.size hinb).WholeWords (EltTy.packing .fp8e4m3))
def k0_chk9 (v143_0_r0 : BitVec 32) : Prop :=
  k0_chk9_0 v143_0_r0 ∧
  k0_chk9_1 v143_0_r0 ∧
  k0_chk9_2 v143_0_r0
theorem k0_off32_inb : ∀ (v143_0_r0 : BitVec 32) (k0_hw9 : k0_chk9 v143_0_r0), ∀ (k0_h10 : k0_cond10 v143_0_r0 = 1#1), ∀ a, (k0_off32 v143_0_r0) a + S1.size a ≤ S116.size a := fun v143_0_r0 k0_hw9 k0_h10 => k0_hw9.1.1 k0_h10
theorem k0_mult2_dvd : ∀ (v143_0_r0 : BitVec 32) (k0_hw9 : k0_chk9 v143_0_r0), ∀ (k0_h11 : k0_cond11 v143_0_r0 = 1#1), 128 ∣ (k0_mult2 v143_0_r0).toNat := fun v143_0_r0 k0_hw9 k0_h11 => k0_hw9.1.2.1 k0_h11
theorem k0_off33_inb : ∀ (v143_0_r0 : BitVec 32) (k0_hw9 : k0_chk9 v143_0_r0), ∀ (k0_h11 : k0_cond11 v143_0_r0 = 1#1), ∀ a, (k0_off33 v143_0_r0) a + S128x4096.size a ≤ S7168x4096.size a := fun v143_0_r0 k0_hw9 k0_h11 => k0_hw9.1.2.2.1 k0_h11
theorem k0_off33_packedfp8e4m3 : ∀ (v143_0_r0 : BitVec 32) (k0_hw9 : k0_chk9 v143_0_r0), ∀ (k0_h11 : k0_cond11 v143_0_r0 = 1#1), (Rect.unit (s := S7168x4096) (k0_off33 v143_0_r0) S128x4096.size (k0_off33_inb v143_0_r0 k0_hw9 k0_h11)).PackedRows (EltTy.packing .fp8e4m3) := fun v143_0_r0 k0_hw9 k0_h11 => k0_hw9.1.2.2.2.1 k0_h11 (k0_off33_inb v143_0_r0 k0_hw9 k0_h11)
theorem k0_off34_inb : ∀ (v143_0_r0 : BitVec 32) (k0_hw9 : k0_chk9 v143_0_r0), ∀ (k0_h12 : k0_cond12 v143_0_r0 = 1#1), ∀ a, (k0_off34 v143_0_r0) a + S1.size a ≤ S116.size a := fun v143_0_r0 k0_hw9 k0_h12 => k0_hw9.1.2.2.2.2.1 k0_h12
theorem k0_mult3_dvd : ∀ (v143_0_r0 : BitVec 32) (k0_hw9 : k0_chk9 v143_0_r0), ∀ (k0_h13 : k0_cond13 v143_0_r0 = 1#1), 128 ∣ (k0_mult3 v143_0_r0).toNat := fun v143_0_r0 k0_hw9 k0_h13 => k0_hw9.1.2.2.2.2.2.1 k0_h13
theorem k0_off35_inb : ∀ (v143_0_r0 : BitVec 32) (k0_hw9 : k0_chk9 v143_0_r0), ∀ (k0_h13 : k0_cond13 v143_0_r0 = 1#1), ∀ a, (k0_off35 v143_0_r0) a + S128x4096.size a ≤ S7168x4096.size a := fun v143_0_r0 k0_hw9 k0_h13 => k0_hw9.1.2.2.2.2.2.2.1 k0_h13
theorem k0_off35_packedfp8e4m3 : ∀ (v143_0_r0 : BitVec 32) (k0_hw9 : k0_chk9 v143_0_r0), ∀ (k0_h13 : k0_cond13 v143_0_r0 = 1#1), (Rect.unit (s := S7168x4096) (k0_off35 v143_0_r0) S128x4096.size (k0_off35_inb v143_0_r0 k0_hw9 k0_h13)).PackedRows (EltTy.packing .fp8e4m3) := fun v143_0_r0 k0_hw9 k0_h13 => k0_hw9.1.2.2.2.2.2.2.2.1 k0_h13 (k0_off35_inb v143_0_r0 k0_hw9 k0_h13)
theorem k0_off36_inb : ∀ (v143_0_r0 : BitVec 32) (k0_hw9 : k0_chk9 v143_0_r0), ∀ (k0_h14 : k0_cond14 v143_0_r0 = 1#1), ∀ a, (k0_off36 v143_0_r0) a + S1.size a ≤ S116.size a := fun v143_0_r0 k0_hw9 k0_h14 => k0_hw9.1.2.2.2.2.2.2.2.2.1 k0_h14
theorem k0_mult4_dvd : ∀ (v143_0_r0 : BitVec 32) (k0_hw9 : k0_chk9 v143_0_r0), ∀ (k0_h15 : k0_cond15 v143_0_r0 = 1#1), 128 ∣ (k0_mult4 v143_0_r0).toNat := fun v143_0_r0 k0_hw9 k0_h15 => k0_hw9.1.2.2.2.2.2.2.2.2.2.1 k0_h15
theorem k0_off37_inb : ∀ (v143_0_r0 : BitVec 32) (k0_hw9 : k0_chk9 v143_0_r0), ∀ (k0_h15 : k0_cond15 v143_0_r0 = 1#1), ∀ a, (k0_off37 v143_0_r0) a + S128x4096.size a ≤ S7168x4096.size a := fun v143_0_r0 k0_hw9 k0_h15 => k0_hw9.1.2.2.2.2.2.2.2.2.2.2.1 k0_h15
theorem k0_off37_packedfp8e4m3 : ∀ (v143_0_r0 : BitVec 32) (k0_hw9 : k0_chk9 v143_0_r0), ∀ (k0_h15 : k0_cond15 v143_0_r0 = 1#1), (Rect.unit (s := S7168x4096) (k0_off37 v143_0_r0) S128x4096.size (k0_off37_inb v143_0_r0 k0_hw9 k0_h15)).PackedRows (EltTy.packing .fp8e4m3) := fun v143_0_r0 k0_hw9 k0_h15 => k0_hw9.1.2.2.2.2.2.2.2.2.2.2.2.1 k0_h15 (k0_off37_inb v143_0_r0 k0_hw9 k0_h15)
theorem k0_t2_ok : ∀ (v143_0_r0 : BitVec 32) (k0_hw9 : k0_chk9 v143_0_r0), (k0_t2_loop v143_0_r0).OK := fun v143_0_r0 k0_hw9 => k0_hw9.1.2.2.2.2.2.2.2.2.2.2.2.2.1
theorem k0_off38_inb : ∀ (v143_0_r0 : BitVec 32) (k0_hw9 : k0_chk9 v143_0_r0) (k0_t2 : Fin (k0_t2_loop v143_0_r0).trips), ∀ (k0_h16 : k0_cond16 v143_0_r0 k0_t2 = 1#1), ∀ a, (k0_off38 v143_0_r0 k0_t2) a + S1.size a ≤ S116.size a := fun v143_0_r0 k0_hw9 k0_t2 k0_h16 => k0_hw9.1.2.2.2.2.2.2.2.2.2.2.2.2.2.1 k0_t2 k0_h16
theorem k0_off39_inb : ∀ (v143_0_r0 : BitVec 32) (k0_hw9 : k0_chk9 v143_0_r0) (k0_t2 : Fin (k0_t2_loop v143_0_r0).trips), ∀ (k0_h16 : k0_cond16 v143_0_r0 k0_t2 = 1#1), ∀ a, (k0_off39 v143_0_r0 k0_t2) a + S1.size a ≤ S14.size a := fun v143_0_r0 k0_hw9 k0_t2 k0_h16 => k0_hw9.1.2.2.2.2.2.2.2.2.2.2.2.2.2.2.1 k0_t2 k0_h16
theorem k0_off40_inb : ∀ (v143_0_r0 : BitVec 32) (k0_hw9 : k0_chk9 v143_0_r0) (k0_t2 : Fin (k0_t2_loop v143_0_r0).trips), ∀ (k0_h16 : k0_cond16 v143_0_r0 k0_t2 = 1#1), ∀ a, (k0_off40 v143_0_r0 k0_t2) a + S128x4096.size a ≤ S7168x4096.size a := fun v143_0_r0 k0_hw9 k0_t2 k0_h16 => k0_hw9.1.2.2.2.2.2.2.2.2.2.2.2.2.2.2.2.1 k0_t2 k0_h16
theorem k0_off40_wordsfp8e4m3 : ∀ (v143_0_r0 : BitVec 32) (k0_hw9 : k0_chk9 v143_0_r0) (k0_t2 : Fin (k0_t2_loop v143_0_r0).trips), ∀ (k0_h16 : k0_cond16 v143_0_r0 k0_t2 = 1#1), (Rect.unit (s := S7168x4096) (k0_off40 v143_0_r0 k0_t2) S128x4096.size (k0_off40_inb v143_0_r0 k0_hw9 k0_t2 k0_h16)).WholeWords (EltTy.packing .fp8e4m3) := fun v143_0_r0 k0_hw9 k0_t2 k0_h16 => k0_hw9.1.2.2.2.2.2.2.2.2.2.2.2.2.2.2.2.2.1 k0_t2 k0_h16 (k0_off40_inb v143_0_r0 k0_hw9 k0_t2 k0_h16)
theorem k0_off42_inb : ∀ (v143_0_r0 : BitVec 32) (k0_hw9 : k0_chk9 v143_0_r0) (k0_t2 : Fin (k0_t2_loop v143_0_r0).trips), ∀ (k0_h17 : k0_cond17 v143_0_r0 k0_t2 = 1#1), ∀ a, (k0_off42 v143_0_r0 k0_t2) a + S1.size a ≤ S116.size a := fun v143_0_r0 k0_hw9 k0_t2 k0_h17 => k0_hw9.1.2.2.2.2.2.2.2.2.2.2.2.2.2.2.2.2.2.1 k0_t2 k0_h17
theorem k0_off43_inb : ∀ (v143_0_r0 : BitVec 32) (k0_hw9 : k0_chk9 v143_0_r0) (k0_t2 : Fin (k0_t2_loop v143_0_r0).trips), ∀ (k0_h17 : k0_cond17 v143_0_r0 k0_t2 = 1#1), ∀ a, (k0_off43 v143_0_r0 k0_t2) a + S1.size a ≤ S14.size a := fun v143_0_r0 k0_hw9 k0_t2 k0_h17 => k0_hw9.1.2.2.2.2.2.2.2.2.2.2.2.2.2.2.2.2.2.2.1 k0_t2 k0_h17
theorem k0_off44_inb : ∀ (v143_0_r0 : BitVec 32) (k0_hw9 : k0_chk9 v143_0_r0) (k0_t2 : Fin (k0_t2_loop v143_0_r0).trips), ∀ (k0_h17 : k0_cond17 v143_0_r0 k0_t2 = 1#1), ∀ a, (k0_off44 v143_0_r0 k0_t2) a + S128x4096.size a ≤ S7168x4096.size a := fun v143_0_r0 k0_hw9 k0_t2 k0_h17 => k0_hw9.1.2.2.2.2.2.2.2.2.2.2.2.2.2.2.2.2.2.2.2.1 k0_t2 k0_h17
theorem k0_off44_wordsfp8e4m3 : ∀ (v143_0_r0 : BitVec 32) (k0_hw9 : k0_chk9 v143_0_r0) (k0_t2 : Fin (k0_t2_loop v143_0_r0).trips), ∀ (k0_h17 : k0_cond17 v143_0_r0 k0_t2 = 1#1), (Rect.unit (s := S7168x4096) (k0_off44 v143_0_r0 k0_t2) S128x4096.size (k0_off44_inb v143_0_r0 k0_hw9 k0_t2 k0_h17)).WholeWords (EltTy.packing .fp8e4m3) := fun v143_0_r0 k0_hw9 k0_t2 k0_h17 => k0_hw9.1.2.2.2.2.2.2.2.2.2.2.2.2.2.2.2.2.2.2.2.2.1 k0_t2 k0_h17 (k0_off44_inb v143_0_r0 k0_hw9 k0_t2 k0_h17)
theorem k0_off46_inb : ∀ (v143_0_r0 : BitVec 32) (k0_hw9 : k0_chk9 v143_0_r0) (k0_t2 : Fin (k0_t2_loop v143_0_r0).trips), ∀ (k0_h18 : k0_cond18 v143_0_r0 k0_t2 = 1#1), ∀ a, (k0_off46 v143_0_r0 k0_t2) a + S1.size a ≤ S116.size a := fun v143_0_r0 k0_hw9 k0_t2 k0_h18 => k0_hw9.1.2.2.2.2.2.2.2.2.2.2.2.2.2.2.2.2.2.2.2.2.2.1 k0_t2 k0_h18
theorem k0_off47_inb : ∀ (v143_0_r0 : BitVec 32) (k0_hw9 : k0_chk9 v143_0_r0) (k0_t2 : Fin (k0_t2_loop v143_0_r0).trips), ∀ (k0_h18 : k0_cond18 v143_0_r0 k0_t2 = 1#1), ∀ a, (k0_off47 v143_0_r0 k0_t2) a + S1.size a ≤ S14.size a := fun v143_0_r0 k0_hw9 k0_t2 k0_h18 => k0_hw9.1.2.2.2.2.2.2.2.2.2.2.2.2.2.2.2.2.2.2.2.2.2.2.1 k0_t2 k0_h18
theorem k0_off48_inb : ∀ (v143_0_r0 : BitVec 32) (k0_hw9 : k0_chk9 v143_0_r0) (k0_t2 : Fin (k0_t2_loop v143_0_r0).trips), ∀ (k0_h18 : k0_cond18 v143_0_r0 k0_t2 = 1#1), ∀ a, (k0_off48 v143_0_r0 k0_t2) a + S128x4096.size a ≤ S7168x4096.size a := fun v143_0_r0 k0_hw9 k0_t2 k0_h18 => k0_hw9.1.2.2.2.2.2.2.2.2.2.2.2.2.2.2.2.2.2.2.2.2.2.2.2.1 k0_t2 k0_h18
theorem k0_off48_wordsfp8e4m3 : ∀ (v143_0_r0 : BitVec 32) (k0_hw9 : k0_chk9 v143_0_r0) (k0_t2 : Fin (k0_t2_loop v143_0_r0).trips), ∀ (k0_h18 : k0_cond18 v143_0_r0 k0_t2 = 1#1), (Rect.unit (s := S7168x4096) (k0_off48 v143_0_r0 k0_t2) S128x4096.size (k0_off48_inb v143_0_r0 k0_hw9 k0_t2 k0_h18)).WholeWords (EltTy.packing .fp8e4m3) := fun v143_0_r0 k0_hw9 k0_t2 k0_h18 => k0_hw9.1.2.2.2.2.2.2.2.2.2.2.2.2.2.2.2.2.2.2.2.2.2.2.2.2.1 k0_t2 k0_h18 (k0_off48_inb v143_0_r0 k0_hw9 k0_t2 k0_h18)
theorem k0_off50_inb : ∀ (v143_0_r0 : BitVec 32) (k0_hw9 : k0_chk9 v143_0_r0) (k0_t2 : Fin (k0_t2_loop v143_0_r0).trips), ∀ (k0_h19 : k0_cond19 v143_0_r0 k0_t2 = 1#1), ∀ a, (k0_off50 v143_0_r0 k0_t2) a + S1.size a ≤ S116.size a := fun v143_0_r0 k0_hw9 k0_t2 k0_h19 => k0_hw9.1.2.2.2.2.2.2.2.2.2.2.2.2.2.2.2.2.2.2.2.2.2.2.2.2.2.1 k0_t2 k0_h19
theorem k0_off51_inb : ∀ (v143_0_r0 : BitVec 32) (k0_hw9 : k0_chk9 v143_0_r0) (k0_t2 : Fin (k0_t2_loop v143_0_r0).trips), ∀ (k0_h19 : k0_cond19 v143_0_r0 k0_t2 = 1#1), ∀ a, (k0_off51 v143_0_r0 k0_t2) a + S1.size a ≤ S14.size a := fun v143_0_r0 k0_hw9 k0_t2 k0_h19 => k0_hw9.1.2.2.2.2.2.2.2.2.2.2.2.2.2.2.2.2.2.2.2.2.2.2.2.2.2.2.1 k0_t2 k0_h19
theorem k0_off52_inb : ∀ (v143_0_r0 : BitVec 32) (k0_hw9 : k0_chk9 v143_0_r0) (k0_t2 : Fin (k0_t2_loop v143_0_r0).trips), ∀ (k0_h19 : k0_cond19 v143_0_r0 k0_t2 = 1#1), ∀ a, (k0_off52 v143_0_r0 k0_t2) a + S128x4096.size a ≤ S7168x4096.size a := fun v143_0_r0 k0_hw9 k0_t2 k0_h19 => k0_hw9.1.2.2.2.2.2.2.2.2.2.2.2.2.2.2.2.2.2.2.2.2.2.2.2.2.2.2.2.1 k0_t2 k0_h19
theorem k0_off52_wordsfp8e4m3 : ∀ (v143_0_r0 : BitVec 32) (k0_hw9 : k0_chk9 v143_0_r0) (k0_t2 : Fin (k0_t2_loop v143_0_r0).trips), ∀ (k0_h19 : k0_cond19 v143_0_r0 k0_t2 = 1#1), (Rect.unit (s := S7168x4096) (k0_off52 v143_0_r0 k0_t2) S128x4096.size (k0_off52_inb v143_0_r0 k0_hw9 k0_t2 k0_h19)).WholeWords (EltTy.packing .fp8e4m3) := fun v143_0_r0 k0_hw9 k0_t2 k0_h19 => k0_hw9.1.2.2.2.2.2.2.2.2.2.2.2.2.2.2.2.2.2.2.2.2.2.2.2.2.2.2.2.2.1 k0_t2 k0_h19 (k0_off52_inb v143_0_r0 k0_hw9 k0_t2 k0_h19)
theorem k0_off54_inb : ∀ (v143_0_r0 : BitVec 32) (k0_hw9 : k0_chk9 v143_0_r0) (k0_t2 : Fin (k0_t2_loop v143_0_r0).trips), ∀ a, (k0_off54 v143_0_r0 k0_t2) a + S1.size a ≤ S116.size a := fun v143_0_r0 k0_hw9 k0_t2 => k0_hw9.1.2.2.2.2.2.2.2.2.2.2.2.2.2.2.2.2.2.2.2.2.2.2.2.2.2.2.2.2.2.1 k0_t2
theorem k0_off56_inb : ∀ (v143_0_r0 : BitVec 32) (k0_hw9 : k0_chk9 v143_0_r0) (k0_t2 : Fin (k0_t2_loop v143_0_r0).trips), ∀ a, (k0_off56 v143_0_r0 k0_t2) a + S1.size a ≤ S116.size a := fun v143_0_r0 k0_hw9 k0_t2 => k0_hw9.1.2.2.2.2.2.2.2.2.2.2.2.2.2.2.2.2.2.2.2.2.2.2.2.2.2.2.2.2.2.2.1 k0_t2
theorem k0_off58_inb : ∀ (v143_0_r0 : BitVec 32) (k0_hw9 : k0_chk9 v143_0_r0) (k0_t2 : Fin (k0_t2_loop v143_0_r0).trips), ∀ a, (k0_off58 v143_0_r0 k0_t2) a + S1.size a ≤ S116.size a := fun v143_0_r0 k0_hw9 k0_t2 => k0_hw9.1.2.2.2.2.2.2.2.2.2.2.2.2.2.2.2.2.2.2.2.2.2.2.2.2.2.2.2.2.2.2.2 k0_t2
theorem k0_off60_inb : ∀ (v143_0_r0 : BitVec 32) (k0_hw9 : k0_chk9 v143_0_r0) (k0_t2 : Fin (k0_t2_loop v143_0_r0).trips), ∀ a, (k0_off60 v143_0_r0 k0_t2) a + S1.size a ≤ S116.size a := fun v143_0_r0 k0_hw9 k0_t2 => k0_hw9.2.1.1 k0_t2
theorem k0_mult9_dvd : ∀ (v143_0_r0 : BitVec 32) (k0_hw9 : k0_chk9 v143_0_r0) (k0_t2 : Fin (k0_t2_loop v143_0_r0).trips), 512 ∣ (k0_mult9 v143_0_r0 k0_t2).toNat := fun v143_0_r0 k0_hw9 k0_t2 => k0_hw9.2.1.2.1 k0_t2
theorem k0_off62_inb : ∀ (v143_0_r0 : BitVec 32) (k0_hw9 : k0_chk9 v143_0_r0) (k0_t2 : Fin (k0_t2_loop v143_0_r0).trips), ∀ a, (k0_off62 v143_0_r0 k0_t2) a + S512x4096.size a ≤ S7168x4096.size a := fun v143_0_r0 k0_hw9 k0_t2 => k0_hw9.2.1.2.2.1 k0_t2
theorem k0_off63_inb : ∀ (v143_0_r0 : BitVec 32) (k0_hw9 : k0_chk9 v143_0_r0) (k0_t2 : Fin (k0_t2_loop v143_0_r0).trips), ∀ (k0_h20 : k0_cond20 v143_0_r0 k0_t2 = 1#1), ∀ a, (k0_off63 v143_0_r0 k0_t2) a + S1.size a ≤ S116.size a := fun v143_0_r0 k0_hw9 k0_t2 k0_h20 => k0_hw9.2.1.2.2.2.1 k0_t2 k0_h20
theorem k0_off64_inb : ∀ (v143_0_r0 : BitVec 32) (k0_hw9 : k0_chk9 v143_0_r0) (k0_t2 : Fin (k0_t2_loop v143_0_r0).trips), ∀ (k0_h20 : k0_cond20 v143_0_r0 k0_t2 = 1#1), ∀ a, (k0_off64 v143_0_r0 k0_t2) a + S1.size a ≤ S14.size a := fun v143_0_r0 k0_hw9 k0_t2 k0_h20 => k0_hw9.2.1.2.2.2.2.1 k0_t2 k0_h20
theorem k0_off65_inb : ∀ (v143_0_r0 : BitVec 32) (k0_hw9 : k0_chk9 v143_0_r0) (k0_t2 : Fin (k0_t2_loop v143_0_r0).trips), ∀ (k0_h20 : k0_cond20 v143_0_r0 k0_t2 = 1#1), ∀ a, (k0_off65 v143_0_r0 k0_t2) a + S128x4096.size a ≤ S7168x4096.size a := fun v143_0_r0 k0_hw9 k0_t2 k0_h20 => k0_hw9.2.1.2.2.2.2.2.1 k0_t2 k0_h20
theorem k0_off65_wordsfp8e4m3 : ∀ (v143_0_r0 : BitVec 32) (k0_hw9 : k0_chk9 v143_0_r0) (k0_t2 : Fin (k0_t2_loop v143_0_r0).trips), ∀ (k0_h20 : k0_cond20 v143_0_r0 k0_t2 = 1#1), (Rect.unit (s := S7168x4096) (k0_off65 v143_0_r0 k0_t2) S128x4096.size (k0_off65_inb v143_0_r0 k0_hw9 k0_t2 k0_h20)).WholeWords (EltTy.packing .fp8e4m3) := fun v143_0_r0 k0_hw9 k0_t2 k0_h20 => k0_hw9.2.1.2.2.2.2.2.2.1 k0_t2 k0_h20 (k0_off65_inb v143_0_r0 k0_hw9 k0_t2 k0_h20)
theorem k0_off67_inb : ∀ (v143_0_r0 : BitVec 32) (k0_hw9 : k0_chk9 v143_0_r0) (k0_t2 : Fin (k0_t2_loop v143_0_r0).trips), ∀ (k0_h21 : k0_cond21 v143_0_r0 k0_t2 = 1#1), ∀ a, (k0_off67 v143_0_r0 k0_t2) a + S1.size a ≤ S116.size a := fun v143_0_r0 k0_hw9 k0_t2 k0_h21 => k0_hw9.2.1.2.2.2.2.2.2.2.1 k0_t2 k0_h21
theorem k0_off68_inb : ∀ (v143_0_r0 : BitVec 32) (k0_hw9 : k0_chk9 v143_0_r0) (k0_t2 : Fin (k0_t2_loop v143_0_r0).trips), ∀ (k0_h21 : k0_cond21 v143_0_r0 k0_t2 = 1#1), ∀ a, (k0_off68 v143_0_r0 k0_t2) a + S1.size a ≤ S14.size a := fun v143_0_r0 k0_hw9 k0_t2 k0_h21 => k0_hw9.2.1.2.2.2.2.2.2.2.2.1 k0_t2 k0_h21
theorem k0_off69_inb : ∀ (v143_0_r0 : BitVec 32) (k0_hw9 : k0_chk9 v143_0_r0) (k0_t2 : Fin (k0_t2_loop v143_0_r0).trips), ∀ (k0_h21 : k0_cond21 v143_0_r0 k0_t2 = 1#1), ∀ a, (k0_off69 v143_0_r0 k0_t2) a + S128x4096.size a ≤ S7168x4096.size a := fun v143_0_r0 k0_hw9 k0_t2 k0_h21 => k0_hw9.2.1.2.2.2.2.2.2.2.2.2.1 k0_t2 k0_h21
theorem k0_off69_wordsfp8e4m3 : ∀ (v143_0_r0 : BitVec 32) (k0_hw9 : k0_chk9 v143_0_r0) (k0_t2 : Fin (k0_t2_loop v143_0_r0).trips), ∀ (k0_h21 : k0_cond21 v143_0_r0 k0_t2 = 1#1), (Rect.unit (s := S7168x4096) (k0_off69 v143_0_r0 k0_t2) S128x4096.size (k0_off69_inb v143_0_r0 k0_hw9 k0_t2 k0_h21)).WholeWords (EltTy.packing .fp8e4m3) := fun v143_0_r0 k0_hw9 k0_t2 k0_h21 => k0_hw9.2.1.2.2.2.2.2.2.2.2.2.2.1 k0_t2 k0_h21 (k0_off69_inb v143_0_r0 k0_hw9 k0_t2 k0_h21)
theorem k0_off71_inb : ∀ (v143_0_r0 : BitVec 32) (k0_hw9 : k0_chk9 v143_0_r0) (k0_t2 : Fin (k0_t2_loop v143_0_r0).trips), ∀ (k0_h22 : k0_cond22 v143_0_r0 k0_t2 = 1#1), ∀ a, (k0_off71 v143_0_r0 k0_t2) a + S1.size a ≤ S116.size a := fun v143_0_r0 k0_hw9 k0_t2 k0_h22 => k0_hw9.2.1.2.2.2.2.2.2.2.2.2.2.2.1 k0_t2 k0_h22
theorem k0_off72_inb : ∀ (v143_0_r0 : BitVec 32) (k0_hw9 : k0_chk9 v143_0_r0) (k0_t2 : Fin (k0_t2_loop v143_0_r0).trips), ∀ (k0_h22 : k0_cond22 v143_0_r0 k0_t2 = 1#1), ∀ a, (k0_off72 v143_0_r0 k0_t2) a + S1.size a ≤ S14.size a := fun v143_0_r0 k0_hw9 k0_t2 k0_h22 => k0_hw9.2.1.2.2.2.2.2.2.2.2.2.2.2.2.1 k0_t2 k0_h22
theorem k0_off73_inb : ∀ (v143_0_r0 : BitVec 32) (k0_hw9 : k0_chk9 v143_0_r0) (k0_t2 : Fin (k0_t2_loop v143_0_r0).trips), ∀ (k0_h22 : k0_cond22 v143_0_r0 k0_t2 = 1#1), ∀ a, (k0_off73 v143_0_r0 k0_t2) a + S128x4096.size a ≤ S7168x4096.size a := fun v143_0_r0 k0_hw9 k0_t2 k0_h22 => k0_hw9.2.1.2.2.2.2.2.2.2.2.2.2.2.2.2.1 k0_t2 k0_h22
theorem k0_off73_wordsfp8e4m3 : ∀ (v143_0_r0 : BitVec 32) (k0_hw9 : k0_chk9 v143_0_r0) (k0_t2 : Fin (k0_t2_loop v143_0_r0).trips), ∀ (k0_h22 : k0_cond22 v143_0_r0 k0_t2 = 1#1), (Rect.unit (s := S7168x4096) (k0_off73 v143_0_r0 k0_t2) S128x4096.size (k0_off73_inb v143_0_r0 k0_hw9 k0_t2 k0_h22)).WholeWords (EltTy.packing .fp8e4m3) := fun v143_0_r0 k0_hw9 k0_t2 k0_h22 => k0_hw9.2.1.2.2.2.2.2.2.2.2.2.2.2.2.2.2.1 k0_t2 k0_h22 (k0_off73_inb v143_0_r0 k0_hw9 k0_t2 k0_h22)
theorem k0_off75_inb : ∀ (v143_0_r0 : BitVec 32) (k0_hw9 : k0_chk9 v143_0_r0) (k0_t2 : Fin (k0_t2_loop v143_0_r0).trips), ∀ (k0_h23 : k0_cond23 v143_0_r0 k0_t2 = 1#1), ∀ a, (k0_off75 v143_0_r0 k0_t2) a + S1.size a ≤ S116.size a := fun v143_0_r0 k0_hw9 k0_t2 k0_h23 => k0_hw9.2.1.2.2.2.2.2.2.2.2.2.2.2.2.2.2.2.1 k0_t2 k0_h23
theorem k0_off76_inb : ∀ (v143_0_r0 : BitVec 32) (k0_hw9 : k0_chk9 v143_0_r0) (k0_t2 : Fin (k0_t2_loop v143_0_r0).trips), ∀ (k0_h23 : k0_cond23 v143_0_r0 k0_t2 = 1#1), ∀ a, (k0_off76 v143_0_r0 k0_t2) a + S1.size a ≤ S14.size a := fun v143_0_r0 k0_hw9 k0_t2 k0_h23 => k0_hw9.2.1.2.2.2.2.2.2.2.2.2.2.2.2.2.2.2.2.1 k0_t2 k0_h23
theorem k0_off77_inb : ∀ (v143_0_r0 : BitVec 32) (k0_hw9 : k0_chk9 v143_0_r0) (k0_t2 : Fin (k0_t2_loop v143_0_r0).trips), ∀ (k0_h23 : k0_cond23 v143_0_r0 k0_t2 = 1#1), ∀ a, (k0_off77 v143_0_r0 k0_t2) a + S128x4096.size a ≤ S7168x4096.size a := fun v143_0_r0 k0_hw9 k0_t2 k0_h23 => k0_hw9.2.1.2.2.2.2.2.2.2.2.2.2.2.2.2.2.2.2.2.1 k0_t2 k0_h23
theorem k0_off77_wordsfp8e4m3 : ∀ (v143_0_r0 : BitVec 32) (k0_hw9 : k0_chk9 v143_0_r0) (k0_t2 : Fin (k0_t2_loop v143_0_r0).trips), ∀ (k0_h23 : k0_cond23 v143_0_r0 k0_t2 = 1#1), (Rect.unit (s := S7168x4096) (k0_off77 v143_0_r0 k0_t2) S128x4096.size (k0_off77_inb v143_0_r0 k0_hw9 k0_t2 k0_h23)).WholeWords (EltTy.packing .fp8e4m3) := fun v143_0_r0 k0_hw9 k0_t2 k0_h23 => k0_hw9.2.1.2.2.2.2.2.2.2.2.2.2.2.2.2.2.2.2.2.2.1 k0_t2 k0_h23 (k0_off77_inb v143_0_r0 k0_hw9 k0_t2 k0_h23)
theorem k0_t3_ok : ∀ (v143_0_r0 : BitVec 32) (k0_hw9 : k0_chk9 v143_0_r0), (k0_t3_loop v143_0_r0).OK := fun v143_0_r0 k0_hw9 => k0_hw9.2.1.2.2.2.2.2.2.2.2.2.2.2.2.2.2.2.2.2.2.2.1
theorem k0_off79_inb : ∀ (v143_0_r0 : BitVec 32) (k0_hw9 : k0_chk9 v143_0_r0) (k0_t3 : Fin (k0_t3_loop v143_0_r0).trips), ∀ (k0_h24 : k0_cond24 v143_0_r0 k0_t3 = 1#1), ∀ a, (k0_off79 v143_0_r0 k0_t3) a + S1.size a ≤ S116.size a := fun v143_0_r0 k0_hw9 k0_t3 k0_h24 => k0_hw9.2.1.2.2.2.2.2.2.2.2.2.2.2.2.2.2.2.2.2.2.2.2.1 k0_t3 k0_h24
theorem k0_off80_inb : ∀ (v143_0_r0 : BitVec 32) (k0_hw9 : k0_chk9 v143_0_r0) (k0_t3 : Fin (k0_t3_loop v143_0_r0).trips), ∀ (k0_h24 : k0_cond24 v143_0_r0 k0_t3 = 1#1), ∀ a, (k0_off80 v143_0_r0 k0_t3) a + S1.size a ≤ S14.size a := fun v143_0_r0 k0_hw9 k0_t3 k0_h24 => k0_hw9.2.1.2.2.2.2.2.2.2.2.2.2.2.2.2.2.2.2.2.2.2.2.2.1 k0_t3 k0_h24
theorem k0_off81_inb : ∀ (v143_0_r0 : BitVec 32) (k0_hw9 : k0_chk9 v143_0_r0) (k0_t3 : Fin (k0_t3_loop v143_0_r0).trips), ∀ (k0_h24 : k0_cond24 v143_0_r0 k0_t3 = 1#1), ∀ a, (k0_off81 v143_0_r0 k0_t3) a + S128x4096.size a ≤ S7168x4096.size a := fun v143_0_r0 k0_hw9 k0_t3 k0_h24 => k0_hw9.2.1.2.2.2.2.2.2.2.2.2.2.2.2.2.2.2.2.2.2.2.2.2.2.1 k0_t3 k0_h24
theorem k0_off81_wordsfp8e4m3 : ∀ (v143_0_r0 : BitVec 32) (k0_hw9 : k0_chk9 v143_0_r0) (k0_t3 : Fin (k0_t3_loop v143_0_r0).trips), ∀ (k0_h24 : k0_cond24 v143_0_r0 k0_t3 = 1#1), (Rect.unit (s := S7168x4096) (k0_off81 v143_0_r0 k0_t3) S128x4096.size (k0_off81_inb v143_0_r0 k0_hw9 k0_t3 k0_h24)).WholeWords (EltTy.packing .fp8e4m3) := fun v143_0_r0 k0_hw9 k0_t3 k0_h24 => k0_hw9.2.1.2.2.2.2.2.2.2.2.2.2.2.2.2.2.2.2.2.2.2.2.2.2.2.1 k0_t3 k0_h24 (k0_off81_inb v143_0_r0 k0_hw9 k0_t3 k0_h24)
theorem k0_off83_inb : ∀ (v143_0_r0 : BitVec 32) (k0_hw9 : k0_chk9 v143_0_r0) (k0_t3 : Fin (k0_t3_loop v143_0_r0).trips), ∀ (k0_h25 : k0_cond25 v143_0_r0 k0_t3 = 1#1), ∀ a, (k0_off83 v143_0_r0 k0_t3) a + S1.size a ≤ S116.size a := fun v143_0_r0 k0_hw9 k0_t3 k0_h25 => k0_hw9.2.1.2.2.2.2.2.2.2.2.2.2.2.2.2.2.2.2.2.2.2.2.2.2.2.2.1 k0_t3 k0_h25
theorem k0_off84_inb : ∀ (v143_0_r0 : BitVec 32) (k0_hw9 : k0_chk9 v143_0_r0) (k0_t3 : Fin (k0_t3_loop v143_0_r0).trips), ∀ (k0_h25 : k0_cond25 v143_0_r0 k0_t3 = 1#1), ∀ a, (k0_off84 v143_0_r0 k0_t3) a + S1.size a ≤ S14.size a := fun v143_0_r0 k0_hw9 k0_t3 k0_h25 => k0_hw9.2.1.2.2.2.2.2.2.2.2.2.2.2.2.2.2.2.2.2.2.2.2.2.2.2.2.2.1 k0_t3 k0_h25
theorem k0_off85_inb : ∀ (v143_0_r0 : BitVec 32) (k0_hw9 : k0_chk9 v143_0_r0) (k0_t3 : Fin (k0_t3_loop v143_0_r0).trips), ∀ (k0_h25 : k0_cond25 v143_0_r0 k0_t3 = 1#1), ∀ a, (k0_off85 v143_0_r0 k0_t3) a + S128x4096.size a ≤ S7168x4096.size a := fun v143_0_r0 k0_hw9 k0_t3 k0_h25 => k0_hw9.2.1.2.2.2.2.2.2.2.2.2.2.2.2.2.2.2.2.2.2.2.2.2.2.2.2.2.2.1 k0_t3 k0_h25
theorem k0_off85_wordsfp8e4m3 : ∀ (v143_0_r0 : BitVec 32) (k0_hw9 : k0_chk9 v143_0_r0) (k0_t3 : Fin (k0_t3_loop v143_0_r0).trips), ∀ (k0_h25 : k0_cond25 v143_0_r0 k0_t3 = 1#1), (Rect.unit (s := S7168x4096) (k0_off85 v143_0_r0 k0_t3) S128x4096.size (k0_off85_inb v143_0_r0 k0_hw9 k0_t3 k0_h25)).WholeWords (EltTy.packing .fp8e4m3) := fun v143_0_r0 k0_hw9 k0_t3 k0_h25 => k0_hw9.2.1.2.2.2.2.2.2.2.2.2.2.2.2.2.2.2.2.2.2.2.2.2.2.2.2.2.2.2.1 k0_t3 k0_h25 (k0_off85_inb v143_0_r0 k0_hw9 k0_t3 k0_h25)
theorem k0_off87_inb : ∀ (v143_0_r0 : BitVec 32) (k0_hw9 : k0_chk9 v143_0_r0) (k0_t3 : Fin (k0_t3_loop v143_0_r0).trips), ∀ (k0_h26 : k0_cond26 v143_0_r0 k0_t3 = 1#1), ∀ a, (k0_off87 v143_0_r0 k0_t3) a + S1.size a ≤ S116.size a := fun v143_0_r0 k0_hw9 k0_t3 k0_h26 => k0_hw9.2.1.2.2.2.2.2.2.2.2.2.2.2.2.2.2.2.2.2.2.2.2.2.2.2.2.2.2.2.2.1 k0_t3 k0_h26
theorem k0_off88_inb : ∀ (v143_0_r0 : BitVec 32) (k0_hw9 : k0_chk9 v143_0_r0) (k0_t3 : Fin (k0_t3_loop v143_0_r0).trips), ∀ (k0_h26 : k0_cond26 v143_0_r0 k0_t3 = 1#1), ∀ a, (k0_off88 v143_0_r0 k0_t3) a + S1.size a ≤ S14.size a := fun v143_0_r0 k0_hw9 k0_t3 k0_h26 => k0_hw9.2.1.2.2.2.2.2.2.2.2.2.2.2.2.2.2.2.2.2.2.2.2.2.2.2.2.2.2.2.2.2.1 k0_t3 k0_h26
theorem k0_off89_inb : ∀ (v143_0_r0 : BitVec 32) (k0_hw9 : k0_chk9 v143_0_r0) (k0_t3 : Fin (k0_t3_loop v143_0_r0).trips), ∀ (k0_h26 : k0_cond26 v143_0_r0 k0_t3 = 1#1), ∀ a, (k0_off89 v143_0_r0 k0_t3) a + S128x4096.size a ≤ S7168x4096.size a := fun v143_0_r0 k0_hw9 k0_t3 k0_h26 => k0_hw9.2.1.2.2.2.2.2.2.2.2.2.2.2.2.2.2.2.2.2.2.2.2.2.2.2.2.2.2.2.2.2.2.1 k0_t3 k0_h26
theorem k0_off89_wordsfp8e4m3 : ∀ (v143_0_r0 : BitVec 32) (k0_hw9 : k0_chk9 v143_0_r0) (k0_t3 : Fin (k0_t3_loop v143_0_r0).trips), ∀ (k0_h26 : k0_cond26 v143_0_r0 k0_t3 = 1#1), (Rect.unit (s := S7168x4096) (k0_off89 v143_0_r0 k0_t3) S128x4096.size (k0_off89_inb v143_0_r0 k0_hw9 k0_t3 k0_h26)).WholeWords (EltTy.packing .fp8e4m3) := fun v143_0_r0 k0_hw9 k0_t3 k0_h26 => k0_hw9.2.1.2.2.2.2.2.2.2.2.2.2.2.2.2.2.2.2.2.2.2.2.2.2.2.2.2.2.2.2.2.2.2 k0_t3 k0_h26 (k0_off89_inb v143_0_r0 k0_hw9 k0_t3 k0_h26)
theorem k0_off91_inb : ∀ (v143_0_r0 : BitVec 32) (k0_hw9 : k0_chk9 v143_0_r0) (k0_t3 : Fin (k0_t3_loop v143_0_r0).trips), ∀ (k0_h27 : k0_cond27 v143_0_r0 k0_t3 = 1#1), ∀ a, (k0_off91 v143_0_r0 k0_t3) a + S1.size a ≤ S116.size a := fun v143_0_r0 k0_hw9 k0_t3 k0_h27 => k0_hw9.2.2.1 k0_t3 k0_h27
theorem k0_off92_inb : ∀ (v143_0_r0 : BitVec 32) (k0_hw9 : k0_chk9 v143_0_r0) (k0_t3 : Fin (k0_t3_loop v143_0_r0).trips), ∀ (k0_h27 : k0_cond27 v143_0_r0 k0_t3 = 1#1), ∀ a, (k0_off92 v143_0_r0 k0_t3) a + S1.size a ≤ S14.size a := fun v143_0_r0 k0_hw9 k0_t3 k0_h27 => k0_hw9.2.2.2.1 k0_t3 k0_h27
theorem k0_off93_inb : ∀ (v143_0_r0 : BitVec 32) (k0_hw9 : k0_chk9 v143_0_r0) (k0_t3 : Fin (k0_t3_loop v143_0_r0).trips), ∀ (k0_h27 : k0_cond27 v143_0_r0 k0_t3 = 1#1), ∀ a, (k0_off93 v143_0_r0 k0_t3) a + S128x4096.size a ≤ S7168x4096.size a := fun v143_0_r0 k0_hw9 k0_t3 k0_h27 => k0_hw9.2.2.2.2.1 k0_t3 k0_h27
theorem k0_off93_wordsfp8e4m3 : ∀ (v143_0_r0 : BitVec 32) (k0_hw9 : k0_chk9 v143_0_r0) (k0_t3 : Fin (k0_t3_loop v143_0_r0).trips), ∀ (k0_h27 : k0_cond27 v143_0_r0 k0_t3 = 1#1), (Rect.unit (s := S7168x4096) (k0_off93 v143_0_r0 k0_t3) S128x4096.size (k0_off93_inb v143_0_r0 k0_hw9 k0_t3 k0_h27)).WholeWords (EltTy.packing .fp8e4m3) := fun v143_0_r0 k0_hw9 k0_t3 k0_h27 => k0_hw9.2.2.2.2.2.1 k0_t3 k0_h27 (k0_off93_inb v143_0_r0 k0_hw9 k0_t3 k0_h27)
theorem k0_off95_inb : ∀ (v143_0_r0 : BitVec 32) (k0_hw9 : k0_chk9 v143_0_r0) (k0_t3 : Fin (k0_t3_loop v143_0_r0).trips), ∀ a, (k0_off95 v143_0_r0 k0_t3) a + S1.size a ≤ S116.size a := fun v143_0_r0 k0_hw9 k0_t3 => k0_hw9.2.2.2.2.2.2.1 k0_t3
theorem k0_off97_inb : ∀ (v143_0_r0 : BitVec 32) (k0_hw9 : k0_chk9 v143_0_r0) (k0_t3 : Fin (k0_t3_loop v143_0_r0).trips), ∀ a, (k0_off97 v143_0_r0 k0_t3) a + S1.size a ≤ S116.size a := fun v143_0_r0 k0_hw9 k0_t3 => k0_hw9.2.2.2.2.2.2.2.1 k0_t3
theorem k0_off99_inb : ∀ (v143_0_r0 : BitVec 32) (k0_hw9 : k0_chk9 v143_0_r0) (k0_t3 : Fin (k0_t3_loop v143_0_r0).trips), ∀ a, (k0_off99 v143_0_r0 k0_t3) a + S1.size a ≤ S116.size a := fun v143_0_r0 k0_hw9 k0_t3 => k0_hw9.2.2.2.2.2.2.2.2.1 k0_t3
theorem k0_off101_inb : ∀ (v143_0_r0 : BitVec 32) (k0_hw9 : k0_chk9 v143_0_r0) (k0_t3 : Fin (k0_t3_loop v143_0_r0).trips), ∀ a, (k0_off101 v143_0_r0 k0_t3) a + S1.size a ≤ S116.size a := fun v143_0_r0 k0_hw9 k0_t3 => k0_hw9.2.2.2.2.2.2.2.2.2.1 k0_t3
theorem k0_mult14_dvd : ∀ (v143_0_r0 : BitVec 32) (k0_hw9 : k0_chk9 v143_0_r0) (k0_t3 : Fin (k0_t3_loop v143_0_r0).trips), 512 ∣ (k0_mult14 v143_0_r0 k0_t3).toNat := fun v143_0_r0 k0_hw9 k0_t3 => k0_hw9.2.2.2.2.2.2.2.2.2.2.1 k0_t3
theorem k0_off103_inb : ∀ (v143_0_r0 : BitVec 32) (k0_hw9 : k0_chk9 v143_0_r0) (k0_t3 : Fin (k0_t3_loop v143_0_r0).trips), ∀ a, (k0_off103 v143_0_r0 k0_t3) a + S512x4096.size a ≤ S7168x4096.size a := fun v143_0_r0 k0_hw9 k0_t3 => k0_hw9.2.2.2.2.2.2.2.2.2.2.2.1 k0_t3
theorem k0_off104_inb : ∀ (v143_0_r0 : BitVec 32) (k0_hw9 : k0_chk9 v143_0_r0) (k0_t3 : Fin (k0_t3_loop v143_0_r0).trips), ∀ (k0_h28 : k0_cond28 v143_0_r0 k0_t3 = 1#1), ∀ a, (k0_off104 v143_0_r0 k0_t3) a + S1.size a ≤ S116.size a := fun v143_0_r0 k0_hw9 k0_t3 k0_h28 => k0_hw9.2.2.2.2.2.2.2.2.2.2.2.2.1 k0_t3 k0_h28
theorem k0_off105_inb : ∀ (v143_0_r0 : BitVec 32) (k0_hw9 : k0_chk9 v143_0_r0) (k0_t3 : Fin (k0_t3_loop v143_0_r0).trips), ∀ (k0_h28 : k0_cond28 v143_0_r0 k0_t3 = 1#1), ∀ a, (k0_off105 v143_0_r0 k0_t3) a + S1.size a ≤ S14.size a := fun v143_0_r0 k0_hw9 k0_t3 k0_h28 => k0_hw9.2.2.2.2.2.2.2.2.2.2.2.2.2.1 k0_t3 k0_h28
theorem k0_off106_inb : ∀ (v143_0_r0 : BitVec 32) (k0_hw9 : k0_chk9 v143_0_r0) (k0_t3 : Fin (k0_t3_loop v143_0_r0).trips), ∀ (k0_h28 : k0_cond28 v143_0_r0 k0_t3 = 1#1), ∀ a, (k0_off106 v143_0_r0 k0_t3) a + S128x4096.size a ≤ S7168x4096.size a := fun v143_0_r0 k0_hw9 k0_t3 k0_h28 => k0_hw9.2.2.2.2.2.2.2.2.2.2.2.2.2.2.1 k0_t3 k0_h28
theorem k0_off106_wordsfp8e4m3 : ∀ (v143_0_r0 : BitVec 32) (k0_hw9 : k0_chk9 v143_0_r0) (k0_t3 : Fin (k0_t3_loop v143_0_r0).trips), ∀ (k0_h28 : k0_cond28 v143_0_r0 k0_t3 = 1#1), (Rect.unit (s := S7168x4096) (k0_off106 v143_0_r0 k0_t3) S128x4096.size (k0_off106_inb v143_0_r0 k0_hw9 k0_t3 k0_h28)).WholeWords (EltTy.packing .fp8e4m3) := fun v143_0_r0 k0_hw9 k0_t3 k0_h28 => k0_hw9.2.2.2.2.2.2.2.2.2.2.2.2.2.2.2.1 k0_t3 k0_h28 (k0_off106_inb v143_0_r0 k0_hw9 k0_t3 k0_h28)
theorem k0_off108_inb : ∀ (v143_0_r0 : BitVec 32) (k0_hw9 : k0_chk9 v143_0_r0) (k0_t3 : Fin (k0_t3_loop v143_0_r0).trips), ∀ (k0_h29 : k0_cond29 v143_0_r0 k0_t3 = 1#1), ∀ a, (k0_off108 v143_0_r0 k0_t3) a + S1.size a ≤ S116.size a := fun v143_0_r0 k0_hw9 k0_t3 k0_h29 => k0_hw9.2.2.2.2.2.2.2.2.2.2.2.2.2.2.2.2.1 k0_t3 k0_h29
theorem k0_off109_inb : ∀ (v143_0_r0 : BitVec 32) (k0_hw9 : k0_chk9 v143_0_r0) (k0_t3 : Fin (k0_t3_loop v143_0_r0).trips), ∀ (k0_h29 : k0_cond29 v143_0_r0 k0_t3 = 1#1), ∀ a, (k0_off109 v143_0_r0 k0_t3) a + S1.size a ≤ S14.size a := fun v143_0_r0 k0_hw9 k0_t3 k0_h29 => k0_hw9.2.2.2.2.2.2.2.2.2.2.2.2.2.2.2.2.2.1 k0_t3 k0_h29
theorem k0_off110_inb : ∀ (v143_0_r0 : BitVec 32) (k0_hw9 : k0_chk9 v143_0_r0) (k0_t3 : Fin (k0_t3_loop v143_0_r0).trips), ∀ (k0_h29 : k0_cond29 v143_0_r0 k0_t3 = 1#1), ∀ a, (k0_off110 v143_0_r0 k0_t3) a + S128x4096.size a ≤ S7168x4096.size a := fun v143_0_r0 k0_hw9 k0_t3 k0_h29 => k0_hw9.2.2.2.2.2.2.2.2.2.2.2.2.2.2.2.2.2.2.1 k0_t3 k0_h29
theorem k0_off110_wordsfp8e4m3 : ∀ (v143_0_r0 : BitVec 32) (k0_hw9 : k0_chk9 v143_0_r0) (k0_t3 : Fin (k0_t3_loop v143_0_r0).trips), ∀ (k0_h29 : k0_cond29 v143_0_r0 k0_t3 = 1#1), (Rect.unit (s := S7168x4096) (k0_off110 v143_0_r0 k0_t3) S128x4096.size (k0_off110_inb v143_0_r0 k0_hw9 k0_t3 k0_h29)).WholeWords (EltTy.packing .fp8e4m3) := fun v143_0_r0 k0_hw9 k0_t3 k0_h29 => k0_hw9.2.2.2.2.2.2.2.2.2.2.2.2.2.2.2.2.2.2.2.1 k0_t3 k0_h29 (k0_off110_inb v143_0_r0 k0_hw9 k0_t3 k0_h29)
theorem k0_off112_inb : ∀ (v143_0_r0 : BitVec 32) (k0_hw9 : k0_chk9 v143_0_r0) (k0_t3 : Fin (k0_t3_loop v143_0_r0).trips), ∀ (k0_h30 : k0_cond30 v143_0_r0 k0_t3 = 1#1), ∀ a, (k0_off112 v143_0_r0 k0_t3) a + S1.size a ≤ S116.size a := fun v143_0_r0 k0_hw9 k0_t3 k0_h30 => k0_hw9.2.2.2.2.2.2.2.2.2.2.2.2.2.2.2.2.2.2.2.2.1 k0_t3 k0_h30
theorem k0_off113_inb : ∀ (v143_0_r0 : BitVec 32) (k0_hw9 : k0_chk9 v143_0_r0) (k0_t3 : Fin (k0_t3_loop v143_0_r0).trips), ∀ (k0_h30 : k0_cond30 v143_0_r0 k0_t3 = 1#1), ∀ a, (k0_off113 v143_0_r0 k0_t3) a + S1.size a ≤ S14.size a := fun v143_0_r0 k0_hw9 k0_t3 k0_h30 => k0_hw9.2.2.2.2.2.2.2.2.2.2.2.2.2.2.2.2.2.2.2.2.2.1 k0_t3 k0_h30
theorem k0_off114_inb : ∀ (v143_0_r0 : BitVec 32) (k0_hw9 : k0_chk9 v143_0_r0) (k0_t3 : Fin (k0_t3_loop v143_0_r0).trips), ∀ (k0_h30 : k0_cond30 v143_0_r0 k0_t3 = 1#1), ∀ a, (k0_off114 v143_0_r0 k0_t3) a + S128x4096.size a ≤ S7168x4096.size a := fun v143_0_r0 k0_hw9 k0_t3 k0_h30 => k0_hw9.2.2.2.2.2.2.2.2.2.2.2.2.2.2.2.2.2.2.2.2.2.2.1 k0_t3 k0_h30
theorem k0_off114_wordsfp8e4m3 : ∀ (v143_0_r0 : BitVec 32) (k0_hw9 : k0_chk9 v143_0_r0) (k0_t3 : Fin (k0_t3_loop v143_0_r0).trips), ∀ (k0_h30 : k0_cond30 v143_0_r0 k0_t3 = 1#1), (Rect.unit (s := S7168x4096) (k0_off114 v143_0_r0 k0_t3) S128x4096.size (k0_off114_inb v143_0_r0 k0_hw9 k0_t3 k0_h30)).WholeWords (EltTy.packing .fp8e4m3) := fun v143_0_r0 k0_hw9 k0_t3 k0_h30 => k0_hw9.2.2.2.2.2.2.2.2.2.2.2.2.2.2.2.2.2.2.2.2.2.2.2.1 k0_t3 k0_h30 (k0_off114_inb v143_0_r0 k0_hw9 k0_t3 k0_h30)
theorem k0_off116_inb : ∀ (v143_0_r0 : BitVec 32) (k0_hw9 : k0_chk9 v143_0_r0) (k0_t3 : Fin (k0_t3_loop v143_0_r0).trips), ∀ (k0_h31 : k0_cond31 v143_0_r0 k0_t3 = 1#1), ∀ a, (k0_off116 v143_0_r0 k0_t3) a + S1.size a ≤ S116.size a := fun v143_0_r0 k0_hw9 k0_t3 k0_h31 => k0_hw9.2.2.2.2.2.2.2.2.2.2.2.2.2.2.2.2.2.2.2.2.2.2.2.2.1 k0_t3 k0_h31
theorem k0_off117_inb : ∀ (v143_0_r0 : BitVec 32) (k0_hw9 : k0_chk9 v143_0_r0) (k0_t3 : Fin (k0_t3_loop v143_0_r0).trips), ∀ (k0_h31 : k0_cond31 v143_0_r0 k0_t3 = 1#1), ∀ a, (k0_off117 v143_0_r0 k0_t3) a + S1.size a ≤ S14.size a := fun v143_0_r0 k0_hw9 k0_t3 k0_h31 => k0_hw9.2.2.2.2.2.2.2.2.2.2.2.2.2.2.2.2.2.2.2.2.2.2.2.2.2.1 k0_t3 k0_h31
theorem k0_off118_inb : ∀ (v143_0_r0 : BitVec 32) (k0_hw9 : k0_chk9 v143_0_r0) (k0_t3 : Fin (k0_t3_loop v143_0_r0).trips), ∀ (k0_h31 : k0_cond31 v143_0_r0 k0_t3 = 1#1), ∀ a, (k0_off118 v143_0_r0 k0_t3) a + S128x4096.size a ≤ S7168x4096.size a := fun v143_0_r0 k0_hw9 k0_t3 k0_h31 => k0_hw9.2.2.2.2.2.2.2.2.2.2.2.2.2.2.2.2.2.2.2.2.2.2.2.2.2.2.1 k0_t3 k0_h31
theorem k0_off118_wordsfp8e4m3 : ∀ (v143_0_r0 : BitVec 32) (k0_hw9 : k0_chk9 v143_0_r0) (k0_t3 : Fin (k0_t3_loop v143_0_r0).trips), ∀ (k0_h31 : k0_cond31 v143_0_r0 k0_t3 = 1#1), (Rect.unit (s := S7168x4096) (k0_off118 v143_0_r0 k0_t3) S128x4096.size (k0_off118_inb v143_0_r0 k0_hw9 k0_t3 k0_h31)).WholeWords (EltTy.packing .fp8e4m3) := fun v143_0_r0 k0_hw9 k0_t3 k0_h31 => k0_hw9.2.2.2.2.2.2.2.2.2.2.2.2.2.2.2.2.2.2.2.2.2.2.2.2.2.2.2 k0_t3 k0_h31 (k0_off118_inb v143_0_r0 k0_hw9 k0_t3 k0_h31)
-- ==== ReferenceIdeal.lean ====
abbrev S32x1x4096 : Shape := ⟨3, ![32, 1, 4096]⟩
abbrev S4096x14336 : Shape := ⟨2, ![4096, 14336]⟩
abbrev S14336 : Shape := ⟨1, ![14336]⟩
abbrev S14336x4096 : Shape := ⟨2, ![14336, 4096]⟩
abbrev S4096 : Shape := ⟨1, ![4096]⟩
abbrev S32x4096 : Shape := ⟨2, ![32, 4096]⟩
abbrev S1x14336 : Shape := ⟨2, ![1, 14336]⟩
abbrev S1x4096 : Shape := ⟨2, ![1, 4096]⟩
abbrev S1x32 : Shape := ⟨2, ![1, 32]⟩
abbrev S32x14336 : Shape := ⟨2, ![32, 14336]⟩
abbrev S32 : Shape := ⟨1, ![32]⟩
abbrev S32x1 : Shape := ⟨2, ![32, 1]⟩

abbrev nBuf : Space → Nat
  | .hbm => 15
  | .vmem => 11
  | .smem => 0
  | _ => 0

abbrev bufTy : (tb : Table) → Fin (tcTables nBuf tb) → BufTy
  | .hbm, ⟨0, _⟩ => ⟨S32x1x4096, .bf16⟩
  | .hbm, ⟨1, _⟩ => ⟨S4096x14336, .fp8e4m3⟩
  | .hbm, ⟨2, _⟩ => ⟨S14336, .f32⟩
  | .hbm, ⟨3, _⟩ => ⟨S14336, .f32⟩
  | .hbm, ⟨4, _⟩ => ⟨S14336x4096, .fp8e4m3⟩
  | .hbm, ⟨5, _⟩ => ⟨S4096, .f32⟩
  | .hbm, ⟨6, _⟩ => ⟨S32x4096, .bf16⟩
  | .hbm, ⟨7, _⟩ => ⟨S1x14336, .f32⟩
  | .hbm, ⟨8, _⟩ => ⟨S1x14336, .f32⟩
  | .hbm, ⟨9, _⟩ => ⟨S1x4096, .f32⟩
  | .hbm, ⟨10, _⟩ => ⟨S32x4096, .bf16⟩
  | .hbm, ⟨11, _⟩ => ⟨S32x4096, .fp8e4m3⟩
  | .hbm, ⟨12, _⟩ => ⟨S1x32, .f32⟩
  | .hbm, ⟨13, _⟩ => ⟨S32x14336, .fp8e4m3⟩
  | .hbm, ⟨14, _⟩ => ⟨S1x32, .f32⟩
  | .local _ .vmem, ⟨0, _⟩ => ⟨S32x4096, .bf16⟩
  | .local _ .vmem, ⟨1, _⟩ => ⟨S4096x14336, .fp8e4m3⟩
  | .local _ .vmem, ⟨2, _⟩ => ⟨S1x14336, .f32⟩
  | .local _ .vmem, ⟨3, _⟩ => ⟨S1x14336, .f32⟩
  | .local _ .vmem, ⟨4, _⟩ => ⟨S14336x4096, .fp8e4m3⟩
  | .local _ .vmem, ⟨5, _⟩ => ⟨S1x4096, .f32⟩
  | .local _ .vmem, ⟨6, _⟩ => ⟨S32x4096, .bf16⟩
  | .local _ .vmem, ⟨7, _⟩ => ⟨S32x4096, .fp8e4m3⟩
  | .local _ .vmem, ⟨8, _⟩ => ⟨S1x32, .f32⟩
  | .local _ .vmem, ⟨9, _⟩ => ⟨S32x14336, .fp8e4m3⟩
  | .local _ .vmem, ⟨10, _⟩ => ⟨S1x32, .f32⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14336x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x14336 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.K.Base.lean ====
/- The vocabulary of the kernel's proof: the regions of its buffers, the transfers' deliveries and the
   rules for issuing and awaiting one copy of a 128-row block of the second weight matrix. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The counters' embedding of the transfers. -/
abbrev EC : UEmb Counters (MT nD τ sig Unit (Elt F) ℕ (Pipeline.UD sig nD τ) ℕ) := countersEmb (U := Pipeline.UD sig nD τ)

/-- The weakest precondition of a piece of the kernel on core `c`. -/
abbrev WP {α : Type} (c : Dev nD) (p : Prog (TpuEff nD τ sig (Elt F) Λ₀ .tc) α) (Q : α → sProp (MT nD τ sig Unit (Elt F) ℕ (Pipeline.UD sig nD τ) ℕ)) :
    sProp (MT nD τ sig Unit (Elt F) ℕ (Pipeline.UD sig nD τ) ℕ) :=
  wp frame (wpE (defs₀ (F := F)) Variants.none (c : Thread nD τ) none) Set.univ p Q

/-- The cell at offset `off` of the fourteen cells of the second matrix's copies. -/
abbrev semD (off : Fin 1 → ℕ) (h : ∀ a, off a + S1.size a ≤ S14.size a) : DmaSem sig :=
  ((cc0_scoped3.slice (Rect.unit (s := S14) off S1.size h)).squeeze S_ squeezes_S1_S_).sem

/-- The 128 rows of the ring `arg20` at offset `off`. -/
abbrev mSlot (off : Fin 2 → ℕ) (h : ∀ a, off a + S128x4096.size a ≤ S7168x4096.size a) : Memref sig .tc .vmem S128x4096 .fp8e4m3 :=
  (Memref.whole cc0_scratch9).slice (Rect.unit (s := S7168x4096) off S128x4096.size h) (fun _ => rfl)

/-- The 128 rows of `w_down` at offset `off`. -/
abbrev mBlk (off : Fin 2 → ℕ) (h : ∀ a, off a + S128x4096.size a ≤ S14336x4096.size a) : Memref sig .tc .hbm S128x4096 .fp8e4m3 :=
  (Memref.whole main_arg4).slice (Rect.unit (s := S14336x4096) off S128x4096.size h) (fun _ => rfl)

/-- The elements of slot `s` of the ring. -/
def slotS (s : ℕ) : Finset S7168x4096.Idx := Finset.univ.filter fun x => (x 0).val / 128 = s

/-- The elements of block `i` of `w_down`. -/
def blkS (i : ℕ) : Finset S14336x4096.Idx := Finset.univ.filter fun x => (x 0).val / 128 = i

theorem mSlot_set (s : ℕ) (h) : (mSlot ![128 * s, 0] h).view.set = slotS s := by
  refine (View.set_slice_whole cc0_scratch9 _).trans ?_
  ext x
  rw [Rect.mem_set_unit]
  simp only [slotS, Finset.mem_filter, Finset.mem_univ, true_and]
  have h1 : (x 1).val < 4096 := (x 1).isLt
  refine Fin.forall_fin_two.trans ?_
  show ((128 * s ≤ (x 0).val ∧ (x 0).val < 128 * s + 128) ∧ (0 ≤ (x 1).val ∧ (x 1).val < 0 + 4096)) ↔ (x 0).val / 128 = s
  omega

theorem mBlk_set (i : ℕ) (h) : (mBlk ![128 * i, 0] h).view.set = blkS i := by
  refine (View.set_slice_whole main_arg4 _).trans ?_
  ext x
  rw [Rect.mem_set_unit]
  simp only [blkS, Finset.mem_filter, Finset.mem_univ, true_and]
  have h1 : (x 1).val < 4096 := (x 1).isLt
  refine Fin.forall_fin_two.trans ?_
  show ((128 * i ≤ (x 0).val ∧ (x 0).val < 128 * i + 128) ∧ (0 ≤ (x 1).val ∧ (x 1).val < 0 + 4096)) ↔ (x 0).val / 128 = i
  omega

/-- The cell number `j` (mod 14). -/
def semDn (j : ℕ) : DmaSem sig := ⟨17 + j % 14, by show 17 + j % 14 < 31; omega⟩

theorem semD_all : ∀ j : Fin 14, ∀ h, semD ![j.val] h = semDn j.val := by decide +kernel

theorem semD_eq (j : ℕ) (h) : semD ![j] h = semDn j := by
  have hj : j < 14 := by have := h 0; change j + 1 ≤ 14 at this; omega
  exact semD_all ⟨j, hj⟩ h

/-- What one copy credits its cell with. -/
abbrev KD : ℕ := (mSlot ![0, 0] (by decide)).view.dmaCredit

example (o h1 s h2) : (mSlot o h1).view.amount (.dma (semD s h2)) = KD := rfl
theorem KD_pos : 0 < KD := by decide

/-- The kernel's program at its operands. -/
abbrev kMain : Prog (TpuEff nD τ sig (Elt F) Λ₀ .tc) PUnit := cc0_relu_mlp_fp8_skel (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3
/-- One trip of the loop over the chunks of the first matrix. -/
abbrev upBody : Fin k0_t1_loop.trips → BitVec 32 × FVec F S32x128 .f32 → Prog (TpuEff nD τ sig (Elt F) Λ₀ .tc) (BitVec 32 × FVec F S32x128 .f32) := k0_t1_body (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3
/-- Its first part. -/
abbrev upPart1 (k : Fin k0_t1_loop.trips) := k0_part1_skel (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 0#32 1#32 k
/-- Its second part. -/
abbrev upPart2 (k : Fin k0_t1_loop.trips) (n : BitVec 32) (rm : FVec F S32x128 .f32) (iv : BitVec 32) (h : FVec F S32x512 .f32) := k0_part2_skel (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 k n rm iv h
/-- One trip of the loop over the groups of four live blocks. -/
abbrev dnBody (n : BitVec 32) (hw : k0_chk9 n) (ng : BitVec 32) (s : FVec F S32x1 .f32) (v : FVec F S32x14336 .f32) :
    Fin (k0_t2_loop n).trips → Unit → Prog (TpuEff nD τ sig (Elt F) Λ₀ .tc) Unit := k0_t2_body (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 n hw ng s v

/-- The memref of the list of live blocks. -/
abbrev mLive : Memref sig .tc .smem S116 .i32 := Memref.whole cc0_scratch14

/-- Record block number `w` at the next position of the list of live blocks, if its bit is set (block 0 of a chunk). -/
def blkA0 {α : Type} (n : BitVec 32) (b0 : BitVec 1) (hw : k0_chk1 n b0) (w : BitVec 32) (cont : PUnit → Prog (TpuEff nD τ sig (Elt F) Λ₀ .tc) α) : Prog (TpuEff nD τ sig (Elt F) Λ₀ .tc) α :=
  if k0_h2 : k0_cond2 b0 = 1#1 then do
    let v398_r0 : Elt F .i32 ← smemLoad mLive (Rect.unit (s := S116) (k0_off12 n) S1.size (k0_off12_inb n b0 hw k0_h2)) numel1_S1 rfl
    Prog.lift (.store mLive (Rect.unit (s := S116) (k0_off12 n) S1.size (k0_off12_inb n b0 hw k0_h2)) (fun _ => w) Finset.univ (View.stores_smem_one rfl numel1_S1) (.inl rfl))
    cont ⟨⟩
  else cont ⟨⟩

/-- Start the copy of the block recorded at the next position, if its bit is set and a slot is free (block 0 of a chunk). -/
def blkB0 {α : Type} (n : BitVec 32) (b0 : BitVec 1) (hw : k0_chk1 n b0) (cont : PUnit → Prog (TpuEff nD τ sig (Elt F) Λ₀ .tc) α) : Prog (TpuEff nD τ sig (Elt F) Λ₀ .tc) α :=
  if k0_h3 : k0_cond3 n b0 = 1#1 then do
    let v397_r0 : Elt F .i32 ← smemLoad mLive (Rect.unit (s := S116) (k0_off13 n) S1.size (k0_off13_inb n b0 hw k0_h3)) numel1_S1 rfl
    have k0_hw2 : k0_chk2 n b0 v397_r0 := (← Prog.lift (TpuEff.assume (k0_chk2 n b0 v397_r0) (k0_chk2.dec n b0 v397_r0))).down
    Prog.lift (.enqueueDma (mBlk (k0_off16 v397_r0) (k0_off16_inb n b0 v397_r0 k0_hw2 k0_h3)) (.here (mSlot (k0_off15 n) (k0_off15_inb n b0 hw k0_h3))) (.dma (semD (k0_off14 n) (k0_off14_inb n b0 hw k0_h3))) ((Memref.isWhole_whole _).wordExact_slice rfl _ (k0_off16_wordsfp8e4m3 n b0 v397_r0 k0_hw2 k0_h3)) ((Memref.isWhole_whole _).wordExact_slice rfl _ (k0_off15_wordsfp8e4m3 n b0 hw k0_h3)) ⟨Or.inl rfl, trivial⟩)
    cont ⟨⟩
  else cont ⟨⟩

/-- Record block number `w` at the next position of the list of live blocks, if its bit is set (block 1 of a chunk). -/
def blkA1 {α : Type} (n : BitVec 32) (b0 b1 : BitVec 1) (hw : k0_chk3 n b0 b1) (w : BitVec 32) (cont : PUnit → Prog (TpuEff nD τ sig (Elt F) Λ₀ .tc) α) : Prog (TpuEff nD τ sig (Elt F) Λ₀ .tc) α :=
  if k0_h2 : k0_cond4 b1 = 1#1 then do
    let v398_r0 : Elt F .i32 ← smemLoad mLive (Rect.unit (s := S116) (k0_off17 n b0) S1.size (k0_off17_inb n b0 b1 hw k0_h2)) numel1_S1 rfl
    Prog.lift (.store mLive (Rect.unit (s := S116) (k0_off17 n b0) S1.size (k0_off17_inb n b0 b1 hw k0_h2)) (fun _ => w) Finset.univ (View.stores_smem_one rfl numel1_S1) (.inl rfl))
    cont ⟨⟩
  else cont ⟨⟩

/-- Start the copy of the block recorded at the next position, if its bit is set and a slot is free (block 1 of a chunk). -/
def blkB1 {α : Type} (n : BitVec 32) (b0 b1 : BitVec 1) (hw : k0_chk3 n b0 b1) (cont : PUnit → Prog (TpuEff nD τ sig (Elt F) Λ₀ .tc) α) : Prog (TpuEff nD τ sig (Elt F) Λ₀ .tc) α :=
  if k0_h3 : k0_cond5 n b0 b1 = 1#1 then do
    let v397_r0 : Elt F .i32 ← smemLoad mLive (Rect.unit (s := S116) (k0_off18 n b0) S1.size (k0_off18_inb n b0 b1 hw k0_h3)) numel1_S1 rfl
    have k0_hw2 : k0_chk4 n b0 b1 v397_r0 := (← Prog.lift (TpuEff.assume (k0_chk4 n b0 b1 v397_r0) (k0_chk4.dec n b0 b1 v397_r0))).down
    Prog.lift (.enqueueDma (mBlk (k0_off21 v397_r0) (k0_off21_inb n b0 b1 v397_r0 k0_hw2 k0_h3)) (.here (mSlot (k0_off20 n b0) (k0_off20_inb n b0 b1 hw k0_h3))) (.dma (semD (k0_off19 n b0) (k0_off19_inb n b0 b1 hw k0_h3))) ((Memref.isWhole_whole _).wordExact_slice rfl _ (k0_off21_wordsfp8e4m3 n b0 b1 v397_r0 k0_hw2 k0_h3)) ((Memref.isWhole_whole _).wordExact_slice rfl _ (k0_off20_wordsfp8e4m3 n b0 b1 hw k0_h3)) ⟨Or.inl rfl, trivial⟩)
    cont ⟨⟩
  else cont ⟨⟩

/-- Record block number `w` at the next position of the list of live blocks, if its bit is set (block 2 of a chunk). -/
def blkA2 {α : Type} (n : BitVec 32) (b0 b1 b2 : BitVec 1) (hw : k0_chk5 n b0 b1 b2) (w : BitVec 32) (cont : PUnit → Prog (TpuEff nD τ sig (Elt F) Λ₀ .tc) α) : Prog (TpuEff nD τ sig (Elt F) Λ₀ .tc) α :=
  if k0_h2 : k0_cond6 b2 = 1#1 then do
    let v398_r0 : Elt F .i32 ← smemLoad mLive (Rect.unit (s := S116) (k0_off22 n b0 b1) S1.size (k0_off22_inb n b0 b1 b2 hw k0_h2)) numel1_S1 rfl
    Prog.lift (.store mLive (Rect.unit (s := S116) (k0_off22 n b0 b1) S1.size (k0_off22_inb n b0 b1 b2 hw k0_h2)) (fun _ => w) Finset.univ (View.stores_smem_one rfl numel1_S1) (.inl rfl))
    cont ⟨⟩
  else cont ⟨⟩

/-- Start the copy of the block recorded at the next position, if its bit is set and a slot is free (block 2 of a chunk). -/
def blkB2 {α : Type} (n : BitVec 32) (b0 b1 b2 : BitVec 1) (hw : k0_chk5 n b0 b1 b2) (cont : PUnit → Prog (TpuEff nD τ sig (Elt F) Λ₀ .tc) α) : Prog (TpuEff nD τ sig (Elt F) Λ₀ .tc) α :=
  if k0_h3 : k0_cond7 n b0 b1 b2 = 1#1 then do
    let v397_r0 : Elt F .i32 ← smemLoad mLive (Rect.unit (s := S116) (k0_off23 n b0 b1) S1.size (k0_off23_inb n b0 b1 b2 hw k0_h3)) numel1_S1 rfl
    have k0_hw2 : k0_chk6 n b0 b1 b2 v397_r0 := (← Prog.lift (TpuEff.assume (k0_chk6 n b0 b1 b2 v397_r0) (k0_chk6.dec n b0 b1 b2 v397_r0))).down
    Prog.lift (.enqueueDma (mBlk (k0_off26 v397_r0) (k0_off26_inb n b0 b1 b2 v397_r0 k0_hw2 k0_h3)) (.here (mSlot (k0_off25 n b0 b1) (k0_off25_inb n b0 b1 b2 hw k0_h3))) (.dma (semD (k0_off24 n b0 b1) (k0_off24_inb n b0 b1 b2 hw k0_h3))) ((Memref.isWhole_whole _).wordExact_slice rfl _ (k0_off26_wordsfp8e4m3 n b0 b1 b2 v397_r0 k0_hw2 k0_h3)) ((Memref.isWhole_whole _).wordExact_slice rfl _ (k0_off25_wordsfp8e4m3 n b0 b1 b2 hw k0_h3)) ⟨Or.inl rfl, trivial⟩)
    cont ⟨⟩
  else cont ⟨⟩

/-- Record block number `w` at the next position of the list of live blocks, if its bit is set (block 3 of a chunk). -/
def blkA3 {α : Type} (n : BitVec 32) (b0 b1 b2 b3 : BitVec 1) (hw : k0_chk7 n b0 b1 b2 b3) (w : BitVec 32) (cont : PUnit → Prog (TpuEff nD τ sig (Elt F) Λ₀ .tc) α) : Prog (TpuEff nD τ sig (Elt F) Λ₀ .tc) α :=
  if k0_h2 : k0_cond8 b3 = 1#1 then do
    let v398_r0 : Elt F .i32 ← smemLoad mLive (Rect.unit (s := S116) (k0_off27 n b0 b1 b2) S1.size (k0_off27_inb n b0 b1 b2 b3 hw k0_h2)) numel1_S1 rfl
    Prog.lift (.store mLive (Rect.unit (s := S116) (k0_off27 n b0 b1 b2) S1.size (k0_off27_inb n b0 b1 b2 b3 hw k0_h2)) (fun _ => w) Finset.univ (View.stores_smem_one rfl numel1_S1) (.inl rfl))
    cont ⟨⟩
  else cont ⟨⟩

/-- Start the copy of the block recorded at the next position, if its bit is set and a slot is free (block 3 of a chunk). -/
def blkB3 {α : Type} (n : BitVec 32) (b0 b1 b2 b3 : BitVec 1) (hw : k0_chk7 n b0 b1 b2 b3) (cont : PUnit → Prog (TpuEff nD τ sig (Elt F) Λ₀ .tc) α) : Prog (TpuEff nD τ sig (Elt F) Λ₀ .tc) α :=
  if k0_h3 : k0_cond9 n b0 b1 b2 b3 = 1#1 then do
    let v397_r0 : Elt F .i32 ← smemLoad mLive (Rect.unit (s := S116) (k0_off28 n b0 b1 b2) S1.size (k0_off28_inb n b0 b1 b2 b3 hw k0_h3)) numel1_S1 rfl
    have k0_hw2 : k0_chk8 n b0 b1 b2 b3 v397_r0 := (← Prog.lift (TpuEff.assume (k0_chk8 n b0 b1 b2 b3 v397_r0) (k0_chk8.dec n b0 b1 b2 b3 v397_r0))).down
    Prog.lift (.enqueueDma (mBlk (k0_off31 v397_r0) (k0_off31_inb n b0 b1 b2 b3 v397_r0 k0_hw2 k0_h3)) (.here (mSlot (k0_off30 n b0 b1 b2) (k0_off30_inb n b0 b1 b2 b3 hw k0_h3))) (.dma (semD (k0_off29 n b0 b1 b2) (k0_off29_inb n b0 b1 b2 b3 hw k0_h3))) ((Memref.isWhole_whole _).wordExact_slice rfl _ (k0_off31_wordsfp8e4m3 n b0 b1 b2 b3 v397_r0 k0_hw2 k0_h3)) ((Memref.isWhole_whole _).wordExact_slice rfl _ (k0_off30_wordsfp8e4m3 n b0 b1 b2 b3 hw k0_h3)) ⟨Or.inl rfl, trivial⟩)
    cont ⟨⟩
  else cont ⟨⟩

/-- The refill of a ring slot of the first matrix. -/
def refill {α : Type} (k0_t1 : Fin k0_t1_loop.trips) (cont : PUnit → Prog (TpuEff nD τ sig (Elt F) Λ₀ .tc) α) : Prog (TpuEff nD τ sig (Elt F) Λ₀ .tc) α :=
  if k0_h1 : k0_cond1 k0_t1 = 1#1 then do
    let v398_r0 : DmaSems sig S1 := cc0_scoped2.slice (Rect.unit (s := S8) (k0_off9 k0_t1) S1.size (k0_off9_inb k0_t1 k0_h1))
    let v399_r0 : DmaSems sig S_ := v398_r0.squeeze S_ squeezes_S1_S_
    let v400_r0 : Memref sig .tc .vmem S1x4096x512 .fp8e4m3 := (Memref.whole cc0_scratch8).slice (Rect.unit (s := S8x4096x512) (k0_off10 k0_t1) S1x4096x512.size (k0_off10_inb k0_t1 k0_h1)) (fun _ => rfl)
    let v401_r0 : Memref sig .tc .vmem S4096x512 .fp8e4m3 := v400_r0.squeeze S4096x512 squeezes_S1x4096x512_S4096x512
    let v402_r0 : Memref sig .tc .hbm S4096x512 .fp8e4m3 := (Memref.whole main_arg1).slice (Rect.unit (s := S4096x14336) (k0_off11 k0_t1) S4096x512.size (k0_off11_inb k0_t1 k0_h1)) (fun _ => rfl)
    Prog.lift (.enqueueDma v402_r0 (.here v401_r0) (.dma v399_r0.sem) ((Memref.isWhole_whole _).wordExact_slice rfl _ (k0_off11_wordsfp8e4m3 k0_t1 k0_h1)) (((Memref.isWhole_whole _).wordExact_slice rfl _ (k0_off10_wordsfp8e4m3 k0_t1 k0_h1)).reshape _ _) ⟨Or.inl rfl, trivial⟩)
    cont ⟨⟩
  else cont ⟨⟩

/-- The next position. -/
abbrev nxt (n : BitVec 32) (bit : BitVec 1) : BitVec 32 := Scalar.addi n (Scalar.extui bit)

/-- The bits of the four blocks of a chunk: whether some entry is positive. -/
abbrev bt0 (h : FVec F S32x512 .f32) : BitVec 1 := Scalar.cmpf .ogt (k0_pay5 h) (Scalar.ofBits .f32 0x00000000#32)
/-- The second block's. -/
abbrev bt1 (h : FVec F S32x512 .f32) : BitVec 1 := Scalar.cmpf .ogt (k0_pay7 h) (Scalar.ofBits .f32 0x00000000#32)
/-- The third block's. -/
abbrev bt2 (h : FVec F S32x512 .f32) : BitVec 1 := Scalar.cmpf .ogt (k0_pay10 h) (Scalar.ofBits .f32 0x00000000#32)
/-- The fourth block's. -/
abbrev bt3 (h : FVec F S32x512 .f32) : BitVec 1 := Scalar.cmpf .ogt (k0_pay23 h) (Scalar.ofBits .f32 0x00000000#32)

set_option maxRecDepth 65536 in
/-- The second part of a trip over the chunks, block by block. -/
theorem upPart2_eq (k : Fin k0_t1_loop.trips) (n : BitVec 32) (rm : FVec F S32x128 .f32) (iv : BitVec 32) (h : FVec F S32x512 .f32) :
    upPart2 k n rm iv h = (refill k fun _ =>
      Prog.op (TpuEff.assume (k0_chk1 n (bt0 h)) (k0_chk1.dec n _)) fun hw1 =>
      blkA0 n (bt0 h) hw1.down (Scalar.addi (Scalar.muli iv 4#32) 0#32) fun _ =>
      blkB0 n (bt0 h) hw1.down fun _ =>
      Prog.op (TpuEff.assume (k0_chk3 n (bt0 h) (bt1 h)) (k0_chk3.dec n (bt0 h) _)) fun hw3 =>
      blkA1 n (bt0 h) (bt1 h) hw3.down (Scalar.addi (Scalar.muli iv 4#32) 1#32) fun _ =>
      blkB1 n (bt0 h) (bt1 h) hw3.down fun _ =>
      Prog.op (TpuEff.assume (k0_chk5 n (bt0 h) (bt1 h) (bt2 h)) (k0_chk5.dec n (bt0 h) (bt1 h) _)) fun hw5 =>
      Prog.ret ⟨bt0 h, bt1 h, nxt (nxt n (bt0 h)) (bt1 h), k0_pay9 rm h, bt2 h, hw5.down⟩) := rfl

set_option maxRecDepth 65536 in
/-- A trip over the chunks, block by block. -/
theorem upBody_eq (k : Fin k0_t1_loop.trips) (n : BitVec 32) (rm : FVec F S32x128 .f32) :
    upBody k (n, rm) = (upPart1 k).bind fun r1 => (upPart2 k n rm r1.1 r1.2).bind fun r2 =>
      blkA2 n r2.1 r2.2.1 r2.2.2.2.2.1 r2.2.2.2.2.2 (Scalar.addi (Scalar.muli r1.1 4#32) 2#32) fun _ =>
      blkB2 n r2.1 r2.2.1 r2.2.2.2.2.1 r2.2.2.2.2.2 fun _ =>
      Prog.op (TpuEff.assume (k0_chk7 n r2.1 r2.2.1 r2.2.2.2.2.1 (bt3 r1.2)) (k0_chk7.dec n r2.1 r2.2.1 r2.2.2.2.2.1 _)) fun hw7 =>
      blkA3 n r2.1 r2.2.1 r2.2.2.2.2.1 (bt3 r1.2) hw7.down (Scalar.addi (Scalar.muli r1.1 4#32) 3#32) fun _ =>
      blkB3 n r2.1 r2.2.1 r2.2.2.2.2.1 (bt3 r1.2) hw7.down fun _ =>
      Prog.ret (nxt (nxt r2.2.2.1 r2.2.2.2.2.1) (bt3 r1.2), k0_pay22 r1.2 r2.2.2.2.1) := rfl

end Cert.Kernel.Hand

end
-- ==== Proof.K.DownDefs.lean ====
/- The loop over the groups of four live blocks, step by step. -/
module

public import proofs.«01_k».proof.Proof.K.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The first part of a trip over the groups of four live blocks. -/
abbrev dnPart3 (n : BitVec 32) (hw : k0_chk9 n) (t : Fin (k0_t2_loop n).trips) := k0_part3_skel (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 n hw 0#32 1#32 t
/-- The second part of a trip over the groups of four live blocks. -/
abbrev dnPart4 (n : BitVec 32) (hw : k0_chk9 n) (t : Fin (k0_t2_loop n).trips) (v299 : BitVec 32) (v322 v329 : Vec F S32x128 .fp8e4m3) (v332 : BitVec 32) (h16 : k0_chk16 v332) (v333 : BitVec 32) :=
  k0_part4_skel (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 n hw t v299 v322 v329 v332 h16 v333

/-- Wait for the copy of block 0 of the group, if there is one. -/
def dnWait0 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond16 n t = 1#1 then do
    let v : Elt F .i32 ← smemLoad mLive (Rect.unit (s := S116) (k0_off38 n t) S1.size (k0_off38_inb n hw t h)) numel1_S1 rfl
    have hv : k0_chk10 n t v := (← Prog.lift (TpuEff.assume (k0_chk10 n t v) (k0_chk10.dec n t v))).down
    Prog.lift (.waitDma2 (semD (k0_off39 n t) (k0_off39_inb n hw t h)) (mBlk (k0_off41 v) (k0_off41_inb n t v hv h)) (mSlot (k0_off40 n t) (k0_off40_inb n hw t h)) ((Memref.isWhole_whole _).wordExact_slice rfl _ (k0_off41_wordsfp8e4m3 n t v hv h)) ((Memref.isWhole_whole _).wordExact_slice rfl _ (k0_off40_wordsfp8e4m3 n hw t h)))
    cont ⟨⟩
  else cont ⟨⟩

/-- Wait for the copy of block 1 of the group, if there is one. -/
def dnWait1 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond17 n t = 1#1 then do
    let v : Elt F .i32 ← smemLoad mLive (Rect.unit (s := S116) (k0_off42 n t) S1.size (k0_off42_inb n hw t h)) numel1_S1 rfl
    have hv : k0_chk11 n t v := (← Prog.lift (TpuEff.assume (k0_chk11 n t v) (k0_chk11.dec n t v))).down
    Prog.lift (.waitDma2 (semD (k0_off43 n t) (k0_off43_inb n hw t h)) (mBlk (k0_off45 v) (k0_off45_inb n t v hv h)) (mSlot (k0_off44 n t) (k0_off44_inb n hw t h)) ((Memref.isWhole_whole _).wordExact_slice rfl _ (k0_off45_wordsfp8e4m3 n t v hv h)) ((Memref.isWhole_whole _).wordExact_slice rfl _ (k0_off44_wordsfp8e4m3 n hw t h)))
    cont ⟨⟩
  else cont ⟨⟩

/-- Wait for the copy of block 2 of the group, if there is one. -/
def dnWait2 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond18 n t = 1#1 then do
    let v : Elt F .i32 ← smemLoad mLive (Rect.unit (s := S116) (k0_off46 n t) S1.size (k0_off46_inb n hw t h)) numel1_S1 rfl
    have hv : k0_chk12 n t v := (← Prog.lift (TpuEff.assume (k0_chk12 n t v) (k0_chk12.dec n t v))).down
    Prog.lift (.waitDma2 (semD (k0_off47 n t) (k0_off47_inb n hw t h)) (mBlk (k0_off49 v) (k0_off49_inb n t v hv h)) (mSlot (k0_off48 n t) (k0_off48_inb n hw t h)) ((Memref.isWhole_whole _).wordExact_slice rfl _ (k0_off49_wordsfp8e4m3 n t v hv h)) ((Memref.isWhole_whole _).wordExact_slice rfl _ (k0_off48_wordsfp8e4m3 n hw t h)))
    cont ⟨⟩
  else cont ⟨⟩

/-- Wait for the copy of block 3 of the group, if there is one. -/
def dnWait3 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond19 n t = 1#1 then do
    let v : Elt F .i32 ← smemLoad mLive (Rect.unit (s := S116) (k0_off50 n t) S1.size (k0_off50_inb n hw t h)) numel1_S1 rfl
    have hv : k0_chk13 n t v := (← Prog.lift (TpuEff.assume (k0_chk13 n t v) (k0_chk13.dec n t v))).down
    Prog.lift (.waitDma2 (semD (k0_off51 n t) (k0_off51_inb n hw t h)) (mBlk (k0_off53 v) (k0_off53_inb n t v hv h)) (mSlot (k0_off52 n t) (k0_off52_inb n hw t h)) ((Memref.isWhole_whole _).wordExact_slice rfl _ (k0_off53_wordsfp8e4m3 n t v hv h)) ((Memref.isWhole_whole _).wordExact_slice rfl _ (k0_off52_wordsfp8e4m3 n hw t h)))
    cont ⟨⟩
  else cont ⟨⟩

/-- Start the copy of the block fourteen groups later into the slot of block 0, if there is one. -/
def dnFill0 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond20 n t = 1#1 then do
    let v : Elt F .i32 ← smemLoad mLive (Rect.unit (s := S116) (k0_off63 n t) S1.size (k0_off63_inb n hw t h)) numel1_S1 rfl
    have hv : k0_chk18 n t v := (← Prog.lift (TpuEff.assume (k0_chk18 n t v) (k0_chk18.dec n t v))).down
    Prog.lift (.enqueueDma (mBlk (k0_off66 v) (k0_off66_inb n t v hv h)) (.here (mSlot (k0_off65 n t) (k0_off65_inb n hw t h))) (.dma (semD (k0_off64 n t) (k0_off64_inb n hw t h))) ((Memref.isWhole_whole _).wordExact_slice rfl _ (k0_off66_wordsfp8e4m3 n t v hv h)) ((Memref.isWhole_whole _).wordExact_slice rfl _ (k0_off65_wordsfp8e4m3 n hw t h)) ⟨Or.inl rfl, trivial⟩)
    cont ⟨⟩
  else cont ⟨⟩

/-- Start the copy of the block fourteen groups later into the slot of block 1, if there is one. -/
def dnFill1 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond21 n t = 1#1 then do
    let v : Elt F .i32 ← smemLoad mLive (Rect.unit (s := S116) (k0_off67 n t) S1.size (k0_off67_inb n hw t h)) numel1_S1 rfl
    have hv : k0_chk19 n t v := (← Prog.lift (TpuEff.assume (k0_chk19 n t v) (k0_chk19.dec n t v))).down
    Prog.lift (.enqueueDma (mBlk (k0_off70 v) (k0_off70_inb n t v hv h)) (.here (mSlot (k0_off69 n t) (k0_off69_inb n hw t h))) (.dma (semD (k0_off68 n t) (k0_off68_inb n hw t h))) ((Memref.isWhole_whole _).wordExact_slice rfl _ (k0_off70_wordsfp8e4m3 n t v hv h)) ((Memref.isWhole_whole _).wordExact_slice rfl _ (k0_off69_wordsfp8e4m3 n hw t h)) ⟨Or.inl rfl, trivial⟩)
    cont ⟨⟩
  else cont ⟨⟩

/-- Start the copy of the block fourteen groups later into the slot of block 2, if there is one. -/
def dnFill2 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond22 n t = 1#1 then do
    let v : Elt F .i32 ← smemLoad mLive (Rect.unit (s := S116) (k0_off71 n t) S1.size (k0_off71_inb n hw t h)) numel1_S1 rfl
    have hv : k0_chk20 n t v := (← Prog.lift (TpuEff.assume (k0_chk20 n t v) (k0_chk20.dec n t v))).down
    Prog.lift (.enqueueDma (mBlk (k0_off74 v) (k0_off74_inb n t v hv h)) (.here (mSlot (k0_off73 n t) (k0_off73_inb n hw t h))) (.dma (semD (k0_off72 n t) (k0_off72_inb n hw t h))) ((Memref.isWhole_whole _).wordExact_slice rfl _ (k0_off74_wordsfp8e4m3 n t v hv h)) ((Memref.isWhole_whole _).wordExact_slice rfl _ (k0_off73_wordsfp8e4m3 n hw t h)) ⟨Or.inl rfl, trivial⟩)
    cont ⟨⟩
  else cont ⟨⟩

/-- Start the copy of the block fourteen groups later into the slot of block 3, if there is one. -/
def dnFill3 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond23 n t = 1#1 then do
    let v : Elt F .i32 ← smemLoad mLive (Rect.unit (s := S116) (k0_off75 n t) S1.size (k0_off75_inb n hw t h)) numel1_S1 rfl
    have hv : k0_chk21 n t v := (← Prog.lift (TpuEff.assume (k0_chk21 n t v) (k0_chk21.dec n t v))).down
    Prog.lift (.enqueueDma (mBlk (k0_off78 v) (k0_off78_inb n t v hv h)) (.here (mSlot (k0_off77 n t) (k0_off77_inb n hw t h))) (.dma (semD (k0_off76 n t) (k0_off76_inb n hw t h))) ((Memref.isWhole_whole _).wordExact_slice rfl _ (k0_off78_wordsfp8e4m3 n t v hv h)) ((Memref.isWhole_whole _).wordExact_slice rfl _ (k0_off77_wordsfp8e4m3 n hw t h)) ⟨Or.inl rfl, trivial⟩)
    cont ⟨⟩
  else cont ⟨⟩

/-- The positions of the first three blocks, and the codes of the first two. -/
def dnLd3 (n : BitVec 32) (hw : k0_chk9 n) (t : Fin (k0_t2_loop n).trips) :
    Prog (TpuEff nD τ sig (Elt F) Λ₀ .tc) (Σ' (v299_r0 : BitVec 32) (v322_r0 : Vec F S32x128 .fp8e4m3) (v329_r0 : Vec F S32x128 .fp8e4m3) (v332_r0 : Elt F .i32) (k0_hw16 : k0_chk16 v332_r0), BitVec 32) := do
  let v318 : Elt F .i32 ← smemLoad mLive (Rect.unit (s := S116) (k0_off54 n t) S1.size (k0_off54_inb n hw t)) numel1_S1 rfl
  have h14 : k0_chk14 v318 := (← Prog.lift (TpuEff.assume (k0_chk14 v318) (k0_chk14.dec v318))).down
  let v322 : Vec F S32x128 .fp8e4m3 ← Prog.lift (.load (Memref.whole cc0_scratch11) (Rect.unit (s := S32x14464) (k0_off55 v318) S32x128.size (k0_off55_inb v318 h14)).toLoadRect (View.loadsAt_vmem h_S32x128))
  let v325 : Elt F .i32 ← smemLoad mLive (Rect.unit (s := S116) (k0_off56 n t) S1.size (k0_off56_inb n hw t)) numel1_S1 rfl
  have h15 : k0_chk15 v325 := (← Prog.lift (TpuEff.assume (k0_chk15 v325) (k0_chk15.dec v325))).down
  let v329 : Vec F S32x128 .fp8e4m3 ← Prog.lift (.load (Memref.whole cc0_scratch11) (Rect.unit (s := S32x14464) (k0_off57 v325) S32x128.size (k0_off57_inb v325 h15)).toLoadRect (View.loadsAt_vmem h_S32x128))
  let v332 : Elt F .i32 ← smemLoad mLive (Rect.unit (s := S116) (k0_off58 n t) S1.size (k0_off58_inb n hw t)) numel1_S1 rfl
  have h16 : k0_chk16 v332 := (← Prog.lift (TpuEff.assume (k0_chk16 v332) (k0_chk16.dec v332))).down
  pure ⟨Scalar.muli (Scf.iv 0#32 1#32 t) 4#32, v322, v329, v332, h16, Scalar.muli v332 128#32⟩

/-- The remaining codes, the rows, and the group's share of the product. -/
def dnLd4 {α : Type} (n : BitVec 32) (hw : k0_chk9 n) (t : Fin (k0_t2_loop n).trips) (v322 v329 : Vec F S32x128 .fp8e4m3) (v332 : BitVec 32) (h16 : k0_chk16 v332) (cont : PUnit → Prog (TpuEff nD τ sig (Elt F) Λ₀ .tc) α) : Prog (TpuEff nD τ sig (Elt F) Λ₀ .tc) α := do
  let v336 : Vec F S32x128 .fp8e4m3 ← Prog.lift (.load (Memref.whole cc0_scratch11) (Rect.unit (s := S32x14464) (k0_off59 v332) S32x128.size (k0_off59_inb v332 h16)).toLoadRect (View.loadsAt_vmem h_S32x128))
  let v339 : Elt F .i32 ← smemLoad mLive (Rect.unit (s := S116) (k0_off60 n t) S1.size (k0_off60_inb n hw t)) numel1_S1 rfl
  have h17 : k0_chk17 v339 := (← Prog.lift (TpuEff.assume (k0_chk17 v339) (k0_chk17.dec v339))).down
  let v343 : Vec F S32x128 .fp8e4m3 ← Prog.lift (.load (Memref.whole cc0_scratch11) (Rect.unit (s := S32x14464) (k0_off61 v339) S32x128.size (k0_off61_inb v339 h17)).toLoadRect (View.loadsAt_vmem h_S32x128))
  let v348 : Vec F S32x4096 .f32 ← Prog.lift (.load (Memref.whole cc0_scratch12) (Rect.unit (s := S32x4096) ![0, 0] S32x4096.size inb_S32x4096_S32x4096_0_0).toLoadRect (View.loadsAt_vmem h_S32x4096))
  let v350 : Vec F S512x4096 .fp8e4m3 ← Prog.lift (.load (Memref.whole cc0_scratch9) (Rect.unit (s := S7168x4096) (k0_off62 n t) S512x4096.size (k0_off62_inb n hw t)).toLoadRect (View.loadsAt_vmem h_S512x4096))
  let v353 : Vec F S32x4096 .f32 ← Prog.lift (.load (Memref.whole cc0_scratch12) (Rect.unit (s := S32x4096) ![0, 0] S32x4096.size inb_S32x4096_S32x4096_0_0).toLoadRect (View.loadsAt_vmem h_S32x4096))
  Prog.lift (.store (Memref.whole cc0_scratch12) (Rect.unit (s := S32x4096) ![0, 0] S32x4096.size inb_S32x4096_S32x4096_0_0) (k0_pay11 v322 v329 v336 v343 v348 v350) Finset.univ (View.stores_vmem_bits_univ h_S32x4096 rfl) (.inl rfl))
  cont ⟨⟩

set_option maxRecDepth 65536 in
/-- The first part of a trip, wait by wait. -/
theorem dnPart3_eq (n : BitVec 32) (hw : k0_chk9 n) (t : Fin (k0_t2_loop n).trips) :
    dnPart3 (F := F) n hw t = dnWait0 n hw t fun _ => dnWait1 n hw t fun _ => dnWait2 n hw t fun _ => dnWait3 n hw t fun _ => dnLd3 n hw t := rfl

set_option maxRecDepth 65536 in
/-- The second part of a trip, refill by refill. -/
theorem dnPart4_eq (n : BitVec 32) (hw : k0_chk9 n) (t : Fin (k0_t2_loop n).trips) (v299 : BitVec 32) (v322 v329 : Vec F S32x128 .fp8e4m3) (v332 : BitVec 32) (h16 : k0_chk16 v332) (v333 : BitVec 32) :
    dnPart4 (F := F) n hw t v299 v322 v329 v332 h16 v333 = dnLd4 n hw t v322 v329 v332 h16 fun _ => dnFill0 n hw t fun _ => dnFill1 n hw t fun _ =>
      Prog.ret (Scalar.extui (Scalar.cmpi .slt (Scalar.addi (Scalar.addi v299 56#32) 2#32) n)) := rfl

set_option maxRecDepth 65536 in
/-- A trip over the groups, put together. -/
theorem dnBody_eq (n : BitVec 32) (hw : k0_chk9 n) (ng : BitVec 32) (s : FVec F S32x1 .f32) (v : FVec F S32x14336 .f32) (t : Fin (k0_t2_loop n).trips) :
    dnBody n hw ng s v t () = (dnPart3 n hw t).bind fun r => (dnPart4 n hw t r.1 r.2.1 r.2.2.1 r.2.2.2.1 r.2.2.2.2.1 r.2.2.2.2.2).bind fun _ =>
      dnFill2 n hw t fun _ => dnFill3 n hw t fun _ => Prog.ret () := rfl

end Cert.Kernel.Hand

end
-- ==== Proof.K.Words.lean ====
/- The kernel's word arithmetic in closed form: the count of live blocks is a natural number at most
   112, a position in the list of live blocks a natural number, a block number one below 112, and every
   offset, condition and side condition the kernel computes from them is stated in those numbers. -/
module

public import proofs.«01_k».proof.Proof.K.Base

@[expose] public section

set_option maxRecDepth 65536

namespace Cert.Kernel.Hand

open Cert.Kernel Cert.Kernel.Gen
open Idealize.ShloMosaic Idealize.ShloMosaic.TcCoe

/-- The word of a natural number. -/
abbrev W (n : ℕ) : BitVec 32 := BitVec.ofNat 32 n

theorem nxt_all : ∀ n : Fin 113, ∀ b : BitVec 1, nxt (W n) b = W (n + b.toNat) := by decide +kernel
/-- Adding a bit to a count. -/
theorem nxt_eq {n : ℕ} (h : n ≤ 112) (b : BitVec 1) : nxt (W n) b = W (n + b.toNat) := nxt_all ⟨n, by omega⟩ b

theorem condA_all : ∀ b : BitVec 1, k0_cond2 b = 1#1 ↔ b = 1#1 := by decide
theorem condB_all : ∀ n : Fin 113, ∀ b : BitVec 1, k0_cond3 (W n) b = 1#1 ↔ (b = 1#1 ∧ n.val < 56) := by decide +kernel
theorem condB_eq {n : ℕ} (h : n ≤ 112) (b : BitVec 1) : k0_cond3 (W n) b = 1#1 ↔ (b = 1#1 ∧ n < 56) := condB_all ⟨n, by omega⟩ b

theorem offA_all : ∀ n : Fin 113, k0_off12 (W n) = ![n.val] := by decide +kernel
theorem offA_eq {n : ℕ} (h : n ≤ 112) : k0_off12 (W n) = ![n] := offA_all ⟨n, by omega⟩
theorem offC_all : ∀ n : Fin 113, k0_off14 (W n) = ![n.val / 4 % 14] := by decide +kernel
theorem offC_eq {n : ℕ} (h : n ≤ 112) : k0_off14 (W n) = ![n / 4 % 14] := offC_all ⟨n, by omega⟩
theorem offS_all : ∀ n : Fin 113, k0_off15 (W n) = ![128 * (n.val % 56), 0] := by decide +kernel
theorem offS_eq {n : ℕ} (h : n ≤ 112) : k0_off15 (W n) = ![128 * (n % 56), 0] := offS_all ⟨n, by omega⟩
theorem offW_all : ∀ i : Fin 112, k0_off16 (W i) = ![128 * i.val, 0] := by decide +kernel
theorem offW_eq {i : ℕ} (h : i < 112) : k0_off16 (W i) = ![128 * i, 0] := offW_all ⟨i, h⟩

theorem chk1_all : ∀ n : Fin 113, ∀ b : BitVec 1, k0_chk1 (W n) b := by decide +kernel
/-- Every position up to 112 passes the side condition of a block. -/
theorem chk1_ok {n : ℕ} (h : n ≤ 112) (b : BitVec 1) : k0_chk1 (W n) b := chk1_all ⟨n, by omega⟩ b

theorem blkOk_all : ∀ i : Fin 112, (∀ a, (k0_off16 (W i)) a + S128x4096.size a ≤ S14336x4096.size a) ∧
    (∀ (hinb : ∀ a, (k0_off16 (W i)) a + S128x4096.size a ≤ S14336x4096.size a), (Rect.unit (s := S14336x4096) (k0_off16 (W i)) S128x4096.size hinb).WholeWords (EltTy.packing .fp8e4m3)) := by decide +kernel
/-- The rows of a block lie inside `w_down` and are whole words. -/
theorem blkOk {i : ℕ} (h : i < 112) : (∀ a, (k0_off16 (W i)) a + S128x4096.size a ≤ S14336x4096.size a) ∧
    (∀ (hinb : ∀ a, (k0_off16 (W i)) a + S128x4096.size a ≤ S14336x4096.size a), (Rect.unit (s := S14336x4096) (k0_off16 (W i)) S128x4096.size hinb).WholeWords (EltTy.packing .fp8e4m3)) := blkOk_all ⟨i, h⟩

theorem condA0 (b : BitVec 1) : k0_cond2 b = 1#1 ↔ b = 1#1 := condA_all b
theorem condB0 (n : BitVec 32) (b0 : BitVec 1) : k0_cond3 n b0 = k0_cond3 n b0 := rfl
theorem offA0 (n : BitVec 32) : k0_off12 n = k0_off12 n := rfl
theorem offA'0 (n : BitVec 32) : k0_off13 n = k0_off12 n := rfl
theorem offC0 (n : BitVec 32) : k0_off14 n = k0_off14 n := rfl
theorem offS0 (n : BitVec 32) : k0_off15 n = k0_off15 n := rfl
theorem offW0 (w : BitVec 32) : k0_off16 w = k0_off16 w := rfl
theorem chkA0 (n : BitVec 32) (b0 : BitVec 1) (h : k0_chk1 n b0) : k0_chk1 n b0 := h
theorem chkB0 (n : BitVec 32) (b0 : BitVec 1) {i : ℕ} (h : i < 112) : k0_chk2 n b0 (W i) := ⟨fun _ => (blkOk h).1, fun _ => (blkOk h).2⟩

theorem condA1 (b : BitVec 1) : k0_cond4 b = 1#1 ↔ b = 1#1 := condA_all b
theorem condB1 (n : BitVec 32) (b0 b1 : BitVec 1) : k0_cond5 n b0 b1 = k0_cond3 (nxt n b0) b1 := rfl
theorem offA1 (n : BitVec 32) (b0 : BitVec 1) : k0_off17 n b0 = k0_off12 (nxt n b0) := rfl
theorem offA'1 (n : BitVec 32) (b0 : BitVec 1) : k0_off18 n b0 = k0_off12 (nxt n b0) := rfl
theorem offC1 (n : BitVec 32) (b0 : BitVec 1) : k0_off19 n b0 = k0_off14 (nxt n b0) := rfl
theorem offS1 (n : BitVec 32) (b0 : BitVec 1) : k0_off20 n b0 = k0_off15 (nxt n b0) := rfl
theorem offW1 (w : BitVec 32) : k0_off21 w = k0_off16 w := rfl
theorem chkA1 (n : BitVec 32) (b0 b1 : BitVec 1) (h : k0_chk1 (nxt n b0) b1) : k0_chk3 n b0 b1 := h
theorem chkB1 (n : BitVec 32) (b0 b1 : BitVec 1) {i : ℕ} (h : i < 112) : k0_chk4 n b0 b1 (W i) := ⟨fun _ => (blkOk h).1, fun _ => (blkOk h).2⟩

theorem condA2 (b : BitVec 1) : k0_cond6 b = 1#1 ↔ b = 1#1 := condA_all b
theorem condB2 (n : BitVec 32) (b0 b1 b2 : BitVec 1) : k0_cond7 n b0 b1 b2 = k0_cond3 (nxt (nxt n b0) b1) b2 := rfl
theorem offA2 (n : BitVec 32) (b0 b1 : BitVec 1) : k0_off22 n b0 b1 = k0_off12 (nxt (nxt n b0) b1) := rfl
theorem offA'2 (n : BitVec 32) (b0 b1 : BitVec 1) : k0_off23 n b0 b1 = k0_off12 (nxt (nxt n b0) b1) := rfl
theorem offC2 (n : BitVec 32) (b0 b1 : BitVec 1) : k0_off24 n b0 b1 = k0_off14 (nxt (nxt n b0) b1) := rfl
theorem offS2 (n : BitVec 32) (b0 b1 : BitVec 1) : k0_off25 n b0 b1 = k0_off15 (nxt (nxt n b0) b1) := rfl
theorem offW2 (w : BitVec 32) : k0_off26 w = k0_off16 w := rfl
theorem chkA2 (n : BitVec 32) (b0 b1 b2 : BitVec 1) (h : k0_chk1 (nxt (nxt n b0) b1) b2) : k0_chk5 n b0 b1 b2 := h
theorem chkB2 (n : BitVec 32) (b0 b1 b2 : BitVec 1) {i : ℕ} (h : i < 112) : k0_chk6 n b0 b1 b2 (W i) := ⟨fun _ => (blkOk h).1, fun _ => (blkOk h).2⟩

theorem condA3 (b : BitVec 1) : k0_cond8 b = 1#1 ↔ b = 1#1 := condA_all b
theorem condB3 (n : BitVec 32) (b0 b1 b2 b3 : BitVec 1) : k0_cond9 n b0 b1 b2 b3 = k0_cond3 (nxt (nxt (nxt n b0) b1) b2) b3 := rfl
theorem offA3 (n : BitVec 32) (b0 b1 b2 : BitVec 1) : k0_off27 n b0 b1 b2 = k0_off12 (nxt (nxt (nxt n b0) b1) b2) := rfl
theorem offA'3 (n : BitVec 32) (b0 b1 b2 : BitVec 1) : k0_off28 n b0 b1 b2 = k0_off12 (nxt (nxt (nxt n b0) b1) b2) := rfl
theorem offC3 (n : BitVec 32) (b0 b1 b2 : BitVec 1) : k0_off29 n b0 b1 b2 = k0_off14 (nxt (nxt (nxt n b0) b1) b2) := rfl
theorem offS3 (n : BitVec 32) (b0 b1 b2 : BitVec 1) : k0_off30 n b0 b1 b2 = k0_off15 (nxt (nxt (nxt n b0) b1) b2) := rfl
theorem offW3 (w : BitVec 32) : k0_off31 w = k0_off16 w := rfl
theorem chkA3 (n : BitVec 32) (b0 b1 b2 b3 : BitVec 1) (h : k0_chk1 (nxt (nxt (nxt n b0) b1) b2) b3) : k0_chk7 n b0 b1 b2 b3 := h
theorem chkB3 (n : BitVec 32) (b0 b1 b2 b3 : BitVec 1) {i : ℕ} (h : i < 112) : k0_chk8 n b0 b1 b2 b3 (W i) := ⟨fun _ => (blkOk h).1, fun _ => (blkOk h).2⟩

theorem chk9_all : ∀ n : Fin 113, k0_chk9 (W n) := by decide +kernel
/-- Every count up to 112 passes the side condition of the second loop. -/
theorem chk9_ok {n : ℕ} (h : n ≤ 112) : k0_chk9 (W n) := chk9_all ⟨n, by omega⟩

theorem trips_all : ∀ n : Fin 113, (k0_t2_loop (W n)).trips = (n.val + 3) / 4 := by decide +kernel
/-- The number of groups of four. -/
theorem trips_eq {n : ℕ} (h : n ≤ 112) : (k0_t2_loop (W n)).trips = (n + 3) / 4 := trips_all ⟨n, by omega⟩
theorem trips3_all : ∀ n : Fin 113, (k0_t3_loop (W n)).trips = 0 := by decide +kernel
theorem trips3_eq {n : ℕ} (h : n ≤ 112) : (k0_t3_loop (W n)).trips = 0 := trips3_all ⟨n, by omega⟩

theorem bOff_all : ∀ i : Fin 113, k0_off55 (W i) = ![0, 128 * i.val] := by decide +kernel
theorem bOff_eq {i : ℕ} (h : i ≤ 112) : k0_off55 (W i) = ![0, 128 * i] := bOff_all ⟨i, by omega⟩
theorem chk14_all : ∀ i : Fin 113, k0_chk14 (W i) := by decide +kernel
theorem chk14_ok {i : ℕ} (h : i ≤ 112) : k0_chk14 (W i) := chk14_all ⟨i, by omega⟩
theorem bOff0 (w : BitVec 32) : k0_off55 w = k0_off55 w := rfl
theorem chkL0 {i : ℕ} (h : i ≤ 112) : k0_chk14 (W i) := chk14_ok h
theorem bOff1 (w : BitVec 32) : k0_off57 w = k0_off55 w := rfl
theorem chkL1 {i : ℕ} (h : i ≤ 112) : k0_chk15 (W i) := chk14_ok h
theorem bOff2 (w : BitVec 32) : k0_off59 w = k0_off55 w := rfl
theorem chkL2 {i : ℕ} (h : i ≤ 112) : k0_chk16 (W i) := chk14_ok h
theorem bOff3 (w : BitVec 32) : k0_off61 w = k0_off55 w := rfl
theorem chkL3 {i : ℕ} (h : i ≤ 112) : k0_chk17 (W i) := chk14_ok h
theorem lOff0_all : ∀ n : Fin 113, ∀ t : Fin (k0_t2_loop (W n)).trips, k0_off54 (W n) t = ![4 * t.val + 0] := by decide +kernel
theorem wCond0_all : ∀ n : Fin 113, ∀ t : Fin (k0_t2_loop (W n)).trips, k0_cond16 (W n) t = 1#1 ↔ 4 * t.val + 0 < n.val := by decide +kernel
theorem wOffL0_all : ∀ n : Fin 113, ∀ t : Fin (k0_t2_loop (W n)).trips, k0_off38 (W n) t = ![4 * t.val + 0] := by decide +kernel
theorem wOffC0_all : ∀ n : Fin 113, ∀ t : Fin (k0_t2_loop (W n)).trips, k0_off39 (W n) t = ![(4 * t.val + 0) / 4 % 14] := by decide +kernel
theorem rCond0_all : ∀ n : Fin 113, ∀ t : Fin (k0_t2_loop (W n)).trips, k0_cond20 (W n) t = 1#1 ↔ 4 * t.val + 56 + 0 < n.val := by decide +kernel
theorem rOffL0_all : ∀ n : Fin 113, ∀ t : Fin (k0_t2_loop (W n)).trips, k0_off63 (W n) t = ![4 * t.val + 56 + 0] := by decide +kernel
theorem rOffC0_all : ∀ n : Fin 113, ∀ t : Fin (k0_t2_loop (W n)).trips, k0_off64 (W n) t = ![(4 * t.val + 56 + 0) / 4 % 14] := by decide +kernel
theorem rOffS0_all : ∀ n : Fin 113, ∀ t : Fin (k0_t2_loop (W n)).trips, k0_off65 (W n) t = ![128 * ((4 * t.val + 56 + 0) % 56), 0] := by decide +kernel
theorem wChk0 (n : BitVec 32) (t : Fin (k0_t2_loop n).trips) {i : ℕ} (h : i < 112) : k0_chk10 n t (W i) := ⟨fun _ => (blkOk h).1, fun _ => (blkOk h).2⟩
theorem rChk0 (n : BitVec 32) (t : Fin (k0_t2_loop n).trips) {i : ℕ} (h : i < 112) : k0_chk18 n t (W i) := ⟨fun _ => (blkOk h).1, fun _ => (blkOk h).2⟩
theorem rOffW0 (w : BitVec 32) : k0_off66 w = k0_off16 w := rfl
theorem lOff1_all : ∀ n : Fin 113, ∀ t : Fin (k0_t2_loop (W n)).trips, k0_off56 (W n) t = ![4 * t.val + 1] := by decide +kernel
theorem wCond1_all : ∀ n : Fin 113, ∀ t : Fin (k0_t2_loop (W n)).trips, k0_cond17 (W n) t = 1#1 ↔ 4 * t.val + 1 < n.val := by decide +kernel
theorem wOffL1_all : ∀ n : Fin 113, ∀ t : Fin (k0_t2_loop (W n)).trips, k0_off42 (W n) t = ![4 * t.val + 1] := by decide +kernel
theorem wOffC1_all : ∀ n : Fin 113, ∀ t : Fin (k0_t2_loop (W n)).trips, k0_off43 (W n) t = ![(4 * t.val + 1) / 4 % 14] := by decide +kernel
theorem rCond1_all : ∀ n : Fin 113, ∀ t : Fin (k0_t2_loop (W n)).trips, k0_cond21 (W n) t = 1#1 ↔ 4 * t.val + 56 + 1 < n.val := by decide +kernel
theorem rOffL1_all : ∀ n : Fin 113, ∀ t : Fin (k0_t2_loop (W n)).trips, k0_off67 (W n) t = ![4 * t.val + 56 + 1] := by decide +kernel
theorem rOffC1_all : ∀ n : Fin 113, ∀ t : Fin (k0_t2_loop (W n)).trips, k0_off68 (W n) t = ![(4 * t.val + 56 + 1) / 4 % 14] := by decide +kernel
theorem rOffS1_all : ∀ n : Fin 113, ∀ t : Fin (k0_t2_loop (W n)).trips, k0_off69 (W n) t = ![128 * ((4 * t.val + 56 + 1) % 56), 0] := by decide +kernel
theorem wChk1 (n : BitVec 32) (t : Fin (k0_t2_loop n).trips) {i : ℕ} (h : i < 112) : k0_chk11 n t (W i) := ⟨fun _ => (blkOk h).1, fun _ => (blkOk h).2⟩
theorem rChk1 (n : BitVec 32) (t : Fin (k0_t2_loop n).trips) {i : ℕ} (h : i < 112) : k0_chk19 n t (W i) := ⟨fun _ => (blkOk h).1, fun _ => (blkOk h).2⟩
theorem rOffW1 (w : BitVec 32) : k0_off70 w = k0_off16 w := rfl
theorem lOff2_all : ∀ n : Fin 113, ∀ t : Fin (k0_t2_loop (W n)).trips, k0_off58 (W n) t = ![4 * t.val + 2] := by decide +kernel
theorem wCond2_all : ∀ n : Fin 113, ∀ t : Fin (k0_t2_loop (W n)).trips, k0_cond18 (W n) t = 1#1 ↔ 4 * t.val + 2 < n.val := by decide +kernel
theorem wOffL2_all : ∀ n : Fin 113, ∀ t : Fin (k0_t2_loop (W n)).trips, k0_off46 (W n) t = ![4 * t.val + 2] := by decide +kernel
theorem wOffC2_all : ∀ n : Fin 113, ∀ t : Fin (k0_t2_loop (W n)).trips, k0_off47 (W n) t = ![(4 * t.val + 2) / 4 % 14] := by decide +kernel
theorem rCond2_all : ∀ n : Fin 113, ∀ t : Fin (k0_t2_loop (W n)).trips, k0_cond22 (W n) t = 1#1 ↔ 4 * t.val + 56 + 2 < n.val := by decide +kernel
theorem rOffL2_all : ∀ n : Fin 113, ∀ t : Fin (k0_t2_loop (W n)).trips, k0_off71 (W n) t = ![4 * t.val + 56 + 2] := by decide +kernel
theorem rOffC2_all : ∀ n : Fin 113, ∀ t : Fin (k0_t2_loop (W n)).trips, k0_off72 (W n) t = ![(4 * t.val + 56 + 2) / 4 % 14] := by decide +kernel
theorem rOffS2_all : ∀ n : Fin 113, ∀ t : Fin (k0_t2_loop (W n)).trips, k0_off73 (W n) t = ![128 * ((4 * t.val + 56 + 2) % 56), 0] := by decide +kernel
theorem wChk2 (n : BitVec 32) (t : Fin (k0_t2_loop n).trips) {i : ℕ} (h : i < 112) : k0_chk12 n t (W i) := ⟨fun _ => (blkOk h).1, fun _ => (blkOk h).2⟩
theorem rChk2 (n : BitVec 32) (t : Fin (k0_t2_loop n).trips) {i : ℕ} (h : i < 112) : k0_chk20 n t (W i) := ⟨fun _ => (blkOk h).1, fun _ => (blkOk h).2⟩
theorem rOffW2 (w : BitVec 32) : k0_off74 w = k0_off16 w := rfl
theorem lOff3_all : ∀ n : Fin 113, ∀ t : Fin (k0_t2_loop (W n)).trips, k0_off60 (W n) t = ![4 * t.val + 3] := by decide +kernel
theorem wCond3_all : ∀ n : Fin 113, ∀ t : Fin (k0_t2_loop (W n)).trips, k0_cond19 (W n) t = 1#1 ↔ 4 * t.val + 3 < n.val := by decide +kernel
theorem wOffL3_all : ∀ n : Fin 113, ∀ t : Fin (k0_t2_loop (W n)).trips, k0_off50 (W n) t = ![4 * t.val + 3] := by decide +kernel
theorem wOffC3_all : ∀ n : Fin 113, ∀ t : Fin (k0_t2_loop (W n)).trips, k0_off51 (W n) t = ![(4 * t.val + 3) / 4 % 14] := by decide +kernel
theorem rCond3_all : ∀ n : Fin 113, ∀ t : Fin (k0_t2_loop (W n)).trips, k0_cond23 (W n) t = 1#1 ↔ 4 * t.val + 56 + 3 < n.val := by decide +kernel
theorem rOffL3_all : ∀ n : Fin 113, ∀ t : Fin (k0_t2_loop (W n)).trips, k0_off75 (W n) t = ![4 * t.val + 56 + 3] := by decide +kernel
theorem rOffC3_all : ∀ n : Fin 113, ∀ t : Fin (k0_t2_loop (W n)).trips, k0_off76 (W n) t = ![(4 * t.val + 56 + 3) / 4 % 14] := by decide +kernel
theorem rOffS3_all : ∀ n : Fin 113, ∀ t : Fin (k0_t2_loop (W n)).trips, k0_off77 (W n) t = ![128 * ((4 * t.val + 56 + 3) % 56), 0] := by decide +kernel
theorem wChk3 (n : BitVec 32) (t : Fin (k0_t2_loop n).trips) {i : ℕ} (h : i < 112) : k0_chk13 n t (W i) := ⟨fun _ => (blkOk h).1, fun _ => (blkOk h).2⟩
theorem rChk3 (n : BitVec 32) (t : Fin (k0_t2_loop n).trips) {i : ℕ} (h : i < 112) : k0_chk21 n t (W i) := ⟨fun _ => (blkOk h).1, fun _ => (blkOk h).2⟩
theorem rOffW3 (w : BitVec 32) : k0_off78 w = k0_off16 w := rfl
theorem aOff_all : ∀ n : Fin 113, ∀ t : Fin (k0_t2_loop (W n)).trips, k0_off62 (W n) t = ![512 * (t.val % 14), 0] := by decide +kernel

end Cert.Kernel.Hand
-- ==== Proof.K.Words2.lean ====
/- The kernel's word arithmetic of the padding of the last group, in closed form. -/
module

public import proofs.«01_k».proof.Proof.K.Base

@[expose] public section

set_option maxRecDepth 65536

namespace Cert.Kernel.Hand

open Cert.Kernel Cert.Kernel.Gen
open Idealize.ShloMosaic Idealize.ShloMosaic.TcCoe

theorem pCondL0_all : ∀ n : Fin 113, k0_cond10 (BitVec.ofNat 32 n) = 1#1 ↔ n.val + 0 < 4 * ((n.val + 3) / 4) := by decide +kernel
theorem pOffL0_all : ∀ n : Fin 113, k0_off32 (BitVec.ofNat 32 n) = ![n.val + 0] := by decide +kernel
theorem pCondZ0_all : ∀ n : Fin 113, k0_cond11 (BitVec.ofNat 32 n) = 1#1 → n.val + 0 < 56 ∧ n.val + 0 < 4 * ((n.val + 3) / 4) := by decide +kernel
theorem pOffZ0_all : ∀ n : Fin 113, n.val + 0 < 56 → k0_off33 (BitVec.ofNat 32 n) = ![128 * (n.val + 0), 0] := by decide +kernel
theorem pCondL1_all : ∀ n : Fin 113, k0_cond12 (BitVec.ofNat 32 n) = 1#1 ↔ n.val + 1 < 4 * ((n.val + 3) / 4) := by decide +kernel
theorem pOffL1_all : ∀ n : Fin 113, k0_off34 (BitVec.ofNat 32 n) = ![n.val + 1] := by decide +kernel
theorem pCondZ1_all : ∀ n : Fin 113, k0_cond13 (BitVec.ofNat 32 n) = 1#1 → n.val + 1 < 56 ∧ n.val + 1 < 4 * ((n.val + 3) / 4) := by decide +kernel
theorem pOffZ1_all : ∀ n : Fin 113, n.val + 1 < 56 → k0_off35 (BitVec.ofNat 32 n) = ![128 * (n.val + 1), 0] := by decide +kernel
theorem pCondL2_all : ∀ n : Fin 113, k0_cond14 (BitVec.ofNat 32 n) = 1#1 ↔ n.val + 2 < 4 * ((n.val + 3) / 4) := by decide +kernel
theorem pOffL2_all : ∀ n : Fin 113, k0_off36 (BitVec.ofNat 32 n) = ![n.val + 2] := by decide +kernel
theorem pCondZ2_all : ∀ n : Fin 113, k0_cond15 (BitVec.ofNat 32 n) = 1#1 → n.val + 2 < 56 ∧ n.val + 2 < 4 * ((n.val + 3) / 4) := by decide +kernel
theorem pOffZ2_all : ∀ n : Fin 113, n.val + 2 < 56 → k0_off37 (BitVec.ofNat 32 n) = ![128 * (n.val + 2), 0] := by decide +kernel

end Cert.Kernel.Hand
-- ==== Proof.K.Res.lean ====
/- The list of live blocks and the copies of their rows: what each buffer holds, and the rules for one copy. -/
module

public import proofs.«01_k».proof.Proof.K.Base
public import proofs.«01_k».proof.Proof.K.Words
public import proofs.«01_k».proof.Proof.K.Words2
public import Mathlib.Data.Nat.Count

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! Separating conjunctions over index sets. -/

theorem bigSep_union' {I : Type} [DecidableEq I] {s t : Finset I} (h : Disjoint s t) {Φ : I → sProp 𝕄} : bigSep (s ∪ t) Φ = iprop(bigSep s Φ ∗ bigSep t Φ) :=
  bigSep_union h
theorem bigSep_sdiff_split' {I : Type} [DecidableEq I] {s t : Finset I} (h : t ⊆ s) {Φ : I → sProp 𝕄} : bigSep s Φ = iprop(bigSep t Φ ∗ bigSep (s \ t) Φ) :=
  bigSep_sdiff_split h
theorem bigSep_insert' {I : Type} [DecidableEq I] {i : I} {s : Finset I} (h : i ∉ s) {Φ : I → sProp 𝕄} : bigSep (insert i s) Φ = iprop(Φ i ∗ bigSep s Φ) :=
  bigSep_insert h
theorem bigSep_erase' {I : Type} [DecidableEq I] {s : Finset I} {i : I} (h : i ∈ s) {Φ : I → sProp 𝕄} : bigSep s Φ = iprop(Φ i ∗ bigSep (s.erase i) Φ) :=
  bigSep_erase h

theorem sep_head {n m : ℕ} (h : n < m) (Φ : ℕ → sProp 𝕄) :
    bigSep (Finset.Ico n m) Φ = iprop(Φ n ∗ bigSep (Finset.Ico (n + 1) m) Φ) := by
  rw [← bigSep_insert' (by simp)]
  congr 1; ext x; simp only [Finset.mem_Ico, Finset.mem_insert]; omega

theorem sep_upd {s : Finset ℕ} {i : ℕ} (hi : i ∈ s) {Φ Ψ : ℕ → sProp 𝕄} (h : ∀ j ∈ s, j ≠ i → Φ j = Ψ j) :
    bigSep s Φ ⊢ iprop(Φ i ∗ (Ψ i -∗ bigSep s Ψ)) := by
  rw [bigSep_erase' hi, bigSep_erase' (Φ := Ψ) hi]
  iintro ⟨H1, H2⟩
  isplitl [H1]; · iexact H1
  iintro H3
  isplitl [H3]; · iexact H3
  rw [bigSep_congr (Φ := Ψ) (Ψ := Φ) fun j hj => (h j (Finset.mem_of_mem_erase hj) (Finset.ne_of_mem_erase hj)).symm]
  iexact H2

/-! The live blocks. -/

/-- Block `i` of the 112 is live: its bit is set. -/
def live (b : ℕ → BitVec 1) (i : ℕ) : Prop := i < 112 ∧ b i = 1#1
instance (b : ℕ → BitVec 1) : DecidablePred (live b) := fun _ => inferInstanceAs (Decidable (_ ∧ _))
/-- How many of the first `i` blocks are live. -/
def cnt (b : ℕ → BitVec 1) (i : ℕ) : ℕ := Nat.count (live b) i
/-- How many blocks are live. -/
def NL (b : ℕ → BitVec 1) : ℕ := cnt b 112
open Classical in
/-- The live block at position `p` of the list. -/
def lv (b : ℕ → BitVec 1) (p : ℕ) : ℕ := if h : ∃ i, live b i ∧ cnt b i = p then Nat.find h else 0

theorem cnt_zero (b : ℕ → BitVec 1) : cnt b 0 = 0 := Nat.count_zero _
theorem cnt_le (b : ℕ → BitVec 1) (i : ℕ) : cnt b i ≤ i := Nat.count_le _
theorem cnt_mono (b : ℕ → BitVec 1) {i j : ℕ} (h : i ≤ j) : cnt b i ≤ cnt b j := Nat.count_monotone _ h
theorem cnt_le_NL (b : ℕ → BitVec 1) {i : ℕ} (h : i ≤ 112) : cnt b i ≤ NL b := cnt_mono b h
theorem NL_le (b : ℕ → BitVec 1) : NL b ≤ 112 := cnt_le b 112
theorem bv1_cases (x : BitVec 1) : x = 0#1 ∨ x = 1#1 := by revert x; decide

theorem cnt_succ (b : ℕ → BitVec 1) {i : ℕ} (h : i < 112) : cnt b (i + 1) = cnt b i + (b i).toNat := by
  unfold cnt
  rw [Nat.count_succ]
  rcases bv1_cases (b i) with hb | hb
  · rw [if_neg (fun hl => by have := hl.2; rw [hb] at this; exact absurd this (by decide)), hb]; rfl
  · rw [if_pos ⟨h, hb⟩, hb]; rfl

theorem nxt_cnt (b : ℕ → BitVec 1) {i : ℕ} (h : i < 112) : nxt (W (cnt b i)) (b i) = W (cnt b (i + 1)) := by
  rw [nxt_eq (by have := cnt_le b i; omega), cnt_succ b h]

theorem lv_cnt (b : ℕ → BitVec 1) {i : ℕ} (h : i < 112) (hb : b i = 1#1) : lv b (cnt b i) = i := by
  have he : ∃ j, live b j ∧ cnt b j = cnt b i := ⟨i, ⟨h, hb⟩, rfl⟩
  unfold lv
  rw [dif_pos he]
  exact Nat.count_injective (Nat.find_spec he).1 ⟨h, hb⟩ (Nat.find_spec he).2
theorem lv_ex (b : ℕ → BitVec 1) {p i : ℕ} (h : p < cnt b i) : ∃ j, j < i ∧ live b j ∧ cnt b j = p := by
  induction i with
  | zero => rw [cnt_zero] at h; omega
  | succ i ih =>
    by_cases hp : p < cnt b i
    · obtain ⟨j, h1, h2⟩ := ih hp; exact ⟨j, by omega, h2⟩
    · refine ⟨i, by omega, ?_⟩
      unfold cnt at h hp ⊢
      rw [Nat.count_succ] at h
      split at h
      · rename_i hl; exact ⟨hl, by omega⟩
      · omega
theorem lv_spec (b : ℕ → BitVec 1) {p i : ℕ} (h : p < cnt b i) : lv b p < i ∧ live b (lv b p) ∧ cnt b (lv b p) = p := by
  obtain ⟨j, h1, h2, h3⟩ := lv_ex b h
  have : lv b p = j := by rw [← h3]; exact lv_cnt b h2.1 h2.2
  rw [this]; exact ⟨h1, h2, h3⟩
theorem lv_lt_of (b : ℕ → BitVec 1) {p i : ℕ} (h : p < cnt b i) : lv b p < i := (lv_spec b h).1
theorem lv_lt (b : ℕ → BitVec 1) {p : ℕ} (h : p < NL b) : lv b p < 112 := lv_lt_of b h

/-- The list of live blocks is right at its first `n` positions. -/
def LiveOk (b : ℕ → BitVec 1) (n : ℕ) (L : S116.Idx → BitVec 32) : Prop := ∀ x, (x 0).val < n → L x = W (lv b (x 0).val)

/-- Position `n` of the list. -/
def ix1 (n : ℕ) (h : n < 116) : S116.Idx := fun a => ⟨n, by have : a = 0 := Subsingleton.elim _ _; subst this; exact h⟩

theorem emb_unit {s : Shape} {off size : Fin s.rank → ℕ} {inb} (y : (Rect.unit (s := s) off size inb).shape.Idx) (a : Fin s.rank) :
    ((Rect.unit (s := s) off size inb).emb y a).val = off a + (y a).val := by
  rw [Rect.emb_apply]; show off a + 1 * (y a).val = _; omega

theorem live_emb {n : ℕ} (hn : n < 116) (h) (y : S1.Idx) : (mLive.access (Rect.unit (s := S116) ![n] S1.size h)).emb y = ix1 n hn := by
  refine funext fun (a : Fin 1) => ?_
  obtain rfl : a = 0 := Subsingleton.elim _ _
  apply Fin.ext
  refine (emb_unit (s := S116) (off := ![n]) (size := S1.size) (inb := h) y 0).trans ?_
  have : (y 0).val < 1 := (y 0).isLt
  show n + (y 0).val = n
  omega

/-- A position of the list is read. -/
theorem wp_liveRead (c : Dev nD) {n : ℕ} (hn : n < 116) {off : Fin 1 → ℕ} {h} (e : off = ![n]) {L : S116.Idx → BitVec 32} {α : Type}
    {k : BitVec 32 → Prog (TpuEff nD τ sig (Elt F) Λ₀ .tc) α} {Q : α → sProp 𝕄} :
    ((c : Thread nD τ).loc cc0_scratch14 ↦{fullShare} L : sProp 𝕄)
      ⊢ iprop((((c : Thread nD τ).loc cc0_scratch14 ↦{fullShare} L) -∗ WP c (k (L (ix1 n hn))) Q)
        -∗ WP c (smemLoadElt mLive (Rect.unit (s := S116) off S1.size h) (View.loads_smem_one rfl numel1_S1) (Shape.Idx.first (numel1_S1.symm ▸ Nat.one_pos)) k) Q) := by
  subst e
  have hv : (mLive.access (Rect.unit (s := S116) ![n] S1.size h)).read (Elt F) L (Shape.Idx.first (numel1_S1.symm ▸ Nat.one_pos)) = L (ix1 n hn) := by
    rw [View.read_apply, live_emb hn]; rfl
  have key : ((c : Thread nD τ).loc cc0_scratch14 ↦{fullShare} L : sProp 𝕄)
      ⊢ iprop((((c : Thread nD τ).loc cc0_scratch14 ↦{fullShare} L) -∗ WP c (k ((mLive.access (Rect.unit (s := S116) ![n] S1.size h)).read (Elt F) L (Shape.Idx.first (numel1_S1.symm ▸ Nat.one_pos)))) Q)
        -∗ WP c (smemLoadElt mLive (Rect.unit (s := S116) ![n] S1.size h) (View.loads_smem_one rfl numel1_S1) (Shape.Idx.first (numel1_S1.symm ▸ Nat.one_pos)) k) Q) :=
    wp_smemLoadElt (defs := defs₀ (F := F)) Variants.none (c : Thread nD τ) none Set.univ (m := mLive) (r := Rect.unit (s := S116) ![n] S1.size h)
    (hw := View.loads_smem_one rfl numel1_S1) (x := Shape.Idx.first (numel1_S1.symm ▸ Nat.one_pos)) (k := k) (Q := Q) (S := Finset.univ) (q := fullShare) (f := L) (Finset.subset_univ _)
  rw [hv] at key
  exact key

theorem smemLoad_bind {off : Fin 1 → ℕ} {h} {α : Type} (k : BitVec 32 → Prog (TpuEff nD τ sig (Elt F) Λ₀ .tc) α) :
    (smemLoad (Λ := Λ₀) (nD := nD) (τ := τ) (Val := Elt F) (p := .tc) mLive (Rect.unit (s := S116) off S1.size h) numel1_S1 rfl).bind k
      = smemLoadElt (Λ := Λ₀) (nD := nD) (τ := τ) (Val := Elt F) (p := .tc) mLive (Rect.unit (s := S116) off S1.size h) (View.loads_smem_one rfl numel1_S1) (Shape.Idx.first (numel1_S1.symm ▸ Nat.one_pos)) k := rfl

/-- A block's position is recorded in the list under a condition. -/
theorem wp_record (c : Dev nD) (b : ℕ → BitVec 1) {i : ℕ} (hi : i < 112) {C : Prop} [Decidable C] (hC : C ↔ b i = 1#1) {off : Fin 1 → ℕ} {h : C → ∀ a, off a + S1.size a ≤ S116.size a} (e : off = ![cnt b i])
    {w : BitVec 32} (hw : w = W i) {α : Type} {cont : PUnit → Prog (TpuEff nD τ sig (Elt F) Λ₀ .tc) α} {Q : α → sProp 𝕄} :
    iprop(∃ L, ((c : Thread nD τ).loc cc0_scratch14 ↦{fullShare} L) ∗ ⌜LiveOk b (cnt b i) L⌝ : sProp 𝕄)
      ⊢ iprop((iprop(∃ L, ((c : Thread nD τ).loc cc0_scratch14 ↦{fullShare} L) ∗ ⌜LiveOk b (cnt b (i + 1)) L⌝) -∗ WP c (cont ⟨⟩) Q)
        -∗ WP c (if hc : C then (smemLoad mLive (Rect.unit (s := S116) off S1.size (h hc)) numel1_S1 rfl).bind fun _ =>
            Prog.op (.store mLive (Rect.unit (s := S116) off S1.size (h hc)) (fun _ => w) Finset.univ (View.stores_smem_one rfl numel1_S1) (.inl rfl)) cont
          else cont ⟨⟩) Q) := by
  subst e
  have hn : cnt b i < 116 := by have := cnt_le b i; omega
  split
  · rename_i hc
    have hb := hC.mp hc
    iintro ⟨%L, HL, %hL⟩ Hk
    rw [smemLoad_bind]
    iapply (wp_liveRead c hn rfl) $$ HL
    iintro HL
    ihave HL := (show ((c : Thread nD τ).loc cc0_scratch14 ↦{fullShare} L : sProp 𝕄) ⊢ ((mLive.access (Rect.unit (s := S116) ![cnt b i] S1.size (h hc))).loc (c : Thread nD τ) ↦{fullShare} L) from .rfl) $$ HL
    iapply (wp_store (defs := defs₀ (F := F)) Variants.none (c : Thread nD τ) none Set.univ (m := mLive) (S := Finset.univ) (Finset.subset_univ _)) $$ HL
    iintro HL
    iapply Hk
    iexists _
    isplitl [HL]; · iexact HL
    ipureintro
    intro x hx
    rw [cnt_succ b hi, hb] at hx
    change (x 0).val < cnt b i + 1 at hx
    by_cases hxe : (x 0).val = cnt b i
    · have hx' : x = (mLive.access (Rect.unit (s := S116) ![cnt b i] S1.size (h hc))).emb (Shape.Idx.first (numel1_S1.symm ▸ Nat.one_pos)) := by
        rw [live_emb hn]; refine funext fun (a : Fin 1) => ?_; obtain rfl : a = 0 := Subsingleton.elim _ _; exact Fin.ext hxe
      rw [hxe, lv_cnt b hi hb, hx', View.write_emb_of_mem _ _ (Finset.mem_univ _), hw]
      rfl
    · have hx' : (x 0).val < cnt b i := by omega
      rw [View.write_of_not_mem _ _ _ ?_]
      · exact hL x hx'
      · intro hm
        obtain ⟨y, -, hy⟩ := Finset.mem_map.mp hm
        apply hxe
        rw [← hy, live_emb hn]; rfl
  · rename_i hc
    have hb : b i = 0#1 := (bv1_cases (b i)).resolve_right fun hb => hc (hC.mpr hb)
    have hs : cnt b (i + 1) = cnt b i := by rw [cnt_succ b hi, hb]; rfl
    rw [hs]
    iintro HL Hk
    iapply Hk
    iexact HL

/-! The second matrix's rows: slots, shares and copies. -/

/-- Rows of slot `p % 56` are the rows of the live block at position `p`. -/
def SlotHas (f4 : Vec F S14336x4096 .fp8e4m3) (b : ℕ → BitVec 1) (p : ℕ) (f : Vec F S7168x4096 .fp8e4m3) : Prop :=
  ∀ x ∈ slotS (p % 56), ∀ y : S14336x4096.Idx, (y 0).val = 128 * lv b p + (x 0).val % 128 → (y 1).val = (x 1).val → f x = f4 y

/-- The slot of position `p`, holding its block if there is one. -/
def SV (c : Dev nD) (f4 : Vec F S14336x4096 .fp8e4m3) (b : ℕ → BitVec 1) (p : ℕ) : sProp 𝕄 :=
  iprop(∃ f : Vec F S7168x4096 .fp8e4m3, ((c : Thread nD τ).loc cc0_scratch9 ↦[slotS (p % 56)]{fullShare} f) ∗ ⌜p < NL b → SlotHas f4 b p f⌝)

/-- The share of the second matrix's rows that position `p`'s copy reads. -/
def TokV (c : Dev nD) (f4 : Vec F S14336x4096 .fp8e4m3) (b : ℕ → BitVec 1) (p : ℕ) : sProp 𝕄 :=
  iprop((c : Thread nD τ).loc main_arg4 ↦[blkS (lv b p)]{Transfers.shareTokN fullShare p} f4)

/-- What position `p`'s copy delivers. -/
def Del (c : Dev nD) (f4 : Vec F S14336x4096 .fp8e4m3) (b : ℕ → BitVec 1) (p : ℕ) : sProp 𝕄 := iprop(SV c f4 b p ∗ TokV c f4 b p)

/-- Group `g`'s cell with `j` copies issued and `u` awaited of it. -/
def CellU (c : Dev nD) (f4 : Vec F S14336x4096 .fp8e4m3) (b : ℕ → BitVec 1) (g j u : ℕ) : sProp 𝕄 :=
  Transfers.Batch EC (c : Thread nD τ) (.dma (semDn g)) () KD (fun t : Fin (min 4 (NL b - 4 * g)) => Del c f4 b (4 * g + t.val)) j u

instance (c : Dev nD) (f4 : Vec F S14336x4096 .fp8e4m3) (b : ℕ → BitVec 1) (p : ℕ) : Storable (upEmb : UEmb _ 𝕄) (Del c f4 b p) := by
  unfold Del SV TokV; infer_instance

theorem semDn_mod (g : ℕ) : semDn (g % 14) = semDn g := by unfold semDn; simp

/-- One copy is started. -/
theorem wp_issue (c : Dev nD) (f4 : Vec F S14336x4096 .fp8e4m3) (b : ℕ → BitVec 1) (g j p : ℕ) (hp : p = 4 * g + j) (hj : j < 4) (hN : p < NL b)
    {osem : Fin 1 → ℕ} {osrc odst : Fin 2 → ℕ} {hsem hsrc hdst h1 h2 h3} (e1 : osem = ![p / 4 % 14]) (e2 : osrc = ![128 * lv b p, 0]) (e3 : odst = ![128 * (p % 56), 0])
    {α : Type} {k : PUnit → Prog (TpuEff nD τ sig (Elt F) Λ₀ .tc) α} {Q : α → sProp 𝕄} :
    iprop(iprop(∃ f : Vec F S7168x4096 .fp8e4m3, (c : Thread nD τ).loc cc0_scratch9 ↦[slotS (p % 56)]{fullShare} f) ∗ TokV c f4 b p ∗ CellU c f4 b g j 0 : sProp 𝕄)
      ⊢ iprop((CellU c f4 b g (j + 1) 0 -∗ WP c (k ⟨⟩) Q)
        -∗ WP c (.op (.enqueueDma (mBlk osrc hsrc) (.here (mSlot odst hdst)) (.dma (semD osem hsem)) h1 h2 h3) k) Q) := by
  subst e1 e2 e3
  have hs : semDn g = semD ![p / 4 % 14] hsem := by
    rw [semD_eq, semDn_mod]; congr 1; omega
  have hjn : j < min 4 (NL b - 4 * g) := by omega
  unfold CellU TokV
  rw [hs]
  iintro ⟨⟨%f, Hf⟩, HT, HB⟩ Hk
  iapply (Transfers.wp_dmaBatch EC Variants.none (c : Thread nD τ) none (src := mBlk ![128 * lv b p, 0] hsrc) (dst := mSlot ![128 * (p % 56), 0] hdst)
      (q := Transfers.shareTokN fullShare p) (fs := f4) (Sd := slotS (p % 56)) (fd := f) (D := fun t : Fin (min 4 (NL b - 4 * g)) => Del c f4 b (4 * g + t.val)) () KD rfl (by rw [mSlot_set]) hjn (Nat.zero_le _) ?_) $$ [HT Hf HB]
  · subst hp
    show _ ⊢ Del c f4 b (4 * g + j)
    unfold Del SV TokV
    iintro ⟨Hd, Hs⟩
    isplitl [Hd]
    · iexists _
      isplitl [Hd]; · iexact Hd
      ipureintro
      intro _ x hx y hy0 hy1
      have hx' : x ∈ (mSlot ![128 * ((4 * g + j) % 56), 0] hdst).view.set := by rw [mSlot_set]; exact hx
      obtain ⟨z, -, hz⟩ := Finset.mem_map.mp hx'
      rw [← hz, View.write_emb_of_mem _ _ (Finset.mem_univ _)]
      show f4 ((mBlk ![128 * lv b (4 * g + j), 0] hsrc).view.emb z) = f4 y
      have e0 : (((mBlk ![128 * lv b (4 * g + j), 0] hsrc).view.emb z) 0).val = 128 * lv b (4 * g + j) + (z 0).val := emb_unit (s := S14336x4096) (off := ![128 * lv b (4 * g + j), 0]) (size := S128x4096.size) (inb := hsrc) z 0
      have e1 : (((mBlk ![128 * lv b (4 * g + j), 0] hsrc).view.emb z) 1).val = 0 + (z 1).val := emb_unit (s := S14336x4096) (off := ![128 * lv b (4 * g + j), 0]) (size := S128x4096.size) (inb := hsrc) z 1
      have d0 : (x 0).val = 128 * ((4 * g + j) % 56) + (z 0).val := by rw [← hz]; exact emb_unit (s := S7168x4096) (off := ![128 * ((4 * g + j) % 56), 0]) (size := S128x4096.size) (inb := hdst) z 0
      have d1 : (x 1).val = 0 + (z 1).val := by rw [← hz]; exact emb_unit (s := S7168x4096) (off := ![128 * ((4 * g + j) % 56), 0]) (size := S128x4096.size) (inb := hdst) z 1
      have hz0 : (z 0).val < 128 := (z 0).isLt
      congr 1
      refine funext fun (a : Fin 2) => Fin.ext ?_
      revert a
      refine Fin.forall_fin_two.mpr ⟨?_, ?_⟩
      · rw [e0, hy0, d0]; omega
      · rw [e1, hy1, d1]
    · rw [mBlk_set]; iexact Hs
  · isplitl [HT]; · rw [mBlk_set]; iexact HT
    isplitl [Hf]; · iexact Hf
    iexact HB
  · iexact Hk

end Cert.Kernel.Hand

end
-- ==== Proof.K.Start.lean ====
/- Recording the live blocks and starting their copies. -/
module

public import proofs.«01_k».proof.Proof.K.Res

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The list of live blocks, right at its first `n` positions. -/
def Live (c : Dev nD) (b : ℕ → BitVec 1) (n : ℕ) : sProp 𝕄 :=
  iprop(∃ L, ((c : Thread nD τ).loc cc0_scratch14 ↦{fullShare} L) ∗ ⌜LiveOk b n L⌝)

/-- Reading a recorded position, checking it and starting its copy. -/
theorem wp_fetch (c : Dev nD) (f4 : Vec F S14336x4096 .fp8e4m3) (b : ℕ → BitVec 1) (g j p n : ℕ) (hp : p = 4 * g + j) (hj : j < 4) (hN : p < NL b) (hpn : p < n)
    {offA osem : Fin 1 → ℕ} {osrc : BitVec 32 → Fin 2 → ℕ} {odst : Fin 2 → ℕ} {hA hsem hdst}
    {chk : BitVec 32 → Prop} {dec : ∀ v, Decidable (chk v)} {hsrc : ∀ v, chk v → ∀ a, osrc v a + S128x4096.size a ≤ S14336x4096.size a}
    {h1 : ∀ v hw, (mBlk (osrc v) (hsrc v hw)).view.WordExact} {h2 : (mSlot odst hdst).view.WordExact} {h3}
    (eA : offA = ![p]) (e1 : osem = ![p / 4 % 14]) (e2 : osrc (W (lv b p)) = ![128 * lv b p, 0]) (e3 : odst = ![128 * (p % 56), 0]) (hchk : chk (W (lv b p)))
    {α : Type} {cont : PUnit.{1} → Prog (TpuEff nD τ sig (Elt F) Λ₀ .tc) α} {Q : α → sProp 𝕄} :
    iprop(Live c b n ∗ iprop(∃ f : Vec F S7168x4096 .fp8e4m3, (c : Thread nD τ).loc cc0_scratch9 ↦[slotS (p % 56)]{fullShare} f) ∗ TokV c f4 b p ∗ CellU c f4 b g j 0 : sProp 𝕄)
      ⊢ iprop((iprop(Live c b n ∗ CellU c f4 b g (j + 1) 0) -∗ WP c (cont ⟨⟩) Q)
        -∗ WP c ((smemLoad mLive (Rect.unit (s := S116) offA S1.size hA) numel1_S1 rfl).bind fun v =>
            Prog.op (.assume (chk v) (dec v)) fun hw =>
            Prog.op (.enqueueDma (mBlk (osrc v) (hsrc v hw.down)) (.here (mSlot odst hdst)) (.dma (semD osem hsem)) (h1 v hw.down) h2 h3) cont) Q) := by
  have hlt := NL_le b
  unfold Live
  rw [smemLoad_bind]
  iintro ⟨⟨%L, HL, %hL⟩, Hf, HT, HB⟩ Hk
  iapply (wp_liveRead c (n := p) (by omega) eA) $$ HL
  iintro HL
  rw [show L (ix1 p (by omega)) = W (lv b p) from hL _ hpn]
  iapply (wp_assume (defs := defs₀ (F := F)) Variants.none (c : Thread nD τ) none Set.univ hchk)
  iapply (wp_issue c f4 b g j p hp hj hN e1 e2 e3) $$ [Hf HT HB]
  · isplitl [Hf]; · iexact Hf
    isplitl [HT]; · iexact HT
    iexact HB
  iintro HB
  iapply Hk
  isplitl [HL]
  · iexists L
    isplitl [HL]; · iexact HL
    ipureintro; exact hL
  iexact HB

/-- The fourteen cells when `n` blocks have been recorded and none has been used. -/
def Cells (c : Dev nD) (f4 : Vec F S14336x4096 .fp8e4m3) (b : ℕ → BitVec 1) (n : ℕ) : sProp 𝕄 :=
  bigSep (Finset.range 14) fun g => CellU c f4 b g (min 4 (n - 4 * g)) 0
/-- The slots that no copy fills yet. -/
def FreeS (c : Dev nD) (n : ℕ) : sProp 𝕄 :=
  bigSep (Finset.Ico n 56) fun p => iprop(∃ f : Vec F S7168x4096 .fp8e4m3, (c : Thread nD τ).loc cc0_scratch9 ↦[slotS (p % 56)]{fullShare} f)
/-- The share of position `p`, if a block is recorded there in the end. -/
def OptTok (c : Dev nD) (f4 : Vec F S14336x4096 .fp8e4m3) (b : ℕ → BitVec 1) (p : ℕ) : sProp 𝕄 := if p < NL b then TokV c f4 b p else iprop(emp)
/-- The shares that no copy reads yet. -/
def Toks (c : Dev nD) (f4 : Vec F S14336x4096 .fp8e4m3) (b : ℕ → BitVec 1) (n : ℕ) : sProp 𝕄 := bigSep (Finset.Ico (min n 56) 170) (OptTok c f4 b)
/-- What the copies own when `n` blocks have been recorded and none has been used. -/
def Cop (c : Dev nD) (f4 : Vec F S14336x4096 .fp8e4m3) (b : ℕ → BitVec 1) (n : ℕ) : sProp 𝕄 := iprop(Cells c f4 b n ∗ FreeS c n ∗ Toks c f4 b n)

/-- From 56 blocks on no copy is started. -/
theorem Cop_full (c : Dev nD) (f4 : Vec F S14336x4096 .fp8e4m3) (b : ℕ → BitVec 1) {n m : ℕ} (hn : 56 ≤ n) (hm : 56 ≤ m) : Cop c f4 b n = Cop c f4 b m := by
  unfold Cop Cells FreeS Toks
  rw [Finset.Ico_eq_empty (by omega), Finset.Ico_eq_empty (by omega : ¬ m < 56), show min n 56 = min m 56 by omega]
  rw [bigSep_congr fun g hg => ?_]
  have := Finset.mem_range.mp hg
  rw [show min 4 (n - 4 * g) = min 4 (m - 4 * g) by omega]

theorem Cop_open (c : Dev nD) (f4 : Vec F S14336x4096 .fp8e4m3) (b : ℕ → BitVec 1) {n : ℕ} (hn : n < 56) (hN : n < NL b) :
    Cop c f4 b n ⊢ iprop(iprop(iprop(∃ f : Vec F S7168x4096 .fp8e4m3, (c : Thread nD τ).loc cc0_scratch9 ↦[slotS (n % 56)]{fullShare} f) ∗ TokV c f4 b n ∗ CellU c f4 b (n / 4) (n % 4) 0)
      ∗ (CellU c f4 b (n / 4) (n % 4 + 1) 0 -∗ Cop c f4 b (n + 1))) := by
  have hT : OptTok c f4 b n = TokV c f4 b n := if_pos hN
  unfold Cop Cells FreeS Toks
  rw [sep_head hn, show min n 56 = n by omega, show min (n + 1) 56 = n + 1 by omega, sep_head (by omega : n < 170), hT]
  iintro ⟨Hc, ⟨Hf, Hfs⟩, Ht, Hts⟩
  ihave Hc := (sep_upd (Φ := fun g => CellU c f4 b g (min 4 (n - 4 * g)) 0) (Ψ := fun g => CellU c f4 b g (min 4 (n + 1 - 4 * g)) 0) (i := n / 4) (s := Finset.range 14) (Finset.mem_range.mpr (by omega))
    (fun j hj hne => by rw [show min 4 (n - 4 * j) = min 4 (n + 1 - 4 * j) by omega])) $$ Hc
  icases Hc with ⟨H1, H2⟩
  rw [show min 4 (n - 4 * (n / 4)) = n % 4 by omega, show min 4 (n + 1 - 4 * (n / 4)) = n % 4 + 1 by omega]
  isplitl [Hf Ht H1]
  · isplitl [Hf]; · iexact Hf
    isplitl [Ht]
    · iexact Ht
    iexact H1
  iintro H
  isplitl [H2 H]; · iapply H2; iexact H
  isplitl [Hfs]; · iexact Hfs
  iexact Hts

/-- A recorded block's copy is started under a condition. -/
theorem wp_start (c : Dev nD) (f4 : Vec F S14336x4096 .fp8e4m3) (b : ℕ → BitVec 1) {i : ℕ} (hi : i < 112) {C : Prop} [Decidable C] (hC : C ↔ (b i = 1#1 ∧ cnt b i < 56))
    {offA osem : Fin 1 → ℕ} {osrc : BitVec 32 → Fin 2 → ℕ} {odst : Fin 2 → ℕ}
    {hA : C → ∀ a, offA a + S1.size a ≤ S116.size a} {hsem : C → ∀ a, osem a + S1.size a ≤ S14.size a} {hdst : C → ∀ a, odst a + S128x4096.size a ≤ S7168x4096.size a}
    {chk : BitVec 32 → Prop} {dec : ∀ v, Decidable (chk v)} {hsrc : C → ∀ v, chk v → ∀ a, osrc v a + S128x4096.size a ≤ S14336x4096.size a}
    {h1 : ∀ hc v hw, (mBlk (osrc v) (hsrc hc v hw)).view.WordExact} {h2 : ∀ hc, (mSlot odst (hdst hc)).view.WordExact} {h3 : ∀ hc, DmaTarget.Typed (nD := nD) .hbm (.dma (semD osem (hsem hc))) (DmaTarget.here (nD := nD) (p := (Proc.tc : Proc τ)) (mSlot odst (hdst hc)))}
    (eA : offA = ![cnt b i]) (e1 : osem = ![cnt b i / 4 % 14]) (e2 : osrc (W i) = ![128 * i, 0]) (e3 : odst = ![128 * (cnt b i % 56), 0]) (hchk : chk (W i))
    {α : Type} {cont : PUnit.{1} → Prog (TpuEff nD τ sig (Elt F) Λ₀ .tc) α} {Q : α → sProp 𝕄} :
    iprop(Live c b (cnt b (i + 1)) ∗ Cop c f4 b (cnt b i) : sProp 𝕄)
      ⊢ iprop((iprop(Live c b (cnt b (i + 1)) ∗ Cop c f4 b (cnt b (i + 1))) -∗ WP c (cont ⟨⟩) Q)
        -∗ WP c (if hc : C then (smemLoad mLive (Rect.unit (s := S116) offA S1.size (hA hc)) numel1_S1 rfl).bind fun v =>
            Prog.op (.assume (chk v) (dec v)) fun hw =>
            Prog.op (.enqueueDma (mBlk (osrc v) (hsrc hc v hw.down)) (.here (mSlot odst (hdst hc))) (.dma (semD osem (hsem hc))) (h1 hc v hw.down) (h2 hc) (h3 hc)) cont
          else cont ⟨⟩) Q) := by
  have hs := cnt_succ b hi
  have hle := cnt_le_NL b (i := i + 1) (by omega)
  split
  · rename_i hc
    obtain ⟨hb, h56⟩ := hC.mp hc
    rw [hb] at hs
    change _ = _ + 1 at hs
    have hlv := lv_cnt b hi hb
    iintro ⟨HL, HC⟩ Hk
    ihave HC := (Cop_open c f4 b h56 (by omega)) $$ HC
    icases HC with ⟨⟨Hf, HT, HB⟩, HC⟩
    iapply (wp_fetch c f4 b (cnt b i / 4) (cnt b i % 4) (cnt b i) (cnt b (i + 1)) (by omega) (by omega) (by omega) (by omega) eA e1 (by rw [hlv]; exact e2) e3 (by rw [hlv]; exact hchk)) $$ [HL Hf HT HB]
    · isplitl [HL]; · iexact HL
      isplitl [Hf]; · iexact Hf
      isplitl [HT]; · iexact HT
      iexact HB
    iintro ⟨HL, HB⟩
    iapply Hk
    isplitl [HL]; · iexact HL
    rw [hs]
    iapply HC
    iexact HB
  · rename_i hc
    have : Cop c f4 b (cnt b i) = Cop c f4 b (cnt b (i + 1)) := by
      by_cases h56 : 56 ≤ cnt b i
      · exact Cop_full c f4 b h56 (by omega)
      · have hb : b i = 0#1 := (bv1_cases (b i)).resolve_right fun hb => hc (hC.mpr ⟨hb, by omega⟩)
        rw [hs, hb]; rfl
    rw [this]
    iintro H Hk
    iapply Hk
    iexact H

/-- Block 0 of chunk `k` is recorded. -/
theorem wp_A0 (c : Dev nD) (b : ℕ → BitVec 1) {k : ℕ} (hk : k < 28) {hw} {w : BitVec 32} (hw' : w = W (4 * k)) {α : Type}
    {cont : PUnit.{1} → Prog (TpuEff nD τ sig (Elt F) Λ₀ .tc) α} {Q : α → sProp 𝕄} :
    Live c b (cnt b (4 * k)) ⊢ iprop((Live c b (cnt b (4 * k + 1)) -∗ WP c (cont ⟨⟩) Q) -∗ WP c (blkA0 (W (cnt b (4 * k))) (b (4 * k)) hw w cont) Q) := by
  have hle := cnt_le b (4 * k)
  have hle2 : cnt b (4 * k) ≤ 112 := by have := cnt_le b (4 * k); omega
  have e1 : k0_off12 (W (cnt b (4 * k)))  = ![cnt b (4 * k)] := by rw [offA0, offA_eq hle2]
  unfold blkA0 Live
  exact wp_record (F := F) (α := α) (cont := cont) (Q := Q) c b (i := 4 * k) (by omega) (condA0 _) e1 hw'

/-- The copy of block 0 of chunk `k` is started. -/
theorem wp_B0 (c : Dev nD) (f4 : Vec F S14336x4096 .fp8e4m3) (b : ℕ → BitVec 1) {k : ℕ} (hk : k < 28) {hw} {α : Type}
    {cont : PUnit.{1} → Prog (TpuEff nD τ sig (Elt F) Λ₀ .tc) α} {Q : α → sProp 𝕄} :
    iprop(Live c b (cnt b (4 * k + 1)) ∗ Cop c f4 b (cnt b (4 * k)) : sProp 𝕄)
      ⊢ iprop((iprop(Live c b (cnt b (4 * k + 1)) ∗ Cop c f4 b (cnt b (4 * k + 1))) -∗ WP c (cont ⟨⟩) Q) -∗ WP c (blkB0 (W (cnt b (4 * k))) (b (4 * k)) hw cont) Q) := by
  have hle := cnt_le b (4 * k)
  have hle2 : cnt b (4 * k) ≤ 112 := by have := cnt_le b (4 * k); omega
  have e0 : k0_cond3 (W (cnt b (4 * k))) (b (4 * k)) = 1#1 ↔ (b (4 * k) = 1#1 ∧ cnt b (4 * k) < 56) := by rw [condB0, condB_eq hle2]
  have e1 : k0_off13 (W (cnt b (4 * k)))  = ![cnt b (4 * k)] := by rw [offA'0, offA_eq hle2]
  have e2 : k0_off14 (W (cnt b (4 * k)))  = ![cnt b (4 * k) / 4 % 14] := by rw [offC0, offC_eq hle2]
  have e3 : k0_off15 (W (cnt b (4 * k)))  = ![128 * (cnt b (4 * k) % 56), 0] := by rw [offS0, offS_eq hle2]
  have e4 : k0_off16 (W (4 * k)) = ![128 * (4 * k), 0] := by rw [offW0, offW_eq (by omega)]
  unfold blkB0
  exact wp_start (α := α) (cont := cont) (Q := Q) c f4 b (i := 4 * k) (by omega) e0 e1 e2 e4 e3 (chkB0 _ _ (by omega))

/-- Block 1 of chunk `k` is recorded. -/
theorem wp_A1 (c : Dev nD) (b : ℕ → BitVec 1) {k : ℕ} (hk : k < 28) {hw} {w : BitVec 32} (hw' : w = W (4 * k + 1)) {α : Type}
    {cont : PUnit.{1} → Prog (TpuEff nD τ sig (Elt F) Λ₀ .tc) α} {Q : α → sProp 𝕄} :
    Live c b (cnt b (4 * k + 1)) ⊢ iprop((Live c b (cnt b (4 * k + 1 + 1)) -∗ WP c (cont ⟨⟩) Q) -∗ WP c (blkA1 (W (cnt b (4 * k))) (b (4 * k)) (b (4 * k + 1)) hw w cont) Q) := by
  have hle := cnt_le b (4 * k + 1)
  have hle2 : cnt b (4 * k + 1) ≤ 112 := by have := cnt_le b (4 * k + 1); omega
  have e1 : k0_off17 (W (cnt b (4 * k))) (b (4 * k)) = ![cnt b (4 * k + 1)] := by rw [offA1, nxt_cnt b (by omega : 4 * k < 112), offA_eq hle2]
  unfold blkA1 Live
  exact wp_record (F := F) (α := α) (cont := cont) (Q := Q) c b (i := 4 * k + 1) (by omega) (condA1 _) e1 hw'

/-- The copy of block 1 of chunk `k` is started. -/
theorem wp_B1 (c : Dev nD) (f4 : Vec F S14336x4096 .fp8e4m3) (b : ℕ → BitVec 1) {k : ℕ} (hk : k < 28) {hw} {α : Type}
    {cont : PUnit.{1} → Prog (TpuEff nD τ sig (Elt F) Λ₀ .tc) α} {Q : α → sProp 𝕄} :
    iprop(Live c b (cnt b (4 * k + 1 + 1)) ∗ Cop c f4 b (cnt b (4 * k + 1)) : sProp 𝕄)
      ⊢ iprop((iprop(Live c b (cnt b (4 * k + 1 + 1)) ∗ Cop c f4 b (cnt b (4 * k + 1 + 1))) -∗ WP c (cont ⟨⟩) Q) -∗ WP c (blkB1 (W (cnt b (4 * k))) (b (4 * k)) (b (4 * k + 1)) hw cont) Q) := by
  have hle := cnt_le b (4 * k + 1)
  have hle2 : cnt b (4 * k + 1) ≤ 112 := by have := cnt_le b (4 * k + 1); omega
  have e0 : k0_cond5 (W (cnt b (4 * k))) (b (4 * k)) (b (4 * k + 1)) = 1#1 ↔ (b (4 * k + 1) = 1#1 ∧ cnt b (4 * k + 1) < 56) := by rw [condB1, nxt_cnt b (by omega : 4 * k < 112), condB_eq hle2]
  have e1 : k0_off18 (W (cnt b (4 * k))) (b (4 * k)) = ![cnt b (4 * k + 1)] := by rw [offA'1, nxt_cnt b (by omega : 4 * k < 112), offA_eq hle2]
  have e2 : k0_off19 (W (cnt b (4 * k))) (b (4 * k)) = ![cnt b (4 * k + 1) / 4 % 14] := by rw [offC1, nxt_cnt b (by omega : 4 * k < 112), offC_eq hle2]
  have e3 : k0_off20 (W (cnt b (4 * k))) (b (4 * k)) = ![128 * (cnt b (4 * k + 1) % 56), 0] := by rw [offS1, nxt_cnt b (by omega : 4 * k < 112), offS_eq hle2]
  have e4 : k0_off21 (W (4 * k + 1)) = ![128 * (4 * k + 1), 0] := by rw [offW1, offW_eq (by omega)]
  unfold blkB1
  exact wp_start (α := α) (cont := cont) (Q := Q) c f4 b (i := 4 * k + 1) (by omega) e0 e1 e2 e4 e3 (chkB1 _ _ _ (by omega))

/-- Block 2 of chunk `k` is recorded. -/
theorem wp_A2 (c : Dev nD) (b : ℕ → BitVec 1) {k : ℕ} (hk : k < 28) {hw} {w : BitVec 32} (hw' : w = W (4 * k + 2)) {α : Type}
    {cont : PUnit.{1} → Prog (TpuEff nD τ sig (Elt F) Λ₀ .tc) α} {Q : α → sProp 𝕄} :
    Live c b (cnt b (4 * k + 2)) ⊢ iprop((Live c b (cnt b (4 * k + 2 + 1)) -∗ WP c (cont ⟨⟩) Q) -∗ WP c (blkA2 (W (cnt b (4 * k))) (b (4 * k)) (b (4 * k + 1)) (b (4 * k + 2)) hw w cont) Q) := by
  have hle := cnt_le b (4 * k + 2)
  have hle2 : cnt b (4 * k + 1 + 1) ≤ 112 := by have := cnt_le b (4 * k + 1 + 1); omega
  have e1 : k0_off22 (W (cnt b (4 * k))) (b (4 * k)) (b (4 * k + 1)) = ![cnt b (4 * k + 2)] := by rw [offA2, nxt_cnt b (by omega : 4 * k < 112), nxt_cnt b (by omega : 4 * k + 1 < 112), offA_eq hle2]
  unfold blkA2 Live
  exact wp_record (F := F) (α := α) (cont := cont) (Q := Q) c b (i := 4 * k + 2) (by omega) (condA2 _) e1 hw'

/-- The copy of block 2 of chunk `k` is started. -/
theorem wp_B2 (c : Dev nD) (f4 : Vec F S14336x4096 .fp8e4m3) (b : ℕ → BitVec 1) {k : ℕ} (hk : k < 28) {hw} {α : Type}
    {cont : PUnit.{1} → Prog (TpuEff nD τ sig (Elt F) Λ₀ .tc) α} {Q : α → sProp 𝕄} :
    iprop(Live c b (cnt b (4 * k + 2 + 1)) ∗ Cop c f4 b (cnt b (4 * k + 2)) : sProp 𝕄)
      ⊢ iprop((iprop(Live c b (cnt b (4 * k + 2 + 1)) ∗ Cop c f4 b (cnt b (4 * k + 2 + 1))) -∗ WP c (cont ⟨⟩) Q) -∗ WP c (blkB2 (W (cnt b (4 * k))) (b (4 * k)) (b (4 * k + 1)) (b (4 * k + 2)) hw cont) Q) := by
  have hle := cnt_le b (4 * k + 2)
  have hle2 : cnt b (4 * k + 1 + 1) ≤ 112 := by have := cnt_le b (4 * k + 1 + 1); omega
  have e0 : k0_cond7 (W (cnt b (4 * k))) (b (4 * k)) (b (4 * k + 1)) (b (4 * k + 2)) = 1#1 ↔ (b (4 * k + 2) = 1#1 ∧ cnt b (4 * k + 2) < 56) := by rw [condB2, nxt_cnt b (by omega : 4 * k < 112), nxt_cnt b (by omega : 4 * k + 1 < 112), condB_eq hle2]
  have e1 : k0_off23 (W (cnt b (4 * k))) (b (4 * k)) (b (4 * k + 1)) = ![cnt b (4 * k + 2)] := by rw [offA'2, nxt_cnt b (by omega : 4 * k < 112), nxt_cnt b (by omega : 4 * k + 1 < 112), offA_eq hle2]
  have e2 : k0_off24 (W (cnt b (4 * k))) (b (4 * k)) (b (4 * k + 1)) = ![cnt b (4 * k + 2) / 4 % 14] := by rw [offC2, nxt_cnt b (by omega : 4 * k < 112), nxt_cnt b (by omega : 4 * k + 1 < 112), offC_eq hle2]
  have e3 : k0_off25 (W (cnt b (4 * k))) (b (4 * k)) (b (4 * k + 1)) = ![128 * (cnt b (4 * k + 2) % 56), 0] := by rw [offS2, nxt_cnt b (by omega : 4 * k < 112), nxt_cnt b (by omega : 4 * k + 1 < 112), offS_eq hle2]
  have e4 : k0_off26 (W (4 * k + 2)) = ![128 * (4 * k + 2), 0] := by rw [offW2, offW_eq (by omega)]
  unfold blkB2
  exact wp_start (α := α) (cont := cont) (Q := Q) c f4 b (i := 4 * k + 2) (by omega) e0 e1 e2 e4 e3 (chkB2 _ _ _ _ (by omega))

/-- Block 3 of chunk `k` is recorded. -/
theorem wp_A3 (c : Dev nD) (b : ℕ → BitVec 1) {k : ℕ} (hk : k < 28) {hw} {w : BitVec 32} (hw' : w = W (4 * k + 3)) {α : Type}
    {cont : PUnit.{1} → Prog (TpuEff nD τ sig (Elt F) Λ₀ .tc) α} {Q : α → sProp 𝕄} :
    Live c b (cnt b (4 * k + 3)) ⊢ iprop((Live c b (cnt b (4 * k + 3 + 1)) -∗ WP c (cont ⟨⟩) Q) -∗ WP c (blkA3 (W (cnt b (4 * k))) (b (4 * k)) (b (4 * k + 1)) (b (4 * k + 2)) (b (4 * k + 3)) hw w cont) Q) := by
  have hle := cnt_le b (4 * k + 3)
  have hle2 : cnt b (4 * k + 2 + 1) ≤ 112 := by have := cnt_le b (4 * k + 2 + 1); omega
  have e1 : k0_off27 (W (cnt b (4 * k))) (b (4 * k)) (b (4 * k + 1)) (b (4 * k + 2)) = ![cnt b (4 * k + 3)] := by rw [offA3, nxt_cnt b (by omega : 4 * k < 112), nxt_cnt b (by omega : 4 * k + 1 < 112), nxt_cnt b (by omega : 4 * k + 2 < 112), offA_eq hle2]
  unfold blkA3 Live
  exact wp_record (F := F) (α := α) (cont := cont) (Q := Q) c b (i := 4 * k + 3) (by omega) (condA3 _) e1 hw'

/-- The copy of block 3 of chunk `k` is started. -/
theorem wp_B3 (c : Dev nD) (f4 : Vec F S14336x4096 .fp8e4m3) (b : ℕ → BitVec 1) {k : ℕ} (hk : k < 28) {hw} {α : Type}
    {cont : PUnit.{1} → Prog (TpuEff nD τ sig (Elt F) Λ₀ .tc) α} {Q : α → sProp 𝕄} :
    iprop(Live c b (cnt b (4 * k + 3 + 1)) ∗ Cop c f4 b (cnt b (4 * k + 3)) : sProp 𝕄)
      ⊢ iprop((iprop(Live c b (cnt b (4 * k + 3 + 1)) ∗ Cop c f4 b (cnt b (4 * k + 3 + 1))) -∗ WP c (cont ⟨⟩) Q) -∗ WP c (blkB3 (W (cnt b (4 * k))) (b (4 * k)) (b (4 * k + 1)) (b (4 * k + 2)) (b (4 * k + 3)) hw cont) Q) := by
  have hle := cnt_le b (4 * k + 3)
  have hle2 : cnt b (4 * k + 2 + 1) ≤ 112 := by have := cnt_le b (4 * k + 2 + 1); omega
  have e0 : k0_cond9 (W (cnt b (4 * k))) (b (4 * k)) (b (4 * k + 1)) (b (4 * k + 2)) (b (4 * k + 3)) = 1#1 ↔ (b (4 * k + 3) = 1#1 ∧ cnt b (4 * k + 3) < 56) := by rw [condB3, nxt_cnt b (by omega : 4 * k < 112), nxt_cnt b (by omega : 4 * k + 1 < 112), nxt_cnt b (by omega : 4 * k + 2 < 112), condB_eq hle2]
  have e1 : k0_off28 (W (cnt b (4 * k))) (b (4 * k)) (b (4 * k + 1)) (b (4 * k + 2)) = ![cnt b (4 * k + 3)] := by rw [offA'3, nxt_cnt b (by omega : 4 * k < 112), nxt_cnt b (by omega : 4 * k + 1 < 112), nxt_cnt b (by omega : 4 * k + 2 < 112), offA_eq hle2]
  have e2 : k0_off29 (W (cnt b (4 * k))) (b (4 * k)) (b (4 * k + 1)) (b (4 * k + 2)) = ![cnt b (4 * k + 3) / 4 % 14] := by rw [offC3, nxt_cnt b (by omega : 4 * k < 112), nxt_cnt b (by omega : 4 * k + 1 < 112), nxt_cnt b (by omega : 4 * k + 2 < 112), offC_eq hle2]
  have e3 : k0_off30 (W (cnt b (4 * k))) (b (4 * k)) (b (4 * k + 1)) (b (4 * k + 2)) = ![128 * (cnt b (4 * k + 3) % 56), 0] := by rw [offS3, nxt_cnt b (by omega : 4 * k < 112), nxt_cnt b (by omega : 4 * k + 1 < 112), nxt_cnt b (by omega : 4 * k + 2 < 112), offS_eq hle2]
  have e4 : k0_off31 (W (4 * k + 3)) = ![128 * (4 * k + 3), 0] := by rw [offW3, offW_eq (by omega)]
  unfold blkB3
  exact wp_start (α := α) (cont := cont) (Q := Q) c f4 b (i := 4 * k + 3) (by omega) e0 e1 e2 e4 e3 (chkB3 _ _ _ _ _ (by omega))

end Cert.Kernel.Hand

end
-- ==== Proof.K.Ring.lean ====
/- The ring of column blocks of the first weight matrix. -/
module

public import proofs.«01_k».proof.Proof.K.Res
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx (ix2 ix3 eq_ix2)

/-- Slot at offset `off` of the ring `arg19`. -/
abbrev mRing (off : Fin 3 → ℕ) (h : ∀ a, off a + S1x4096x512.size a ≤ S8x4096x512.size a) : Memref sig .tc .vmem S4096x512 .fp8e4m3 :=
  ((Memref.whole cc0_scratch8).slice (Rect.unit (s := S8x4096x512) off S1x4096x512.size h) (fun _ => rfl)).squeeze S4096x512 squeezes_S1x4096x512_S4096x512
/-- The 512 columns of `w_up` at offset `off`. -/
abbrev mCol (off : Fin 2 → ℕ) (h : ∀ a, off a + S4096x512.size a ≤ S4096x14336.size a) : Memref sig .tc .hbm S4096x512 .fp8e4m3 :=
  (Memref.whole main_arg1).slice (Rect.unit (s := S4096x14336) off S4096x512.size h) (fun _ => rfl)
/-- The cell at offset `off` of the eight cells of the first matrix's copies. -/
abbrev semU (off : Fin 1 → ℕ) (h : ∀ a, off a + S1.size a ≤ S8.size a) : DmaSem sig :=
  ((cc0_scoped2.slice (Rect.unit (s := S8) off S1.size h)).squeeze S_ squeezes_S1_S_).sem
/-- The cell number `j` (mod 8). -/
def semUn (j : ℕ) : DmaSem sig := ⟨9 + j % 8, by show 9 + j % 8 < 31; omega⟩
theorem semU_all : ∀ j : Fin 8, ∀ h, semU ![j.val] h = semUn j.val := by decide +kernel
theorem semU_eq (j : ℕ) (h) : semU ![j] h = semUn j := by
  have hj : j < 8 := by have := h 0; change j + 1 ≤ 8 at this; omega
  exact semU_all ⟨j, hj⟩ h
theorem semUn_mod (j : ℕ) : semUn (j % 8) = semUn j := by unfold semUn; simp

/-- The elements of slot `s` of the ring. -/
def ringS (s : ℕ) : Finset S8x4096x512.Idx := Finset.univ.filter fun x => (x 0).val = s
/-- The elements of column block `k` of `w_up`. -/
def colS (k : ℕ) : Finset S4096x14336.Idx := Finset.univ.filter fun x => (x 1).val / 512 = k

theorem forall_fin_three {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

theorem ringRect_set (s : ℕ) (h) : (Rect.unit (s := S8x4096x512) ![s, 0, 0] S1x4096x512.size h).set = ringS s := by
  ext x
  rw [Rect.mem_set_unit]
  simp only [ringS, Finset.mem_filter, Finset.mem_univ, true_and]
  have h1 : (x 1).val < 4096 := (x 1).isLt
  have h2 : (x 2).val < 512 := (x 2).isLt
  refine forall_fin_three.trans ?_
  show ((s ≤ (x 0).val ∧ (x 0).val < s + 1) ∧ (0 ≤ (x 1).val ∧ (x 1).val < 0 + 4096) ∧ (0 ≤ (x 2).val ∧ (x 2).val < 0 + 512)) ↔ (x 0).val = s
  omega

theorem mRing_set (s : ℕ) (h) : (mRing ![s, 0, 0] h).view.set = ringS s :=
  (View.set_reshape _ _).trans ((View.set_slice_whole cc0_scratch8 _).trans (ringRect_set s h))

theorem mCol_set (k : ℕ) (h) : (mCol ![0, 512 * k] h).view.set = colS k := by
  refine (View.set_slice_whole main_arg1 _).trans ?_
  ext x
  rw [Rect.mem_set_unit]
  simp only [colS, Finset.mem_filter, Finset.mem_univ, true_and]
  have h1 : (x 0).val < 4096 := (x 0).isLt
  refine Fin.forall_fin_two.trans ?_
  show ((0 ≤ (x 0).val ∧ (x 0).val < 0 + 4096) ∧ (512 * k ≤ (x 1).val ∧ (x 1).val < 512 * k + 512)) ↔ (x 1).val / 512 = k
  omega

theorem mRing_emb (s : ℕ) (h) (z : S4096x512.Idx) :
    (((mRing ![s, 0, 0] h).view.emb z) 0).val = s ∧ (((mRing ![s, 0, 0] h).view.emb z) 1).val = (z 0).val ∧ (((mRing ![s, 0, 0] h).view.emb z) 2).val = (z 1).val := by
  have e : (mRing ![s, 0, 0] h).view.emb z = (Rect.unit (s := S8x4096x512) ![s, 0, 0] S1x4096x512.size h).emb (Shape.reshapeEquiv squeezes_S1x4096x512_S4096x512.numel_eq z) := rfl
  have e2 : Shape.reshapeEquiv squeezes_S1x4096x512_S4096x512.numel_eq z = ix3 (⟨0, Nat.one_pos⟩ : Fin 1) (z 0) (z 1) := by
    conv_lhs => rw [eq_ix2 (n0 := 4096) (n1 := 512) z]
    exact ValueIdx.reshapeEquiv_ix2_1ab _ _ _
  rw [e, e2]
  refine ⟨(emb_unit (s := S8x4096x512) (off := ![s, 0, 0]) (size := S1x4096x512.size) (inb := h) _ 0).trans ?_, (emb_unit (s := S8x4096x512) (off := ![s, 0, 0]) (size := S1x4096x512.size) (inb := h) _ 1).trans ?_,
    (emb_unit (s := S8x4096x512) (off := ![s, 0, 0]) (size := S1x4096x512.size) (inb := h) _ 2).trans ?_⟩
  · show s + 0 = s; omega
  · show 0 + (z 0).val = _; omega
  · show 0 + (z 1).val = _; omega

/-- Slot `k % 8` holds column block `k`. -/
def RingHas (f1 : Vec F S4096x14336 .fp8e4m3) (k : ℕ) (f : Vec F S8x4096x512 .fp8e4m3) : Prop :=
  ∀ x ∈ ringS (k % 8), ∀ y : S4096x14336.Idx, (y 0).val = (x 1).val → (y 1).val = 512 * k + (x 2).val → f x = f1 y

/-- Column block `k`, held whole. -/
def ColB (c : Dev nD) (f1 : Vec F S4096x14336 .fp8e4m3) (k : ℕ) : sProp 𝕄 := iprop((c : Thread nD τ).loc main_arg1 ↦[colS k]{fullShare} f1)
/-- What the copy of column block `k` delivers. -/
def RingDel (c : Dev nD) (f1 : Vec F S4096x14336 .fp8e4m3) (k : ℕ) : sProp 𝕄 :=
  iprop(iprop(∃ f : Vec F S8x4096x512 .fp8e4m3, ((c : Thread nD τ).loc cc0_scratch8 ↦[ringS (k % 8)]{fullShare} f) ∗ ⌜RingHas f1 k f⌝) ∗ ColB c f1 k)
/-- What one copy of a column block credits its cell with. -/
abbrev KU : ℕ := (mRing ![0, 0, 0] (by decide)).view.dmaCredit
theorem KU_pos : 0 < KU := by decide
/-- Slot `k % 8` and its cell: filled by the copy of block `k`, or free. -/
def RingC (c : Dev nD) (f1 : Vec F S4096x14336 .fp8e4m3) (k : ℕ) : sProp 𝕄 :=
  if k < 28 then Transfers.Flight EC (c : Thread nD τ) (.dma (semUn k)) () KU (RingDel c f1 k)
  else iprop(iprop(∃ f : Vec F S8x4096x512 .fp8e4m3, (c : Thread nD τ).loc cc0_scratch8 ↦[ringS (k % 8)]{fullShare} f) ∗ semVal (c, .dma (semUn k)) 0)

/-- The copy of column block `k` is started. -/
theorem wp_ringStart (c : Dev nD) (f1 : Vec F S4096x14336 .fp8e4m3) (k : ℕ) (hk : k < 28)
    {osem : Fin 1 → ℕ} {osrc : Fin 2 → ℕ} {odst : Fin 3 → ℕ} {hsem hsrc hdst h1 h2 h3} (e1 : osem = ![k % 8]) (e2 : osrc = ![0, 512 * k]) (e3 : odst = ![k % 8, 0, 0])
    {α : Type} {K : PUnit → Prog (TpuEff nD τ sig (Elt F) Λ₀ .tc) α} {Q : α → sProp 𝕄} :
    iprop(ColB c f1 k ∗ iprop(∃ f : Vec F S8x4096x512 .fp8e4m3, (c : Thread nD τ).loc cc0_scratch8 ↦[ringS (k % 8)]{fullShare} f) ∗ semVal (c, .dma (semUn k)) 0 : sProp 𝕄)
      ⊢ iprop((RingC c f1 k -∗ WP c (K ⟨⟩) Q)
        -∗ WP c (.op (.enqueueDma (mCol osrc hsrc) (.here (mRing odst hdst)) (.dma (semU osem hsem)) h1 h2 h3) K) Q) := by
  subst e1 e2 e3
  have hs : semUn k = semU ![k % 8] hsem := by rw [semU_eq, semUn_mod]
  unfold RingC
  rw [if_pos hk, hs]
  unfold ColB
  iintro ⟨HT, ⟨%f, Hf⟩, HB⟩ Hk
  iapply (Transfers.wp_dmaLocal EC Variants.none (c : Thread nD τ) none (src := mCol ![0, 512 * k] hsrc) (dst := mRing ![k % 8, 0, 0] hdst)
      (q := fullShare) (fs := f1) (Sd := ringS (k % 8)) (fd := f) () KU rfl KU_pos (by rw [mRing_set])) $$ [HT Hf HB]
  · isplitl [HT]; · rw [mCol_set]; iexact HT
    isplitl [Hf]; · iexact Hf
    iexact HB
  iintro HF
  iapply Hk
  iapply (Transfers.Flight_mono EC (c : Thread nD τ) ?_) $$ HF
  unfold RingDel ColB
  iintro ⟨Hd, Hs⟩
  isplitl [Hd]
  · iexists _
    isplitl [Hd]; · iexact Hd
    ipureintro
    intro x hx y hy0 hy1
    have hx' : x ∈ (mRing ![k % 8, 0, 0] hdst).view.set := by rw [mRing_set]; exact hx
    obtain ⟨z, -, hz⟩ := Finset.mem_map.mp hx'
    obtain ⟨d0, d1, d2⟩ := mRing_emb (k % 8) hdst z
    rw [hz] at d0 d1 d2
    rw [← hz, View.write_emb_of_mem _ _ (Finset.mem_univ _)]
    show f1 ((mCol ![0, 512 * k] hsrc).view.emb z) = f1 y
    have e0 : (((mCol ![0, 512 * k] hsrc).view.emb z) 0).val = 0 + (z 0).val := emb_unit (s := S4096x14336) (off := ![0, 512 * k]) (size := S4096x512.size) (inb := hsrc) z 0
    have e1 : (((mCol ![0, 512 * k] hsrc).view.emb z) 1).val = 512 * k + (z 1).val := emb_unit (s := S4096x14336) (off := ![0, 512 * k]) (size := S4096x512.size) (inb := hsrc) z 1
    congr 1
    refine funext fun (a : Fin 2) => Fin.ext ?_
    revert a
    refine Fin.forall_fin_two.mpr ⟨?_, ?_⟩
    · rw [e0, hy0, d1]; omega
    · rw [e1, hy1, d2]
  · rw [mCol_set]; iexact Hs

/-- Some record of waits. -/
def Owes (c : Dev nD) : sProp 𝕄 := iprop(∃ W, owes (c : Thread nD τ) 0 W)

/-- The copy of column block `k` is awaited. -/
theorem wp_ringWait (c : Dev nD) (f1 : Vec F S4096x14336 .fp8e4m3) (k : ℕ) (hk : k < 28)
    {osem : Fin 1 → ℕ} {osrc : Fin 2 → ℕ} {odst : Fin 3 → ℕ} {hsem hsrc hdst h1 h2} (e1 : osem = ![k % 8])
    {α : Type} {K : PUnit → Prog (TpuEff nD τ sig (Elt F) Λ₀ .tc) α} {Q : α → sProp 𝕄} :
    iprop(RingC c f1 k ∗ Owes c : sProp 𝕄)
      ⊢ iprop((iprop(RingDel c f1 k ∗ semVal (c, .dma (semUn k)) 0 ∗ Owes c) -∗ WP c (K ⟨⟩) Q)
        -∗ WP c (.op (.waitDma2 (semU osem hsem) (mCol osrc hsrc) (mRing odst hdst) h1 h2) K) Q) := by
  subst e1
  have hs : semUn k = semU ![k % 8] hsem := by rw [semU_eq, semUn_mod]
  unfold RingC Owes
  rw [if_pos hk, hs]
  iintro ⟨HF, ⟨%W', HO⟩⟩ Hk
  iapply (Transfers.wp_waitLocal EC Variants.none (c : Thread nD τ) none (srcw := mCol osrc hsrc) (dstw := mRing odst hdst) () (N := KU) rfl) $$ [HF HO]
  · isplitl [HF]; · iexact HF
    iexact HO
  iintro ⟨HD, HV, HO⟩
  iapply Hk
  isplitl [HD]; · iexact HD
  isplitl [HV]; · iexact HV
  iexists _
  iexact HO

end Cert.Kernel.Hand

end
-- ==== Proof.K.Up.lean ====
/- One trip of the loop over the column blocks of the first weight matrix. -/
module

public import proofs.«01_k».proof.Proof.K.Start
public import proofs.«01_k».proof.Proof.K.Ring
public import Idealize.ShloMosaic.Lib.VecWindow
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx (ix2 ix3 eq_ix2)

/-- A load of a rectangle, its value named. -/
theorem wp_ld (c : Dev nD) {cs : CoreSpace} {s : Shape} {e : EltTy} {m : Memref sig .tc cs s e} {r : Rect s} {hl : m.view.LoadsAt r} {α : Type}
    {k : (r.shape.Idx → Elt F e) → Prog (TpuEff nD τ sig (Elt F) Λ₀ .tc) α} {Q : α → sProp 𝕄}
    {S : Finset (Idx ((m.access r).loc (c : Thread nD τ)))} {q : PosShare TreeShare} {f : Buf (Elt F) ((m.access r).loc (c : Thread nD τ))}
    (v : r.shape.Idx → Elt F e) (hv : ∀ z, (m.access r).read (Elt F) f z = v z) (hS : (m.access r).set ⊆ S) :
    ((m.access r).loc (c : Thread nD τ) ↦[S]{q} f : sProp 𝕄)
      ⊢ iprop((((m.access r).loc (c : Thread nD τ) ↦[S]{q} f) -∗ WP c (k v) Q) -∗ WP c (.op (.load m r hl) k) Q) := by
  have hv' : (m.access r).read (Elt F) f = v := funext hv
  subst hv'
  exact wp_load_rect (defs := defs₀ (F := F)) Variants.none (c : Thread nD τ) none Set.univ hS

/-- The operands of the first product, and the second matrix. -/
structure Dt (F : FTy → Type) where
  cx : Vec F S32x4096 .fp8e4m3
  sx : Vec F S32x128 .f32
  f1 : Vec F S4096x14336 .fp8e4m3
  us : Vec F S1x14336 .f32
  bu : Vec F S1x14336 .f32
  f4 : Vec F S14336x4096 .fp8e4m3

/-- Column block `k` of `w_up`. -/
def wuV (f1 : Vec F S4096x14336 .fp8e4m3) (k : ℕ) : Vec F S1x4096x512 .fp8e4m3 := fun z =>
  f1 (ix2 (n0 := 4096) (n1 := 14336) ⟨(z 1).val, (z 1).isLt⟩ ⟨(512 * k + (z 2).val) % 14336, Nat.mod_lt _ (by decide)⟩)
/-- Entries `512 k` and on of a row. -/
def cutV (u : Vec F S1x14336 .f32) (k : ℕ) : Vec F S1x512 .f32 := fun z =>
  u (ix2 (n0 := 1) (n1 := 14336) ⟨0, by decide⟩ ⟨(512 * k + (z 1).val) % 14336, Nat.mod_lt _ (by decide)⟩)
/-- Chunk `k` of the hidden activations. -/
def hk (d : Dt F) (k : ℕ) : FVec F S32x512 .f32 := k0_pay2 d.cx (wuV d.f1 k) d.sx (cutV d.us k) (cutV d.bu k)
/-- The bit of block `i`. -/
def bits (d : Dt F) (i : ℕ) : BitVec 1 :=
  if i % 4 = 0 then bt0 (hk d (i / 4)) else if i % 4 = 1 then bt1 (hk d (i / 4)) else if i % 4 = 2 then bt2 (hk d (i / 4)) else bt3 (hk d (i / 4))
/-- The row maxima over the first `k` chunks, lane by lane. -/
def rmx (d : Dt F) : ℕ → FVec F S32x128 .f32
  | 0 => k0_pay20
  | k + 1 => k0_pay22 (hk d k) (k0_pay9 (rmx d k) (hk d k))
/-- All hidden activations. -/
def hFull (d : Dt F) : Vec F S32x14336 .f32 := fun x =>
  hk d ((x 1).val / 512) (ix2 (n0 := 32) (n1 := 512) ⟨(x 0).val, (x 0).isLt⟩ ⟨(x 1).val % 512, Nat.mod_lt _ (by decide)⟩)
/-- The first `k` chunks are stored. -/
def HOk (d : Dt F) (k : ℕ) (H : Vec F S32x14336 .f32) : Prop := ∀ x, (x 1).val < 512 * k → H x = hFull d x

theorem bits0 (d : Dt F) (k : ℕ) : bits d (4 * k) = bt0 (hk d k) := by
  unfold bits; rw [if_pos (by omega), show 4 * k / 4 = k by omega]
theorem bits1 (d : Dt F) (k : ℕ) : bits d (4 * k + 1) = bt1 (hk d k) := by
  unfold bits; rw [if_neg (by omega), if_pos (by omega), show (4 * k + 1) / 4 = k by omega]
theorem bits2 (d : Dt F) (k : ℕ) : bits d (4 * k + 2) = bt2 (hk d k) := by
  unfold bits; rw [if_neg (by omega), if_neg (by omega), if_pos (by omega), show (4 * k + 2) / 4 = k by omega]
theorem bits3 (d : Dt F) (k : ℕ) : bits d (4 * k + 3) = bt3 (hk d k) := by
  unfold bits; rw [if_neg (by omega), if_neg (by omega), if_neg (by omega), show (4 * k + 3) / 4 = k by omega]

theorem trips1 : k0_t1_loop.trips = 28 := by decide +kernel
theorem ivU_all : ∀ k : Fin k0_t1_loop.trips, ∀ j : Fin 4, Scalar.addi (Scalar.muli (Scf.iv 0#32 1#32 k) 4#32) (BitVec.ofNat 32 j.val) = W (4 * k.val + j.val) := by decide +kernel
theorem cond1_all : ∀ k : Fin k0_t1_loop.trips, k0_cond1 k = 1#1 ↔ k.val + 8 < 28 := by decide +kernel

/-- The operands of the first loop at rest. -/
def Ops (c : Dev nD) (d : Dt F) (q : PosShare TreeShare) : sProp 𝕄 :=
  iprop(((c : Thread nD τ).loc cc0_scratch4 ↦{q} d.cx) ∗ ((c : Thread nD τ).loc cc0_scratch5 ↦{fullShare} d.sx)
    ∗ ((c : Thread nD τ).loc cc0_scratch1 ↦{fullShare} d.us) ∗ ((c : Thread nD τ).loc cc0_scratch2 ↦{fullShare} d.bu))

/-- The stored hidden activations, right on the first `k` chunks. -/
def Hid (c : Dev nD) (d : Dt F) (k : ℕ) : sProp 𝕄 := iprop(∃ H, ((c : Thread nD τ).loc cc0_scratch10 ↦{fullShare} H) ∗ ⌜HOk d k H⌝)

theorem sub_univ {A : Type} [Fintype A] [DecidableEq A] {S : Finset A} : S ⊆ Finset.univ := Finset.subset_univ _
theorem ret_bind' {α β : Type} (a : α) (k : α → Prog (TpuEff nD τ sig (Elt F) Λ₀ .tc) β) : (Prog.ret a).bind k = k a := rfl

theorem embU {s : Shape} {off : Fin s.rank → ℕ} {size : Fin s.rank → ℕ} {inb : ∀ a, off a + size a ≤ s.size a} (y : (Rect.unit (s := s) off size inb).shape.Idx) (a : Fin s.rank) {n : ℕ}
    (h : off a = n) : ((Rect.unit (s := s) off size inb).emb y a).val = n + (y a).val := by
  subst h; exact emb_unit (s := s) (off := off) (size := size) (inb := inb) y a

theorem ring_val {f1 : Vec F S4096x14336 .fp8e4m3} {k : Fin k0_t1_loop.trips} {f : Vec F S8x4096x512 .fp8e4m3} (hf : RingHas f1 k.val f) (hk : k.val < 28) (z : S1x4096x512.Idx) :
    f ((Rect.unit (s := S8x4096x512) (k0_off6 k) S1x4096x512.size (k0_off6_inb k)).emb z) = wuV f1 k.val z := by
  have h0 : (z 0).val < 1 := (z 0).isLt
  have h2 : (z 2).val < 512 := (z 2).isLt
  have e0 := embU (s := S8x4096x512) (off := k0_off6 k) (size := S1x4096x512.size) (inb := k0_off6_inb k) z 0 (congrFun (k0_off6_eq k) 0)
  have e1 := embU (s := S8x4096x512) (off := k0_off6 k) (size := S1x4096x512.size) (inb := k0_off6_inb k) z 1 (congrFun (k0_off6_eq k) 1)
  have e2 := embU (s := S8x4096x512) (off := k0_off6 k) (size := S1x4096x512.size) (inb := k0_off6_inb k) z 2 (congrFun (k0_off6_eq k) 2)
  unfold wuV
  refine hf _ ?_ _ ?_ ?_
  · simp only [ringS, Finset.mem_filter, Finset.mem_univ, true_and]
    rw [e0]
    show k.val % 8 + (z 0).val = k.val % 8
    omega
  · rw [e1]
    show (z 1).val = 0 + (z 1).val
    omega
  · rw [e2]
    show (512 * k.val + (z 2).val) % 14336 = 512 * k.val + (0 + (z 2).val)
    omega

theorem ring_sub {k : Fin k0_t1_loop.trips} :
    ((Memref.whole cc0_scratch8).access (Rect.unit (s := S8x4096x512) (k0_off6 k) S1x4096x512.size (k0_off6_inb k))).set = ringS (k.val % 8) := by
  have key : ∀ (off : Fin 3 → ℕ) (h), off = ![k.val % 8, 0, 0] → ((Memref.whole cc0_scratch8).access (Rect.unit (s := S8x4096x512) off S1x4096x512.size h)).set = ringS (k.val % 8) := by
    intro off h e
    subst e
    exact (View.set_slice_whole cc0_scratch8 _).trans (ringRect_set _ h)
  exact key _ _ (k0_off6_eq k)

theorem cut_val (u : Vec F S1x14336 .f32) (k : Fin k0_t1_loop.trips) (hk : k.val < 28) (z : S1x512.Idx) :
    u ((Rect.unit (s := S1x14336) (k0_off7 k) S1x512.size (k0_off7_inb k)).emb z) = cutV u k.val z := by
  unfold cutV
  refine congrArg u (funext (Fin.forall_fin_two.mpr ⟨Fin.ext ?_, Fin.ext ?_⟩))
  · have h0 : (z 0).val < 1 := (z 0).isLt
    refine (embU (s := S1x14336) (off := k0_off7 k) (size := S1x512.size) (inb := k0_off7_inb k) _ _ (congrFun (k0_off7_eq k) _)).trans ?_
    show 0 + (z 0).val = 0
    omega
  · have h1 : (z 1).val < 512 := (z 1).isLt
    refine (embU (s := S1x14336) (off := k0_off7 k) (size := S1x512.size) (inb := k0_off7_inb k) _ _ (congrFun (k0_off7_eq k) _)).trans ?_
    show 512 * k.val + (z 1).val = (512 * k.val + (z 1).val) % 14336
    omega

theorem hid_step (d : Dt F) (k : Fin k0_t1_loop.trips) (hk28 : k.val < 28) {H : Vec F S32x14336 .f32} (hH : HOk d k.val H) :
    HOk d (k.val + 1) (((Memref.whole cc0_scratch10).access (Rect.unit (s := S32x14336) (k0_off8 k) S32x512.size (k0_off8_inb k))).write (Elt F) H
      (k0_pay3 d.cx (wuV d.f1 k.val) d.sx (cutV d.us k.val) (cutV d.bu k.val)) Finset.univ) := by
  intro x hx
  have hx0 : (x 0).val < 32 := (x 0).isLt
  by_cases h : (x 1).val < 512 * k.val
  · refine (View.write_of_not_mem _ _ _ ?_).trans (hH x h)
    have key : ∀ (off : Fin 2 → ℕ) (h'), off = ![0, 512 * k.val] → x ∉ ((Memref.whole cc0_scratch10).access (Rect.unit (s := S32x14336) off S32x512.size h')).set := by
      intro off h' e
      subst e
      rw [show ((Memref.whole cc0_scratch10).access (Rect.unit (s := S32x14336) ![0, 512 * k.val] S32x512.size h')).set = _ from View.set_slice_whole cc0_scratch10 _, Rect.mem_set_unit]
      intro h2
      have := (h2 1).1
      exact absurd this (by show ¬ 512 * k.val ≤ (x 1).val; omega)
    exact key _ _ (k0_off8_eq k)
  · have hpay : k0_pay3 d.cx (wuV d.f1 k.val) d.sx (cutV d.us k.val) (cutV d.bu k.val) = hk d k.val := shapeCast_self _ _
    rw [hpay]
    let z : S32x512.Idx := ix2 (n0 := 32) (n1 := 512) ⟨(x 0).val, hx0⟩ ⟨(x 1).val % 512, Nat.mod_lt _ (by decide)⟩
    have hz : ((Memref.whole cc0_scratch10).access (Rect.unit (s := S32x14336) (k0_off8 k) S32x512.size (k0_off8_inb k))).emb z = x := by
      show (Rect.unit (s := S32x14336) (k0_off8 k) S32x512.size (k0_off8_inb k)).emb z = x
      refine funext (Fin.forall_fin_two.mpr ⟨Fin.ext ?_, Fin.ext ?_⟩)
      · refine (embU (s := S32x14336) (off := k0_off8 k) (size := S32x512.size) (inb := k0_off8_inb k) _ _ (congrFun (k0_off8_eq k) _)).trans ?_
        show 0 + (x 0).val = (x 0).val
        omega
      · refine (embU (s := S32x14336) (off := k0_off8 k) (size := S32x512.size) (inb := k0_off8_inb k) _ _ (congrFun (k0_off8_eq k) _)).trans ?_
        show 512 * k.val + (x 1).val % 512 = (x 1).val
        omega
    have hw := View.write_emb_of_mem (v := (Memref.whole cc0_scratch10).access (Rect.unit (s := S32x14336) (k0_off8 k) S32x512.size (k0_off8_inb k))) H (hk d k.val) (Finset.mem_univ z)
    rw [hz] at hw
    refine hw.trans ?_
    unfold hFull
    rw [show (x 1).val / 512 = k.val by omega]
    rfl

set_option maxRecDepth 65536 in
/-- The first part of a trip: the chunk is computed and stored. -/
theorem up1 (c : Dev nD) (d : Dt F) (q : PosShare TreeShare) (k : Fin k0_t1_loop.trips) {α : Type}
    {K : (Σ' (_ : BitVec 32), FVec F S32x512 .f32) → Prog (TpuEff nD τ sig (Elt F) Λ₀ .tc) α} {Q : α → sProp 𝕄} :
    iprop(RingC c d.f1 k.val ∗ Owes c ∗ Ops c d q ∗ Hid c d k.val : sProp 𝕄)
      ⊢ iprop((iprop(iprop(∃ f : Vec F S8x4096x512 .fp8e4m3, (c : Thread nD τ).loc cc0_scratch8 ↦[ringS (k.val % 8)]{fullShare} f) ∗ semVal (c, .dma (semUn k.val)) 0 ∗ ColB c d.f1 k.val
            ∗ Owes c ∗ Ops c d q ∗ Hid c d (k.val + 1)) -∗ WP c (K ⟨Scf.iv 0#32 1#32 k, hk d k.val⟩) Q)
          -∗ WP c ((upPart1 k).bind K) Q) := by
  have hk28 : k.val < 28 := by have := k.isLt; simpa only [trips1] using this
  unfold upPart1 k0_part1_skel Ops
  iintro ⟨HR, HO, ⟨Hcx, Hsx, Hus, Hbu⟩, HH⟩ Hk
  iapply (wp_ringWait c d.f1 k.val hk28 (k0_off3_eq k)) $$ [HR HO]
  · isplitl [HR]; · iexact HR
    iexact HO
  iintro ⟨HD, HV, HO⟩
  unfold RingDel Hid
  icases HD with ⟨⟨%f, Hf, %hf⟩, HC⟩
  icases HH with ⟨%H, HH, %hH⟩
  simp only [ret_bind']
  iapply (wp_ld c (m := Memref.whole cc0_scratch4) (r := Rect.unit (s := S32x4096) ![0, 0] S32x4096.size inb_S32x4096_S32x4096_0_0) (f := d.cx) d.cx (fun z => congrArg d.cx (Rect.emb_unit_full _ z)) sub_univ) $$ Hcx
  iintro Hcx
  simp only [ret_bind']
  iapply (wp_ld c (m := Memref.whole cc0_scratch8) (r := Rect.unit (s := S8x4096x512) (k0_off6 k) S1x4096x512.size (k0_off6_inb k)) (f := f) (wuV d.f1 k.val) (fun z => ring_val hf hk28 z) (by rw [ring_sub])) $$ Hf
  iintro Hf
  simp only [ret_bind']
  iapply (wp_ld c (m := Memref.whole cc0_scratch5) (r := Rect.unit (s := S32x128) ![0, 0] S32x128.size inb_S32x128_S32x128_0_0) (f := d.sx) d.sx (fun z => congrArg d.sx (Rect.emb_unit_full _ z)) sub_univ) $$ Hsx
  iintro Hsx
  simp only [ret_bind']
  iapply (wp_ld c (m := Memref.whole cc0_scratch1) (r := Rect.unit (s := S1x14336) (k0_off7 k) S1x512.size (k0_off7_inb k)) (f := d.us) (cutV d.us k.val) (fun z => cut_val d.us k hk28 z) sub_univ) $$ Hus
  iintro Hus
  simp only [ret_bind']
  iapply (wp_ld c (m := Memref.whole cc0_scratch2) (r := Rect.unit (s := S1x14336) (k0_off7 k) S1x512.size (k0_off7_inb k)) (f := d.bu) (cutV d.bu k.val) (fun z => cut_val d.bu k hk28 z) sub_univ) $$ Hbu
  iintro Hbu
  simp only [ret_bind']
  iapply (wp_load_rect (defs := defs₀ (F := F)) Variants.none (c : Thread nD τ) none Set.univ (m := Memref.whole cc0_scratch10) (r := Rect.unit (s := S32x14336) (k0_off8 k) S32x512.size (k0_off8_inb k)) (f := H) sub_univ) $$ HH
  iintro HH
  simp only [ret_bind']
  iapply (wp_store (defs := defs₀ (F := F)) Variants.none (c : Thread nD τ) none Set.univ (m := Memref.whole cc0_scratch10) (r := Rect.unit (s := S32x14336) (k0_off8 k) S32x512.size (k0_off8_inb k)) (f := H) sub_univ) $$ HH
  iintro HH
  iapply Hk
  isplitl [Hf]; · iexists f; iexact Hf
  isplitl [HV]; · iexact HV
  isplitl [HC]; · iexact HC
  isplitl [HO]; · iexact HO
  isplitl [Hcx Hsx Hus Hbu]
  · isplitl [Hcx]; · iexact Hcx
    isplitl [Hsx]; · iexact Hsx
    isplitl [Hus]; · iexact Hus
    iexact Hbu
  iexists _
  isplitl [HH]; · iexact HH
  ipureintro
  exact hid_step d k hk28 hH

/-- Slots of the second ring and the copies into the first, before trip `k`. -/
def UpSt (c : Dev nD) (d : Dt F) (q : PosShare TreeShare) (k : ℕ) : sProp 𝕄 :=
  iprop(Live c (bits d) (cnt (bits d) (4 * k)) ∗ Cop c d.f4 (bits d) (cnt (bits d) (4 * k))
    ∗ BI.bigSep (Finset.Ico k (k + 8)) (RingC c d.f1) ∗ BI.bigSep (Finset.Ico (k + 8) 28) (ColB c d.f1) ∗ BI.bigSep (Finset.range k) (ColB c d.f1)
    ∗ Owes c ∗ Ops c d q ∗ Hid c d k)

/-- The invariant of the first loop. -/
def upInv (c : Dev nD) (d : Dt F) (q : PosShare TreeShare) (k : ℕ) (a : BitVec 32 × FVec F S32x128 .f32) : sProp 𝕄 :=
  iprop(⌜a = (W (cnt (bits d) (4 * k)), rmx d k)⌝ ∗ UpSt c d q k)

/-- The slot just read is refilled with a later column block, if one is left. -/
theorem wp_refill (c : Dev nD) (f1 : Vec F S4096x14336 .fp8e4m3) (k : Fin k0_t1_loop.trips) {α : Type}
    {cont : PUnit.{1} → Prog (TpuEff nD τ sig (Elt F) Λ₀ .tc) α} {Q : α → sProp 𝕄} :
    iprop(iprop(∃ f : Vec F S8x4096x512 .fp8e4m3, (c : Thread nD τ).loc cc0_scratch8 ↦[ringS (k.val % 8)]{fullShare} f) ∗ semVal (c, .dma (semUn k.val)) 0
        ∗ BI.bigSep (Finset.Ico (k.val + 8) 28) (ColB c f1) : sProp 𝕄)
      ⊢ iprop((iprop(RingC c f1 (k.val + 8) ∗ BI.bigSep (Finset.Ico (k.val + 1 + 8) 28) (ColB c f1)) -∗ WP c (cont ⟨⟩) Q) -∗ WP c (refill k cont) Q) := by
  have hm : (k.val + 8) % 8 = k.val % 8 := by omega
  have hs : semUn (k.val + 8) = semUn k.val := by rw [← semUn_mod (k.val + 8), hm, semUn_mod]
  by_cases h : k.val + 8 < 28
  · have hc : k0_cond1 k = 1#1 := (cond1_all k).mpr h
    unfold refill
    rw [dif_pos hc]
    have e1 : k0_off9 k = ![(k.val + 8) % 8] := k0_off9_eq k
    have e2 : k0_off10 k = ![(k.val + 8) % 8, 0, 0] := k0_off10_eq k
    have e3 : k0_off11 k = ![0, 512 * (k.val + 8)] := by rw [k0_off11_eq k, show 512 * (k.val + 8) = 512 * k.val + 4096 by omega]
    rw [sep_head h, ← hm, ← hs]
    iintro ⟨Hf, HV, HC, HR⟩ Hk
    iapply (wp_ringStart c f1 (k.val + 8) h e1 e3 e2) $$ [HC Hf HV]
    · isplitl [HC]; · iexact HC
      isplitl [Hf]; · iexact Hf
      iexact HV
    iintro HRC
    iapply Hk
    isplitl [HRC]; · iexact HRC
    rw [show k.val + 1 + 8 = k.val + 8 + 1 by omega]
    iexact HR
  · have hc : ¬ k0_cond1 k = 1#1 := fun h' => h ((cond1_all k).mp h')
    unfold refill
    rw [dif_neg hc]
    iintro ⟨Hf, HV, HR⟩ Hk
    iapply Hk
    unfold RingC
    rw [if_neg h, hm, hs, Finset.Ico_eq_empty_of_le (show 28 ≤ k.val + 8 by omega), Finset.Ico_eq_empty_of_le (show 28 ≤ k.val + 1 + 8 by omega)]
    isplitl [Hf HV]
    · isplitl [Hf]; · iexact Hf
      iexact HV
    iexact HR

theorem WP_bind (c : Dev nD) {α β : Type} (p : Prog (TpuEff nD τ sig (Elt F) Λ₀ .tc) α) (K : α → Prog (TpuEff nD τ sig (Elt F) Λ₀ .tc) β) (Q : β → sProp 𝕄) :
    WP c (p.bind K) Q = WP c p (fun a => WP c (K a) Q) := wp_bind _ _ _ _ _ _

theorem hAsm (c : Dev nD) {P : Prop} {dec : Decidable P} (h : P) {α : Type} {K : PLift P → Prog (TpuEff nD τ sig (Elt F) Λ₀ .tc) α} {Q : α → sProp 𝕄} :
    WP c (K ⟨h⟩) Q ⊢ WP c (.op (.assume P dec) K) Q := wp_assume (defs := defs₀ (F := F)) Variants.none (c : Thread nD τ) none Set.univ h

end Cert.Kernel.Hand

end
-- ==== Proof.K.Up2.lean ====
/- One trip of the loop over the column blocks, put together. -/
module

public import proofs.«01_k».proof.Proof.K.Up

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem hRet (c : Dev nD) {α : Type} (a : α) (Q : α → sProp 𝕄) : Q a ⊢ WP c (.ret a) Q := by
  show _ ⊢ wp _ _ _ _ _
  rw [wp_ret]
  exact fupd_intro

theorem sep_last {n m : ℕ} (h : n ≤ m) (Φ : ℕ → sProp 𝕄) :
    bigSep (Finset.Ico n (m + 1)) Φ = iprop(Φ m ∗ bigSep (Finset.Ico n m) Φ) := by
  rw [← bigSep_insert' (by simp)]
  congr 1; ext x; simp only [Finset.mem_Ico, Finset.mem_insert]; omega

/-- One trip of the first loop. -/
theorem up_step (c : Dev nD) (d : Dt F) (q : PosShare TreeShare) (k : Fin k0_t1_loop.trips) :
    UpSt c d q k.val ⊢ WP c (upBody k (W (cnt (bits d) (4 * k.val)), rmx d k.val))
      (fun a => iprop(⌜a = (W (cnt (bits d) (4 * (k.val + 1))), rmx d (k.val + 1))⌝ ∗ UpSt c d q (k.val + 1))) := by
  have hk28 : k.val < 28 := by simpa only [trips1] using k.isLt
  have iv0 : Scalar.addi (Scalar.muli (Scf.iv 0#32 1#32 k) 4#32) 0#32 = W (4 * k.val) := ivU_all k 0
  have iv1 : Scalar.addi (Scalar.muli (Scf.iv 0#32 1#32 k) 4#32) 1#32 = W (4 * k.val + 1) := ivU_all k 1
  have iv2 : Scalar.addi (Scalar.muli (Scf.iv 0#32 1#32 k) 4#32) 2#32 = W (4 * k.val + 2) := ivU_all k 2
  have iv3 : Scalar.addi (Scalar.muli (Scf.iv 0#32 1#32 k) 4#32) 3#32 = W (4 * k.val + 3) := ivU_all k 3
  have n0 := nxt_cnt (bits d) (by omega : 4 * k.val < 112)
  have n1 := nxt_cnt (bits d) (by omega : 4 * k.val + 1 < 112)
  have n2 := nxt_cnt (bits d) (by omega : 4 * k.val + 2 < 112)
  have n3 := nxt_cnt (bits d) (by omega : 4 * k.val + 3 < 112)
  have g0 : k0_chk1 (W (cnt (bits d) (4 * k.val))) (bits d (4 * k.val)) := chk1_ok (by have := cnt_le (bits d) (4 * k.val); omega) _
  have g1 : k0_chk3 (W (cnt (bits d) (4 * k.val))) (bits d (4 * k.val)) (bits d (4 * k.val + 1)) :=
    chkA1 _ _ _ (by rw [n0]; exact chk1_ok (by have := cnt_le (bits d) (4 * k.val + 1); omega) _)
  have g2 : k0_chk5 (W (cnt (bits d) (4 * k.val))) (bits d (4 * k.val)) (bits d (4 * k.val + 1)) (bits d (4 * k.val + 2)) :=
    chkA2 _ _ _ _ (by rw [n0, n1]; exact chk1_ok (by have := cnt_le (bits d) (4 * k.val + 1 + 1); omega) _)
  have g3 : k0_chk7 (W (cnt (bits d) (4 * k.val))) (bits d (4 * k.val)) (bits d (4 * k.val + 1)) (bits d (4 * k.val + 2)) (bits d (4 * k.val + 3)) :=
    chkA3 _ _ _ _ _ (by rw [n0, n1, n2]; exact chk1_ok (by have := cnt_le (bits d) (4 * k.val + 2 + 1); omega) _)
  rw [upBody_eq]
  unfold UpSt
  rw [sep_head (show k.val < k.val + 8 by omega)]
  iintro ⟨HL, HCp, ⟨HR0, HR⟩, HC, HDn, HO, Hop, HH⟩
  iapply (up1 c d q k) $$ [HR0 HO Hop HH]
  · isplitl [HR0]; · iexact HR0
    isplitl [HO]; · iexact HO
    isplitl [Hop]; · iexact Hop
    iexact HH
  iintro ⟨Hf, HV, HCk, HO, Hop, HH⟩
  rw [WP_bind, upPart2_eq]
  iapply (wp_refill c d.f1 k) $$ [Hf HV HC]
  · isplitl [Hf]; · iexact Hf
    isplitl [HV]; · iexact HV
    iexact HC
  iintro ⟨HR8, HC⟩
  rw [← bits0 d k.val, ← bits1 d k.val, ← bits2 d k.val]
  iapply (hAsm c g0)
  iapply (wp_A0 c (bits d) hk28 iv0) $$ HL
  iintro HL
  iapply (wp_B0 c d.f4 (bits d) hk28) $$ [HL HCp]
  · isplitl [HL]; · iexact HL
    iexact HCp
  iintro ⟨HL, HCp⟩
  iapply (hAsm c g1)
  iapply (wp_A1 c (bits d) hk28 iv1) $$ HL
  iintro HL
  iapply (wp_B1 c d.f4 (bits d) hk28) $$ [HL HCp]
  · isplitl [HL]; · iexact HL
    iexact HCp
  iintro ⟨HL, HCp⟩
  iapply (hAsm c g2)
  iapply (hRet c)
  dsimp only
  rw [← bits3 d k.val]
  iapply (wp_A2 c (bits d) hk28 iv2) $$ HL
  iintro HL
  iapply (wp_B2 c d.f4 (bits d) hk28) $$ [HL HCp]
  · isplitl [HL]; · iexact HL
    iexact HCp
  iintro ⟨HL, HCp⟩
  iapply (hAsm c g3)
  iapply (wp_A3 c (bits d) hk28 iv3) $$ HL
  iintro HL
  iapply (wp_B3 c d.f4 (bits d) hk28) $$ [HL HCp]
  · isplitl [HL]; · iexact HL
    iexact HCp
  iintro ⟨HL, HCp⟩
  iapply (hRet c)
  isplitr
  · ipureintro
    rw [n0, n1, n2, n3]
    exact rfl
  rw [show k.val + 1 + 8 = k.val + 8 + 1 by omega, Finset.range_eq_Ico, Finset.range_eq_Ico, sep_last (show k.val + 1 ≤ k.val + 8 by omega) (RingC c d.f1), sep_last (Nat.zero_le k.val) (ColB c d.f1)]
  isplitl [HL]; · iexact HL
  isplitl [HCp]; · iexact HCp
  isplitl [HR HR8]
  · isplitl [HR8]; · iexact HR8
    iexact HR
  isplitl [HC]; · iexact HC
  isplitl [HDn HCk]
  · isplitl [HCk]; · iexact HCk
    iexact HDn
  isplitl [HO]; · iexact HO
  isplitl [Hop]; · iexact Hop
  iexact HH

end Cert.Kernel.Hand

end
-- ==== Proof.K.Down1.lean ====
/- Waiting for the copies of a group and starting later ones. -/
module

public import proofs.«01_k».proof.Proof.K.DownDefs
public import proofs.«01_k».proof.Proof.K.Start
public import proofs.«01_k».proof.Proof.K.Ring
public import proofs.«01_k».proof.Proof.K.Up2

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The block at position `p` of the padded list. -/
def ls (b : ℕ → BitVec 1) (p : ℕ) : ℕ := if p < NL b then lv b p else 112

/-- The padded list is right at the positions the groups read. -/
def PadOk (b : ℕ → BitVec 1) (L : S116.Idx → BitVec 32) : Prop := ∀ x, (x 0).val < 4 * ((NL b + 3) / 4) → L x = W (ls b (x 0).val)

/-- The list of live blocks, padded to whole groups. -/
def LiveP (c : Dev nD) (b : ℕ → BitVec 1) : sProp 𝕄 :=
  iprop(∃ L, ((c : Thread nD τ).loc cc0_scratch14 ↦{fullShare} L) ∗ ⌜PadOk b L⌝)

theorem ls_of_lt {b : ℕ → BitVec 1} {p : ℕ} (h : p < NL b) : ls b p = lv b p := if_pos h
theorem ls_le (b : ℕ → BitVec 1) (p : ℕ) : ls b p ≤ 112 := by
  unfold ls
  split
  · rename_i h
    exact (lv_lt b h).le
  · exact le_rfl

/-- Owing nothing, whatever has been awaited. -/
theorem owes_more (c : Dev nD) (W : Waits sig Unit) : (owes (c : Thread nD τ) 0 W : sProp 𝕄) ⊢ Owes c := by
  unfold Owes; iintro H; iexists W; iexact H

/-- Reading a position of the padded list. -/
theorem wp_readP (c : Dev nD) (b : ℕ → BitVec 1) {p : ℕ} (hp : p < 4 * ((NL b + 3) / 4)) {off : Fin 1 → ℕ} {h} (e : off = ![p]) {α : Type}
    {k : BitVec 32 → Prog (TpuEff nD τ sig (Elt F) Λ₀ .tc) α} {Q : α → sProp 𝕄} :
    LiveP c b ⊢ iprop((LiveP c b -∗ WP c (k (W (ls b p))) Q) -∗ WP c ((smemLoad (Λ := Λ₀) (nD := nD) (τ := τ) (Val := Elt F) (p := .tc) mLive (Rect.unit (s := S116) off S1.size h) numel1_S1 rfl).bind k) Q) := by
  have hNL := NL_le b
  unfold LiveP
  rw [smemLoad_bind]
  iintro ⟨%L, HL, %hL⟩ Hk
  iapply (wp_liveRead c (n := p) (by omega) e) $$ HL
  iintro HL
  rw [show L (ix1 p (by omega)) = W (ls b p) from hL _ hp]
  iapply Hk
  iexists L
  isplitl [HL]; · iexact HL
  ipureintro; exact hL

/-- A copy of the group is awaited, if there is one. -/
theorem wp_waitP (c : Dev nD) (f4 : Vec F S14336x4096 .fp8e4m3) (b : ℕ → BitVec 1) (g k : ℕ) (hk : k < 4) {C : Prop} [Decidable C] (hC : C ↔ 4 * g + k < NL b)
    {offA osem : Fin 1 → ℕ} {osrc : BitVec 32 → Fin 2 → ℕ} {odst : Fin 2 → ℕ}
    {hA : C → ∀ a, offA a + S1.size a ≤ S116.size a} {hsem : C → ∀ a, osem a + S1.size a ≤ S14.size a} {hdst : C → ∀ a, odst a + S128x4096.size a ≤ S7168x4096.size a}
    {chk : BitVec 32 → Prop} {dec : ∀ v, Decidable (chk v)} {hsrc : C → ∀ v, chk v → ∀ a, osrc v a + S128x4096.size a ≤ S14336x4096.size a}
    {h1 : ∀ hc v hw, (mBlk (osrc v) (hsrc hc v hw)).view.WordExact} {h2 : ∀ hc, (mSlot odst (hdst hc)).view.WordExact}
    (eA : offA = ![4 * g + k]) (e1 : osem = ![(4 * g + k) / 4 % 14]) (hchk : ∀ i, i < 112 → chk (W i))
    {α : Type} {cont : PUnit.{1} → Prog (TpuEff nD τ sig (Elt F) Λ₀ .tc) α} {Q : α → sProp 𝕄} :
    iprop(LiveP c b ∗ CellU c f4 b g (min 4 (NL b - 4 * g)) (KD * min k (NL b - 4 * g)) ∗ Owes c : sProp 𝕄)
      ⊢ iprop((iprop(LiveP c b ∗ CellU c f4 b g (min 4 (NL b - 4 * g)) (KD * min (k + 1) (NL b - 4 * g)) ∗ Owes c) -∗ WP c (cont ⟨⟩) Q)
        -∗ WP c (if hc : C then (smemLoad mLive (Rect.unit (s := S116) offA S1.size (hA hc)) numel1_S1 rfl).bind fun v =>
            Prog.op (.assume (chk v) (dec v)) fun hw =>
            Prog.op (.waitDma2 (semD osem (hsem hc)) (mBlk (osrc v) (hsrc hc v hw.down)) (mSlot odst (hdst hc)) (h1 hc v hw.down) (h2 hc)) cont
          else cont ⟨⟩) Q) := by
  split
  · rename_i hc
    have hlt := hC.mp hc
    have hls : ls b (4 * g + k) < 112 := by rw [ls_of_lt hlt]; exact lv_lt b hlt
    have hs : semDn g = semD osem (hsem hc) := by
      subst e1
      rw [semD_eq, semDn_mod]; congr 1; omega
    iintro ⟨HL, HB, HO⟩ Hk
    iapply (wp_readP c b (p := 4 * g + k) (by omega) eA) $$ HL
    iintro HL
    iapply (wp_assume (defs := defs₀ (F := F)) Variants.none (c : Thread nD τ) none Set.univ (hchk _ hls))
    unfold Owes CellU
    rw [hs]
    icases HO with ⟨%W', HO⟩
    iapply (Transfers.wp_waitBatchMul EC Variants.none (c : Thread nD τ) none (srcw := mBlk _ _) (dstw := mSlot odst (hdst hc)) () (N := KD) 1 (Nat.one_mul KD).symm
      (show KD * min k (NL b - 4 * g) + 1 * KD ≤ KD * min 4 (NL b - 4 * g) by rw [Nat.one_mul, ← Nat.mul_succ]; exact Nat.mul_le_mul_left _ (by omega))) $$ [HB HO]
    · isplitl [HB]; · iexact HB
      iexact HO
    iintro ⟨HB, HO⟩
    iapply Hk
    isplitl [HL]; · iexact HL
    isplitl [HB]
    · rw [show min (k + 1) (NL b - 4 * g) = min k (NL b - 4 * g) + 1 by omega, Nat.mul_succ, Nat.one_mul]
      iexact HB
    iexists _
    iexact HO
  · rename_i hc
    have hge : ¬ 4 * g + k < NL b := fun h => hc (hC.mpr h)
    rw [show min (k + 1) (NL b - 4 * g) = min k (NL b - 4 * g) by omega]
    iintro H Hk
    iapply Hk
    iexact H

/-- The slot of a position no copy fills. -/
def OptFree (c : Dev nD) (f4 : Vec F S14336x4096 .fp8e4m3) (b : ℕ → BitVec 1) (p : ℕ) : sProp 𝕄 := if p < NL b then iprop(emp) else SV c f4 b p

/-- The slot of a used block is given to the copy of the block 56 positions later, if there is one. -/
theorem wp_fillP (c : Dev nD) (f4 : Vec F S14336x4096 .fp8e4m3) (b : ℕ → BitVec 1) (g k : ℕ) (hk : k < 4) {C : Prop} [Decidable C] (hC : C ↔ 4 * g + 56 + k < NL b)
    {offA osem : Fin 1 → ℕ} {osrc : BitVec 32 → Fin 2 → ℕ} {odst : Fin 2 → ℕ}
    {hA : C → ∀ a, offA a + S1.size a ≤ S116.size a} {hsem : C → ∀ a, osem a + S1.size a ≤ S14.size a} {hdst : C → ∀ a, odst a + S128x4096.size a ≤ S7168x4096.size a}
    {chk : BitVec 32 → Prop} {dec : ∀ v, Decidable (chk v)} {hsrc : C → ∀ v, chk v → ∀ a, osrc v a + S128x4096.size a ≤ S14336x4096.size a}
    {h1 : ∀ hc v hw, (mBlk (osrc v) (hsrc hc v hw)).view.WordExact} {h2 : ∀ hc, (mSlot odst (hdst hc)).view.WordExact} {h3 : ∀ hc, DmaTarget.Typed (nD := nD) .hbm (.dma (semD osem (hsem hc))) (DmaTarget.here (nD := nD) (p := (Proc.tc : Proc τ)) (mSlot odst (hdst hc)))}
    (eA : offA = ![4 * g + 56 + k]) (e1 : osem = ![(4 * g + 56 + k) / 4 % 14]) (e2 : ∀ i, i < 112 → osrc (W i) = ![128 * i, 0]) (e3 : odst = ![128 * ((4 * g + 56 + k) % 56), 0]) (hchk : ∀ i, i < 112 → chk (W i))
    {α : Type} {cont : PUnit.{1} → Prog (TpuEff nD τ sig (Elt F) Λ₀ .tc) α} {Q : α → sProp 𝕄} :
    iprop(LiveP c b ∗ SV c f4 b (4 * g + k) ∗ OptTok c f4 b (4 * g + 56 + k) ∗ CellU c f4 b (g + 14) (min k (NL b - 4 * (g + 14))) 0 : sProp 𝕄)
      ⊢ iprop((iprop(LiveP c b ∗ OptFree c f4 b (4 * g + 56 + k) ∗ CellU c f4 b (g + 14) (min (k + 1) (NL b - 4 * (g + 14))) 0) -∗ WP c (cont ⟨⟩) Q)
        -∗ WP c (if hc : C then (smemLoad mLive (Rect.unit (s := S116) offA S1.size (hA hc)) numel1_S1 rfl).bind fun v =>
            Prog.op (.assume (chk v) (dec v)) fun hw =>
            Prog.op (.enqueueDma (mBlk (osrc v) (hsrc hc v hw.down)) (.here (mSlot odst (hdst hc))) (.dma (semD osem (hsem hc))) (h1 hc v hw.down) (h2 hc) (h3 hc)) cont
          else cont ⟨⟩) Q) := by
  have hm : (4 * g + 56 + k) % 56 = (4 * g + k) % 56 := by omega
  split
  · rename_i hc
    have hlt := hC.mp hc
    have hls : ls b (4 * g + 56 + k) < 112 := by rw [ls_of_lt hlt]; exact lv_lt b hlt
    have hT : OptTok c f4 b (4 * g + 56 + k) = TokV c f4 b (4 * g + 56 + k) := if_pos hlt
    have hF : OptFree c f4 b (4 * g + 56 + k) = iprop(emp) := if_pos hlt
    rw [hT, hF]
    unfold SV
    rw [← hm]
    iintro ⟨HL, ⟨%f, Hf, -⟩, HT, HB⟩ Hk
    iapply (wp_readP c b (p := 4 * g + 56 + k) (by omega) eA) $$ HL
    iintro HL
    iapply (wp_assume (defs := defs₀ (F := F)) Variants.none (c : Thread nD τ) none Set.univ (hchk _ hls))
    rw [show min k (NL b - 4 * (g + 14)) = k by omega, show min (k + 1) (NL b - 4 * (g + 14)) = k + 1 by omega]
    iapply (wp_issue c f4 b (g + 14) k (4 * g + 56 + k) (by omega) hk hlt e1 (by rw [ls_of_lt hlt]; exact e2 _ (lv_lt b hlt)) e3) $$ [Hf HT HB]
    · isplitl [Hf]; · iexists f; iexact Hf
      isplitl [HT]; · iexact HT
      iexact HB
    iintro HB
    iapply Hk
    isplitl [HL]; · iexact HL
    isplitr
    · iempintro
    iexact HB
  · rename_i hc
    have hge : ¬ 4 * g + 56 + k < NL b := fun h => hc (hC.mpr h)
    have hF : OptFree c f4 b (4 * g + 56 + k) = SV c f4 b (4 * g + 56 + k) := if_neg hge
    rw [show min (k + 1) (NL b - 4 * (g + 14)) = min k (NL b - 4 * (g + 14)) by omega, hF]
    iintro ⟨HL, HS, -, HB⟩ Hk
    iapply Hk
    isplitl [HL]; · iexact HL
    isplitl [HS]
    · unfold SV
      icases HS with ⟨%f, Hf, -⟩
      iexists f
      rw [hm]
      isplitl [Hf]; · iexact Hf
      ipureintro
      exact fun h => absurd h hge
    iexact HB

end Cert.Kernel.Hand

end
-- ==== Proof.K.Down2.lean ====
/- The groups of four live blocks: slots, shares and the accumulator. -/
module

public import proofs.«01_k».proof.Proof.K.Down1

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx (ix2 ix3 eq_ix2)

theorem sep_app {a m e : ℕ} (h1 : a ≤ m) (h2 : m ≤ e) (Φ : ℕ → sProp 𝕄) :
    bigSep (Finset.Ico a e) Φ = iprop(bigSep (Finset.Ico a m) Φ ∗ bigSep (Finset.Ico m e) Φ) := by
  rw [← bigSep_union' (Finset.disjoint_left.mpr fun x hx hy => by rw [Finset.mem_Ico] at hx hy; omega)]
  congr 1; ext x; simp only [Finset.mem_Ico, Finset.mem_union]; omega

theorem sep_four (n : ℕ) (Φ : ℕ → sProp 𝕄) : bigSep (Finset.Ico n (n + 4)) Φ = iprop(Φ n ∗ Φ (n + 1) ∗ Φ (n + 2) ∗ Φ (n + 3) ∗ emp) := by
  rw [sep_head (by omega), sep_head (by omega), sep_head (by omega), sep_head (by omega), Finset.Ico_self, bigSep_empty]
  rfl

theorem emp_sep_big (S : Finset ℕ) (Φ : ℕ → sProp 𝕄) (h : ∀ i ∈ S, Φ i = iprop(emp)) : (iprop(emp) : sProp 𝕄) ⊢ bigSep S Φ := by
  classical
  induction S using Finset.induction_on with
  | empty => rw [bigSep_empty]; exact .rfl
  | insert a S ha ih =>
    rw [bigSep_insert' ha, h a (Finset.mem_insert_self _ _)]
    iintro H
    isplitr
    · iempintro
    iapply (ih fun i hi => h i (Finset.mem_insert_of_mem hi))
    iexact H

/-- What the copies of a group delivered, with the slots no copy filled: the group's slots and its shares. -/
theorem grp_take (c : Dev nD) (f4 : Vec F S14336x4096 .fp8e4m3) (b : ℕ → BitVec 1) (g : ℕ) :
    iprop(bigSep Finset.univ (fun t : Fin (min 4 (NL b - 4 * g)) => Del c f4 b (4 * g + t.val)) ∗ bigSep (Finset.Ico (4 * g) (4 * g + 4)) (OptFree c f4 b) : sProp 𝕄)
      ⊢ iprop(bigSep (Finset.Ico (4 * g) (4 * g + 4)) (SV c f4 b) ∗ bigSep (Finset.Ico (4 * g) (4 * g + 4)) (OptTok c f4 b)) := by
  let e : Fin (min 4 (NL b - 4 * g)) ↪ ℕ := ⟨fun t => 4 * g + t.val, fun s t h => Fin.ext (by dsimp only at h; omega)⟩
  have he : (Finset.univ : Finset (Fin (min 4 (NL b - 4 * g)))).map e = Finset.Ico (4 * g) (4 * g + min 4 (NL b - 4 * g)) := by
    ext x
    simp only [Finset.mem_map, Finset.mem_univ, true_and, Finset.mem_Ico]
    constructor
    · rintro ⟨t, rfl⟩
      have := t.isLt
      show 4 * g ≤ 4 * g + t.val ∧ 4 * g + t.val < _
      omega
    · intro h
      exact ⟨⟨x - 4 * g, by omega⟩, by show 4 * g + (x - 4 * g) = x; omega⟩
  have hD : bigSep Finset.univ (fun t : Fin (min 4 (NL b - 4 * g)) => Del c f4 b (4 * g + t.val)) = bigSep (Finset.Ico (4 * g) (4 * g + min 4 (NL b - 4 * g))) (Del c f4 b) := by
    rw [← he]; exact (bigSep_map e).symm
  have hm : 4 * g + min 4 (NL b - 4 * g) ≤ 4 * g + 4 := by omega
  rw [hD, sep_app (Nat.le_add_right _ _) hm (OptFree c f4 b), sep_app (Nat.le_add_right _ _) hm (SV c f4 b), sep_app (Nat.le_add_right _ _) hm (OptTok c f4 b)]
  have h1 : bigSep (Finset.Ico (4 * g) (4 * g + min 4 (NL b - 4 * g))) (Del c f4 b)
      = iprop(bigSep (Finset.Ico (4 * g) (4 * g + min 4 (NL b - 4 * g))) (SV c f4 b) ∗ bigSep (Finset.Ico (4 * g) (4 * g + min 4 (NL b - 4 * g))) (OptTok c f4 b)) := by
    refine Eq.trans (bigSep_congr (Ψ := fun p => iprop(SV c f4 b p ∗ OptTok c f4 b p)) fun p hp => ?_) (bigSep_sep _ (SV c f4 b) (OptTok c f4 b))
    rw [Finset.mem_Ico] at hp
    unfold Del OptTok
    rw [if_pos (by omega)]
  have h2 : bigSep (Finset.Ico (4 * g + min 4 (NL b - 4 * g)) (4 * g + 4)) (OptFree c f4 b) = bigSep (Finset.Ico (4 * g + min 4 (NL b - 4 * g)) (4 * g + 4)) (SV c f4 b) := by
    refine bigSep_congr fun p hp => ?_
    rw [Finset.mem_Ico] at hp
    unfold OptFree
    rw [if_neg (by omega)]
  have h3 := emp_sep_big (Finset.Ico (4 * g + min 4 (NL b - 4 * g)) (4 * g + 4)) (OptTok c f4 b) fun p hp => by
    rw [Finset.mem_Ico] at hp
    unfold OptTok
    rw [if_neg (by omega)]
  rw [h1, h2]
  iintro ⟨⟨Ha, Hb⟩, -, Hd⟩
  isplitl [Ha Hd]
  · isplitl [Ha]; · iexact Ha
    iexact Hd
  isplitl [Hb]; · iexact Hb
  iapply h3
  iempintro

/-- The rows of one group's four slots. -/
def rowS (j : ℕ) : Finset S7168x4096.Idx := Finset.univ.filter fun x => (x 0).val / 512 = j

theorem rowS_eq [DecidableEq S7168x4096.Idx] (g : ℕ) : (Finset.Ico (4 * g) (4 * g + 4)).biUnion (fun p => slotS (p % 56)) = rowS (g % 14) := by
  ext x
  have hx : (x 0).val < 7168 := (x 0).isLt
  simp only [Finset.mem_biUnion, Finset.mem_Ico, slotS, rowS, Finset.mem_filter, Finset.mem_univ, true_and]
  constructor
  · rintro ⟨p, hp, h⟩; omega
  · intro h
    refine ⟨4 * g + (x 0).val / 128 % 4, by omega, by omega⟩

theorem slots_disj (g : ℕ) : ∀ p ∈ Finset.Ico (4 * g) (4 * g + 4), ∀ p' ∈ Finset.Ico (4 * g) (4 * g + 4), p ≠ p' → Disjoint (slotS (p % 56)) (slotS (p' % 56)) := by
  intro p hp p' hp' hne
  rw [Finset.mem_Ico] at hp hp'
  refine Finset.disjoint_left.mpr fun x hx hy => ?_
  simp only [slotS, Finset.mem_filter, Finset.mem_univ, true_and] at hx hy
  omega

/-- The four slots of a group, joined. -/
theorem slots_join (c : Dev nD) (f4 : Vec F S14336x4096 .fp8e4m3) (b : ℕ → BitVec 1) (g : ℕ) :
    bigSep (Finset.Ico (4 * g) (4 * g + 4)) (SV c f4 b)
      ⊢ (iprop(∃ f : Vec F S7168x4096 .fp8e4m3, ⌜∀ p ∈ Finset.Ico (4 * g) (4 * g + 4), p < NL b → SlotHas f4 b p f⌝ ∗ ((c : Thread nD τ).loc cc0_scratch9 ↦[rowS (g % 14)]{fullShare} f)) : sProp 𝕄) := by
  haveI hne : Nonempty (Vec F S7168x4096 .fp8e4m3) := ⟨fun _ => f4 (ix2 (n0 := 14336) (n1 := 4096) ⟨0, by decide⟩ ⟨0, by decide⟩)⟩
  have key1 : bigSep (Finset.Ico (4 * g) (4 * g + 4)) (SV c f4 b) ⊢ (iprop(∃ fs : ℕ → S7168x4096.Idx → Elt F .fp8e4m3, bigSep (Finset.Ico (4 * g) (4 * g + 4)) (fun p => (iprop(((c : Thread nD τ).loc cc0_scratch9 ↦[slotS (p % 56)]{fullShare} fs p) ∗ ⌜p < NL b → SlotHas f4 b p (fs p)⌝) : sProp 𝕄))) : sProp 𝕄) := bigSep_exists_pi (Y := fun _ : ℕ => S7168x4096.Idx → Elt F .fp8e4m3) (Finset.Ico (4 * g) (4 * g + 4))
    (fun p f => (iprop(((c : Thread nD τ).loc cc0_scratch9 ↦[slotS (p % 56)]{fullShare} f) ∗ ⌜p < NL b → SlotHas f4 b p f⌝) : sProp 𝕄))
  have key2 : ∀ fs : ℕ → S7168x4096.Idx → Elt F .fp8e4m3, bigSep (Finset.Ico (4 * g) (4 * g + 4)) (fun p => (iprop(((c : Thread nD τ).loc cc0_scratch9 ↦[slotS (p % 56)]{fullShare} fs p) ∗ ⌜p < NL b → SlotHas f4 b p (fs p)⌝) : sProp 𝕄))
    ⊢ (iprop(⌜∀ p ∈ Finset.Ico (4 * g) (4 * g + 4), p < NL b → SlotHas f4 b p (fs p)⌝ ∗ bigSep (Finset.Ico (4 * g) (4 * g + 4)) fun p => ((c : Thread nD τ).loc cc0_scratch9 ↦[slotS (p % 56)]{fullShare} fs p)) : sProp 𝕄) := by
    intro fs
    refine BIBase.Entails.trans (bigSep_mono fun p hp => ?_) (bigSep_pure_sep (Finset.Ico (4 * g) (4 * g + 4)) (fun p => p < NL b → SlotHas f4 b p (fs p)) (fun p => ((c : Thread nD τ).loc cc0_scratch9 ↦[slotS (p % 56)]{fullShare} fs p)))
    show (_ : sProp 𝕄) ⊢ _
    iintro ⟨H1, H2⟩
    isplitl [H2]; · iexact H2
    iexact H1
  have key3 : ∀ fs : ℕ → S7168x4096.Idx → Elt F .fp8e4m3, bigSep (Finset.Ico (4 * g) (4 * g + 4)) (fun p => ((c : Thread nD τ).loc cc0_scratch9 ↦[slotS (p % 56)]{fullShare} fs p : sProp 𝕄))
      ⊢ (iprop(∃ f : S7168x4096.Idx → Elt F .fp8e4m3, ⌜∀ p ∈ Finset.Ico (4 * g) (4 * g + 4), ∀ i ∈ slotS (p % 56), f i = fs p i⌝ ∗ ((c : Thread nD τ).loc cc0_scratch9 ↦[rowS (g % 14)]{fullShare} f)) : sProp 𝕄) := by
    intro fs
    have h := pointsTo_biUnion_join (Val := Elt F) (ℓ := (c : Thread nD τ).loc cc0_scratch9) (q := fullShare) (Ix := Unit) (Name := ℕ) (U := Pipeline.UD sig nD τ) (Lvl := ℕ) (Finset.Ico (4 * g) (4 * g + 4)) (fun p => slotS (p % 56)) fs (fs 0) (slots_disj g)
    rw [rowS_eq g] at h
    exact h
  iintro H
  ihave H := key1 $$ H
  icases H with ⟨%fs, H⟩
  ihave H := (key2 fs) $$ H
  icases H with ⟨%hfs, H⟩
  ihave H := (key3 fs) $$ H
  icases H with ⟨%f, %hf, H⟩
  iexists f
  isplitr
  · ipureintro
    intro p hp hN x hx y h0 h1
    rw [hf p hp x hx]
    exact hfs p hp hN x hx y h0 h1
  iexact H

/-- The joined slots, taken apart. -/
theorem slots_split (c : Dev nD) (f4 : Vec F S14336x4096 .fp8e4m3) (b : ℕ → BitVec 1) (g : ℕ) (f : Vec F S7168x4096 .fp8e4m3)
    (hf : ∀ p ∈ Finset.Ico (4 * g) (4 * g + 4), p < NL b → SlotHas f4 b p f) :
    ((c : Thread nD τ).loc cc0_scratch9 ↦[rowS (g % 14)]{fullShare} f : sProp 𝕄) ⊢ bigSep (Finset.Ico (4 * g) (4 * g + 4)) (SV c f4 b) := by
  have h := pointsTo_biUnion (Val := Elt F) (ℓ := (c : Thread nD τ).loc cc0_scratch9) (q := fullShare) (f := f) (Ix := Unit) (Name := ℕ) (U := Pipeline.UD sig nD τ) (Lvl := ℕ) (Finset.Ico (4 * g) (4 * g + 4)) (fun p => slotS (p % 56)) (slots_disj g)
  rw [rowS_eq g] at h
  rw [h]
  refine bigSep_mono fun p hp => ?_
  unfold SV
  show (_ : sProp 𝕄) ⊢ _
  iintro H
  iexists f
  isplitl [H]; · iexact H
  ipureintro
  exact hf p hp

/-- 128 columns of the codes. -/
def Bk (hcv : Vec F S32x14464 .fp8e4m3) (i : ℕ) : Vec F S32x128 .fp8e4m3 := fun z =>
  hcv (ix2 (n0 := 32) (n1 := 14464) ⟨(z 0).val, (z 0).isLt⟩ ⟨(128 * i + (z 1).val) % 14464, Nat.mod_lt _ (by decide)⟩)

/-- The rows of a group's live blocks. -/
def WdOk (f4 : Vec F S14336x4096 .fp8e4m3) (b : ℕ → BitVec 1) (g : ℕ) (wd : Vec F S512x4096 .fp8e4m3) : Prop :=
  ∀ z : S512x4096.Idx, ∀ y : S14336x4096.Idx, 4 * g + (z 0).val / 128 < NL b → (y 0).val = 128 * lv b (4 * g + (z 0).val / 128) + (z 0).val % 128 → (y 1).val = (z 1).val → wd z = f4 y

/-- The accumulator after `g` groups. -/
def AccRel (f4 : Vec F S14336x4096 .fp8e4m3) (b : ℕ → BitVec 1) (hcv : Vec F S32x14464 .fp8e4m3) : ℕ → Vec F S32x4096 .f32 → Prop
  | 0, a => a = k0_pay35
  | g + 1, a => ∃ a0 wd, AccRel f4 b hcv g a0 ∧ WdOk f4 b g wd ∧
      a = k0_pay11 (Bk hcv (ls b (4 * g))) (Bk hcv (ls b (4 * g + 1))) (Bk hcv (ls b (4 * g + 2))) (Bk hcv (ls b (4 * g + 3))) a0 wd

/-- What the second loop owns before group `g`. -/
def DnSt (c : Dev nD) (f4 : Vec F S14336x4096 .fp8e4m3) (b : ℕ → BitVec 1) (hcv : Vec F S32x14464 .fp8e4m3) (q : PosShare TreeShare) (g : ℕ) : sProp 𝕄 :=
  iprop(LiveP c b ∗ bigSep (Finset.Ico g (g + 14)) (fun h => CellU c f4 b h (min 4 (NL b - 4 * h)) 0) ∗ bigSep (Finset.Ico (4 * g) (4 * g + 56)) (OptFree c f4 b)
    ∗ bigSep (Finset.Ico 0 (4 * g)) (OptTok c f4 b) ∗ bigSep (Finset.Ico (4 * g + 56) 170) (OptTok c f4 b)
    ∗ ((c : Thread nD τ).loc cc0_scratch11 ↦{q} hcv) ∗ iprop(∃ a, ((c : Thread nD τ).loc cc0_scratch12 ↦{fullShare} a) ∗ ⌜AccRel f4 b hcv g a⌝) ∗ Owes c)

theorem blk_val (hcv : Vec F S32x14464 .fp8e4m3) {i : ℕ} (hi : i ≤ 112) {off : Fin 2 → ℕ} {h} (e : off = ![0, 128 * i]) (z : S32x128.Idx) :
    hcv ((Rect.unit (s := S32x14464) off S32x128.size h).emb z) = Bk hcv i z := by
  subst e
  unfold Bk
  refine congrArg hcv (funext (Fin.forall_fin_two.mpr ⟨Fin.ext ?_, Fin.ext ?_⟩))
  · refine (embU (s := S32x14464) (off := ![0, 128 * i]) (size := S32x128.size) (inb := h) _ 0 rfl).trans ?_
    show 0 + (z 0).val = (z 0).val
    omega
  · have h1 : (z 1).val < 128 := (z 1).isLt
    refine (embU (s := S32x14464) (off := ![0, 128 * i]) (size := S32x128.size) (inb := h) _ 1 rfl).trans ?_
    show 128 * i + (z 1).val = (128 * i + (z 1).val) % 14464
    omega

theorem row_sub (j : ℕ) {off : Fin 2 → ℕ} {h} (e : off = ![512 * j, 0]) :
    ((Memref.whole cc0_scratch9).access (Rect.unit (s := S7168x4096) off S512x4096.size h)).set = rowS j := by
  subst e
  refine (View.set_slice_whole cc0_scratch9 _).trans ?_
  ext x
  rw [Rect.mem_set_unit]
  simp only [rowS, Finset.mem_filter, Finset.mem_univ, true_and]
  have h1 : (x 1).val < 4096 := (x 1).isLt
  refine Fin.forall_fin_two.trans ?_
  show ((512 * j ≤ (x 0).val ∧ (x 0).val < 512 * j + 512) ∧ (0 ≤ (x 1).val ∧ (x 1).val < 0 + 4096)) ↔ (x 0).val / 512 = j
  omega

theorem row_val (f4 : Vec F S14336x4096 .fp8e4m3) (b : ℕ → BitVec 1) (g : ℕ) (f : Vec F S7168x4096 .fp8e4m3)
    (hf : ∀ p ∈ Finset.Ico (4 * g) (4 * g + 4), p < NL b → SlotHas f4 b p f) {off : Fin 2 → ℕ} {h} (e : off = ![512 * (g % 14), 0]) :
    WdOk f4 b g (fun z => f ((Rect.unit (s := S7168x4096) off S512x4096.size h).emb z)) := by
  subst e
  intro z y hN h0 h1
  have hz : (z 0).val < 512 := (z 0).isLt
  have e0 := embU (s := S7168x4096) (off := ![512 * (g % 14), 0]) (size := S512x4096.size) (inb := h) z 0 (n := 512 * (g % 14)) rfl
  have e1 := embU (s := S7168x4096) (off := ![512 * (g % 14), 0]) (size := S512x4096.size) (inb := h) z 1 (n := 0) rfl
  refine hf (4 * g + (z 0).val / 128) (Finset.mem_Ico.mpr (by omega)) hN _ ?_ y ?_ ?_
  · simp only [slotS, Finset.mem_filter, Finset.mem_univ, true_and]
    rw [e0]
    omega
  · rw [h0, e0]
    omega
  · rw [h1, e1]
    omega

theorem dnW0 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ CellU c f4 b t.val (min 4 (NL b - 4 * t.val)) (KD * min 0 (NL b - 4 * t.val)) ∗ Owes c : sProp 𝕄)
      ⊢ iprop((iprop(LiveP c b ∗ CellU c f4 b t.val (min 4 (NL b - 4 * t.val)) (KD * min (0 + 1) (NL b - 4 * t.val)) ∗ Owes c) -∗ WP c (cont ⟨⟩) Q)
        -∗ WP c (dnWait0 (W (NL b)) hw t cont) Q) := by
  have hN : NL b < 113 := by have := NL_le b; omega
  have hC := wCond0_all ⟨NL b, hN⟩ t
  have eA := wOffL0_all ⟨NL b, hN⟩ t
  have e1 := wOffC0_all ⟨NL b, hN⟩ t
  unfold dnWait0
  exact wp_waitP (F := F) (α := α) (cont := cont) (Q := Q) c f4 b t.val 0 (by omega) hC eA e1 (fun i h => wChk0 _ _ h)

theorem dnF0 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ SV c f4 b (4 * t.val + 0) ∗ OptTok c f4 b (4 * t.val + 56 + 0) ∗ CellU c f4 b (t.val + 14) (min 0 (NL b - 4 * (t.val + 14))) 0 : sProp 𝕄)
      ⊢ iprop((iprop(LiveP c b ∗ OptFree c f4 b (4 * t.val + 56 + 0) ∗ CellU c f4 b (t.val + 14) (min (0 + 1) (NL b - 4 * (t.val + 14))) 0) -∗ WP c (cont ⟨⟩) Q)
        -∗ WP c (dnFill0 (W (NL b)) hw t cont) Q) := by
  have hN : NL b < 113 := by have := NL_le b; omega
  have hC := rCond0_all ⟨NL b, hN⟩ t
  have eA := rOffL0_all ⟨NL b, hN⟩ t
  have e1 := rOffC0_all ⟨NL b, hN⟩ t
  have e3 := rOffS0_all ⟨NL b, hN⟩ t
  unfold dnFill0
  exact wp_fillP (F := F) (α := α) (cont := cont) (Q := Q) c f4 b t.val 0 (by omega) hC eA e1 (fun i h => by rw [rOffW0, offW_eq h]) e3 (fun i h => rChk0 _ _ h)

theorem dnW1 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ CellU c f4 b t.val (min 4 (NL b - 4 * t.val)) (KD * min 1 (NL b - 4 * t.val)) ∗ Owes c : sProp 𝕄)
      ⊢ iprop((iprop(LiveP c b ∗ CellU c f4 b t.val (min 4 (NL b - 4 * t.val)) (KD * min (1 + 1) (NL b - 4 * t.val)) ∗ Owes c) -∗ WP c (cont ⟨⟩) Q)
        -∗ WP c (dnWait1 (W (NL b)) hw t cont) Q) := by
  have hN : NL b < 113 := by have := NL_le b; omega
  have hC := wCond1_all ⟨NL b, hN⟩ t
  have eA := wOffL1_all ⟨NL b, hN⟩ t
  have e1 := wOffC1_all ⟨NL b, hN⟩ t
  unfold dnWait1
  exact wp_waitP (F := F) (α := α) (cont := cont) (Q := Q) c f4 b t.val 1 (by omega) hC eA e1 (fun i h => wChk1 _ _ h)

theorem dnF1 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ SV c f4 b (4 * t.val + 1) ∗ OptTok c f4 b (4 * t.val + 56 + 1) ∗ CellU c f4 b (t.val + 14) (min 1 (NL b - 4 * (t.val + 14))) 0 : sProp 𝕄)
      ⊢ iprop((iprop(LiveP c b ∗ OptFree c f4 b (4 * t.val + 56 + 1) ∗ CellU c f4 b (t.val + 14) (min (1 + 1) (NL b - 4 * (t.val + 14))) 0) -∗ WP c (cont ⟨⟩) Q)
        -∗ WP c (dnFill1 (W (NL b)) hw t cont) Q) := by
  have hN : NL b < 113 := by have := NL_le b; omega
  have hC := rCond1_all ⟨NL b, hN⟩ t
  have eA := rOffL1_all ⟨NL b, hN⟩ t
  have e1 := rOffC1_all ⟨NL b, hN⟩ t
  have e3 := rOffS1_all ⟨NL b, hN⟩ t
  unfold dnFill1
  exact wp_fillP (F := F) (α := α) (cont := cont) (Q := Q) c f4 b t.val 1 (by omega) hC eA e1 (fun i h => by rw [rOffW1, offW_eq h]) e3 (fun i h => rChk1 _ _ h)

theorem dnW2 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ CellU c f4 b t.val (min 4 (NL b - 4 * t.val)) (KD * min 2 (NL b - 4 * t.val)) ∗ Owes c : sProp 𝕄)
      ⊢ iprop((iprop(LiveP c b ∗ CellU c f4 b t.val (min 4 (NL b - 4 * t.val)) (KD * min (2 + 1) (NL b - 4 * t.val)) ∗ Owes c) -∗ WP c (cont ⟨⟩) Q)
        -∗ WP c (dnWait2 (W (NL b)) hw t cont) Q) := by
  have hN : NL b < 113 := by have := NL_le b; omega
  have hC := wCond2_all ⟨NL b, hN⟩ t
  have eA := wOffL2_all ⟨NL b, hN⟩ t
  have e1 := wOffC2_all ⟨NL b, hN⟩ t
  unfold dnWait2
  exact wp_waitP (F := F) (α := α) (cont := cont) (Q := Q) c f4 b t.val 2 (by omega) hC eA e1 (fun i h => wChk2 _ _ h)

theorem dnF2 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ SV c f4 b (4 * t.val + 2) ∗ OptTok c f4 b (4 * t.val + 56 + 2) ∗ CellU c f4 b (t.val + 14) (min 2 (NL b - 4 * (t.val + 14))) 0 : sProp 𝕄)
      ⊢ iprop((iprop(LiveP c b ∗ OptFree c f4 b (4 * t.val + 56 + 2) ∗ CellU c f4 b (t.val + 14) (min (2 + 1) (NL b - 4 * (t.val + 14))) 0) -∗ WP c (cont ⟨⟩) Q)
        -∗ WP c (dnFill2 (W (NL b)) hw t cont) Q) := by
  have hN : NL b < 113 := by have := NL_le b; omega
  have hC := rCond2_all ⟨NL b, hN⟩ t
  have eA := rOffL2_all ⟨NL b, hN⟩ t
  have e1 := rOffC2_all ⟨NL b, hN⟩ t
  have e3 := rOffS2_all ⟨NL b, hN⟩ t
  unfold dnFill2
  exact wp_fillP (F := F) (α := α) (cont := cont) (Q := Q) c f4 b t.val 2 (by omega) hC eA e1 (fun i h => by rw [rOffW2, offW_eq h]) e3 (fun i h => rChk2 _ _ h)

theorem dnW3 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ CellU c f4 b t.val (min 4 (NL b - 4 * t.val)) (KD * min 3 (NL b - 4 * t.val)) ∗ Owes c : sProp 𝕄)
      ⊢ iprop((iprop(LiveP c b ∗ CellU c f4 b t.val (min 4 (NL b - 4 * t.val)) (KD * min (3 + 1) (NL b - 4 * t.val)) ∗ Owes c) -∗ WP c (cont ⟨⟩) Q)
        -∗ WP c (dnWait3 (W (NL b)) hw t cont) Q) := by
  have hN : NL b < 113 := by have := NL_le b; omega
  have hC := wCond3_all ⟨NL b, hN⟩ t
  have eA := wOffL3_all ⟨NL b, hN⟩ t
  have e1 := wOffC3_all ⟨NL b, hN⟩ t
  unfold dnWait3
  exact wp_waitP (F := F) (α := α) (cont := cont) (Q := Q) c f4 b t.val 3 (by omega) hC eA e1 (fun i h => wChk3 _ _ h)

theorem dnF3 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ SV c f4 b (4 * t.val + 3) ∗ OptTok c f4 b (4 * t.val + 56 + 3) ∗ CellU c f4 b (t.val + 14) (min 3 (NL b - 4 * (t.val + 14))) 0 : sProp 𝕄)
      ⊢ iprop((iprop(LiveP c b ∗ OptFree c f4 b (4 * t.val + 56 + 3) ∗ CellU c f4 b (t.val + 14) (min (3 + 1) (NL b - 4 * (t.val + 14))) 0) -∗ WP c (cont ⟨⟩) Q)
        -∗ WP c (dnFill3 (W (NL b)) hw t cont) Q) := by
  have hN : NL b < 113 := by have := NL_le b; omega
  have hC := rCond3_all ⟨NL b, hN⟩ t
  have eA := rOffL3_all ⟨NL b, hN⟩ t
  have e1 := rOffC3_all ⟨NL b, hN⟩ t
  have e3 := rOffS3_all ⟨NL b, hN⟩ t
  unfold dnFill3
  exact wp_fillP (F := F) (α := α) (cont := cont) (Q := Q) c f4 b t.val 3 (by omega) hC eA e1 (fun i h => by rw [rOffW3, offW_eq h]) e3 (fun i h => rChk3 _ _ h)

end Cert.Kernel.Hand

end
-- ==== Proof.K.Split.lean ====
/- The buffers of the kernel taken apart before the loops and put together after them. -/
module

public import proofs.«01_k».proof.Proof.K.Down2

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A separating conjunction over one period may start anywhere. -/
theorem sep_rot (Φ : ℕ → sProp 𝕄) (m : ℕ) (hm : 0 < m) (h : ∀ n, Φ (n + m) = Φ n) (G : ℕ) : bigSep (Finset.Ico G (G + m)) Φ = bigSep (Finset.Ico 0 m) Φ := by
  induction G with
  | zero => rw [Nat.zero_add]
  | succ G ih =>
    rw [← ih, show G + 1 + m = G + m + 1 by omega, sep_last (by omega), sep_head (show G < G + m by omega), h]

theorem sep_fupd (S : Finset ℕ) (Φ Ψ : ℕ → sProp 𝕄) (h : ∀ i ∈ S, Φ i ⊢ iprop(|={Set.univ}=> Ψ i)) : bigSep S Φ ⊢ iprop(|={Set.univ}=> bigSep S Ψ) := by
  classical
  induction S using Finset.induction_on with
  | empty => rw [bigSep_empty, bigSep_empty]; exact fupd_intro
  | insert a S ha ih =>
    rw [bigSep_insert' ha, bigSep_insert' ha]
    iintro ⟨H1, H2⟩
    imod (h a (Finset.mem_insert_self _ _)) $$ H1 with H1
    imod (ih fun i hi => h i (Finset.mem_insert_of_mem hi)) $$ H2 with H2
    imodintro
    isplitl [H1]; · iexact H1
    iexact H2

/-- A part that can be given back. -/
theorem lend_big (S : Finset ℕ) (A B : ℕ → sProp 𝕄) (h : ∀ i ∈ S, A i ⊢ iprop(B i ∗ (B i -∗ A i))) : bigSep S A ⊢ iprop(bigSep S B ∗ (bigSep S B -∗ bigSep S A)) := by
  refine BIBase.Entails.trans (bigSep_mono h) ?_
  have e1 : bigSep S (fun i => (iprop(B i ∗ (B i -∗ A i)) : sProp 𝕄)) = iprop(bigSep S B ∗ bigSep S (fun i => iprop(B i -∗ A i))) := bigSep_sep S B (fun i => iprop(B i -∗ A i))
  refine BIBase.Entails.trans (Entails.of_eq e1) ?_
  iintro ⟨HB, HW⟩
  isplitl [HB]; · iexact HB
  iintro HB
  have key : iprop(bigSep S (fun i => iprop(B i -∗ A i)) ∗ bigSep S B : sProp 𝕄) ⊢ bigSep S A := by
    have e2 : bigSep S (fun i => (iprop((B i -∗ A i) ∗ B i) : sProp 𝕄)) = iprop(bigSep S (fun i => iprop(B i -∗ A i)) ∗ bigSep S B) := bigSep_sep S (fun i => iprop(B i -∗ A i)) B
    refine BIBase.Entails.trans (Entails.of_eq e2.symm) ?_
    refine bigSep_mono fun i hi => ?_
    show (_ : sProp 𝕄) ⊢ _
    iintro ⟨HW, HB⟩
    iapply HW
    iexact HB
  iapply key
  isplitl [HW]; · iexact HW
  iexact HB

/-- The second matrix, taken apart into the shares the copies read; they can be given back. -/
theorem w4_split (c : Dev nD) (f4 : Vec F S14336x4096 .fp8e4m3) (b : ℕ → BitVec 1) :
    ((c : Thread nD τ).loc main_arg4 ↦{fullShare} f4 : sProp 𝕄)
      ⊢ iprop(bigSep (Finset.Ico 0 170) (OptTok c f4 b) ∗ (bigSep (Finset.Ico 0 170) (OptTok c f4 b) -∗ ((c : Thread nD τ).loc main_arg4 ↦{fullShare} f4))) := by
  have e := Transfers.pointsTo_toks_range (Val := Elt F) (ℓ := (c : Thread nD τ).loc main_arg4) (S := Finset.univ) (f := f4) (Ix := Unit) (Name := ℕ) (U := Pipeline.UD sig nD τ) (Lvl := ℕ) fullShare 170
  rw [Finset.range_eq_Ico] at e
  have h2 := lend_big (F := F) (Finset.Ico 0 170) (fun i => ((c : Thread nD τ).loc main_arg4 ↦[Finset.univ]{Transfers.shareTokN fullShare i} f4)) (OptTok c f4 b) (fun i hi => by
    unfold OptTok
    split
    · unfold TokV
      have h := pointsTo_split_subset (Val := Elt F) (ℓ := (c : Thread nD τ).loc main_arg4) (q := Transfers.shareTokN fullShare i) (f := f4) (Ix := Unit) (Name := ℕ) (U := Pipeline.UD sig nD τ) (Lvl := ℕ) (Finset.subset_univ (blkS (lv b i)))
      refine BIBase.Entails.trans h.1 ?_
      iintro ⟨H1, H2⟩
      isplitl [H1]; · iexact H1
      iintro H1
      iapply h.2
      isplitl [H1]; · iexact H1
      iexact H2
    · iintro H
      isplitr; · iempintro
      iintro -
      iexact H)
  iintro H
  ihave H := e.1 $$ H
  icases H with ⟨H0, H⟩
  ihave H := h2 $$ H
  icases H with ⟨HB, HW⟩
  isplitl [HB]; · iexact HB
  iintro HB
  iapply e.2
  isplitl [H0]; · iexact H0
  iapply HW
  iexact HB

theorem cols_all [DecidableEq S4096x14336.Idx] : (Finset.Ico 0 28).biUnion colS = Finset.univ := by
  ext x
  have hx : (x 1).val < 14336 := (x 1).isLt
  simp only [Finset.mem_biUnion, Finset.mem_Ico, colS, Finset.mem_filter, Finset.mem_univ, true_and, iff_true]
  exact ⟨(x 1).val / 512, by omega, rfl⟩

/-- The first matrix is its column blocks. -/
theorem w1_split (c : Dev nD) (f1 : Vec F S4096x14336 .fp8e4m3) :
    ((c : Thread nD τ).loc main_arg1 ↦{fullShare} f1 : sProp 𝕄) = bigSep (Finset.Ico 0 28) (ColB c f1) := by
  have h := pointsTo_biUnion (Val := Elt F) (ℓ := (c : Thread nD τ).loc main_arg1) (q := fullShare) (f := f1) (Ix := Unit) (Name := ℕ) (U := Pipeline.UD sig nD τ) (Lvl := ℕ) (Finset.Ico 0 28) colS (fun p hp p' hp' hne => by
    refine Finset.disjoint_left.mpr fun x hx hy => ?_
    simp only [colS, Finset.mem_filter, Finset.mem_univ, true_and] at hx hy
    omega)
  rw [cols_all] at h
  exact h

theorem rings_all [DecidableEq S8x4096x512.Idx] (a : ℕ) : (Finset.Ico a (a + 8)).biUnion (fun k => ringS (k % 8)) = Finset.univ := by
  ext x
  have hx : (x 0).val < 8 := (x 0).isLt
  simp only [Finset.mem_biUnion, Finset.mem_Ico, ringS, Finset.mem_filter, Finset.mem_univ, true_and, iff_true]
  exact ⟨a + ((x 0).val + 8 - a % 8) % 8, by omega, by omega⟩
theorem rings_disj (a : ℕ) : ∀ p ∈ Finset.Ico a (a + 8), ∀ p' ∈ Finset.Ico a (a + 8), p ≠ p' → Disjoint (ringS (p % 8)) (ringS (p' % 8)) := by
  intro p hp p' hp' hne
  rw [Finset.mem_Ico] at hp hp'
  refine Finset.disjoint_left.mpr fun x hx hy => ?_
  simp only [ringS, Finset.mem_filter, Finset.mem_univ, true_and] at hx hy
  omega

/-- A slot of the ring, with anything in it. -/
def RingF (c : Dev nD) (k : ℕ) : sProp 𝕄 := iprop(∃ f : Vec F S8x4096x512 .fp8e4m3, (c : Thread nD τ).loc cc0_scratch8 ↦[ringS (k % 8)]{fullShare} f)

theorem ring_split (c : Dev nD) (f : Vec F S8x4096x512 .fp8e4m3) (a : ℕ) :
    ((c : Thread nD τ).loc cc0_scratch8 ↦{fullShare} f : sProp 𝕄) ⊢ bigSep (Finset.Ico a (a + 8)) (RingF (F := F) c) := by
  have h := pointsTo_biUnion (Val := Elt F) (ℓ := (c : Thread nD τ).loc cc0_scratch8) (q := fullShare) (f := f) (Ix := Unit) (Name := ℕ) (U := Pipeline.UD sig nD τ) (Lvl := ℕ) (Finset.Ico a (a + 8)) (fun k => ringS (k % 8)) (rings_disj a)
  rw [rings_all] at h
  refine BIBase.Entails.trans (Entails.of_eq h) ?_
  refine bigSep_mono fun p hp => ?_
  unfold RingF
  show (_ : sProp 𝕄) ⊢ _
  iintro H
  iexists f
  iexact H

theorem ring_join (c : Dev nD) (e0 : Elt F .fp8e4m3) (a : ℕ) :
    bigSep (Finset.Ico a (a + 8)) (RingF (F := F) c) ⊢ (iprop(∃ f : Vec F S8x4096x512 .fp8e4m3, (c : Thread nD τ).loc cc0_scratch8 ↦{fullShare} f) : sProp 𝕄) := by
  haveI hne : Nonempty (Vec F S8x4096x512 .fp8e4m3) := ⟨fun _ => e0⟩
  have key1 : bigSep (Finset.Ico a (a + 8)) (RingF (F := F) c) ⊢ (iprop(∃ fs : ℕ → S8x4096x512.Idx → Elt F .fp8e4m3, bigSep (Finset.Ico a (a + 8)) (fun p => ((c : Thread nD τ).loc cc0_scratch8 ↦[ringS (p % 8)]{fullShare} fs p))) : sProp 𝕄) := bigSep_exists_pi (Y := fun _ : ℕ => S8x4096x512.Idx → Elt F .fp8e4m3) (Finset.Ico a (a + 8))
    (fun p f => ((c : Thread nD τ).loc cc0_scratch8 ↦[ringS (p % 8)]{fullShare} f : sProp 𝕄))
  iintro H
  ihave H := key1 $$ H
  icases H with ⟨%fs, H⟩
  have h := pointsTo_biUnion_join (Val := Elt F) (ℓ := (c : Thread nD τ).loc cc0_scratch8) (q := fullShare) (Ix := Unit) (Name := ℕ) (U := Pipeline.UD sig nD τ) (Lvl := ℕ) (Finset.Ico a (a + 8)) (fun p => ringS (p % 8)) fs (fs 0) (rings_disj a)
  rw [rings_all] at h
  ihave H := h $$ H
  icases H with ⟨%f, %hf, H⟩
  iexists f
  iexact H

theorem slots_all [DecidableEq S7168x4096.Idx] (a : ℕ) : (Finset.Ico a (a + 56)).biUnion (fun k => slotS (k % 56)) = Finset.univ := by
  ext x
  have hx : (x 0).val < 7168 := (x 0).isLt
  simp only [Finset.mem_biUnion, Finset.mem_Ico, slotS, Finset.mem_filter, Finset.mem_univ, true_and, iff_true]
  exact ⟨a + ((x 0).val / 128 + 56 - a % 56) % 56, by omega, by omega⟩
theorem slots_disj' (a : ℕ) : ∀ p ∈ Finset.Ico a (a + 56), ∀ p' ∈ Finset.Ico a (a + 56), p ≠ p' → Disjoint (slotS (p % 56)) (slotS (p' % 56)) := by
  intro p hp p' hp' hne
  rw [Finset.mem_Ico] at hp hp'
  refine Finset.disjoint_left.mpr fun x hx hy => ?_
  simp only [slotS, Finset.mem_filter, Finset.mem_univ, true_and] at hx hy
  omega

theorem slots_open (c : Dev nD) (f : Vec F S7168x4096 .fp8e4m3) :
    ((c : Thread nD τ).loc cc0_scratch9 ↦{fullShare} f : sProp 𝕄) ⊢ FreeS (F := F) c 0 := by
  have h := pointsTo_biUnion (Val := Elt F) (ℓ := (c : Thread nD τ).loc cc0_scratch9) (q := fullShare) (f := f) (Ix := Unit) (Name := ℕ) (U := Pipeline.UD sig nD τ) (Lvl := ℕ) (Finset.Ico 0 (0 + 56)) (fun k => slotS (k % 56)) (slots_disj' 0)
  rw [slots_all] at h
  refine BIBase.Entails.trans (Entails.of_eq h) ?_
  unfold FreeS
  refine bigSep_mono fun p hp => ?_
  show (_ : sProp 𝕄) ⊢ _
  iintro H
  iexists f
  iexact H

theorem slots_close (c : Dev nD) (f4 : Vec F S14336x4096 .fp8e4m3) (b : ℕ → BitVec 1) (a : ℕ) :
    bigSep (Finset.Ico a (a + 56)) (SV c f4 b) ⊢ (iprop(∃ f : Vec F S7168x4096 .fp8e4m3, (c : Thread nD τ).loc cc0_scratch9 ↦{fullShare} f) : sProp 𝕄) := by
  haveI hne : Nonempty (Vec F S7168x4096 .fp8e4m3) := ⟨fun _ => f4 (ValueIdx.ix2 (n0 := 14336) (n1 := 4096) ⟨0, by decide⟩ ⟨0, by decide⟩)⟩
  have key0 : bigSep (Finset.Ico a (a + 56)) (SV c f4 b) ⊢ bigSep (Finset.Ico a (a + 56)) (fun p => (iprop(∃ f : Vec F S7168x4096 .fp8e4m3, (c : Thread nD τ).loc cc0_scratch9 ↦[slotS (p % 56)]{fullShare} f) : sProp 𝕄)) := by
    refine bigSep_mono fun p hp => ?_
    unfold SV
    show (_ : sProp 𝕄) ⊢ _
    iintro ⟨%f, H, -⟩
    iexists f
    iexact H
  have key1 : bigSep (Finset.Ico a (a + 56)) (fun p => (iprop(∃ f : Vec F S7168x4096 .fp8e4m3, (c : Thread nD τ).loc cc0_scratch9 ↦[slotS (p % 56)]{fullShare} f) : sProp 𝕄)) ⊢ (iprop(∃ fs : ℕ → S7168x4096.Idx → Elt F .fp8e4m3, bigSep (Finset.Ico a (a + 56)) (fun p => ((c : Thread nD τ).loc cc0_scratch9 ↦[slotS (p % 56)]{fullShare} fs p))) : sProp 𝕄) := bigSep_exists_pi (Y := fun _ : ℕ => S7168x4096.Idx → Elt F .fp8e4m3) (Finset.Ico a (a + 56))
    (fun p f => ((c : Thread nD τ).loc cc0_scratch9 ↦[slotS (p % 56)]{fullShare} f : sProp 𝕄))
  iintro H
  ihave H := key0 $$ H
  ihave H := key1 $$ H
  icases H with ⟨%fs, H⟩
  have h := pointsTo_biUnion_join (Val := Elt F) (ℓ := (c : Thread nD τ).loc cc0_scratch9) (q := fullShare) (Ix := Unit) (Name := ℕ) (U := Pipeline.UD sig nD τ) (Lvl := ℕ) (Finset.Ico a (a + 56)) (fun p => slotS (p % 56)) fs (fs 0) (slots_disj' a)
  rw [slots_all] at h
  ihave H := h $$ H
  icases H with ⟨%f, %hf, H⟩
  iexists f
  iexact H

/-- The fourteen cells at rest. -/
def Sem14 (c : Dev nD) : sProp 𝕄 := bigSep (Finset.Ico 0 14) fun g => semVal (c, .dma (semDn g)) 0

theorem cells_open (c : Dev nD) (f4 : Vec F S14336x4096 .fp8e4m3) (b : ℕ → BitVec 1) :
    (Sem14 (F := F) c) ⊢ iprop(|={Set.univ}=> Cells c f4 b 0) := by
  unfold Sem14 Cells
  rw [Finset.range_eq_Ico]
  refine sep_fupd _ _ _ fun g hg => ?_
  rw [Nat.zero_sub, Nat.min_zero]
  unfold CellU
  exact Transfers.batch_alloc' (Lvl := ℕ) EC (c : Thread nD τ) () KD (fun u : Fin (min 4 (NL b - 4 * g)) => Del c f4 b (4 * g + u.val)) (sm := .dma (semDn g)) (E := Set.univ)

theorem cells_shut (c : Dev nD) (f4 : Vec F S14336x4096 .fp8e4m3) (b : ℕ → BitVec 1) (G : ℕ) (hG : NL b ≤ 4 * G) :
    bigSep (Finset.Ico G (G + 14)) (fun h => CellU c f4 b h (min 4 (NL b - 4 * h)) 0) ⊢ iprop(|={Set.univ}=> Sem14 (F := F) c) := by
  unfold Sem14
  rw [← sep_rot (fun g => (semVal (c, .dma (semDn g)) 0 : sProp 𝕄)) 14 (by decide) (fun n => by
    rw [← semDn_mod (n + 14), show (n + 14) % 14 = n % 14 by omega, semDn_mod]) G]
  refine sep_fupd _ _ _ fun g hg => ?_
  rw [Finset.mem_Ico] at hg
  have z : min 4 (NL b - 4 * g) = 0 := by omega
  have h := Transfers.batch_collect' (Lvl := ℕ) EC (c : Thread nD τ) (sm := .dma (semDn g)) (ι := ()) (D := fun t : Fin (min 4 (NL b - 4 * g)) => Del c f4 b (4 * g + t.val)) KD_pos
  rw [z] at h
  unfold CellU
  refine BIBase.Entails.trans ?_ (BIBase.Entails.trans h ?_)
  · rw [z, Nat.mul_zero]
  · refine fupd_mono ?_
    iintro ⟨-, H⟩
    iexact H

end Cert.Kernel.Hand

end
-- ==== Proof.K.Copy.lean ====
/- The rules of a plain copy between two buffers, and of waiting for it. -/
module

public import proofs.«01_k».proof.Proof.K.Split

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The four cells of the copies in. -/
def semIn (j : ℕ) : DmaSem sig := ⟨j % 4, by show j % 4 < 31; omega⟩
/-- The five cells of the copies out. -/
def semOut (j : ℕ) : DmaSem sig := ⟨4 + j % 5, by show 4 + j % 5 < 31; omega⟩
theorem semIn_all : ∀ j : Fin 4, ∀ h, ((cc0_scoped0.slice (Rect.unit (s := S4) ![j.val] S1.size h)).squeeze S_ squeezes_S1_S_).sem = semIn j.val := by decide +kernel
theorem semOut_all : ∀ j : Fin 5, ∀ h, ((cc0_scoped1.slice (Rect.unit (s := S5) ![j.val] S1.size h)).squeeze S_ squeezes_S1_S_).sem = semOut j.val := by decide +kernel

/-- A copy between two buffers is started. -/
theorem wp_cp (c : Dev nD) {sp sp' : Space} {s : Shape} {e : EltTy} {src : Memref sig .tc sp s e} {dst : Memref sig .tc sp' s e} {sm sm' : DmaSem sig} (hsm : sm = sm')
    {q : PosShare TreeShare} {fs : Buf (Elt F) (src.view.loc (c : Thread nD τ))} {fd w : Buf (Elt F) (dst.view.loc (c : Thread nD τ))}
    {Ss : Finset (Idx (src.view.loc (c : Thread nD τ)))} {Sd : Finset (Idx (dst.view.loc (c : Thread nD τ)))} {N : ℕ} (hN : dst.view.amount (.dma sm') = N) (hN0 : 0 < N)
    (hSs : src.view.set = Ss) (hSd : dst.view.set = Sd) (hw : dst.view.write (Elt F) fd (src.view.read (Elt F) fs) Finset.univ = w) {h1 h2 h3}
    {α : Type} {K : PUnit → Prog (TpuEff nD τ sig (Elt F) Λ₀ .tc) α} {Q : α → sProp 𝕄} :
    iprop((src.view.loc (c : Thread nD τ) ↦[Ss]{q} fs) ∗ (dst.view.loc (c : Thread nD τ) ↦[Sd]{fullShare} fd) ∗ semVal (c, .dma sm') 0 : sProp 𝕄)
      ⊢ iprop((Transfers.Flight EC (c : Thread nD τ) (.dma sm') () N iprop((dst.view.loc (c : Thread nD τ) ↦[Sd]{fullShare} w) ∗ (src.view.loc (c : Thread nD τ) ↦[Ss]{q} fs)) -∗ WP c (K ⟨⟩) Q)
        -∗ WP c (.op (.enqueueDma src (.here dst) (.dma sm) h1 h2 h3) K) Q) := by
  subst hsm hSs hSd hw
  iintro ⟨Hs, Hd, Hv⟩ Hk
  iapply (Transfers.wp_dmaLocal EC Variants.none (c : Thread nD τ) none (src := src) (dst := dst) (q := q) (fs := fs) (Sd := dst.view.set) (fd := fd) () N hN hN0 (Finset.Subset.refl _)) $$ [Hs Hd Hv]
  · isplitl [Hs]; · iexact Hs
    isplitl [Hd]; · iexact Hd
    iexact Hv
  iintro HF
  iapply Hk
  iexact HF

/-- A copy between two buffers is awaited. -/
theorem wp_cpWait (c : Dev nD) {sp sp' : Space} {s s' : Shape} {e e' : EltTy} {src : Memref sig .tc sp s e} {dst : Memref sig .tc sp' s' e'} {sm sm' : DmaSem sig} (hsm : sm = sm') {D : sProp 𝕄}
    {N : ℕ} (hN : dst.view.dmaCredit = N) {h1 h2}
    {α : Type} {K : PUnit → Prog (TpuEff nD τ sig (Elt F) Λ₀ .tc) α} {Q : α → sProp 𝕄} :
    iprop(Transfers.Flight EC (c : Thread nD τ) (.dma sm') () N D ∗ Owes c : sProp 𝕄)
      ⊢ iprop((iprop(D ∗ semVal (c, .dma sm') 0 ∗ Owes c) -∗ WP c (K ⟨⟩) Q) -∗ WP c (.op (.waitDma2 sm src dst h1 h2) K) Q) := by
  subst hsm
  unfold Owes
  iintro ⟨HF, ⟨%W', HO⟩⟩ Hk
  iapply (Transfers.wp_waitLocal EC Variants.none (c : Thread nD τ) none (srcw := src) (dstw := dst) () (N := N) hN) $$ [HF HO]
  · isplitl [HF]; · iexact HF
    iexact HO
  iintro ⟨HD, HV, HO⟩
  iapply Hk
  isplitl [HD]; · iexact HD
  isplitl [HV]; · iexact HV
  iexists _
  iexact HO

/-- A whole buffer copied into a whole buffer. -/
theorem whole_val {b : Ref sig .tc} (f w : b.ty.Contents (Elt F)) : (Memref.whole b).view.write (Elt F) f w Finset.univ = w := View.write_whole_univ b f w

/-- A whole buffer is stored. -/
theorem wp_stW (c : Dev nD) {cs : CoreSpace} {s : Shape} {e : EltTy} {m : Memref sig .tc cs s e} {r : Rect s} {w : r.shape.Idx → Elt F e} {hx : (m.access r).Stores Finset.univ} {hm : Finset.univ = Finset.univ ∨ ∀ a, r.stride a = 1} {α : Type}
    {k : PUnit → Prog (TpuEff nD τ sig (Elt F) Λ₀ .tc) α} {Q : α → sProp 𝕄}
    {S : Finset (Idx ((m.access r).loc (c : Thread nD τ)))} {f w' : Buf (Elt F) ((m.access r).loc (c : Thread nD τ))}
    (hw : (m.access r).write (Elt F) f w Finset.univ = w') (hS : (m.access r).setOn Finset.univ ⊆ S) :
    ((m.access r).loc (c : Thread nD τ) ↦[S]{fullShare} f : sProp 𝕄)
      ⊢ iprop((((m.access r).loc (c : Thread nD τ) ↦[S]{fullShare} w') -∗ WP c (k ⟨⟩) Q) -∗ WP c (.op (.store m r w Finset.univ hx hm) k) Q) := by
  subst hw
  exact wp_store (defs := defs₀ (F := F)) Variants.none (c : Thread nD τ) none Set.univ hS

end Cert.Kernel.Hand

end
-- ==== Proof.K.BodyA.lean ====
/- The start of the kernel: its copies in. -/
module

public import proofs.«01_k».proof.Proof.K.Copy

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem st_write4 (a w : Vec F S32x4096 .fp8e4m3) {h} :
    ((Memref.whole cc0_scratch4).access (Rect.unit (s := S32x4096) ![0, 0] S32x4096.size h)).write (Elt F) a w Finset.univ = w := by
  funext x
  have hx : ((Memref.whole cc0_scratch4).access (Rect.unit (s := S32x4096) ![0, 0] S32x4096.size h)).emb x = x := by
    show (Rect.unit (s := S32x4096) ![0, 0] S32x4096.size h).emb x = x
    rw [Rect.emb_unit_full]
  have hw := View.write_emb_of_mem (v := (Memref.whole cc0_scratch4).access (Rect.unit (s := S32x4096) ![0, 0] S32x4096.size h)) a w (Finset.mem_univ x)
  rw [hx] at hw
  exact hw

theorem st_write5 (a w : Vec F S32x128 .f32) {h} :
    ((Memref.whole cc0_scratch5).access (Rect.unit (s := S32x128) ![0, 0] S32x128.size h)).write (Elt F) a w Finset.univ = w := by
  funext x
  have hx : ((Memref.whole cc0_scratch5).access (Rect.unit (s := S32x128) ![0, 0] S32x128.size h)).emb x = x := by
    show (Rect.unit (s := S32x128) ![0, 0] S32x128.size h).emb x = x
    rw [Rect.emb_unit_full]
  have hw := View.write_emb_of_mem (v := (Memref.whole cc0_scratch5).access (Rect.unit (s := S32x128) ![0, 0] S32x128.size h)) a w (Finset.mem_univ x)
  rw [hx] at hw
  exact hw

theorem st_write6 (a w : Vec F S1x32 .f32) {h} :
    ((Memref.whole cc0_scratch6).access (Rect.unit (s := S1x32) ![0, 0] S1x32.size h)).write (Elt F) a w Finset.univ = w := by
  funext x
  have hx : ((Memref.whole cc0_scratch6).access (Rect.unit (s := S1x32) ![0, 0] S1x32.size h)).emb x = x := by
    show (Rect.unit (s := S1x32) ![0, 0] S1x32.size h).emb x = x
    rw [Rect.emb_unit_full]
  have hw := View.write_emb_of_mem (v := (Memref.whole cc0_scratch6).access (Rect.unit (s := S1x32) ![0, 0] S1x32.size h)) a w (Finset.mem_univ x)
  rw [hx] at hw
  exact hw

theorem st_write7 (a w : Vec F S1x32 .f32) {h} :
    ((Memref.whole cc0_scratch7).access (Rect.unit (s := S1x32) ![0, 0] S1x32.size h)).write (Elt F) a w Finset.univ = w := by
  funext x
  have hx : ((Memref.whole cc0_scratch7).access (Rect.unit (s := S1x32) ![0, 0] S1x32.size h)).emb x = x := by
    show (Rect.unit (s := S1x32) ![0, 0] S1x32.size h).emb x = x
    rw [Rect.emb_unit_full]
  have hw := View.write_emb_of_mem (v := (Memref.whole cc0_scratch7).access (Rect.unit (s := S1x32) ![0, 0] S1x32.size h)) a w (Finset.mem_univ x)
  rw [hx] at hw
  exact hw

theorem st_write13 (a w : Vec F S32x4096 .bf16) {h} :
    ((Memref.whole cc0_scratch13).access (Rect.unit (s := S32x4096) ![0, 0] S32x4096.size h)).write (Elt F) a w Finset.univ = w := by
  funext x
  have hx : ((Memref.whole cc0_scratch13).access (Rect.unit (s := S32x4096) ![0, 0] S32x4096.size h)).emb x = x := by
    show (Rect.unit (s := S32x4096) ![0, 0] S32x4096.size h).emb x = x
    rw [Rect.emb_unit_full]
  have hw := View.write_emb_of_mem (v := (Memref.whole cc0_scratch13).access (Rect.unit (s := S32x4096) ![0, 0] S32x4096.size h)) a w (Finset.mem_univ x)
  rw [hx] at hw
  exact hw

abbrev NIX : ℕ := (Memref.whole cc0_scratch0).view.dmaCredit
theorem NIX_pos : 0 < NIX := by decide
/-- The copy of `main_v0` in. -/
def InX (c : Dev nD) (v : Vec F S32x4096 .bf16) : sProp 𝕄 := Transfers.Flight EC (c : Thread nD τ) (.dma (semIn 0)) () NIX iprop((((c : Thread nD τ).loc cc0_scratch0) ↦{fullShare} v) ∗ (((c : Thread nD τ).loc main_v0) ↦{fullShare} v))

abbrev NIU : ℕ := (Memref.whole cc0_scratch1).view.dmaCredit
theorem NIU_pos : 0 < NIU := by decide
/-- The copy of `main_v1` in. -/
def InU (c : Dev nD) (v : Vec F S1x14336 .f32) : sProp 𝕄 := Transfers.Flight EC (c : Thread nD τ) (.dma (semIn 1)) () NIU iprop((((c : Thread nD τ).loc cc0_scratch1) ↦{fullShare} v) ∗ (((c : Thread nD τ).loc main_v1) ↦{fullShare} v))

abbrev NIB : ℕ := (Memref.whole cc0_scratch2).view.dmaCredit
theorem NIB_pos : 0 < NIB := by decide
/-- The copy of `main_v2` in. -/
def InB (c : Dev nD) (v : Vec F S1x14336 .f32) : sProp 𝕄 := Transfers.Flight EC (c : Thread nD τ) (.dma (semIn 2)) () NIB iprop((((c : Thread nD τ).loc cc0_scratch2) ↦{fullShare} v) ∗ (((c : Thread nD τ).loc main_v2) ↦{fullShare} v))

abbrev NIW : ℕ := (Memref.whole cc0_scratch3).view.dmaCredit
theorem NIW_pos : 0 < NIW := by decide
/-- The copy of `main_v3` in. -/
def InW (c : Dev nD) (v : Vec F S1x4096 .f32) : sProp 𝕄 := Transfers.Flight EC (c : Thread nD τ) (.dma (semIn 3)) () NIW iprop((((c : Thread nD τ).loc cc0_scratch3) ↦{fullShare} v) ∗ (((c : Thread nD τ).loc main_v3) ↦{fullShare} v))

abbrev NOY : ℕ := (Memref.whole main_v4_0).view.dmaCredit
theorem NOY_pos : 0 < NOY := by decide
/-- The copy of `main_v4_0` out. -/
def OutY (c : Dev nD) (q : PosShare TreeShare) (v : Vec F S32x4096 .bf16) : sProp 𝕄 := Transfers.Flight EC (c : Thread nD τ) (.dma (semOut 4)) () NOY iprop((((c : Thread nD τ).loc main_v4_0) ↦{fullShare} v) ∗ (((c : Thread nD τ).loc cc0_scratch13) ↦{q} v))

abbrev NOC : ℕ := (Memref.whole main_v4_1).view.dmaCredit
theorem NOC_pos : 0 < NOC := by decide
/-- The copy of `main_v4_1` out. -/
def OutC (c : Dev nD) (q : PosShare TreeShare) (v : Vec F S32x4096 .fp8e4m3) : sProp 𝕄 := Transfers.Flight EC (c : Thread nD τ) (.dma (semOut 0)) () NOC iprop((((c : Thread nD τ).loc main_v4_1) ↦{fullShare} v) ∗ (((c : Thread nD τ).loc cc0_scratch4) ↦{q} v))

abbrev NOS : ℕ := (Memref.whole main_v4_2).view.dmaCredit
theorem NOS_pos : 0 < NOS := by decide
/-- The copy of `main_v4_2` out. -/
def OutS (c : Dev nD) (q : PosShare TreeShare) (v : Vec F S1x32 .f32) : sProp 𝕄 := Transfers.Flight EC (c : Thread nD τ) (.dma (semOut 1)) () NOS iprop((((c : Thread nD τ).loc main_v4_2) ↦{fullShare} v) ∗ (((c : Thread nD τ).loc cc0_scratch6) ↦{q} v))

abbrev NOT : ℕ := (Memref.whole main_v4_4).view.dmaCredit
theorem NOT_pos : 0 < NOT := by decide
/-- The copy of `main_v4_4` out. -/
def OutT (c : Dev nD) (q : PosShare TreeShare) (v : Vec F S1x32 .f32) : sProp 𝕄 := Transfers.Flight EC (c : Thread nD τ) (.dma (semOut 3)) () NOT iprop((((c : Thread nD τ).loc main_v4_4) ↦{fullShare} v) ∗ (((c : Thread nD τ).loc cc0_scratch7) ↦{q} v))

/-- What the copy of column block `k` needs. -/
def RingReady (c : Dev nD) (f1 : Vec F S4096x14336 .fp8e4m3) (k : ℕ) : sProp 𝕄 := iprop(ColB c f1 k ∗ RingF c k ∗ semVal (c, .dma (semUn k)) 0)

theorem wp_ringGo (c : Dev nD) (f1 : Vec F S4096x14336 .fp8e4m3) (k : ℕ) (hk : k < 28)
    {osem : Fin 1 → ℕ} {osrc : Fin 2 → ℕ} {odst : Fin 3 → ℕ} {hsem hsrc hdst h1 h2 h3} (e1 : osem = ![k % 8]) (e2 : osrc = ![0, 512 * k]) (e3 : odst = ![k % 8, 0, 0])
    {α : Type} {K : PUnit → Prog (TpuEff nD τ sig (Elt F) Λ₀ .tc) α} {Q : α → sProp 𝕄} :
    RingReady c f1 k
      ⊢ iprop((RingC c f1 k -∗ WP c (K ⟨⟩) Q)
        -∗ WP c (.op (.enqueueDma (mCol osrc hsrc) (.here (mRing odst hdst)) (.dma (semU osem hsem)) h1 h2 h3) K) Q) := by
  unfold RingReady RingF
  exact wp_ringStart c f1 k hk e1 e2 e3

/-- The copies in and the first three column blocks' copies are started. -/
theorem p7 (c : Dev nD) (x : Vec F S32x4096 .bf16) (us bu : Vec F S1x14336 .f32) (ws : Vec F S1x4096 .f32) (f1 : Vec F S4096x14336 .fp8e4m3) (a0 : Vec F S32x4096 .bf16) (a1 a2 : Vec F S1x14336 .f32) (a3 : Vec F S1x4096 .f32) {Q : PUnit → sProp 𝕄} :
    iprop(iprop((((c : Thread nD τ).loc main_v0) ↦{fullShare} x) ∗ (((c : Thread nD τ).loc cc0_scratch0) ↦{fullShare} a0) ∗ semVal (c, .dma (semIn 0)) 0) ∗ iprop((((c : Thread nD τ).loc main_v1) ↦{fullShare} us) ∗ (((c : Thread nD τ).loc cc0_scratch1) ↦{fullShare} a1) ∗ semVal (c, .dma (semIn 1)) 0) ∗ iprop((((c : Thread nD τ).loc main_v2) ↦{fullShare} bu) ∗ (((c : Thread nD τ).loc cc0_scratch2) ↦{fullShare} a2) ∗ semVal (c, .dma (semIn 2)) 0) ∗ iprop((((c : Thread nD τ).loc main_v3) ↦{fullShare} ws) ∗ (((c : Thread nD τ).loc cc0_scratch3) ↦{fullShare} a3) ∗ semVal (c, .dma (semIn 3)) 0) ∗ RingReady c f1 0 ∗ RingReady c f1 1 ∗ RingReady c f1 2 : sProp 𝕄)
      ⊢ iprop((iprop(InX c x ∗ InU c us ∗ InB c bu ∗ InW c ws ∗ RingC c f1 0 ∗ RingC c f1 1 ∗ RingC c f1 2) -∗ Q ⟨⟩) -∗ WP c (k0_part7 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3) Q) := by
  rw [k0_part7_eq_skeleton]
  unfold k0_part7_skel
  iintro ⟨HX, HU, HB, HW, HR0, HR1, HR2⟩ Hk
  iapply (wp_cp c (src := Memref.whole main_v0) (dst := Memref.whole cc0_scratch0) (sm' := semIn 0) (semIn_all 0 _) (fs := x) (fd := a0) (w := x) (N := NIX) rfl NIX_pos (View.set_whole _) (View.set_whole _) (whole_val (F := F) (b := cc0_scratch0) a0 x)) $$ [HX]
  · icases HX with ⟨H1, H2, H3⟩
    isplitl [H1]; · iexact H1
    isplitl [H2]; · iexact H2
    iexact H3
  iintro HX
  iapply (wp_cp c (src := Memref.whole main_v1) (dst := Memref.whole cc0_scratch1) (sm' := semIn 1) (semIn_all 1 _) (fs := us) (fd := a1) (w := us) (N := NIU) rfl NIU_pos (View.set_whole _) (View.set_whole _) (whole_val (F := F) (b := cc0_scratch1) a1 us)) $$ [HU]
  · icases HU with ⟨H1, H2, H3⟩
    isplitl [H1]; · iexact H1
    isplitl [H2]; · iexact H2
    iexact H3
  iintro HU
  iapply (wp_cp c (src := Memref.whole main_v2) (dst := Memref.whole cc0_scratch2) (sm' := semIn 2) (semIn_all 2 _) (fs := bu) (fd := a2) (w := bu) (N := NIB) rfl NIB_pos (View.set_whole _) (View.set_whole _) (whole_val (F := F) (b := cc0_scratch2) a2 bu)) $$ [HB]
  · icases HB with ⟨H1, H2, H3⟩
    isplitl [H1]; · iexact H1
    isplitl [H2]; · iexact H2
    iexact H3
  iintro HB
  iapply (wp_cp c (src := Memref.whole main_v3) (dst := Memref.whole cc0_scratch3) (sm' := semIn 3) (semIn_all 3 _) (fs := ws) (fd := a3) (w := ws) (N := NIW) rfl NIW_pos (View.set_whole _) (View.set_whole _) (whole_val (F := F) (b := cc0_scratch3) a3 ws)) $$ [HW]
  · icases HW with ⟨H1, H2, H3⟩
    isplitl [H1]; · iexact H1
    isplitl [H2]; · iexact H2
    iexact H3
  iintro HW
  iapply (wp_ringGo c f1 0 (by decide) (by decide +kernel) rfl (by decide +kernel)) $$ HR0
  iintro HR0
  iapply (wp_ringGo c f1 1 (by decide) (by decide +kernel) rfl (by decide +kernel)) $$ HR1
  iintro HR1
  iapply (wp_ringGo c f1 2 (by decide) (by decide +kernel) rfl (by decide +kernel)) $$ HR2
  iintro HR2
  iapply (hRet c)
  iapply Hk
  unfold InX InU InB InW
  isplitl [HX]; · iexact HX
  isplitl [HU]; · iexact HU
  isplitl [HB]; · iexact HB
  isplitl [HW]; · iexact HW
  isplitl [HR0]; · iexact HR0
  isplitl [HR1]; · iexact HR1
  iexact HR2

/-- Five more column blocks' copies are started. -/
theorem p8 (c : Dev nD) (f1 : Vec F S4096x14336 .fp8e4m3) {Q : PUnit → sProp 𝕄} :
    iprop(RingReady c f1 3 ∗ RingReady c f1 4 ∗ RingReady c f1 5 ∗ RingReady c f1 6 ∗ RingReady c f1 7 : sProp 𝕄)
      ⊢ iprop((iprop(RingC c f1 3 ∗ RingC c f1 4 ∗ RingC c f1 5 ∗ RingC c f1 6 ∗ RingC c f1 7) -∗ Q ⟨⟩) -∗ WP c (k0_part8 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3) Q) := by
  rw [k0_part8_eq_skeleton]
  unfold k0_part8_skel
  iintro ⟨HR3, HR4, HR5, HR6, HR7⟩ Hk
  iapply (wp_ringGo c f1 3 (by decide) (by decide +kernel) rfl (by decide +kernel)) $$ HR3
  iintro HR3
  iapply (wp_ringGo c f1 4 (by decide) (by decide +kernel) rfl (by decide +kernel)) $$ HR4
  iintro HR4
  iapply (wp_ringGo c f1 5 (by decide) (by decide +kernel) rfl (by decide +kernel)) $$ HR5
  iintro HR5
  iapply (wp_ringGo c f1 6 (by decide) (by decide +kernel) rfl (by decide +kernel)) $$ HR6
  iintro HR6
  iapply (wp_ringGo c f1 7 (by decide) (by decide +kernel) rfl (by decide +kernel)) $$ HR7
  iintro HR7
  iapply (hRet c)
  iapply Hk
  isplitl [HR3]; · iexact HR3
  isplitl [HR4]; · iexact HR4
  isplitl [HR5]; · iexact HR5
  isplitl [HR6]; · iexact HR6
  iexact HR7

/-- The operand `x` is there and is read. -/
theorem p9 (c : Dev nD) (x : Vec F S32x4096 .bf16) {Q : _ → sProp 𝕄} :
    iprop(InX c x ∗ Owes c : sProp 𝕄)
      ⊢ iprop((iprop((((c : Thread nD τ).loc cc0_scratch0) ↦{fullShare} x) ∗ (((c : Thread nD τ).loc main_v0) ↦{fullShare} x) ∗ semVal (c, .dma (semIn 0)) 0 ∗ Owes c) -∗ Q ⟨k0_pay13 x, k0_pay15 x, k0_pay16 x, 23#32⟩) -∗ WP c (k0_part9 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3) Q) := by
  rw [k0_part9_eq_skeleton]
  unfold k0_part9_skel
  iintro ⟨HX, HO⟩ Hk
  unfold InX
  iapply (wp_cpWait c (src := Memref.whole main_v0) (dst := Memref.whole cc0_scratch0) (sm' := semIn 0) (semIn_all 0 _) (N := NIX) rfl) $$ [HX HO]
  · isplitl [HX]; · iexact HX
    iexact HO
  iintro ⟨⟨H1, H2⟩, HV, HO⟩
  iapply (wp_ld c (m := Memref.whole cc0_scratch0) (r := Rect.unit (s := S32x4096) ![0, 0] S32x4096.size inb_S32x4096_S32x4096_0_0) (f := x) x (fun z => congrArg x (Rect.emb_unit_full _ z)) sub_univ) $$ H1
  iintro H1
  iapply (hRet c)
  iapply Hk
  isplitl [H1]; · iexact H1
  isplitl [H2]; · iexact H2
  isplitl [HV]; · iexact HV
  iexact HO

/-- One half of a share. -/
abbrev qL : PosShare TreeShare := fullShare.left
/-- The other half. -/
abbrev qR : PosShare TreeShare := fullShare.right

/-- The codes and the scales of `x` are stored and their copies out started; two more operands are there. -/
theorem p10 (c : Dev nD) (us bu : Vec F S1x14336 .f32) (v63 : FVec F S32x4096 .f32) (v98 : FVec F S32x1 .f32) (v100 : IVec S32x1 32) (w : BitVec 32)
    (a4 : Vec F S32x4096 .fp8e4m3) (a5 : Vec F S32x128 .f32) (a6 : Vec F S1x32 .f32) (o1 : Vec F S32x4096 .fp8e4m3) (o2 : Vec F S1x32 .f32) {Q : PUnit → sProp 𝕄} :
    iprop((((c : Thread nD τ).loc cc0_scratch4) ↦{fullShare} a4) ∗ (((c : Thread nD τ).loc cc0_scratch5) ↦{fullShare} a5) ∗ (((c : Thread nD τ).loc cc0_scratch6) ↦{fullShare} a6) ∗ (((c : Thread nD τ).loc main_v4_1) ↦{fullShare} o1) ∗ (((c : Thread nD τ).loc main_v4_2) ↦{fullShare} o2)
        ∗ semVal (c, .dma (semOut 0)) 0 ∗ semVal (c, .dma (semOut 1)) 0 ∗ InU c us ∗ InB c bu ∗ Owes c : sProp 𝕄)
      ⊢ iprop((iprop((((c : Thread nD τ).loc cc0_scratch4) ↦{qL} (k0_pay17 v63 v100 w)) ∗ (((c : Thread nD τ).loc cc0_scratch5) ↦{fullShare} (k0_pay18 v98)) ∗ OutC c qR (k0_pay17 v63 v100 w) ∗ OutS c fullShare (k0_pay19 v98)
          ∗ (((c : Thread nD τ).loc cc0_scratch1) ↦{fullShare} us) ∗ (((c : Thread nD τ).loc main_v1) ↦{fullShare} us) ∗ (((c : Thread nD τ).loc cc0_scratch2) ↦{fullShare} bu) ∗ (((c : Thread nD τ).loc main_v2) ↦{fullShare} bu) ∗ semVal (c, .dma (semIn 1)) 0 ∗ semVal (c, .dma (semIn 2)) 0 ∗ Owes c) -∗ Q ⟨⟩)
        -∗ WP c (k0_part10 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 v63 v98 v100 w) Q) := by
  rw [k0_part10_eq_skeleton]
  unfold k0_part10_skel
  iintro ⟨H4, H5, H6, Ho1, Ho2, HV0, HV1, HU, HB, HO⟩ Hk
  iapply (wp_ld c (m := Memref.whole cc0_scratch4) (r := Rect.unit (s := S32x4096) ![0, 0] S32x4096.size inb_S32x4096_S32x4096_0_0) (f := a4) a4 (fun z => congrArg a4 (Rect.emb_unit_full _ z)) sub_univ) $$ H4
  iintro H4
  iapply (wp_stW c (m := Memref.whole cc0_scratch4) (r := Rect.unit (s := S32x4096) ![0, 0] S32x4096.size inb_S32x4096_S32x4096_0_0) (f := a4) (w' := (k0_pay17 v63 v100 w)) (st_write4 a4 (k0_pay17 v63 v100 w)) sub_univ) $$ H4
  iintro H4
  iapply (wp_ld c (m := Memref.whole cc0_scratch5) (r := Rect.unit (s := S32x128) ![0, 0] S32x128.size inb_S32x128_S32x128_0_0) (f := a5) a5 (fun z => congrArg a5 (Rect.emb_unit_full _ z)) sub_univ) $$ H5
  iintro H5
  iapply (wp_stW c (m := Memref.whole cc0_scratch5) (r := Rect.unit (s := S32x128) ![0, 0] S32x128.size inb_S32x128_S32x128_0_0) (f := a5) (w' := (k0_pay18 v98)) (st_write5 a5 (k0_pay18 v98)) sub_univ) $$ H5
  iintro H5
  iapply (wp_ld c (m := Memref.whole cc0_scratch6) (r := Rect.unit (s := S1x32) ![0, 0] S1x32.size inb_S1x32_S1x32_0_0) (f := a6) a6 (fun z => congrArg a6 (Rect.emb_unit_full _ z)) sub_univ) $$ H6
  iintro H6
  iapply (wp_stW c (m := Memref.whole cc0_scratch6) (r := Rect.unit (s := S1x32) ![0, 0] S1x32.size inb_S1x32_S1x32_0_0) (f := a6) (w' := (k0_pay19 v98)) (st_write6 a6 (k0_pay19 v98)) sub_univ) $$ H6
  iintro H6
  ihave H4 := (pointsTo_share (PosShare.mem_left_op_right fullShare)).1 $$ H4
  icases H4 with ⟨H4, H4'⟩
  iapply (wp_cp c (src := Memref.whole cc0_scratch4) (dst := Memref.whole main_v4_1) (sm' := semOut 0) (semOut_all 0 _) (fs := (k0_pay17 v63 v100 w)) (fd := o1) (w := (k0_pay17 v63 v100 w)) (q := qR) (N := NOC) rfl NOC_pos (View.set_whole _) (View.set_whole _) (whole_val (F := F) (b := main_v4_1) o1 (k0_pay17 v63 v100 w))) $$ [H4' Ho1 HV0]
  · isplitl [H4']; · iexact H4'
    isplitl [Ho1]; · iexact Ho1
    iexact HV0
  iintro Ho1
  iapply (wp_cp c (src := Memref.whole cc0_scratch6) (dst := Memref.whole main_v4_2) (sm' := semOut 1) (semOut_all 1 _) (fs := (k0_pay19 v98)) (fd := o2) (w := (k0_pay19 v98)) (q := fullShare) (N := NOS) rfl NOS_pos (View.set_whole _) (View.set_whole _) (whole_val (F := F) (b := main_v4_2) o2 (k0_pay19 v98))) $$ [H6 Ho2 HV1]
  · isplitl [H6]; · iexact H6
    isplitl [Ho2]; · iexact Ho2
    iexact HV1
  iintro Ho2
  unfold InU
  iapply (wp_cpWait c (src := Memref.whole main_v1) (dst := Memref.whole cc0_scratch1) (sm' := semIn 1) (semIn_all 1 _) (N := NIU) rfl) $$ [HU HO]
  · isplitl [HU]; · iexact HU
    iexact HO
  iintro ⟨⟨HU1, HU2⟩, HVU, HO⟩
  unfold InB
  iapply (wp_cpWait c (src := Memref.whole main_v2) (dst := Memref.whole cc0_scratch2) (sm' := semIn 2) (semIn_all 2 _) (N := NIB) rfl) $$ [HB HO]
  · isplitl [HB]; · iexact HB
    iexact HO
  iintro ⟨⟨HB1, HB2⟩, HVB, HO⟩
  iapply (hRet c)
  iapply Hk
  unfold OutC OutS
  isplitl [H4]; · iexact H4
  isplitl [H5]; · iexact H5
  isplitl [Ho1]; · iexact Ho1
  isplitl [Ho2]; · iexact Ho2
  isplitl [HU1]; · iexact HU1
  isplitl [HU2]; · iexact HU2
  isplitl [HB1]; · iexact HB1
  isplitl [HB2]; · iexact HB2
  isplitl [HVU]; · iexact HVU
  isplitl [HVB]; · iexact HVB
  iexact HO

end Cert.Kernel.Hand

end
-- ==== Proof.K.PadDefs.lean ====
/- What follows the first loop: the list padded to whole groups, the slots behind its end zeroed. -/
module

public import proofs.«01_k».proof.Proof.K.BodyA
public import proofs.«01_k».proof.Proof.K.Words2

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Padding the list: position 0 after its end. -/
def padL0 {α : Type} (n : BitVec 32) (hw : k0_chk9 n) (cont : PUnit.{1} → Prog (TpuEff nD τ sig (Elt F) Λ₀ .tc) α) : Prog (TpuEff nD τ sig (Elt F) Λ₀ .tc) α :=
  if k0_h : k0_cond10 n = 1#1 then do
    let v300_r0 : Elt F .i32 ← smemLoad mLive (Rect.unit (s := S116) (k0_off32 n) S1.size (k0_off32_inb n hw k0_h)) numel1_S1 rfl
    Prog.lift (.store mLive (Rect.unit (s := S116) (k0_off32 n) S1.size (k0_off32_inb n hw k0_h)) (fun _ => 112#32) Finset.univ (View.stores_smem_one rfl numel1_S1) (.inl rfl))
    cont ⟨⟩
  else cont ⟨⟩

/-- Zeroing the slot of position 0 after the list's end. -/
def padZ0 {α : Type} (n : BitVec 32) (hw : k0_chk9 n) (cont : PUnit.{1} → Prog (TpuEff nD τ sig (Elt F) Λ₀ .tc) α) : Prog (TpuEff nD τ sig (Elt F) Λ₀ .tc) α :=
  if k0_h : k0_cond11 n = 1#1 then do
    let v303_r0 : Vec F S128x4096 .fp8e4m3 ← Prog.lift (.load (Memref.whole cc0_scratch9) (Rect.unit (s := S7168x4096) (k0_off33 n) S128x4096.size (k0_off33_inb n hw k0_h)).toLoadRect (View.loadsAt_vmem h_S128x4096))
    Prog.lift (.store (Memref.whole cc0_scratch9) (Rect.unit (s := S7168x4096) (k0_off33 n) S128x4096.size (k0_off33_inb n hw k0_h)) (k0_pay24 (F := F)) Finset.univ (View.stores_vmem h_S128x4096 ((Memref.isWhole_whole _).storeExact_slice rfl _ (k0_off33_packedfp8e4m3 n hw k0_h)) (fun _ => rfl)) (.inl rfl))
    cont ⟨⟩
  else cont ⟨⟩

/-- Padding the list: position 1 after its end. -/
def padL1 {α : Type} (n : BitVec 32) (hw : k0_chk9 n) (cont : PUnit.{1} → Prog (TpuEff nD τ sig (Elt F) Λ₀ .tc) α) : Prog (TpuEff nD τ sig (Elt F) Λ₀ .tc) α :=
  if k0_h : k0_cond12 n = 1#1 then do
    let v300_r0 : Elt F .i32 ← smemLoad mLive (Rect.unit (s := S116) (k0_off34 n) S1.size (k0_off34_inb n hw k0_h)) numel1_S1 rfl
    Prog.lift (.store mLive (Rect.unit (s := S116) (k0_off34 n) S1.size (k0_off34_inb n hw k0_h)) (fun _ => 112#32) Finset.univ (View.stores_smem_one rfl numel1_S1) (.inl rfl))
    cont ⟨⟩
  else cont ⟨⟩

/-- Zeroing the slot of position 1 after the list's end. -/
def padZ1 {α : Type} (n : BitVec 32) (hw : k0_chk9 n) (cont : PUnit.{1} → Prog (TpuEff nD τ sig (Elt F) Λ₀ .tc) α) : Prog (TpuEff nD τ sig (Elt F) Λ₀ .tc) α :=
  if k0_h : k0_cond13 n = 1#1 then do
    let v303_r0 : Vec F S128x4096 .fp8e4m3 ← Prog.lift (.load (Memref.whole cc0_scratch9) (Rect.unit (s := S7168x4096) (k0_off35 n) S128x4096.size (k0_off35_inb n hw k0_h)).toLoadRect (View.loadsAt_vmem h_S128x4096))
    Prog.lift (.store (Memref.whole cc0_scratch9) (Rect.unit (s := S7168x4096) (k0_off35 n) S128x4096.size (k0_off35_inb n hw k0_h)) (k0_pay25 (F := F)) Finset.univ (View.stores_vmem h_S128x4096 ((Memref.isWhole_whole _).storeExact_slice rfl _ (k0_off35_packedfp8e4m3 n hw k0_h)) (fun _ => rfl)) (.inl rfl))
    cont ⟨⟩
  else cont ⟨⟩

/-- Padding the list: position 2 after its end. -/
def padL2 {α : Type} (n : BitVec 32) (hw : k0_chk9 n) (cont : PUnit.{1} → Prog (TpuEff nD τ sig (Elt F) Λ₀ .tc) α) : Prog (TpuEff nD τ sig (Elt F) Λ₀ .tc) α :=
  if k0_h : k0_cond14 n = 1#1 then do
    let v300_r0 : Elt F .i32 ← smemLoad mLive (Rect.unit (s := S116) (k0_off36 n) S1.size (k0_off36_inb n hw k0_h)) numel1_S1 rfl
    Prog.lift (.store mLive (Rect.unit (s := S116) (k0_off36 n) S1.size (k0_off36_inb n hw k0_h)) (fun _ => 112#32) Finset.univ (View.stores_smem_one rfl numel1_S1) (.inl rfl))
    cont ⟨⟩
  else cont ⟨⟩

/-- Zeroing the slot of position 2 after the list's end. -/
def padZ2 {α : Type} (n : BitVec 32) (hw : k0_chk9 n) (cont : PUnit.{1} → Prog (TpuEff nD τ sig (Elt F) Λ₀ .tc) α) : Prog (TpuEff nD τ sig (Elt F) Λ₀ .tc) α :=
  if k0_h : k0_cond15 n = 1#1 then do
    let v303_r0 : Vec F S128x4096 .fp8e4m3 ← Prog.lift (.load (Memref.whole cc0_scratch9) (Rect.unit (s := S7168x4096) (k0_off37 n) S128x4096.size (k0_off37_inb n hw k0_h)).toLoadRect (View.loadsAt_vmem h_S128x4096))
    Prog.lift (.store (Memref.whole cc0_scratch9) (Rect.unit (s := S7168x4096) (k0_off37 n) S128x4096.size (k0_off37_inb n hw k0_h)) (k0_pay26 (F := F)) Finset.univ (View.stores_vmem h_S128x4096 ((Memref.isWhole_whole _).storeExact_slice rfl _ (k0_off37_packedfp8e4m3 n hw k0_h)) (fun _ => rfl)) (.inl rfl))
    cont ⟨⟩
  else cont ⟨⟩

/-- The number of groups, as the kernel computes it. -/
def ngE (v143_0_r0 : BitVec 32) : BitVec 32 :=
  let v144_r0 : BitVec 32 := Scalar.addi v143_0_r0 4#32
  let v145_r0 : BitVec 32 := Scalar.subi v144_r0 1#32
  let v146_r0 : BitVec 32 := Scalar.divsi v145_r0 4#32
  let v147_r0 : BitVec 1 := Scalar.cmpi .sgt v145_r0 0#32
  let v148_r0 : BitVec 32 := Scalar.extui v147_r0
  let v149_r0 : BitVec 1 := Scalar.cmpi .slt v145_r0 0#32
  let v150_r0 : BitVec 32 := Scalar.extui v149_r0
  let v151_r0 : BitVec 32 := Scalar.subi v148_r0 v150_r0
  let v152_r0 : BitVec 1 := Scalar.cmpi .sgt 4#32 0#32
  let v153_r0 : BitVec 32 := Scalar.extui v152_r0
  let v154_r0 : BitVec 1 := Scalar.cmpi .slt 4#32 0#32
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 4#32
  let v159_r0 : BitVec 1 := Scalar.cmpi .ne v158_r0 0#32
  let v160_r0 : BitVec 1 := Scalar.andi v157_r0 v159_r0
  let v161_r0 : BitVec 32 := Scalar.subi v146_r0 1#32
  let v162_r0 : BitVec 32 := Scalar.select v160_r0 v161_r0 v146_r0
  v162_r0

/-- What follows the first loop. -/
def p11Tail (n : BitVec 32) (rm : FVec F S32x128 .f32) (hw : k0_chk9 n) : Prog (TpuEff nD τ sig (Elt F) Λ₀ .tc) (Σ' (v143_0_r0 : BitVec 32) (v143_1_r0 : FVec F S32x128 .f32) (k0_hw9 : k0_chk9 v143_0_r0), BitVec 32) :=
  padL0 n hw fun _ => padZ0 n hw fun _ => Prog.ret ⟨n, rm, hw, ngE n⟩

theorem part11_eq : k0_part11_skel (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3
    = Prog.op (.waitDma2 ((cc0_scoped0.slice (Rect.unit (s := S4) ![3] S1.size inb_S4_S1_3)).squeeze S_ squeezes_S1_S_).sem (Memref.whole main_v3) (Memref.whole cc0_scratch3) (Memref.isWhole_whole main_v3).wordExact (Memref.isWhole_whole cc0_scratch3).wordExact) fun _ =>
      (Scf.Loop.for k0_t1_loop k0_t1_ok (0#32, k0_pay20 (F := F)) upBody).bind fun a =>
      Prog.op (TpuEff.assume (k0_chk9 a.1) (k0_chk9.dec a.1)) fun h => p11Tail a.1 a.2 h.down := rfl

theorem part12_eq (n : BitVec 32) (rm : FVec F S32x128 .f32) (hw : k0_chk9 n) (g : BitVec 32) : k0_part12_skel (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 n rm hw g
    = padL1 n hw fun _ => padZ1 n hw fun _ => padL2 n hw fun _ => padZ2 n hw fun _ => Prog.ret ⟨k0_pay27 rm, k0_pay28 rm⟩ := rfl

end Cert.Kernel.Hand

end
-- ==== Proof.K.Pad.lean ====
/- The list is padded and the slots behind its end are zeroed. -/
module

public import proofs.«01_k».proof.Proof.K.PadDefs

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The list, right at its live positions and at the first `m` after them. -/
def LivePd (c : Dev nD) (b : ℕ → BitVec 1) (m : ℕ) : sProp 𝕄 :=
  iprop(∃ L, ((c : Thread nD τ).loc cc0_scratch14 ↦{fullShare} L) ∗ ⌜∀ x, (x 0).val < min (NL b + m) (4 * ((NL b + 3) / 4)) → L x = W (ls b (x 0).val)⌝)

/-- Padding the list at one position. -/
theorem wp_padL (c : Dev nD) (b : ℕ → BitVec 1) (m : ℕ) (hm : m < 3) {C : Prop} [Decidable C] (hC : C ↔ NL b + m < 4 * ((NL b + 3) / 4)) {off : Fin 1 → ℕ} {h : C → ∀ a, off a + S1.size a ≤ S116.size a} (e : off = ![NL b + m])
    {α : Type} {cont : PUnit.{1} → Prog (TpuEff nD τ sig (Elt F) Λ₀ .tc) α} {Q : α → sProp 𝕄} :
    LivePd c b m
      ⊢ iprop((LivePd c b (m + 1) -∗ WP c (cont ⟨⟩) Q)
        -∗ WP c (if hc : C then (smemLoad mLive (Rect.unit (s := S116) off S1.size (h hc)) numel1_S1 rfl).bind fun _ =>
            Prog.op (.store mLive (Rect.unit (s := S116) off S1.size (h hc)) (fun _ => 112#32) Finset.univ (View.stores_smem_one rfl numel1_S1) (.inl rfl)) cont
          else cont ⟨⟩) Q) := by
  subst e
  have hle := NL_le b
  have hn : NL b + m < 116 := by omega
  unfold LivePd
  split
  · rename_i hc
    have hb := hC.mp hc
    iintro ⟨%L, HL, %hL⟩ Hk
    rw [smemLoad_bind]
    iapply (wp_liveRead c hn rfl) $$ HL
    iintro HL
    ihave HL := (show ((c : Thread nD τ).loc cc0_scratch14 ↦{fullShare} L : sProp 𝕄) ⊢ ((mLive.access (Rect.unit (s := S116) ![NL b + m] S1.size (h hc))).loc (c : Thread nD τ) ↦{fullShare} L) from .rfl) $$ HL
    iapply (wp_store (defs := defs₀ (F := F)) Variants.none (c : Thread nD τ) none Set.univ (m := mLive) (S := Finset.univ) (Finset.subset_univ _)) $$ HL
    iintro HL
    iapply Hk
    iexists _
    isplitl [HL]; · iexact HL
    ipureintro
    intro x hx
    by_cases hxe : (x 0).val = NL b + m
    · have hx' : x = (mLive.access (Rect.unit (s := S116) ![NL b + m] S1.size (h hc))).emb (Shape.Idx.first (numel1_S1.symm ▸ Nat.one_pos)) := by
        rw [live_emb hn]; refine funext fun (a : Fin 1) => ?_; obtain rfl : a = 0 := Subsingleton.elim _ _; exact Fin.ext hxe
      have hls : ls b (NL b + m) = 112 := if_neg (by omega)
      rw [hxe, hls, hx', View.write_emb_of_mem _ _ (Finset.mem_univ _)]
      rfl
    · rw [View.write_of_not_mem _ _ _ ?_]
      · exact hL x (by omega)
      · intro hm
        obtain ⟨y, -, hy⟩ := Finset.mem_map.mp hm
        apply hxe
        rw [← hy, live_emb hn]; rfl
  · rename_i hc
    have hb : ¬ _ := fun h => hc (hC.mpr h)
    iintro ⟨%L, HL, %hL⟩ Hk
    iapply Hk
    iexists L
    isplitl [HL]; · iexact HL
    ipureintro
    intro x hx
    exact hL x (by omega)

theorem live_pd (c : Dev nD) (b : ℕ → BitVec 1) : Live c b (NL b) ⊢ LivePd (F := F) c b 0 := by
  unfold Live LivePd
  iintro ⟨%L, HL, %hL⟩
  iexists L
  isplitl [HL]; · iexact HL
  ipureintro
  intro x hx
  have h : (x 0).val < NL b := by omega
  rw [ls_of_lt h]
  exact hL x h

theorem pd_liveP (c : Dev nD) (b : ℕ → BitVec 1) : LivePd (F := F) c b 3 ⊢ LiveP c b := by
  unfold LivePd LiveP
  iintro ⟨%L, HL, %hL⟩
  iexists L
  isplitl [HL]; · iexact HL
  ipureintro
  intro x hx
  exact hL x (by omega)

/-- A part that can be taken out. -/
theorem sep_out {s : Finset ℕ} {i : ℕ} (hi : i ∈ s) (Φ : ℕ → sProp 𝕄) : bigSep s Φ ⊢ iprop(Φ i ∗ (Φ i -∗ bigSep s Φ)) := sep_upd hi fun j _ _ => rfl

theorem wp_padL0 (c : Dev nD) (b : ℕ → BitVec 1) {hw} {α : Type} {cont : PUnit.{1} → Prog (TpuEff nD τ sig (Elt F) Λ₀ .tc) α} {Q : α → sProp 𝕄} :
    LivePd c b 0 ⊢ iprop((LivePd c b (0 + 1) -∗ WP c (cont ⟨⟩) Q) -∗ WP c (padL0 (W (NL b)) hw cont) Q) := by
  have hle := NL_le b
  unfold padL0
  exact wp_padL (F := F) (α := α) (cont := cont) (Q := Q) c b 0 (by decide) (pCondL0_all ⟨NL b, by omega⟩) (pOffL0_all ⟨NL b, by omega⟩)

theorem wp_padZ0 (c : Dev nD) (b : ℕ → BitVec 1) {hw} {α : Type} {cont : PUnit.{1} → Prog (TpuEff nD τ sig (Elt F) Λ₀ .tc) α} {Q : α → sProp 𝕄} :
    FreeS c (NL b) ⊢ iprop((FreeS c (NL b) -∗ WP c (cont ⟨⟩) Q) -∗ WP c (padZ0 (W (NL b)) hw cont) Q) := by
  have hle := NL_le b
  unfold padZ0
  split
  · rename_i hc
    have h56 : NL b + 0 < 56 := (pCondZ0_all ⟨NL b, by omega⟩ hc).1
    have ho := pOffZ0_all ⟨NL b, by omega⟩ h56
    have hset : ((Memref.whole cc0_scratch9).access (Rect.unit (s := S7168x4096) (k0_off33 (W (NL b))) S128x4096.size (k0_off33_inb (W (NL b)) hw hc))).set = slotS ((NL b + 0) % 56) := by
      have key : ∀ (off : Fin 2 → ℕ) (h), off = ![128 * (NL b + 0), 0] → ((Memref.whole cc0_scratch9).access (Rect.unit (s := S7168x4096) off S128x4096.size h)).set = slotS (NL b + 0) := by
        intro off h e
        subst e
        exact mSlot_set (NL b + 0) h
      rw [Nat.mod_eq_of_lt h56]
      exact key _ _ ho
    have hset2 : ((Memref.whole cc0_scratch9).access (Rect.unit (s := S7168x4096) (k0_off33 (W (NL b))) S128x4096.size (k0_off33_inb (W (NL b)) hw hc))).setOn Finset.univ = slotS ((NL b + 0) % 56) := hset
    unfold FreeS
    iintro HF Hk
    ihave HF := (sep_out (F := F) (s := Finset.Ico (NL b) 56) (i := NL b + 0) (Finset.mem_Ico.mpr ⟨by omega, h56⟩) _) $$ HF
    icases HF with ⟨⟨%f, H⟩, HF⟩
    iapply (wp_ld c (m := Memref.whole cc0_scratch9) (r := Rect.unit (s := S7168x4096) (k0_off33 (W (NL b))) S128x4096.size (k0_off33_inb (W (NL b)) hw hc)) (f := f)
      (fun z => f ((Rect.unit (s := S7168x4096) (k0_off33 (W (NL b))) S128x4096.size (k0_off33_inb (W (NL b)) hw hc)).emb z)) (fun z => rfl) (by rw [hset])) $$ H
    iintro H
    iapply (wp_stW c (m := Memref.whole cc0_scratch9) (r := Rect.unit (s := S7168x4096) (k0_off33 (W (NL b))) S128x4096.size (k0_off33_inb (W (NL b)) hw hc)) (f := f) rfl (by rw [hset2])) $$ H
    iintro H
    iapply Hk
    iapply HF
    iexists _
    iexact H
  · iintro HF Hk
    iapply Hk
    iexact HF

theorem wp_padL1 (c : Dev nD) (b : ℕ → BitVec 1) {hw} {α : Type} {cont : PUnit.{1} → Prog (TpuEff nD τ sig (Elt F) Λ₀ .tc) α} {Q : α → sProp 𝕄} :
    LivePd c b 1 ⊢ iprop((LivePd c b (1 + 1) -∗ WP c (cont ⟨⟩) Q) -∗ WP c (padL1 (W (NL b)) hw cont) Q) := by
  have hle := NL_le b
  unfold padL1
  exact wp_padL (F := F) (α := α) (cont := cont) (Q := Q) c b 1 (by decide) (pCondL1_all ⟨NL b, by omega⟩) (pOffL1_all ⟨NL b, by omega⟩)

theorem wp_padZ1 (c : Dev nD) (b : ℕ → BitVec 1) {hw} {α : Type} {cont : PUnit.{1} → Prog (TpuEff nD τ sig (Elt F) Λ₀ .tc) α} {Q : α → sProp 𝕄} :
    FreeS c (NL b) ⊢ iprop((FreeS c (NL b) -∗ WP c (cont ⟨⟩) Q) -∗ WP c (padZ1 (W (NL b)) hw cont) Q) := by
  have hle := NL_le b
  unfold padZ1
  split
  · rename_i hc
    have h56 : NL b + 1 < 56 := (pCondZ1_all ⟨NL b, by omega⟩ hc).1
    have ho := pOffZ1_all ⟨NL b, by omega⟩ h56
    have hset : ((Memref.whole cc0_scratch9).access (Rect.unit (s := S7168x4096) (k0_off35 (W (NL b))) S128x4096.size (k0_off35_inb (W (NL b)) hw hc))).set = slotS ((NL b + 1) % 56) := by
      have key : ∀ (off : Fin 2 → ℕ) (h), off = ![128 * (NL b + 1), 0] → ((Memref.whole cc0_scratch9).access (Rect.unit (s := S7168x4096) off S128x4096.size h)).set = slotS (NL b + 1) := by
        intro off h e
        subst e
        exact mSlot_set (NL b + 1) h
      rw [Nat.mod_eq_of_lt h56]
      exact key _ _ ho
    have hset2 : ((Memref.whole cc0_scratch9).access (Rect.unit (s := S7168x4096) (k0_off35 (W (NL b))) S128x4096.size (k0_off35_inb (W (NL b)) hw hc))).setOn Finset.univ = slotS ((NL b + 1) % 56) := hset
    unfold FreeS
    iintro HF Hk
    ihave HF := (sep_out (F := F) (s := Finset.Ico (NL b) 56) (i := NL b + 1) (Finset.mem_Ico.mpr ⟨by omega, h56⟩) _) $$ HF
    icases HF with ⟨⟨%f, H⟩, HF⟩
    iapply (wp_ld c (m := Memref.whole cc0_scratch9) (r := Rect.unit (s := S7168x4096) (k0_off35 (W (NL b))) S128x4096.size (k0_off35_inb (W (NL b)) hw hc)) (f := f)
      (fun z => f ((Rect.unit (s := S7168x4096) (k0_off35 (W (NL b))) S128x4096.size (k0_off35_inb (W (NL b)) hw hc)).emb z)) (fun z => rfl) (by rw [hset])) $$ H
    iintro H
    iapply (wp_stW c (m := Memref.whole cc0_scratch9) (r := Rect.unit (s := S7168x4096) (k0_off35 (W (NL b))) S128x4096.size (k0_off35_inb (W (NL b)) hw hc)) (f := f) rfl (by rw [hset2])) $$ H
    iintro H
    iapply Hk
    iapply HF
    iexists _
    iexact H
  · iintro HF Hk
    iapply Hk
    iexact HF

theorem wp_padL2 (c : Dev nD) (b : ℕ → BitVec 1) {hw} {α : Type} {cont : PUnit.{1} → Prog (TpuEff nD τ sig (Elt F) Λ₀ .tc) α} {Q : α → sProp 𝕄} :
    LivePd c b 2 ⊢ iprop((LivePd c b (2 + 1) -∗ WP c (cont ⟨⟩) Q) -∗ WP c (padL2 (W (NL b)) hw cont) Q) := by
  have hle := NL_le b
  unfold padL2
  exact wp_padL (F := F) (α := α) (cont := cont) (Q := Q) c b 2 (by decide) (pCondL2_all ⟨NL b, by omega⟩) (pOffL2_all ⟨NL b, by omega⟩)

theorem wp_padZ2 (c : Dev nD) (b : ℕ → BitVec 1) {hw} {α : Type} {cont : PUnit.{1} → Prog (TpuEff nD τ sig (Elt F) Λ₀ .tc) α} {Q : α → sProp 𝕄} :
    FreeS c (NL b) ⊢ iprop((FreeS c (NL b) -∗ WP c (cont ⟨⟩) Q) -∗ WP c (padZ2 (W (NL b)) hw cont) Q) := by
  have hle := NL_le b
  unfold padZ2
  split
  · rename_i hc
    have h56 : NL b + 2 < 56 := (pCondZ2_all ⟨NL b, by omega⟩ hc).1
    have ho := pOffZ2_all ⟨NL b, by omega⟩ h56
    have hset : ((Memref.whole cc0_scratch9).access (Rect.unit (s := S7168x4096) (k0_off37 (W (NL b))) S128x4096.size (k0_off37_inb (W (NL b)) hw hc))).set = slotS ((NL b + 2) % 56) := by
      have key : ∀ (off : Fin 2 → ℕ) (h), off = ![128 * (NL b + 2), 0] → ((Memref.whole cc0_scratch9).access (Rect.unit (s := S7168x4096) off S128x4096.size h)).set = slotS (NL b + 2) := by
        intro off h e
        subst e
        exact mSlot_set (NL b + 2) h
      rw [Nat.mod_eq_of_lt h56]
      exact key _ _ ho
    have hset2 : ((Memref.whole cc0_scratch9).access (Rect.unit (s := S7168x4096) (k0_off37 (W (NL b))) S128x4096.size (k0_off37_inb (W (NL b)) hw hc))).setOn Finset.univ = slotS ((NL b + 2) % 56) := hset
    unfold FreeS
    iintro HF Hk
    ihave HF := (sep_out (F := F) (s := Finset.Ico (NL b) 56) (i := NL b + 2) (Finset.mem_Ico.mpr ⟨by omega, h56⟩) _) $$ HF
    icases HF with ⟨⟨%f, H⟩, HF⟩
    iapply (wp_ld c (m := Memref.whole cc0_scratch9) (r := Rect.unit (s := S7168x4096) (k0_off37 (W (NL b))) S128x4096.size (k0_off37_inb (W (NL b)) hw hc)) (f := f)
      (fun z => f ((Rect.unit (s := S7168x4096) (k0_off37 (W (NL b))) S128x4096.size (k0_off37_inb (W (NL b)) hw hc)).emb z)) (fun z => rfl) (by rw [hset])) $$ H
    iintro H
    iapply (wp_stW c (m := Memref.whole cc0_scratch9) (r := Rect.unit (s := S7168x4096) (k0_off37 (W (NL b))) S128x4096.size (k0_off37_inb (W (NL b)) hw hc)) (f := f) rfl (by rw [hset2])) $$ H
    iintro H
    iapply Hk
    iapply HF
    iexists _
    iexact H
  · iintro HF Hk
    iapply Hk
    iexact HF

end Cert.Kernel.Hand

end
-- ==== Proof.K.Down3.lean ====
/- One trip of the loop over the groups. -/
module

public import proofs.«01_k».proof.Proof.K.Down2

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem trips_lt (b : ℕ → BitVec 1) (t : Fin (k0_t2_loop (W (NL b))).trips) : 4 * t.val < NL b := by
  have h := t.isLt
  have hN := NL_le b
  have e := trips_eq hN
  omega

/-- A group's cell with all its copies awaited. -/
theorem cell_done (c : Dev nD) (f4 : Vec F S14336x4096 .fp8e4m3) (b : ℕ → BitVec 1) (g : ℕ) :
    CellU c f4 b g (min 4 (NL b - 4 * g)) (KD * min 4 (NL b - 4 * g))
      ⊢ (iprop(|={Set.univ}=> (bigSep Finset.univ (fun t : Fin (min 4 (NL b - 4 * g)) => Del c f4 b (4 * g + t.val)) ∗ semVal (c, .dma (semDn g)) 0)) : sProp 𝕄) := by
  unfold CellU
  exact Transfers.batch_collect' EC (c : Thread nD τ) KD_pos

/-- A free cell, readied for a group. -/
theorem cell_new (c : Dev nD) (f4 : Vec F S14336x4096 .fp8e4m3) (b : ℕ → BitVec 1) (g : ℕ) :
    (semVal (c, .dma (semDn g)) 0 : sProp 𝕄) ⊢ iprop(|={Set.univ}=> CellU c f4 b g 0 0) := by
  unfold CellU
  exact Transfers.batch_alloc' (Lvl := ℕ) EC (c : Thread nD τ) () KD (fun u : Fin (min 4 (NL b - 4 * g)) => Del c f4 b (4 * g + u.val)) (sm := .dma (semDn g)) (E := Set.univ)

theorem slots_split4 (c : Dev nD) (f4 : Vec F S14336x4096 .fp8e4m3) (b : ℕ → BitVec 1) (g : ℕ) (f : Vec F S7168x4096 .fp8e4m3)
    (hf : ∀ p ∈ Finset.Ico (4 * g) (4 * g + 4), p < NL b → SlotHas f4 b p f) :
    ((c : Thread nD τ).loc cc0_scratch9 ↦[rowS (g % 14)]{fullShare} f : sProp 𝕄) ⊢ iprop(SV c f4 b (4 * g + 0) ∗ SV c f4 b (4 * g + 1) ∗ SV c f4 b (4 * g + 2) ∗ SV c f4 b (4 * g + 3) ∗ emp) := by
  have h := slots_split c f4 b g f hf
  rw [sep_four (4 * g) (SV c f4 b)] at h
  exact h

/-- The group's four last free slots and the rest of the ring. -/
theorem free_close (c : Dev nD) (f4 : Vec F S14336x4096 .fp8e4m3) (b : ℕ → BitVec 1) (g : ℕ) :
    iprop(bigSep (Finset.Ico (4 * g + 4) (4 * g + 56)) (OptFree c f4 b) ∗ OptFree c f4 b (4 * g + 56 + 0) ∗ OptFree c f4 b (4 * g + 56 + 1) ∗ OptFree c f4 b (4 * g + 56 + 2) ∗ OptFree c f4 b (4 * g + 56 + 3) : sProp 𝕄)
      ⊢ bigSep (Finset.Ico (4 * (g + 1)) (4 * (g + 1) + 56)) (OptFree c f4 b) := by
  rw [show 4 * (g + 1) = 4 * g + 4 by omega, sep_app (show 4 * g + 4 ≤ 4 * g + 56 by omega) (show 4 * g + 56 ≤ 4 * g + 4 + 56 by omega) (OptFree c f4 b), show 4 * g + 4 + 56 = 4 * g + 56 + 4 by omega, sep_four]
  iintro ⟨H, H0, H1, H2, H3⟩
  isplitl [H]; · iexact H
  isplitl [H0]; · iexact H0
  isplitl [H1]; · iexact H1
  isplitl [H2]; · iexact H2
  isplitl [H3]; · iexact H3
  iempintro

theorem tok_close (c : Dev nD) (f4 : Vec F S14336x4096 .fp8e4m3) (b : ℕ → BitVec 1) (g : ℕ) :
    iprop(bigSep (Finset.Ico 0 (4 * g)) (OptTok c f4 b) ∗ bigSep (Finset.Ico (4 * g) (4 * g + 4)) (OptTok c f4 b) : sProp 𝕄)
      ⊢ bigSep (Finset.Ico 0 (4 * (g + 1))) (OptTok c f4 b) := by
  rw [show 4 * (g + 1) = 4 * g + 4 by omega, sep_app (Nat.zero_le (4 * g)) (show 4 * g ≤ 4 * g + 4 by omega) (OptTok c f4 b)]

theorem cells_close (c : Dev nD) (f4 : Vec F S14336x4096 .fp8e4m3) (b : ℕ → BitVec 1) (g : ℕ) :
    iprop(CellU c f4 b (g + 14) (min 4 (NL b - 4 * (g + 14))) 0 ∗ bigSep (Finset.Ico (g + 1) (g + 14)) (fun h => CellU c f4 b h (min 4 (NL b - 4 * h)) 0) : sProp 𝕄)
      ⊢ bigSep (Finset.Ico (g + 1) (g + 1 + 14)) (fun h => CellU c f4 b h (min 4 (NL b - 4 * h)) 0) := by
  rw [show g + 1 + 14 = g + 14 + 1 by omega, sep_last (show g + 1 ≤ g + 14 by omega) (fun h => CellU c f4 b h (min 4 (NL b - 4 * h)) 0)]

theorem acc_write (a w : Vec F S32x4096 .f32) {h} :
    ((Memref.whole cc0_scratch12).access (Rect.unit (s := S32x4096) ![0, 0] S32x4096.size h)).write (Elt F) a w Finset.univ = w := by
  funext x
  have hx : ((Memref.whole cc0_scratch12).access (Rect.unit (s := S32x4096) ![0, 0] S32x4096.size h)).emb x = x := by
    show (Rect.unit (s := S32x4096) ![0, 0] S32x4096.size h).emb x = x
    rw [Rect.emb_unit_full]
  have hw := View.write_emb_of_mem (v := (Memref.whole cc0_scratch12).access (Rect.unit (s := S32x4096) ![0, 0] S32x4096.size h)) a w (Finset.mem_univ x)
  rw [hx] at hw
  exact hw

set_option maxHeartbeats 1000000 in
/-- One trip of the second loop. -/
theorem dn_step (c : Dev nD) (f4 : Vec F S14336x4096 .fp8e4m3) (b : ℕ → BitVec 1) (hcv : Vec F S32x14464 .fp8e4m3) (q : PosShare TreeShare)
    (hw : k0_chk9 (W (NL b))) (ng : BitVec 32) (s : FVec F S32x1 .f32) (v : FVec F S32x14336 .f32) (t : Fin (k0_t2_loop (W (NL b))).trips) :
    DnSt c f4 b hcv q t.val ⊢ WP c (dnBody (W (NL b)) hw ng s v t ()) (fun _ => DnSt c f4 b hcv q (t.val + 1)) := by
  have hN := NL_le b
  have ht := trips_lt b t
  have hNF : NL b < 113 := by omega
  have p0 : 4 * t.val + 0 < 4 * ((NL b + 3) / 4) := by omega
  have p1 : 4 * t.val + 1 < 4 * ((NL b + 3) / 4) := by omega
  have p2 : 4 * t.val + 2 < 4 * ((NL b + 3) / 4) := by omega
  have p3 : 4 * t.val + 3 < 4 * ((NL b + 3) / 4) := by omega
  have l0 := lOff0_all ⟨NL b, hNF⟩ t
  have l1 := lOff1_all ⟨NL b, hNF⟩ t
  have l2 := lOff2_all ⟨NL b, hNF⟩ t
  have l3 := lOff3_all ⟨NL b, hNF⟩ t
  have hs : semDn (t.val + 14) = semDn t.val := by rw [← semDn_mod (t.val + 14), show (t.val + 14) % 14 = t.val % 14 by omega, semDn_mod]
  have z0 : CellU c f4 b t.val (min 4 (NL b - 4 * t.val)) 0 ⊢ CellU c f4 b t.val (min 4 (NL b - 4 * t.val)) (KD * min 0 (NL b - 4 * t.val)) := by
    rw [Nat.zero_min, Nat.mul_zero]
  rw [dnBody_eq, WP_bind, dnPart3_eq]
  unfold DnSt
  rw [sep_head (show t.val < t.val + 14 by omega), sep_app (show 4 * t.val ≤ 4 * t.val + 4 by omega) (show 4 * t.val + 4 ≤ 4 * t.val + 56 by omega) (OptFree c f4 b),
    sep_app (show 4 * t.val + 56 ≤ 4 * t.val + 56 + 4 by omega) (show 4 * t.val + 56 + 4 ≤ 170 by omega) (OptTok c f4 b), sep_four (4 * t.val + 56)]
  iintro ⟨HL, ⟨HB, HBs⟩, ⟨HF, HFs⟩, HTd, ⟨⟨HT0, HT1, HT2, HT3, -⟩, HTs⟩, Hh, ⟨%a, Ha, %hA⟩, HO⟩
  ihave HB := z0 $$ HB
  iapply (dnW0 c f4 b t) $$ [HL HB HO]
  · isplitl [HL]; · iexact HL
    isplitl [HB]; · iexact HB
    iexact HO
  iintro ⟨HL, HB, HO⟩
  iapply (dnW1 c f4 b t) $$ [HL HB HO]
  · isplitl [HL]; · iexact HL
    isplitl [HB]; · iexact HB
    iexact HO
  iintro ⟨HL, HB, HO⟩
  iapply (dnW2 c f4 b t) $$ [HL HB HO]
  · isplitl [HL]; · iexact HL
    isplitl [HB]; · iexact HB
    iexact HO
  iintro ⟨HL, HB, HO⟩
  iapply (dnW3 c f4 b t) $$ [HL HB HO]
  · isplitl [HL]; · iexact HL
    isplitl [HB]; · iexact HB
    iexact HO
  iintro ⟨HL, HB, HO⟩
  unfold dnLd3
  iapply (wp_readP c b p0 l0) $$ HL
  iintro HL
  iapply (hAsm c (chkL0 (ls_le b _)))
  iapply (wp_ld c (m := Memref.whole cc0_scratch11) (r := Rect.unit (s := S32x14464) (k0_off55 (W (ls b (4 * t.val + 0)))) S32x128.size (k0_off55_inb _ (chkL0 (ls_le b _)))) (f := hcv) (Bk hcv (ls b (4 * t.val + 0))) (fun z => blk_val hcv (ls_le b _) ((bOff0 _).trans (bOff_eq (ls_le b _))) z) sub_univ) $$ Hh
  iintro Hh
  iapply (wp_readP c b p1 l1) $$ HL
  iintro HL
  iapply (hAsm c (chkL1 (ls_le b _)))
  iapply (wp_ld c (m := Memref.whole cc0_scratch11) (r := Rect.unit (s := S32x14464) (k0_off57 (W (ls b (4 * t.val + 1)))) S32x128.size (k0_off57_inb _ (chkL1 (ls_le b _)))) (f := hcv) (Bk hcv (ls b (4 * t.val + 1))) (fun z => blk_val hcv (ls_le b _) ((bOff1 _).trans (bOff_eq (ls_le b _))) z) sub_univ) $$ Hh
  iintro Hh
  iapply (wp_readP c b p2 l2) $$ HL
  iintro HL
  iapply (hAsm c (chkL2 (ls_le b _)))
  iapply (hRet c)
  dsimp only
  rw [WP_bind, dnPart4_eq.{1}]
  unfold dnLd4
  iapply (wp_ld c (m := Memref.whole cc0_scratch11) (r := Rect.unit (s := S32x14464) (k0_off59 (W (ls b (4 * t.val + 2)))) S32x128.size (k0_off59_inb _ (chkL2 (ls_le b _)))) (f := hcv) (Bk hcv (ls b (4 * t.val + 2))) (fun z => blk_val hcv (ls_le b _) ((bOff2 _).trans (bOff_eq (ls_le b _))) z) sub_univ) $$ Hh
  iintro Hh
  iapply (wp_readP c b p3 l3) $$ HL
  iintro HL
  iapply (hAsm c (chkL3 (ls_le b _)))
  iapply (wp_ld c (m := Memref.whole cc0_scratch11) (r := Rect.unit (s := S32x14464) (k0_off61 (W (ls b (4 * t.val + 3)))) S32x128.size (k0_off61_inb _ (chkL3 (ls_le b _)))) (f := hcv) (Bk hcv (ls b (4 * t.val + 3))) (fun z => blk_val hcv (ls_le b _) ((bOff3 _).trans (bOff_eq (ls_le b _))) z) sub_univ) $$ Hh
  iintro Hh
  iapply (wp_ld c (m := Memref.whole cc0_scratch12) (r := Rect.unit (s := S32x4096) ![0, 0] S32x4096.size inb_S32x4096_S32x4096_0_0) (f := a) a (fun z => congrArg a (Rect.emb_unit_full _ z)) sub_univ) $$ Ha
  iintro Ha
  imod (cell_done c f4 b t.val) $$ HB with ⟨HD, HV⟩
  ihave HD := (grp_take c f4 b t.val) $$ [HD HF]
  · isplitl [HD]; · iexact HD
    iexact HF
  icases HD with ⟨HS, HTg⟩
  rw [← hs]
  imod (cell_new c f4 b (t.val + 14)) $$ HV with HB
  ihave HS := (slots_join c f4 b t.val) $$ HS
  icases HS with ⟨%f, %hf, Hf⟩
  iapply (wp_ld c (m := Memref.whole cc0_scratch9) (r := Rect.unit (s := S7168x4096) (k0_off62 (W (NL b)) t) S512x4096.size (k0_off62_inb _ hw t)) (f := f)
    (fun z => f ((Rect.unit (s := S7168x4096) (k0_off62 (W (NL b)) t) S512x4096.size (k0_off62_inb _ hw t)).emb z)) (fun z => rfl) (by rw [row_sub (t.val % 14) (aOff_all ⟨NL b, hNF⟩ t)])) $$ Hf
  iintro Hf
  ihave Hf := (slots_split4 c f4 b t.val f hf) $$ Hf
  icases Hf with ⟨HS0, HS1, HS2, HS3, -⟩
  iapply (wp_ld c (m := Memref.whole cc0_scratch12) (r := Rect.unit (s := S32x4096) ![0, 0] S32x4096.size inb_S32x4096_S32x4096_0_0) (f := a) a (fun z => congrArg a (Rect.emb_unit_full _ z)) sub_univ) $$ Ha
  iintro Ha
  iapply (wp_store (defs := defs₀ (F := F)) Variants.none (c : Thread nD τ) none Set.univ (m := Memref.whole cc0_scratch12) (r := Rect.unit (s := S32x4096) ![0, 0] S32x4096.size inb_S32x4096_S32x4096_0_0) (f := a) sub_univ) $$ Ha
  iintro Ha
  rw [acc_write]
  simp only [ret_bind']
  iapply (dnF0 c f4 b t) $$ [HL HS0 HT0 HB]
  · isplitl [HL]; · iexact HL
    isplitl [HS0]; · iexact HS0
    isplitl [HT0]; · iexact HT0
    rw [Nat.zero_min]; iexact HB
  iintro ⟨HL, HF0, HB⟩

  iapply (dnF1 c f4 b t) $$ [HL HS1 HT1 HB]
  · isplitl [HL]; · iexact HL
    isplitl [HS1]; · iexact HS1
    isplitl [HT1]; · iexact HT1
    iexact HB
  iintro ⟨HL, HF1, HB⟩
  iapply (hRet c)
  iapply (dnF2 c f4 b t) $$ [HL HS2 HT2 HB]
  · isplitl [HL]; · iexact HL
    isplitl [HS2]; · iexact HS2
    isplitl [HT2]; · iexact HT2
    iexact HB
  iintro ⟨HL, HF2, HB⟩

  iapply (dnF3 c f4 b t) $$ [HL HS3 HT3 HB]
  · isplitl [HL]; · iexact HL
    isplitl [HS3]; · iexact HS3
    isplitl [HT3]; · iexact HT3
    iexact HB
  iintro ⟨HL, HF3, HB⟩
  iapply (hRet c)
  isplitl [HL]; · iexact HL
  isplitl [HB HBs]
  · iapply (cells_close c f4 b t.val)
    isplitl [HB]; · iexact HB
    iexact HBs
  isplitl [HFs HF0 HF1 HF2 HF3]
  · iapply (free_close c f4 b t.val)
    isplitl [HFs]; · iexact HFs
    isplitl [HF0]; · iexact HF0
    isplitl [HF1]; · iexact HF1
    isplitl [HF2]; · iexact HF2
    iexact HF3
  isplitl [HTd HTg]
  · iapply (tok_close c f4 b t.val)
    isplitl [HTd]; · iexact HTd
    iexact HTg
  isplitl [HTs]; · iexact HTs
  isplitl [Hh]; · iexact Hh
  isplitl [Ha]
  · iexists _
    isplitl [Ha]; · iexact Ha
    ipureintro
    exact ⟨a, _, hA, row_val f4 b t.val f hf (aOff_all ⟨NL b, hNF⟩ t), rfl⟩
  iexact HO

end Cert.Kernel.Hand

end
-- ==== Proof.K.BodyB.lean ====
/- The first loop and what follows it. -/
module

public import proofs.«01_k».proof.Proof.K.BodyA
public import proofs.«01_k».proof.Proof.K.Pad
public import proofs.«01_k».proof.Proof.K.Up2
public import proofs.«01_k».proof.Proof.K.Down3

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The first loop. -/
theorem up_loop (c : Dev nD) (d : Dt F) (q : PosShare TreeShare) {α : Type} {K : BitVec 32 × FVec F S32x128 .f32 → Prog (TpuEff nD τ sig (Elt F) Λ₀ .tc) α} {Q : α → sProp 𝕄} :
    UpSt c d q 0 ⊢ iprop((UpSt c d q 28 -∗ WP c (K (W (NL (bits d)), rmx d 28)) Q)
      -∗ WP c ((Scf.Loop.for k0_t1_loop k0_t1_ok (0#32, k0_pay20 (F := F)) upBody).bind K) Q) := by
  have hb : ∀ (k : Fin k0_t1_loop.trips) (a : BitVec 32 × FVec F S32x128 .f32), upInv c d q k.val a ⊢ WP c (upBody k a) (upInv c d q (k.val + 1)) := by
    intro k a
    unfold upInv
    iintro ⟨%e, H⟩
    subst e
    iapply (up_step c d q k) $$ H
  have h := Scf.wp_for_bind _ (wpE (defs₀ (F := F)) Variants.none (c : Thread nD τ) none) Set.univ k0_t1_loop.lb k0_t1_loop.ub k0_t1_loop.st k0_t1_ok (0#32, k0_pay20 (F := F)) upBody (upInv c d q) hb (kk := K) (Q := Q)
  have e28 : Scf.trips k0_t1_loop.lb k0_t1_loop.ub k0_t1_loop.st = 28 := trips1
  rw [e28] at h
  iintro H Hk
  iapply h $$ [H]
  · unfold upInv
    isplitr
    · ipureintro; show _ = (W (cnt (bits d) 0), k0_pay20 (F := F)); rw [cnt_zero]
    · iexact H
  · iintro %a Ha
    unfold upInv
    icases Ha with ⟨%e, Ha⟩
    subst e
    iapply Hk
    iexact Ha

/-- The first loop, and the list padded by one. -/
theorem p11 (c : Dev nD) (d : Dt F) (q : PosShare TreeShare) (ws : Vec F S1x4096 .f32) {Q : _ → sProp 𝕄} :
    iprop(InW c ws ∗ UpSt c d q 0 : sProp 𝕄)
      ⊢ iprop((iprop((((c : Thread nD τ).loc cc0_scratch3) ↦{fullShare} ws) ∗ (((c : Thread nD τ).loc main_v3) ↦{fullShare} ws) ∗ semVal (c, .dma (semIn 3)) 0 ∗ LivePd c (bits d) 1 ∗ Cop c d.f4 (bits d) (NL (bits d))
          ∗ BI.bigSep (Finset.Ico 28 (28 + 8)) (RingC c d.f1) ∗ BI.bigSep (Finset.Ico (28 + 8) 28) (ColB c d.f1) ∗ BI.bigSep (Finset.range 28) (ColB c d.f1) ∗ Owes c ∗ Ops c d q ∗ Hid c d 28)
          -∗ Q ⟨W (NL (bits d)), rmx d 28, chk9_ok (NL_le (bits d)), ngE (W (NL (bits d)))⟩)
        -∗ WP c (k0_part11 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3) Q) := by
  rw [k0_part11_eq_skeleton, part11_eq]
  unfold UpSt
  iintro ⟨HW, HL, HC, HR, HB1, HB0, HO, HOp, HH⟩ Hk
  unfold InW
  iapply (wp_cpWait c (src := Memref.whole main_v3) (dst := Memref.whole cc0_scratch3) (sm' := semIn 3) (semIn_all 3 _) (N := NIW) rfl) $$ [HW HO]
  · isplitl [HW]; · iexact HW
    iexact HO
  iintro ⟨⟨H1, H2⟩, HV, HO⟩
  iapply (up_loop c d q) $$ [HL HC HR HB1 HB0 HO HOp HH]
  · unfold UpSt
    isplitl [HL]; · iexact HL
    isplitl [HC]; · iexact HC
    isplitl [HR]; · iexact HR
    isplitl [HB1]; · iexact HB1
    isplitl [HB0]; · iexact HB0
    isplitl [HO]; · iexact HO
    isplitl [HOp]; · iexact HOp
    iexact HH
  have e28 : UpSt c d q 28 = (iprop(Live c (bits d) (NL (bits d)) ∗ iprop(Cells c d.f4 (bits d) (NL (bits d)) ∗ FreeS c (NL (bits d)) ∗ Toks c d.f4 (bits d) (NL (bits d))) ∗ BI.bigSep (Finset.Ico 28 (28 + 8)) (RingC c d.f1) ∗ BI.bigSep (Finset.Ico (28 + 8) 28) (ColB c d.f1) ∗ BI.bigSep (Finset.range 28) (ColB c d.f1) ∗ Owes c ∗ Ops c d q ∗ Hid c d 28) : sProp 𝕄) := rfl
  rw [e28]
  unfold Cop
  iintro ⟨HL, ⟨HC, HF, HT⟩, HR, HB1, HB0, HO, HOp, HH⟩
  iapply (hAsm c (chk9_ok (NL_le (bits d))))
  unfold p11Tail
  ihave HL := (live_pd c (bits d)) $$ HL
  iapply (wp_padL0 c (bits d)) $$ HL
  iintro HL
  iapply (wp_padZ0 c (bits d)) $$ HF
  iintro HF
  iapply (hRet c)
  iapply Hk
  isplitl [H1]; · iexact H1
  isplitl [H2]; · iexact H2
  isplitl [HV]; · iexact HV
  isplitl [HL]; · iexact HL
  isplitl [HC HF HT]
  · isplitl [HC]; · iexact HC
    isplitl [HF]; · iexact HF
    iexact HT
  isplitl [HR]; · iexact HR
  isplitl [HB1]; · iexact HB1
  isplitl [HB0]; · iexact HB0
  isplitl [HO]; · iexact HO
  isplitl [HOp]; · iexact HOp
  iexact HH

/-- The list padded to the end of its group. -/
theorem p12 (c : Dev nD) (b : ℕ → BitVec 1) (rm : FVec F S32x128 .f32) (hw : k0_chk9 (W (NL b))) (g : BitVec 32) {Q : _ → sProp 𝕄} :
    iprop(LivePd c b 1 ∗ FreeS c (NL b) : sProp 𝕄)
      ⊢ iprop((iprop(LiveP c b ∗ FreeS c (NL b)) -∗ Q ⟨k0_pay27 rm, k0_pay28 rm⟩) -∗ WP c (k0_part12 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 (W (NL b)) rm hw g) Q) := by
  rw [k0_part12_eq_skeleton, part12_eq]
  iintro ⟨HL, HF⟩ Hk
  iapply (wp_padL1 c b) $$ HL
  iintro HL
  iapply (wp_padZ1 c b) $$ HF
  iintro HF
  iapply (wp_padL2 c b) $$ HL
  iintro HL
  iapply (wp_padZ2 c b) $$ HF
  iintro HF
  iapply (hRet c)
  iapply Hk
  ihave HL := (pd_liveP c b) $$ HL
  isplitl [HL]; · iexact HL
  iexact HF

/-- The hidden activations are read and their scales stored. -/
theorem p13 (c : Dev nD) (d : Dt F) (v197 : FVec F S32x1 .f32) (v211 : IVec S32 32) (a7 : Vec F S1x32 .f32) {Q : _ → sProp 𝕄} :
    iprop((((c : Thread nD τ).loc cc0_scratch7) ↦{fullShare} a7) ∗ Hid c d 28 : sProp 𝕄)
      ⊢ iprop((iprop((((c : Thread nD τ).loc cc0_scratch7) ↦{fullShare} (k0_pay31 v197 v211)) ∗ (((c : Thread nD τ).loc cc0_scratch10) ↦{fullShare} hFull d)) -∗ Q ⟨k0_pay30 v197 v211, k0_pay32 v197 v211 (hFull d)⟩)
        -∗ WP c (k0_part13 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 v197 v211) Q) := by
  rw [k0_part13_eq_skeleton]
  unfold k0_part13_skel Hid
  iintro ⟨H7, %H, HH, %hH⟩ Hk
  have e : H = hFull d := funext fun x => hH x (x 1).isLt
  subst e
  iapply (wp_ld c (m := Memref.whole cc0_scratch7) (r := Rect.unit (s := S1x32) ![0, 0] S1x32.size inb_S1x32_S1x32_0_0) (f := a7) a7 (fun z => congrArg a7 (Rect.emb_unit_full _ z)) sub_univ) $$ H7
  iintro H7
  iapply (wp_stW c (m := Memref.whole cc0_scratch7) (r := Rect.unit (s := S1x32) ![0, 0] S1x32.size inb_S1x32_S1x32_0_0) (f := a7) (w' := (k0_pay31 v197 v211)) (st_write7 a7 (k0_pay31 v197 v211)) sub_univ) $$ H7
  iintro H7
  iapply (wp_ld c (m := Memref.whole cc0_scratch10) (r := Rect.unit (s := S32x14336) ![0, 0] S32x14336.size inb_S32x14336_S32x14336_0_0) (f := (hFull d)) (hFull d) (fun z => congrArg (hFull d) (Rect.emb_unit_full _ z)) sub_univ) $$ HH
  iintro HH
  iapply (hRet c)
  iapply Hk
  isplitl [H7]; · iexact H7
  iexact HH

end Cert.Kernel.Hand

end
-- ==== Proof.K.BodyC.lean ====
/- The second half of the kernel. -/
module

public import proofs.«01_k».proof.Proof.K.BodyB
public import proofs.«01_k».proof.Proof.K.Split

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx (ix2 ix3 eq_ix2)
theorem st_write12 (a w : Vec F S32x4096 .f32) {h} :
    ((Memref.whole cc0_scratch12).access (Rect.unit (s := S32x4096) ![0, 0] S32x4096.size h)).write (Elt F) a w Finset.univ = w := by
  funext x
  have hx : ((Memref.whole cc0_scratch12).access (Rect.unit (s := S32x4096) ![0, 0] S32x4096.size h)).emb x = x := by
    show (Rect.unit (s := S32x4096) ![0, 0] S32x4096.size h).emb x = x
    rw [Rect.emb_unit_full]
  have hw := View.write_emb_of_mem (v := (Memref.whole cc0_scratch12).access (Rect.unit (s := S32x4096) ![0, 0] S32x4096.size h)) a w (Finset.mem_univ x)
  rw [hx] at hw
  exact hw

/-- A family is extended by parts that own nothing. -/
theorem big_ext {s t : Finset ℕ} (hs : s ⊆ t) (Φ : ℕ → sProp 𝕄) (h : ∀ i ∈ t, i ∉ s → Φ i = iprop(emp)) : bigSep s Φ ⊢ bigSep t Φ := by
  classical
  have e : bigSep t Φ = iprop(bigSep s Φ ∗ bigSep (t \ s) Φ) := by
    rw [← bigSep_union' Finset.disjoint_sdiff, Finset.union_sdiff_of_subset hs]
  rw [e]
  have h2 := emp_sep_big (F := F) (t \ s) Φ fun i hi => h i (Finset.mem_sdiff.mp hi).1 (Finset.mem_sdiff.mp hi).2
  iintro H
  isplitl [H]; · iexact H
  iapply h2
  iempintro

/-- The codes of the hidden activations followed by zero codes. -/
def hcv (v : FVec F S32x14336 .f32) : Vec F S32x14464 .fp8e4m3 := fun x =>
  if h : (x 1).val < 14336 then k0_pay33 v (ix2 (n0 := 32) (n1 := 14336) ⟨(x 0).val, (x 0).isLt⟩ ⟨(x 1).val, h⟩)
  else k0_pay34 (ix2 (n0 := 32) (n1 := 128) ⟨(x 0).val, (x 0).isLt⟩ ⟨(x 1).val % 128, Nat.mod_lt _ (by decide)⟩)

theorem hcv_write (a : Vec F S32x14464 .fp8e4m3) (v : FVec F S32x14336 .f32) :
    ((Memref.whole cc0_scratch11).access (Rect.unit (s := S32x14464) ![0, 14336] S32x128.size inb_S32x14464_S32x128_0_14336)).write (Elt F)
      (((Memref.whole cc0_scratch11).access (Rect.unit (s := S32x14464) ![0, 0] S32x14336.size inb_S32x14464_S32x14336_0_0)).write (Elt F) a (k0_pay33 v) Finset.univ)
      (k0_pay34 (F := F)) Finset.univ = hcv v := by
  funext x
  have hx1 : (x 1).val < 14464 := (x 1).isLt
  have hx0 : (x 0).val < 32 := (x 0).isLt
  unfold hcv
  split
  · rename_i h
    refine (View.write_of_not_mem _ _ _ ?_).trans ?_
    · intro hm
      obtain ⟨y, -, hy⟩ := Finset.mem_map.mp hm
      have e := embU (s := S32x14464) (off := ![0, 14336]) (size := S32x128.size) (inb := inb_S32x14464_S32x128_0_14336) y 1 (n := 14336) rfl
      have e' : ((Rect.unit (s := S32x14464) ![0, 14336] S32x128.size inb_S32x14464_S32x128_0_14336).emb y 1).val = 14336 + (y 1).val := e
      have e2 : (x 1).val = ((Rect.unit (s := S32x14464) ![0, 14336] S32x128.size inb_S32x14464_S32x128_0_14336).emb y 1).val := congrArg (fun z : S32x14464.Idx => (z 1).val) hy.symm
      omega
    · have hx : ((Memref.whole cc0_scratch11).access (Rect.unit (s := S32x14464) ![0, 0] S32x14336.size inb_S32x14464_S32x14336_0_0)).emb (ix2 (n0 := 32) (n1 := 14336) ⟨(x 0).val, hx0⟩ ⟨(x 1).val, h⟩) = x := by
        refine funext (Fin.forall_fin_two.mpr ⟨Fin.ext ?_, Fin.ext ?_⟩)
        · refine (embU (s := S32x14464) (off := ![0, 0]) (size := S32x14336.size) (inb := inb_S32x14464_S32x14336_0_0) _ 0 rfl).trans ?_
          show 0 + (x 0).val = (x 0).val
          omega
        · refine (embU (s := S32x14464) (off := ![0, 0]) (size := S32x14336.size) (inb := inb_S32x14464_S32x14336_0_0) _ 1 rfl).trans ?_
          show 0 + (x 1).val = (x 1).val
          omega
      have hw := View.write_emb_of_mem (v := (Memref.whole cc0_scratch11).access (Rect.unit (s := S32x14464) ![0, 0] S32x14336.size inb_S32x14464_S32x14336_0_0)) a (k0_pay33 v) (Finset.mem_univ (ix2 (n0 := 32) (n1 := 14336) ⟨(x 0).val, hx0⟩ ⟨(x 1).val, h⟩))
      rw [hx] at hw
      exact hw
  · rename_i h
    have hx : ((Memref.whole cc0_scratch11).access (Rect.unit (s := S32x14464) ![0, 14336] S32x128.size inb_S32x14464_S32x128_0_14336)).emb (ix2 (n0 := 32) (n1 := 128) ⟨(x 0).val, hx0⟩ ⟨(x 1).val % 128, Nat.mod_lt _ (by decide)⟩) = x := by
      refine funext (Fin.forall_fin_two.mpr ⟨Fin.ext ?_, Fin.ext ?_⟩)
      · refine (embU (s := S32x14464) (off := ![0, 14336]) (size := S32x128.size) (inb := inb_S32x14464_S32x128_0_14336) _ 0 rfl).trans ?_
        show 0 + (x 0).val = (x 0).val
        omega
      · refine (embU (s := S32x14464) (off := ![0, 14336]) (size := S32x128.size) (inb := inb_S32x14464_S32x128_0_14336) _ 1 rfl).trans ?_
        show 14336 + (x 1).val % 128 = (x 1).val
        omega
    have hw := View.write_emb_of_mem (v := (Memref.whole cc0_scratch11).access (Rect.unit (s := S32x14464) ![0, 14336] S32x128.size inb_S32x14464_S32x128_0_14336)) (((Memref.whole cc0_scratch11).access (Rect.unit (s := S32x14464) ![0, 0] S32x14336.size inb_S32x14464_S32x14336_0_0)).write (Elt F) a (k0_pay33 v) Finset.univ) (k0_pay34 (F := F)) (Finset.mem_univ (ix2 (n0 := 32) (n1 := 128) ⟨(x 0).val, hx0⟩ ⟨(x 1).val % 128, Nat.mod_lt _ (by decide)⟩))
    rw [hx] at hw
    exact hw

/-- The codes of the hidden activations, as the copy out reads them. -/
abbrev mHc : Memref sig .tc .vmem S32x14336 .fp8e4m3 := (Memref.whole cc0_scratch11).slice (Rect.unit (s := S32x14464) ![0, 0] S32x14336.size inb_S32x14464_S32x14336_0_0) (fun _ => rfl)
/-- The places that copy reads. -/
def hcS : Finset S32x14464.Idx := mHc.view.set

theorem hc_read (v : FVec F S32x14336 .f32) : mHc.view.read (Elt F) (hcv v) = k0_pay33 v := by
  funext z
  have h1 : (z 1).val < 14336 := (z 1).isLt
  have e0 := embU (s := S32x14464) (off := ![0, 0]) (size := S32x14336.size) (inb := inb_S32x14464_S32x14336_0_0) z 0 rfl
  have e1 := embU (s := S32x14464) (off := ![0, 0]) (size := S32x14336.size) (inb := inb_S32x14464_S32x14336_0_0) z 1 rfl
  show hcv v ((Rect.unit (s := S32x14464) ![0, 0] S32x14336.size inb_S32x14464_S32x14336_0_0).emb z) = _
  unfold hcv
  rw [dif_pos (by rw [e1]; show 0 + (z 1).val < 14336; omega)]
  refine congrArg (k0_pay33 v) (funext (Fin.forall_fin_two.mpr ⟨Fin.ext ?_, Fin.ext ?_⟩))
  · exact e0.trans (Nat.zero_add _)
  · exact e1.trans (Nat.zero_add _)

abbrev NOH : ℕ := (Memref.whole main_v4_3).view.dmaCredit
theorem NOH_pos : 0 < NOH := by decide
/-- The copy of `main_v4_3` out. -/
def OutH (c : Dev nD) (v : FVec F S32x14336 .f32) : sProp 𝕄 := Transfers.Flight EC (c : Thread nD τ) (.dma (semOut 2)) () NOH
  iprop(((c : Thread nD τ).loc main_v4_3 ↦{fullShare} k0_pay33 v) ∗ ((c : Thread nD τ).loc cc0_scratch11 ↦[hcS]{qR} hcv v))

/-- The state before the first group. -/
theorem dn_start (c : Dev nD) (f4 : Vec F S14336x4096 .fp8e4m3) (b : ℕ → BitVec 1) (hc : Vec F S32x14464 .fp8e4m3) (q : PosShare TreeShare) :
    iprop(LiveP c b ∗ Cop c f4 b (NL b) ∗ ((c : Thread nD τ).loc cc0_scratch11 ↦{q} hc) ∗ ((c : Thread nD τ).loc cc0_scratch12 ↦{fullShare} k0_pay35 (F := F)) ∗ Owes c : sProp 𝕄) ⊢ DnSt c f4 b hc q 0 := by
  have hle := NL_le b
  have h1 : FreeS (F := F) c (NL b) ⊢ bigSep (Finset.Ico (4 * 0) (4 * 0 + 56)) (OptFree c f4 b) := by
    refine BIBase.Entails.trans (Q := bigSep (Finset.Ico (NL b) 56) (OptFree c f4 b)) ?_ (big_ext (F := F) (fun i hi => by rw [Finset.mem_Ico] at hi ⊢; omega) _ fun i hi hn => if_pos (by rw [Finset.mem_Ico] at hi hn; omega))
    unfold FreeS
    refine bigSep_mono fun i hi => ?_
    have hge : ¬ i < NL b := by rw [Finset.mem_Ico] at hi; omega
    show (_ : sProp 𝕄) ⊢ OptFree c f4 b i
    unfold OptFree
    rw [if_neg hge]
    unfold SV
    iintro ⟨%f, H⟩
    iexists f
    isplitl [H]; · iexact H
    ipureintro
    exact fun h => absurd h hge
  have h2 : Toks c f4 b (NL b) ⊢ bigSep (Finset.Ico (4 * 0 + 56) 170) (OptTok c f4 b) := by
    unfold Toks
    exact bigSep_subset (fun i hi => by rw [Finset.mem_Ico] at hi ⊢; omega)
  unfold Cop DnSt Cells
  rw [Finset.range_eq_Ico]
  iintro ⟨HL, ⟨HC, HF, HT⟩, H11, H12, HO⟩
  ihave HF := h1 $$ HF
  ihave HT := h2 $$ HT
  isplitl [HL]; · iexact HL
  isplitl [HC]; · iexact HC
  isplitl [HF]; · iexact HF
  isplitr
  · iapply (emp_sep_big (F := F) _ (OptTok c f4 b) fun i hi => by simp at hi)
    iempintro
  isplitl [HT]; · iexact HT
  isplitl [H11]; · iexact H11
  isplitl [H12]
  · iexists _
    isplitl [H12]; · iexact H12
    ipureintro
    rfl
  iexact HO

/-- What the kernel owns after the last group. -/
def DnEnd (c : Dev nD) (f4 : Vec F S14336x4096 .fp8e4m3) (b : ℕ → BitVec 1) (hc : Vec F S32x14464 .fp8e4m3) (q : PosShare TreeShare) : sProp 𝕄 :=
  iprop(LiveP c b ∗ Sem14 (F := F) c ∗ iprop(∃ f : Vec F S7168x4096 .fp8e4m3, (c : Thread nD τ).loc cc0_scratch9 ↦{fullShare} f) ∗ bigSep (Finset.Ico 0 170) (OptTok c f4 b)
    ∗ ((c : Thread nD τ).loc cc0_scratch11 ↦{q} hc) ∗ iprop(∃ a, ((c : Thread nD τ).loc cc0_scratch12 ↦{fullShare} a) ∗ ⌜AccRel f4 b hc ((NL b + 3) / 4) a⌝) ∗ Owes c)

theorem dn_end (c : Dev nD) (f4 : Vec F S14336x4096 .fp8e4m3) (b : ℕ → BitVec 1) (hc : Vec F S32x14464 .fp8e4m3) (q : PosShare TreeShare) :
    DnSt c f4 b hc q ((NL b + 3) / 4) ⊢ iprop(|={Set.univ}=> DnEnd c f4 b hc q) := by
  have hle := NL_le b
  have h1 : bigSep (Finset.Ico (4 * ((NL b + 3) / 4)) (4 * ((NL b + 3) / 4) + 56)) (OptFree c f4 b) ⊢ (iprop(∃ f : Vec F S7168x4096 .fp8e4m3, (c : Thread nD τ).loc cc0_scratch9 ↦{fullShare} f) : sProp 𝕄) := by
    have e : bigSep (Finset.Ico (4 * ((NL b + 3) / 4)) (4 * ((NL b + 3) / 4) + 56)) (OptFree c f4 b) = bigSep (Finset.Ico (4 * ((NL b + 3) / 4)) (4 * ((NL b + 3) / 4) + 56)) (SV c f4 b) := bigSep_congr fun i hi => if_neg (by rw [Finset.mem_Ico] at hi; omega)
    exact (Entails.of_eq e).trans (slots_close c f4 b _)
  have h2 : bigSep (Finset.Ico 0 (4 * ((NL b + 3) / 4))) (OptTok c f4 b) ⊢ bigSep (Finset.Ico 0 170) (OptTok c f4 b) :=
    big_ext (F := F) (fun i hi => by rw [Finset.mem_Ico] at hi ⊢; omega) _ fun i hi hn => if_neg (by rw [Finset.mem_Ico] at hi hn; omega)
  have h3 := cells_shut (F := F) c f4 b ((NL b + 3) / 4) (by omega)
  unfold DnSt DnEnd
  iintro ⟨HL, HC, HF, HT, -, H11, H12, HO⟩
  imod h3 $$ HC with HC
  ihave HF := h1 $$ HF
  ihave HT := h2 $$ HT
  imodintro
  isplitl [HL]; · iexact HL
  isplitl [HC]; · iexact HC
  isplitl [HF]; · iexact HF
  isplitl [HT]; · iexact HT
  isplitl [H11]; · iexact H11
  isplitl [H12]; · iexact H12
  iexact HO

/-- The second loop. -/
theorem dn_loop (c : Dev nD) (f4 : Vec F S14336x4096 .fp8e4m3) (b : ℕ → BitVec 1) (hc : Vec F S32x14464 .fp8e4m3) (q : PosShare TreeShare) (hw : k0_chk9 (W (NL b))) (ng : BitVec 32) (s : FVec F S32x1 .f32) (v : FVec F S32x14336 .f32)
    {α : Type} {K : PUnit.{1} → Prog (TpuEff nD τ sig (Elt F) Λ₀ .tc) α} {Q : α → sProp 𝕄} :
    DnSt c f4 b hc q 0 ⊢ iprop((DnSt c f4 b hc q ((NL b + 3) / 4) -∗ WP c (K ⟨⟩) Q)
      -∗ WP c ((Scf.Loop.for (k0_t2_loop (W (NL b))) (k0_t2_ok (W (NL b)) hw) (⟨⟩ : PUnit.{1}) (dnBody (W (NL b)) hw ng s v)).bind K) Q) := by
  have h := Scf.wp_for_bind _ (wpE (defs₀ (F := F)) Variants.none (c : Thread nD τ) none) Set.univ (k0_t2_loop (W (NL b))).lb (k0_t2_loop (W (NL b))).ub (k0_t2_loop (W (NL b))).st (k0_t2_ok (W (NL b)) hw) (⟨⟩ : PUnit.{1}) (dnBody (W (NL b)) hw ng s v) (fun k _ => DnSt c f4 b hc q k)
    (fun k _ => dn_step c f4 b hc q hw ng s v k) (kk := K) (Q := Q)
  have e : Scf.trips (k0_t2_loop (W (NL b))).lb (k0_t2_loop (W (NL b))).ub (k0_t2_loop (W (NL b))).st = (NL b + 3) / 4 := trips_eq (NL_le b)
  rw [e] at h
  iintro H Hk
  iapply h $$ H
  iintro %a Ha
  iapply Hk
  iexact Ha

/-- The third loop makes no trip. -/
theorem no_loop (c : Dev nD) {n : ℕ} (hn : n ≤ 112) (hw : k0_chk9 (W n)) {body : Fin (k0_t3_loop (W n)).trips → PUnit.{1} → Prog (TpuEff nD τ sig (Elt F) Λ₀ .tc) PUnit.{1}}
    {α : Type} {K : PUnit.{1} → Prog (TpuEff nD τ sig (Elt F) Λ₀ .tc) α} {Q : α → sProp 𝕄} :
    WP c (K ⟨⟩) Q ⊢ WP c ((Scf.Loop.for (k0_t3_loop (W n)) (k0_t3_ok (W n) hw) (⟨⟩ : PUnit.{1}) body).bind K) Q := by
  have e : (k0_t3_loop (W n)).trips = 0 := trips3_eq hn
  have hb : ∀ (k : Fin (k0_t3_loop (W n)).trips) (a : PUnit.{1}), (iprop(⌜True⌝) : sProp 𝕄) ⊢ WP c (body k a) (fun _ => iprop(⌜True⌝)) := by
    intro k
    have hk : k.val < 0 := lt_of_lt_of_eq k.isLt e
    exact absurd hk (Nat.not_lt_zero _)
  have h := Scf.wp_for_bind _ (wpE (defs₀ (F := F)) Variants.none (c : Thread nD τ) none) Set.univ (k0_t3_loop (W n)).lb (k0_t3_loop (W n)).ub (k0_t3_loop (W n)).st (k0_t3_ok (W n) hw) (⟨⟩ : PUnit.{1}) body (fun _ _ => iprop(⌜True⌝))
    hb (kk := K) (Q := Q)
  iintro H
  iapply h
  · ipureintro; trivial
  iintro %a -
  iexact H

/-- The second half of the kernel: the codes of the hidden activations and the second product. -/
theorem p14 (c : Dev nD) (f4 : Vec F S14336x4096 .fp8e4m3) (b : ℕ → BitVec 1) (hw : k0_chk9 (W (NL b))) (ng : BitVec 32) (s : FVec F S32x1 .f32) (v : FVec F S32x14336 .f32)
    (a11 : Vec F S32x14464 .fp8e4m3) (o3 : Vec F S32x14336 .fp8e4m3) (t o4 : Vec F S1x32 .f32) (a12 : Vec F S32x4096 .f32) (ws : Vec F S1x4096 .f32) (a13 : Vec F S32x4096 .bf16) {Q : _ → sProp 𝕄} :
    iprop(LiveP c b ∗ Cop c f4 b (NL b) ∗ (((c : Thread nD τ).loc cc0_scratch11) ↦{fullShare} a11) ∗ (((c : Thread nD τ).loc main_v4_3) ↦{fullShare} o3) ∗ semVal (c, .dma (semOut 2)) 0 ∗ (((c : Thread nD τ).loc cc0_scratch7) ↦{fullShare} t) ∗ (((c : Thread nD τ).loc main_v4_4) ↦{fullShare} o4) ∗ semVal (c, .dma (semOut 3)) 0
        ∗ (((c : Thread nD τ).loc cc0_scratch12) ↦{fullShare} a12) ∗ (((c : Thread nD τ).loc cc0_scratch3) ↦{fullShare} ws) ∗ (((c : Thread nD τ).loc cc0_scratch13) ↦{fullShare} a13) ∗ Owes c : sProp 𝕄)
      ⊢ iprop((∀ acc, iprop(⌜AccRel f4 b (hcv v) ((NL b + 3) / 4) acc⌝ ∗ LiveP c b ∗ Sem14 (F := F) c ∗ iprop(∃ f : Vec F S7168x4096 .fp8e4m3, (c : Thread nD τ).loc cc0_scratch9 ↦{fullShare} f) ∗ bigSep (Finset.Ico 0 170) (OptTok c f4 b)
          ∗ (((c : Thread nD τ).loc cc0_scratch11) ↦{qL} hcv v) ∗ (((c : Thread nD τ).loc cc0_scratch11) ↦[Finset.univ \ hcS]{qR} hcv v) ∗ OutH c v ∗ OutT c fullShare t ∗ (((c : Thread nD τ).loc cc0_scratch12) ↦{fullShare} acc) ∗ (((c : Thread nD τ).loc cc0_scratch3) ↦{fullShare} ws) ∗ (((c : Thread nD τ).loc cc0_scratch13) ↦{fullShare} a13) ∗ Owes c)
          -∗ Q ⟨k0_pay36 s acc ws, a13⟩)
        -∗ WP c (k0_part14 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 (W (NL b)) hw ng s v) Q) := by
  have hsplit := (pointsTo_split_subset (Val := Elt F) (ℓ := (c : Thread nD τ).loc cc0_scratch11) (q := qR) (f := hcv v) (Finset.subset_univ hcS) (Ix := Unit) (Name := ℕ) (U := Pipeline.UD sig nD τ) (Lvl := ℕ)).1
  rw [k0_part14_eq_skeleton]
  unfold k0_part14_skel
  iintro ⟨HL, HC, H11, Ho3, HV2, H7, Ho4, HV3, H12, H3, H13, HO⟩ Hk
  iapply (wp_ld c (m := Memref.whole cc0_scratch11) (r := Rect.unit (s := S32x14464) ![0, 0] S32x14336.size inb_S32x14464_S32x14336_0_0) (f := a11) (fun z => a11 ((Rect.unit (s := S32x14464) ![0, 0] S32x14336.size inb_S32x14464_S32x14336_0_0).emb z)) (fun z => rfl) sub_univ) $$ H11
  iintro H11
  iapply (wp_stW c (m := Memref.whole cc0_scratch11) (r := Rect.unit (s := S32x14464) ![0, 0] S32x14336.size inb_S32x14464_S32x14336_0_0) (f := a11) rfl sub_univ) $$ H11
  iintro H11
  iapply (wp_ld c (m := Memref.whole cc0_scratch11) (r := Rect.unit (s := S32x14464) ![0, 14336] S32x128.size inb_S32x14464_S32x128_0_14336) (f := _) (fun z => _) (fun z => rfl) sub_univ) $$ H11
  iintro H11
  iapply (wp_stW c (m := Memref.whole cc0_scratch11) (r := Rect.unit (s := S32x14464) ![0, 14336] S32x128.size inb_S32x14464_S32x128_0_14336) (w' := hcv v) (hcv_write a11 v) sub_univ) $$ H11
  iintro H11
  ihave H11 := (pointsTo_share (PosShare.mem_left_op_right fullShare)).1 $$ H11
  icases H11 with ⟨H11, H11'⟩
  ihave H11' := hsplit $$ H11'
  icases H11' with ⟨Hs, Hr⟩
  iapply (wp_cp c (src := mHc) (dst := Memref.whole main_v4_3) (sm' := semOut 2) (semOut_all 2 _) (fs := hcv v) (fd := o3) (w := k0_pay33 v) (q := qR) (N := NOH) rfl NOH_pos (Ss := hcS) rfl (View.set_whole _)
    ((congrArg (fun w => (Memref.whole main_v4_3).view.write (Elt F) o3 w Finset.univ) (hc_read v)).trans (whole_val (F := F) (b := main_v4_3) o3 (k0_pay33 v)))) $$ [Hs Ho3 HV2]
  · isplitl [Hs]; · iexact Hs
    isplitl [Ho3]; · iexact Ho3
    iexact HV2
  iintro HOH
  iapply (wp_cp c (src := Memref.whole cc0_scratch7) (dst := Memref.whole main_v4_4) (sm' := semOut 3) (semOut_all 3 _) (fs := t) (fd := o4) (w := t) (q := fullShare) (N := NOT) rfl NOT_pos (View.set_whole _) (View.set_whole _) (whole_val (F := F) (b := main_v4_4) o4 t)) $$ [H7 Ho4 HV3]
  · isplitl [H7]; · iexact H7
    isplitl [Ho4]; · iexact Ho4
    iexact HV3
  iintro Ho4
  iapply (wp_ld c (m := Memref.whole cc0_scratch12) (r := Rect.unit (s := S32x4096) ![0, 0] S32x4096.size inb_S32x4096_S32x4096_0_0) (f := a12) a12 (fun z => congrArg a12 (Rect.emb_unit_full _ z)) sub_univ) $$ H12
  iintro H12
  iapply (wp_stW c (m := Memref.whole cc0_scratch12) (r := Rect.unit (s := S32x4096) ![0, 0] S32x4096.size inb_S32x4096_S32x4096_0_0) (f := a12) (w' := (k0_pay35 (F := F))) (st_write12 a12 (k0_pay35 (F := F))) sub_univ) $$ H12
  iintro H12
  iapply (dn_loop c f4 b (hcv v) qL hw ng s v) $$ [HL HC H11 H12 HO]
  · iapply (dn_start c f4 b (hcv v) qL)
    isplitl [HL]; · iexact HL
    isplitl [HC]; · iexact HC
    isplitl [H11]; · iexact H11
    isplitl [H12]; · iexact H12
    iexact HO
  iintro HD
  iapply (no_loop c (NL_le b) hw)
  imod (dn_end c f4 b (hcv v) qL) $$ HD with HD
  unfold DnEnd
  icases HD with ⟨HL, HS, H9, HT, H11, ⟨%acc, H12, %hacc⟩, HO⟩
  iapply (wp_ld c (m := Memref.whole cc0_scratch12) (r := Rect.unit (s := S32x4096) ![0, 0] S32x4096.size inb_S32x4096_S32x4096_0_0) (f := acc) acc (fun z => congrArg acc (Rect.emb_unit_full _ z)) sub_univ) $$ H12
  iintro H12
  iapply (wp_ld c (m := Memref.whole cc0_scratch3) (r := Rect.unit (s := S1x4096) ![0, 0] S1x4096.size inb_S1x4096_S1x4096_0_0) (f := ws) ws (fun z => congrArg ws (Rect.emb_unit_full _ z)) sub_univ) $$ H3
  iintro H3
  iapply (wp_ld c (m := Memref.whole cc0_scratch13) (r := Rect.unit (s := S32x4096) ![0, 0] S32x4096.size inb_S32x4096_S32x4096_0_0) (f := a13) a13 (fun z => congrArg a13 (Rect.emb_unit_full _ z)) sub_univ) $$ H13
  iintro H13
  iapply (hRet c)
  iapply Hk $$ %acc
  unfold OutH OutT
  isplitr; · ipureintro; exact hacc
  isplitl [HL]; · iexact HL
  isplitl [HS]; · iexact HS
  isplitl [H9]; · iexact H9
  isplitl [HT]; · iexact HT
  isplitl [H11]; · iexact H11
  isplitl [Hr]; · iexact Hr
  isplitl [HOH]; · iexact HOH
  isplitl [Ho4]; · iexact Ho4
  isplitl [H12]; · iexact H12
  isplitl [H3]; · iexact H3
  isplitl [H13]; · iexact H13
  iexact HO

end Cert.Kernel.Hand

end
-- ==== Proof.K.BodyD.lean ====
/- The end of the kernel, and what the loops start from and leave. -/
module

public import proofs.«01_k».proof.Proof.K.BodyC

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx (ix2 ix3 eq_ix2)
/-- The end of the kernel: the result is stored and every copy out awaited. -/
def kTail (v282 : FVec F S32x4096 .bf16) : Prog (TpuEff nD τ sig (Elt F) Λ₀ .tc) PUnit := do
  Prog.lift (.store (Memref.whole cc0_scratch13) (Rect.unit (s := S32x4096) ![0, 0] S32x4096.size inb_S32x4096_S32x4096_0_0) (k0_pay1 v282) Finset.univ (View.stores_vmem h_S32x4096 ((Memref.isWhole_whole _).storeExact_slice rfl _ packedbf16_S32x4096_S32x4096_0_0) (fun _ => rfl)) (.inl rfl))
  Prog.lift (.enqueueDma (Memref.whole cc0_scratch13) (.here (Memref.whole main_v4_0)) (.dma ((cc0_scoped1.slice (Rect.unit (s := S5) ![4] S1.size inb_S5_S1_4)).squeeze S_ squeezes_S1_S_).sem) (Memref.isWhole_whole _).wordExact (Memref.isWhole_whole _).wordExact ⟨Or.inl rfl, trivial⟩)
  Prog.lift (.waitDma2 ((cc0_scoped1.slice (Rect.unit (s := S5) ![0] S1.size inb_S5_S1_0)).squeeze S_ squeezes_S1_S_).sem (Memref.whole cc0_scratch4) (Memref.whole main_v4_1) (Memref.isWhole_whole _).wordExact (Memref.isWhole_whole _).wordExact)
  Prog.lift (.waitDma2 ((cc0_scoped1.slice (Rect.unit (s := S5) ![1] S1.size inb_S5_S1_1)).squeeze S_ squeezes_S1_S_).sem (Memref.whole cc0_scratch6) (Memref.whole main_v4_2) (Memref.isWhole_whole _).wordExact (Memref.isWhole_whole _).wordExact)
  Prog.lift (.waitDma2 ((cc0_scoped1.slice (Rect.unit (s := S5) ![2] S1.size inb_S5_S1_2)).squeeze S_ squeezes_S1_S_).sem mHc (Memref.whole main_v4_3) ((Memref.isWhole_whole cc0_scratch11).wordExact_slice rfl _ wordsfp8e4m3_S32x14464_S32x14336_0_0) (Memref.isWhole_whole _).wordExact)
  Prog.lift (.waitDma2 ((cc0_scoped1.slice (Rect.unit (s := S5) ![3] S1.size inb_S5_S1_3)).squeeze S_ squeezes_S1_S_).sem (Memref.whole cc0_scratch7) (Memref.whole main_v4_4) (Memref.isWhole_whole _).wordExact (Memref.isWhole_whole _).wordExact)
  Prog.lift (.waitDma2 ((cc0_scoped1.slice (Rect.unit (s := S5) ![4] S1.size inb_S5_S1_4)).squeeze S_ squeezes_S1_S_).sem (Memref.whole cc0_scratch13) (Memref.whole main_v4_0) (Memref.isWhole_whole _).wordExact (Memref.isWhole_whole _).wordExact)
  pure ⟨⟩

theorem kMain_eq : kMain (F := F) = (k0_part7 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3).bind fun _ => (k0_part8 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3).bind fun _ => (k0_part9 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3).bind fun r =>
    (k0_part10 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 r.1 r.2.1 r.2.2.1 r.2.2.2).bind fun _ => (k0_part11 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3).bind fun r11 =>
    (k0_part12 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 r11.1 r11.2.1 r11.2.2.1 r11.2.2.2).bind fun r12 => (k0_part13 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 r12.1 r12.2).bind fun r13 =>
    (k0_part14 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 r11.1 r11.2.2.1 r11.2.2.2 r13.1 r13.2).bind fun r14 => kTail r14.1 := rfl

/-- What the first half computes from the operands. -/
abbrev dOf (x : Vec F S32x4096 .bf16) (f1 : Vec F S4096x14336 .fp8e4m3) (us bu : Vec F S1x14336 .f32) (f4 : Vec F S14336x4096 .fp8e4m3) : Dt F :=
  ⟨k0_pay17 (k0_pay13 x) (k0_pay16 x) 23#32, k0_pay18 (k0_pay15 x), f1, us, bu, f4⟩
/-- The hidden activations, each row divided by its scale. -/
def hsc (d : Dt F) : FVec F S32x14336 .f32 := k0_pay32 (k0_pay27 (rmx d 28)) (k0_pay28 (rmx d 28)) (hFull d)
/-- What the kernel's first result is. -/
def YRel (d : Dt F) (ws : Vec F S1x4096 .f32) (y : Vec F S32x4096 .bf16) : Prop :=
  ∃ acc, AccRel d.f4 (bits d) (hcv (hsc d)) ((NL (bits d) + 3) / 4) acc ∧ y = k0_pay1 (k0_pay36 (k0_pay30 (k0_pay27 (rmx d 28)) (k0_pay28 (rmx d 28))) acc ws)
/-- What the kernel's second result is. -/
def oXc (x : Vec F S32x4096 .bf16) : Vec F S32x4096 .fp8e4m3 := k0_pay17 (k0_pay13 x) (k0_pay16 x) 23#32
/-- What the kernel's third result is. -/
def oXs (x : Vec F S32x4096 .bf16) : Vec F S1x32 .f32 := k0_pay19 (k0_pay15 x)
/-- What the kernel's fourth result is. -/
def oHc (d : Dt F) : Vec F S32x14336 .fp8e4m3 := k0_pay33 (hsc d)
/-- What the kernel's fifth result is. -/
def oHs (d : Dt F) : Vec F S1x32 .f32 := k0_pay31 (k0_pay27 (rmx d 28)) (k0_pay28 (rmx d 28))

/-- The eight cells of the first matrix's copies, at zero. -/
def Sem8 (c : Dev nD) : sProp 𝕄 := bigSep (Finset.Ico 0 8) fun k => semVal (c, .dma (semUn k)) 0
/-- Every cell at zero. -/
def Sems (c : Dev nD) : sProp 𝕄 := iprop(semVal (c, .dma (semIn 0)) 0 ∗ semVal (c, .dma (semIn 1)) 0 ∗ semVal (c, .dma (semIn 2)) 0 ∗ semVal (c, .dma (semIn 3)) 0 ∗ semVal (c, .dma (semOut 0)) 0 ∗ semVal (c, .dma (semOut 1)) 0 ∗ semVal (c, .dma (semOut 2)) 0 ∗ semVal (c, .dma (semOut 3)) 0 ∗ semVal (c, .dma (semOut 4)) 0 ∗ Sem8 (F := F) c ∗ Sem14 (F := F) c)
/-- The kernel's own buffers. -/
def Scrs (c : Dev nD) : sProp 𝕄 := iprop(iprop(∃ f : Buf (Elt F) ((c : Thread nD τ).loc cc0_scratch0), ((c : Thread nD τ).loc cc0_scratch0) ↦{fullShare} f) ∗ iprop(∃ f : Buf (Elt F) ((c : Thread nD τ).loc cc0_scratch1), ((c : Thread nD τ).loc cc0_scratch1) ↦{fullShare} f) ∗ iprop(∃ f : Buf (Elt F) ((c : Thread nD τ).loc cc0_scratch2), ((c : Thread nD τ).loc cc0_scratch2) ↦{fullShare} f) ∗ iprop(∃ f : Buf (Elt F) ((c : Thread nD τ).loc cc0_scratch3), ((c : Thread nD τ).loc cc0_scratch3) ↦{fullShare} f) ∗ iprop(∃ f : Buf (Elt F) ((c : Thread nD τ).loc cc0_scratch4), ((c : Thread nD τ).loc cc0_scratch4) ↦{fullShare} f) ∗ iprop(∃ f : Buf (Elt F) ((c : Thread nD τ).loc cc0_scratch5), ((c : Thread nD τ).loc cc0_scratch5) ↦{fullShare} f) ∗ iprop(∃ f : Buf (Elt F) ((c : Thread nD τ).loc cc0_scratch6), ((c : Thread nD τ).loc cc0_scratch6) ↦{fullShare} f) ∗ iprop(∃ f : Buf (Elt F) ((c : Thread nD τ).loc cc0_scratch7), ((c : Thread nD τ).loc cc0_scratch7) ↦{fullShare} f) ∗ iprop(∃ f : Buf (Elt F) ((c : Thread nD τ).loc cc0_scratch8), ((c : Thread nD τ).loc cc0_scratch8) ↦{fullShare} f) ∗ iprop(∃ f : Buf (Elt F) ((c : Thread nD τ).loc cc0_scratch9), ((c : Thread nD τ).loc cc0_scratch9) ↦{fullShare} f) ∗ iprop(∃ f : Buf (Elt F) ((c : Thread nD τ).loc cc0_scratch10), ((c : Thread nD τ).loc cc0_scratch10) ↦{fullShare} f) ∗ iprop(∃ f : Buf (Elt F) ((c : Thread nD τ).loc cc0_scratch11), ((c : Thread nD τ).loc cc0_scratch11) ↦{fullShare} f) ∗ iprop(∃ f : Buf (Elt F) ((c : Thread nD τ).loc cc0_scratch12), ((c : Thread nD τ).loc cc0_scratch12) ↦{fullShare} f) ∗ iprop(∃ f : Buf (Elt F) ((c : Thread nD τ).loc cc0_scratch13), ((c : Thread nD τ).loc cc0_scratch13) ↦{fullShare} f) ∗ iprop(∃ f : Buf (Elt F) ((c : Thread nD τ).loc cc0_scratch14), ((c : Thread nD τ).loc cc0_scratch14) ↦{fullShare} f))
/-- The operands. -/
def Args (c : Dev nD) (x : Vec F S32x4096 .bf16) (f1 : Vec F S4096x14336 .fp8e4m3) (us bu : Vec F S1x14336 .f32) (f4 : Vec F S14336x4096 .fp8e4m3) (ws : Vec F S1x4096 .f32) : sProp 𝕄 := iprop((((c : Thread nD τ).loc main_v0) ↦{fullShare} x) ∗ (((c : Thread nD τ).loc main_arg1) ↦{fullShare} f1) ∗ (((c : Thread nD τ).loc main_v1) ↦{fullShare} us) ∗ (((c : Thread nD τ).loc main_v2) ↦{fullShare} bu) ∗ (((c : Thread nD τ).loc main_arg4) ↦{fullShare} f4) ∗ (((c : Thread nD τ).loc main_v3) ↦{fullShare} ws))
/-- The results. -/
def Outs (c : Dev nD) (y : Vec F S32x4096 .bf16) (xc : Vec F S32x4096 .fp8e4m3) (xs : Vec F S1x32 .f32) (hc : Vec F S32x14336 .fp8e4m3) (hs : Vec F S1x32 .f32) : sProp 𝕄 :=
  iprop((((c : Thread nD τ).loc main_v4_0) ↦{fullShare} y) ∗ (((c : Thread nD τ).loc main_v4_1) ↦{fullShare} xc) ∗ (((c : Thread nD τ).loc main_v4_2) ↦{fullShare} xs) ∗ (((c : Thread nD τ).loc main_v4_3) ↦{fullShare} hc) ∗ (((c : Thread nD τ).loc main_v4_4) ↦{fullShare} hs))

theorem sep_eight (n : ℕ) (Φ : ℕ → sProp 𝕄) : bigSep (Finset.Ico n (n + 8)) Φ = iprop(Φ n ∗ Φ (n + 1) ∗ Φ (n + 2) ∗ Φ (n + 3) ∗ Φ (n + 4) ∗ Φ (n + 5) ∗ Φ (n + 6) ∗ Φ (n + 7) ∗ emp) := by
  rw [sep_head (by omega), sep_head (by omega), sep_head (by omega), sep_head (by omega), sep_head (by omega), sep_head (by omega), sep_head (by omega), sep_head (by omega), Finset.Ico_self, bigSep_empty]
  rfl

theorem ring_ready (c : Dev nD) (f1 : Vec F S4096x14336 .fp8e4m3) (f : Vec F S8x4096x512 .fp8e4m3) :
    iprop((((c : Thread nD τ).loc main_arg1) ↦{fullShare} f1) ∗ (((c : Thread nD τ).loc cc0_scratch8) ↦{fullShare} f) ∗ Sem8 (F := F) c : sProp 𝕄)
      ⊢ iprop(bigSep (Finset.Ico 0 (0 + 8)) (RingReady c f1) ∗ bigSep (Finset.Ico (0 + 8) 28) (ColB c f1)) := by
  have e1 : bigSep (Finset.Ico 0 (0 + 8)) (RingReady c f1) = iprop(bigSep (Finset.Ico 0 (0 + 8)) (ColB c f1) ∗ bigSep (Finset.Ico 0 (0 + 8)) (fun k => iprop(RingF c k ∗ semVal (c, .dma (semUn k)) 0 : sProp 𝕄))) := bigSep_sep ..
  have e2 : bigSep (Finset.Ico 0 (0 + 8)) (fun k => iprop(RingF c k ∗ semVal (c, .dma (semUn k)) 0 : sProp 𝕄)) = iprop(bigSep (Finset.Ico 0 (0 + 8)) (RingF (F := F) c) ∗ Sem8 c) := bigSep_sep ..
  have e3 := (w1_split c f1).trans (sep_app (F := F) (by omega : 0 ≤ 0 + 8) (by omega : 0 + 8 ≤ 28) (ColB c f1))
  have h4 := ring_split (F := F) c f 0
  rw [e1, e2, e3]
  iintro ⟨⟨H1, H2⟩, H3, H4⟩
  ihave H3 := h4 $$ H3
  isplitr [H2]
  · isplitl [H1]; · iexact H1
    isplitl [H3]; · iexact H3
    iexact H4
  iexact H2

theorem ring_back (c : Dev nD) (f1 : Vec F S4096x14336 .fp8e4m3) :
    iprop(bigSep (Finset.Ico 28 (28 + 8)) (RingC c f1) ∗ bigSep (Finset.range 28) (ColB c f1) : sProp 𝕄)
      ⊢ iprop((((c : Thread nD τ).loc main_arg1) ↦{fullShare} f1) ∗ iprop(∃ f : Buf (Elt F) ((c : Thread nD τ).loc cc0_scratch8), ((c : Thread nD τ).loc cc0_scratch8) ↦{fullShare} f) ∗ Sem8 (F := F) c) := by
  have e1 : bigSep (Finset.Ico 28 (28 + 8)) (RingC c f1) = bigSep (Finset.Ico 28 (28 + 8)) (fun k => iprop(RingF c k ∗ semVal (c, .dma (semUn k)) 0 : sProp 𝕄)) := bigSep_congr fun i hi => if_neg (by rw [Finset.mem_Ico] at hi; omega)
  have e2 : bigSep (Finset.Ico 28 (28 + 8)) (fun k => iprop(RingF c k ∗ semVal (c, .dma (semUn k)) 0 : sProp 𝕄)) = iprop(bigSep (Finset.Ico 28 (28 + 8)) (RingF (F := F) c) ∗ bigSep (Finset.Ico 28 (28 + 8)) (fun k => (semVal (c, .dma (semUn k)) 0 : sProp 𝕄))) := bigSep_sep ..
  have e3 : bigSep (Finset.Ico 28 (28 + 8)) (fun k => (semVal (c, .dma (semUn k)) 0 : sProp 𝕄)) = Sem8 c := sep_rot (fun k => (semVal (c, .dma (semUn k)) 0 : sProp 𝕄)) 8 (by decide) (fun n => by
    have : semUn (n + 8) = semUn n := by rw [← semUn_mod (n + 8), ← semUn_mod n, Nat.add_mod_right]
    rw [this]) 28
  have h4 := ring_join (F := F) c (f1 (ix2 (n0 := 4096) (n1 := 14336) ⟨0, by decide⟩ ⟨0, by decide⟩)) 28
  rw [e1, e2, e3, Finset.range_eq_Ico, ← w1_split]
  iintro ⟨⟨H1, H2⟩, H3⟩
  ihave H1 := h4 $$ H1
  isplitl [H3]; · iexact H3
  isplitl [H1]; · iexact H1
  iexact H2

/-- The state before the first chunk. -/
theorem up_start (c : Dev nD) (d : Dt F) (q : PosShare TreeShare) (L : Buf (Elt F) ((c : Thread nD τ).loc cc0_scratch14)) (H : Vec F S32x14336 .f32) :
    iprop((((c : Thread nD τ).loc cc0_scratch14) ↦{fullShare} L) ∗ Cells c d.f4 (bits d) 0 ∗ FreeS c 0 ∗ bigSep (Finset.Ico 0 170) (OptTok c d.f4 (bits d)) ∗ bigSep (Finset.Ico 0 (0 + 8)) (RingC c d.f1) ∗ bigSep (Finset.Ico (0 + 8) 28) (ColB c d.f1)
      ∗ Owes c ∗ Ops c d q ∗ (((c : Thread nD τ).loc cc0_scratch10) ↦{fullShare} H) : sProp 𝕄) ⊢ UpSt c d q 0 := by
  have e0 : cnt (bits d) (4 * 0) = 0 := cnt_zero _
  unfold UpSt Cop Live Hid Toks
  rw [e0]
  iintro ⟨HL, HC, HF, HT, HR, HB, HO, HOp, HH⟩
  isplitl [HL]
  · iexists L
    isplitl [HL]; · iexact HL
    ipureintro
    intro x hx
    exact absurd hx (Nat.not_lt_zero _)
  isplitl [HC HF HT]
  · isplitl [HC]; · iexact HC
    isplitl [HF]; · iexact HF
    iexact HT
  isplitl [HR]; · iexact HR
  isplitl [HB]; · iexact HB
  isplitr
  · iapply (emp_sep_big (F := F) _ (ColB c d.f1) fun i hi => by simp at hi)
    iempintro
  isplitl [HO]; · iexact HO
  isplitl [HOp]; · iexact HOp
  iexists H
  isplitl [HH]; · iexact HH
  ipureintro
  intro x hx
  exact absurd hx (by omega)

/-- The end of the kernel. -/
theorem tail_ok (c : Dev nD) (v282 : FVec F S32x4096 .bf16) (cx : Vec F S32x4096 .fp8e4m3) (xs t : Vec F S1x32 .f32) (v : FVec F S32x14336 .f32) (a13 o0 : Vec F S32x4096 .bf16) {Q : PUnit → sProp 𝕄} :
    iprop((((c : Thread nD τ).loc cc0_scratch13) ↦{fullShare} a13) ∗ (((c : Thread nD τ).loc main_v4_0) ↦{fullShare} o0) ∗ semVal (c, .dma (semOut 4)) 0 ∗ OutC c qR cx ∗ (((c : Thread nD τ).loc cc0_scratch4) ↦{qL} cx) ∗ OutS c fullShare xs
        ∗ OutH c v ∗ (((c : Thread nD τ).loc cc0_scratch11) ↦{qL} hcv v) ∗ (((c : Thread nD τ).loc cc0_scratch11) ↦[Finset.univ \ hcS]{qR} hcv v) ∗ OutT c fullShare t ∗ Owes c : sProp 𝕄)
      ⊢ iprop((iprop(Outs c (k0_pay1 v282) cx xs (k0_pay33 v) t ∗ (((c : Thread nD τ).loc cc0_scratch13) ↦{fullShare} (k0_pay1 v282)) ∗ (((c : Thread nD τ).loc cc0_scratch4) ↦{fullShare} cx) ∗ (((c : Thread nD τ).loc cc0_scratch6) ↦{fullShare} xs) ∗ (((c : Thread nD τ).loc cc0_scratch11) ↦{fullShare} hcv v) ∗ (((c : Thread nD τ).loc cc0_scratch7) ↦{fullShare} t)
          ∗ semVal (c, .dma (semOut 0)) 0 ∗ semVal (c, .dma (semOut 1)) 0 ∗ semVal (c, .dma (semOut 2)) 0 ∗ semVal (c, .dma (semOut 3)) 0 ∗ semVal (c, .dma (semOut 4)) 0 ∗ Owes c) -∗ Q ⟨⟩) -∗ WP c (kTail v282) Q) := by
  have hsplit := (pointsTo_split_subset (Val := Elt F) (ℓ := (c : Thread nD τ).loc cc0_scratch11) (q := qR) (f := hcv v) (Finset.subset_univ hcS) (Ix := Unit) (Name := ℕ) (U := Pipeline.UD sig nD τ) (Lvl := ℕ)).2
  have hs4 := (pointsTo_share (PosShare.mem_left_op_right fullShare) (Val := Elt F) (ℓ := (c : Thread nD τ).loc cc0_scratch4) (f := cx) (I := Finset.univ) (Ix := Unit) (Name := ℕ) (U := Pipeline.UD sig nD τ) (Lvl := ℕ)).2
  have hs11 := (pointsTo_share (PosShare.mem_left_op_right fullShare) (Val := Elt F) (ℓ := (c : Thread nD τ).loc cc0_scratch11) (f := hcv v) (I := Finset.univ) (Ix := Unit) (Name := ℕ) (U := Pipeline.UD sig nD τ) (Lvl := ℕ)).2
  unfold kTail Outs
  iintro ⟨H13, Ho0, HV4, HOC, H4, HOS, HOH, H11, Hr, HOT, HO⟩ Hk
  iapply (wp_stW c (m := Memref.whole cc0_scratch13) (r := Rect.unit (s := S32x4096) ![0, 0] S32x4096.size inb_S32x4096_S32x4096_0_0) (f := a13) (w' := (k0_pay1 v282)) (st_write13 a13 (k0_pay1 v282)) sub_univ) $$ H13
  iintro H13
  iapply (wp_cp c (src := Memref.whole cc0_scratch13) (dst := Memref.whole main_v4_0) (sm' := semOut 4) (semOut_all 4 _) (fs := (k0_pay1 v282)) (fd := o0) (w := (k0_pay1 v282)) (q := fullShare) (N := NOY) rfl NOY_pos (View.set_whole _) (View.set_whole _) (whole_val (F := F) (b := main_v4_0) o0 (k0_pay1 v282))) $$ [H13 Ho0 HV4]
  · isplitl [H13]; · iexact H13
    isplitl [Ho0]; · iexact Ho0
    iexact HV4
  iintro Ho0
  unfold OutC
  iapply (wp_cpWait c (src := Memref.whole cc0_scratch4) (dst := Memref.whole main_v4_1) (sm' := semOut 0) (semOut_all 0 _) (N := NOC) rfl) $$ [HOC HO]
  · isplitl [HOC]; · iexact HOC
    iexact HO
  iintro ⟨⟨Ho1, H4'⟩, HV0, HO⟩
  unfold OutS
  iapply (wp_cpWait c (src := Memref.whole cc0_scratch6) (dst := Memref.whole main_v4_2) (sm' := semOut 1) (semOut_all 1 _) (N := NOS) rfl) $$ [HOS HO]
  · isplitl [HOS]; · iexact HOS
    iexact HO
  iintro ⟨⟨Ho2, H6⟩, HV1, HO⟩
  unfold OutH
  iapply (wp_cpWait c (src := mHc) (dst := Memref.whole main_v4_3) (sm' := semOut 2) (semOut_all 2 _) (N := NOH) rfl) $$ [HOH HO]
  · isplitl [HOH]; · iexact HOH
    iexact HO
  iintro ⟨⟨Ho3, Hs⟩, HV2, HO⟩
  unfold OutT
  iapply (wp_cpWait c (src := Memref.whole cc0_scratch7) (dst := Memref.whole main_v4_4) (sm' := semOut 3) (semOut_all 3 _) (N := NOT) rfl) $$ [HOT HO]
  · isplitl [HOT]; · iexact HOT
    iexact HO
  iintro ⟨⟨Ho4, H7⟩, HV3, HO⟩
  iapply (wp_cpWait c (src := Memref.whole cc0_scratch13) (dst := Memref.whole main_v4_0) (sm' := semOut 4) (semOut_all 4 _) (N := NOY) rfl) $$ [Ho0 HO]
  · isplitl [Ho0]; · iexact Ho0
    iexact HO
  iintro ⟨⟨Ho0, H13⟩, HV4, HO⟩
  ihave H4 := hs4 $$ [H4 H4']
  · isplitl [H4]; · iexact H4
    iexact H4'
  ihave Hr := hsplit $$ [Hs Hr]
  · isplitl [Hs]; · iexact Hs
    iexact Hr
  ihave H11 := hs11 $$ [H11 Hr]
  · isplitl [H11]; · iexact H11
    iexact Hr
  iapply (hRet c)
  iapply Hk
  isplitl [Ho0 Ho1 Ho2 Ho3 Ho4]
  · isplitl [Ho0]; · iexact Ho0
    isplitl [Ho1]; · iexact Ho1
    isplitl [Ho2]; · iexact Ho2
    isplitl [Ho3]; · iexact Ho3
    iexact Ho4
  isplitl [H13]; · iexact H13
  isplitl [H4]; · iexact H4
  isplitl [H6]; · iexact H6
  isplitl [H11]; · iexact H11
  isplitl [H7]; · iexact H7
  isplitl [HV0]; · iexact HV0
  isplitl [HV1]; · iexact HV1
  isplitl [HV2]; · iexact HV2
  isplitl [HV3]; · iexact HV3
  isplitl [HV4]; · iexact HV4
  iexact HO

end Cert.Kernel.Hand

end
-- ==== Proof.K.Body.lean ====
/- The kernel runs, and what it leaves. -/
module

public import proofs.«01_k».proof.Proof.K.BodyD

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The kernel runs: the operands come back unchanged and the results are the values above. -/
theorem kernel_ok (c : Dev nD) (x : Vec F S32x4096 .bf16) (f1 : Vec F S4096x14336 .fp8e4m3) (us bu : Vec F S1x14336 .f32) (f4 : Vec F S14336x4096 .fp8e4m3) (ws : Vec F S1x4096 .f32)
    (o0 : Vec F S32x4096 .bf16) (o1 : Vec F S32x4096 .fp8e4m3) (o2 : Vec F S1x32 .f32) (o3 : Vec F S32x14336 .fp8e4m3) (o4 : Vec F S1x32 .f32) {Q : PUnit → sProp 𝕄} :
    iprop(Args c x f1 us bu f4 ws ∗ Outs c o0 o1 o2 o3 o4 ∗ Scrs (F := F) c ∗ Sems (F := F) c ∗ Owes c : sProp 𝕄)
      ⊢ iprop((∀ y, iprop(⌜YRel (dOf x f1 us bu f4) ws y⌝ ∗ Args c x f1 us bu f4 ws ∗ Outs c y (oXc x) (oXs x) (oHc (dOf x f1 us bu f4)) (oHs (dOf x f1 us bu f4)) ∗ Scrs (F := F) c ∗ Sems (F := F) c ∗ Owes c) -∗ Q ⟨⟩) -∗ WP c (kMain (F := F)) Q) := by
  have h8 := sep_eight (F := F) 0 (RingReady c f1)
  have hC8 := sep_eight (F := F) 0 (RingC c (dOf x f1 us bu f4).f1)
  have hw4 := w4_split c f4 (bits (dOf x f1 us bu f4))
  have hso := fun f => slots_open (F := F) c f
  have hco := cells_open (F := F) c f4 (bits (dOf x f1 us bu f4))
  have hus := up_start c (dOf x f1 us bu f4) qL
  rw [hC8] at hus
  have hrr := ring_ready c f1
  rw [h8] at hrr
  rw [kMain_eq, WP_bind]
  unfold Args Outs Scrs Sems
  iintro ⟨⟨Hx, Hf1, Hus, Hbu, Hf4, Hws⟩, ⟨Ho0, Ho1, Ho2, Ho3, Ho4⟩, ⟨⟨%a0, S0⟩, ⟨%a1, S1⟩, ⟨%a2, S2⟩, ⟨%a3, S3⟩, ⟨%a4, S4⟩, ⟨%a5, S5⟩, ⟨%a6, S6⟩, ⟨%a7, S7⟩, ⟨%a8, S8⟩, ⟨%a9, S9⟩, ⟨%a10, S10⟩, ⟨%a11, S11⟩, ⟨%a12, S12⟩, ⟨%a13, S13⟩, ⟨%a14, S14⟩⟩, ⟨I0, I1, I2, I3, V0, V1, V2, V3, V4, S8s, S14s⟩, HO⟩ Hk
  imod hco $$ S14s with HC
  ihave HF := (hso a9) $$ S9
  ihave H4 := hw4 $$ Hf4
  icases H4 with ⟨HT, Hf4⟩
  ihave HR := (hrr a8) $$ [Hf1 S8 S8s]
  · isplitl [Hf1]; · iexact Hf1
    isplitl [S8]; · iexact S8
    iexact S8s
  icases HR with ⟨⟨R0, R1, R2, R3, R4, R5, R6, R7, -⟩, HB⟩
  iapply (p7 c x us bu ws f1 a0 a1 a2 a3) $$ [Hx S0 I0 Hus S1 I1 Hbu S2 I2 Hws S3 I3 R0 R1 R2]
  · isplitl [Hx S0 I0]
    · isplitl [Hx]; · iexact Hx
      isplitl [S0]; · iexact S0
      iexact I0
    isplitl [Hus S1 I1]
    · isplitl [Hus]; · iexact Hus
      isplitl [S1]; · iexact S1
      iexact I1
    isplitl [Hbu S2 I2]
    · isplitl [Hbu]; · iexact Hbu
      isplitl [S2]; · iexact S2
      iexact I2
    isplitl [Hws S3 I3]
    · isplitl [Hws]; · iexact Hws
      isplitl [S3]; · iexact S3
      iexact I3
    isplitl [R0]; · iexact R0
    isplitl [R1]; · iexact R1
    iexact R2
  iintro ⟨HX, HU, HBu, HW, R0, R1, R2⟩
  rw [WP_bind]
  iapply (p8 c f1) $$ [R3 R4 R5 R6 R7]
  · isplitl [R3]; · iexact R3
    isplitl [R4]; · iexact R4
    isplitl [R5]; · iexact R5
    isplitl [R6]; · iexact R6
    iexact R7
  iintro ⟨R3, R4, R5, R6, R7⟩
  rw [WP_bind]
  iapply (p9 c x) $$ [HX HO]
  · isplitl [HX]; · iexact HX
    iexact HO
  iintro ⟨S0, Hx, I0, HO⟩
  rw [WP_bind]
  iapply (p10 c us bu (k0_pay13 x) (k0_pay15 x) (k0_pay16 x) 23#32 a4 a5 a6 o1 o2) $$ [S4 S5 S6 Ho1 Ho2 V0 V1 HU HBu HO]
  · isplitl [S4]; · iexact S4
    isplitl [S5]; · iexact S5
    isplitl [S6]; · iexact S6
    isplitl [Ho1]; · iexact Ho1
    isplitl [Ho2]; · iexact Ho2
    isplitl [V0]; · iexact V0
    isplitl [V1]; · iexact V1
    isplitl [HU]; · iexact HU
    isplitl [HBu]; · iexact HBu
    iexact HO
  iintro ⟨S4, S5, HOC, HOS, S1, Hus, S2, Hbu, I1, I2, HO⟩
  rw [WP_bind]
  iapply (p11 c (dOf x f1 us bu f4) qL ws) $$ [HW S14 HC HF HT R0 R1 R2 R3 R4 R5 R6 R7 HB HO S4 S5 S1 S2 S10]
  · isplitl [HW]; · iexact HW
    iapply (hus a14 a10)
    isplitl [S14]; · iexact S14
    isplitl [HC]; · iexact HC
    isplitl [HF]; · iexact HF
    isplitl [HT]; · iexact HT
    isplitl [R0 R1 R2 R3 R4 R5 R6 R7]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      iempintro
    isplitl [HB]; · iexact HB
    isplitl [HO]; · iexact HO
    isplitl [S4 S5 S1 S2]
    · unfold Ops
      isplitl [S4]; · iexact S4
      isplitl [S5]; · iexact S5
      isplitl [S1]; · iexact S1
      iexact S2
    iexact S10
  unfold Cop Ops
  iintro ⟨S3, Hws, I3, HL, ⟨HC, HF, HT⟩, HR, -, HB, HO, ⟨S4, S5, S1, S2⟩, HH⟩
  ihave HR := (ring_back c f1) $$ [HR HB]
  · isplitl [HR]; · iexact HR
    iexact HB
  icases HR with ⟨Hf1, S8, S8s⟩
  rw [WP_bind]
  iapply (p12 c (bits (dOf x f1 us bu f4)) (rmx (dOf x f1 us bu f4) 28) (chk9_ok (NL_le _)) (ngE (W (NL (bits (dOf x f1 us bu f4)))))) $$ [HL HF]
  · isplitl [HL]; · iexact HL
    iexact HF
  iintro ⟨HL, HF⟩
  rw [WP_bind]
  iapply (p13 c (dOf x f1 us bu f4) (k0_pay27 (rmx (dOf x f1 us bu f4) 28)) (k0_pay28 (rmx (dOf x f1 us bu f4) 28)) a7) $$ [S7 HH]
  · isplitl [S7]; · iexact S7
    iexact HH
  iintro ⟨S7, S10⟩
  rw [WP_bind]
  iapply (p14 c f4 (bits (dOf x f1 us bu f4)) (chk9_ok (NL_le _)) (ngE (W (NL (bits (dOf x f1 us bu f4))))) (k0_pay30 (k0_pay27 (rmx (dOf x f1 us bu f4) 28)) (k0_pay28 (rmx (dOf x f1 us bu f4) 28))) (hsc (dOf x f1 us bu f4)) a11 o3 (oHs (dOf x f1 us bu f4)) o4 a12 ws a13) $$ [HL HC HF HT S11 Ho3 V2 S7 Ho4 V3 S12 S3 S13 HO]
  · isplitl [HL]; · iexact HL
    isplitl [HC HF HT]
    · unfold Cop
      isplitl [HC]; · iexact HC
      isplitl [HF]; · iexact HF
      iexact HT
    isplitl [S11]; · iexact S11
    isplitl [Ho3]; · iexact Ho3
    isplitl [V2]; · iexact V2
    isplitl [S7]; · iexact S7
    isplitl [Ho4]; · iexact Ho4
    isplitl [V3]; · iexact V3
    isplitl [S12]; · iexact S12
    isplitl [S3]; · iexact S3
    isplitl [S13]; · iexact S13
    iexact HO
  iintro %acc ⟨%hacc, HL, S14s, S9, HT, S11, Hr, HOH, HOT, S12, S3, S13, HO⟩
  ihave Hf4 := Hf4 $$ HT
  iapply (tail_ok c (k0_pay36 (k0_pay30 (k0_pay27 (rmx (dOf x f1 us bu f4) 28)) (k0_pay28 (rmx (dOf x f1 us bu f4) 28))) acc ws) (oXc x) (oXs x) (oHs (dOf x f1 us bu f4)) (hsc (dOf x f1 us bu f4)) a13 o0) $$ [S13 Ho0 V4 HOC S4 HOS HOH S11 Hr HOT HO]
  · isplitl [S13]; · iexact S13
    isplitl [Ho0]; · iexact Ho0
    isplitl [V4]; · iexact V4
    isplitl [HOC]; · iexact HOC
    isplitl [S4]; · iexact S4
    isplitl [HOS]; · iexact HOS
    isplitl [HOH]; · iexact HOH
    isplitl [S11]; · iexact S11
    isplitl [Hr]; · iexact Hr
    isplitl [HOT]; · iexact HOT
    iexact HO
  unfold Outs oHc
  iintro ⟨HOuts, S13, S4, S6, S11, S7, V0, V1, V2, V3, V4, HO⟩
  iapply Hk $$ %(k0_pay1 (k0_pay36 (k0_pay30 (k0_pay27 (rmx (dOf x f1 us bu f4) 28)) (k0_pay28 (rmx (dOf x f1 us bu f4) 28))) acc ws))
  isplitr
  · ipureintro
    exact ⟨acc, hacc, rfl⟩
  isplitl [Hx Hf1 Hus Hbu Hf4 Hws]
  · isplitl [Hx]; · iexact Hx
    isplitl [Hf1]; · iexact Hf1
    isplitl [Hus]; · iexact Hus
    isplitl [Hbu]; · iexact Hbu
    isplitl [Hf4]; · iexact Hf4
    iexact Hws
  isplitl [HOuts]; · iexact HOuts
  unfold LiveP
  icases HL with ⟨%L, S14, -⟩
  isplitl [S0 S1 S2 S3 S4 S5 S6 S7 S8 S9 S10 S11 S12 S13 S14]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexact S8
    isplitl [S9]; · iexact S9
    isplitl [S10]; · iexists _; iexact S10
    isplitl [S11]; · iexists _; iexact S11
    isplitl [S12]; · iexists _; iexact S12
    isplitl [S13]; · iexists _; iexact S13
    iexists _; iexact S14
  isplitr [HO]
  · isplitl [I0]; · iexact I0
    isplitl [I1]; · iexact I1
    isplitl [I2]; · iexact I2
    isplitl [I3]; · iexact I3
    isplitl [V0]; · iexact V0
    isplitl [V1]; · iexact V1
    isplitl [V2]; · iexact V2
    isplitl [V3]; · iexact V3
    isplitl [V4]; · iexact V4
    isplitl [S8s]; · iexact S8s
    iexact S14s
  iexact HO

end Cert.Kernel.Hand

end
-- ==== Proof.K.Run.lean ====
/- The whole program runs: the frame. -/
module

public import proofs.«01_k».proof.Proof.K.Body
public import proofs.«01_k».proof.Proof.Gen.Kernel.Points
public import proofs.«01_k».proof.Proof.Gen.Kernel.Frame
public import proofs.«01_k».proof.Proof.Gen.Kernel.Launch

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The kernel's own cells. -/
abbrev osem0 : Fin 31 → SemLoc sig := fun j => SemLoc.dma ⟨j.val, j.isLt⟩
theorem ownSemFacts0 : Pipeline.OwnSemFacts (cfg0.spec) osem0 := by decide
/-- The cells, listed. -/
def SemList (c : Dev nD) : sProp 𝕄 := iprop(semVal (c, .dma (semIn 0)) 0 ∗ semVal (c, .dma (semIn 1)) 0 ∗ semVal (c, .dma (semIn 2)) 0 ∗ semVal (c, .dma (semIn 3)) 0 ∗ semVal (c, .dma (semOut 0)) 0 ∗ semVal (c, .dma (semOut 1)) 0 ∗ semVal (c, .dma (semOut 2)) 0 ∗ semVal (c, .dma (semOut 3)) 0 ∗ semVal (c, .dma (semOut 4)) 0 ∗ semVal (c, .dma (semUn 0)) 0 ∗ semVal (c, .dma (semUn 1)) 0 ∗ semVal (c, .dma (semUn 2)) 0 ∗ semVal (c, .dma (semUn 3)) 0 ∗ semVal (c, .dma (semUn 4)) 0 ∗ semVal (c, .dma (semUn 5)) 0 ∗ semVal (c, .dma (semUn 6)) 0 ∗ semVal (c, .dma (semUn 7)) 0 ∗ semVal (c, .dma (semDn 0)) 0 ∗ semVal (c, .dma (semDn 1)) 0 ∗ semVal (c, .dma (semDn 2)) 0 ∗ semVal (c, .dma (semDn 3)) 0 ∗ semVal (c, .dma (semDn 4)) 0 ∗ semVal (c, .dma (semDn 5)) 0 ∗ semVal (c, .dma (semDn 6)) 0 ∗ semVal (c, .dma (semDn 7)) 0 ∗ semVal (c, .dma (semDn 8)) 0 ∗ semVal (c, .dma (semDn 9)) 0 ∗ semVal (c, .dma (semDn 10)) 0 ∗ semVal (c, .dma (semDn 11)) 0 ∗ semVal (c, .dma (semDn 12)) 0 ∗ semVal (c, .dma (semDn 13)) 0)
theorem ownSems00_eq (c : Dev nD) :
    (Pipeline.ownSems0 (Ix := Unit) (Name := ℕ) (U := Pipeline.UD sig nD τ) (Lvl := ℕ) (Val := Elt F) (τ := τ) osem0 c : sProp 𝕄) = SemList c := by
  rw [Pipeline.ownSems0_eq_of_list c osem0 [0, 1, 2, 3, 4, 5, 6, 7, 8, 9, 10, 11, 12, 13, 14, 15, 16, 17, 18, 19, 20, 21, 22, 23, 24, 25, 26, 27, 28, 29, 30] (by decide) (by decide)]; rfl

theorem sem14_eq (c : Dev nD) : Sem14 (F := F) c = iprop(semVal (c, .dma (semDn 0)) 0 ∗ semVal (c, .dma (semDn 1)) 0 ∗ semVal (c, .dma (semDn 2)) 0 ∗ semVal (c, .dma (semDn 3)) 0 ∗ semVal (c, .dma (semDn 4)) 0 ∗ semVal (c, .dma (semDn 5)) 0 ∗ semVal (c, .dma (semDn 6)) 0 ∗ semVal (c, .dma (semDn 7)) 0 ∗ semVal (c, .dma (semDn 8)) 0 ∗ semVal (c, .dma (semDn 9)) 0 ∗ semVal (c, .dma (semDn 10)) 0 ∗ semVal (c, .dma (semDn 11)) 0 ∗ semVal (c, .dma (semDn 12)) 0 ∗ semVal (c, .dma (semDn 13)) 0 ∗ emp) := by
  unfold Sem14
  rw [sep_head (by omega), sep_head (by omega), sep_head (by omega), sep_head (by omega), sep_head (by omega), sep_head (by omega), sep_head (by omega), sep_head (by omega), sep_head (by omega), sep_head (by omega), sep_head (by omega), sep_head (by omega), sep_head (by omega), sep_head (by omega), Finset.Ico_self, bigSep_empty]; rfl
theorem sem8_eq (c : Dev nD) : Sem8 (F := F) c = iprop(semVal (c, .dma (semUn 0)) 0 ∗ semVal (c, .dma (semUn 1)) 0 ∗ semVal (c, .dma (semUn 2)) 0 ∗ semVal (c, .dma (semUn 3)) 0 ∗ semVal (c, .dma (semUn 4)) 0 ∗ semVal (c, .dma (semUn 5)) 0 ∗ semVal (c, .dma (semUn 6)) 0 ∗ semVal (c, .dma (semUn 7)) 0 ∗ emp) := sep_eight 0 _

theorem sems_in (c : Dev nD) : SemList (F := F) c ⊢ Sems c := by
  unfold SemList Sems
  rw [sem14_eq, sem8_eq]
  iintro ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30⟩
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9 Q10 Q11 Q12 Q13 Q14 Q15 Q16]
  · isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    iempintro
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  iempintro

theorem sems_out (c : Dev nD) : Sems (F := F) c ⊢ SemList c := by
  unfold SemList Sems
  rw [sem14_eq, sem8_eq]
  iintro ⟨Q0, Q1, Q2, Q3, Q4, Q5, Q6, Q7, Q8, ⟨Q9, Q10, Q11, Q12, Q13, Q14, Q15, Q16, -⟩, ⟨Q17, Q18, Q19, Q20, Q21, Q22, Q23, Q24, Q25, Q26, Q27, Q28, Q29, Q30, -⟩⟩
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  iexact Q30

/-- What the kernel reads. -/
def H0 : Finset (Ref sig .tc) := {main_v0, main_arg1, main_v1, main_v2, main_arg4, main_v3}
theorem H0_sub : H0 ⊆ Pipeline.restRefs sig (cfg0.spec) := by decide
/-- What the kernel writes. -/
def R0 : Finset (Ref sig .tc) := {main_v4_0, main_v4_1, main_v4_2, main_v4_3, main_v4_4}
theorem R0_sub : R0 ⊆ Pipeline.restRefs sig (cfg0.spec) \ H0 := by decide
theorem hbmPts0_eq (c : Dev nD) :
    (bigSep H0 (fun b => ((c : Thread nD τ).loc b) ↦{fullShare} V m c b) : sProp 𝕄) = Args c (V m c main_v0) (V m c main_arg1) (V m c main_v1) (V m c main_v2) (V m c main_arg4) (V m c main_v3) := by
  rw [BI.bigSep_eq_bigSepL_of_eq [main_v0, main_arg1, main_v1, main_v2, main_arg4, main_v3] (by decide) (by decide)]; rfl
/-- The results, each at some contents. -/
def OutsE (c : Dev nD) : sProp 𝕄 := iprop(iprop(∃ f : Buf (Elt F) ((c : Thread nD τ).loc main_v4_0), ((c : Thread nD τ).loc main_v4_0) ↦{fullShare} f) ∗ iprop(∃ f : Buf (Elt F) ((c : Thread nD τ).loc main_v4_1), ((c : Thread nD τ).loc main_v4_1) ↦{fullShare} f) ∗ iprop(∃ f : Buf (Elt F) ((c : Thread nD τ).loc main_v4_2), ((c : Thread nD τ).loc main_v4_2) ↦{fullShare} f) ∗ iprop(∃ f : Buf (Elt F) ((c : Thread nD τ).loc main_v4_3), ((c : Thread nD τ).loc main_v4_3) ↦{fullShare} f) ∗ iprop(∃ f : Buf (Elt F) ((c : Thread nD τ).loc main_v4_4), ((c : Thread nD τ).loc main_v4_4) ↦{fullShare} f))
theorem ownedPts0_eq (c : Dev nD) : (Pipeline.owned R0 c : sProp 𝕄) = OutsE c := by
  unfold Pipeline.owned; rw [BI.bigSep_eq_bigSepL_of_eq [main_v4_0, main_v4_1, main_v4_2, main_v4_3, main_v4_4] (by decide) (by decide)]; rfl

theorem PhiDR0_eq (c : Dev nD) :
    (Pipeline.ΦDR osem0 (cfg0.spec) H0 R0 (V m) c : sProp 𝕄) = iprop(Scrs (F := F) c ∗ (∃ r, prngReg c r) ∗ SemList (F := F) c ∗ Args c (V m c main_v0) (V m c main_arg1) (V m c main_v1) (V m c main_v2) (V m c main_arg4) (V m c main_v3) ∗ OutsE (F := F) c) := by
  rw [Pipeline.ΦDR_eq, scopedRest0_eq, ownSems00_eq, hbmPts0_eq, ownedPts0_eq]; rfl

/-- The data of the run. -/
def dats (_ : Fin 1) (c : Dev nD) : Dat τ (Elt F) Unit ℕ (Pipeline.UD sig nD τ) ℕ cfg0 c where
  A w := w.elim0
  after w t := w.elim0
  Φ _ := Pipeline.ΦDR osem0 (cfg0.spec) H0 R0 (V m) c
  q _ := fullShare
  owed _ := 0
theorem A_eq (c : Dev nD) (w : Fin cfg0.W) : (dats m 0 c).A w = V m c (Pipeline.arrRef (cfg0.spec) w) := w.elim0

theorem sound_body (c : Dev nD) (t : Fin cfg0.N) :
    iprop((dats m 0 c).Φ t.castSucc ∗ (dats m 0 c).owesAt () t.castSucc) ⊢ WP c (bodyAt0 t) (fun _ => iprop((dats m 0 c).Φ t.succ ∗ (dats m 0 c).owesAt () t.succ)) := by
  rw [show (dats m 0 c).Φ t.succ = Pipeline.ΦDR osem0 (cfg0.spec) H0 R0 (V m) c from rfl, show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  have hk : bodyAt0 (F := F) t = kMain := by
    show cc0_relu_mlp_fp8 (F := F) _ _ _ _ _ _ _ _ _ _ _ _ _ _ _ _ _ _ _ _ _ _ _ _ _ _ _ _ _ _ _ _ _ _ _ _ _ _ _ _ _ _ _ _ _ _ _ _ _ _ _ _ _ _ _ _ = _
    rw [cc0_relu_mlp_fp8_eq_skeleton]
  rw [hk]
  have hsi := sems_in (F := F) c
  have hso := sems_out (F := F) c
  have hOe : ∀ y a b d e, Outs c y a b d e ⊢ OutsE (F := F) c := by
    intro y a b d e
    unfold Outs OutsE
    iintro ⟨G0, G1, G2, G3, G4⟩
    isplitl [G0]; · iexists _; iexact G0
    isplitl [G1]; · iexists _; iexact G1
    isplitl [G2]; · iexists _; iexact G2
    isplitl [G3]; · iexists _; iexact G3
    iexists _; iexact G4
  have hOi : OutsE (F := F) c ⊢ iprop(∃ y a b d e, Outs c y a b d e) := by
    unfold Outs OutsE
    iintro ⟨⟨%f0, G0⟩, ⟨%f1, G1⟩, ⟨%f2, G2⟩, ⟨%f3, G3⟩, ⟨%f4, G4⟩⟩
    iexists f0, f1, f2, f3, f4
    isplitl [G0]; · iexact G0
    isplitl [G1]; · iexact G1
    isplitl [G2]; · iexact G2
    isplitl [G3]; · iexact G3
    iexact G4
  iintro ⟨⟨HS, Hg, HQ, HA, HO⟩, ⟨%W, -, HW⟩⟩
  ihave HQ := hsi $$ HQ
  ihave HO := hOi $$ HO
  icases HO with ⟨%o0, %o1, %o2, %o3, %o4, HO⟩
  iapply (kernel_ok c (V m c main_v0) (V m c main_arg1) (V m c main_v1) (V m c main_v2) (V m c main_arg4) (V m c main_v3) o0 o1 o2 o3 o4) $$ [HS HQ HA HO HW]
  · isplitl [HA]; · iexact HA
    isplitl [HO]; · iexact HO
    isplitl [HS]; · iexact HS
    isplitl [HQ]; · iexact HQ
    unfold Owes
    iexists W
    iexact HW
  unfold Owes
  iintro %y ⟨-, HA, HO, HS, HQ, %W', HW⟩
  ihave HQ := hso $$ HQ
  ihave HO := (hOe _ _ _ _ _) $$ HO
  isplitr [HW]
  · isplitl [HS]; · iexact HS
    isplitl [Hg]; · iexact Hg
    isplitl [HQ]; · iexact HQ
    isplitl [HA]; · iexact HA
    iexact HO
  iexists W'
  isplitr
  · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  · iintro ⟨H1, H2, -⟩
    isplitl [H1]; · iexact H1
    iexact H2
  · show (_ : sProp 𝕄) ⊢ _
    iintro ⟨H1, H2⟩
    isplitl [H1]; · iexact H1
    isplitl [H2]; · iexact H2
    iapply (Entails.of_eq (by rfl : (iprop(emp) : sProp 𝕄) = _))
    iempintro

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c), ((h.1 c).2 main_arg5 (Finset.mem_sdiff.mpr ⟨Pipeline.mem_restRefs_of main_arg5 (by decide) (by decide), by decide⟩)).trans (V_main_arg5 m c)⟩, h.2⟩) (run_main m ρ)

end Cert.Kernel.Hand

end
-- ==== Proof.KI.Base.lean ====
/- The vocabulary of the kernel's proof: the regions of its buffers, the transfers' deliveries and the
   rules for issuing and awaiting one copy of a 128-row block of the second weight matrix. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The counters' embedding of the transfers. -/
abbrev EC : UEmb Counters (MT nD τ sig Unit (Elt F) ℕ (Pipeline.UD sig nD τ) ℕ) := countersEmb (U := Pipeline.UD sig nD τ)

/-- The weakest precondition of a piece of the kernel on core `c`. -/
abbrev WP {α : Type} (c : Dev nD) (p : Prog (TpuEff nD τ sig (Elt F) Λ₀ .tc) α) (Q : α → sProp (MT nD τ sig Unit (Elt F) ℕ (Pipeline.UD sig nD τ) ℕ)) :
    sProp (MT nD τ sig Unit (Elt F) ℕ (Pipeline.UD sig nD τ) ℕ) :=
  wp frame (wpE (defs₀ (F := F)) Variants.none (c : Thread nD τ) none) Set.univ p Q

/-- The cell at offset `off` of the fourteen cells of the second matrix's copies. -/
abbrev semD (off : Fin 1 → ℕ) (h : ∀ a, off a + S1.size a ≤ S14.size a) : DmaSem sig :=
  ((cc0_scoped3.slice (Rect.unit (s := S14) off S1.size h)).squeeze S_ squeezes_S1_S_).sem

/-- The 128 rows of the ring `arg20` at offset `off`. -/
abbrev mSlot (off : Fin 2 → ℕ) (h : ∀ a, off a + S128x4096.size a ≤ S7168x4096.size a) : Memref sig .tc .vmem S128x4096 .fp8e4m3 :=
  (Memref.whole cc0_scratch9).slice (Rect.unit (s := S7168x4096) off S128x4096.size h) (fun _ => rfl)

/-- The 128 rows of `w_down` at offset `off`. -/
abbrev mBlk (off : Fin 2 → ℕ) (h : ∀ a, off a + S128x4096.size a ≤ S14336x4096.size a) : Memref sig .tc .hbm S128x4096 .fp8e4m3 :=
  (Memref.whole main_arg4).slice (Rect.unit (s := S14336x4096) off S128x4096.size h) (fun _ => rfl)

/-- The elements of slot `s` of the ring. -/
def slotS (s : ℕ) : Finset S7168x4096.Idx := Finset.univ.filter fun x => (x 0).val / 128 = s

/-- The elements of block `i` of `w_down`. -/
def blkS (i : ℕ) : Finset S14336x4096.Idx := Finset.univ.filter fun x => (x 0).val / 128 = i

theorem mSlot_set (s : ℕ) (h) : (mSlot ![128 * s, 0] h).view.set = slotS s := by
  refine (View.set_slice_whole cc0_scratch9 _).trans ?_
  ext x
  rw [Rect.mem_set_unit]
  simp only [slotS, Finset.mem_filter, Finset.mem_univ, true_and]
  have h1 : (x 1).val < 4096 := (x 1).isLt
  refine Fin.forall_fin_two.trans ?_
  show ((128 * s ≤ (x 0).val ∧ (x 0).val < 128 * s + 128) ∧ (0 ≤ (x 1).val ∧ (x 1).val < 0 + 4096)) ↔ (x 0).val / 128 = s
  omega

theorem mBlk_set (i : ℕ) (h) : (mBlk ![128 * i, 0] h).view.set = blkS i := by
  refine (View.set_slice_whole main_arg4 _).trans ?_
  ext x
  rw [Rect.mem_set_unit]
  simp only [blkS, Finset.mem_filter, Finset.mem_univ, true_and]
  have h1 : (x 1).val < 4096 := (x 1).isLt
  refine Fin.forall_fin_two.trans ?_
  show ((128 * i ≤ (x 0).val ∧ (x 0).val < 128 * i + 128) ∧ (0 ≤ (x 1).val ∧ (x 1).val < 0 + 4096)) ↔ (x 0).val / 128 = i
  omega

/-- The cell number `j` (mod 14). -/
def semDn (j : ℕ) : DmaSem sig := ⟨17 + j % 14, by show 17 + j % 14 < 31; omega⟩

theorem semD_all : ∀ j : Fin 14, ∀ h, semD ![j.val] h = semDn j.val := by decide +kernel

theorem semD_eq (j : ℕ) (h) : semD ![j] h = semDn j := by
  have hj : j < 14 := by have := h 0; change j + 1 ≤ 14 at this; omega
  exact semD_all ⟨j, hj⟩ h

/-- What one copy credits its cell with. -/
abbrev KD : ℕ := (mSlot ![0, 0] (by decide)).view.dmaCredit

example (o h1 s h2) : (mSlot o h1).view.amount (.dma (semD s h2)) = KD := rfl
theorem KD_pos : 0 < KD := by decide

/-- The kernel's program at its operands. -/
abbrev kMain : Prog (TpuEff nD τ sig (Elt F) Λ₀ .tc) PUnit := cc0_relu_mlp_fp8_skel (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3
/-- One trip of the loop over the chunks of the first matrix. -/
abbrev upBody : Fin k0_t1_loop.trips → BitVec 32 × FVec F S32x128 .f32 → Prog (TpuEff nD τ sig (Elt F) Λ₀ .tc) (BitVec 32 × FVec F S32x128 .f32) := k0_t1_body (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3
/-- Its first part. -/
abbrev upPart1 (k : Fin k0_t1_loop.trips) := k0_part1_skel (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 0#32 1#32 k
/-- Its second part. -/
abbrev upPart2 (k : Fin k0_t1_loop.trips) (n : BitVec 32) (rm : FVec F S32x128 .f32) (iv : BitVec 32) (h : FVec F S32x512 .f32) := k0_part2_skel (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 k n rm iv h
/-- One trip of the loop over the groups of four live blocks. -/
abbrev dnBody (n : BitVec 32) (hw : k0_chk9 n) (ng : BitVec 32) (s : FVec F S32x1 .f32) (v : FVec F S32x14336 .f32) :
    Fin (k0_t2_loop n).trips → Unit → Prog (TpuEff nD τ sig (Elt F) Λ₀ .tc) Unit := k0_t2_body (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 n hw ng s v

/-- The memref of the list of live blocks. -/
abbrev mLive : Memref sig .tc .smem S116 .i32 := Memref.whole cc0_scratch14

/-- Record block number `w` at the next position of the list of live blocks, if its bit is set (block 0 of a chunk). -/
def blkA0 {α : Type} (n : BitVec 32) (b0 : BitVec 1) (hw : k0_chk1 n b0) (w : BitVec 32) (cont : PUnit → Prog (TpuEff nD τ sig (Elt F) Λ₀ .tc) α) : Prog (TpuEff nD τ sig (Elt F) Λ₀ .tc) α :=
  if k0_h2 : k0_cond2 b0 = 1#1 then do
    let v398_r0 : Elt F .i32 ← smemLoad mLive (Rect.unit (s := S116) (k0_off12 n) S1.size (k0_off12_inb n b0 hw k0_h2)) numel1_S1 rfl
    Prog.lift (.store mLive (Rect.unit (s := S116) (k0_off12 n) S1.size (k0_off12_inb n b0 hw k0_h2)) (fun _ => w) Finset.univ (View.stores_smem_one rfl numel1_S1) (.inl rfl))
    cont ⟨⟩
  else cont ⟨⟩

/-- Start the copy of the block recorded at the next position, if its bit is set and a slot is free (block 0 of a chunk). -/
def blkB0 {α : Type} (n : BitVec 32) (b0 : BitVec 1) (hw : k0_chk1 n b0) (cont : PUnit → Prog (TpuEff nD τ sig (Elt F) Λ₀ .tc) α) : Prog (TpuEff nD τ sig (Elt F) Λ₀ .tc) α :=
  if k0_h3 : k0_cond3 n b0 = 1#1 then do
    let v397_r0 : Elt F .i32 ← smemLoad mLive (Rect.unit (s := S116) (k0_off13 n) S1.size (k0_off13_inb n b0 hw k0_h3)) numel1_S1 rfl
    have k0_hw2 : k0_chk2 n b0 v397_r0 := (← Prog.lift (TpuEff.assume (k0_chk2 n b0 v397_r0) (k0_chk2.dec n b0 v397_r0))).down
    Prog.lift (.enqueueDma (mBlk (k0_off16 v397_r0) (k0_off16_inb n b0 v397_r0 k0_hw2 k0_h3)) (.here (mSlot (k0_off15 n) (k0_off15_inb n b0 hw k0_h3))) (.dma (semD (k0_off14 n) (k0_off14_inb n b0 hw k0_h3))) ((Memref.isWhole_whole _).wordExact_slice rfl _ (k0_off16_wordsfp8e4m3 n b0 v397_r0 k0_hw2 k0_h3)) ((Memref.isWhole_whole _).wordExact_slice rfl _ (k0_off15_wordsfp8e4m3 n b0 hw k0_h3)) ⟨Or.inl rfl, trivial⟩)
    cont ⟨⟩
  else cont ⟨⟩

/-- Record block number `w` at the next position of the list of live blocks, if its bit is set (block 1 of a chunk). -/
def blkA1 {α : Type} (n : BitVec 32) (b0 b1 : BitVec 1) (hw : k0_chk3 n b0 b1) (w : BitVec 32) (cont : PUnit → Prog (TpuEff nD τ sig (Elt F) Λ₀ .tc) α) : Prog (TpuEff nD τ sig (Elt F) Λ₀ .tc) α :=
  if k0_h2 : k0_cond4 b1 = 1#1 then do
    let v398_r0 : Elt F .i32 ← smemLoad mLive (Rect.unit (s := S116) (k0_off17 n b0) S1.size (k0_off17_inb n b0 b1 hw k0_h2)) numel1_S1 rfl
    Prog.lift (.store mLive (Rect.unit (s := S116) (k0_off17 n b0) S1.size (k0_off17_inb n b0 b1 hw k0_h2)) (fun _ => w) Finset.univ (View.stores_smem_one rfl numel1_S1) (.inl rfl))
    cont ⟨⟩
  else cont ⟨⟩

/-- Start the copy of the block recorded at the next position, if its bit is set and a slot is free (block 1 of a chunk). -/
def blkB1 {α : Type} (n : BitVec 32) (b0 b1 : BitVec 1) (hw : k0_chk3 n b0 b1) (cont : PUnit → Prog (TpuEff nD τ sig (Elt F) Λ₀ .tc) α) : Prog (TpuEff nD τ sig (Elt F) Λ₀ .tc) α :=
  if k0_h3 : k0_cond5 n b0 b1 = 1#1 then do
    let v397_r0 : Elt F .i32 ← smemLoad mLive (Rect.unit (s := S116) (k0_off18 n b0) S1.size (k0_off18_inb n b0 b1 hw k0_h3)) numel1_S1 rfl
    have k0_hw2 : k0_chk4 n b0 b1 v397_r0 := (← Prog.lift (TpuEff.assume (k0_chk4 n b0 b1 v397_r0) (k0_chk4.dec n b0 b1 v397_r0))).down
    Prog.lift (.enqueueDma (mBlk (k0_off21 v397_r0) (k0_off21_inb n b0 b1 v397_r0 k0_hw2 k0_h3)) (.here (mSlot (k0_off20 n b0) (k0_off20_inb n b0 b1 hw k0_h3))) (.dma (semD (k0_off19 n b0) (k0_off19_inb n b0 b1 hw k0_h3))) ((Memref.isWhole_whole _).wordExact_slice rfl _ (k0_off21_wordsfp8e4m3 n b0 b1 v397_r0 k0_hw2 k0_h3)) ((Memref.isWhole_whole _).wordExact_slice rfl _ (k0_off20_wordsfp8e4m3 n b0 b1 hw k0_h3)) ⟨Or.inl rfl, trivial⟩)
    cont ⟨⟩
  else cont ⟨⟩

/-- Record block number `w` at the next position of the list of live blocks, if its bit is set (block 2 of a chunk). -/
def blkA2 {α : Type} (n : BitVec 32) (b0 b1 b2 : BitVec 1) (hw : k0_chk5 n b0 b1 b2) (w : BitVec 32) (cont : PUnit → Prog (TpuEff nD τ sig (Elt F) Λ₀ .tc) α) : Prog (TpuEff nD τ sig (Elt F) Λ₀ .tc) α :=
  if k0_h2 : k0_cond6 b2 = 1#1 then do
    let v398_r0 : Elt F .i32 ← smemLoad mLive (Rect.unit (s := S116) (k0_off22 n b0 b1) S1.size (k0_off22_inb n b0 b1 b2 hw k0_h2)) numel1_S1 rfl
    Prog.lift (.store mLive (Rect.unit (s := S116) (k0_off22 n b0 b1) S1.size (k0_off22_inb n b0 b1 b2 hw k0_h2)) (fun _ => w) Finset.univ (View.stores_smem_one rfl numel1_S1) (.inl rfl))
    cont ⟨⟩
  else cont ⟨⟩

/-- Start the copy of the block recorded at the next position, if its bit is set and a slot is free (block 2 of a chunk). -/
def blkB2 {α : Type} (n : BitVec 32) (b0 b1 b2 : BitVec 1) (hw : k0_chk5 n b0 b1 b2) (cont : PUnit → Prog (TpuEff nD τ sig (Elt F) Λ₀ .tc) α) : Prog (TpuEff nD τ sig (Elt F) Λ₀ .tc) α :=
  if k0_h3 : k0_cond7 n b0 b1 b2 = 1#1 then do
    let v397_r0 : Elt F .i32 ← smemLoad mLive (Rect.unit (s := S116) (k0_off23 n b0 b1) S1.size (k0_off23_inb n b0 b1 b2 hw k0_h3)) numel1_S1 rfl
    have k0_hw2 : k0_chk6 n b0 b1 b2 v397_r0 := (← Prog.lift (TpuEff.assume (k0_chk6 n b0 b1 b2 v397_r0) (k0_chk6.dec n b0 b1 b2 v397_r0))).down
    Prog.lift (.enqueueDma (mBlk (k0_off26 v397_r0) (k0_off26_inb n b0 b1 b2 v397_r0 k0_hw2 k0_h3)) (.here (mSlot (k0_off25 n b0 b1) (k0_off25_inb n b0 b1 b2 hw k0_h3))) (.dma (semD (k0_off24 n b0 b1) (k0_off24_inb n b0 b1 b2 hw k0_h3))) ((Memref.isWhole_whole _).wordExact_slice rfl _ (k0_off26_wordsfp8e4m3 n b0 b1 b2 v397_r0 k0_hw2 k0_h3)) ((Memref.isWhole_whole _).wordExact_slice rfl _ (k0_off25_wordsfp8e4m3 n b0 b1 b2 hw k0_h3)) ⟨Or.inl rfl, trivial⟩)
    cont ⟨⟩
  else cont ⟨⟩

/-- Record block number `w` at the next position of the list of live blocks, if its bit is set (block 3 of a chunk). -/
def blkA3 {α : Type} (n : BitVec 32) (b0 b1 b2 b3 : BitVec 1) (hw : k0_chk7 n b0 b1 b2 b3) (w : BitVec 32) (cont : PUnit → Prog (TpuEff nD τ sig (Elt F) Λ₀ .tc) α) : Prog (TpuEff nD τ sig (Elt F) Λ₀ .tc) α :=
  if k0_h2 : k0_cond8 b3 = 1#1 then do
    let v398_r0 : Elt F .i32 ← smemLoad mLive (Rect.unit (s := S116) (k0_off27 n b0 b1 b2) S1.size (k0_off27_inb n b0 b1 b2 b3 hw k0_h2)) numel1_S1 rfl
    Prog.lift (.store mLive (Rect.unit (s := S116) (k0_off27 n b0 b1 b2) S1.size (k0_off27_inb n b0 b1 b2 b3 hw k0_h2)) (fun _ => w) Finset.univ (View.stores_smem_one rfl numel1_S1) (.inl rfl))
    cont ⟨⟩
  else cont ⟨⟩

/-- Start the copy of the block recorded at the next position, if its bit is set and a slot is free (block 3 of a chunk). -/
def blkB3 {α : Type} (n : BitVec 32) (b0 b1 b2 b3 : BitVec 1) (hw : k0_chk7 n b0 b1 b2 b3) (cont : PUnit → Prog (TpuEff nD τ sig (Elt F) Λ₀ .tc) α) : Prog (TpuEff nD τ sig (Elt F) Λ₀ .tc) α :=
  if k0_h3 : k0_cond9 n b0 b1 b2 b3 = 1#1 then do
    let v397_r0 : Elt F .i32 ← smemLoad mLive (Rect.unit (s := S116) (k0_off28 n b0 b1 b2) S1.size (k0_off28_inb n b0 b1 b2 b3 hw k0_h3)) numel1_S1 rfl
    have k0_hw2 : k0_chk8 n b0 b1 b2 b3 v397_r0 := (← Prog.lift (TpuEff.assume (k0_chk8 n b0 b1 b2 b3 v397_r0) (k0_chk8.dec n b0 b1 b2 b3 v397_r0))).down
    Prog.lift (.enqueueDma (mBlk (k0_off31 v397_r0) (k0_off31_inb n b0 b1 b2 b3 v397_r0 k0_hw2 k0_h3)) (.here (mSlot (k0_off30 n b0 b1 b2) (k0_off30_inb n b0 b1 b2 b3 hw k0_h3))) (.dma (semD (k0_off29 n b0 b1 b2) (k0_off29_inb n b0 b1 b2 b3 hw k0_h3))) ((Memref.isWhole_whole _).wordExact_slice rfl _ (k0_off31_wordsfp8e4m3 n b0 b1 b2 b3 v397_r0 k0_hw2 k0_h3)) ((Memref.isWhole_whole _).wordExact_slice rfl _ (k0_off30_wordsfp8e4m3 n b0 b1 b2 b3 hw k0_h3)) ⟨Or.inl rfl, trivial⟩)
    cont ⟨⟩
  else cont ⟨⟩

/-- The refill of a ring slot of the first matrix. -/
def refill {α : Type} (k0_t1 : Fin k0_t1_loop.trips) (cont : PUnit → Prog (TpuEff nD τ sig (Elt F) Λ₀ .tc) α) : Prog (TpuEff nD τ sig (Elt F) Λ₀ .tc) α :=
  if k0_h1 : k0_cond1 k0_t1 = 1#1 then do
    let v398_r0 : DmaSems sig S1 := cc0_scoped2.slice (Rect.unit (s := S8) (k0_off9 k0_t1) S1.size (k0_off9_inb k0_t1 k0_h1))
    let v399_r0 : DmaSems sig S_ := v398_r0.squeeze S_ squeezes_S1_S_
    let v400_r0 : Memref sig .tc .vmem S1x4096x512 .fp8e4m3 := (Memref.whole cc0_scratch8).slice (Rect.unit (s := S8x4096x512) (k0_off10 k0_t1) S1x4096x512.size (k0_off10_inb k0_t1 k0_h1)) (fun _ => rfl)
    let v401_r0 : Memref sig .tc .vmem S4096x512 .fp8e4m3 := v400_r0.squeeze S4096x512 squeezes_S1x4096x512_S4096x512
    let v402_r0 : Memref sig .tc .hbm S4096x512 .fp8e4m3 := (Memref.whole main_arg1).slice (Rect.unit (s := S4096x14336) (k0_off11 k0_t1) S4096x512.size (k0_off11_inb k0_t1 k0_h1)) (fun _ => rfl)
    Prog.lift (.enqueueDma v402_r0 (.here v401_r0) (.dma v399_r0.sem) ((Memref.isWhole_whole _).wordExact_slice rfl _ (k0_off11_wordsfp8e4m3 k0_t1 k0_h1)) (((Memref.isWhole_whole _).wordExact_slice rfl _ (k0_off10_wordsfp8e4m3 k0_t1 k0_h1)).reshape _ _) ⟨Or.inl rfl, trivial⟩)
    cont ⟨⟩
  else cont ⟨⟩

/-- The next position. -/
abbrev nxt (n : BitVec 32) (bit : BitVec 1) : BitVec 32 := Scalar.addi n (Scalar.extui bit)

/-- The bits of the four blocks of a chunk: whether some entry is positive. -/
abbrev bt0 (h : FVec F S32x512 .f32) : BitVec 1 := Scalar.cmpf .ogt (k0_pay5 h) (Scalar.ofBits .f32 0x00000000#32)
/-- The second block's. -/
abbrev bt1 (h : FVec F S32x512 .f32) : BitVec 1 := Scalar.cmpf .ogt (k0_pay7 h) (Scalar.ofBits .f32 0x00000000#32)
/-- The third block's. -/
abbrev bt2 (h : FVec F S32x512 .f32) : BitVec 1 := Scalar.cmpf .ogt (k0_pay10 h) (Scalar.ofBits .f32 0x00000000#32)
/-- The fourth block's. -/
abbrev bt3 (h : FVec F S32x512 .f32) : BitVec 1 := Scalar.cmpf .ogt (k0_pay23 h) (Scalar.ofBits .f32 0x00000000#32)

set_option maxRecDepth 65536 in
/-- The second part of a trip over the chunks, block by block. -/
theorem upPart2_eq (k : Fin k0_t1_loop.trips) (n : BitVec 32) (rm : FVec F S32x128 .f32) (iv : BitVec 32) (h : FVec F S32x512 .f32) :
    upPart2 k n rm iv h = (refill k fun _ =>
      Prog.op (TpuEff.assume (k0_chk1 n (bt0 h)) (k0_chk1.dec n _)) fun hw1 =>
      blkA0 n (bt0 h) hw1.down (Scalar.addi (Scalar.muli iv 4#32) 0#32) fun _ =>
      blkB0 n (bt0 h) hw1.down fun _ =>
      Prog.op (TpuEff.assume (k0_chk3 n (bt0 h) (bt1 h)) (k0_chk3.dec n (bt0 h) _)) fun hw3 =>
      blkA1 n (bt0 h) (bt1 h) hw3.down (Scalar.addi (Scalar.muli iv 4#32) 1#32) fun _ =>
      blkB1 n (bt0 h) (bt1 h) hw3.down fun _ =>
      Prog.op (TpuEff.assume (k0_chk5 n (bt0 h) (bt1 h) (bt2 h)) (k0_chk5.dec n (bt0 h) (bt1 h) _)) fun hw5 =>
      Prog.ret ⟨bt0 h, bt1 h, nxt (nxt n (bt0 h)) (bt1 h), k0_pay9 rm h, bt2 h, hw5.down⟩) := rfl

set_option maxRecDepth 65536 in
/-- A trip over the chunks, block by block. -/
theorem upBody_eq (k : Fin k0_t1_loop.trips) (n : BitVec 32) (rm : FVec F S32x128 .f32) :
    upBody k (n, rm) = (upPart1 k).bind fun r1 => (upPart2 k n rm r1.1 r1.2).bind fun r2 =>
      blkA2 n r2.1 r2.2.1 r2.2.2.2.2.1 r2.2.2.2.2.2 (Scalar.addi (Scalar.muli r1.1 4#32) 2#32) fun _ =>
      blkB2 n r2.1 r2.2.1 r2.2.2.2.2.1 r2.2.2.2.2.2 fun _ =>
      Prog.op (TpuEff.assume (k0_chk7 n r2.1 r2.2.1 r2.2.2.2.2.1 (bt3 r1.2)) (k0_chk7.dec n r2.1 r2.2.1 r2.2.2.2.2.1 _)) fun hw7 =>
      blkA3 n r2.1 r2.2.1 r2.2.2.2.2.1 (bt3 r1.2) hw7.down (Scalar.addi (Scalar.muli r1.1 4#32) 3#32) fun _ =>
      blkB3 n r2.1 r2.2.1 r2.2.2.2.2.1 (bt3 r1.2) hw7.down fun _ =>
      Prog.ret (nxt (nxt r2.2.2.1 r2.2.2.2.2.1) (bt3 r1.2), k0_pay22 r1.2 r2.2.2.2.1) := rfl

end Cert.KernelIdeal.Hand

end
-- ==== Proof.KI.DownDefs.lean ====
/- The loop over the groups of four live blocks, step by step. -/
module

public import proofs.«01_k».proof.Proof.KI.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The first part of a trip over the groups of four live blocks. -/
abbrev dnPart3 (n : BitVec 32) (hw : k0_chk9 n) (t : Fin (k0_t2_loop n).trips) := k0_part3_skel (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 n hw 0#32 1#32 t
/-- The second part of a trip over the groups of four live blocks. -/
abbrev dnPart4 (n : BitVec 32) (hw : k0_chk9 n) (t : Fin (k0_t2_loop n).trips) (v299 : BitVec 32) (v322 v329 : Vec F S32x128 .fp8e4m3) (v332 : BitVec 32) (h16 : k0_chk16 v332) (v333 : BitVec 32) :=
  k0_part4_skel (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 n hw t v299 v322 v329 v332 h16 v333

/-- Wait for the copy of block 0 of the group, if there is one. -/
def dnWait0 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond16 n t = 1#1 then do
    let v : Elt F .i32 ← smemLoad mLive (Rect.unit (s := S116) (k0_off38 n t) S1.size (k0_off38_inb n hw t h)) numel1_S1 rfl
    have hv : k0_chk10 n t v := (← Prog.lift (TpuEff.assume (k0_chk10 n t v) (k0_chk10.dec n t v))).down
    Prog.lift (.waitDma2 (semD (k0_off39 n t) (k0_off39_inb n hw t h)) (mBlk (k0_off41 v) (k0_off41_inb n t v hv h)) (mSlot (k0_off40 n t) (k0_off40_inb n hw t h)) ((Memref.isWhole_whole _).wordExact_slice rfl _ (k0_off41_wordsfp8e4m3 n t v hv h)) ((Memref.isWhole_whole _).wordExact_slice rfl _ (k0_off40_wordsfp8e4m3 n hw t h)))
    cont ⟨⟩
  else cont ⟨⟩

/-- Wait for the copy of block 1 of the group, if there is one. -/
def dnWait1 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond17 n t = 1#1 then do
    let v : Elt F .i32 ← smemLoad mLive (Rect.unit (s := S116) (k0_off42 n t) S1.size (k0_off42_inb n hw t h)) numel1_S1 rfl
    have hv : k0_chk11 n t v := (← Prog.lift (TpuEff.assume (k0_chk11 n t v) (k0_chk11.dec n t v))).down
    Prog.lift (.waitDma2 (semD (k0_off43 n t) (k0_off43_inb n hw t h)) (mBlk (k0_off45 v) (k0_off45_inb n t v hv h)) (mSlot (k0_off44 n t) (k0_off44_inb n hw t h)) ((Memref.isWhole_whole _).wordExact_slice rfl _ (k0_off45_wordsfp8e4m3 n t v hv h)) ((Memref.isWhole_whole _).wordExact_slice rfl _ (k0_off44_wordsfp8e4m3 n hw t h)))
    cont ⟨⟩
  else cont ⟨⟩

/-- Wait for the copy of block 2 of the group, if there is one. -/
def dnWait2 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond18 n t = 1#1 then do
    let v : Elt F .i32 ← smemLoad mLive (Rect.unit (s := S116) (k0_off46 n t) S1.size (k0_off46_inb n hw t h)) numel1_S1 rfl
    have hv : k0_chk12 n t v := (← Prog.lift (TpuEff.assume (k0_chk12 n t v) (k0_chk12.dec n t v))).down
    Prog.lift (.waitDma2 (semD (k0_off47 n t) (k0_off47_inb n hw t h)) (mBlk (k0_off49 v) (k0_off49_inb n t v hv h)) (mSlot (k0_off48 n t) (k0_off48_inb n hw t h)) ((Memref.isWhole_whole _).wordExact_slice rfl _ (k0_off49_wordsfp8e4m3 n t v hv h)) ((Memref.isWhole_whole _).wordExact_slice rfl _ (k0_off48_wordsfp8e4m3 n hw t h)))
    cont ⟨⟩
  else cont ⟨⟩

/-- Wait for the copy of block 3 of the group, if there is one. -/
def dnWait3 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond19 n t = 1#1 then do
    let v : Elt F .i32 ← smemLoad mLive (Rect.unit (s := S116) (k0_off50 n t) S1.size (k0_off50_inb n hw t h)) numel1_S1 rfl
    have hv : k0_chk13 n t v := (← Prog.lift (TpuEff.assume (k0_chk13 n t v) (k0_chk13.dec n t v))).down
    Prog.lift (.waitDma2 (semD (k0_off51 n t) (k0_off51_inb n hw t h)) (mBlk (k0_off53 v) (k0_off53_inb n t v hv h)) (mSlot (k0_off52 n t) (k0_off52_inb n hw t h)) ((Memref.isWhole_whole _).wordExact_slice rfl _ (k0_off53_wordsfp8e4m3 n t v hv h)) ((Memref.isWhole_whole _).wordExact_slice rfl _ (k0_off52_wordsfp8e4m3 n hw t h)))
    cont ⟨⟩
  else cont ⟨⟩

/-- Start the copy of the block fourteen groups later into the slot of block 0, if there is one. -/
def dnFill0 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond20 n t = 1#1 then do
    let v : Elt F .i32 ← smemLoad mLive (Rect.unit (s := S116) (k0_off63 n t) S1.size (k0_off63_inb n hw t h)) numel1_S1 rfl
    have hv : k0_chk18 n t v := (← Prog.lift (TpuEff.assume (k0_chk18 n t v) (k0_chk18.dec n t v))).down
    Prog.lift (.enqueueDma (mBlk (k0_off66 v) (k0_off66_inb n t v hv h)) (.here (mSlot (k0_off65 n t) (k0_off65_inb n hw t h))) (.dma (semD (k0_off64 n t) (k0_off64_inb n hw t h))) ((Memref.isWhole_whole _).wordExact_slice rfl _ (k0_off66_wordsfp8e4m3 n t v hv h)) ((Memref.isWhole_whole _).wordExact_slice rfl _ (k0_off65_wordsfp8e4m3 n hw t h)) ⟨Or.inl rfl, trivial⟩)
    cont ⟨⟩
  else cont ⟨⟩

/-- Start the copy of the block fourteen groups later into the slot of block 1, if there is one. -/
def dnFill1 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond21 n t = 1#1 then do
    let v : Elt F .i32 ← smemLoad mLive (Rect.unit (s := S116) (k0_off67 n t) S1.size (k0_off67_inb n hw t h)) numel1_S1 rfl
    have hv : k0_chk19 n t v := (← Prog.lift (TpuEff.assume (k0_chk19 n t v) (k0_chk19.dec n t v))).down
    Prog.lift (.enqueueDma (mBlk (k0_off70 v) (k0_off70_inb n t v hv h)) (.here (mSlot (k0_off69 n t) (k0_off69_inb n hw t h))) (.dma (semD (k0_off68 n t) (k0_off68_inb n hw t h))) ((Memref.isWhole_whole _).wordExact_slice rfl _ (k0_off70_wordsfp8e4m3 n t v hv h)) ((Memref.isWhole_whole _).wordExact_slice rfl _ (k0_off69_wordsfp8e4m3 n hw t h)) ⟨Or.inl rfl, trivial⟩)
    cont ⟨⟩
  else cont ⟨⟩

/-- Start the copy of the block fourteen groups later into the slot of block 2, if there is one. -/
def dnFill2 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond22 n t = 1#1 then do
    let v : Elt F .i32 ← smemLoad mLive (Rect.unit (s := S116) (k0_off71 n t) S1.size (k0_off71_inb n hw t h)) numel1_S1 rfl
    have hv : k0_chk20 n t v := (← Prog.lift (TpuEff.assume (k0_chk20 n t v) (k0_chk20.dec n t v))).down
    Prog.lift (.enqueueDma (mBlk (k0_off74 v) (k0_off74_inb n t v hv h)) (.here (mSlot (k0_off73 n t) (k0_off73_inb n hw t h))) (.dma (semD (k0_off72 n t) (k0_off72_inb n hw t h))) ((Memref.isWhole_whole _).wordExact_slice rfl _ (k0_off74_wordsfp8e4m3 n t v hv h)) ((Memref.isWhole_whole _).wordExact_slice rfl _ (k0_off73_wordsfp8e4m3 n hw t h)) ⟨Or.inl rfl, trivial⟩)
    cont ⟨⟩
  else cont ⟨⟩

/-- Start the copy of the block fourteen groups later into the slot of block 3, if there is one. -/
def dnFill3 {α : Type} (n : BitVec 32) (hw : k0_chk9 n) (t : Fin (k0_t2_loop n).trips) (cont : PUnit → Prog (TpuEff nD τ sig (Elt F) Λ₀ .tc) α) : Prog (TpuEff nD τ sig (Elt F) Λ₀ .tc) α :=
  if h : k0_cond23 n t = 1#1 then do
    let v : Elt F .i32 ← smemLoad mLive (Rect.unit (s := S116) (k0_off75 n t) S1.size (k0_off75_inb n hw t h)) numel1_S1 rfl
    have hv : k0_chk21 n t v := (← Prog.lift (TpuEff.assume (k0_chk21 n t v) (k0_chk21.dec n t v))).down
    Prog.lift (.enqueueDma (mBlk (k0_off78 v) (k0_off78_inb n t v hv h)) (.here (mSlot (k0_off77 n t) (k0_off77_inb n hw t h))) (.dma (semD (k0_off76 n t) (k0_off76_inb n hw t h))) ((Memref.isWhole_whole _).wordExact_slice rfl _ (k0_off78_wordsfp8e4m3 n t v hv h)) ((Memref.isWhole_whole _).wordExact_slice rfl _ (k0_off77_wordsfp8e4m3 n hw t h)) ⟨Or.inl rfl, trivial⟩)
    cont ⟨⟩
  else cont ⟨⟩

/-- The positions of the first three blocks, and the codes of the first two. -/
def dnLd3 (n : BitVec 32) (hw : k0_chk9 n) (t : Fin (k0_t2_loop n).trips) :
    Prog (TpuEff nD τ sig (Elt F) Λ₀ .tc) (Σ' (v299_r0 : BitVec 32) (v322_r0 : Vec F S32x128 .fp8e4m3) (v329_r0 : Vec F S32x128 .fp8e4m3) (v332_r0 : Elt F .i32) (k0_hw16 : k0_chk16 v332_r0), BitVec 32) := do
  let v318 : Elt F .i32 ← smemLoad mLive (Rect.unit (s := S116) (k0_off54 n t) S1.size (k0_off54_inb n hw t)) numel1_S1 rfl
  have h14 : k0_chk14 v318 := (← Prog.lift (TpuEff.assume (k0_chk14 v318) (k0_chk14.dec v318))).down
  let v322 : Vec F S32x128 .fp8e4m3 ← Prog.lift (.load (Memref.whole cc0_scratch11) (Rect.unit (s := S32x14464) (k0_off55 v318) S32x128.size (k0_off55_inb v318 h14)).toLoadRect (View.loadsAt_vmem h_S32x128))
  let v325 : Elt F .i32 ← smemLoad mLive (Rect.unit (s := S116) (k0_off56 n t) S1.size (k0_off56_inb n hw t)) numel1_S1 rfl
  have h15 : k0_chk15 v325 := (← Prog.lift (TpuEff.assume (k0_chk15 v325) (k0_chk15.dec v325))).down
  let v329 : Vec F S32x128 .fp8e4m3 ← Prog.lift (.load (Memref.whole cc0_scratch11) (Rect.unit (s := S32x14464) (k0_off57 v325) S32x128.size (k0_off57_inb v325 h15)).toLoadRect (View.loadsAt_vmem h_S32x128))
  let v332 : Elt F .i32 ← smemLoad mLive (Rect.unit (s := S116) (k0_off58 n t) S1.size (k0_off58_inb n hw t)) numel1_S1 rfl
  have h16 : k0_chk16 v332 := (← Prog.lift (TpuEff.assume (k0_chk16 v332) (k0_chk16.dec v332))).down
  pure ⟨Scalar.muli (Scf.iv 0#32 1#32 t) 4#32, v322, v329, v332, h16, Scalar.muli v332 128#32⟩

/-- The remaining codes, the rows, and the group's share of the product. -/
def dnLd4 {α : Type} (n : BitVec 32) (hw : k0_chk9 n) (t : Fin (k0_t2_loop n).trips) (v322 v329 : Vec F S32x128 .fp8e4m3) (v332 : BitVec 32) (h16 : k0_chk16 v332) (cont : PUnit → Prog (TpuEff nD τ sig (Elt F) Λ₀ .tc) α) : Prog (TpuEff nD τ sig (Elt F) Λ₀ .tc) α := do
  let v336 : Vec F S32x128 .fp8e4m3 ← Prog.lift (.load (Memref.whole cc0_scratch11) (Rect.unit (s := S32x14464) (k0_off59 v332) S32x128.size (k0_off59_inb v332 h16)).toLoadRect (View.loadsAt_vmem h_S32x128))
  let v339 : Elt F .i32 ← smemLoad mLive (Rect.unit (s := S116) (k0_off60 n t) S1.size (k0_off60_inb n hw t)) numel1_S1 rfl
  have h17 : k0_chk17 v339 := (← Prog.lift (TpuEff.assume (k0_chk17 v339) (k0_chk17.dec v339))).down
  let v343 : Vec F S32x128 .fp8e4m3 ← Prog.lift (.load (Memref.whole cc0_scratch11) (Rect.unit (s := S32x14464) (k0_off61 v339) S32x128.size (k0_off61_inb v339 h17)).toLoadRect (View.loadsAt_vmem h_S32x128))
  let v348 : Vec F S32x4096 .f32 ← Prog.lift (.load (Memref.whole cc0_scratch12) (Rect.unit (s := S32x4096) ![0, 0] S32x4096.size inb_S32x4096_S32x4096_0_0).toLoadRect (View.loadsAt_vmem h_S32x4096))
  let v350 : Vec F S512x4096 .fp8e4m3 ← Prog.lift (.load (Memref.whole cc0_scratch9) (Rect.unit (s := S7168x4096) (k0_off62 n t) S512x4096.size (k0_off62_inb n hw t)).toLoadRect (View.loadsAt_vmem h_S512x4096))
  let v353 : Vec F S32x4096 .f32 ← Prog.lift (.load (Memref.whole cc0_scratch12) (Rect.unit (s := S32x4096) ![0, 0] S32x4096.size inb_S32x4096_S32x4096_0_0).toLoadRect (View.loadsAt_vmem h_S32x4096))
  Prog.lift (.store (Memref.whole cc0_scratch12) (Rect.unit (s := S32x4096) ![0, 0] S32x4096.size inb_S32x4096_S32x4096_0_0) (k0_pay11 v322 v329 v336 v343 v348 v350) Finset.univ (View.stores_vmem_bits_univ h_S32x4096 rfl) (.inl rfl))
  cont ⟨⟩

set_option maxRecDepth 65536 in
/-- The first part of a trip, wait by wait. -/
theorem dnPart3_eq (n : BitVec 32) (hw : k0_chk9 n) (t : Fin (k0_t2_loop n).trips) :
    dnPart3 (F := F) n hw t = dnWait0 n hw t fun _ => dnWait1 n hw t fun _ => dnWait2 n hw t fun _ => dnWait3 n hw t fun _ => dnLd3 n hw t := rfl

set_option maxRecDepth 65536 in
/-- The second part of a trip, refill by refill. -/
theorem dnPart4_eq (n : BitVec 32) (hw : k0_chk9 n) (t : Fin (k0_t2_loop n).trips) (v299 : BitVec 32) (v322 v329 : Vec F S32x128 .fp8e4m3) (v332 : BitVec 32) (h16 : k0_chk16 v332) (v333 : BitVec 32) :
    dnPart4 (F := F) n hw t v299 v322 v329 v332 h16 v333 = dnLd4 n hw t v322 v329 v332 h16 fun _ => dnFill0 n hw t fun _ => dnFill1 n hw t fun _ =>
      Prog.ret (Scalar.extui (Scalar.cmpi .slt (Scalar.addi (Scalar.addi v299 56#32) 2#32) n)) := rfl

set_option maxRecDepth 65536 in
/-- A trip over the groups, put together. -/
theorem dnBody_eq (n : BitVec 32) (hw : k0_chk9 n) (ng : BitVec 32) (s : FVec F S32x1 .f32) (v : FVec F S32x14336 .f32) (t : Fin (k0_t2_loop n).trips) :
    dnBody n hw ng s v t () = (dnPart3 n hw t).bind fun r => (dnPart4 n hw t r.1 r.2.1 r.2.2.1 r.2.2.2.1 r.2.2.2.2.1 r.2.2.2.2.2).bind fun _ =>
      dnFill2 n hw t fun _ => dnFill3 n hw t fun _ => Prog.ret () := rfl

end Cert.KernelIdeal.Hand

end
-- ==== Proof.KI.Words.lean ====
/- The kernel's word arithmetic in closed form: the count of live blocks is a natural number at most
   112, a position in the list of live blocks a natural number, a block number one below 112, and every
   offset, condition and side condition the kernel computes from them is stated in those numbers. -/
module

public import proofs.«01_k».proof.Proof.KI.Base

@[expose] public section

set_option maxRecDepth 65536

namespace Cert.KernelIdeal.Hand

open Cert.KernelIdeal Cert.KernelIdeal.Gen
open Idealize.ShloMosaic Idealize.ShloMosaic.TcCoe

/-- The word of a natural number. -/
abbrev W (n : ℕ) : BitVec 32 := BitVec.ofNat 32 n

theorem nxt_all : ∀ n : Fin 113, ∀ b : BitVec 1, nxt (W n) b = W (n + b.toNat) := by decide +kernel
/-- Adding a bit to a count. -/
theorem nxt_eq {n : ℕ} (h : n ≤ 112) (b : BitVec 1) : nxt (W n) b = W (n + b.toNat) := nxt_all ⟨n, by omega⟩ b

theorem condA_all : ∀ b : BitVec 1, k0_cond2 b = 1#1 ↔ b = 1#1 := by decide
theorem condB_all : ∀ n : Fin 113, ∀ b : BitVec 1, k0_cond3 (W n) b = 1#1 ↔ (b = 1#1 ∧ n.val < 56) := by decide +kernel
theorem condB_eq {n : ℕ} (h : n ≤ 112) (b : BitVec 1) : k0_cond3 (W n) b = 1#1 ↔ (b = 1#1 ∧ n < 56) := condB_all ⟨n, by omega⟩ b

theorem offA_all : ∀ n : Fin 113, k0_off12 (W n) = ![n.val] := by decide +kernel
theorem offA_eq {n : ℕ} (h : n ≤ 112) : k0_off12 (W n) = ![n] := offA_all ⟨n, by omega⟩
theorem offC_all : ∀ n : Fin 113, k0_off14 (W n) = ![n.val / 4 % 14] := by decide +kernel
theorem offC_eq {n : ℕ} (h : n ≤ 112) : k0_off14 (W n) = ![n / 4 % 14] := offC_all ⟨n, by omega⟩
theorem offS_all : ∀ n : Fin 113, k0_off15 (W n) = ![128 * (n.val % 56), 0] := by decide +kernel
theorem offS_eq {n : ℕ} (h : n ≤ 112) : k0_off15 (W n) = ![128 * (n % 56), 0] := offS_all ⟨n, by omega⟩
theorem offW_all : ∀ i : Fin 112, k0_off16 (W i) = ![128 * i.val, 0] := by decide +kernel
theorem offW_eq {i : ℕ} (h : i < 112) : k0_off16 (W i) = ![128 * i, 0] := offW_all ⟨i, h⟩

theorem chk1_all : ∀ n : Fin 113, ∀ b : BitVec 1, k0_chk1 (W n) b := by decide +kernel
/-- Every position up to 112 passes the side condition of a block. -/
theorem chk1_ok {n : ℕ} (h : n ≤ 112) (b : BitVec 1) : k0_chk1 (W n) b := chk1_all ⟨n, by omega⟩ b

theorem blkOk_all : ∀ i : Fin 112, (∀ a, (k0_off16 (W i)) a + S128x4096.size a ≤ S14336x4096.size a) ∧
    (∀ (hinb : ∀ a, (k0_off16 (W i)) a + S128x4096.size a ≤ S14336x4096.size a), (Rect.unit (s := S14336x4096) (k0_off16 (W i)) S128x4096.size hinb).WholeWords (EltTy.packing .fp8e4m3)) := by decide +kernel
/-- The rows of a block lie inside `w_down` and are whole words. -/
theorem blkOk {i : ℕ} (h : i < 112) : (∀ a, (k0_off16 (W i)) a + S128x4096.size a ≤ S14336x4096.size a) ∧
    (∀ (hinb : ∀ a, (k0_off16 (W i)) a + S128x4096.size a ≤ S14336x4096.size a), (Rect.unit (s := S14336x4096) (k0_off16 (W i)) S128x4096.size hinb).WholeWords (EltTy.packing .fp8e4m3)) := blkOk_all ⟨i, h⟩

theorem condA0 (b : BitVec 1) : k0_cond2 b = 1#1 ↔ b = 1#1 := condA_all b
theorem condB0 (n : BitVec 32) (b0 : BitVec 1) : k0_cond3 n b0 = k0_cond3 n b0 := rfl
theorem offA0 (n : BitVec 32) : k0_off12 n = k0_off12 n := rfl
theorem offA'0 (n : BitVec 32) : k0_off13 n = k0_off12 n := rfl
theorem offC0 (n : BitVec 32) : k0_off14 n = k0_off14 n := rfl
theorem offS0 (n : BitVec 32) : k0_off15 n = k0_off15 n := rfl
theorem offW0 (w : BitVec 32) : k0_off16 w = k0_off16 w := rfl
theorem chkA0 (n : BitVec 32) (b0 : BitVec 1) (h : k0_chk1 n b0) : k0_chk1 n b0 := h
theorem chkB0 (n : BitVec 32) (b0 : BitVec 1) {i : ℕ} (h : i < 112) : k0_chk2 n b0 (W i) := ⟨fun _ => (blkOk h).1, fun _ => (blkOk h).2⟩

theorem condA1 (b : BitVec 1) : k0_cond4 b = 1#1 ↔ b = 1#1 := condA_all b
theorem condB1 (n : BitVec 32) (b0 b1 : BitVec 1) : k0_cond5 n b0 b1 = k0_cond3 (nxt n b0) b1 := rfl
theorem offA1 (n : BitVec 32) (b0 : BitVec 1) : k0_off17 n b0 = k0_off12 (nxt n b0) := rfl
theorem offA'1 (n : BitVec 32) (b0 : BitVec 1) : k0_off18 n b0 = k0_off12 (nxt n b0) := rfl
theorem offC1 (n : BitVec 32) (b0 : BitVec 1) : k0_off19 n b0 = k0_off14 (nxt n b0) := rfl
theorem offS1 (n : BitVec 32) (b0 : BitVec 1) : k0_off20 n b0 = k0_off15 (nxt n b0) := rfl
theorem offW1 (w : BitVec 32) : k0_off21 w = k0_off16 w := rfl
theorem chkA1 (n : BitVec 32) (b0 b1 : BitVec 1) (h : k0_chk1 (nxt n b0) b1) : k0_chk3 n b0 b1 := h
theorem chkB1 (n : BitVec 32) (b0 b1 : BitVec 1) {i : ℕ} (h : i < 112) : k0_chk4 n b0 b1 (W i) := ⟨fun _ => (blkOk h).1, fun _ => (blkOk h).2⟩

theorem condA2 (b : BitVec 1) : k0_cond6 b = 1#1 ↔ b = 1#1 := condA_all b
theorem condB2 (n : BitVec 32) (b0 b1 b2 : BitVec 1) : k0_cond7 n b0 b1 b2 = k0_cond3 (nxt (nxt n b0) b1) b2 := rfl
theorem offA2 (n : BitVec 32) (b0 b1 : BitVec 1) : k0_off22 n b0 b1 = k0_off12 (nxt (nxt n b0) b1) := rfl
theorem offA'2 (n : BitVec 32) (b0 b1 : BitVec 1) : k0_off23 n b0 b1 = k0_off12 (nxt (nxt n b0) b1) := rfl
theorem offC2 (n : BitVec 32) (b0 b1 : BitVec 1) : k0_off24 n b0 b1 = k0_off14 (nxt (nxt n b0) b1) := rfl
theorem offS2 (n : BitVec 32) (b0 b1 : BitVec 1) : k0_off25 n b0 b1 = k0_off15 (nxt (nxt n b0) b1) := rfl
theorem offW2 (w : BitVec 32) : k0_off26 w = k0_off16 w := rfl
theorem chkA2 (n : BitVec 32) (b0 b1 b2 : BitVec 1) (h : k0_chk1 (nxt (nxt n b0) b1) b2) : k0_chk5 n b0 b1 b2 := h
theorem chkB2 (n : BitVec 32) (b0 b1 b2 : BitVec 1) {i : ℕ} (h : i < 112) : k0_chk6 n b0 b1 b2 (W i) := ⟨fun _ => (blkOk h).1, fun _ => (blkOk h).2⟩

theorem condA3 (b : BitVec 1) : k0_cond8 b = 1#1 ↔ b = 1#1 := condA_all b
theorem condB3 (n : BitVec 32) (b0 b1 b2 b3 : BitVec 1) : k0_cond9 n b0 b1 b2 b3 = k0_cond3 (nxt (nxt (nxt n b0) b1) b2) b3 := rfl
theorem offA3 (n : BitVec 32) (b0 b1 b2 : BitVec 1) : k0_off27 n b0 b1 b2 = k0_off12 (nxt (nxt (nxt n b0) b1) b2) := rfl
theorem offA'3 (n : BitVec 32) (b0 b1 b2 : BitVec 1) : k0_off28 n b0 b1 b2 = k0_off12 (nxt (nxt (nxt n b0) b1) b2) := rfl
theorem offC3 (n : BitVec 32) (b0 b1 b2 : BitVec 1) : k0_off29 n b0 b1 b2 = k0_off14 (nxt (nxt (nxt n b0) b1) b2) := rfl
theorem offS3 (n : BitVec 32) (b0 b1 b2 : BitVec 1) : k0_off30 n b0 b1 b2 = k0_off15 (nxt (nxt (nxt n b0) b1) b2) := rfl
theorem offW3 (w : BitVec 32) : k0_off31 w = k0_off16 w := rfl
theorem chkA3 (n : BitVec 32) (b0 b1 b2 b3 : BitVec 1) (h : k0_chk1 (nxt (nxt (nxt n b0) b1) b2) b3) : k0_chk7 n b0 b1 b2 b3 := h
theorem chkB3 (n : BitVec 32) (b0 b1 b2 b3 : BitVec 1) {i : ℕ} (h : i < 112) : k0_chk8 n b0 b1 b2 b3 (W i) := ⟨fun _ => (blkOk h).1, fun _ => (blkOk h).2⟩

theorem chk9_all : ∀ n : Fin 113, k0_chk9 (W n) := by decide +kernel
/-- Every count up to 112 passes the side condition of the second loop. -/
theorem chk9_ok {n : ℕ} (h : n ≤ 112) : k0_chk9 (W n) := chk9_all ⟨n, by omega⟩

theorem trips_all : ∀ n : Fin 113, (k0_t2_loop (W n)).trips = (n.val + 3) / 4 := by decide +kernel
/-- The number of groups of four. -/
theorem trips_eq {n : ℕ} (h : n ≤ 112) : (k0_t2_loop (W n)).trips = (n + 3) / 4 := trips_all ⟨n, by omega⟩
theorem trips3_all : ∀ n : Fin 113, (k0_t3_loop (W n)).trips = 0 := by decide +kernel
theorem trips3_eq {n : ℕ} (h : n ≤ 112) : (k0_t3_loop (W n)).trips = 0 := trips3_all ⟨n, by omega⟩

theorem bOff_all : ∀ i : Fin 113, k0_off55 (W i) = ![0, 128 * i.val] := by decide +kernel
theorem bOff_eq {i : ℕ} (h : i ≤ 112) : k0_off55 (W i) = ![0, 128 * i] := bOff_all ⟨i, by omega⟩
theorem chk14_all : ∀ i : Fin 113, k0_chk14 (W i) := by decide +kernel
theorem chk14_ok {i : ℕ} (h : i ≤ 112) : k0_chk14 (W i) := chk14_all ⟨i, by omega⟩
theorem bOff0 (w : BitVec 32) : k0_off55 w = k0_off55 w := rfl
theorem chkL0 {i : ℕ} (h : i ≤ 112) : k0_chk14 (W i) := chk14_ok h
theorem bOff1 (w : BitVec 32) : k0_off57 w = k0_off55 w := rfl
theorem chkL1 {i : ℕ} (h : i ≤ 112) : k0_chk15 (W i) := chk14_ok h
theorem bOff2 (w : BitVec 32) : k0_off59 w = k0_off55 w := rfl
theorem chkL2 {i : ℕ} (h : i ≤ 112) : k0_chk16 (W i) := chk14_ok h
theorem bOff3 (w : BitVec 32) : k0_off61 w = k0_off55 w := rfl
theorem chkL3 {i : ℕ} (h : i ≤ 112) : k0_chk17 (W i) := chk14_ok h
theorem lOff0_all : ∀ n : Fin 113, ∀ t : Fin (k0_t2_loop (W n)).trips, k0_off54 (W n) t = ![4 * t.val + 0] := by decide +kernel
theorem wCond0_all : ∀ n : Fin 113, ∀ t : Fin (k0_t2_loop (W n)).trips, k0_cond16 (W n) t = 1#1 ↔ 4 * t.val + 0 < n.val := by decide +kernel
theorem wOffL0_all : ∀ n : Fin 113, ∀ t : Fin (k0_t2_loop (W n)).trips, k0_off38 (W n) t = ![4 * t.val + 0] := by decide +kernel
theorem wOffC0_all : ∀ n : Fin 113, ∀ t : Fin (k0_t2_loop (W n)).trips, k0_off39 (W n) t = ![(4 * t.val + 0) / 4 % 14] := by decide +kernel
theorem rCond0_all : ∀ n : Fin 113, ∀ t : Fin (k0_t2_loop (W n)).trips, k0_cond20 (W n) t = 1#1 ↔ 4 * t.val + 56 + 0 < n.val := by decide +kernel
theorem rOffL0_all : ∀ n : Fin 113, ∀ t : Fin (k0_t2_loop (W n)).trips, k0_off63 (W n) t = ![4 * t.val + 56 + 0] := by decide +kernel
theorem rOffC0_all : ∀ n : Fin 113, ∀ t : Fin (k0_t2_loop (W n)).trips, k0_off64 (W n) t = ![(4 * t.val + 56 + 0) / 4 % 14] := by decide +kernel
theorem rOffS0_all : ∀ n : Fin 113, ∀ t : Fin (k0_t2_loop (W n)).trips, k0_off65 (W n) t = ![128 * ((4 * t.val + 56 + 0) % 56), 0] := by decide +kernel
theorem wChk0 (n : BitVec 32) (t : Fin (k0_t2_loop n).trips) {i : ℕ} (h : i < 112) : k0_chk10 n t (W i) := ⟨fun _ => (blkOk h).1, fun _ => (blkOk h).2⟩
theorem rChk0 (n : BitVec 32) (t : Fin (k0_t2_loop n).trips) {i : ℕ} (h : i < 112) : k0_chk18 n t (W i) := ⟨fun _ => (blkOk h).1, fun _ => (blkOk h).2⟩
theorem rOffW0 (w : BitVec 32) : k0_off66 w = k0_off16 w := rfl
theorem lOff1_all : ∀ n : Fin 113, ∀ t : Fin (k0_t2_loop (W n)).trips, k0_off56 (W n) t = ![4 * t.val + 1] := by decide +kernel
theorem wCond1_all : ∀ n : Fin 113, ∀ t : Fin (k0_t2_loop (W n)).trips, k0_cond17 (W n) t = 1#1 ↔ 4 * t.val + 1 < n.val := by decide +kernel
theorem wOffL1_all : ∀ n : Fin 113, ∀ t : Fin (k0_t2_loop (W n)).trips, k0_off42 (W n) t = ![4 * t.val + 1] := by decide +kernel
theorem wOffC1_all : ∀ n : Fin 113, ∀ t : Fin (k0_t2_loop (W n)).trips, k0_off43 (W n) t = ![(4 * t.val + 1) / 4 % 14] := by decide +kernel
theorem rCond1_all : ∀ n : Fin 113, ∀ t : Fin (k0_t2_loop (W n)).trips, k0_cond21 (W n) t = 1#1 ↔ 4 * t.val + 56 + 1 < n.val := by decide +kernel
theorem rOffL1_all : ∀ n : Fin 113, ∀ t : Fin (k0_t2_loop (W n)).trips, k0_off67 (W n) t = ![4 * t.val + 56 + 1] := by decide +kernel
theorem rOffC1_all : ∀ n : Fin 113, ∀ t : Fin (k0_t2_loop (W n)).trips, k0_off68 (W n) t = ![(4 * t.val + 56 + 1) / 4 % 14] := by decide +kernel
theorem rOffS1_all : ∀ n : Fin 113, ∀ t : Fin (k0_t2_loop (W n)).trips, k0_off69 (W n) t = ![128 * ((4 * t.val + 56 + 1) % 56), 0] := by decide +kernel
theorem wChk1 (n : BitVec 32) (t : Fin (k0_t2_loop n).trips) {i : ℕ} (h : i < 112) : k0_chk11 n t (W i) := ⟨fun _ => (blkOk h).1, fun _ => (blkOk h).2⟩
theorem rChk1 (n : BitVec 32) (t : Fin (k0_t2_loop n).trips) {i : ℕ} (h : i < 112) : k0_chk19 n t (W i) := ⟨fun _ => (blkOk h).1, fun _ => (blkOk h).2⟩
theorem rOffW1 (w : BitVec 32) : k0_off70 w = k0_off16 w := rfl
theorem lOff2_all : ∀ n : Fin 113, ∀ t : Fin (k0_t2_loop (W n)).trips, k0_off58 (W n) t = ![4 * t.val + 2] := by decide +kernel
theorem wCond2_all : ∀ n : Fin 113, ∀ t : Fin (k0_t2_loop (W n)).trips, k0_cond18 (W n) t = 1#1 ↔ 4 * t.val + 2 < n.val := by decide +kernel
theorem wOffL2_all : ∀ n : Fin 113, ∀ t : Fin (k0_t2_loop (W n)).trips, k0_off46 (W n) t = ![4 * t.val + 2] := by decide +kernel
theorem wOffC2_all : ∀ n : Fin 113, ∀ t : Fin (k0_t2_loop (W n)).trips, k0_off47 (W n) t = ![(4 * t.val + 2) / 4 % 14] := by decide +kernel
theorem rCond2_all : ∀ n : Fin 113, ∀ t : Fin (k0_t2_loop (W n)).trips, k0_cond22 (W n) t = 1#1 ↔ 4 * t.val + 56 + 2 < n.val := by decide +kernel
theorem rOffL2_all : ∀ n : Fin 113, ∀ t : Fin (k0_t2_loop (W n)).trips, k0_off71 (W n) t = ![4 * t.val + 56 + 2] := by decide +kernel
theorem rOffC2_all : ∀ n : Fin 113, ∀ t : Fin (k0_t2_loop (W n)).trips, k0_off72 (W n) t = ![(4 * t.val + 56 + 2) / 4 % 14] := by decide +kernel
theorem rOffS2_all : ∀ n : Fin 113, ∀ t : Fin (k0_t2_loop (W n)).trips, k0_off73 (W n) t = ![128 * ((4 * t.val + 56 + 2) % 56), 0] := by decide +kernel
theorem wChk2 (n : BitVec 32) (t : Fin (k0_t2_loop n).trips) {i : ℕ} (h : i < 112) : k0_chk12 n t (W i) := ⟨fun _ => (blkOk h).1, fun _ => (blkOk h).2⟩
theorem rChk2 (n : BitVec 32) (t : Fin (k0_t2_loop n).trips) {i : ℕ} (h : i < 112) : k0_chk20 n t (W i) := ⟨fun _ => (blkOk h).1, fun _ => (blkOk h).2⟩
theorem rOffW2 (w : BitVec 32) : k0_off74 w = k0_off16 w := rfl
theorem lOff3_all : ∀ n : Fin 113, ∀ t : Fin (k0_t2_loop (W n)).trips, k0_off60 (W n) t = ![4 * t.val + 3] := by decide +kernel
theorem wCond3_all : ∀ n : Fin 113, ∀ t : Fin (k0_t2_loop (W n)).trips, k0_cond19 (W n) t = 1#1 ↔ 4 * t.val + 3 < n.val := by decide +kernel
theorem wOffL3_all : ∀ n : Fin 113, ∀ t : Fin (k0_t2_loop (W n)).trips, k0_off50 (W n) t = ![4 * t.val + 3] := by decide +kernel
theorem wOffC3_all : ∀ n : Fin 113, ∀ t : Fin (k0_t2_loop (W n)).trips, k0_off51 (W n) t = ![(4 * t.val + 3) / 4 % 14] := by decide +kernel
theorem rCond3_all : ∀ n : Fin 113, ∀ t : Fin (k0_t2_loop (W n)).trips, k0_cond23 (W n) t = 1#1 ↔ 4 * t.val + 56 + 3 < n.val := by decide +kernel
theorem rOffL3_all : ∀ n : Fin 113, ∀ t : Fin (k0_t2_loop (W n)).trips, k0_off75 (W n) t = ![4 * t.val + 56 + 3] := by decide +kernel
theorem rOffC3_all : ∀ n : Fin 113, ∀ t : Fin (k0_t2_loop (W n)).trips, k0_off76 (W n) t = ![(4 * t.val + 56 + 3) / 4 % 14] := by decide +kernel
theorem rOffS3_all : ∀ n : Fin 113, ∀ t : Fin (k0_t2_loop (W n)).trips, k0_off77 (W n) t = ![128 * ((4 * t.val + 56 + 3) % 56), 0] := by decide +kernel
theorem wChk3 (n : BitVec 32) (t : Fin (k0_t2_loop n).trips) {i : ℕ} (h : i < 112) : k0_chk13 n t (W i) := ⟨fun _ => (blkOk h).1, fun _ => (blkOk h).2⟩
theorem rChk3 (n : BitVec 32) (t : Fin (k0_t2_loop n).trips) {i : ℕ} (h : i < 112) : k0_chk21 n t (W i) := ⟨fun _ => (blkOk h).1, fun _ => (blkOk h).2⟩
theorem rOffW3 (w : BitVec 32) : k0_off78 w = k0_off16 w := rfl
theorem aOff_all : ∀ n : Fin 113, ∀ t : Fin (k0_t2_loop (W n)).trips, k0_off62 (W n) t = ![512 * (t.val % 14), 0] := by decide +kernel

end Cert.KernelIdeal.Hand
-- ==== Proof.KI.Words2.lean ====
/- The kernel's word arithmetic of the padding of the last group, in closed form. -/
module

public import proofs.«01_k».proof.Proof.KI.Base

@[expose] public section

set_option maxRecDepth 65536

namespace Cert.KernelIdeal.Hand

open Cert.KernelIdeal Cert.KernelIdeal.Gen
open Idealize.ShloMosaic Idealize.ShloMosaic.TcCoe

theorem pCondL0_all : ∀ n : Fin 113, k0_cond10 (BitVec.ofNat 32 n) = 1#1 ↔ n.val + 0 < 4 * ((n.val + 3) / 4) := by decide +kernel
theorem pOffL0_all : ∀ n : Fin 113, k0_off32 (BitVec.ofNat 32 n) = ![n.val + 0] := by decide +kernel
theorem pCondZ0_all : ∀ n : Fin 113, k0_cond11 (BitVec.ofNat 32 n) = 1#1 → n.val + 0 < 56 ∧ n.val + 0 < 4 * ((n.val + 3) / 4) := by decide +kernel
theorem pOffZ0_all : ∀ n : Fin 113, n.val + 0 < 56 → k0_off33 (BitVec.ofNat 32 n) = ![128 * (n.val + 0), 0] := by decide +kernel
theorem pCondL1_all : ∀ n : Fin 113, k0_cond12 (BitVec.ofNat 32 n) = 1#1 ↔ n.val + 1 < 4 * ((n.val + 3) / 4) := by decide +kernel
theorem pOffL1_all : ∀ n : Fin 113, k0_off34 (BitVec.ofNat 32 n) = ![n.val + 1] := by decide +kernel
theorem pCondZ1_all : ∀ n : Fin 113, k0_cond13 (BitVec.ofNat 32 n) = 1#1 → n.val + 1 < 56 ∧ n.val + 1 < 4 * ((n.val + 3) / 4) := by decide +kernel
theorem pOffZ1_all : ∀ n : Fin 113, n.val + 1 < 56 → k0_off35 (BitVec.ofNat 32 n) = ![128 * (n.val + 1), 0] := by decide +kernel
theorem pCondL2_all : ∀ n : Fin 113, k0_cond14 (BitVec.ofNat 32 n) = 1#1 ↔ n.val + 2 < 4 * ((n.val + 3) / 4) := by decide +kernel
theorem pOffL2_all : ∀ n : Fin 113, k0_off36 (BitVec.ofNat 32 n) = ![n.val + 2] := by decide +kernel
theorem pCondZ2_all : ∀ n : Fin 113, k0_cond15 (BitVec.ofNat 32 n) = 1#1 → n.val + 2 < 56 ∧ n.val + 2 < 4 * ((n.val + 3) / 4) := by decide +kernel
theorem pOffZ2_all : ∀ n : Fin 113, n.val + 2 < 56 → k0_off37 (BitVec.ofNat 32 n) = ![128 * (n.val + 2), 0] := by decide +kernel

end Cert.KernelIdeal.Hand
-- ==== Proof.KI.Res.lean ====
/- The list of live blocks and the copies of their rows: what each buffer holds, and the rules for one copy. -/
module

public import proofs.«01_k».proof.Proof.KI.Base
public import proofs.«01_k».proof.Proof.KI.Words
public import proofs.«01_k».proof.Proof.KI.Words2
public import Mathlib.Data.Nat.Count

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! Separating conjunctions over index sets. -/

theorem bigSep_union' {I : Type} [DecidableEq I] {s t : Finset I} (h : Disjoint s t) {Φ : I → sProp 𝕄} : bigSep (s ∪ t) Φ = iprop(bigSep s Φ ∗ bigSep t Φ) :=
  bigSep_union h
theorem bigSep_sdiff_split' {I : Type} [DecidableEq I] {s t : Finset I} (h : t ⊆ s) {Φ : I → sProp 𝕄} : bigSep s Φ = iprop(bigSep t Φ ∗ bigSep (s \ t) Φ) :=
  bigSep_sdiff_split h
theorem bigSep_insert' {I : Type} [DecidableEq I] {i : I} {s : Finset I} (h : i ∉ s) {Φ : I → sProp 𝕄} : bigSep (insert i s) Φ = iprop(Φ i ∗ bigSep s Φ) :=
  bigSep_insert h
theorem bigSep_erase' {I : Type} [DecidableEq I] {s : Finset I} {i : I} (h : i ∈ s) {Φ : I → sProp 𝕄} : bigSep s Φ = iprop(Φ i ∗ bigSep (s.erase i) Φ) :=
  bigSep_erase h

theorem sep_head {n m : ℕ} (h : n < m) (Φ : ℕ → sProp 𝕄) :
    bigSep (Finset.Ico n m) Φ = iprop(Φ n ∗ bigSep (Finset.Ico (n + 1) m) Φ) := by
  rw [← bigSep_insert' (by simp)]
  congr 1; ext x; simp only [Finset.mem_Ico, Finset.mem_insert]; omega

theorem sep_upd {s : Finset ℕ} {i : ℕ} (hi : i ∈ s) {Φ Ψ : ℕ → sProp 𝕄} (h : ∀ j ∈ s, j ≠ i → Φ j = Ψ j) :
    bigSep s Φ ⊢ iprop(Φ i ∗ (Ψ i -∗ bigSep s Ψ)) := by
  rw [bigSep_erase' hi, bigSep_erase' (Φ := Ψ) hi]
  iintro ⟨H1, H2⟩
  isplitl [H1]; · iexact H1
  iintro H3
  isplitl [H3]; · iexact H3
  rw [bigSep_congr (Φ := Ψ) (Ψ := Φ) fun j hj => (h j (Finset.mem_of_mem_erase hj) (Finset.ne_of_mem_erase hj)).symm]
  iexact H2

/-! The live blocks. -/

/-- Block `i` of the 112 is live: its bit is set. -/
def live (b : ℕ → BitVec 1) (i : ℕ) : Prop := i < 112 ∧ b i = 1#1
instance (b : ℕ → BitVec 1) : DecidablePred (live b) := fun _ => inferInstanceAs (Decidable (_ ∧ _))
/-- How many of the first `i` blocks are live. -/
def cnt (b : ℕ → BitVec 1) (i : ℕ) : ℕ := Nat.count (live b) i
/-- How many blocks are live. -/
def NL (b : ℕ → BitVec 1) : ℕ := cnt b 112
open Classical in
/-- The live block at position `p` of the list. -/
def lv (b : ℕ → BitVec 1) (p : ℕ) : ℕ := if h : ∃ i, live b i ∧ cnt b i = p then Nat.find h else 0

theorem cnt_zero (b : ℕ → BitVec 1) : cnt b 0 = 0 := Nat.count_zero _
theorem cnt_le (b : ℕ → BitVec 1) (i : ℕ) : cnt b i ≤ i := Nat.count_le _
theorem cnt_mono (b : ℕ → BitVec 1) {i j : ℕ} (h : i ≤ j) : cnt b i ≤ cnt b j := Nat.count_monotone _ h
theorem cnt_le_NL (b : ℕ → BitVec 1) {i : ℕ} (h : i ≤ 112) : cnt b i ≤ NL b := cnt_mono b h
theorem NL_le (b : ℕ → BitVec 1) : NL b ≤ 112 := cnt_le b 112
theorem bv1_cases (x : BitVec 1) : x = 0#1 ∨ x = 1#1 := by revert x; decide

theorem cnt_succ (b : ℕ → BitVec 1) {i : ℕ} (h : i < 112) : cnt b (i + 1) = cnt b i + (b i).toNat := by
  unfold cnt
  rw [Nat.count_succ]
  rcases bv1_cases (b i) with hb | hb
  · rw [if_neg (fun hl => by have := hl.2; rw [hb] at this; exact absurd this (by decide)), hb]; rfl
  · rw [if_pos ⟨h, hb⟩, hb]; rfl

theorem nxt_cnt (b : ℕ → BitVec 1) {i : ℕ} (h : i < 112) : nxt (W (cnt b i)) (b i) = W (cnt b (i + 1)) := by
  rw [nxt_eq (by have := cnt_le b i; omega), cnt_succ b h]

theorem lv_cnt (b : ℕ → BitVec 1) {i : ℕ} (h : i < 112) (hb : b i = 1#1) : lv b (cnt b i) = i := by
  have he : ∃ j, live b j ∧ cnt b j = cnt b i := ⟨i, ⟨h, hb⟩, rfl⟩
  unfold lv
  rw [dif_pos he]
  exact Nat.count_injective (Nat.find_spec he).1 ⟨h, hb⟩ (Nat.find_spec he).2
theorem lv_ex (b : ℕ → BitVec 1) {p i : ℕ} (h : p < cnt b i) : ∃ j, j < i ∧ live b j ∧ cnt b j = p := by
  induction i with
  | zero => rw [cnt_zero] at h; omega
  | succ i ih =>
    by_cases hp : p < cnt b i
    · obtain ⟨j, h1, h2⟩ := ih hp; exact ⟨j, by omega, h2⟩
    · refine ⟨i, by omega, ?_⟩
      unfold cnt at h hp ⊢
      rw [Nat.count_succ] at h
      split at h
      · rename_i hl; exact ⟨hl, by omega⟩
      · omega
theorem lv_spec (b : ℕ → BitVec 1) {p i : ℕ} (h : p < cnt b i) : lv b p < i ∧ live b (lv b p) ∧ cnt b (lv b p) = p := by
  obtain ⟨j, h1, h2, h3⟩ := lv_ex b h
  have : lv b p = j := by rw [← h3]; exact lv_cnt b h2.1 h2.2
  rw [this]; exact ⟨h1, h2, h3⟩
theorem lv_lt_of (b : ℕ → BitVec 1) {p i : ℕ} (h : p < cnt b i) : lv b p < i := (lv_spec b h).1
theorem lv_lt (b : ℕ → BitVec 1) {p : ℕ} (h : p < NL b) : lv b p < 112 := lv_lt_of b h

/-- The list of live blocks is right at its first `n` positions. -/
def LiveOk (b : ℕ → BitVec 1) (n : ℕ) (L : S116.Idx → BitVec 32) : Prop := ∀ x, (x 0).val < n → L x = W (lv b (x 0).val)

/-- Position `n` of the list. -/
def ix1 (n : ℕ) (h : n < 116) : S116.Idx := fun a => ⟨n, by have : a = 0 := Subsingleton.elim _ _; subst this; exact h⟩

theorem emb_unit {s : Shape} {off size : Fin s.rank → ℕ} {inb} (y : (Rect.unit (s := s) off size inb).shape.Idx) (a : Fin s.rank) :
    ((Rect.unit (s := s) off size inb).emb y a).val = off a + (y a).val := by
  rw [Rect.emb_apply]; show off a + 1 * (y a).val = _; omega

theorem live_emb {n : ℕ} (hn : n < 116) (h) (y : S1.Idx) : (mLive.access (Rect.unit (s := S116) ![n] S1.size h)).emb y = ix1 n hn := by
  refine funext fun (a : Fin 1) => ?_
  obtain rfl : a = 0 := Subsingleton.elim _ _
  apply Fin.ext
  refine (emb_unit (s := S116) (off := ![n]) (size := S1.size) (inb := h) y 0).trans ?_
  have : (y 0).val < 1 := (y 0).isLt
  show n + (y 0).val = n
  omega

/-- A position of the list is read. -/
theorem wp_liveRead (c : Dev nD) {n : ℕ} (hn : n < 116) {off : Fin 1 → ℕ} {h} (e : off = ![n]) {L : S116.Idx → BitVec 32} {α : Type}
    {k : BitVec 32 → Prog (TpuEff nD τ sig (Elt F) Λ₀ .tc) α} {Q : α → sProp 𝕄} :
    ((c : Thread nD τ).loc cc0_scratch14 ↦{fullShare} L : sProp 𝕄)
      ⊢ iprop((((c : Thread nD τ).loc cc0_scratch14 ↦{fullShare} L) -∗ WP c (k (L (ix1 n hn))) Q)
        -∗ WP c (smemLoadElt mLive (Rect.unit (s := S116) off S1.size h) (View.loads_smem_one rfl numel1_S1) (Shape.Idx.first (numel1_S1.symm ▸ Nat.one_pos)) k) Q) := by
  subst e
  have hv : (mLive.access (Rect.unit (s := S116) ![n] S1.size h)).read (Elt F) L (Shape.Idx.first (numel1_S1.symm ▸ Nat.one_pos)) = L (ix1 n hn) := by
    rw [View.read_apply, live_emb hn]; rfl
  have key : ((c : Thread nD τ).loc cc0_scratch14 ↦{fullShare} L : sProp 𝕄)
      ⊢ iprop((((c : Thread nD τ).loc cc0_scratch14 ↦{fullShare} L) -∗ WP c (k ((mLive.access (Rect.unit (s := S116) ![n] S1.size h)).read (Elt F) L (Shape.Idx.first (numel1_S1.symm ▸ Nat.one_pos)))) Q)
        -∗ WP c (smemLoadElt mLive (Rect.unit (s := S116) ![n] S1.size h) (View.loads_smem_one rfl numel1_S1) (Shape.Idx.first (numel1_S1.symm ▸ Nat.one_pos)) k) Q) :=
    wp_smemLoadElt (defs := defs₀ (F := F)) Variants.none (c : Thread nD τ) none Set.univ (m := mLive) (r := Rect.unit (s := S116) ![n] S1.size h)
    (hw := View.loads_smem_one rfl numel1_S1) (x := Shape.Idx.first (numel1_S1.symm ▸ Nat.one_pos)) (k := k) (Q := Q) (S := Finset.univ) (q := fullShare) (f := L) (Finset.subset_univ _)
  rw [hv] at key
  exact key

theorem smemLoad_bind {off : Fin 1 → ℕ} {h} {α : Type} (k : BitVec 32 → Prog (TpuEff nD τ sig (Elt F) Λ₀ .tc) α) :
    (smemLoad (Λ := Λ₀) (nD := nD) (τ := τ) (Val := Elt F) (p := .tc) mLive (Rect.unit (s := S116) off S1.size h) numel1_S1 rfl).bind k
      = smemLoadElt (Λ := Λ₀) (nD := nD) (τ := τ) (Val := Elt F) (p := .tc) mLive (Rect.unit (s := S116) off S1.size h) (View.loads_smem_one rfl numel1_S1) (Shape.Idx.first (numel1_S1.symm ▸ Nat.one_pos)) k := rfl

/-- A block's position is recorded in the list under a condition. -/
theorem wp_record (c : Dev nD) (b : ℕ → BitVec 1) {i : ℕ} (hi : i < 112) {C : Prop} [Decidable C] (hC : C ↔ b i = 1#1) {off : Fin 1 → ℕ} {h : C → ∀ a, off a + S1.size a ≤ S116.size a} (e : off = ![cnt b i])
    {w : BitVec 32} (hw : w = W i) {α : Type} {cont : PUnit → Prog (TpuEff nD τ sig (Elt F) Λ₀ .tc) α} {Q : α → sProp 𝕄} :
    iprop(∃ L, ((c : Thread nD τ).loc cc0_scratch14 ↦{fullShare} L) ∗ ⌜LiveOk b (cnt b i) L⌝ : sProp 𝕄)
      ⊢ iprop((iprop(∃ L, ((c : Thread nD τ).loc cc0_scratch14 ↦{fullShare} L) ∗ ⌜LiveOk b (cnt b (i + 1)) L⌝) -∗ WP c (cont ⟨⟩) Q)
        -∗ WP c (if hc : C then (smemLoad mLive (Rect.unit (s := S116) off S1.size (h hc)) numel1_S1 rfl).bind fun _ =>
            Prog.op (.store mLive (Rect.unit (s := S116) off S1.size (h hc)) (fun _ => w) Finset.univ (View.stores_smem_one rfl numel1_S1) (.inl rfl)) cont
          else cont ⟨⟩) Q) := by
  subst e
  have hn : cnt b i < 116 := by have := cnt_le b i; omega
  split
  · rename_i hc
    have hb := hC.mp hc
    iintro ⟨%L, HL, %hL⟩ Hk
    rw [smemLoad_bind]
    iapply (wp_liveRead c hn rfl) $$ HL
    iintro HL
    ihave HL := (show ((c : Thread nD τ).loc cc0_scratch14 ↦{fullShare} L : sProp 𝕄) ⊢ ((mLive.access (Rect.unit (s := S116) ![cnt b i] S1.size (h hc))).loc (c : Thread nD τ) ↦{fullShare} L) from .rfl) $$ HL
    iapply (wp_store (defs := defs₀ (F := F)) Variants.none (c : Thread nD τ) none Set.univ (m := mLive) (S := Finset.univ) (Finset.subset_univ _)) $$ HL
    iintro HL
    iapply Hk
    iexists _
    isplitl [HL]; · iexact HL
    ipureintro
    intro x hx
    rw [cnt_succ b hi, hb] at hx
    change (x 0).val < cnt b i + 1 at hx
    by_cases hxe : (x 0).val = cnt b i
    · have hx' : x = (mLive.access (Rect.unit (s := S116) ![cnt b i] S1.size (h hc))).emb (Shape.Idx.first (numel1_S1.symm ▸ Nat.one_pos)) := by
        rw [live_emb hn]; refine funext fun (a : Fin 1) => ?_; obtain rfl : a = 0 := Subsingleton.elim _ _; exact Fin.ext hxe
      rw [hxe, lv_cnt b hi hb, hx', View.write_emb_of_mem _ _ (Finset.mem_univ _), hw]
      rfl
    · have hx' : (x 0).val < cnt b i := by omega
      rw [View.write_of_not_mem _ _ _ ?_]
      · exact hL x hx'
      · intro hm
        obtain ⟨y, -, hy⟩ := Finset.mem_map.mp hm
        apply hxe
        rw [← hy, live_emb hn]; rfl
  · rename_i hc
    have hb : b i = 0#1 := (bv1_cases (b i)).resolve_right fun hb => hc (hC.mpr hb)
    have hs : cnt b (i + 1) = cnt b i := by rw [cnt_succ b hi, hb]; rfl
    rw [hs]
    iintro HL Hk
    iapply Hk
    iexact HL

/-! The second matrix's rows: slots, shares and copies. -/

/-- Rows of slot `p % 56` are the rows of the live block at position `p`. -/
def SlotHas (f4 : Vec F S14336x4096 .fp8e4m3) (b : ℕ → BitVec 1) (p : ℕ) (f : Vec F S7168x4096 .fp8e4m3) : Prop :=
  ∀ x ∈ slotS (p % 56), ∀ y : S14336x4096.Idx, (y 0).val = 128 * lv b p + (x 0).val % 128 → (y 1).val = (x 1).val → f x = f4 y

/-- The slot of position `p`, holding its block if there is one. -/
def SV (c : Dev nD) (f4 : Vec F S14336x4096 .fp8e4m3) (b : ℕ → BitVec 1) (p : ℕ) : sProp 𝕄 :=
  iprop(∃ f : Vec F S7168x4096 .fp8e4m3, ((c : Thread nD τ).loc cc0_scratch9 ↦[slotS (p % 56)]{fullShare} f) ∗ ⌜p < NL b → SlotHas f4 b p f⌝)

/-- The share of the second matrix's rows that position `p`'s copy reads. -/
def TokV (c : Dev nD) (f4 : Vec F S14336x4096 .fp8e4m3) (b : ℕ → BitVec 1) (p : ℕ) : sProp 𝕄 :=
  iprop((c : Thread nD τ).loc main_arg4 ↦[blkS (lv b p)]{Transfers.shareTokN fullShare p} f4)

/-- What position `p`'s copy delivers. -/
def Del (c : Dev nD) (f4 : Vec F S14336x4096 .fp8e4m3) (b : ℕ → BitVec 1) (p : ℕ) : sProp 𝕄 := iprop(SV c f4 b p ∗ TokV c f4 b p)

/-- Group `g`'s cell with `j` copies issued and `u` awaited of it. -/
def CellU (c : Dev nD) (f4 : Vec F S14336x4096 .fp8e4m3) (b : ℕ → BitVec 1) (g j u : ℕ) : sProp 𝕄 :=
  Transfers.Batch EC (c : Thread nD τ) (.dma (semDn g)) () KD (fun t : Fin (min 4 (NL b - 4 * g)) => Del c f4 b (4 * g + t.val)) j u

instance (c : Dev nD) (f4 : Vec F S14336x4096 .fp8e4m3) (b : ℕ → BitVec 1) (p : ℕ) : Storable (upEmb : UEmb _ 𝕄) (Del c f4 b p) := by
  unfold Del SV TokV; infer_instance

theorem semDn_mod (g : ℕ) : semDn (g % 14) = semDn g := by unfold semDn; simp

/-- One copy is started. -/
theorem wp_issue (c : Dev nD) (f4 : Vec F S14336x4096 .fp8e4m3) (b : ℕ → BitVec 1) (g j p : ℕ) (hp : p = 4 * g + j) (hj : j < 4) (hN : p < NL b)
    {osem : Fin 1 → ℕ} {osrc odst : Fin 2 → ℕ} {hsem hsrc hdst h1 h2 h3} (e1 : osem = ![p / 4 % 14]) (e2 : osrc = ![128 * lv b p, 0]) (e3 : odst = ![128 * (p % 56), 0])
    {α : Type} {k : PUnit → Prog (TpuEff nD τ sig (Elt F) Λ₀ .tc) α} {Q : α → sProp 𝕄} :
    iprop(iprop(∃ f : Vec F S7168x4096 .fp8e4m3, (c : Thread nD τ).loc cc0_scratch9 ↦[slotS (p % 56)]{fullShare} f) ∗ TokV c f4 b p ∗ CellU c f4 b g j 0 : sProp 𝕄)
      ⊢ iprop((CellU c f4 b g (j + 1) 0 -∗ WP c (k ⟨⟩) Q)
        -∗ WP c (.op (.enqueueDma (mBlk osrc hsrc) (.here (mSlot odst hdst)) (.dma (semD osem hsem)) h1 h2 h3) k) Q) := by
  subst e1 e2 e3
  have hs : semDn g = semD ![p / 4 % 14] hsem := by
    rw [semD_eq, semDn_mod]; congr 1; omega
  have hjn : j < min 4 (NL b - 4 * g) := by omega
  unfold CellU TokV
  rw [hs]
  iintro ⟨⟨%f, Hf⟩, HT, HB⟩ Hk
  iapply (Transfers.wp_dmaBatch EC Variants.none (c : Thread nD τ) none (src := mBlk ![128 * lv b p, 0] hsrc) (dst := mSlot ![128 * (p % 56), 0] hdst)
      (q := Transfers.shareTokN fullShare p) (fs := f4) (Sd := slotS (p % 56)) (fd := f) (D := fun t : Fin (min 4 (NL b - 4 * g)) => Del c f4 b (4 * g + t.val)) () KD rfl (by rw [mSlot_set]) hjn (Nat.zero_le _) ?_) $$ [HT Hf HB]
  · subst hp
    show _ ⊢ Del c f4 b (4 * g + j)
    unfold Del SV TokV
    iintro ⟨Hd, Hs⟩
    isplitl [Hd]
    · iexists _
      isplitl [Hd]; · iexact Hd
      ipureintro
      intro _ x hx y hy0 hy1
      have hx' : x ∈ (mSlot ![128 * ((4 * g + j) % 56), 0] hdst).view.set := by rw [mSlot_set]; exact hx
      obtain ⟨z, -, hz⟩ := Finset.mem_map.mp hx'
      rw [← hz, View.write_emb_of_mem _ _ (Finset.mem_univ _)]
      show f4 ((mBlk ![128 * lv b (4 * g + j), 0] hsrc).view.emb z) = f4 y
      have e0 : (((mBlk ![128 * lv b (4 * g + j), 0] hsrc).view.emb z) 0).val = 128 * lv b (4 * g + j) + (z 0).val := emb_unit (s := S14336x4096) (off := ![128 * lv b (4 * g + j), 0]) (size := S128x4096.size) (inb := hsrc) z 0
      have e1 : (((mBlk ![128 * lv b (4 * g + j), 0] hsrc).view.emb z) 1).val = 0 + (z 1).val := emb_unit (s := S14336x4096) (off := ![128 * lv b (4 * g + j), 0]) (size := S128x4096.size) (inb := hsrc) z 1
      have d0 : (x 0).val = 128 * ((4 * g + j) % 56) + (z 0).val := by rw [← hz]; exact emb_unit (s := S7168x4096) (off := ![128 * ((4 * g + j) % 56), 0]) (size := S128x4096.size) (inb := hdst) z 0
      have d1 : (x 1).val = 0 + (z 1).val := by rw [← hz]; exact emb_unit (s := S7168x4096) (off := ![128 * ((4 * g + j) % 56), 0]) (size := S128x4096.size) (inb := hdst) z 1
      have hz0 : (z 0).val < 128 := (z 0).isLt
      congr 1
      refine funext fun (a : Fin 2) => Fin.ext ?_
      revert a
      refine Fin.forall_fin_two.mpr ⟨?_, ?_⟩
      · rw [e0, hy0, d0]; omega
      · rw [e1, hy1, d1]
    · rw [mBlk_set]; iexact Hs
  · isplitl [HT]; · rw [mBlk_set]; iexact HT
    isplitl [Hf]; · iexact Hf
    iexact HB
  · iexact Hk

end Cert.KernelIdeal.Hand

end
-- ==== Proof.KI.Start.lean ====
/- Recording the live blocks and starting their copies. -/
module

public import proofs.«01_k».proof.Proof.KI.Res

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The list of live blocks, right at its first `n` positions. -/
def Live (c : Dev nD) (b : ℕ → BitVec 1) (n : ℕ) : sProp 𝕄 :=
  iprop(∃ L, ((c : Thread nD τ).loc cc0_scratch14 ↦{fullShare} L) ∗ ⌜LiveOk b n L⌝)

/-- Reading a recorded position, checking it and starting its copy. -/
theorem wp_fetch (c : Dev nD) (f4 : Vec F S14336x4096 .fp8e4m3) (b : ℕ → BitVec 1) (g j p n : ℕ) (hp : p = 4 * g + j) (hj : j < 4) (hN : p < NL b) (hpn : p < n)
    {offA osem : Fin 1 → ℕ} {osrc : BitVec 32 → Fin 2 → ℕ} {odst : Fin 2 → ℕ} {hA hsem hdst}
    {chk : BitVec 32 → Prop} {dec : ∀ v, Decidable (chk v)} {hsrc : ∀ v, chk v → ∀ a, osrc v a + S128x4096.size a ≤ S14336x4096.size a}
    {h1 : ∀ v hw, (mBlk (osrc v) (hsrc v hw)).view.WordExact} {h2 : (mSlot odst hdst).view.WordExact} {h3}
    (eA : offA = ![p]) (e1 : osem = ![p / 4 % 14]) (e2 : osrc (W (lv b p)) = ![128 * lv b p, 0]) (e3 : odst = ![128 * (p % 56), 0]) (hchk : chk (W (lv b p)))
    {α : Type} {cont : PUnit.{1} → Prog (TpuEff nD τ sig (Elt F) Λ₀ .tc) α} {Q : α → sProp 𝕄} :
    iprop(Live c b n ∗ iprop(∃ f : Vec F S7168x4096 .fp8e4m3, (c : Thread nD τ).loc cc0_scratch9 ↦[slotS (p % 56)]{fullShare} f) ∗ TokV c f4 b p ∗ CellU c f4 b g j 0 : sProp 𝕄)
      ⊢ iprop((iprop(Live c b n ∗ CellU c f4 b g (j + 1) 0) -∗ WP c (cont ⟨⟩) Q)
        -∗ WP c ((smemLoad mLive (Rect.unit (s := S116) offA S1.size hA) numel1_S1 rfl).bind fun v =>
            Prog.op (.assume (chk v) (dec v)) fun hw =>
            Prog.op (.enqueueDma (mBlk (osrc v) (hsrc v hw.down)) (.here (mSlot odst hdst)) (.dma (semD osem hsem)) (h1 v hw.down) h2 h3) cont) Q) := by
  have hlt := NL_le b
  unfold Live
  rw [smemLoad_bind]
  iintro ⟨⟨%L, HL, %hL⟩, Hf, HT, HB⟩ Hk
  iapply (wp_liveRead c (n := p) (by omega) eA) $$ HL
  iintro HL
  rw [show L (ix1 p (by omega)) = W (lv b p) from hL _ hpn]
  iapply (wp_assume (defs := defs₀ (F := F)) Variants.none (c : Thread nD τ) none Set.univ hchk)
  iapply (wp_issue c f4 b g j p hp hj hN e1 e2 e3) $$ [Hf HT HB]
  · isplitl [Hf]; · iexact Hf
    isplitl [HT]; · iexact HT
    iexact HB
  iintro HB
  iapply Hk
  isplitl [HL]
  · iexists L
    isplitl [HL]; · iexact HL
    ipureintro; exact hL
  iexact HB

/-- The fourteen cells when `n` blocks have been recorded and none has been used. -/
def Cells (c : Dev nD) (f4 : Vec F S14336x4096 .fp8e4m3) (b : ℕ → BitVec 1) (n : ℕ) : sProp 𝕄 :=
  bigSep (Finset.range 14) fun g => CellU c f4 b g (min 4 (n - 4 * g)) 0
/-- The slots that no copy fills yet. -/
def FreeS (c : Dev nD) (n : ℕ) : sProp 𝕄 :=
  bigSep (Finset.Ico n 56) fun p => iprop(∃ f : Vec F S7168x4096 .fp8e4m3, (c : Thread nD τ).loc cc0_scratch9 ↦[slotS (p % 56)]{fullShare} f)
/-- The share of position `p`, if a block is recorded there in the end. -/
def OptTok (c : Dev nD) (f4 : Vec F S14336x4096 .fp8e4m3) (b : ℕ → BitVec 1) (p : ℕ) : sProp 𝕄 := if p < NL b then TokV c f4 b p else iprop(emp)
/-- The shares that no copy reads yet. -/
def Toks (c : Dev nD) (f4 : Vec F S14336x4096 .fp8e4m3) (b : ℕ → BitVec 1) (n : ℕ) : sProp 𝕄 := bigSep (Finset.Ico (min n 56) 170) (OptTok c f4 b)
/-- What the copies own when `n` blocks have been recorded and none has been used. -/
def Cop (c : Dev nD) (f4 : Vec F S14336x4096 .fp8e4m3) (b : ℕ → BitVec 1) (n : ℕ) : sProp 𝕄 := iprop(Cells c f4 b n ∗ FreeS c n ∗ Toks c f4 b n)

/-- From 56 blocks on no copy is started. -/
theorem Cop_full (c : Dev nD) (f4 : Vec F S14336x4096 .fp8e4m3) (b : ℕ → BitVec 1) {n m : ℕ} (hn : 56 ≤ n) (hm : 56 ≤ m) : Cop c f4 b n = Cop c f4 b m := by
  unfold Cop Cells FreeS Toks
  rw [Finset.Ico_eq_empty (by omega), Finset.Ico_eq_empty (by omega : ¬ m < 56), show min n 56 = min m 56 by omega]
  rw [bigSep_congr fun g hg => ?_]
  have := Finset.mem_range.mp hg
  rw [show min 4 (n - 4 * g) = min 4 (m - 4 * g) by omega]

theorem Cop_open (c : Dev nD) (f4 : Vec F S14336x4096 .fp8e4m3) (b : ℕ → BitVec 1) {n : ℕ} (hn : n < 56) (hN : n < NL b) :
    Cop c f4 b n ⊢ iprop(iprop(iprop(∃ f : Vec F S7168x4096 .fp8e4m3, (c : Thread nD τ).loc cc0_scratch9 ↦[slotS (n % 56)]{fullShare} f) ∗ TokV c f4 b n ∗ CellU c f4 b (n / 4) (n % 4) 0)
      ∗ (CellU c f4 b (n / 4) (n % 4 + 1) 0 -∗ Cop c f4 b (n + 1))) := by
  have hT : OptTok c f4 b n = TokV c f4 b n := if_pos hN
  unfold Cop Cells FreeS Toks
  rw [sep_head hn, show min n 56 = n by omega, show min (n + 1) 56 = n + 1 by omega, sep_head (by omega : n < 170), hT]
  iintro ⟨Hc, ⟨Hf, Hfs⟩, Ht, Hts⟩
  ihave Hc := (sep_upd (Φ := fun g => CellU c f4 b g (min 4 (n - 4 * g)) 0) (Ψ := fun g => CellU c f4 b g (min 4 (n + 1 - 4 * g)) 0) (i := n / 4) (s := Finset.range 14) (Finset.mem_range.mpr (by omega))
    (fun j hj hne => by rw [show min 4 (n - 4 * j) = min 4 (n + 1 - 4 * j) by omega])) $$ Hc
  icases Hc with ⟨H1, H2⟩
  rw [show min 4 (n - 4 * (n / 4)) = n % 4 by omega, show min 4 (n + 1 - 4 * (n / 4)) = n % 4 + 1 by omega]
  isplitl [Hf Ht H1]
  · isplitl [Hf]; · iexact Hf
    isplitl [Ht]
    · iexact Ht
    iexact H1
  iintro H
  isplitl [H2 H]; · iapply H2; iexact H
  isplitl [Hfs]; · iexact Hfs
  iexact Hts

/-- A recorded block's copy is started under a condition. -/
theorem wp_start (c : Dev nD) (f4 : Vec F S14336x4096 .fp8e4m3) (b : ℕ → BitVec 1) {i : ℕ} (hi : i < 112) {C : Prop} [Decidable C] (hC : C ↔ (b i = 1#1 ∧ cnt b i < 56))
    {offA osem : Fin 1 → ℕ} {osrc : BitVec 32 → Fin 2 → ℕ} {odst : Fin 2 → ℕ}
    {hA : C → ∀ a, offA a + S1.size a ≤ S116.size a} {hsem : C → ∀ a, osem a + S1.size a ≤ S14.size a} {hdst : C → ∀ a, odst a + S128x4096.size a ≤ S7168x4096.size a}
    {chk : BitVec 32 → Prop} {dec : ∀ v, Decidable (chk v)} {hsrc : C → ∀ v, chk v → ∀ a, osrc v a + S128x4096.size a ≤ S14336x4096.size a}
    {h1 : ∀ hc v hw, (mBlk (osrc v) (hsrc hc v hw)).view.WordExact} {h2 : ∀ hc, (mSlot odst (hdst hc)).view.WordExact} {h3 : ∀ hc, DmaTarget.Typed (nD := nD) .hbm (.dma (semD osem (hsem hc))) (DmaTarget.here (nD := nD) (p := (Proc.tc : Proc τ)) (mSlot odst (hdst hc)))}
    (eA : offA = ![cnt b i]) (e1 : osem = ![cnt b i / 4 % 14]) (e2 : osrc (W i) = ![128 * i, 0]) (e3 : odst = ![128 * (cnt b i % 56), 0]) (hchk : chk (W i))
    {α : Type} {cont : PUnit.{1} → Prog (TpuEff nD τ sig (Elt F) Λ₀ .tc) α} {Q : α → sProp 𝕄} :
    iprop(Live c b (cnt b (i + 1)) ∗ Cop c f4 b (cnt b i) : sProp 𝕄)
      ⊢ iprop((iprop(Live c b (cnt b (i + 1)) ∗ Cop c f4 b (cnt b (i + 1))) -∗ WP c (cont ⟨⟩) Q)
        -∗ WP c (if hc : C then (smemLoad mLive (Rect.unit (s := S116) offA S1.size (hA hc)) numel1_S1 rfl).bind fun v =>
            Prog.op (.assume (chk v) (dec v)) fun hw =>
            Prog.op (.enqueueDma (mBlk (osrc v) (hsrc hc v hw.down)) (.here (mSlot odst (hdst hc))) (.dma (semD osem (hsem hc))) (h1 hc v hw.down) (h2 hc) (h3 hc)) cont
          else cont ⟨⟩) Q) := by
  have hs := cnt_succ b hi
  have hle := cnt_le_NL b (i := i + 1) (by omega)
  split
  · rename_i hc
    obtain ⟨hb, h56⟩ := hC.mp hc
    rw [hb] at hs
    change _ = _ + 1 at hs
    have hlv := lv_cnt b hi hb
    iintro ⟨HL, HC⟩ Hk
    ihave HC := (Cop_open c f4 b h56 (by omega)) $$ HC
    icases HC with ⟨⟨Hf, HT, HB⟩, HC⟩
    iapply (wp_fetch c f4 b (cnt b i / 4) (cnt b i % 4) (cnt b i) (cnt b (i + 1)) (by omega) (by omega) (by omega) (by omega) eA e1 (by rw [hlv]; exact e2) e3 (by rw [hlv]; exact hchk)) $$ [HL Hf HT HB]
    · isplitl [HL]; · iexact HL
      isplitl [Hf]; · iexact Hf
      isplitl [HT]; · iexact HT
      iexact HB
    iintro ⟨HL, HB⟩
    iapply Hk
    isplitl [HL]; · iexact HL
    rw [hs]
    iapply HC
    iexact HB
  · rename_i hc
    have : Cop c f4 b (cnt b i) = Cop c f4 b (cnt b (i + 1)) := by
      by_cases h56 : 56 ≤ cnt b i
      · exact Cop_full c f4 b h56 (by omega)
      · have hb : b i = 0#1 := (bv1_cases (b i)).resolve_right fun hb => hc (hC.mpr ⟨hb, by omega⟩)
        rw [hs, hb]; rfl
    rw [this]
    iintro H Hk
    iapply Hk
    iexact H

/-- Block 0 of chunk `k` is recorded. -/
theorem wp_A0 (c : Dev nD) (b : ℕ → BitVec 1) {k : ℕ} (hk : k < 28) {hw} {w : BitVec 32} (hw' : w = W (4 * k)) {α : Type}
    {cont : PUnit.{1} → Prog (TpuEff nD τ sig (Elt F) Λ₀ .tc) α} {Q : α → sProp 𝕄} :
    Live c b (cnt b (4 * k)) ⊢ iprop((Live c b (cnt b (4 * k + 1)) -∗ WP c (cont ⟨⟩) Q) -∗ WP c (blkA0 (W (cnt b (4 * k))) (b (4 * k)) hw w cont) Q) := by
  have hle := cnt_le b (4 * k)
  have hle2 : cnt b (4 * k) ≤ 112 := by have := cnt_le b (4 * k); omega
  have e1 : k0_off12 (W (cnt b (4 * k)))  = ![cnt b (4 * k)] := by rw [offA0, offA_eq hle2]
  unfold blkA0 Live
  exact wp_record (F := F) (α := α) (cont := cont) (Q := Q) c b (i := 4 * k) (by omega) (condA0 _) e1 hw'

/-- The copy of block 0 of chunk `k` is started. -/
theorem wp_B0 (c : Dev nD) (f4 : Vec F S14336x4096 .fp8e4m3) (b : ℕ → BitVec 1) {k : ℕ} (hk : k < 28) {hw} {α : Type}
    {cont : PUnit.{1} → Prog (TpuEff nD τ sig (Elt F) Λ₀ .tc) α} {Q : α → sProp 𝕄} :
    iprop(Live c b (cnt b (4 * k + 1)) ∗ Cop c f4 b (cnt b (4 * k)) : sProp 𝕄)
      ⊢ iprop((iprop(Live c b (cnt b (4 * k + 1)) ∗ Cop c f4 b (cnt b (4 * k + 1))) -∗ WP c (cont ⟨⟩) Q) -∗ WP c (blkB0 (W (cnt b (4 * k))) (b (4 * k)) hw cont) Q) := by
  have hle := cnt_le b (4 * k)
  have hle2 : cnt b (4 * k) ≤ 112 := by have := cnt_le b (4 * k); omega
  have e0 : k0_cond3 (W (cnt b (4 * k))) (b (4 * k)) = 1#1 ↔ (b (4 * k) = 1#1 ∧ cnt b (4 * k) < 56) := by rw [condB0, condB_eq hle2]
  have e1 : k0_off13 (W (cnt b (4 * k)))  = ![cnt b (4 * k)] := by rw [offA'0, offA_eq hle2]
  have e2 : k0_off14 (W (cnt b (4 * k)))  = ![cnt b (4 * k) / 4 % 14] := by rw [offC0, offC_eq hle2]
  have e3 : k0_off15 (W (cnt b (4 * k)))  = ![128 * (cnt b (4 * k) % 56), 0] := by rw [offS0, offS_eq hle2]
  have e4 : k0_off16 (W (4 * k)) = ![128 * (4 * k), 0] := by rw [offW0, offW_eq (by omega)]
  unfold blkB0
  exact wp_start (α := α) (cont := cont) (Q := Q) c f4 b (i := 4 * k) (by omega) e0 e1 e2 e4 e3 (chkB0 _ _ (by omega))

/-- Block 1 of chunk `k` is recorded. -/
theorem wp_A1 (c : Dev nD) (b : ℕ → BitVec 1) {k : ℕ} (hk : k < 28) {hw} {w : BitVec 32} (hw' : w = W (4 * k + 1)) {α : Type}
    {cont : PUnit.{1} → Prog (TpuEff nD τ sig (Elt F) Λ₀ .tc) α} {Q : α → sProp 𝕄} :
    Live c b (cnt b (4 * k + 1)) ⊢ iprop((Live c b (cnt b (4 * k + 1 + 1)) -∗ WP c (cont ⟨⟩) Q) -∗ WP c (blkA1 (W (cnt b (4 * k))) (b (4 * k)) (b (4 * k + 1)) hw w cont) Q) := by
  have hle := cnt_le b (4 * k + 1)
  have hle2 : cnt b (4 * k + 1) ≤ 112 := by have := cnt_le b (4 * k + 1); omega
  have e1 : k0_off17 (W (cnt b (4 * k))) (b (4 * k)) = ![cnt b (4 * k + 1)] := by rw [offA1, nxt_cnt b (by omega : 4 * k < 112), offA_eq hle2]
  unfold blkA1 Live
  exact wp_record (F := F) (α := α) (cont := cont) (Q := Q) c b (i := 4 * k + 1) (by omega) (condA1 _) e1 hw'

/-- The copy of block 1 of chunk `k` is started. -/
theorem wp_B1 (c : Dev nD) (f4 : Vec F S14336x4096 .fp8e4m3) (b : ℕ → BitVec 1) {k : ℕ} (hk : k < 28) {hw} {α : Type}
    {cont : PUnit.{1} → Prog (TpuEff nD τ sig (Elt F) Λ₀ .tc) α} {Q : α → sProp 𝕄} :
    iprop(Live c b (cnt b (4 * k + 1 + 1)) ∗ Cop c f4 b (cnt b (4 * k + 1)) : sProp 𝕄)
      ⊢ iprop((iprop(Live c b (cnt b (4 * k + 1 + 1)) ∗ Cop c f4 b (cnt b (4 * k + 1 + 1))) -∗ WP c (cont ⟨⟩) Q) -∗ WP c (blkB1 (W (cnt b (4 * k))) (b (4 * k)) (b (4 * k + 1)) hw cont) Q) := by
  have hle := cnt_le b (4 * k + 1)
  have hle2 : cnt b (4 * k + 1) ≤ 112 := by have := cnt_le b (4 * k + 1); omega
  have e0 : k0_cond5 (W (cnt b (4 * k))) (b (4 * k)) (b (4 * k + 1)) = 1#1 ↔ (b (4 * k + 1) = 1#1 ∧ cnt b (4 * k + 1) < 56) := by rw [condB1, nxt_cnt b (by omega : 4 * k < 112), condB_eq hle2]
  have e1 : k0_off18 (W (cnt b (4 * k))) (b (4 * k)) = ![cnt b (4 * k + 1)] := by rw [offA'1, nxt_cnt b (by omega : 4 * k < 112), offA_eq hle2]
  have e2 : k0_off19 (W (cnt b (4 * k))) (b (4 * k)) = ![cnt b (4 * k + 1) / 4 % 14] := by rw [offC1, nxt_cnt b (by omega : 4 * k < 112), offC_eq hle2]
  have e3 : k0_off20 (W (cnt b (4 * k))) (b (4 * k)) = ![128 * (cnt b (4 * k + 1) % 56), 0] := by rw [offS1, nxt_cnt b (by omega : 4 * k < 112), offS_eq hle2]
  have e4 : k0_off21 (W (4 * k + 1)) = ![128 * (4 * k + 1), 0] := by rw [offW1, offW_eq (by omega)]
  unfold blkB1
  exact wp_start (α := α) (cont := cont) (Q := Q) c f4 b (i := 4 * k + 1) (by omega) e0 e1 e2 e4 e3 (chkB1 _ _ _ (by omega))

/-- Block 2 of chunk `k` is recorded. -/
theorem wp_A2 (c : Dev nD) (b : ℕ → BitVec 1) {k : ℕ} (hk : k < 28) {hw} {w : BitVec 32} (hw' : w = W (4 * k + 2)) {α : Type}
    {cont : PUnit.{1} → Prog (TpuEff nD τ sig (Elt F) Λ₀ .tc) α} {Q : α → sProp 𝕄} :
    Live c b (cnt b (4 * k + 2)) ⊢ iprop((Live c b (cnt b (4 * k + 2 + 1)) -∗ WP c (cont ⟨⟩) Q) -∗ WP c (blkA2 (W (cnt b (4 * k))) (b (4 * k)) (b (4 * k + 1)) (b (4 * k + 2)) hw w cont) Q) := by
  have hle := cnt_le b (4 * k + 2)
  have hle2 : cnt b (4 * k + 1 + 1) ≤ 112 := by have := cnt_le b (4 * k + 1 + 1); omega
  have e1 : k0_off22 (W (cnt b (4 * k))) (b (4 * k)) (b (4 * k + 1)) = ![cnt b (4 * k + 2)] := by rw [offA2, nxt_cnt b (by omega : 4 * k < 112), nxt_cnt b (by omega : 4 * k + 1 < 112), offA_eq hle2]
  unfold blkA2 Live
  exact wp_record (F := F) (α := α) (cont := cont) (Q := Q) c b (i := 4 * k + 2) (by omega) (condA2 _) e1 hw'

/-- The copy of block 2 of chunk `k` is started. -/
theorem wp_B2 (c : Dev nD) (f4 : Vec F S14336x4096 .fp8e4m3) (b : ℕ → BitVec 1) {k : ℕ} (hk : k < 28) {hw} {α : Type}
    {cont : PUnit.{1} → Prog (TpuEff nD τ sig (Elt F) Λ₀ .tc) α} {Q : α → sProp 𝕄} :
    iprop(Live c b (cnt b (4 * k + 2 + 1)) ∗ Cop c f4 b (cnt b (4 * k + 2)) : sProp 𝕄)
      ⊢ iprop((iprop(Live c b (cnt b (4 * k + 2 + 1)) ∗ Cop c f4 b (cnt b (4 * k + 2 + 1))) -∗ WP c (cont ⟨⟩) Q) -∗ WP c (blkB2 (W (cnt b (4 * k))) (b (4 * k)) (b (4 * k + 1)) (b (4 * k + 2)) hw cont) Q) := by
  have hle := cnt_le b (4 * k + 2)
  have hle2 : cnt b (4 * k + 1 + 1) ≤ 112 := by have := cnt_le b (4 * k + 1 + 1); omega
  have e0 : k0_cond7 (W (cnt b (4 * k))) (b (4 * k)) (b (4 * k + 1)) (b (4 * k + 2)) = 1#1 ↔ (b (4 * k + 2) = 1#1 ∧ cnt b (4 * k + 2) < 56) := by rw [condB2, nxt_cnt b (by omega : 4 * k < 112), nxt_cnt b (by omega : 4 * k + 1 < 112), condB_eq hle2]
  have e1 : k0_off23 (W (cnt b (4 * k))) (b (4 * k)) (b (4 * k + 1)) = ![cnt b (4 * k + 2)] := by rw [offA'2, nxt_cnt b (by omega : 4 * k < 112), nxt_cnt b (by omega : 4 * k + 1 < 112), offA_eq hle2]
  have e2 : k0_off24 (W (cnt b (4 * k))) (b (4 * k)) (b (4 * k + 1)) = ![cnt b (4 * k + 2) / 4 % 14] := by rw [offC2, nxt_cnt b (by omega : 4 * k < 112), nxt_cnt b (by omega : 4 * k + 1 < 112), offC_eq hle2]
  have e3 : k0_off25 (W (cnt b (4 * k))) (b (4 * k)) (b (4 * k + 1)) = ![128 * (cnt b (4 * k + 2) % 56), 0] := by rw [offS2, nxt_cnt b (by omega : 4 * k < 112), nxt_cnt b (by omega : 4 * k + 1 < 112), offS_eq hle2]
  have e4 : k0_off26 (W (4 * k + 2)) = ![128 * (4 * k + 2), 0] := by rw [offW2, offW_eq (by omega)]
  unfold blkB2
  exact wp_start (α := α) (cont := cont) (Q := Q) c f4 b (i := 4 * k + 2) (by omega) e0 e1 e2 e4 e3 (chkB2 _ _ _ _ (by omega))

/-- Block 3 of chunk `k` is recorded. -/
theorem wp_A3 (c : Dev nD) (b : ℕ → BitVec 1) {k : ℕ} (hk : k < 28) {hw} {w : BitVec 32} (hw' : w = W (4 * k + 3)) {α : Type}
    {cont : PUnit.{1} → Prog (TpuEff nD τ sig (Elt F) Λ₀ .tc) α} {Q : α → sProp 𝕄} :
    Live c b (cnt b (4 * k + 3)) ⊢ iprop((Live c b (cnt b (4 * k + 3 + 1)) -∗ WP c (cont ⟨⟩) Q) -∗ WP c (blkA3 (W (cnt b (4 * k))) (b (4 * k)) (b (4 * k + 1)) (b (4 * k + 2)) (b (4 * k + 3)) hw w cont) Q) := by
  have hle := cnt_le b (4 * k + 3)
  have hle2 : cnt b (4 * k + 2 + 1) ≤ 112 := by have := cnt_le b (4 * k + 2 + 1); omega
  have e1 : k0_off27 (W (cnt b (4 * k))) (b (4 * k)) (b (4 * k + 1)) (b (4 * k + 2)) = ![cnt b (4 * k + 3)] := by rw [offA3, nxt_cnt b (by omega : 4 * k < 112), nxt_cnt b (by omega : 4 * k + 1 < 112), nxt_cnt b (by omega : 4 * k + 2 < 112), offA_eq hle2]
  unfold blkA3 Live
  exact wp_record (F := F) (α := α) (cont := cont) (Q := Q) c b (i := 4 * k + 3) (by omega) (condA3 _) e1 hw'

/-- The copy of block 3 of chunk `k` is started. -/
theorem wp_B3 (c : Dev nD) (f4 : Vec F S14336x4096 .fp8e4m3) (b : ℕ → BitVec 1) {k : ℕ} (hk : k < 28) {hw} {α : Type}
    {cont : PUnit.{1} → Prog (TpuEff nD τ sig (Elt F) Λ₀ .tc) α} {Q : α → sProp 𝕄} :
    iprop(Live c b (cnt b (4 * k + 3 + 1)) ∗ Cop c f4 b (cnt b (4 * k + 3)) : sProp 𝕄)
      ⊢ iprop((iprop(Live c b (cnt b (4 * k + 3 + 1)) ∗ Cop c f4 b (cnt b (4 * k + 3 + 1))) -∗ WP c (cont ⟨⟩) Q) -∗ WP c (blkB3 (W (cnt b (4 * k))) (b (4 * k)) (b (4 * k + 1)) (b (4 * k + 2)) (b (4 * k + 3)) hw cont) Q) := by
  have hle := cnt_le b (4 * k + 3)
  have hle2 : cnt b (4 * k + 2 + 1) ≤ 112 := by have := cnt_le b (4 * k + 2 + 1); omega
  have e0 : k0_cond9 (W (cnt b (4 * k))) (b (4 * k)) (b (4 * k + 1)) (b (4 * k + 2)) (b (4 * k + 3)) = 1#1 ↔ (b (4 * k + 3) = 1#1 ∧ cnt b (4 * k + 3) < 56) := by rw [condB3, nxt_cnt b (by omega : 4 * k < 112), nxt_cnt b (by omega : 4 * k + 1 < 112), nxt_cnt b (by omega : 4 * k + 2 < 112), condB_eq hle2]
  have e1 : k0_off28 (W (cnt b (4 * k))) (b (4 * k)) (b (4 * k + 1)) (b (4 * k + 2)) = ![cnt b (4 * k + 3)] := by rw [offA'3, nxt_cnt b (by omega : 4 * k < 112), nxt_cnt b (by omega : 4 * k + 1 < 112), nxt_cnt b (by omega : 4 * k + 2 < 112), offA_eq hle2]
  have e2 : k0_off29 (W (cnt b (4 * k))) (b (4 * k)) (b (4 * k + 1)) (b (4 * k + 2)) = ![cnt b (4 * k + 3) / 4 % 14] := by rw [offC3, nxt_cnt b (by omega : 4 * k < 112), nxt_cnt b (by omega : 4 * k + 1 < 112), nxt_cnt b (by omega : 4 * k + 2 < 112), offC_eq hle2]
  have e3 : k0_off30 (W (cnt b (4 * k))) (b (4 * k)) (b (4 * k + 1)) (b (4 * k + 2)) = ![128 * (cnt b (4 * k + 3) % 56), 0] := by rw [offS3, nxt_cnt b (by omega : 4 * k < 112), nxt_cnt b (by omega : 4 * k + 1 < 112), nxt_cnt b (by omega : 4 * k + 2 < 112), offS_eq hle2]
  have e4 : k0_off31 (W (4 * k + 3)) = ![128 * (4 * k + 3), 0] := by rw [offW3, offW_eq (by omega)]
  unfold blkB3
  exact wp_start (α := α) (cont := cont) (Q := Q) c f4 b (i := 4 * k + 3) (by omega) e0 e1 e2 e4 e3 (chkB3 _ _ _ _ _ (by omega))

end Cert.KernelIdeal.Hand

end
-- ==== Proof.KI.Ring.lean ====
/- The ring of column blocks of the first weight matrix. -/
module

public import proofs.«01_k».proof.Proof.KI.Res
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx (ix2 ix3 eq_ix2)

/-- Slot at offset `off` of the ring `arg19`. -/
abbrev mRing (off : Fin 3 → ℕ) (h : ∀ a, off a + S1x4096x512.size a ≤ S8x4096x512.size a) : Memref sig .tc .vmem S4096x512 .fp8e4m3 :=
  ((Memref.whole cc0_scratch8).slice (Rect.unit (s := S8x4096x512) off S1x4096x512.size h) (fun _ => rfl)).squeeze S4096x512 squeezes_S1x4096x512_S4096x512
/-- The 512 columns of `w_up` at offset `off`. -/
abbrev mCol (off : Fin 2 → ℕ) (h : ∀ a, off a + S4096x512.size a ≤ S4096x14336.size a) : Memref sig .tc .hbm S4096x512 .fp8e4m3 :=
  (Memref.whole main_arg1).slice (Rect.unit (s := S4096x14336) off S4096x512.size h) (fun _ => rfl)
/-- The cell at offset `off` of the eight cells of the first matrix's copies. -/
abbrev semU (off : Fin 1 → ℕ) (h : ∀ a, off a + S1.size a ≤ S8.size a) : DmaSem sig :=
  ((cc0_scoped2.slice (Rect.unit (s := S8) off S1.size h)).squeeze S_ squeezes_S1_S_).sem
/-- The cell number `j` (mod 8). -/
def semUn (j : ℕ) : DmaSem sig := ⟨9 + j % 8, by show 9 + j % 8 < 31; omega⟩
theorem semU_all : ∀ j : Fin 8, ∀ h, semU ![j.val] h = semUn j.val := by decide +kernel
theorem semU_eq (j : ℕ) (h) : semU ![j] h = semUn j := by
  have hj : j < 8 := by have := h 0; change j + 1 ≤ 8 at this; omega
  exact semU_all ⟨j, hj⟩ h
theorem semUn_mod (j : ℕ) : semUn (j % 8) = semUn j := by unfold semUn; simp

/-- The elements of slot `s` of the ring. -/
def ringS (s : ℕ) : Finset S8x4096x512.Idx := Finset.univ.filter fun x => (x 0).val = s
/-- The elements of column block `k` of `w_up`. -/
def colS (k : ℕ) : Finset S4096x14336.Idx := Finset.univ.filter fun x => (x 1).val / 512 = k

theorem forall_fin_three {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

theorem ringRect_set (s : ℕ) (h) : (Rect.unit (s := S8x4096x512) ![s, 0, 0] S1x4096x512.size h).set = ringS s := by
  ext x
  rw [Rect.mem_set_unit]
  simp only [ringS, Finset.mem_filter, Finset.mem_univ, true_and]
  have h1 : (x 1).val < 4096 := (x 1).isLt
  have h2 : (x 2).val < 512 := (x 2).isLt
  refine forall_fin_three.trans ?_
  show ((s ≤ (x 0).val ∧ (x 0).val < s + 1) ∧ (0 ≤ (x 1).val ∧ (x 1).val < 0 + 4096) ∧ (0 ≤ (x 2).val ∧ (x 2).val < 0 + 512)) ↔ (x 0).val = s
  omega

theorem mRing_set (s : ℕ) (h) : (mRing ![s, 0, 0] h).view.set = ringS s :=
  (View.set_reshape _ _).trans ((View.set_slice_whole cc0_scratch8 _).trans (ringRect_set s h))

theorem mCol_set (k : ℕ) (h) : (mCol ![0, 512 * k] h).view.set = colS k := by
  refine (View.set_slice_whole main_arg1 _).trans ?_
  ext x
  rw [Rect.mem_set_unit]
  simp only [colS, Finset.mem_filter, Finset.mem_univ, true_and]
  have h1 : (x 0).val < 4096 := (x 0).isLt
  refine Fin.forall_fin_two.trans ?_
  show ((0 ≤ (x 0).val ∧ (x 0).val < 0 + 4096) ∧ (512 * k ≤ (x 1).val ∧ (x 1).val < 512 * k + 512)) ↔ (x 1).val / 512 = k
  omega

theorem mRing_emb (s : ℕ) (h) (z : S4096x512.Idx) :
    (((mRing ![s, 0, 0] h).view.emb z) 0).val = s ∧ (((mRing ![s, 0, 0] h).view.emb z) 1).val = (z 0).val ∧ (((mRing ![s, 0, 0] h).view.emb z) 2).val = (z 1).val := by
  have e : (mRing ![s, 0, 0] h).view.emb z = (Rect.unit (s := S8x4096x512) ![s, 0, 0] S1x4096x512.size h).emb (Shape.reshapeEquiv squeezes_S1x4096x512_S4096x512.numel_eq z) := rfl
  have e2 : Shape.reshapeEquiv squeezes_S1x4096x512_S4096x512.numel_eq z = ix3 (⟨0, Nat.one_pos⟩ : Fin 1) (z 0) (z 1) := by
    conv_lhs => rw [eq_ix2 (n0 := 4096) (n1 := 512) z]
    exact ValueIdx.reshapeEquiv_ix2_1ab _ _ _
  rw [e, e2]
  refine ⟨(emb_unit (s := S8x4096x512) (off := ![s, 0, 0]) (size := S1x4096x512.size) (inb := h) _ 0).trans ?_, (emb_unit (s := S8x4096x512) (off := ![s, 0, 0]) (size := S1x4096x512.size) (inb := h) _ 1).trans ?_,
    (emb_unit (s := S8x4096x512) (off := ![s, 0, 0]) (size := S1x4096x512.size) (inb := h) _ 2).trans ?_⟩
  · show s + 0 = s; omega
  · show 0 + (z 0).val = _; omega
  · show 0 + (z 1).val = _; omega

/-- Slot `k % 8` holds column block `k`. -/
def RingHas (f1 : Vec F S4096x14336 .fp8e4m3) (k : ℕ) (f : Vec F S8x4096x512 .fp8e4m3) : Prop :=
  ∀ x ∈ ringS (k % 8), ∀ y : S4096x14336.Idx, (y 0).val = (x 1).val → (y 1).val = 512 * k + (x 2).val → f x = f1 y

/-- Column block `k`, held whole. -/
def ColB (c : Dev nD) (f1 : Vec F S4096x14336 .fp8e4m3) (k : ℕ) : sProp 𝕄 := iprop((c : Thread nD τ).loc main_arg1 ↦[colS k]{fullShare} f1)
/-- What the copy of column block `k` delivers. -/
def RingDel (c : Dev nD) (f1 : Vec F S4096x14336 .fp8e4m3) (k : ℕ) : sProp 𝕄 :=
  iprop(iprop(∃ f : Vec F S8x4096x512 .fp8e4m3, ((c : Thread nD τ).loc cc0_scratch8 ↦[ringS (k % 8)]{fullShare} f) ∗ ⌜RingHas f1 k f⌝) ∗ ColB c f1 k)
/-- What one copy of a column block credits its cell with. -/
abbrev KU : ℕ := (mRing ![0, 0, 0] (by decide)).view.dmaCredit
theorem KU_pos : 0 < KU := by decide
/-- Slot `k % 8` and its cell: filled by the copy of block `k`, or free. -/
def RingC (c : Dev nD) (f1 : Vec F S4096x14336 .fp8e4m3) (k : ℕ) : sProp 𝕄 :=
  if k < 28 then Transfers.Flight EC (c : Thread nD τ) (.dma (semUn k)) () KU (RingDel c f1 k)
  else iprop(iprop(∃ f : Vec F S8x4096x512 .fp8e4m3, (c : Thread nD τ).loc cc0_scratch8 ↦[ringS (k % 8)]{fullShare} f) ∗ semVal (c, .dma (semUn k)) 0)

/-- The copy of column block `k` is started. -/
theorem wp_ringStart (c : Dev nD) (f1 : Vec F S4096x14336 .fp8e4m3) (k : ℕ) (hk : k < 28)
    {osem : Fin 1 → ℕ} {osrc : Fin 2 → ℕ} {odst : Fin 3 → ℕ} {hsem hsrc hdst h1 h2 h3} (e1 : osem = ![k % 8]) (e2 : osrc = ![0, 512 * k]) (e3 : odst = ![k % 8, 0, 0])
    {α : Type} {K : PUnit → Prog (TpuEff nD τ sig (Elt F) Λ₀ .tc) α} {Q : α → sProp 𝕄} :
    iprop(ColB c f1 k ∗ iprop(∃ f : Vec F S8x4096x512 .fp8e4m3, (c : Thread nD τ).loc cc0_scratch8 ↦[ringS (k % 8)]{fullShare} f) ∗ semVal (c, .dma (semUn k)) 0 : sProp 𝕄)
      ⊢ iprop((RingC c f1 k -∗ WP c (K ⟨⟩) Q)
        -∗ WP c (.op (.enqueueDma (mCol osrc hsrc) (.here (mRing odst hdst)) (.dma (semU osem hsem)) h1 h2 h3) K) Q) := by
  subst e1 e2 e3
  have hs : semUn k = semU ![k % 8] hsem := by rw [semU_eq, semUn_mod]
  unfold RingC
  rw [if_pos hk, hs]
  unfold ColB
  iintro ⟨HT, ⟨%f, Hf⟩, HB⟩ Hk
  iapply (Transfers.wp_dmaLocal EC Variants.none (c : Thread nD τ) none (src := mCol ![0, 512 * k] hsrc) (dst := mRing ![k % 8, 0, 0] hdst)
      (q := fullShare) (fs := f1) (Sd := ringS (k % 8)) (fd := f) () KU rfl KU_pos (by rw [mRing_set])) $$ [HT Hf HB]
  · isplitl [HT]; · rw [mCol_set]; iexact HT
    isplitl [Hf]; · iexact Hf
    iexact HB
  iintro HF
  iapply Hk
  iapply (Transfers.Flight_mono EC (c : Thread nD τ) ?_) $$ HF
  unfold RingDel ColB
  iintro ⟨Hd, Hs⟩
  isplitl [Hd]
  · iexists _
    isplitl [Hd]; · iexact Hd
    ipureintro
    intro x hx y hy0 hy1
    have hx' : x ∈ (mRing ![k % 8, 0, 0] hdst).view.set := by rw [mRing_set]; exact hx
    obtain ⟨z, -, hz⟩ := Finset.mem_map.mp hx'
    obtain ⟨d0, d1, d2⟩ := mRing_emb (k % 8) hdst z
    rw [hz] at d0 d1 d2
    rw [← hz, View.write_emb_of_mem _ _ (Finset.mem_univ _)]
    show f1 ((mCol ![0, 512 * k] hsrc).view.emb z) = f1 y
    have e0 : (((mCol ![0, 512 * k] hsrc).view.emb z) 0).val = 0 + (z 0).val := emb_unit (s := S4096x14336) (off := ![0, 512 * k]) (size := S4096x512.size) (inb := hsrc) z 0
    have e1 : (((mCol ![0, 512 * k] hsrc).view.emb z) 1).val = 512 * k + (z 1).val := emb_unit (s := S4096x14336) (off := ![0, 512 * k]) (size := S4096x512.size) (inb := hsrc) z 1
    congr 1
    refine funext fun (a : Fin 2) => Fin.ext ?_
    revert a
    refine Fin.forall_fin_two.mpr ⟨?_, ?_⟩
    · rw [e0, hy0, d1]; omega
    · rw [e1, hy1, d2]
  · rw [mCol_set]; iexact Hs

/-- Some record of waits. -/
def Owes (c : Dev nD) : sProp 𝕄 := iprop(∃ W, owes (c : Thread nD τ) 0 W)

/-- The copy of column block `k` is awaited. -/
theorem wp_ringWait (c : Dev nD) (f1 : Vec F S4096x14336 .fp8e4m3) (k : ℕ) (hk : k < 28)
    {osem : Fin 1 → ℕ} {osrc : Fin 2 → ℕ} {odst : Fin 3 → ℕ} {hsem hsrc hdst h1 h2} (e1 : osem = ![k % 8])
    {α : Type} {K : PUnit → Prog (TpuEff nD τ sig (Elt F) Λ₀ .tc) α} {Q : α → sProp 𝕄} :
    iprop(RingC c f1 k ∗ Owes c : sProp 𝕄)
      ⊢ iprop((iprop(RingDel c f1 k ∗ semVal (c, .dma (semUn k)) 0 ∗ Owes c) -∗ WP c (K ⟨⟩) Q)
        -∗ WP c (.op (.waitDma2 (semU osem hsem) (mCol osrc hsrc) (mRing odst hdst) h1 h2) K) Q) := by
  subst e1
  have hs : semUn k = semU ![k % 8] hsem := by rw [semU_eq, semUn_mod]
  unfold RingC Owes
  rw [if_pos hk, hs]
  iintro ⟨HF, ⟨%W', HO⟩⟩ Hk
  iapply (Transfers.wp_waitLocal EC Variants.none (c : Thread nD τ) none (srcw := mCol osrc hsrc) (dstw := mRing odst hdst) () (N := KU) rfl) $$ [HF HO]
  · isplitl [HF]; · iexact HF
    iexact HO
  iintro ⟨HD, HV, HO⟩
  iapply Hk
  isplitl [HD]; · iexact HD
  isplitl [HV]; · iexact HV
  iexists _
  iexact HO

end Cert.KernelIdeal.Hand

end
-- ==== Proof.KI.Up.lean ====
/- One trip of the loop over the column blocks of the first weight matrix. -/
module

public import proofs.«01_k».proof.Proof.KI.Start
public import proofs.«01_k».proof.Proof.KI.Ring
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx (ix2 ix3 eq_ix2)

/-- A load of a rectangle, its value named. -/
theorem wp_ld (c : Dev nD) {cs : CoreSpace} {s : Shape} {e : EltTy} {m : Memref sig .tc cs s e} {r : Rect s} {hl : m.view.LoadsAt r} {α : Type}
    {k : (r.shape.Idx → Elt F e) → Prog (TpuEff nD τ sig (Elt F) Λ₀ .tc) α} {Q : α → sProp 𝕄}
    {S : Finset (Idx ((m.access r).loc (c : Thread nD τ)))} {q : PosShare TreeShare} {f : Buf (Elt F) ((m.access r).loc (c : Thread nD τ))}
    (v : r.shape.Idx → Elt F e) (hv : ∀ z, (m.access r).read (Elt F) f z = v z) (hS : (m.access r).set ⊆ S) :
    ((m.access r).loc (c : Thread nD τ) ↦[S]{q} f : sProp 𝕄)
      ⊢ iprop((((m.access r).loc (c : Thread nD τ) ↦[S]{q} f) -∗ WP c (k v) Q) -∗ WP c (.op (.load m r hl) k) Q) := by
  have hv' : (m.access r).read (Elt F) f = v := funext hv
  subst hv'
  exact wp_load_rect (defs := defs₀ (F := F)) Variants.none (c : Thread nD τ) none Set.univ hS

/-- The operands of the first product, and the second matrix. -/
structure Dt (F : FTy → Type) where
  cx : Vec F S32x4096 .fp8e4m3
  sx : Vec F S32x128 .f32
  f1 : Vec F S4096x14336 .fp8e4m3
  us : Vec F S1x14336 .f32
  bu : Vec F S1x14336 .f32
  f4 : Vec F S14336x4096 .fp8e4m3

/-- Column block `k` of `w_up`. -/
def wuV (f1 : Vec F S4096x14336 .fp8e4m3) (k : ℕ) : Vec F S1x4096x512 .fp8e4m3 := fun z =>
  f1 (ix2 (n0 := 4096) (n1 := 14336) ⟨(z 1).val, (z 1).isLt⟩ ⟨(512 * k + (z 2).val) % 14336, Nat.mod_lt _ (by decide)⟩)
/-- Entries `512 k` and on of a row. -/
def cutV (u : Vec F S1x14336 .f32) (k : ℕ) : Vec F S1x512 .f32 := fun z =>
  u (ix2 (n0 := 1) (n1 := 14336) ⟨0, by decide⟩ ⟨(512 * k + (z 1).val) % 14336, Nat.mod_lt _ (by decide)⟩)
/-- Chunk `k` of the hidden activations. -/
def hk (d : Dt F) (k : ℕ) : FVec F S32x512 .f32 := k0_pay2 d.cx (wuV d.f1 k) d.sx (cutV d.us k) (cutV d.bu k)
/-- The bit of block `i`. -/
def bits (d : Dt F) (i : ℕ) : BitVec 1 :=
  if i % 4 = 0 then bt0 (hk d (i / 4)) else if i % 4 = 1 then bt1 (hk d (i / 4)) else if i % 4 = 2 then bt2 (hk d (i / 4)) else bt3 (hk d (i / 4))
/-- The row maxima over the first `k` chunks, lane by lane. -/
def rmx (d : Dt F) : ℕ → FVec F S32x128 .f32
  | 0 => k0_pay20
  | k + 1 => k0_pay22 (hk d k) (k0_pay9 (rmx d k) (hk d k))
/-- All hidden activations. -/
def hFull (d : Dt F) : Vec F S32x14336 .f32 := fun x =>
  hk d ((x 1).val / 512) (ix2 (n0 := 32) (n1 := 512) ⟨(x 0).val, (x 0).isLt⟩ ⟨(x 1).val % 512, Nat.mod_lt _ (by decide)⟩)
/-- The first `k` chunks are stored. -/
def HOk (d : Dt F) (k : ℕ) (H : Vec F S32x14336 .f32) : Prop := ∀ x, (x 1).val < 512 * k → H x = hFull d x

theorem bits0 (d : Dt F) (k : ℕ) : bits d (4 * k) = bt0 (hk d k) := by
  unfold bits; rw [if_pos (by omega), show 4 * k / 4 = k by omega]
theorem bits1 (d : Dt F) (k : ℕ) : bits d (4 * k + 1) = bt1 (hk d k) := by
  unfold bits; rw [if_neg (by omega), if_pos (by omega), show (4 * k + 1) / 4 = k by omega]
theorem bits2 (d : Dt F) (k : ℕ) : bits d (4 * k + 2) = bt2 (hk d k) := by
  unfold bits; rw [if_neg (by omega), if_neg (by omega), if_pos (by omega), show (4 * k + 2) / 4 = k by omega]
theorem bits3 (d : Dt F) (k : ℕ) : bits d (4 * k + 3) = bt3 (hk d k) := by
  unfold bits; rw [if_neg (by omega), if_neg (by omega), if_neg (by omega), show (4 * k + 3) / 4 = k by omega]

theorem trips1 : k0_t1_loop.trips = 28 := by decide +kernel
theorem ivU_all : ∀ k : Fin k0_t1_loop.trips, ∀ j : Fin 4, Scalar.addi (Scalar.muli (Scf.iv 0#32 1#32 k) 4#32) (BitVec.ofNat 32 j.val) = W (4 * k.val + j.val) := by decide +kernel
theorem cond1_all : ∀ k : Fin k0_t1_loop.trips, k0_cond1 k = 1#1 ↔ k.val + 8 < 28 := by decide +kernel

/-- The operands of the first loop at rest. -/
def Ops (c : Dev nD) (d : Dt F) (q : PosShare TreeShare) : sProp 𝕄 :=
  iprop(((c : Thread nD τ).loc cc0_scratch4 ↦{q} d.cx) ∗ ((c : Thread nD τ).loc cc0_scratch5 ↦{fullShare} d.sx)
    ∗ ((c : Thread nD τ).loc cc0_scratch1 ↦{fullShare} d.us) ∗ ((c : Thread nD τ).loc cc0_scratch2 ↦{fullShare} d.bu))

/-- The stored hidden activations, right on the first `k` chunks. -/
def Hid (c : Dev nD) (d : Dt F) (k : ℕ) : sProp 𝕄 := iprop(∃ H, ((c : Thread nD τ).loc cc0_scratch10 ↦{fullShare} H) ∗ ⌜HOk d k H⌝)

theorem sub_univ {A : Type} [Fintype A] [DecidableEq A] {S : Finset A} : S ⊆ Finset.univ := Finset.subset_univ _
theorem ret_bind' {α β : Type} (a : α) (k : α → Prog (TpuEff nD τ sig (Elt F) Λ₀ .tc) β) : (Prog.ret a).bind k = k a := rfl

theorem embU {s : Shape} {off : Fin s.rank → ℕ} {size : Fin s.rank → ℕ} {inb : ∀ a, off a + size a ≤ s.size a} (y : (Rect.unit (s := s) off size inb).shape.Idx) (a : Fin s.rank) {n : ℕ}
    (h : off a = n) : ((Rect.unit (s := s) off size inb).emb y a).val = n + (y a).val := by
  subst h; exact emb_unit (s := s) (off := off) (size := size) (inb := inb) y a

theorem ring_val {f1 : Vec F S4096x14336 .fp8e4m3} {k : Fin k0_t1_loop.trips} {f : Vec F S8x4096x512 .fp8e4m3} (hf : RingHas f1 k.val f) (hk : k.val < 28) (z : S1x4096x512.Idx) :
    f ((Rect.unit (s := S8x4096x512) (k0_off6 k) S1x4096x512.size (k0_off6_inb k)).emb z) = wuV f1 k.val z := by
  have h0 : (z 0).val < 1 := (z 0).isLt
  have h2 : (z 2).val < 512 := (z 2).isLt
  have e0 := embU (s := S8x4096x512) (off := k0_off6 k) (size := S1x4096x512.size) (inb := k0_off6_inb k) z 0 (congrFun (k0_off6_eq k) 0)
  have e1 := embU (s := S8x4096x512) (off := k0_off6 k) (size := S1x4096x512.size) (inb := k0_off6_inb k) z 1 (congrFun (k0_off6_eq k) 1)
  have e2 := embU (s := S8x4096x512) (off := k0_off6 k) (size := S1x4096x512.size) (inb := k0_off6_inb k) z 2 (congrFun (k0_off6_eq k) 2)
  unfold wuV
  refine hf _ ?_ _ ?_ ?_
  · simp only [ringS, Finset.mem_filter, Finset.mem_univ, true_and]
    rw [e0]
    show k.val % 8 + (z 0).val = k.val % 8
    omega
  · rw [e1]
    show (z 1).val = 0 + (z 1).val
    omega
  · rw [e2]
    show (512 * k.val + (z 2).val) % 14336 = 512 * k.val + (0 + (z 2).val)
    omega

theorem ring_sub {k : Fin k0_t1_loop.trips} :
    ((Memref.whole cc0_scratch8).access (Rect.unit (s := S8x4096x512) (k0_off6 k) S1x4096x512.size (k0_off6_inb k))).set = ringS (k.val % 8) := by
  have key : ∀ (off : Fin 3 → ℕ) (h), off = ![k.val % 8, 0, 0] → ((Memref.whole cc0_scratch8).access (Rect.unit (s := S8x4096x512) off S1x4096x512.size h)).set = ringS (k.val % 8) := by
    intro off h e
    subst e
    exact (View.set_slice_whole cc0_scratch8 _).trans (ringRect_set _ h)
  exact key _ _ (k0_off6_eq k)

theorem cut_val (u : Vec F S1x14336 .f32) (k : Fin k0_t1_loop.trips) (hk : k.val < 28) (z : S1x512.Idx) :
    u ((Rect.unit (s := S1x14336) (k0_off7 k) S1x512.size (k0_off7_inb k)).emb z) = cutV u k.val z := by
  unfold cutV
  refine congrArg u (funext (Fin.forall_fin_two.mpr ⟨Fin.ext ?_, Fin.ext ?_⟩))
  · have h0 : (z 0).val < 1 := (z 0).isLt
    refine (embU (s := S1x14336) (off := k0_off7 k) (size := S1x512.size) (inb := k0_off7_inb k) _ _ (congrFun (k0_off7_eq k) _)).trans ?_
    show 0 + (z 0).val = 0
    omega
  · have h1 : (z 1).val < 512 := (z 1).isLt
    refine (embU (s := S1x14336) (off := k0_off7 k) (size := S1x512.size) (inb := k0_off7_inb k) _ _ (congrFun (k0_off7_eq k) _)).trans ?_
    show 512 * k.val + (z 1).val = (512 * k.val + (z 1).val) % 14336
    omega

theorem hid_step (d : Dt F) (k : Fin k0_t1_loop.trips) (hk28 : k.val < 28) {H : Vec F S32x14336 .f32} (hH : HOk d k.val H) :
    HOk d (k.val + 1) (((Memref.whole cc0_scratch10).access (Rect.unit (s := S32x14336) (k0_off8 k) S32x512.size (k0_off8_inb k))).write (Elt F) H
      (k0_pay3 d.cx (wuV d.f1 k.val) d.sx (cutV d.us k.val) (cutV d.bu k.val)) Finset.univ) := by
  intro x hx
  have hx0 : (x 0).val < 32 := (x 0).isLt
  by_cases h : (x 1).val < 512 * k.val
  · refine (View.write_of_not_mem _ _ _ ?_).trans (hH x h)
    have key : ∀ (off : Fin 2 → ℕ) (h'), off = ![0, 512 * k.val] → x ∉ ((Memref.whole cc0_scratch10).access (Rect.unit (s := S32x14336) off S32x512.size h')).set := by
      intro off h' e
      subst e
      rw [show ((Memref.whole cc0_scratch10).access (Rect.unit (s := S32x14336) ![0, 512 * k.val] S32x512.size h')).set = _ from View.set_slice_whole cc0_scratch10 _, Rect.mem_set_unit]
      intro h2
      have := (h2 1).1
      exact absurd this (by show ¬ 512 * k.val ≤ (x 1).val; omega)
    exact key _ _ (k0_off8_eq k)
  · have hpay : k0_pay3 d.cx (wuV d.f1 k.val) d.sx (cutV d.us k.val) (cutV d.bu k.val) = hk d k.val := shapeCast_self _ _
    rw [hpay]
    let z : S32x512.Idx := ix2 (n0 := 32) (n1 := 512) ⟨(x 0).val, hx0⟩ ⟨(x 1).val % 512, Nat.mod_lt _ (by decide)⟩
    have hz : ((Memref.whole cc0_scratch10).access (Rect.unit (s := S32x14336) (k0_off8 k) S32x512.size (k0_off8_inb k))).emb z = x := by
      show (Rect.unit (s := S32x14336) (k0_off8 k) S32x512.size (k0_off8_inb k)).emb z = x
      refine funext (Fin.forall_fin_two.mpr ⟨Fin.ext ?_, Fin.ext ?_⟩)
      · refine (embU (s := S32x14336) (off := k0_off8 k) (size := S32x512.size) (inb := k0_off8_inb k) _ _ (congrFun (k0_off8_eq k) _)).trans ?_
        show 0 + (x 0).val = (x 0).val
        omega
      · refine (embU (s := S32x14336) (off := k0_off8 k) (size := S32x512.size) (inb := k0_off8_inb k) _ _ (congrFun (k0_off8_eq k) _)).trans ?_
        show 512 * k.val + (x 1).val % 512 = (x 1).val
        omega
    have hw := View.write_emb_of_mem (v := (Memref.whole cc0_scratch10).access (Rect.unit (s := S32x14336) (k0_off8 k) S32x512.size (k0_off8_inb k))) H (hk d k.val) (Finset.mem_univ z)
    rw [hz] at hw
    refine hw.trans ?_
    unfold hFull
    rw [show (x 1).val / 512 = k.val by omega]
    rfl

set_option maxRecDepth 65536 in
/-- The first part of a trip: the chunk is computed and stored. -/
theorem up1 (c : Dev nD) (d : Dt F) (q : PosShare TreeShare) (k : Fin k0_t1_loop.trips) {α : Type}
    {K : (Σ' (_ : BitVec 32), FVec F S32x512 .f32) → Prog (TpuEff nD τ sig (Elt F) Λ₀ .tc) α} {Q : α → sProp 𝕄} :
    iprop(RingC c d.f1 k.val ∗ Owes c ∗ Ops c d q ∗ Hid c d k.val : sProp 𝕄)
      ⊢ iprop((iprop(iprop(∃ f : Vec F S8x4096x512 .fp8e4m3, (c : Thread nD τ).loc cc0_scratch8 ↦[ringS (k.val % 8)]{fullShare} f) ∗ semVal (c, .dma (semUn k.val)) 0 ∗ ColB c d.f1 k.val
            ∗ Owes c ∗ Ops c d q ∗ Hid c d (k.val + 1)) -∗ WP c (K ⟨Scf.iv 0#32 1#32 k, hk d k.val⟩) Q)
          -∗ WP c ((upPart1 k).bind K) Q) := by
  have hk28 : k.val < 28 := by have := k.isLt; simpa only [trips1] using this
  unfold upPart1 k0_part1_skel Ops
  iintro ⟨HR, HO, ⟨Hcx, Hsx, Hus, Hbu⟩, HH⟩ Hk
  iapply (wp_ringWait c d.f1 k.val hk28 (k0_off3_eq k)) $$ [HR HO]
  · isplitl [HR]; · iexact HR
    iexact HO
  iintro ⟨HD, HV, HO⟩
  unfold RingDel Hid
  icases HD with ⟨⟨%f, Hf, %hf⟩, HC⟩
  icases HH with ⟨%H, HH, %hH⟩
  simp only [ret_bind']
  iapply (wp_ld c (m := Memref.whole cc0_scratch4) (r := Rect.unit (s := S32x4096) ![0, 0] S32x4096.size inb_S32x4096_S32x4096_0_0) (f := d.cx) d.cx (fun z => congrArg d.cx (Rect.emb_unit_full _ z)) sub_univ) $$ Hcx
  iintro Hcx
  simp only [ret_bind']
  iapply (wp_ld c (m := Memref.whole cc0_scratch8) (r := Rect.unit (s := S8x4096x512) (k0_off6 k) S1x4096x512.size (k0_off6_inb k)) (f := f) (wuV d.f1 k.val) (fun z => ring_val hf hk28 z) (by rw [ring_sub])) $$ Hf
  iintro Hf
  simp only [ret_bind']
  iapply (wp_ld c (m := Memref.whole cc0_scratch5) (r := Rect.unit (s := S32x128) ![0, 0] S32x128.size inb_S32x128_S32x128_0_0) (f := d.sx) d.sx (fun z => congrArg d.sx (Rect.emb_unit_full _ z)) sub_univ) $$ Hsx
  iintro Hsx
  simp only [ret_bind']
  iapply (wp_ld c (m := Memref.whole cc0_scratch1) (r := Rect.unit (s := S1x14336) (k0_off7 k) S1x512.size (k0_off7_inb k)) (f := d.us) (cutV d.us k.val) (fun z => cut_val d.us k hk28 z) sub_univ) $$ Hus
  iintro Hus
  simp only [ret_bind']
  iapply (wp_ld c (m := Memref.whole cc0_scratch2) (r := Rect.unit (s := S1x14336) (k0_off7 k) S1x512.size (k0_off7_inb k)) (f := d.bu) (cutV d.bu k.val) (fun z => cut_val d.bu k hk28 z) sub_univ) $$ Hbu
  iintro Hbu
  simp only [ret_bind']
  iapply (wp_load_rect (defs := defs₀ (F := F)) Variants.none (c : Thread nD τ) none Set.univ (m := Memref.whole cc0_scratch10) (r := Rect.unit (s := S32x14336) (k0_off8 k) S32x512.size (k0_off8_inb k)) (f := H) sub_univ) $$ HH
  iintro HH
  simp only [ret_bind']
  iapply (wp_store (defs := defs₀ (F := F)) Variants.none (c : Thread nD τ) none Set.univ (m := Memref.whole cc0_scratch10) (r := Rect.unit (s := S32x14336) (k0_off8 k) S32x512.size (k0_off8_inb k)) (f := H) sub_univ) $$ HH
  iintro HH
  iapply Hk
  isplitl [Hf]; · iexists f; iexact Hf
  isplitl [HV]; · iexact HV
  isplitl [HC]; · iexact HC
  isplitl [HO]; · iexact HO
  isplitl [Hcx Hsx Hus Hbu]
  · isplitl [Hcx]; · iexact Hcx
    isplitl [Hsx]; · iexact Hsx
    isplitl [Hus]; · iexact Hus
    iexact Hbu
  iexists _
  isplitl [HH]; · iexact HH
  ipureintro
  exact hid_step d k hk28 hH

/-- Slots of the second ring and the copies into the first, before trip `k`. -/
def UpSt (c : Dev nD) (d : Dt F) (q : PosShare TreeShare) (k : ℕ) : sProp 𝕄 :=
  iprop(Live c (bits d) (cnt (bits d) (4 * k)) ∗ Cop c d.f4 (bits d) (cnt (bits d) (4 * k))
    ∗ BI.bigSep (Finset.Ico k (k + 8)) (RingC c d.f1) ∗ BI.bigSep (Finset.Ico (k + 8) 28) (ColB c d.f1) ∗ BI.bigSep (Finset.range k) (ColB c d.f1)
    ∗ Owes c ∗ Ops c d q ∗ Hid c d k)

/-- The invariant of the first loop. -/
def upInv (c : Dev nD) (d : Dt F) (q : PosShare TreeShare) (k : ℕ) (a : BitVec 32 × FVec F S32x128 .f32) : sProp 𝕄 :=
  iprop(⌜a = (W (cnt (bits d) (4 * k)), rmx d k)⌝ ∗ UpSt c d q k)

/-- The slot just read is refilled with a later column block, if one is left. -/
theorem wp_refill (c : Dev nD) (f1 : Vec F S4096x14336 .fp8e4m3) (k : Fin k0_t1_loop.trips) {α : Type}
    {cont : PUnit.{1} → Prog (TpuEff nD τ sig (Elt F) Λ₀ .tc) α} {Q : α → sProp 𝕄} :
    iprop(iprop(∃ f : Vec F S8x4096x512 .fp8e4m3, (c : Thread nD τ).loc cc0_scratch8 ↦[ringS (k.val % 8)]{fullShare} f) ∗ semVal (c, .dma (semUn k.val)) 0
        ∗ BI.bigSep (Finset.Ico (k.val + 8) 28) (ColB c f1) : sProp 𝕄)
      ⊢ iprop((iprop(RingC c f1 (k.val + 8) ∗ BI.bigSep (Finset.Ico (k.val + 1 + 8) 28) (ColB c f1)) -∗ WP c (cont ⟨⟩) Q) -∗ WP c (refill k cont) Q) := by
  have hm : (k.val + 8) % 8 = k.val % 8 := by omega
  have hs : semUn (k.val + 8) = semUn k.val := by rw [← semUn_mod (k.val + 8), hm, semUn_mod]
  by_cases h : k.val + 8 < 28
  · have hc : k0_cond1 k = 1#1 := (cond1_all k).mpr h
    unfold refill
    rw [dif_pos hc]
    have e1 : k0_off9 k = ![(k.val + 8) % 8] := k0_off9_eq k
    have e2 : k0_off10 k = ![(k.val + 8) % 8, 0, 0] := k0_off10_eq k
    have e3 : k0_off11 k = ![0, 512 * (k.val + 8)] := by rw [k0_off11_eq k, show 512 * (k.val + 8) = 512 * k.val + 4096 by omega]
    rw [sep_head h, ← hm, ← hs]
    iintro ⟨Hf, HV, HC, HR⟩ Hk
    iapply (wp_ringStart c f1 (k.val + 8) h e1 e3 e2) $$ [HC Hf HV]
    · isplitl [HC]; · iexact HC
      isplitl [Hf]; · iexact Hf
      iexact HV
    iintro HRC
    iapply Hk
    isplitl [HRC]; · iexact HRC
    rw [show k.val + 1 + 8 = k.val + 8 + 1 by omega]
    iexact HR
  · have hc : ¬ k0_cond1 k = 1#1 := fun h' => h ((cond1_all k).mp h')
    unfold refill
    rw [dif_neg hc]
    iintro ⟨Hf, HV, HR⟩ Hk
    iapply Hk
    unfold RingC
    rw [if_neg h, hm, hs, Finset.Ico_eq_empty_of_le (show 28 ≤ k.val + 8 by omega), Finset.Ico_eq_empty_of_le (show 28 ≤ k.val + 1 + 8 by omega)]
    isplitl [Hf HV]
    · isplitl [Hf]; · iexact Hf
      iexact HV
    iexact HR

theorem WP_bind (c : Dev nD) {α β : Type} (p : Prog (TpuEff nD τ sig (Elt F) Λ₀ .tc) α) (K : α → Prog (TpuEff nD τ sig (Elt F) Λ₀ .tc) β) (Q : β → sProp 𝕄) :
    WP c (p.bind K) Q = WP c p (fun a => WP c (K a) Q) := wp_bind _ _ _ _ _ _

theorem hAsm (c : Dev nD) {P : Prop} {dec : Decidable P} (h : P) {α : Type} {K : PLift P → Prog (TpuEff nD τ sig (Elt F) Λ₀ .tc) α} {Q : α → sProp 𝕄} :
    WP c (K ⟨h⟩) Q ⊢ WP c (.op (.assume P dec) K) Q := wp_assume (defs := defs₀ (F := F)) Variants.none (c : Thread nD τ) none Set.univ h

end Cert.KernelIdeal.Hand

end
-- ==== Proof.KI.Up2.lean ====
/- One trip of the loop over the column blocks, put together. -/
module

public import proofs.«01_k».proof.Proof.KI.Up

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem hRet (c : Dev nD) {α : Type} (a : α) (Q : α → sProp 𝕄) : Q a ⊢ WP c (.ret a) Q := by
  show _ ⊢ wp _ _ _ _ _
  rw [wp_ret]
  exact fupd_intro

theorem sep_last {n m : ℕ} (h : n ≤ m) (Φ : ℕ → sProp 𝕄) :
    bigSep (Finset.Ico n (m + 1)) Φ = iprop(Φ m ∗ bigSep (Finset.Ico n m) Φ) := by
  rw [← bigSep_insert' (by simp)]
  congr 1; ext x; simp only [Finset.mem_Ico, Finset.mem_insert]; omega

/-- One trip of the first loop. -/
theorem up_step (c : Dev nD) (d : Dt F) (q : PosShare TreeShare) (k : Fin k0_t1_loop.trips) :
    UpSt c d q k.val ⊢ WP c (upBody k (W (cnt (bits d) (4 * k.val)), rmx d k.val))
      (fun a => iprop(⌜a = (W (cnt (bits d) (4 * (k.val + 1))), rmx d (k.val + 1))⌝ ∗ UpSt c d q (k.val + 1))) := by
  have hk28 : k.val < 28 := by simpa only [trips1] using k.isLt
  have iv0 : Scalar.addi (Scalar.muli (Scf.iv 0#32 1#32 k) 4#32) 0#32 = W (4 * k.val) := ivU_all k 0
  have iv1 : Scalar.addi (Scalar.muli (Scf.iv 0#32 1#32 k) 4#32) 1#32 = W (4 * k.val + 1) := ivU_all k 1
  have iv2 : Scalar.addi (Scalar.muli (Scf.iv 0#32 1#32 k) 4#32) 2#32 = W (4 * k.val + 2) := ivU_all k 2
  have iv3 : Scalar.addi (Scalar.muli (Scf.iv 0#32 1#32 k) 4#32) 3#32 = W (4 * k.val + 3) := ivU_all k 3
  have n0 := nxt_cnt (bits d) (by omega : 4 * k.val < 112)
  have n1 := nxt_cnt (bits d) (by omega : 4 * k.val + 1 < 112)
  have n2 := nxt_cnt (bits d) (by omega : 4 * k.val + 2 < 112)
  have n3 := nxt_cnt (bits d) (by omega : 4 * k.val + 3 < 112)
  have g0 : k0_chk1 (W (cnt (bits d) (4 * k.val))) (bits d (4 * k.val)) := chk1_ok (by have := cnt_le (bits d) (4 * k.val); omega) _
  have g1 : k0_chk3 (W (cnt (bits d) (4 * k.val))) (bits d (4 * k.val)) (bits d (4 * k.val + 1)) :=
    chkA1 _ _ _ (by rw [n0]; exact chk1_ok (by have := cnt_le (bits d) (4 * k.val + 1); omega) _)
  have g2 : k0_chk5 (W (cnt (bits d) (4 * k.val))) (bits d (4 * k.val)) (bits d (4 * k.val + 1)) (bits d (4 * k.val + 2)) :=
    chkA2 _ _ _ _ (by rw [n0, n1]; exact chk1_ok (by have := cnt_le (bits d) (4 * k.val + 1 + 1); omega) _)
  have g3 : k0_chk7 (W (cnt (bits d) (4 * k.val))) (bits d (4 * k.val)) (bits d (4 * k.val + 1)) (bits d (4 * k.val + 2)) (bits d (4 * k.val + 3)) :=
    chkA3 _ _ _ _ _ (by rw [n0, n1, n2]; exact chk1_ok (by have := cnt_le (bits d) (4 * k.val + 2 + 1); omega) _)
  rw [upBody_eq]
  unfold UpSt
  rw [sep_head (show k.val < k.val + 8 by omega)]
  iintro ⟨HL, HCp, ⟨HR0, HR⟩, HC, HDn, HO, Hop, HH⟩
  iapply (up1 c d q k) $$ [HR0 HO Hop HH]
  · isplitl [HR0]; · iexact HR0
    isplitl [HO]; · iexact HO
    isplitl [Hop]; · iexact Hop
    iexact HH
  iintro ⟨Hf, HV, HCk, HO, Hop, HH⟩
  rw [WP_bind, upPart2_eq]
  iapply (wp_refill c d.f1 k) $$ [Hf HV HC]
  · isplitl [Hf]; · iexact Hf
    isplitl [HV]; · iexact HV
    iexact HC
  iintro ⟨HR8, HC⟩
  rw [← bits0 d k.val, ← bits1 d k.val, ← bits2 d k.val]
  iapply (hAsm c g0)
  iapply (wp_A0 c (bits d) hk28 iv0) $$ HL
  iintro HL
  iapply (wp_B0 c d.f4 (bits d) hk28) $$ [HL HCp]
  · isplitl [HL]; · iexact HL
    iexact HCp
  iintro ⟨HL, HCp⟩
  iapply (hAsm c g1)
  iapply (wp_A1 c (bits d) hk28 iv1) $$ HL
  iintro HL
  iapply (wp_B1 c d.f4 (bits d) hk28) $$ [HL HCp]
  · isplitl [HL]; · iexact HL
    iexact HCp
  iintro ⟨HL, HCp⟩
  iapply (hAsm c g2)
  iapply (hRet c)
  dsimp only
  rw [← bits3 d k.val]
  iapply (wp_A2 c (bits d) hk28 iv2) $$ HL
  iintro HL
  iapply (wp_B2 c d.f4 (bits d) hk28) $$ [HL HCp]
  · isplitl [HL]; · iexact HL
    iexact HCp
  iintro ⟨HL, HCp⟩
  iapply (hAsm c g3)
  iapply (wp_A3 c (bits d) hk28 iv3) $$ HL
  iintro HL
  iapply (wp_B3 c d.f4 (bits d) hk28) $$ [HL HCp]
  · isplitl [HL]; · iexact HL
    iexact HCp
  iintro ⟨HL, HCp⟩
  iapply (hRet c)
  isplitr
  · ipureintro
    rw [n0, n1, n2, n3]
    exact rfl
  rw [show k.val + 1 + 8 = k.val + 8 + 1 by omega, Finset.range_eq_Ico, Finset.range_eq_Ico, sep_last (show k.val + 1 ≤ k.val + 8 by omega) (RingC c d.f1), sep_last (Nat.zero_le k.val) (ColB c d.f1)]
  isplitl [HL]; · iexact HL
  isplitl [HCp]; · iexact HCp
  isplitl [HR HR8]
  · isplitl [HR8]; · iexact HR8
    iexact HR
  isplitl [HC]; · iexact HC
  isplitl [HDn HCk]
  · isplitl [HCk]; · iexact HCk
    iexact HDn
  isplitl [HO]; · iexact HO
  isplitl [Hop]; · iexact Hop
  iexact HH

end Cert.KernelIdeal.Hand

end
-- ==== Proof.KI.Down1.lean ====
/- Waiting for the copies of a group and starting later ones. -/
module

public import proofs.«01_k».proof.Proof.KI.DownDefs
public import proofs.«01_k».proof.Proof.KI.Start
public import proofs.«01_k».proof.Proof.KI.Ring
public import proofs.«01_k».proof.Proof.KI.Up2

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The block at position `p` of the padded list. -/
def ls (b : ℕ → BitVec 1) (p : ℕ) : ℕ := if p < NL b then lv b p else 112

/-- The padded list is right at the positions the groups read. -/
def PadOk (b : ℕ → BitVec 1) (L : S116.Idx → BitVec 32) : Prop := ∀ x, (x 0).val < 4 * ((NL b + 3) / 4) → L x = W (ls b (x 0).val)

/-- The list of live blocks, padded to whole groups. -/
def LiveP (c : Dev nD) (b : ℕ → BitVec 1) : sProp 𝕄 :=
  iprop(∃ L, ((c : Thread nD τ).loc cc0_scratch14 ↦{fullShare} L) ∗ ⌜PadOk b L⌝)

theorem ls_of_lt {b : ℕ → BitVec 1} {p : ℕ} (h : p < NL b) : ls b p = lv b p := if_pos h
theorem ls_le (b : ℕ → BitVec 1) (p : ℕ) : ls b p ≤ 112 := by
  unfold ls
  split
  · rename_i h
    exact (lv_lt b h).le
  · exact le_rfl

/-- Owing nothing, whatever has been awaited. -/
theorem owes_more (c : Dev nD) (W : Waits sig Unit) : (owes (c : Thread nD τ) 0 W : sProp 𝕄) ⊢ Owes c := by
  unfold Owes; iintro H; iexists W; iexact H

/-- Reading a position of the padded list. -/
theorem wp_readP (c : Dev nD) (b : ℕ → BitVec 1) {p : ℕ} (hp : p < 4 * ((NL b + 3) / 4)) {off : Fin 1 → ℕ} {h} (e : off = ![p]) {α : Type}
    {k : BitVec 32 → Prog (TpuEff nD τ sig (Elt F) Λ₀ .tc) α} {Q : α → sProp 𝕄} :
    LiveP c b ⊢ iprop((LiveP c b -∗ WP c (k (W (ls b p))) Q) -∗ WP c ((smemLoad (Λ := Λ₀) (nD := nD) (τ := τ) (Val := Elt F) (p := .tc) mLive (Rect.unit (s := S116) off S1.size h) numel1_S1 rfl).bind k) Q) := by
  have hNL := NL_le b
  unfold LiveP
  rw [smemLoad_bind]
  iintro ⟨%L, HL, %hL⟩ Hk
  iapply (wp_liveRead c (n := p) (by omega) e) $$ HL
  iintro HL
  rw [show L (ix1 p (by omega)) = W (ls b p) from hL _ hp]
  iapply Hk
  iexists L
  isplitl [HL]; · iexact HL
  ipureintro; exact hL

/-- A copy of the group is awaited, if there is one. -/
theorem wp_waitP (c : Dev nD) (f4 : Vec F S14336x4096 .fp8e4m3) (b : ℕ → BitVec 1) (g k : ℕ) (hk : k < 4) {C : Prop} [Decidable C] (hC : C ↔ 4 * g + k < NL b)
    {offA osem : Fin 1 → ℕ} {osrc : BitVec 32 → Fin 2 → ℕ} {odst : Fin 2 → ℕ}
    {hA : C → ∀ a, offA a + S1.size a ≤ S116.size a} {hsem : C → ∀ a, osem a + S1.size a ≤ S14.size a} {hdst : C → ∀ a, odst a + S128x4096.size a ≤ S7168x4096.size a}
    {chk : BitVec 32 → Prop} {dec : ∀ v, Decidable (chk v)} {hsrc : C → ∀ v, chk v → ∀ a, osrc v a + S128x4096.size a ≤ S14336x4096.size a}
    {h1 : ∀ hc v hw, (mBlk (osrc v) (hsrc hc v hw)).view.WordExact} {h2 : ∀ hc, (mSlot odst (hdst hc)).view.WordExact}
    (eA : offA = ![4 * g + k]) (e1 : osem = ![(4 * g + k) / 4 % 14]) (hchk : ∀ i, i < 112 → chk (W i))
    {α : Type} {cont : PUnit.{1} → Prog (TpuEff nD τ sig (Elt F) Λ₀ .tc) α} {Q : α → sProp 𝕄} :
    iprop(LiveP c b ∗ CellU c f4 b g (min 4 (NL b - 4 * g)) (KD * min k (NL b - 4 * g)) ∗ Owes c : sProp 𝕄)
      ⊢ iprop((iprop(LiveP c b ∗ CellU c f4 b g (min 4 (NL b - 4 * g)) (KD * min (k + 1) (NL b - 4 * g)) ∗ Owes c) -∗ WP c (cont ⟨⟩) Q)
        -∗ WP c (if hc : C then (smemLoad mLive (Rect.unit (s := S116) offA S1.size (hA hc)) numel1_S1 rfl).bind fun v =>
            Prog.op (.assume (chk v) (dec v)) fun hw =>
            Prog.op (.waitDma2 (semD osem (hsem hc)) (mBlk (osrc v) (hsrc hc v hw.down)) (mSlot odst (hdst hc)) (h1 hc v hw.down) (h2 hc)) cont
          else cont ⟨⟩) Q) := by
  split
  · rename_i hc
    have hlt := hC.mp hc
    have hls : ls b (4 * g + k) < 112 := by rw [ls_of_lt hlt]; exact lv_lt b hlt
    have hs : semDn g = semD osem (hsem hc) := by
      subst e1
      rw [semD_eq, semDn_mod]; congr 1; omega
    iintro ⟨HL, HB, HO⟩ Hk
    iapply (wp_readP c b (p := 4 * g + k) (by omega) eA) $$ HL
    iintro HL
    iapply (wp_assume (defs := defs₀ (F := F)) Variants.none (c : Thread nD τ) none Set.univ (hchk _ hls))
    unfold Owes CellU
    rw [hs]
    icases HO with ⟨%W', HO⟩
    iapply (Transfers.wp_waitBatchMul EC Variants.none (c : Thread nD τ) none (srcw := mBlk _ _) (dstw := mSlot odst (hdst hc)) () (N := KD) 1 (Nat.one_mul KD).symm
      (show KD * min k (NL b - 4 * g) + 1 * KD ≤ KD * min 4 (NL b - 4 * g) by rw [Nat.one_mul, ← Nat.mul_succ]; exact Nat.mul_le_mul_left _ (by omega))) $$ [HB HO]
    · isplitl [HB]; · iexact HB
      iexact HO
    iintro ⟨HB, HO⟩
    iapply Hk
    isplitl [HL]; · iexact HL
    isplitl [HB]
    · rw [show min (k + 1) (NL b - 4 * g) = min k (NL b - 4 * g) + 1 by omega, Nat.mul_succ, Nat.one_mul]
      iexact HB
    iexists _
    iexact HO
  · rename_i hc
    have hge : ¬ 4 * g + k < NL b := fun h => hc (hC.mpr h)
    rw [show min (k + 1) (NL b - 4 * g) = min k (NL b - 4 * g) by omega]
    iintro H Hk
    iapply Hk
    iexact H

/-- The slot of a position no copy fills. -/
def OptFree (c : Dev nD) (f4 : Vec F S14336x4096 .fp8e4m3) (b : ℕ → BitVec 1) (p : ℕ) : sProp 𝕄 := if p < NL b then iprop(emp) else SV c f4 b p

/-- The slot of a used block is given to the copy of the block 56 positions later, if there is one. -/
theorem wp_fillP (c : Dev nD) (f4 : Vec F S14336x4096 .fp8e4m3) (b : ℕ → BitVec 1) (g k : ℕ) (hk : k < 4) {C : Prop} [Decidable C] (hC : C ↔ 4 * g + 56 + k < NL b)
    {offA osem : Fin 1 → ℕ} {osrc : BitVec 32 → Fin 2 → ℕ} {odst : Fin 2 → ℕ}
    {hA : C → ∀ a, offA a + S1.size a ≤ S116.size a} {hsem : C → ∀ a, osem a + S1.size a ≤ S14.size a} {hdst : C → ∀ a, odst a + S128x4096.size a ≤ S7168x4096.size a}
    {chk : BitVec 32 → Prop} {dec : ∀ v, Decidable (chk v)} {hsrc : C → ∀ v, chk v → ∀ a, osrc v a + S128x4096.size a ≤ S14336x4096.size a}
    {h1 : ∀ hc v hw, (mBlk (osrc v) (hsrc hc v hw)).view.WordExact} {h2 : ∀ hc, (mSlot odst (hdst hc)).view.WordExact} {h3 : ∀ hc, DmaTarget.Typed (nD := nD) .hbm (.dma (semD osem (hsem hc))) (DmaTarget.here (nD := nD) (p := (Proc.tc : Proc τ)) (mSlot odst (hdst hc)))}
    (eA : offA = ![4 * g + 56 + k]) (e1 : osem = ![(4 * g + 56 + k) / 4 % 14]) (e2 : ∀ i, i < 112 → osrc (W i) = ![128 * i, 0]) (e3 : odst = ![128 * ((4 * g + 56 + k) % 56), 0]) (hchk : ∀ i, i < 112 → chk (W i))
    {α : Type} {cont : PUnit.{1} → Prog (TpuEff nD τ sig (Elt F) Λ₀ .tc) α} {Q : α → sProp 𝕄} :
    iprop(LiveP c b ∗ SV c f4 b (4 * g + k) ∗ OptTok c f4 b (4 * g + 56 + k) ∗ CellU c f4 b (g + 14) (min k (NL b - 4 * (g + 14))) 0 : sProp 𝕄)
      ⊢ iprop((iprop(LiveP c b ∗ OptFree c f4 b (4 * g + 56 + k) ∗ CellU c f4 b (g + 14) (min (k + 1) (NL b - 4 * (g + 14))) 0) -∗ WP c (cont ⟨⟩) Q)
        -∗ WP c (if hc : C then (smemLoad mLive (Rect.unit (s := S116) offA S1.size (hA hc)) numel1_S1 rfl).bind fun v =>
            Prog.op (.assume (chk v) (dec v)) fun hw =>
            Prog.op (.enqueueDma (mBlk (osrc v) (hsrc hc v hw.down)) (.here (mSlot odst (hdst hc))) (.dma (semD osem (hsem hc))) (h1 hc v hw.down) (h2 hc) (h3 hc)) cont
          else cont ⟨⟩) Q) := by
  have hm : (4 * g + 56 + k) % 56 = (4 * g + k) % 56 := by omega
  split
  · rename_i hc
    have hlt := hC.mp hc
    have hls : ls b (4 * g + 56 + k) < 112 := by rw [ls_of_lt hlt]; exact lv_lt b hlt
    have hT : OptTok c f4 b (4 * g + 56 + k) = TokV c f4 b (4 * g + 56 + k) := if_pos hlt
    have hF : OptFree c f4 b (4 * g + 56 + k) = iprop(emp) := if_pos hlt
    rw [hT, hF]
    unfold SV
    rw [← hm]
    iintro ⟨HL, ⟨%f, Hf, -⟩, HT, HB⟩ Hk
    iapply (wp_readP c b (p := 4 * g + 56 + k) (by omega) eA) $$ HL
    iintro HL
    iapply (wp_assume (defs := defs₀ (F := F)) Variants.none (c : Thread nD τ) none Set.univ (hchk _ hls))
    rw [show min k (NL b - 4 * (g + 14)) = k by omega, show min (k + 1) (NL b - 4 * (g + 14)) = k + 1 by omega]
    iapply (wp_issue c f4 b (g + 14) k (4 * g + 56 + k) (by omega) hk hlt e1 (by rw [ls_of_lt hlt]; exact e2 _ (lv_lt b hlt)) e3) $$ [Hf HT HB]
    · isplitl [Hf]; · iexists f; iexact Hf
      isplitl [HT]; · iexact HT
      iexact HB
    iintro HB
    iapply Hk
    isplitl [HL]; · iexact HL
    isplitr
    · iempintro
    iexact HB
  · rename_i hc
    have hge : ¬ 4 * g + 56 + k < NL b := fun h => hc (hC.mpr h)
    have hF : OptFree c f4 b (4 * g + 56 + k) = SV c f4 b (4 * g + 56 + k) := if_neg hge
    rw [show min (k + 1) (NL b - 4 * (g + 14)) = min k (NL b - 4 * (g + 14)) by omega, hF]
    iintro ⟨HL, HS, -, HB⟩ Hk
    iapply Hk
    isplitl [HL]; · iexact HL
    isplitl [HS]
    · unfold SV
      icases HS with ⟨%f, Hf, -⟩
      iexists f
      rw [hm]
      isplitl [Hf]; · iexact Hf
      ipureintro
      exact fun h => absurd h hge
    iexact HB

end Cert.KernelIdeal.Hand

end
-- ==== Proof.KI.Down2.lean ====
/- The groups of four live blocks: slots, shares and the accumulator. -/
module

public import proofs.«01_k».proof.Proof.KI.Down1

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx (ix2 ix3 eq_ix2)

theorem sep_app {a m e : ℕ} (h1 : a ≤ m) (h2 : m ≤ e) (Φ : ℕ → sProp 𝕄) :
    bigSep (Finset.Ico a e) Φ = iprop(bigSep (Finset.Ico a m) Φ ∗ bigSep (Finset.Ico m e) Φ) := by
  rw [← bigSep_union' (Finset.disjoint_left.mpr fun x hx hy => by rw [Finset.mem_Ico] at hx hy; omega)]
  congr 1; ext x; simp only [Finset.mem_Ico, Finset.mem_union]; omega

theorem sep_four (n : ℕ) (Φ : ℕ → sProp 𝕄) : bigSep (Finset.Ico n (n + 4)) Φ = iprop(Φ n ∗ Φ (n + 1) ∗ Φ (n + 2) ∗ Φ (n + 3) ∗ emp) := by
  rw [sep_head (by omega), sep_head (by omega), sep_head (by omega), sep_head (by omega), Finset.Ico_self, bigSep_empty]
  rfl

theorem emp_sep_big (S : Finset ℕ) (Φ : ℕ → sProp 𝕄) (h : ∀ i ∈ S, Φ i = iprop(emp)) : (iprop(emp) : sProp 𝕄) ⊢ bigSep S Φ := by
  classical
  induction S using Finset.induction_on with
  | empty => rw [bigSep_empty]; exact .rfl
  | insert a S ha ih =>
    rw [bigSep_insert' ha, h a (Finset.mem_insert_self _ _)]
    iintro H
    isplitr
    · iempintro
    iapply (ih fun i hi => h i (Finset.mem_insert_of_mem hi))
    iexact H

/-- What the copies of a group delivered, with the slots no copy filled: the group's slots and its shares. -/
theorem grp_take (c : Dev nD) (f4 : Vec F S14336x4096 .fp8e4m3) (b : ℕ → BitVec 1) (g : ℕ) :
    iprop(bigSep Finset.univ (fun t : Fin (min 4 (NL b - 4 * g)) => Del c f4 b (4 * g + t.val)) ∗ bigSep (Finset.Ico (4 * g) (4 * g + 4)) (OptFree c f4 b) : sProp 𝕄)
      ⊢ iprop(bigSep (Finset.Ico (4 * g) (4 * g + 4)) (SV c f4 b) ∗ bigSep (Finset.Ico (4 * g) (4 * g + 4)) (OptTok c f4 b)) := by
  let e : Fin (min 4 (NL b - 4 * g)) ↪ ℕ := ⟨fun t => 4 * g + t.val, fun s t h => Fin.ext (by dsimp only at h; omega)⟩
  have he : (Finset.univ : Finset (Fin (min 4 (NL b - 4 * g)))).map e = Finset.Ico (4 * g) (4 * g + min 4 (NL b - 4 * g)) := by
    ext x
    simp only [Finset.mem_map, Finset.mem_univ, true_and, Finset.mem_Ico]
    constructor
    · rintro ⟨t, rfl⟩
      have := t.isLt
      show 4 * g ≤ 4 * g + t.val ∧ 4 * g + t.val < _
      omega
    · intro h
      exact ⟨⟨x - 4 * g, by omega⟩, by show 4 * g + (x - 4 * g) = x; omega⟩
  have hD : bigSep Finset.univ (fun t : Fin (min 4 (NL b - 4 * g)) => Del c f4 b (4 * g + t.val)) = bigSep (Finset.Ico (4 * g) (4 * g + min 4 (NL b - 4 * g))) (Del c f4 b) := by
    rw [← he]; exact (bigSep_map e).symm
  have hm : 4 * g + min 4 (NL b - 4 * g) ≤ 4 * g + 4 := by omega
  rw [hD, sep_app (Nat.le_add_right _ _) hm (OptFree c f4 b), sep_app (Nat.le_add_right _ _) hm (SV c f4 b), sep_app (Nat.le_add_right _ _) hm (OptTok c f4 b)]
  have h1 : bigSep (Finset.Ico (4 * g) (4 * g + min 4 (NL b - 4 * g))) (Del c f4 b)
      = iprop(bigSep (Finset.Ico (4 * g) (4 * g + min 4 (NL b - 4 * g))) (SV c f4 b) ∗ bigSep (Finset.Ico (4 * g) (4 * g + min 4 (NL b - 4 * g))) (OptTok c f4 b)) := by
    refine Eq.trans (bigSep_congr (Ψ := fun p => iprop(SV c f4 b p ∗ OptTok c f4 b p)) fun p hp => ?_) (bigSep_sep _ (SV c f4 b) (OptTok c f4 b))
    rw [Finset.mem_Ico] at hp
    unfold Del OptTok
    rw [if_pos (by omega)]
  have h2 : bigSep (Finset.Ico (4 * g + min 4 (NL b - 4 * g)) (4 * g + 4)) (OptFree c f4 b) = bigSep (Finset.Ico (4 * g + min 4 (NL b - 4 * g)) (4 * g + 4)) (SV c f4 b) := by
    refine bigSep_congr fun p hp => ?_
    rw [Finset.mem_Ico] at hp
    unfold OptFree
    rw [if_neg (by omega)]
  have h3 := emp_sep_big (Finset.Ico (4 * g + min 4 (NL b - 4 * g)) (4 * g + 4)) (OptTok c f4 b) fun p hp => by
    rw [Finset.mem_Ico] at hp
    unfold OptTok
    rw [if_neg (by omega)]
  rw [h1, h2]
  iintro ⟨⟨Ha, Hb⟩, -, Hd⟩
  isplitl [Ha Hd]
  · isplitl [Ha]; · iexact Ha
    iexact Hd
  isplitl [Hb]; · iexact Hb
  iapply h3
  iempintro

/-- The rows of one group's four slots. -/
def rowS (j : ℕ) : Finset S7168x4096.Idx := Finset.univ.filter fun x => (x 0).val / 512 = j

theorem rowS_eq [DecidableEq S7168x4096.Idx] (g : ℕ) : (Finset.Ico (4 * g) (4 * g + 4)).biUnion (fun p => slotS (p % 56)) = rowS (g % 14) := by
  ext x
  have hx : (x 0).val < 7168 := (x 0).isLt
  simp only [Finset.mem_biUnion, Finset.mem_Ico, slotS, rowS, Finset.mem_filter, Finset.mem_univ, true_and]
  constructor
  · rintro ⟨p, hp, h⟩; omega
  · intro h
    refine ⟨4 * g + (x 0).val / 128 % 4, by omega, by omega⟩

theorem slots_disj (g : ℕ) : ∀ p ∈ Finset.Ico (4 * g) (4 * g + 4), ∀ p' ∈ Finset.Ico (4 * g) (4 * g + 4), p ≠ p' → Disjoint (slotS (p % 56)) (slotS (p' % 56)) := by
  intro p hp p' hp' hne
  rw [Finset.mem_Ico] at hp hp'
  refine Finset.disjoint_left.mpr fun x hx hy => ?_
  simp only [slotS, Finset.mem_filter, Finset.mem_univ, true_and] at hx hy
  omega

/-- The four slots of a group, joined. -/
theorem slots_join (c : Dev nD) (f4 : Vec F S14336x4096 .fp8e4m3) (b : ℕ → BitVec 1) (g : ℕ) :
    bigSep (Finset.Ico (4 * g) (4 * g + 4)) (SV c f4 b)
      ⊢ (iprop(∃ f : Vec F S7168x4096 .fp8e4m3, ⌜∀ p ∈ Finset.Ico (4 * g) (4 * g + 4), p < NL b → SlotHas f4 b p f⌝ ∗ ((c : Thread nD τ).loc cc0_scratch9 ↦[rowS (g % 14)]{fullShare} f)) : sProp 𝕄) := by
  haveI hne : Nonempty (Vec F S7168x4096 .fp8e4m3) := ⟨fun _ => f4 (ix2 (n0 := 14336) (n1 := 4096) ⟨0, by decide⟩ ⟨0, by decide⟩)⟩
  have key1 : bigSep (Finset.Ico (4 * g) (4 * g + 4)) (SV c f4 b) ⊢ (iprop(∃ fs : ℕ → S7168x4096.Idx → Elt F .fp8e4m3, bigSep (Finset.Ico (4 * g) (4 * g + 4)) (fun p => (iprop(((c : Thread nD τ).loc cc0_scratch9 ↦[slotS (p % 56)]{fullShare} fs p) ∗ ⌜p < NL b → SlotHas f4 b p (fs p)⌝) : sProp 𝕄))) : sProp 𝕄) := bigSep_exists_pi (Y := fun _ : ℕ => S7168x4096.Idx → Elt F .fp8e4m3) (Finset.Ico (4 * g) (4 * g + 4))
    (fun p f => (iprop(((c : Thread nD τ).loc cc0_scratch9 ↦[slotS (p % 56)]{fullShare} f) ∗ ⌜p < NL b → SlotHas f4 b p f⌝) : sProp 𝕄))
  have key2 : ∀ fs : ℕ → S7168x4096.Idx → Elt F .fp8e4m3, bigSep (Finset.Ico (4 * g) (4 * g + 4)) (fun p => (iprop(((c : Thread nD τ).loc cc0_scratch9 ↦[slotS (p % 56)]{fullShare} fs p) ∗ ⌜p < NL b → SlotHas f4 b p (fs p)⌝) : sProp 𝕄))
    ⊢ (iprop(⌜∀ p ∈ Finset.Ico (4 * g) (4 * g + 4), p < NL b → SlotHas f4 b p (fs p)⌝ ∗ bigSep (Finset.Ico (4 * g) (4 * g + 4)) fun p => ((c : Thread nD τ).loc cc0_scratch9 ↦[slotS (p % 56)]{fullShare} fs p)) : sProp 𝕄) := by
    intro fs
    refine BIBase.Entails.trans (bigSep_mono fun p hp => ?_) (bigSep_pure_sep (Finset.Ico (4 * g) (4 * g + 4)) (fun p => p < NL b → SlotHas f4 b p (fs p)) (fun p => ((c : Thread nD τ).loc cc0_scratch9 ↦[slotS (p % 56)]{fullShare} fs p)))
    show (_ : sProp 𝕄) ⊢ _
    iintro ⟨H1, H2⟩
    isplitl [H2]; · iexact H2
    iexact H1
  have key3 : ∀ fs : ℕ → S7168x4096.Idx → Elt F .fp8e4m3, bigSep (Finset.Ico (4 * g) (4 * g + 4)) (fun p => ((c : Thread nD τ).loc cc0_scratch9 ↦[slotS (p % 56)]{fullShare} fs p : sProp 𝕄))
      ⊢ (iprop(∃ f : S7168x4096.Idx → Elt F .fp8e4m3, ⌜∀ p ∈ Finset.Ico (4 * g) (4 * g + 4), ∀ i ∈ slotS (p % 56), f i = fs p i⌝ ∗ ((c : Thread nD τ).loc cc0_scratch9 ↦[rowS (g % 14)]{fullShare} f)) : sProp 𝕄) := by
    intro fs
    have h := pointsTo_biUnion_join (Val := Elt F) (ℓ := (c : Thread nD τ).loc cc0_scratch9) (q := fullShare) (Ix := Unit) (Name := ℕ) (U := Pipeline.UD sig nD τ) (Lvl := ℕ) (Finset.Ico (4 * g) (4 * g + 4)) (fun p => slotS (p % 56)) fs (fs 0) (slots_disj g)
    rw [rowS_eq g] at h
    exact h
  iintro H
  ihave H := key1 $$ H
  icases H with ⟨%fs, H⟩
  ihave H := (key2 fs) $$ H
  icases H with ⟨%hfs, H⟩
  ihave H := (key3 fs) $$ H
  icases H with ⟨%f, %hf, H⟩
  iexists f
  isplitr
  · ipureintro
    intro p hp hN x hx y h0 h1
    rw [hf p hp x hx]
    exact hfs p hp hN x hx y h0 h1
  iexact H

/-- The joined slots, taken apart. -/
theorem slots_split (c : Dev nD) (f4 : Vec F S14336x4096 .fp8e4m3) (b : ℕ → BitVec 1) (g : ℕ) (f : Vec F S7168x4096 .fp8e4m3)
    (hf : ∀ p ∈ Finset.Ico (4 * g) (4 * g + 4), p < NL b → SlotHas f4 b p f) :
    ((c : Thread nD τ).loc cc0_scratch9 ↦[rowS (g % 14)]{fullShare} f : sProp 𝕄) ⊢ bigSep (Finset.Ico (4 * g) (4 * g + 4)) (SV c f4 b) := by
  have h := pointsTo_biUnion (Val := Elt F) (ℓ := (c : Thread nD τ).loc cc0_scratch9) (q := fullShare) (f := f) (Ix := Unit) (Name := ℕ) (U := Pipeline.UD sig nD τ) (Lvl := ℕ) (Finset.Ico (4 * g) (4 * g + 4)) (fun p => slotS (p % 56)) (slots_disj g)
  rw [rowS_eq g] at h
  rw [h]
  refine bigSep_mono fun p hp => ?_
  unfold SV
  show (_ : sProp 𝕄) ⊢ _
  iintro H
  iexists f
  isplitl [H]; · iexact H
  ipureintro
  exact hf p hp

/-- 128 columns of the codes. -/
def Bk (hcv : Vec F S32x14464 .fp8e4m3) (i : ℕ) : Vec F S32x128 .fp8e4m3 := fun z =>
  hcv (ix2 (n0 := 32) (n1 := 14464) ⟨(z 0).val, (z 0).isLt⟩ ⟨(128 * i + (z 1).val) % 14464, Nat.mod_lt _ (by decide)⟩)

/-- The rows of a group's live blocks. -/
def WdOk (f4 : Vec F S14336x4096 .fp8e4m3) (b : ℕ → BitVec 1) (g : ℕ) (wd : Vec F S512x4096 .fp8e4m3) : Prop :=
  ∀ z : S512x4096.Idx, ∀ y : S14336x4096.Idx, 4 * g + (z 0).val / 128 < NL b → (y 0).val = 128 * lv b (4 * g + (z 0).val / 128) + (z 0).val % 128 → (y 1).val = (z 1).val → wd z = f4 y

/-- The accumulator after `g` groups. -/
def AccRel (f4 : Vec F S14336x4096 .fp8e4m3) (b : ℕ → BitVec 1) (hcv : Vec F S32x14464 .fp8e4m3) : ℕ → Vec F S32x4096 .f32 → Prop
  | 0, a => a = k0_pay35
  | g + 1, a => ∃ a0 wd, AccRel f4 b hcv g a0 ∧ WdOk f4 b g wd ∧
      a = k0_pay11 (Bk hcv (ls b (4 * g))) (Bk hcv (ls b (4 * g + 1))) (Bk hcv (ls b (4 * g + 2))) (Bk hcv (ls b (4 * g + 3))) a0 wd

/-- What the second loop owns before group `g`. -/
def DnSt (c : Dev nD) (f4 : Vec F S14336x4096 .fp8e4m3) (b : ℕ → BitVec 1) (hcv : Vec F S32x14464 .fp8e4m3) (q : PosShare TreeShare) (g : ℕ) : sProp 𝕄 :=
  iprop(LiveP c b ∗ bigSep (Finset.Ico g (g + 14)) (fun h => CellU c f4 b h (min 4 (NL b - 4 * h)) 0) ∗ bigSep (Finset.Ico (4 * g) (4 * g + 56)) (OptFree c f4 b)
    ∗ bigSep (Finset.Ico 0 (4 * g)) (OptTok c f4 b) ∗ bigSep (Finset.Ico (4 * g + 56) 170) (OptTok c f4 b)
    ∗ ((c : Thread nD τ).loc cc0_scratch11 ↦{q} hcv) ∗ iprop(∃ a, ((c : Thread nD τ).loc cc0_scratch12 ↦{fullShare} a) ∗ ⌜AccRel f4 b hcv g a⌝) ∗ Owes c)

theorem blk_val (hcv : Vec F S32x14464 .fp8e4m3) {i : ℕ} (hi : i ≤ 112) {off : Fin 2 → ℕ} {h} (e : off = ![0, 128 * i]) (z : S32x128.Idx) :
    hcv ((Rect.unit (s := S32x14464) off S32x128.size h).emb z) = Bk hcv i z := by
  subst e
  unfold Bk
  refine congrArg hcv (funext (Fin.forall_fin_two.mpr ⟨Fin.ext ?_, Fin.ext ?_⟩))
  · refine (embU (s := S32x14464) (off := ![0, 128 * i]) (size := S32x128.size) (inb := h) _ 0 rfl).trans ?_
    show 0 + (z 0).val = (z 0).val
    omega
  · have h1 : (z 1).val < 128 := (z 1).isLt
    refine (embU (s := S32x14464) (off := ![0, 128 * i]) (size := S32x128.size) (inb := h) _ 1 rfl).trans ?_
    show 128 * i + (z 1).val = (128 * i + (z 1).val) % 14464
    omega

theorem row_sub (j : ℕ) {off : Fin 2 → ℕ} {h} (e : off = ![512 * j, 0]) :
    ((Memref.whole cc0_scratch9).access (Rect.unit (s := S7168x4096) off S512x4096.size h)).set = rowS j := by
  subst e
  refine (View.set_slice_whole cc0_scratch9 _).trans ?_
  ext x
  rw [Rect.mem_set_unit]
  simp only [rowS, Finset.mem_filter, Finset.mem_univ, true_and]
  have h1 : (x 1).val < 4096 := (x 1).isLt
  refine Fin.forall_fin_two.trans ?_
  show ((512 * j ≤ (x 0).val ∧ (x 0).val < 512 * j + 512) ∧ (0 ≤ (x 1).val ∧ (x 1).val < 0 + 4096)) ↔ (x 0).val / 512 = j
  omega

theorem row_val (f4 : Vec F S14336x4096 .fp8e4m3) (b : ℕ → BitVec 1) (g : ℕ) (f : Vec F S7168x4096 .fp8e4m3)
    (hf : ∀ p ∈ Finset.Ico (4 * g) (4 * g + 4), p < NL b → SlotHas f4 b p f) {off : Fin 2 → ℕ} {h} (e : off = ![512 * (g % 14), 0]) :
    WdOk f4 b g (fun z => f ((Rect.unit (s := S7168x4096) off S512x4096.size h).emb z)) := by
  subst e
  intro z y hN h0 h1
  have hz : (z 0).val < 512 := (z 0).isLt
  have e0 := embU (s := S7168x4096) (off := ![512 * (g % 14), 0]) (size := S512x4096.size) (inb := h) z 0 (n := 512 * (g % 14)) rfl
  have e1 := embU (s := S7168x4096) (off := ![512 * (g % 14), 0]) (size := S512x4096.size) (inb := h) z 1 (n := 0) rfl
  refine hf (4 * g + (z 0).val / 128) (Finset.mem_Ico.mpr (by omega)) hN _ ?_ y ?_ ?_
  · simp only [slotS, Finset.mem_filter, Finset.mem_univ, true_and]
    rw [e0]
    omega
  · rw [h0, e0]
    omega
  · rw [h1, e1]
    omega

theorem dnW0 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ CellU c f4 b t.val (min 4 (NL b - 4 * t.val)) (KD * min 0 (NL b - 4 * t.val)) ∗ Owes c : sProp 𝕄)
      ⊢ iprop((iprop(LiveP c b ∗ CellU c f4 b t.val (min 4 (NL b - 4 * t.val)) (KD * min (0 + 1) (NL b - 4 * t.val)) ∗ Owes c) -∗ WP c (cont ⟨⟩) Q)
        -∗ WP c (dnWait0 (W (NL b)) hw t cont) Q) := by
  have hN : NL b < 113 := by have := NL_le b; omega
  have hC := wCond0_all ⟨NL b, hN⟩ t
  have eA := wOffL0_all ⟨NL b, hN⟩ t
  have e1 := wOffC0_all ⟨NL b, hN⟩ t
  unfold dnWait0
  exact wp_waitP (F := F) (α := α) (cont := cont) (Q := Q) c f4 b t.val 0 (by omega) hC eA e1 (fun i h => wChk0 _ _ h)

theorem dnF0 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ SV c f4 b (4 * t.val + 0) ∗ OptTok c f4 b (4 * t.val + 56 + 0) ∗ CellU c f4 b (t.val + 14) (min 0 (NL b - 4 * (t.val + 14))) 0 : sProp 𝕄)
      ⊢ iprop((iprop(LiveP c b ∗ OptFree c f4 b (4 * t.val + 56 + 0) ∗ CellU c f4 b (t.val + 14) (min (0 + 1) (NL b - 4 * (t.val + 14))) 0) -∗ WP c (cont ⟨⟩) Q)
        -∗ WP c (dnFill0 (W (NL b)) hw t cont) Q) := by
  have hN : NL b < 113 := by have := NL_le b; omega
  have hC := rCond0_all ⟨NL b, hN⟩ t
  have eA := rOffL0_all ⟨NL b, hN⟩ t
  have e1 := rOffC0_all ⟨NL b, hN⟩ t
  have e3 := rOffS0_all ⟨NL b, hN⟩ t
  unfold dnFill0
  exact wp_fillP (F := F) (α := α) (cont := cont) (Q := Q) c f4 b t.val 0 (by omega) hC eA e1 (fun i h => by rw [rOffW0, offW_eq h]) e3 (fun i h => rChk0 _ _ h)

theorem dnW1 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ CellU c f4 b t.val (min 4 (NL b - 4 * t.val)) (KD * min 1 (NL b - 4 * t.val)) ∗ Owes c : sProp 𝕄)
      ⊢ iprop((iprop(LiveP c b ∗ CellU c f4 b t.val (min 4 (NL b - 4 * t.val)) (KD * min (1 + 1) (NL b - 4 * t.val)) ∗ Owes c) -∗ WP c (cont ⟨⟩) Q)
        -∗ WP c (dnWait1 (W (NL b)) hw t cont) Q) := by
  have hN : NL b < 113 := by have := NL_le b; omega
  have hC := wCond1_all ⟨NL b, hN⟩ t
  have eA := wOffL1_all ⟨NL b, hN⟩ t
  have e1 := wOffC1_all ⟨NL b, hN⟩ t
  unfold dnWait1
  exact wp_waitP (F := F) (α := α) (cont := cont) (Q := Q) c f4 b t.val 1 (by omega) hC eA e1 (fun i h => wChk1 _ _ h)

theorem dnF1 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ SV c f4 b (4 * t.val + 1) ∗ OptTok c f4 b (4 * t.val + 56 + 1) ∗ CellU c f4 b (t.val + 14) (min 1 (NL b - 4 * (t.val + 14))) 0 : sProp 𝕄)
      ⊢ iprop((iprop(LiveP c b ∗ OptFree c f4 b (4 * t.val + 56 + 1) ∗ CellU c f4 b (t.val + 14) (min (1 + 1) (NL b - 4 * (t.val + 14))) 0) -∗ WP c (cont ⟨⟩) Q)
        -∗ WP c (dnFill1 (W (NL b)) hw t cont) Q) := by
  have hN : NL b < 113 := by have := NL_le b; omega
  have hC := rCond1_all ⟨NL b, hN⟩ t
  have eA := rOffL1_all ⟨NL b, hN⟩ t
  have e1 := rOffC1_all ⟨NL b, hN⟩ t
  have e3 := rOffS1_all ⟨NL b, hN⟩ t
  unfold dnFill1
  exact wp_fillP (F := F) (α := α) (cont := cont) (Q := Q) c f4 b t.val 1 (by omega) hC eA e1 (fun i h => by rw [rOffW1, offW_eq h]) e3 (fun i h => rChk1 _ _ h)

theorem dnW2 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ CellU c f4 b t.val (min 4 (NL b - 4 * t.val)) (KD * min 2 (NL b - 4 * t.val)) ∗ Owes c : sProp 𝕄)
      ⊢ iprop((iprop(LiveP c b ∗ CellU c f4 b t.val (min 4 (NL b - 4 * t.val)) (KD * min (2 + 1) (NL b - 4 * t.val)) ∗ Owes c) -∗ WP c (cont ⟨⟩) Q)
        -∗ WP c (dnWait2 (W (NL b)) hw t cont) Q) := by
  have hN : NL b < 113 := by have := NL_le b; omega
  have hC := wCond2_all ⟨NL b, hN⟩ t
  have eA := wOffL2_all ⟨NL b, hN⟩ t
  have e1 := wOffC2_all ⟨NL b, hN⟩ t
  unfold dnWait2
  exact wp_waitP (F := F) (α := α) (cont := cont) (Q := Q) c f4 b t.val 2 (by omega) hC eA e1 (fun i h => wChk2 _ _ h)

theorem dnF2 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ SV c f4 b (4 * t.val + 2) ∗ OptTok c f4 b (4 * t.val + 56 + 2) ∗ CellU c f4 b (t.val + 14) (min 2 (NL b - 4 * (t.val + 14))) 0 : sProp 𝕄)
      ⊢ iprop((iprop(LiveP c b ∗ OptFree c f4 b (4 * t.val + 56 + 2) ∗ CellU c f4 b (t.val + 14) (min (2 + 1) (NL b - 4 * (t.val + 14))) 0) -∗ WP c (cont ⟨⟩) Q)
        -∗ WP c (dnFill2 (W (NL b)) hw t cont) Q) := by
  have hN : NL b < 113 := by have := NL_le b; omega
  have hC := rCond2_all ⟨NL b, hN⟩ t
  have eA := rOffL2_all ⟨NL b, hN⟩ t
  have e1 := rOffC2_all ⟨NL b, hN⟩ t
  have e3 := rOffS2_all ⟨NL b, hN⟩ t
  unfold dnFill2
  exact wp_fillP (F := F) (α := α) (cont := cont) (Q := Q) c f4 b t.val 2 (by omega) hC eA e1 (fun i h => by rw [rOffW2, offW_eq h]) e3 (fun i h => rChk2 _ _ h)

theorem dnW3 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ CellU c f4 b t.val (min 4 (NL b - 4 * t.val)) (KD * min 3 (NL b - 4 * t.val)) ∗ Owes c : sProp 𝕄)
      ⊢ iprop((iprop(LiveP c b ∗ CellU c f4 b t.val (min 4 (NL b - 4 * t.val)) (KD * min (3 + 1) (NL b - 4 * t.val)) ∗ Owes c) -∗ WP c (cont ⟨⟩) Q)
        -∗ WP c (dnWait3 (W (NL b)) hw t cont) Q) := by
  have hN : NL b < 113 := by have := NL_le b; omega
  have hC := wCond3_all ⟨NL b, hN⟩ t
  have eA := wOffL3_all ⟨NL b, hN⟩ t
  have e1 := wOffC3_all ⟨NL b, hN⟩ t
  unfold dnWait3
  exact wp_waitP (F := F) (α := α) (cont := cont) (Q := Q) c f4 b t.val 3 (by omega) hC eA e1 (fun i h => wChk3 _ _ h)

theorem dnF3 (c : Dev nD) (f4 : Vec F S14336x4096 .fp8e4m3) (b : ℕ → BitVec 1) {hw} (t : Fin (k0_t2_loop (W (NL b))).trips) {α : Type} {cont : PUnit.{1} → Prog (TpuEff nD τ sig (Elt F) Λ₀ .tc) α} {Q : α → sProp 𝕄} :
    iprop(LiveP c b ∗ SV c f4 b (4 * t.val + 3) ∗ OptTok c f4 b (4 * t.val + 56 + 3) ∗ CellU c f4 b (t.val + 14) (min 3 (NL b - 4 * (t.val + 14))) 0 : sProp 𝕄)
      ⊢ iprop((iprop(LiveP c b ∗ OptFree c f4 b (4 * t.val + 56 + 3) ∗ CellU c f4 b (t.val + 14) (min (3 + 1) (NL b - 4 * (t.val + 14))) 0) -∗ WP c (cont ⟨⟩) Q)
        -∗ WP c (dnFill3 (W (NL b)) hw t cont) Q) := by
  have hN : NL b < 113 := by have := NL_le b; omega
  have hC := rCond3_all ⟨NL b, hN⟩ t
  have eA := rOffL3_all ⟨NL b, hN⟩ t
  have e1 := rOffC3_all ⟨NL b, hN⟩ t
  have e3 := rOffS3_all ⟨NL b, hN⟩ t
  unfold dnFill3
  exact wp_fillP (F := F) (α := α) (cont := cont) (Q := Q) c f4 b t.val 3 (by omega) hC eA e1 (fun i h => by rw [rOffW3, offW_eq h]) e3 (fun i h => rChk3 _ _ h)

end Cert.KernelIdeal.Hand

end
-- ==== Proof.KI.Split.lean ====
/- The buffers of the kernel taken apart before the loops and put together after them. -/
module

public import proofs.«01_k».proof.Proof.KI.Down2

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A separating conjunction over one period may start anywhere. -/
theorem sep_rot (Φ : ℕ → sProp 𝕄) (m : ℕ) (hm : 0 < m) (h : ∀ n, Φ (n + m) = Φ n) (G : ℕ) : bigSep (Finset.Ico G (G + m)) Φ = bigSep (Finset.Ico 0 m) Φ := by
  induction G with
  | zero => rw [Nat.zero_add]
  | succ G ih =>
    rw [← ih, show G + 1 + m = G + m + 1 by omega, sep_last (by omega), sep_head (show G < G + m by omega), h]

theorem sep_fupd (S : Finset ℕ) (Φ Ψ : ℕ → sProp 𝕄) (h : ∀ i ∈ S, Φ i ⊢ iprop(|={Set.univ}=> Ψ i)) : bigSep S Φ ⊢ iprop(|={Set.univ}=> bigSep S Ψ) := by
  classical
  induction S using Finset.induction_on with
  | empty => rw [bigSep_empty, bigSep_empty]; exact fupd_intro
  | insert a S ha ih =>
    rw [bigSep_insert' ha, bigSep_insert' ha]
    iintro ⟨H1, H2⟩
    imod (h a (Finset.mem_insert_self _ _)) $$ H1 with H1
    imod (ih fun i hi => h i (Finset.mem_insert_of_mem hi)) $$ H2 with H2
    imodintro
    isplitl [H1]; · iexact H1
    iexact H2

/-- A part that can be given back. -/
theorem lend_big (S : Finset ℕ) (A B : ℕ → sProp 𝕄) (h : ∀ i ∈ S, A i ⊢ iprop(B i ∗ (B i -∗ A i))) : bigSep S A ⊢ iprop(bigSep S B ∗ (bigSep S B -∗ bigSep S A)) := by
  refine BIBase.Entails.trans (bigSep_mono h) ?_
  have e1 : bigSep S (fun i => (iprop(B i ∗ (B i -∗ A i)) : sProp 𝕄)) = iprop(bigSep S B ∗ bigSep S (fun i => iprop(B i -∗ A i))) := bigSep_sep S B (fun i => iprop(B i -∗ A i))
  refine BIBase.Entails.trans (Entails.of_eq e1) ?_
  iintro ⟨HB, HW⟩
  isplitl [HB]; · iexact HB
  iintro HB
  have key : iprop(bigSep S (fun i => iprop(B i -∗ A i)) ∗ bigSep S B : sProp 𝕄) ⊢ bigSep S A := by
    have e2 : bigSep S (fun i => (iprop((B i -∗ A i) ∗ B i) : sProp 𝕄)) = iprop(bigSep S (fun i => iprop(B i -∗ A i)) ∗ bigSep S B) := bigSep_sep S (fun i => iprop(B i -∗ A i)) B
    refine BIBase.Entails.trans (Entails.of_eq e2.symm) ?_
    refine bigSep_mono fun i hi => ?_
    show (_ : sProp 𝕄) ⊢ _
    iintro ⟨HW, HB⟩
    iapply HW
    iexact HB
  iapply key
  isplitl [HW]; · iexact HW
  iexact HB

/-- The second matrix, taken apart into the shares the copies read; they can be given back. -/
theorem w4_split (c : Dev nD) (f4 : Vec F S14336x4096 .fp8e4m3) (b : ℕ → BitVec 1) :
    ((c : Thread nD τ).loc main_arg4 ↦{fullShare} f4 : sProp 𝕄)
      ⊢ iprop(bigSep (Finset.Ico 0 170) (OptTok c f4 b) ∗ (bigSep (Finset.Ico 0 170) (OptTok c f4 b) -∗ ((c : Thread nD τ).loc main_arg4 ↦{fullShare} f4))) := by
  have e := Transfers.pointsTo_toks_range (Val := Elt F) (ℓ := (c : Thread nD τ).loc main_arg4) (S := Finset.univ) (f := f4) (Ix := Unit) (Name := ℕ) (U := Pipeline.UD sig nD τ) (Lvl := ℕ) fullShare 170
  rw [Finset.range_eq_Ico] at e
  have h2 := lend_big (F := F) (Finset.Ico 0 170) (fun i => ((c : Thread nD τ).loc main_arg4 ↦[Finset.univ]{Transfers.shareTokN fullShare i} f4)) (OptTok c f4 b) (fun i hi => by
    unfold OptTok
    split
    · unfold TokV
      have h := pointsTo_split_subset (Val := Elt F) (ℓ := (c : Thread nD τ).loc main_arg4) (q := Transfers.shareTokN fullShare i) (f := f4) (Ix := Unit) (Name := ℕ) (U := Pipeline.UD sig nD τ) (Lvl := ℕ) (Finset.subset_univ (blkS (lv b i)))
      refine BIBase.Entails.trans h.1 ?_
      iintro ⟨H1, H2⟩
      isplitl [H1]; · iexact H1
      iintro H1
      iapply h.2
      isplitl [H1]; · iexact H1
      iexact H2
    · iintro H
      isplitr; · iempintro
      iintro -
      iexact H)
  iintro H
  ihave H := e.1 $$ H
  icases H with ⟨H0, H⟩
  ihave H := h2 $$ H
  icases H with ⟨HB, HW⟩
  isplitl [HB]; · iexact HB
  iintro HB
  iapply e.2
  isplitl [H0]; · iexact H0
  iapply HW
  iexact HB

theorem cols_all [DecidableEq S4096x14336.Idx] : (Finset.Ico 0 28).biUnion colS = Finset.univ := by
  ext x
  have hx : (x 1).val < 14336 := (x 1).isLt
  simp only [Finset.mem_biUnion, Finset.mem_Ico, colS, Finset.mem_filter, Finset.mem_univ, true_and, iff_true]
  exact ⟨(x 1).val / 512, by omega, rfl⟩

/-- The first matrix is its column blocks. -/
theorem w1_split (c : Dev nD) (f1 : Vec F S4096x14336 .fp8e4m3) :
    ((c : Thread nD τ).loc main_arg1 ↦{fullShare} f1 : sProp 𝕄) = bigSep (Finset.Ico 0 28) (ColB c f1) := by
  have h := pointsTo_biUnion (Val := Elt F) (ℓ := (c : Thread nD τ).loc main_arg1) (q := fullShare) (f := f1) (Ix := Unit) (Name := ℕ) (U := Pipeline.UD sig nD τ) (Lvl := ℕ) (Finset.Ico 0 28) colS (fun p hp p' hp' hne => by
    refine Finset.disjoint_left.mpr fun x hx hy => ?_
    simp only [colS, Finset.mem_filter, Finset.mem_univ, true_and] at hx hy
    omega)
  rw [cols_all] at h
  exact h

theorem rings_all [DecidableEq S8x4096x512.Idx] (a : ℕ) : (Finset.Ico a (a + 8)).biUnion (fun k => ringS (k % 8)) = Finset.univ := by
  ext x
  have hx : (x 0).val < 8 := (x 0).isLt
  simp only [Finset.mem_biUnion, Finset.mem_Ico, ringS, Finset.mem_filter, Finset.mem_univ, true_and, iff_true]
  exact ⟨a + ((x 0).val + 8 - a % 8) % 8, by omega, by omega⟩
theorem rings_disj (a : ℕ) : ∀ p ∈ Finset.Ico a (a + 8), ∀ p' ∈ Finset.Ico a (a + 8), p ≠ p' → Disjoint (ringS (p % 8)) (ringS (p' % 8)) := by
  intro p hp p' hp' hne
  rw [Finset.mem_Ico] at hp hp'
  refine Finset.disjoint_left.mpr fun x hx hy => ?_
  simp only [ringS, Finset.mem_filter, Finset.mem_univ, true_and] at hx hy
  omega

/-- A slot of the ring, with anything in it. -/
def RingF (c : Dev nD) (k : ℕ) : sProp 𝕄 := iprop(∃ f : Vec F S8x4096x512 .fp8e4m3, (c : Thread nD τ).loc cc0_scratch8 ↦[ringS (k % 8)]{fullShare} f)

theorem ring_split (c : Dev nD) (f : Vec F S8x4096x512 .fp8e4m3) (a : ℕ) :
    ((c : Thread nD τ).loc cc0_scratch8 ↦{fullShare} f : sProp 𝕄) ⊢ bigSep (Finset.Ico a (a + 8)) (RingF (F := F) c) := by
  have h := pointsTo_biUnion (Val := Elt F) (ℓ := (c : Thread nD τ).loc cc0_scratch8) (q := fullShare) (f := f) (Ix := Unit) (Name := ℕ) (U := Pipeline.UD sig nD τ) (Lvl := ℕ) (Finset.Ico a (a + 8)) (fun k => ringS (k % 8)) (rings_disj a)
  rw [rings_all] at h
  refine BIBase.Entails.trans (Entails.of_eq h) ?_
  refine bigSep_mono fun p hp => ?_
  unfold RingF
  show (_ : sProp 𝕄) ⊢ _
  iintro H
  iexists f
  iexact H

theorem ring_join (c : Dev nD) (e0 : Elt F .fp8e4m3) (a : ℕ) :
    bigSep (Finset.Ico a (a + 8)) (RingF (F := F) c) ⊢ (iprop(∃ f : Vec F S8x4096x512 .fp8e4m3, (c : Thread nD τ).loc cc0_scratch8 ↦{fullShare} f) : sProp 𝕄) := by
  haveI hne : Nonempty (Vec F S8x4096x512 .fp8e4m3) := ⟨fun _ => e0⟩
  have key1 : bigSep (Finset.Ico a (a + 8)) (RingF (F := F) c) ⊢ (iprop(∃ fs : ℕ → S8x4096x512.Idx → Elt F .fp8e4m3, bigSep (Finset.Ico a (a + 8)) (fun p => ((c : Thread nD τ).loc cc0_scratch8 ↦[ringS (p % 8)]{fullShare} fs p))) : sProp 𝕄) := bigSep_exists_pi (Y := fun _ : ℕ => S8x4096x512.Idx → Elt F .fp8e4m3) (Finset.Ico a (a + 8))
    (fun p f => ((c : Thread nD τ).loc cc0_scratch8 ↦[ringS (p % 8)]{fullShare} f : sProp 𝕄))
  iintro H
  ihave H := key1 $$ H
  icases H with ⟨%fs, H⟩
  have h := pointsTo_biUnion_join (Val := Elt F) (ℓ := (c : Thread nD τ).loc cc0_scratch8) (q := fullShare) (Ix := Unit) (Name := ℕ) (U := Pipeline.UD sig nD τ) (Lvl := ℕ) (Finset.Ico a (a + 8)) (fun p => ringS (p % 8)) fs (fs 0) (rings_disj a)
  rw [rings_all] at h
  ihave H := h $$ H
  icases H with ⟨%f, %hf, H⟩
  iexists f
  iexact H

theorem slots_all [DecidableEq S7168x4096.Idx] (a : ℕ) : (Finset.Ico a (a + 56)).biUnion (fun k => slotS (k % 56)) = Finset.univ := by
  ext x
  have hx : (x 0).val < 7168 := (x 0).isLt
  simp only [Finset.mem_biUnion, Finset.mem_Ico, slotS, Finset.mem_filter, Finset.mem_univ, true_and, iff_true]
  exact ⟨a + ((x 0).val / 128 + 56 - a % 56) % 56, by omega, by omega⟩
theorem slots_disj' (a : ℕ) : ∀ p ∈ Finset.Ico a (a + 56), ∀ p' ∈ Finset.Ico a (a + 56), p ≠ p' → Disjoint (slotS (p % 56)) (slotS (p' % 56)) := by
  intro p hp p' hp' hne
  rw [Finset.mem_Ico] at hp hp'
  refine Finset.disjoint_left.mpr fun x hx hy => ?_
  simp only [slotS, Finset.mem_filter, Finset.mem_univ, true_and] at hx hy
  omega

theorem slots_open (c : Dev nD) (f : Vec F S7168x4096 .fp8e4m3) :
    ((c : Thread nD τ).loc cc0_scratch9 ↦{fullShare} f : sProp 𝕄) ⊢ FreeS (F := F) c 0 := by
  have h := pointsTo_biUnion (Val := Elt F) (ℓ := (c : Thread nD τ).loc cc0_scratch9) (q := fullShare) (f := f) (Ix := Unit) (Name := ℕ) (U := Pipeline.UD sig nD τ) (Lvl := ℕ) (Finset.Ico 0 (0 + 56)) (fun k => slotS (k % 56)) (slots_disj' 0)
  rw [slots_all] at h
  refine BIBase.Entails.trans (Entails.of_eq h) ?_
  unfold FreeS
  refine bigSep_mono fun p hp => ?_
  show (_ : sProp 𝕄) ⊢ _
  iintro H
  iexists f
  iexact H

theorem slots_close (c : Dev nD) (f4 : Vec F S14336x4096 .fp8e4m3) (b : ℕ → BitVec 1) (a : ℕ) :
    bigSep (Finset.Ico a (a + 56)) (SV c f4 b) ⊢ (iprop(∃ f : Vec F S7168x4096 .fp8e4m3, (c : Thread nD τ).loc cc0_scratch9 ↦{fullShare} f) : sProp 𝕄) := by
  haveI hne : Nonempty (Vec F S7168x4096 .fp8e4m3) := ⟨fun _ => f4 (ValueIdx.ix2 (n0 := 14336) (n1 := 4096) ⟨0, by decide⟩ ⟨0, by decide⟩)⟩
  have key0 : bigSep (Finset.Ico a (a + 56)) (SV c f4 b) ⊢ bigSep (Finset.Ico a (a + 56)) (fun p => (iprop(∃ f : Vec F S7168x4096 .fp8e4m3, (c : Thread nD τ).loc cc0_scratch9 ↦[slotS (p % 56)]{fullShare} f) : sProp 𝕄)) := by
    refine bigSep_mono fun p hp => ?_
    unfold SV
    show (_ : sProp 𝕄) ⊢ _
    iintro ⟨%f, H, -⟩
    iexists f
    iexact H
  have key1 : bigSep (Finset.Ico a (a + 56)) (fun p => (iprop(∃ f : Vec F S7168x4096 .fp8e4m3, (c : Thread nD τ).loc cc0_scratch9 ↦[slotS (p % 56)]{fullShare} f) : sProp 𝕄)) ⊢ (iprop(∃ fs : ℕ → S7168x4096.Idx → Elt F .fp8e4m3, bigSep (Finset.Ico a (a + 56)) (fun p => ((c : Thread nD τ).loc cc0_scratch9 ↦[slotS (p % 56)]{fullShare} fs p))) : sProp 𝕄) := bigSep_exists_pi (Y := fun _ : ℕ => S7168x4096.Idx → Elt F .fp8e4m3) (Finset.Ico a (a + 56))
    (fun p f => ((c : Thread nD τ).loc cc0_scratch9 ↦[slotS (p % 56)]{fullShare} f : sProp 𝕄))
  iintro H
  ihave H := key0 $$ H
  ihave H := key1 $$ H
  icases H with ⟨%fs, H⟩
  have h := pointsTo_biUnion_join (Val := Elt F) (ℓ := (c : Thread nD τ).loc cc0_scratch9) (q := fullShare) (Ix := Unit) (Name := ℕ) (U := Pipeline.UD sig nD τ) (Lvl := ℕ) (Finset.Ico a (a + 56)) (fun p => slotS (p % 56)) fs (fs 0) (slots_disj' a)
  rw [slots_all] at h
  ihave H := h $$ H
  icases H with ⟨%f, %hf, H⟩
  iexists f
  iexact H

/-- The fourteen cells at rest. -/
def Sem14 (c : Dev nD) : sProp 𝕄 := bigSep (Finset.Ico 0 14) fun g => semVal (c, .dma (semDn g)) 0

theorem cells_open (c : Dev nD) (f4 : Vec F S14336x4096 .fp8e4m3) (b : ℕ → BitVec 1) :
    (Sem14 (F := F) c) ⊢ iprop(|={Set.univ}=> Cells c f4 b 0) := by
  unfold Sem14 Cells
  rw [Finset.range_eq_Ico]
  refine sep_fupd _ _ _ fun g hg => ?_
  rw [Nat.zero_sub, Nat.min_zero]
  unfold CellU
  exact Transfers.batch_alloc' (Lvl := ℕ) EC (c : Thread nD τ) () KD (fun u : Fin (min 4 (NL b - 4 * g)) => Del c f4 b (4 * g + u.val)) (sm := .dma (semDn g)) (E := Set.univ)

theorem cells_shut (c : Dev nD) (f4 : Vec F S14336x4096 .fp8e4m3) (b : ℕ → BitVec 1) (G : ℕ) (hG : NL b ≤ 4 * G) :
    bigSep (Finset.Ico G (G + 14)) (fun h => CellU c f4 b h (min 4 (NL b - 4 * h)) 0) ⊢ iprop(|={Set.univ}=> Sem14 (F := F) c) := by
  unfold Sem14
  rw [← sep_rot (fun g => (semVal (c, .dma (semDn g)) 0 : sProp 𝕄)) 14 (by decide) (fun n => by
    rw [← semDn_mod (n + 14), show (n + 14) % 14 = n % 14 by omega, semDn_mod]) G]
  refine sep_fupd _ _ _ fun g hg => ?_
  rw [Finset.mem_Ico] at hg
  have z : min 4 (NL b - 4 * g) = 0 := by omega
  have h := Transfers.batch_collect' (Lvl := ℕ) EC (c : Thread nD τ) (sm := .dma (semDn g)) (ι := ()) (D := fun t : Fin (min 4 (NL b - 4 * g)) => Del c f4 b (4 * g + t.val)) KD_pos
  rw [z] at h
  unfold CellU
  refine BIBase.Entails.trans ?_ (BIBase.Entails.trans h ?_)
  · rw [z, Nat.mul_zero]
  · refine fupd_mono ?_
    iintro ⟨-, H⟩
    iexact H

end Cert.KernelIdeal.Hand

end
-- ==== Proof.KI.Copy.lean ====
/- The rules of a plain copy between two buffers, and of waiting for it. -/
module

public import proofs.«01_k».proof.Proof.KI.Split

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The four cells of the copies in. -/
def semIn (j : ℕ) : DmaSem sig := ⟨j % 4, by show j % 4 < 31; omega⟩
/-- The five cells of the copies out. -/
def semOut (j : ℕ) : DmaSem sig := ⟨4 + j % 5, by show 4 + j % 5 < 31; omega⟩
theorem semIn_all : ∀ j : Fin 4, ∀ h, ((cc0_scoped0.slice (Rect.unit (s := S4) ![j.val] S1.size h)).squeeze S_ squeezes_S1_S_).sem = semIn j.val := by decide +kernel
theorem semOut_all : ∀ j : Fin 5, ∀ h, ((cc0_scoped1.slice (Rect.unit (s := S5) ![j.val] S1.size h)).squeeze S_ squeezes_S1_S_).sem = semOut j.val := by decide +kernel

/-- A copy between two buffers is started. -/
theorem wp_cp (c : Dev nD) {sp sp' : Space} {s : Shape} {e : EltTy} {src : Memref sig .tc sp s e} {dst : Memref sig .tc sp' s e} {sm sm' : DmaSem sig} (hsm : sm = sm')
    {q : PosShare TreeShare} {fs : Buf (Elt F) (src.view.loc (c : Thread nD τ))} {fd w : Buf (Elt F) (dst.view.loc (c : Thread nD τ))}
    {Ss : Finset (Idx (src.view.loc (c : Thread nD τ)))} {Sd : Finset (Idx (dst.view.loc (c : Thread nD τ)))} {N : ℕ} (hN : dst.view.amount (.dma sm') = N) (hN0 : 0 < N)
    (hSs : src.view.set = Ss) (hSd : dst.view.set = Sd) (hw : dst.view.write (Elt F) fd (src.view.read (Elt F) fs) Finset.univ = w) {h1 h2 h3}
    {α : Type} {K : PUnit → Prog (TpuEff nD τ sig (Elt F) Λ₀ .tc) α} {Q : α → sProp 𝕄} :
    iprop((src.view.loc (c : Thread nD τ) ↦[Ss]{q} fs) ∗ (dst.view.loc (c : Thread nD τ) ↦[Sd]{fullShare} fd) ∗ semVal (c, .dma sm') 0 : sProp 𝕄)
      ⊢ iprop((Transfers.Flight EC (c : Thread nD τ) (.dma sm') () N iprop((dst.view.loc (c : Thread nD τ) ↦[Sd]{fullShare} w) ∗ (src.view.loc (c : Thread nD τ) ↦[Ss]{q} fs)) -∗ WP c (K ⟨⟩) Q)
        -∗ WP c (.op (.enqueueDma src (.here dst) (.dma sm) h1 h2 h3) K) Q) := by
  subst hsm hSs hSd hw
  iintro ⟨Hs, Hd, Hv⟩ Hk
  iapply (Transfers.wp_dmaLocal EC Variants.none (c : Thread nD τ) none (src := src) (dst := dst) (q := q) (fs := fs) (Sd := dst.view.set) (fd := fd) () N hN hN0 (Finset.Subset.refl _)) $$ [Hs Hd Hv]
  · isplitl [Hs]; · iexact Hs
    isplitl [Hd]; · iexact Hd
    iexact Hv
  iintro HF
  iapply Hk
  iexact HF

/-- A copy between two buffers is awaited. -/
theorem wp_cpWait (c : Dev nD) {sp sp' : Space} {s s' : Shape} {e e' : EltTy} {src : Memref sig .tc sp s e} {dst : Memref sig .tc sp' s' e'} {sm sm' : DmaSem sig} (hsm : sm = sm') {D : sProp 𝕄}
    {N : ℕ} (hN : dst.view.dmaCredit = N) {h1 h2}
    {α : Type} {K : PUnit → Prog (TpuEff nD τ sig (Elt F) Λ₀ .tc) α} {Q : α → sProp 𝕄} :
    iprop(Transfers.Flight EC (c : Thread nD τ) (.dma sm') () N D ∗ Owes c : sProp 𝕄)
      ⊢ iprop((iprop(D ∗ semVal (c, .dma sm') 0 ∗ Owes c) -∗ WP c (K ⟨⟩) Q) -∗ WP c (.op (.waitDma2 sm src dst h1 h2) K) Q) := by
  subst hsm
  unfold Owes
  iintro ⟨HF, ⟨%W', HO⟩⟩ Hk
  iapply (Transfers.wp_waitLocal EC Variants.none (c : Thread nD τ) none (srcw := src) (dstw := dst) () (N := N) hN) $$ [HF HO]
  · isplitl [HF]; · iexact HF
    iexact HO
  iintro ⟨HD, HV, HO⟩
  iapply Hk
  isplitl [HD]; · iexact HD
  isplitl [HV]; · iexact HV
  iexists _
  iexact HO

/-- A whole buffer copied into a whole buffer. -/
theorem whole_val {b : Ref sig .tc} (f w : b.ty.Contents (Elt F)) : (Memref.whole b).view.write (Elt F) f w Finset.univ = w := View.write_whole_univ b f w

/-- A whole buffer is stored. -/
theorem wp_stW (c : Dev nD) {cs : CoreSpace} {s : Shape} {e : EltTy} {m : Memref sig .tc cs s e} {r : Rect s} {w : r.shape.Idx → Elt F e} {hx : (m.access r).Stores Finset.univ} {hm : Finset.univ = Finset.univ ∨ ∀ a, r.stride a = 1} {α : Type}
    {k : PUnit → Prog (TpuEff nD τ sig (Elt F) Λ₀ .tc) α} {Q : α → sProp 𝕄}
    {S : Finset (Idx ((m.access r).loc (c : Thread nD τ)))} {f w' : Buf (Elt F) ((m.access r).loc (c : Thread nD τ))}
    (hw : (m.access r).write (Elt F) f w Finset.univ = w') (hS : (m.access r).setOn Finset.univ ⊆ S) :
    ((m.access r).loc (c : Thread nD τ) ↦[S]{fullShare} f : sProp 𝕄)
      ⊢ iprop((((m.access r).loc (c : Thread nD τ) ↦[S]{fullShare} w') -∗ WP c (k ⟨⟩) Q) -∗ WP c (.op (.store m r w Finset.univ hx hm) k) Q) := by
  subst hw
  exact wp_store (defs := defs₀ (F := F)) Variants.none (c : Thread nD τ) none Set.univ hS

end Cert.KernelIdeal.Hand

end
-- ==== Proof.KI.BodyA.lean ====
/- The start of the kernel: its copies in. -/
module

public import proofs.«01_k».proof.Proof.KI.Copy

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem st_write4 (a w : Vec F S32x4096 .fp8e4m3) {h} :
    ((Memref.whole cc0_scratch4).access (Rect.unit (s := S32x4096) ![0, 0] S32x4096.size h)).write (Elt F) a w Finset.univ = w := by
  funext x
  have hx : ((Memref.whole cc0_scratch4).access (Rect.unit (s := S32x4096) ![0, 0] S32x4096.size h)).emb x = x := by
    show (Rect.unit (s := S32x4096) ![0, 0] S32x4096.size h).emb x = x
    rw [Rect.emb_unit_full]
  have hw := View.write_emb_of_mem (v := (Memref.whole cc0_scratch4).access (Rect.unit (s := S32x4096) ![0, 0] S32x4096.size h)) a w (Finset.mem_univ x)
  rw [hx] at hw
  exact hw

theorem st_write5 (a w : Vec F S32x128 .f32) {h} :
    ((Memref.whole cc0_scratch5).access (Rect.unit (s := S32x128) ![0, 0] S32x128.size h)).write (Elt F) a w Finset.univ = w := by
  funext x
  have hx : ((Memref.whole cc0_scratch5).access (Rect.unit (s := S32x128) ![0, 0] S32x128.size h)).emb x = x := by
    show (Rect.unit (s := S32x128) ![0, 0] S32x128.size h).emb x = x
    rw [Rect.emb_unit_full]
  have hw := View.write_emb_of_mem (v := (Memref.whole cc0_scratch5).access (Rect.unit (s := S32x128) ![0, 0] S32x128.size h)) a w (Finset.mem_univ x)
  rw [hx] at hw
  exact hw

theorem st_write6 (a w : Vec F S1x32 .f32) {h} :
    ((Memref.whole cc0_scratch6).access (Rect.unit (s := S1x32) ![0, 0] S1x32.size h)).write (Elt F) a w Finset.univ = w := by
  funext x
  have hx : ((Memref.whole cc0_scratch6).access (Rect.unit (s := S1x32) ![0, 0] S1x32.size h)).emb x = x := by
    show (Rect.unit (s := S1x32) ![0, 0] S1x32.size h).emb x = x
    rw [Rect.emb_unit_full]
  have hw := View.write_emb_of_mem (v := (Memref.whole cc0_scratch6).access (Rect.unit (s := S1x32) ![0, 0] S1x32.size h)) a w (Finset.mem_univ x)
  rw [hx] at hw
  exact hw

theorem st_write7 (a w : Vec F S1x32 .f32) {h} :
    ((Memref.whole cc0_scratch7).access (Rect.unit (s := S1x32) ![0, 0] S1x32.size h)).write (Elt F) a w Finset.univ = w := by
  funext x
  have hx : ((Memref.whole cc0_scratch7).access (Rect.unit (s := S1x32) ![0, 0] S1x32.size h)).emb x = x := by
    show (Rect.unit (s := S1x32) ![0, 0] S1x32.size h).emb x = x
    rw [Rect.emb_unit_full]
  have hw := View.write_emb_of_mem (v := (Memref.whole cc0_scratch7).access (Rect.unit (s := S1x32) ![0, 0] S1x32.size h)) a w (Finset.mem_univ x)
  rw [hx] at hw
  exact hw

theorem st_write13 (a w : Vec F S32x4096 .bf16) {h} :
    ((Memref.whole cc0_scratch13).access (Rect.unit (s := S32x4096) ![0, 0] S32x4096.size h)).write (Elt F) a w Finset.univ = w := by
  funext x
  have hx : ((Memref.whole cc0_scratch13).access (Rect.unit (s := S32x4096) ![0, 0] S32x4096.size h)).emb x = x := by
    show (Rect.unit (s := S32x4096) ![0, 0] S32x4096.size h).emb x = x
    rw [Rect.emb_unit_full]
  have hw := View.write_emb_of_mem (v := (Memref.whole cc0_scratch13).access (Rect.unit (s := S32x4096) ![0, 0] S32x4096.size h)) a w (Finset.mem_univ x)
  rw [hx] at hw
  exact hw

abbrev NIX : ℕ := (Memref.whole cc0_scratch0).view.dmaCredit
theorem NIX_pos : 0 < NIX := by decide
/-- The copy of `main_v0` in. -/
def InX (c : Dev nD) (v : Vec F S32x4096 .bf16) : sProp 𝕄 := Transfers.Flight EC (c : Thread nD τ) (.dma (semIn 0)) () NIX iprop((((c : Thread nD τ).loc cc0_scratch0) ↦{fullShare} v) ∗ (((c : Thread nD τ).loc main_v0) ↦{fullShare} v))

abbrev NIU : ℕ := (Memref.whole cc0_scratch1).view.dmaCredit
theorem NIU_pos : 0 < NIU := by decide
/-- The copy of `main_v1` in. -/
def InU (c : Dev nD) (v : Vec F S1x14336 .f32) : sProp 𝕄 := Transfers.Flight EC (c : Thread nD τ) (.dma (semIn 1)) () NIU iprop((((c : Thread nD τ).loc cc0_scratch1) ↦{fullShare} v) ∗ (((c : Thread nD τ).loc main_v1) ↦{fullShare} v))

abbrev NIB : ℕ := (Memref.whole cc0_scratch2).view.dmaCredit
theorem NIB_pos : 0 < NIB := by decide
/-- The copy of `main_v2` in. -/
def InB (c : Dev nD) (v : Vec F S1x14336 .f32) : sProp 𝕄 := Transfers.Flight EC (c : Thread nD τ) (.dma (semIn 2)) () NIB iprop((((c : Thread nD τ).loc cc0_scratch2) ↦{fullShare} v) ∗ (((c : Thread nD τ).loc main_v2) ↦{fullShare} v))

abbrev NIW : ℕ := (Memref.whole cc0_scratch3).view.dmaCredit
theorem NIW_pos : 0 < NIW := by decide
/-- The copy of `main_v3` in. -/
def InW (c : Dev nD) (v : Vec F S1x4096 .f32) : sProp 𝕄 := Transfers.Flight EC (c : Thread nD τ) (.dma (semIn 3)) () NIW iprop((((c : Thread nD τ).loc cc0_scratch3) ↦{fullShare} v) ∗ (((c : Thread nD τ).loc main_v3) ↦{fullShare} v))

abbrev NOY : ℕ := (Memref.whole main_v4_0).view.dmaCredit
theorem NOY_pos : 0 < NOY := by decide
/-- The copy of `main_v4_0` out. -/
def OutY (c : Dev nD) (q : PosShare TreeShare) (v : Vec F S32x4096 .bf16) : sProp 𝕄 := Transfers.Flight EC (c : Thread nD τ) (.dma (semOut 4)) () NOY iprop((((c : Thread nD τ).loc main_v4_0) ↦{fullShare} v) ∗ (((c : Thread nD τ).loc cc0_scratch13) ↦{q} v))

abbrev NOC : ℕ := (Memref.whole main_v4_1).view.dmaCredit
theorem NOC_pos : 0 < NOC := by decide
/-- The copy of `main_v4_1` out. -/
def OutC (c : Dev nD) (q : PosShare TreeShare) (v : Vec F S32x4096 .fp8e4m3) : sProp 𝕄 := Transfers.Flight EC (c : Thread nD τ) (.dma (semOut 0)) () NOC iprop((((c : Thread nD τ).loc main_v4_1) ↦{fullShare} v) ∗ (((c : Thread nD τ).loc cc0_scratch4) ↦{q} v))

abbrev NOS : ℕ := (Memref.whole main_v4_2).view.dmaCredit
theorem NOS_pos : 0 < NOS := by decide
/-- The copy of `main_v4_2` out. -/
def OutS (c : Dev nD) (q : PosShare TreeShare) (v : Vec F S1x32 .f32) : sProp 𝕄 := Transfers.Flight EC (c : Thread nD τ) (.dma (semOut 1)) () NOS iprop((((c : Thread nD τ).loc main_v4_2) ↦{fullShare} v) ∗ (((c : Thread nD τ).loc cc0_scratch6) ↦{q} v))

abbrev NOT : ℕ := (Memref.whole main_v4_4).view.dmaCredit
theorem NOT_pos : 0 < NOT := by decide
/-- The copy of `main_v4_4` out. -/
def OutT (c : Dev nD) (q : PosShare TreeShare) (v : Vec F S1x32 .f32) : sProp 𝕄 := Transfers.Flight EC (c : Thread nD τ) (.dma (semOut 3)) () NOT iprop((((c : Thread nD τ).loc main_v4_4) ↦{fullShare} v) ∗ (((c : Thread nD τ).loc cc0_scratch7) ↦{q} v))

/-- What the copy of column block `k` needs. -/
def RingReady (c : Dev nD) (f1 : Vec F S4096x14336 .fp8e4m3) (k : ℕ) : sProp 𝕄 := iprop(ColB c f1 k ∗ RingF c k ∗ semVal (c, .dma (semUn k)) 0)

theorem wp_ringGo (c : Dev nD) (f1 : Vec F S4096x14336 .fp8e4m3) (k : ℕ) (hk : k < 28)
    {osem : Fin 1 → ℕ} {osrc : Fin 2 → ℕ} {odst : Fin 3 → ℕ} {hsem hsrc hdst h1 h2 h3} (e1 : osem = ![k % 8]) (e2 : osrc = ![0, 512 * k]) (e3 : odst = ![k % 8, 0, 0])
    {α : Type} {K : PUnit → Prog (TpuEff nD τ sig (Elt F) Λ₀ .tc) α} {Q : α → sProp 𝕄} :
    RingReady c f1 k
      ⊢ iprop((RingC c f1 k -∗ WP c (K ⟨⟩) Q)
        -∗ WP c (.op (.enqueueDma (mCol osrc hsrc) (.here (mRing odst hdst)) (.dma (semU osem hsem)) h1 h2 h3) K) Q) := by
  unfold RingReady RingF
  exact wp_ringStart c f1 k hk e1 e2 e3

/-- The copies in and the first three column blocks' copies are started. -/
theorem p7 (c : Dev nD) (x : Vec F S32x4096 .bf16) (us bu : Vec F S1x14336 .f32) (ws : Vec F S1x4096 .f32) (f1 : Vec F S4096x14336 .fp8e4m3) (a0 : Vec F S32x4096 .bf16) (a1 a2 : Vec F S1x14336 .f32) (a3 : Vec F S1x4096 .f32) {Q : PUnit → sProp 𝕄} :
    iprop(iprop((((c : Thread nD τ).loc main_v0) ↦{fullShare} x) ∗ (((c : Thread nD τ).loc cc0_scratch0) ↦{fullShare} a0) ∗ semVal (c, .dma (semIn 0)) 0) ∗ iprop((((c : Thread nD τ).loc main_v1) ↦{fullShare} us) ∗ (((c : Thread nD τ).loc cc0_scratch1) ↦{fullShare} a1) ∗ semVal (c, .dma (semIn 1)) 0) ∗ iprop((((c : Thread nD τ).loc main_v2) ↦{fullShare} bu) ∗ (((c : Thread nD τ).loc cc0_scratch2) ↦{fullShare} a2) ∗ semVal (c, .dma (semIn 2)) 0) ∗ iprop((((c : Thread nD τ).loc main_v3) ↦{fullShare} ws) ∗ (((c : Thread nD τ).loc cc0_scratch3) ↦{fullShare} a3) ∗ semVal (c, .dma (semIn 3)) 0) ∗ RingReady c f1 0 ∗ RingReady c f1 1 ∗ RingReady c f1 2 : sProp 𝕄)
      ⊢ iprop((iprop(InX c x ∗ InU c us ∗ InB c bu ∗ InW c ws ∗ RingC c f1 0 ∗ RingC c f1 1 ∗ RingC c f1 2) -∗ Q ⟨⟩) -∗ WP c (k0_part7 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3) Q) := by
  rw [k0_part7_eq_skeleton]
  unfold k0_part7_skel
  iintro ⟨HX, HU, HB, HW, HR0, HR1, HR2⟩ Hk
  iapply (wp_cp c (src := Memref.whole main_v0) (dst := Memref.whole cc0_scratch0) (sm' := semIn 0) (semIn_all 0 _) (fs := x) (fd := a0) (w := x) (N := NIX) rfl NIX_pos (View.set_whole _) (View.set_whole _) (whole_val (F := F) (b := cc0_scratch0) a0 x)) $$ [HX]
  · icases HX with ⟨H1, H2, H3⟩
    isplitl [H1]; · iexact H1
    isplitl [H2]; · iexact H2
    iexact H3
  iintro HX
  iapply (wp_cp c (src := Memref.whole main_v1) (dst := Memref.whole cc0_scratch1) (sm' := semIn 1) (semIn_all 1 _) (fs := us) (fd := a1) (w := us) (N := NIU) rfl NIU_pos (View.set_whole _) (View.set_whole _) (whole_val (F := F) (b := cc0_scratch1) a1 us)) $$ [HU]
  · icases HU with ⟨H1, H2, H3⟩
    isplitl [H1]; · iexact H1
    isplitl [H2]; · iexact H2
    iexact H3
  iintro HU
  iapply (wp_cp c (src := Memref.whole main_v2) (dst := Memref.whole cc0_scratch2) (sm' := semIn 2) (semIn_all 2 _) (fs := bu) (fd := a2) (w := bu) (N := NIB) rfl NIB_pos (View.set_whole _) (View.set_whole _) (whole_val (F := F) (b := cc0_scratch2) a2 bu)) $$ [HB]
  · icases HB with ⟨H1, H2, H3⟩
    isplitl [H1]; · iexact H1
    isplitl [H2]; · iexact H2
    iexact H3
  iintro HB
  iapply (wp_cp c (src := Memref.whole main_v3) (dst := Memref.whole cc0_scratch3) (sm' := semIn 3) (semIn_all 3 _) (fs := ws) (fd := a3) (w := ws) (N := NIW) rfl NIW_pos (View.set_whole _) (View.set_whole _) (whole_val (F := F) (b := cc0_scratch3) a3 ws)) $$ [HW]
  · icases HW with ⟨H1, H2, H3⟩
    isplitl [H1]; · iexact H1
    isplitl [H2]; · iexact H2
    iexact H3
  iintro HW
  iapply (wp_ringGo c f1 0 (by decide) (by decide +kernel) rfl (by decide +kernel)) $$ HR0
  iintro HR0
  iapply (wp_ringGo c f1 1 (by decide) (by decide +kernel) rfl (by decide +kernel)) $$ HR1
  iintro HR1
  iapply (wp_ringGo c f1 2 (by decide) (by decide +kernel) rfl (by decide +kernel)) $$ HR2
  iintro HR2
  iapply (hRet c)
  iapply Hk
  unfold InX InU InB InW
  isplitl [HX]; · iexact HX
  isplitl [HU]; · iexact HU
  isplitl [HB]; · iexact HB
  isplitl [HW]; · iexact HW
  isplitl [HR0]; · iexact HR0
  isplitl [HR1]; · iexact HR1
  iexact HR2

/-- Five more column blocks' copies are started. -/
theorem p8 (c : Dev nD) (f1 : Vec F S4096x14336 .fp8e4m3) {Q : PUnit → sProp 𝕄} :
    iprop(RingReady c f1 3 ∗ RingReady c f1 4 ∗ RingReady c f1 5 ∗ RingReady c f1 6 ∗ RingReady c f1 7 : sProp 𝕄)
      ⊢ iprop((iprop(RingC c f1 3 ∗ RingC c f1 4 ∗ RingC c f1 5 ∗ RingC c f1 6 ∗ RingC c f1 7) -∗ Q ⟨⟩) -∗ WP c (k0_part8 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3) Q) := by
  rw [k0_part8_eq_skeleton]
  unfold k0_part8_skel
  iintro ⟨HR3, HR4, HR5, HR6, HR7⟩ Hk
  iapply (wp_ringGo c f1 3 (by decide) (by decide +kernel) rfl (by decide +kernel)) $$ HR3
  iintro HR3
  iapply (wp_ringGo c f1 4 (by decide) (by decide +kernel) rfl (by decide +kernel)) $$ HR4
  iintro HR4
  iapply (wp_ringGo c f1 5 (by decide) (by decide +kernel) rfl (by decide +kernel)) $$ HR5
  iintro HR5
  iapply (wp_ringGo c f1 6 (by decide) (by decide +kernel) rfl (by decide +kernel)) $$ HR6
  iintro HR6
  iapply (wp_ringGo c f1 7 (by decide) (by decide +kernel) rfl (by decide +kernel)) $$ HR7
  iintro HR7
  iapply (hRet c)
  iapply Hk
  isplitl [HR3]; · iexact HR3
  isplitl [HR4]; · iexact HR4
  isplitl [HR5]; · iexact HR5
  isplitl [HR6]; · iexact HR6
  iexact HR7

/-- The operand `x` is there and is read. -/
theorem p9 (c : Dev nD) (x : Vec F S32x4096 .bf16) {Q : _ → sProp 𝕄} :
    iprop(InX c x ∗ Owes c : sProp 𝕄)
      ⊢ iprop((iprop((((c : Thread nD τ).loc cc0_scratch0) ↦{fullShare} x) ∗ (((c : Thread nD τ).loc main_v0) ↦{fullShare} x) ∗ semVal (c, .dma (semIn 0)) 0 ∗ Owes c) -∗ Q ⟨k0_pay13 x, k0_pay15 x, k0_pay16 x, 23#32⟩) -∗ WP c (k0_part9 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3) Q) := by
  rw [k0_part9_eq_skeleton]
  unfold k0_part9_skel
  iintro ⟨HX, HO⟩ Hk
  unfold InX
  iapply (wp_cpWait c (src := Memref.whole main_v0) (dst := Memref.whole cc0_scratch0) (sm' := semIn 0) (semIn_all 0 _) (N := NIX) rfl) $$ [HX HO]
  · isplitl [HX]; · iexact HX
    iexact HO
  iintro ⟨⟨H1, H2⟩, HV, HO⟩
  iapply (wp_ld c (m := Memref.whole cc0_scratch0) (r := Rect.unit (s := S32x4096) ![0, 0] S32x4096.size inb_S32x4096_S32x4096_0_0) (f := x) x (fun z => congrArg x (Rect.emb_unit_full _ z)) sub_univ) $$ H1
  iintro H1
  iapply (hRet c)
  iapply Hk
  isplitl [H1]; · iexact H1
  isplitl [H2]; · iexact H2
  isplitl [HV]; · iexact HV
  iexact HO

/-- One half of a share. -/
abbrev qL : PosShare TreeShare := fullShare.left
/-- The other half. -/
abbrev qR : PosShare TreeShare := fullShare.right

/-- The codes and the scales of `x` are stored and their copies out started; two more operands are there. -/
theorem p10 (c : Dev nD) (us bu : Vec F S1x14336 .f32) (v63 : FVec F S32x4096 .f32) (v98 : FVec F S32x1 .f32) (v100 : IVec S32x1 32) (w : BitVec 32)
    (a4 : Vec F S32x4096 .fp8e4m3) (a5 : Vec F S32x128 .f32) (a6 : Vec F S1x32 .f32) (o1 : Vec F S32x4096 .fp8e4m3) (o2 : Vec F S1x32 .f32) {Q : PUnit → sProp 𝕄} :
    iprop((((c : Thread nD τ).loc cc0_scratch4) ↦{fullShare} a4) ∗ (((c : Thread nD τ).loc cc0_scratch5) ↦{fullShare} a5) ∗ (((c : Thread nD τ).loc cc0_scratch6) ↦{fullShare} a6) ∗ (((c : Thread nD τ).loc main_v4_1) ↦{fullShare} o1) ∗ (((c : Thread nD τ).loc main_v4_2) ↦{fullShare} o2)
        ∗ semVal (c, .dma (semOut 0)) 0 ∗ semVal (c, .dma (semOut 1)) 0 ∗ InU c us ∗ InB c bu ∗ Owes c : sProp 𝕄)
      ⊢ iprop((iprop((((c : Thread nD τ).loc cc0_scratch4) ↦{qL} (k0_pay17 v63 v100 w)) ∗ (((c : Thread nD τ).loc cc0_scratch5) ↦{fullShare} (k0_pay18 v98)) ∗ OutC c qR (k0_pay17 v63 v100 w) ∗ OutS c fullShare (k0_pay19 v98)
          ∗ (((c : Thread nD τ).loc cc0_scratch1) ↦{fullShare} us) ∗ (((c : Thread nD τ).loc main_v1) ↦{fullShare} us) ∗ (((c : Thread nD τ).loc cc0_scratch2) ↦{fullShare} bu) ∗ (((c : Thread nD τ).loc main_v2) ↦{fullShare} bu) ∗ semVal (c, .dma (semIn 1)) 0 ∗ semVal (c, .dma (semIn 2)) 0 ∗ Owes c) -∗ Q ⟨⟩)
        -∗ WP c (k0_part10 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 v63 v98 v100 w) Q) := by
  rw [k0_part10_eq_skeleton]
  unfold k0_part10_skel
  iintro ⟨H4, H5, H6, Ho1, Ho2, HV0, HV1, HU, HB, HO⟩ Hk
  iapply (wp_ld c (m := Memref.whole cc0_scratch4) (r := Rect.unit (s := S32x4096) ![0, 0] S32x4096.size inb_S32x4096_S32x4096_0_0) (f := a4) a4 (fun z => congrArg a4 (Rect.emb_unit_full _ z)) sub_univ) $$ H4
  iintro H4
  iapply (wp_stW c (m := Memref.whole cc0_scratch4) (r := Rect.unit (s := S32x4096) ![0, 0] S32x4096.size inb_S32x4096_S32x4096_0_0) (f := a4) (w' := (k0_pay17 v63 v100 w)) (st_write4 a4 (k0_pay17 v63 v100 w)) sub_univ) $$ H4
  iintro H4
  iapply (wp_ld c (m := Memref.whole cc0_scratch5) (r := Rect.unit (s := S32x128) ![0, 0] S32x128.size inb_S32x128_S32x128_0_0) (f := a5) a5 (fun z => congrArg a5 (Rect.emb_unit_full _ z)) sub_univ) $$ H5
  iintro H5
  iapply (wp_stW c (m := Memref.whole cc0_scratch5) (r := Rect.unit (s := S32x128) ![0, 0] S32x128.size inb_S32x128_S32x128_0_0) (f := a5) (w' := (k0_pay18 v98)) (st_write5 a5 (k0_pay18 v98)) sub_univ) $$ H5
  iintro H5
  iapply (wp_ld c (m := Memref.whole cc0_scratch6) (r := Rect.unit (s := S1x32) ![0, 0] S1x32.size inb_S1x32_S1x32_0_0) (f := a6) a6 (fun z => congrArg a6 (Rect.emb_unit_full _ z)) sub_univ) $$ H6
  iintro H6
  iapply (wp_stW c (m := Memref.whole cc0_scratch6) (r := Rect.unit (s := S1x32) ![0, 0] S1x32.size inb_S1x32_S1x32_0_0) (f := a6) (w' := (k0_pay19 v98)) (st_write6 a6 (k0_pay19 v98)) sub_univ) $$ H6
  iintro H6
  ihave H4 := (pointsTo_share (PosShare.mem_left_op_right fullShare)).1 $$ H4
  icases H4 with ⟨H4, H4'⟩
  iapply (wp_cp c (src := Memref.whole cc0_scratch4) (dst := Memref.whole main_v4_1) (sm' := semOut 0) (semOut_all 0 _) (fs := (k0_pay17 v63 v100 w)) (fd := o1) (w := (k0_pay17 v63 v100 w)) (q := qR) (N := NOC) rfl NOC_pos (View.set_whole _) (View.set_whole _) (whole_val (F := F) (b := main_v4_1) o1 (k0_pay17 v63 v100 w))) $$ [H4' Ho1 HV0]
  · isplitl [H4']; · iexact H4'
    isplitl [Ho1]; · iexact Ho1
    iexact HV0
  iintro Ho1
  iapply (wp_cp c (src := Memref.whole cc0_scratch6) (dst := Memref.whole main_v4_2) (sm' := semOut 1) (semOut_all 1 _) (fs := (k0_pay19 v98)) (fd := o2) (w := (k0_pay19 v98)) (q := fullShare) (N := NOS) rfl NOS_pos (View.set_whole _) (View.set_whole _) (whole_val (F := F) (b := main_v4_2) o2 (k0_pay19 v98))) $$ [H6 Ho2 HV1]
  · isplitl [H6]; · iexact H6
    isplitl [Ho2]; · iexact Ho2
    iexact HV1
  iintro Ho2
  unfold InU
  iapply (wp_cpWait c (src := Memref.whole main_v1) (dst := Memref.whole cc0_scratch1) (sm' := semIn 1) (semIn_all 1 _) (N := NIU) rfl) $$ [HU HO]
  · isplitl [HU]; · iexact HU
    iexact HO
  iintro ⟨⟨HU1, HU2⟩, HVU, HO⟩
  unfold InB
  iapply (wp_cpWait c (src := Memref.whole main_v2) (dst := Memref.whole cc0_scratch2) (sm' := semIn 2) (semIn_all 2 _) (N := NIB) rfl) $$ [HB HO]
  · isplitl [HB]; · iexact HB
    iexact HO
  iintro ⟨⟨HB1, HB2⟩, HVB, HO⟩
  iapply (hRet c)
  iapply Hk
  unfold OutC OutS
  isplitl [H4]; · iexact H4
  isplitl [H5]; · iexact H5
  isplitl [Ho1]; · iexact Ho1
  isplitl [Ho2]; · iexact Ho2
  isplitl [HU1]; · iexact HU1
  isplitl [HU2]; · iexact HU2
  isplitl [HB1]; · iexact HB1
  isplitl [HB2]; · iexact HB2
  isplitl [HVU]; · iexact HVU
  isplitl [HVB]; · iexact HVB
  iexact HO

end Cert.KernelIdeal.Hand

end
-- ==== Proof.KI.PadDefs.lean ====
/- What follows the first loop: the list padded to whole groups, the slots behind its end zeroed. -/
module

public import proofs.«01_k».proof.Proof.KI.BodyA
public import proofs.«01_k».proof.Proof.KI.Words2

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Padding the list: position 0 after its end. -/
def padL0 {α : Type} (n : BitVec 32) (hw : k0_chk9 n) (cont : PUnit.{1} → Prog (TpuEff nD τ sig (Elt F) Λ₀ .tc) α) : Prog (TpuEff nD τ sig (Elt F) Λ₀ .tc) α :=
  if k0_h : k0_cond10 n = 1#1 then do
    let v300_r0 : Elt F .i32 ← smemLoad mLive (Rect.unit (s := S116) (k0_off32 n) S1.size (k0_off32_inb n hw k0_h)) numel1_S1 rfl
    Prog.lift (.store mLive (Rect.unit (s := S116) (k0_off32 n) S1.size (k0_off32_inb n hw k0_h)) (fun _ => 112#32) Finset.univ (View.stores_smem_one rfl numel1_S1) (.inl rfl))
    cont ⟨⟩
  else cont ⟨⟩

/-- Zeroing the slot of position 0 after the list's end. -/
def padZ0 {α : Type} (n : BitVec 32) (hw : k0_chk9 n) (cont : PUnit.{1} → Prog (TpuEff nD τ sig (Elt F) Λ₀ .tc) α) : Prog (TpuEff nD τ sig (Elt F) Λ₀ .tc) α :=
  if k0_h : k0_cond11 n = 1#1 then do
    let v303_r0 : Vec F S128x4096 .fp8e4m3 ← Prog.lift (.load (Memref.whole cc0_scratch9) (Rect.unit (s := S7168x4096) (k0_off33 n) S128x4096.size (k0_off33_inb n hw k0_h)).toLoadRect (View.loadsAt_vmem h_S128x4096))
    Prog.lift (.store (Memref.whole cc0_scratch9) (Rect.unit (s := S7168x4096) (k0_off33 n) S128x4096.size (k0_off33_inb n hw k0_h)) (k0_pay24 (F := F)) Finset.univ (View.stores_vmem h_S128x4096 ((Memref.isWhole_whole _).storeExact_slice rfl _ (k0_off33_packedfp8e4m3 n hw k0_h)) (fun _ => rfl)) (.inl rfl))
    cont ⟨⟩
  else cont ⟨⟩

/-- Padding the list: position 1 after its end. -/
def padL1 {α : Type} (n : BitVec 32) (hw : k0_chk9 n) (cont : PUnit.{1} → Prog (TpuEff nD τ sig (Elt F) Λ₀ .tc) α) : Prog (TpuEff nD τ sig (Elt F) Λ₀ .tc) α :=
  if k0_h : k0_cond12 n = 1#1 then do
    let v300_r0 : Elt F .i32 ← smemLoad mLive (Rect.unit (s := S116) (k0_off34 n) S1.size (k0_off34_inb n hw k0_h)) numel1_S1 rfl
    Prog.lift (.store mLive (Rect.unit (s := S116) (k0_off34 n) S1.size (k0_off34_inb n hw k0_h)) (fun _ => 112#32) Finset.univ (View.stores_smem_one rfl numel1_S1) (.inl rfl))
    cont ⟨⟩
  else cont ⟨⟩

/-- Zeroing the slot of position 1 after the list's end. -/
def padZ1 {α : Type} (n : BitVec 32) (hw : k0_chk9 n) (cont : PUnit.{1} → Prog (TpuEff nD τ sig (Elt F) Λ₀ .tc) α) : Prog (TpuEff nD τ sig (Elt F) Λ₀ .tc) α :=
  if k0_h : k0_cond13 n = 1#1 then do
    let v303_r0 : Vec F S128x4096 .fp8e4m3 ← Prog.lift (.load (Memref.whole cc0_scratch9) (Rect.unit (s := S7168x4096) (k0_off35 n) S128x4096.size (k0_off35_inb n hw k0_h)).toLoadRect (View.loadsAt_vmem h_S128x4096))
    Prog.lift (.store (Memref.whole cc0_scratch9) (Rect.unit (s := S7168x4096) (k0_off35 n) S128x4096.size (k0_off35_inb n hw k0_h)) (k0_pay25 (F := F)) Finset.univ (View.stores_vmem h_S128x4096 ((Memref.isWhole_whole _).storeExact_slice rfl _ (k0_off35_packedfp8e4m3 n hw k0_h)) (fun _ => rfl)) (.inl rfl))
    cont ⟨⟩
  else cont ⟨⟩

/-- Padding the list: position 2 after its end. -/
def padL2 {α : Type} (n : BitVec 32) (hw : k0_chk9 n) (cont : PUnit.{1} → Prog (TpuEff nD τ sig (Elt F) Λ₀ .tc) α) : Prog (TpuEff nD τ sig (Elt F) Λ₀ .tc) α :=
  if k0_h : k0_cond14 n = 1#1 then do
    let v300_r0 : Elt F .i32 ← smemLoad mLive (Rect.unit (s := S116) (k0_off36 n) S1.size (k0_off36_inb n hw k0_h)) numel1_S1 rfl
    Prog.lift (.store mLive (Rect.unit (s := S116) (k0_off36 n) S1.size (k0_off36_inb n hw k0_h)) (fun _ => 112#32) Finset.univ (View.stores_smem_one rfl numel1_S1) (.inl rfl))
    cont ⟨⟩
  else cont ⟨⟩

/-- Zeroing the slot of position 2 after the list's end. -/
def padZ2 {α : Type} (n : BitVec 32) (hw : k0_chk9 n) (cont : PUnit.{1} → Prog (TpuEff nD τ sig (Elt F) Λ₀ .tc) α) : Prog (TpuEff nD τ sig (Elt F) Λ₀ .tc) α :=
  if k0_h : k0_cond15 n = 1#1 then do
    let v303_r0 : Vec F S128x4096 .fp8e4m3 ← Prog.lift (.load (Memref.whole cc0_scratch9) (Rect.unit (s := S7168x4096) (k0_off37 n) S128x4096.size (k0_off37_inb n hw k0_h)).toLoadRect (View.loadsAt_vmem h_S128x4096))
    Prog.lift (.store (Memref.whole cc0_scratch9) (Rect.unit (s := S7168x4096) (k0_off37 n) S128x4096.size (k0_off37_inb n hw k0_h)) (k0_pay26 (F := F)) Finset.univ (View.stores_vmem h_S128x4096 ((Memref.isWhole_whole _).storeExact_slice rfl _ (k0_off37_packedfp8e4m3 n hw k0_h)) (fun _ => rfl)) (.inl rfl))
    cont ⟨⟩
  else cont ⟨⟩

/-- The number of groups, as the kernel computes it. -/
def ngE (v143_0_r0 : BitVec 32) : BitVec 32 :=
  let v144_r0 : BitVec 32 := Scalar.addi v143_0_r0 4#32
  let v145_r0 : BitVec 32 := Scalar.subi v144_r0 1#32
  let v146_r0 : BitVec 32 := Scalar.divsi v145_r0 4#32
  let v147_r0 : BitVec 1 := Scalar.cmpi .sgt v145_r0 0#32
  let v148_r0 : BitVec 32 := Scalar.extui v147_r0
  let v149_r0 : BitVec 1 := Scalar.cmpi .slt v145_r0 0#32
  let v150_r0 : BitVec 32 := Scalar.extui v149_r0
  let v151_r0 : BitVec 32 := Scalar.subi v148_r0 v150_r0
  let v152_r0 : BitVec 1 := Scalar.cmpi .sgt 4#32 0#32
  let v153_r0 : BitVec 32 := Scalar.extui v152_r0
  let v154_r0 : BitVec 1 := Scalar.cmpi .slt 4#32 0#32
  let v155_r0 : BitVec 32 := Scalar.extui v154_r0
  let v156_r0 : BitVec 32 := Scalar.subi v153_r0 v155_r0
  let v157_r0 : BitVec 1 := Scalar.cmpi .ne v151_r0 v156_r0
  let v158_r0 : BitVec 32 := Scalar.remsi v145_r0 4#32
  let v159_r0 : BitVec 1 := Scalar.cmpi .ne v158_r0 0#32
  let v160_r0 : BitVec 1 := Scalar.andi v157_r0 v159_r0
  let v161_r0 : BitVec 32 := Scalar.subi v146_r0 1#32
  let v162_r0 : BitVec 32 := Scalar.select v160_r0 v161_r0 v146_r0
  v162_r0

/-- What follows the first loop. -/
def p11Tail (n : BitVec 32) (rm : FVec F S32x128 .f32) (hw : k0_chk9 n) : Prog (TpuEff nD τ sig (Elt F) Λ₀ .tc) (Σ' (v143_0_r0 : BitVec 32) (v143_1_r0 : FVec F S32x128 .f32) (k0_hw9 : k0_chk9 v143_0_r0), BitVec 32) :=
  padL0 n hw fun _ => padZ0 n hw fun _ => Prog.ret ⟨n, rm, hw, ngE n⟩

theorem part11_eq : k0_part11_skel (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3
    = Prog.op (.waitDma2 ((cc0_scoped0.slice (Rect.unit (s := S4) ![3] S1.size inb_S4_S1_3)).squeeze S_ squeezes_S1_S_).sem (Memref.whole main_v3) (Memref.whole cc0_scratch3) (Memref.isWhole_whole main_v3).wordExact (Memref.isWhole_whole cc0_scratch3).wordExact) fun _ =>
      (Scf.Loop.for k0_t1_loop k0_t1_ok (0#32, k0_pay20 (F := F)) upBody).bind fun a =>
      Prog.op (TpuEff.assume (k0_chk9 a.1) (k0_chk9.dec a.1)) fun h => p11Tail a.1 a.2 h.down := rfl

theorem part12_eq (n : BitVec 32) (rm : FVec F S32x128 .f32) (hw : k0_chk9 n) (g : BitVec 32) : k0_part12_skel (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 n rm hw g
    = padL1 n hw fun _ => padZ1 n hw fun _ => padL2 n hw fun _ => padZ2 n hw fun _ => Prog.ret ⟨k0_pay27 rm, k0_pay28 rm⟩ := rfl

end Cert.KernelIdeal.Hand

end
-- ==== Proof.KI.Pad.lean ====
/- The list is padded and the slots behind its end are zeroed. -/
module

public import proofs.«01_k».proof.Proof.KI.PadDefs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The list, right at its live positions and at the first `m` after them. -/
def LivePd (c : Dev nD) (b : ℕ → BitVec 1) (m : ℕ) : sProp 𝕄 :=
  iprop(∃ L, ((c : Thread nD τ).loc cc0_scratch14 ↦{fullShare} L) ∗ ⌜∀ x, (x 0).val < min (NL b + m) (4 * ((NL b + 3) / 4)) → L x = W (ls b (x 0).val)⌝)

/-- Padding the list at one position. -/
theorem wp_padL (c : Dev nD) (b : ℕ → BitVec 1) (m : ℕ) (hm : m < 3) {C : Prop} [Decidable C] (hC : C ↔ NL b + m < 4 * ((NL b + 3) / 4)) {off : Fin 1 → ℕ} {h : C → ∀ a, off a + S1.size a ≤ S116.size a} (e : off = ![NL b + m])
    {α : Type} {cont : PUnit.{1} → Prog (TpuEff nD τ sig (Elt F) Λ₀ .tc) α} {Q : α → sProp 𝕄} :
    LivePd c b m
      ⊢ iprop((LivePd c b (m + 1) -∗ WP c (cont ⟨⟩) Q)
        -∗ WP c (if hc : C then (smemLoad mLive (Rect.unit (s := S116) off S1.size (h hc)) numel1_S1 rfl).bind fun _ =>
            Prog.op (.store mLive (Rect.unit (s := S116) off S1.size (h hc)) (fun _ => 112#32) Finset.univ (View.stores_smem_one rfl numel1_S1) (.inl rfl)) cont
          else cont ⟨⟩) Q) := by
  subst e
  have hle := NL_le b
  have hn : NL b + m < 116 := by omega
  unfold LivePd
  split
  · rename_i hc
    have hb := hC.mp hc
    iintro ⟨%L, HL, %hL⟩ Hk
    rw [smemLoad_bind]
    iapply (wp_liveRead c hn rfl) $$ HL
    iintro HL
    ihave HL := (show ((c : Thread nD τ).loc cc0_scratch14 ↦{fullShare} L : sProp 𝕄) ⊢ ((mLive.access (Rect.unit (s := S116) ![NL b + m] S1.size (h hc))).loc (c : Thread nD τ) ↦{fullShare} L) from .rfl) $$ HL
    iapply (wp_store (defs := defs₀ (F := F)) Variants.none (c : Thread nD τ) none Set.univ (m := mLive) (S := Finset.univ) (Finset.subset_univ _)) $$ HL
    iintro HL
    iapply Hk
    iexists _
    isplitl [HL]; · iexact HL
    ipureintro
    intro x hx
    by_cases hxe : (x 0).val = NL b + m
    · have hx' : x = (mLive.access (Rect.unit (s := S116) ![NL b + m] S1.size (h hc))).emb (Shape.Idx.first (numel1_S1.symm ▸ Nat.one_pos)) := by
        rw [live_emb hn]; refine funext fun (a : Fin 1) => ?_; obtain rfl : a = 0 := Subsingleton.elim _ _; exact Fin.ext hxe
      have hls : ls b (NL b + m) = 112 := if_neg (by omega)
      rw [hxe, hls, hx', View.write_emb_of_mem _ _ (Finset.mem_univ _)]
      rfl
    · rw [View.write_of_not_mem _ _ _ ?_]
      · exact hL x (by omega)
      · intro hm
        obtain ⟨y, -, hy⟩ := Finset.mem_map.mp hm
        apply hxe
        rw [← hy, live_emb hn]; rfl
  · rename_i hc
    have hb : ¬ _ := fun h => hc (hC.mpr h)
    iintro ⟨%L, HL, %hL⟩ Hk
    iapply Hk
    iexists L
    isplitl [HL]; · iexact HL
    ipureintro
    intro x hx
    exact hL x (by omega)

theorem live_pd (c : Dev nD) (b : ℕ → BitVec 1) : Live c b (NL b) ⊢ LivePd (F := F) c b 0 := by
  unfold Live LivePd
  iintro ⟨%L, HL, %hL⟩
  iexists L
  isplitl [HL]; · iexact HL
  ipureintro
  intro x hx
  have h : (x 0).val < NL b := by omega
  rw [ls_of_lt h]
  exact hL x h

theorem pd_liveP (c : Dev nD) (b : ℕ → BitVec 1) : LivePd (F := F) c b 3 ⊢ LiveP c b := by
  unfold LivePd LiveP
  iintro ⟨%L, HL, %hL⟩
  iexists L
  isplitl [HL]; · iexact HL
  ipureintro
  intro x hx
  exact hL x (by omega)

/-- A part that can be taken out. -/
theorem sep_out {s : Finset ℕ} {i : ℕ} (hi : i ∈ s) (Φ : ℕ → sProp 𝕄) : bigSep s Φ ⊢ iprop(Φ i ∗ (Φ i -∗ bigSep s Φ)) := sep_upd hi fun j _ _ => rfl

theorem wp_padL0 (c : Dev nD) (b : ℕ → BitVec 1) {hw} {α : Type} {cont : PUnit.{1} → Prog (TpuEff nD τ sig (Elt F) Λ₀ .tc) α} {Q : α → sProp 𝕄} :
    LivePd c b 0 ⊢ iprop((LivePd c b (0 + 1) -∗ WP c (cont ⟨⟩) Q) -∗ WP c (padL0 (W (NL b)) hw cont) Q) := by
  have hle := NL_le b
  unfold padL0
  exact wp_padL (F := F) (α := α) (cont := cont) (Q := Q) c b 0 (by decide) (pCondL0_all ⟨NL b, by omega⟩) (pOffL0_all ⟨NL b, by omega⟩)

theorem wp_padZ0 (c : Dev nD) (b : ℕ → BitVec 1) {hw} {α : Type} {cont : PUnit.{1} → Prog (TpuEff nD τ sig (Elt F) Λ₀ .tc) α} {Q : α → sProp 𝕄} :
    FreeS c (NL b) ⊢ iprop((FreeS c (NL b) -∗ WP c (cont ⟨⟩) Q) -∗ WP c (padZ0 (W (NL b)) hw cont) Q) := by
  have hle := NL_le b
  unfold padZ0
  split
  · rename_i hc
    have h56 : NL b + 0 < 56 := (pCondZ0_all ⟨NL b, by omega⟩ hc).1
    have ho := pOffZ0_all ⟨NL b, by omega⟩ h56
    have hset : ((Memref.whole cc0_scratch9).access (Rect.unit (s := S7168x4096) (k0_off33 (W (NL b))) S128x4096.size (k0_off33_inb (W (NL b)) hw hc))).set = slotS ((NL b + 0) % 56) := by
      have key : ∀ (off : Fin 2 → ℕ) (h), off = ![128 * (NL b + 0), 0] → ((Memref.whole cc0_scratch9).access (Rect.unit (s := S7168x4096) off S128x4096.size h)).set = slotS (NL b + 0) := by
        intro off h e
        subst e
        exact mSlot_set (NL b + 0) h
      rw [Nat.mod_eq_of_lt h56]
      exact key _ _ ho
    have hset2 : ((Memref.whole cc0_scratch9).access (Rect.unit (s := S7168x4096) (k0_off33 (W (NL b))) S128x4096.size (k0_off33_inb (W (NL b)) hw hc))).setOn Finset.univ = slotS ((NL b + 0) % 56) := hset
    unfold FreeS
    iintro HF Hk
    ihave HF := (sep_out (F := F) (s := Finset.Ico (NL b) 56) (i := NL b + 0) (Finset.mem_Ico.mpr ⟨by omega, h56⟩) _) $$ HF
    icases HF with ⟨⟨%f, H⟩, HF⟩
    iapply (wp_ld c (m := Memref.whole cc0_scratch9) (r := Rect.unit (s := S7168x4096) (k0_off33 (W (NL b))) S128x4096.size (k0_off33_inb (W (NL b)) hw hc)) (f := f)
      (fun z => f ((Rect.unit (s := S7168x4096) (k0_off33 (W (NL b))) S128x4096.size (k0_off33_inb (W (NL b)) hw hc)).emb z)) (fun z => rfl) (by rw [hset])) $$ H
    iintro H
    iapply (wp_stW c (m := Memref.whole cc0_scratch9) (r := Rect.unit (s := S7168x4096) (k0_off33 (W (NL b))) S128x4096.size (k0_off33_inb (W (NL b)) hw hc)) (f := f) rfl (by rw [hset2])) $$ H
    iintro H
    iapply Hk
    iapply HF
    iexists _
    iexact H
  · iintro HF Hk
    iapply Hk
    iexact HF

theorem wp_padL1 (c : Dev nD) (b : ℕ → BitVec 1) {hw} {α : Type} {cont : PUnit.{1} → Prog (TpuEff nD τ sig (Elt F) Λ₀ .tc) α} {Q : α → sProp 𝕄} :
    LivePd c b 1 ⊢ iprop((LivePd c b (1 + 1) -∗ WP c (cont ⟨⟩) Q) -∗ WP c (padL1 (W (NL b)) hw cont) Q) := by
  have hle := NL_le b
  unfold padL1
  exact wp_padL (F := F) (α := α) (cont := cont) (Q := Q) c b 1 (by decide) (pCondL1_all ⟨NL b, by omega⟩) (pOffL1_all ⟨NL b, by omega⟩)

theorem wp_padZ1 (c : Dev nD) (b : ℕ → BitVec 1) {hw} {α : Type} {cont : PUnit.{1} → Prog (TpuEff nD τ sig (Elt F) Λ₀ .tc) α} {Q : α → sProp 𝕄} :
    FreeS c (NL b) ⊢ iprop((FreeS c (NL b) -∗ WP c (cont ⟨⟩) Q) -∗ WP c (padZ1 (W (NL b)) hw cont) Q) := by
  have hle := NL_le b
  unfold padZ1
  split
  · rename_i hc
    have h56 : NL b + 1 < 56 := (pCondZ1_all ⟨NL b, by omega⟩ hc).1
    have ho := pOffZ1_all ⟨NL b, by omega⟩ h56
    have hset : ((Memref.whole cc0_scratch9).access (Rect.unit (s := S7168x4096) (k0_off35 (W (NL b))) S128x4096.size (k0_off35_inb (W (NL b)) hw hc))).set = slotS ((NL b + 1) % 56) := by
      have key : ∀ (off : Fin 2 → ℕ) (h), off = ![128 * (NL b + 1), 0] → ((Memref.whole cc0_scratch9).access (Rect.unit (s := S7168x4096) off S128x4096.size h)).set = slotS (NL b + 1) := by
        intro off h e
        subst e
        exact mSlot_set (NL b + 1) h
      rw [Nat.mod_eq_of_lt h56]
      exact key _ _ ho
    have hset2 : ((Memref.whole cc0_scratch9).access (Rect.unit (s := S7168x4096) (k0_off35 (W (NL b))) S128x4096.size (k0_off35_inb (W (NL b)) hw hc))).setOn Finset.univ = slotS ((NL b + 1) % 56) := hset
    unfold FreeS
    iintro HF Hk
    ihave HF := (sep_out (F := F) (s := Finset.Ico (NL b) 56) (i := NL b + 1) (Finset.mem_Ico.mpr ⟨by omega, h56⟩) _) $$ HF
    icases HF with ⟨⟨%f, H⟩, HF⟩
    iapply (wp_ld c (m := Memref.whole cc0_scratch9) (r := Rect.unit (s := S7168x4096) (k0_off35 (W (NL b))) S128x4096.size (k0_off35_inb (W (NL b)) hw hc)) (f := f)
      (fun z => f ((Rect.unit (s := S7168x4096) (k0_off35 (W (NL b))) S128x4096.size (k0_off35_inb (W (NL b)) hw hc)).emb z)) (fun z => rfl) (by rw [hset])) $$ H
    iintro H
    iapply (wp_stW c (m := Memref.whole cc0_scratch9) (r := Rect.unit (s := S7168x4096) (k0_off35 (W (NL b))) S128x4096.size (k0_off35_inb (W (NL b)) hw hc)) (f := f) rfl (by rw [hset2])) $$ H
    iintro H
    iapply Hk
    iapply HF
    iexists _
    iexact H
  · iintro HF Hk
    iapply Hk
    iexact HF

theorem wp_padL2 (c : Dev nD) (b : ℕ → BitVec 1) {hw} {α : Type} {cont : PUnit.{1} → Prog (TpuEff nD τ sig (Elt F) Λ₀ .tc) α} {Q : α → sProp 𝕄} :
    LivePd c b 2 ⊢ iprop((LivePd c b (2 + 1) -∗ WP c (cont ⟨⟩) Q) -∗ WP c (padL2 (W (NL b)) hw cont) Q) := by
  have hle := NL_le b
  unfold padL2
  exact wp_padL (F := F) (α := α) (cont := cont) (Q := Q) c b 2 (by decide) (pCondL2_all ⟨NL b, by omega⟩) (pOffL2_all ⟨NL b, by omega⟩)

theorem wp_padZ2 (c : Dev nD) (b : ℕ → BitVec 1) {hw} {α : Type} {cont : PUnit.{1} → Prog (TpuEff nD τ sig (Elt F) Λ₀ .tc) α} {Q : α → sProp 𝕄} :
    FreeS c (NL b) ⊢ iprop((FreeS c (NL b) -∗ WP c (cont ⟨⟩) Q) -∗ WP c (padZ2 (W (NL b)) hw cont) Q) := by
  have hle := NL_le b
  unfold padZ2
  split
  · rename_i hc
    have h56 : NL b + 2 < 56 := (pCondZ2_all ⟨NL b, by omega⟩ hc).1
    have ho := pOffZ2_all ⟨NL b, by omega⟩ h56
    have hset : ((Memref.whole cc0_scratch9).access (Rect.unit (s := S7168x4096) (k0_off37 (W (NL b))) S128x4096.size (k0_off37_inb (W (NL b)) hw hc))).set = slotS ((NL b + 2) % 56) := by
      have key : ∀ (off : Fin 2 → ℕ) (h), off = ![128 * (NL b + 2), 0] → ((Memref.whole cc0_scratch9).access (Rect.unit (s := S7168x4096) off S128x4096.size h)).set = slotS (NL b + 2) := by
        intro off h e
        subst e
        exact mSlot_set (NL b + 2) h
      rw [Nat.mod_eq_of_lt h56]
      exact key _ _ ho
    have hset2 : ((Memref.whole cc0_scratch9).access (Rect.unit (s := S7168x4096) (k0_off37 (W (NL b))) S128x4096.size (k0_off37_inb (W (NL b)) hw hc))).setOn Finset.univ = slotS ((NL b + 2) % 56) := hset
    unfold FreeS
    iintro HF Hk
    ihave HF := (sep_out (F := F) (s := Finset.Ico (NL b) 56) (i := NL b + 2) (Finset.mem_Ico.mpr ⟨by omega, h56⟩) _) $$ HF
    icases HF with ⟨⟨%f, H⟩, HF⟩
    iapply (wp_ld c (m := Memref.whole cc0_scratch9) (r := Rect.unit (s := S7168x4096) (k0_off37 (W (NL b))) S128x4096.size (k0_off37_inb (W (NL b)) hw hc)) (f := f)
      (fun z => f ((Rect.unit (s := S7168x4096) (k0_off37 (W (NL b))) S128x4096.size (k0_off37_inb (W (NL b)) hw hc)).emb z)) (fun z => rfl) (by rw [hset])) $$ H
    iintro H
    iapply (wp_stW c (m := Memref.whole cc0_scratch9) (r := Rect.unit (s := S7168x4096) (k0_off37 (W (NL b))) S128x4096.size (k0_off37_inb (W (NL b)) hw hc)) (f := f) rfl (by rw [hset2])) $$ H
    iintro H
    iapply Hk
    iapply HF
    iexists _
    iexact H
  · iintro HF Hk
    iapply Hk
    iexact HF

end Cert.KernelIdeal.Hand

end
-- ==== Proof.KI.Down3.lean ====
/- One trip of the loop over the groups. -/
module

public import proofs.«01_k».proof.Proof.KI.Down2

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem trips_lt (b : ℕ → BitVec 1) (t : Fin (k0_t2_loop (W (NL b))).trips) : 4 * t.val < NL b := by
  have h := t.isLt
  have hN := NL_le b
  have e := trips_eq hN
  omega

/-- A group's cell with all its copies awaited. -/
theorem cell_done (c : Dev nD) (f4 : Vec F S14336x4096 .fp8e4m3) (b : ℕ → BitVec 1) (g : ℕ) :
    CellU c f4 b g (min 4 (NL b - 4 * g)) (KD * min 4 (NL b - 4 * g))
      ⊢ (iprop(|={Set.univ}=> (bigSep Finset.univ (fun t : Fin (min 4 (NL b - 4 * g)) => Del c f4 b (4 * g + t.val)) ∗ semVal (c, .dma (semDn g)) 0)) : sProp 𝕄) := by
  unfold CellU
  exact Transfers.batch_collect' EC (c : Thread nD τ) KD_pos

/-- A free cell, readied for a group. -/
theorem cell_new (c : Dev nD) (f4 : Vec F S14336x4096 .fp8e4m3) (b : ℕ → BitVec 1) (g : ℕ) :
    (semVal (c, .dma (semDn g)) 0 : sProp 𝕄) ⊢ iprop(|={Set.univ}=> CellU c f4 b g 0 0) := by
  unfold CellU
  exact Transfers.batch_alloc' (Lvl := ℕ) EC (c : Thread nD τ) () KD (fun u : Fin (min 4 (NL b - 4 * g)) => Del c f4 b (4 * g + u.val)) (sm := .dma (semDn g)) (E := Set.univ)

theorem slots_split4 (c : Dev nD) (f4 : Vec F S14336x4096 .fp8e4m3) (b : ℕ → BitVec 1) (g : ℕ) (f : Vec F S7168x4096 .fp8e4m3)
    (hf : ∀ p ∈ Finset.Ico (4 * g) (4 * g + 4), p < NL b → SlotHas f4 b p f) :
    ((c : Thread nD τ).loc cc0_scratch9 ↦[rowS (g % 14)]{fullShare} f : sProp 𝕄) ⊢ iprop(SV c f4 b (4 * g + 0) ∗ SV c f4 b (4 * g + 1) ∗ SV c f4 b (4 * g + 2) ∗ SV c f4 b (4 * g + 3) ∗ emp) := by
  have h := slots_split c f4 b g f hf
  rw [sep_four (4 * g) (SV c f4 b)] at h
  exact h

/-- The group's four last free slots and the rest of the ring. -/
theorem free_close (c : Dev nD) (f4 : Vec F S14336x4096 .fp8e4m3) (b : ℕ → BitVec 1) (g : ℕ) :
    iprop(bigSep (Finset.Ico (4 * g + 4) (4 * g + 56)) (OptFree c f4 b) ∗ OptFree c f4 b (4 * g + 56 + 0) ∗ OptFree c f4 b (4 * g + 56 + 1) ∗ OptFree c f4 b (4 * g + 56 + 2) ∗ OptFree c f4 b (4 * g + 56 + 3) : sProp 𝕄)
      ⊢ bigSep (Finset.Ico (4 * (g + 1)) (4 * (g + 1) + 56)) (OptFree c f4 b) := by
  rw [show 4 * (g + 1) = 4 * g + 4 by omega, sep_app (show 4 * g + 4 ≤ 4 * g + 56 by omega) (show 4 * g + 56 ≤ 4 * g + 4 + 56 by omega) (OptFree c f4 b), show 4 * g + 4 + 56 = 4 * g + 56 + 4 by omega, sep_four]
  iintro ⟨H, H0, H1, H2, H3⟩
  isplitl [H]; · iexact H
  isplitl [H0]; · iexact H0
  isplitl [H1]; · iexact H1
  isplitl [H2]; · iexact H2
  isplitl [H3]; · iexact H3
  iempintro

theorem tok_close (c : Dev nD) (f4 : Vec F S14336x4096 .fp8e4m3) (b : ℕ → BitVec 1) (g : ℕ) :
    iprop(bigSep (Finset.Ico 0 (4 * g)) (OptTok c f4 b) ∗ bigSep (Finset.Ico (4 * g) (4 * g + 4)) (OptTok c f4 b) : sProp 𝕄)
      ⊢ bigSep (Finset.Ico 0 (4 * (g + 1))) (OptTok c f4 b) := by
  rw [show 4 * (g + 1) = 4 * g + 4 by omega, sep_app (Nat.zero_le (4 * g)) (show 4 * g ≤ 4 * g + 4 by omega) (OptTok c f4 b)]

theorem cells_close (c : Dev nD) (f4 : Vec F S14336x4096 .fp8e4m3) (b : ℕ → BitVec 1) (g : ℕ) :
    iprop(CellU c f4 b (g + 14) (min 4 (NL b - 4 * (g + 14))) 0 ∗ bigSep (Finset.Ico (g + 1) (g + 14)) (fun h => CellU c f4 b h (min 4 (NL b - 4 * h)) 0) : sProp 𝕄)
      ⊢ bigSep (Finset.Ico (g + 1) (g + 1 + 14)) (fun h => CellU c f4 b h (min 4 (NL b - 4 * h)) 0) := by
  rw [show g + 1 + 14 = g + 14 + 1 by omega, sep_last (show g + 1 ≤ g + 14 by omega) (fun h => CellU c f4 b h (min 4 (NL b - 4 * h)) 0)]

theorem acc_write (a w : Vec F S32x4096 .f32) {h} :
    ((Memref.whole cc0_scratch12).access (Rect.unit (s := S32x4096) ![0, 0] S32x4096.size h)).write (Elt F) a w Finset.univ = w := by
  funext x
  have hx : ((Memref.whole cc0_scratch12).access (Rect.unit (s := S32x4096) ![0, 0] S32x4096.size h)).emb x = x := by
    show (Rect.unit (s := S32x4096) ![0, 0] S32x4096.size h).emb x = x
    rw [Rect.emb_unit_full]
  have hw := View.write_emb_of_mem (v := (Memref.whole cc0_scratch12).access (Rect.unit (s := S32x4096) ![0, 0] S32x4096.size h)) a w (Finset.mem_univ x)
  rw [hx] at hw
  exact hw

set_option maxHeartbeats 1000000 in
/-- One trip of the second loop. -/
theorem dn_step (c : Dev nD) (f4 : Vec F S14336x4096 .fp8e4m3) (b : ℕ → BitVec 1) (hcv : Vec F S32x14464 .fp8e4m3) (q : PosShare TreeShare)
    (hw : k0_chk9 (W (NL b))) (ng : BitVec 32) (s : FVec F S32x1 .f32) (v : FVec F S32x14336 .f32) (t : Fin (k0_t2_loop (W (NL b))).trips) :
    DnSt c f4 b hcv q t.val ⊢ WP c (dnBody (W (NL b)) hw ng s v t ()) (fun _ => DnSt c f4 b hcv q (t.val + 1)) := by
  have hN := NL_le b
  have ht := trips_lt b t
  have hNF : NL b < 113 := by omega
  have p0 : 4 * t.val + 0 < 4 * ((NL b + 3) / 4) := by omega
  have p1 : 4 * t.val + 1 < 4 * ((NL b + 3) / 4) := by omega
  have p2 : 4 * t.val + 2 < 4 * ((NL b + 3) / 4) := by omega
  have p3 : 4 * t.val + 3 < 4 * ((NL b + 3) / 4) := by omega
  have l0 := lOff0_all ⟨NL b, hNF⟩ t
  have l1 := lOff1_all ⟨NL b, hNF⟩ t
  have l2 := lOff2_all ⟨NL b, hNF⟩ t
  have l3 := lOff3_all ⟨NL b, hNF⟩ t
  have hs : semDn (t.val + 14) = semDn t.val := by rw [← semDn_mod (t.val + 14), show (t.val + 14) % 14 = t.val % 14 by omega, semDn_mod]
  have z0 : CellU c f4 b t.val (min 4 (NL b - 4 * t.val)) 0 ⊢ CellU c f4 b t.val (min 4 (NL b - 4 * t.val)) (KD * min 0 (NL b - 4 * t.val)) := by
    rw [Nat.zero_min, Nat.mul_zero]
  rw [dnBody_eq, WP_bind, dnPart3_eq]
  unfold DnSt
  rw [sep_head (show t.val < t.val + 14 by omega), sep_app (show 4 * t.val ≤ 4 * t.val + 4 by omega) (show 4 * t.val + 4 ≤ 4 * t.val + 56 by omega) (OptFree c f4 b),
    sep_app (show 4 * t.val + 56 ≤ 4 * t.val + 56 + 4 by omega) (show 4 * t.val + 56 + 4 ≤ 170 by omega) (OptTok c f4 b), sep_four (4 * t.val + 56)]
  iintro ⟨HL, ⟨HB, HBs⟩, ⟨HF, HFs⟩, HTd, ⟨⟨HT0, HT1, HT2, HT3, -⟩, HTs⟩, Hh, ⟨%a, Ha, %hA⟩, HO⟩
  ihave HB := z0 $$ HB
  iapply (dnW0 c f4 b t) $$ [HL HB HO]
  · isplitl [HL]; · iexact HL
    isplitl [HB]; · iexact HB
    iexact HO
  iintro ⟨HL, HB, HO⟩
  iapply (dnW1 c f4 b t) $$ [HL HB HO]
  · isplitl [HL]; · iexact HL
    isplitl [HB]; · iexact HB
    iexact HO
  iintro ⟨HL, HB, HO⟩
  iapply (dnW2 c f4 b t) $$ [HL HB HO]
  · isplitl [HL]; · iexact HL
    isplitl [HB]; · iexact HB
    iexact HO
  iintro ⟨HL, HB, HO⟩
  iapply (dnW3 c f4 b t) $$ [HL HB HO]
  · isplitl [HL]; · iexact HL
    isplitl [HB]; · iexact HB
    iexact HO
  iintro ⟨HL, HB, HO⟩
  unfold dnLd3
  iapply (wp_readP c b p0 l0) $$ HL
  iintro HL
  iapply (hAsm c (chkL0 (ls_le b _)))
  iapply (wp_ld c (m := Memref.whole cc0_scratch11) (r := Rect.unit (s := S32x14464) (k0_off55 (W (ls b (4 * t.val + 0)))) S32x128.size (k0_off55_inb _ (chkL0 (ls_le b _)))) (f := hcv) (Bk hcv (ls b (4 * t.val + 0))) (fun z => blk_val hcv (ls_le b _) ((bOff0 _).trans (bOff_eq (ls_le b _))) z) sub_univ) $$ Hh
  iintro Hh
  iapply (wp_readP c b p1 l1) $$ HL
  iintro HL
  iapply (hAsm c (chkL1 (ls_le b _)))
  iapply (wp_ld c (m := Memref.whole cc0_scratch11) (r := Rect.unit (s := S32x14464) (k0_off57 (W (ls b (4 * t.val + 1)))) S32x128.size (k0_off57_inb _ (chkL1 (ls_le b _)))) (f := hcv) (Bk hcv (ls b (4 * t.val + 1))) (fun z => blk_val hcv (ls_le b _) ((bOff1 _).trans (bOff_eq (ls_le b _))) z) sub_univ) $$ Hh
  iintro Hh
  iapply (wp_readP c b p2 l2) $$ HL
  iintro HL
  iapply (hAsm c (chkL2 (ls_le b _)))
  iapply (hRet c)
  dsimp only
  rw [WP_bind, dnPart4_eq.{1}]
  unfold dnLd4
  iapply (wp_ld c (m := Memref.whole cc0_scratch11) (r := Rect.unit (s := S32x14464) (k0_off59 (W (ls b (4 * t.val + 2)))) S32x128.size (k0_off59_inb _ (chkL2 (ls_le b _)))) (f := hcv) (Bk hcv (ls b (4 * t.val + 2))) (fun z => blk_val hcv (ls_le b _) ((bOff2 _).trans (bOff_eq (ls_le b _))) z) sub_univ) $$ Hh
  iintro Hh
  iapply (wp_readP c b p3 l3) $$ HL
  iintro HL
  iapply (hAsm c (chkL3 (ls_le b _)))
  iapply (wp_ld c (m := Memref.whole cc0_scratch11) (r := Rect.unit (s := S32x14464) (k0_off61 (W (ls b (4 * t.val + 3)))) S32x128.size (k0_off61_inb _ (chkL3 (ls_le b _)))) (f := hcv) (Bk hcv (ls b (4 * t.val + 3))) (fun z => blk_val hcv (ls_le b _) ((bOff3 _).trans (bOff_eq (ls_le b _))) z) sub_univ) $$ Hh
  iintro Hh
  iapply (wp_ld c (m := Memref.whole cc0_scratch12) (r := Rect.unit (s := S32x4096) ![0, 0] S32x4096.size inb_S32x4096_S32x4096_0_0) (f := a) a (fun z => congrArg a (Rect.emb_unit_full _ z)) sub_univ) $$ Ha
  iintro Ha
  imod (cell_done c f4 b t.val) $$ HB with ⟨HD, HV⟩
  ihave HD := (grp_take c f4 b t.val) $$ [HD HF]
  · isplitl [HD]; · iexact HD
    iexact HF
  icases HD with ⟨HS, HTg⟩
  rw [← hs]
  imod (cell_new c f4 b (t.val + 14)) $$ HV with HB
  ihave HS := (slots_join c f4 b t.val) $$ HS
  icases HS with ⟨%f, %hf, Hf⟩
  iapply (wp_ld c (m := Memref.whole cc0_scratch9) (r := Rect.unit (s := S7168x4096) (k0_off62 (W (NL b)) t) S512x4096.size (k0_off62_inb _ hw t)) (f := f)
    (fun z => f ((Rect.unit (s := S7168x4096) (k0_off62 (W (NL b)) t) S512x4096.size (k0_off62_inb _ hw t)).emb z)) (fun z => rfl) (by rw [row_sub (t.val % 14) (aOff_all ⟨NL b, hNF⟩ t)])) $$ Hf
  iintro Hf
  ihave Hf := (slots_split4 c f4 b t.val f hf) $$ Hf
  icases Hf with ⟨HS0, HS1, HS2, HS3, -⟩
  iapply (wp_ld c (m := Memref.whole cc0_scratch12) (r := Rect.unit (s := S32x4096) ![0, 0] S32x4096.size inb_S32x4096_S32x4096_0_0) (f := a) a (fun z => congrArg a (Rect.emb_unit_full _ z)) sub_univ) $$ Ha
  iintro Ha
  iapply (wp_store (defs := defs₀ (F := F)) Variants.none (c : Thread nD τ) none Set.univ (m := Memref.whole cc0_scratch12) (r := Rect.unit (s := S32x4096) ![0, 0] S32x4096.size inb_S32x4096_S32x4096_0_0) (f := a) sub_univ) $$ Ha
  iintro Ha
  rw [acc_write]
  simp only [ret_bind']
  iapply (dnF0 c f4 b t) $$ [HL HS0 HT0 HB]
  · isplitl [HL]; · iexact HL
    isplitl [HS0]; · iexact HS0
    isplitl [HT0]; · iexact HT0
    rw [Nat.zero_min]; iexact HB
  iintro ⟨HL, HF0, HB⟩

  iapply (dnF1 c f4 b t) $$ [HL HS1 HT1 HB]
  · isplitl [HL]; · iexact HL
    isplitl [HS1]; · iexact HS1
    isplitl [HT1]; · iexact HT1
    iexact HB
  iintro ⟨HL, HF1, HB⟩
  iapply (hRet c)
  iapply (dnF2 c f4 b t) $$ [HL HS2 HT2 HB]
  · isplitl [HL]; · iexact HL
    isplitl [HS2]; · iexact HS2
    isplitl [HT2]; · iexact HT2
    iexact HB
  iintro ⟨HL, HF2, HB⟩

  iapply (dnF3 c f4 b t) $$ [HL HS3 HT3 HB]
  · isplitl [HL]; · iexact HL
    isplitl [HS3]; · iexact HS3
    isplitl [HT3]; · iexact HT3
    iexact HB
  iintro ⟨HL, HF3, HB⟩
  iapply (hRet c)
  isplitl [HL]; · iexact HL
  isplitl [HB HBs]
  · iapply (cells_close c f4 b t.val)
    isplitl [HB]; · iexact HB
    iexact HBs
  isplitl [HFs HF0 HF1 HF2 HF3]
  · iapply (free_close c f4 b t.val)
    isplitl [HFs]; · iexact HFs
    isplitl [HF0]; · iexact HF0
    isplitl [HF1]; · iexact HF1
    isplitl [HF2]; · iexact HF2
    iexact HF3
  isplitl [HTd HTg]
  · iapply (tok_close c f4 b t.val)
    isplitl [HTd]; · iexact HTd
    iexact HTg
  isplitl [HTs]; · iexact HTs
  isplitl [Hh]; · iexact Hh
  isplitl [Ha]
  · iexists _
    isplitl [Ha]; · iexact Ha
    ipureintro
    exact ⟨a, _, hA, row_val f4 b t.val f hf (aOff_all ⟨NL b, hNF⟩ t), rfl⟩
  iexact HO

end Cert.KernelIdeal.Hand

end
-- ==== Proof.KI.BodyB.lean ====
/- The first loop and what follows it. -/
module

public import proofs.«01_k».proof.Proof.KI.BodyA
public import proofs.«01_k».proof.Proof.KI.Pad
public import proofs.«01_k».proof.Proof.KI.Up2
public import proofs.«01_k».proof.Proof.KI.Down3

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The first loop. -/
theorem up_loop (c : Dev nD) (d : Dt F) (q : PosShare TreeShare) {α : Type} {K : BitVec 32 × FVec F S32x128 .f32 → Prog (TpuEff nD τ sig (Elt F) Λ₀ .tc) α} {Q : α → sProp 𝕄} :
    UpSt c d q 0 ⊢ iprop((UpSt c d q 28 -∗ WP c (K (W (NL (bits d)), rmx d 28)) Q)
      -∗ WP c ((Scf.Loop.for k0_t1_loop k0_t1_ok (0#32, k0_pay20 (F := F)) upBody).bind K) Q) := by
  have hb : ∀ (k : Fin k0_t1_loop.trips) (a : BitVec 32 × FVec F S32x128 .f32), upInv c d q k.val a ⊢ WP c (upBody k a) (upInv c d q (k.val + 1)) := by
    intro k a
    unfold upInv
    iintro ⟨%e, H⟩
    subst e
    iapply (up_step c d q k) $$ H
  have h := Scf.wp_for_bind _ (wpE (defs₀ (F := F)) Variants.none (c : Thread nD τ) none) Set.univ k0_t1_loop.lb k0_t1_loop.ub k0_t1_loop.st k0_t1_ok (0#32, k0_pay20 (F := F)) upBody (upInv c d q) hb (kk := K) (Q := Q)
  have e28 : Scf.trips k0_t1_loop.lb k0_t1_loop.ub k0_t1_loop.st = 28 := trips1
  rw [e28] at h
  iintro H Hk
  iapply h $$ [H]
  · unfold upInv
    isplitr
    · ipureintro; show _ = (W (cnt (bits d) 0), k0_pay20 (F := F)); rw [cnt_zero]
    · iexact H
  · iintro %a Ha
    unfold upInv
    icases Ha with ⟨%e, Ha⟩
    subst e
    iapply Hk
    iexact Ha

/-- The first loop, and the list padded by one. -/
theorem p11 (c : Dev nD) (d : Dt F) (q : PosShare TreeShare) (ws : Vec F S1x4096 .f32) {Q : _ → sProp 𝕄} :
    iprop(InW c ws ∗ UpSt c d q 0 : sProp 𝕄)
      ⊢ iprop((iprop((((c : Thread nD τ).loc cc0_scratch3) ↦{fullShare} ws) ∗ (((c : Thread nD τ).loc main_v3) ↦{fullShare} ws) ∗ semVal (c, .dma (semIn 3)) 0 ∗ LivePd c (bits d) 1 ∗ Cop c d.f4 (bits d) (NL (bits d))
          ∗ BI.bigSep (Finset.Ico 28 (28 + 8)) (RingC c d.f1) ∗ BI.bigSep (Finset.Ico (28 + 8) 28) (ColB c d.f1) ∗ BI.bigSep (Finset.range 28) (ColB c d.f1) ∗ Owes c ∗ Ops c d q ∗ Hid c d 28)
          -∗ Q ⟨W (NL (bits d)), rmx d 28, chk9_ok (NL_le (bits d)), ngE (W (NL (bits d)))⟩)
        -∗ WP c (k0_part11 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3) Q) := by
  rw [k0_part11_eq_skeleton, part11_eq]
  unfold UpSt
  iintro ⟨HW, HL, HC, HR, HB1, HB0, HO, HOp, HH⟩ Hk
  unfold InW
  iapply (wp_cpWait c (src := Memref.whole main_v3) (dst := Memref.whole cc0_scratch3) (sm' := semIn 3) (semIn_all 3 _) (N := NIW) rfl) $$ [HW HO]
  · isplitl [HW]; · iexact HW
    iexact HO
  iintro ⟨⟨H1, H2⟩, HV, HO⟩
  iapply (up_loop c d q) $$ [HL HC HR HB1 HB0 HO HOp HH]
  · unfold UpSt
    isplitl [HL]; · iexact HL
    isplitl [HC]; · iexact HC
    isplitl [HR]; · iexact HR
    isplitl [HB1]; · iexact HB1
    isplitl [HB0]; · iexact HB0
    isplitl [HO]; · iexact HO
    isplitl [HOp]; · iexact HOp
    iexact HH
  have e28 : UpSt c d q 28 = (iprop(Live c (bits d) (NL (bits d)) ∗ iprop(Cells c d.f4 (bits d) (NL (bits d)) ∗ FreeS c (NL (bits d)) ∗ Toks c d.f4 (bits d) (NL (bits d))) ∗ BI.bigSep (Finset.Ico 28 (28 + 8)) (RingC c d.f1) ∗ BI.bigSep (Finset.Ico (28 + 8) 28) (ColB c d.f1) ∗ BI.bigSep (Finset.range 28) (ColB c d.f1) ∗ Owes c ∗ Ops c d q ∗ Hid c d 28) : sProp 𝕄) := rfl
  rw [e28]
  unfold Cop
  iintro ⟨HL, ⟨HC, HF, HT⟩, HR, HB1, HB0, HO, HOp, HH⟩
  iapply (hAsm c (chk9_ok (NL_le (bits d))))
  unfold p11Tail
  ihave HL := (live_pd c (bits d)) $$ HL
  iapply (wp_padL0 c (bits d)) $$ HL
  iintro HL
  iapply (wp_padZ0 c (bits d)) $$ HF
  iintro HF
  iapply (hRet c)
  iapply Hk
  isplitl [H1]; · iexact H1
  isplitl [H2]; · iexact H2
  isplitl [HV]; · iexact HV
  isplitl [HL]; · iexact HL
  isplitl [HC HF HT]
  · isplitl [HC]; · iexact HC
    isplitl [HF]; · iexact HF
    iexact HT
  isplitl [HR]; · iexact HR
  isplitl [HB1]; · iexact HB1
  isplitl [HB0]; · iexact HB0
  isplitl [HO]; · iexact HO
  isplitl [HOp]; · iexact HOp
  iexact HH

/-- The list padded to the end of its group. -/
theorem p12 (c : Dev nD) (b : ℕ → BitVec 1) (rm : FVec F S32x128 .f32) (hw : k0_chk9 (W (NL b))) (g : BitVec 32) {Q : _ → sProp 𝕄} :
    iprop(LivePd c b 1 ∗ FreeS c (NL b) : sProp 𝕄)
      ⊢ iprop((iprop(LiveP c b ∗ FreeS c (NL b)) -∗ Q ⟨k0_pay27 rm, k0_pay28 rm⟩) -∗ WP c (k0_part12 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 (W (NL b)) rm hw g) Q) := by
  rw [k0_part12_eq_skeleton, part12_eq]
  iintro ⟨HL, HF⟩ Hk
  iapply (wp_padL1 c b) $$ HL
  iintro HL
  iapply (wp_padZ1 c b) $$ HF
  iintro HF
  iapply (wp_padL2 c b) $$ HL
  iintro HL
  iapply (wp_padZ2 c b) $$ HF
  iintro HF
  iapply (hRet c)
  iapply Hk
  ihave HL := (pd_liveP c b) $$ HL
  isplitl [HL]; · iexact HL
  iexact HF

/-- The hidden activations are read and their scales stored. -/
theorem p13 (c : Dev nD) (d : Dt F) (v197 : FVec F S32x1 .f32) (v211 : IVec S32 32) (a7 : Vec F S1x32 .f32) {Q : _ → sProp 𝕄} :
    iprop((((c : Thread nD τ).loc cc0_scratch7) ↦{fullShare} a7) ∗ Hid c d 28 : sProp 𝕄)
      ⊢ iprop((iprop((((c : Thread nD τ).loc cc0_scratch7) ↦{fullShare} (k0_pay31 v197 v211)) ∗ (((c : Thread nD τ).loc cc0_scratch10) ↦{fullShare} hFull d)) -∗ Q ⟨k0_pay30 v197 v211, k0_pay32 v197 v211 (hFull d)⟩)
        -∗ WP c (k0_part13 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 v197 v211) Q) := by
  rw [k0_part13_eq_skeleton]
  unfold k0_part13_skel Hid
  iintro ⟨H7, %H, HH, %hH⟩ Hk
  have e : H = hFull d := funext fun x => hH x (x 1).isLt
  subst e
  iapply (wp_ld c (m := Memref.whole cc0_scratch7) (r := Rect.unit (s := S1x32) ![0, 0] S1x32.size inb_S1x32_S1x32_0_0) (f := a7) a7 (fun z => congrArg a7 (Rect.emb_unit_full _ z)) sub_univ) $$ H7
  iintro H7
  iapply (wp_stW c (m := Memref.whole cc0_scratch7) (r := Rect.unit (s := S1x32) ![0, 0] S1x32.size inb_S1x32_S1x32_0_0) (f := a7) (w' := (k0_pay31 v197 v211)) (st_write7 a7 (k0_pay31 v197 v211)) sub_univ) $$ H7
  iintro H7
  iapply (wp_ld c (m := Memref.whole cc0_scratch10) (r := Rect.unit (s := S32x14336) ![0, 0] S32x14336.size inb_S32x14336_S32x14336_0_0) (f := (hFull d)) (hFull d) (fun z => congrArg (hFull d) (Rect.emb_unit_full _ z)) sub_univ) $$ HH
  iintro HH
  iapply (hRet c)
  iapply Hk
  isplitl [H7]; · iexact H7
  iexact HH

end Cert.KernelIdeal.Hand

end
-- ==== Proof.KI.BodyC.lean ====
/- The second half of the kernel. -/
module

public import proofs.«01_k».proof.Proof.KI.BodyB
public import proofs.«01_k».proof.Proof.KI.Split

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx (ix2 ix3 eq_ix2)
theorem st_write12 (a w : Vec F S32x4096 .f32) {h} :
    ((Memref.whole cc0_scratch12).access (Rect.unit (s := S32x4096) ![0, 0] S32x4096.size h)).write (Elt F) a w Finset.univ = w := by
  funext x
  have hx : ((Memref.whole cc0_scratch12).access (Rect.unit (s := S32x4096) ![0, 0] S32x4096.size h)).emb x = x := by
    show (Rect.unit (s := S32x4096) ![0, 0] S32x4096.size h).emb x = x
    rw [Rect.emb_unit_full]
  have hw := View.write_emb_of_mem (v := (Memref.whole cc0_scratch12).access (Rect.unit (s := S32x4096) ![0, 0] S32x4096.size h)) a w (Finset.mem_univ x)
  rw [hx] at hw
  exact hw

/-- A family is extended by parts that own nothing. -/
theorem big_ext {s t : Finset ℕ} (hs : s ⊆ t) (Φ : ℕ → sProp 𝕄) (h : ∀ i ∈ t, i ∉ s → Φ i = iprop(emp)) : bigSep s Φ ⊢ bigSep t Φ := by
  classical
  have e : bigSep t Φ = iprop(bigSep s Φ ∗ bigSep (t \ s) Φ) := by
    rw [← bigSep_union' Finset.disjoint_sdiff, Finset.union_sdiff_of_subset hs]
  rw [e]
  have h2 := emp_sep_big (F := F) (t \ s) Φ fun i hi => h i (Finset.mem_sdiff.mp hi).1 (Finset.mem_sdiff.mp hi).2
  iintro H
  isplitl [H]; · iexact H
  iapply h2
  iempintro

/-- The codes of the hidden activations followed by zero codes. -/
def hcv (v : FVec F S32x14336 .f32) : Vec F S32x14464 .fp8e4m3 := fun x =>
  if h : (x 1).val < 14336 then k0_pay33 v (ix2 (n0 := 32) (n1 := 14336) ⟨(x 0).val, (x 0).isLt⟩ ⟨(x 1).val, h⟩)
  else k0_pay34 (ix2 (n0 := 32) (n1 := 128) ⟨(x 0).val, (x 0).isLt⟩ ⟨(x 1).val % 128, Nat.mod_lt _ (by decide)⟩)

theorem hcv_write (a : Vec F S32x14464 .fp8e4m3) (v : FVec F S32x14336 .f32) :
    ((Memref.whole cc0_scratch11).access (Rect.unit (s := S32x14464) ![0, 14336] S32x128.size inb_S32x14464_S32x128_0_14336)).write (Elt F)
      (((Memref.whole cc0_scratch11).access (Rect.unit (s := S32x14464) ![0, 0] S32x14336.size inb_S32x14464_S32x14336_0_0)).write (Elt F) a (k0_pay33 v) Finset.univ)
      (k0_pay34 (F := F)) Finset.univ = hcv v := by
  funext x
  have hx1 : (x 1).val < 14464 := (x 1).isLt
  have hx0 : (x 0).val < 32 := (x 0).isLt
  unfold hcv
  split
  · rename_i h
    refine (View.write_of_not_mem _ _ _ ?_).trans ?_
    · intro hm
      obtain ⟨y, -, hy⟩ := Finset.mem_map.mp hm
      have e := embU (s := S32x14464) (off := ![0, 14336]) (size := S32x128.size) (inb := inb_S32x14464_S32x128_0_14336) y 1 (n := 14336) rfl
      have e' : ((Rect.unit (s := S32x14464) ![0, 14336] S32x128.size inb_S32x14464_S32x128_0_14336).emb y 1).val = 14336 + (y 1).val := e
      have e2 : (x 1).val = ((Rect.unit (s := S32x14464) ![0, 14336] S32x128.size inb_S32x14464_S32x128_0_14336).emb y 1).val := congrArg (fun z : S32x14464.Idx => (z 1).val) hy.symm
      omega
    · have hx : ((Memref.whole cc0_scratch11).access (Rect.unit (s := S32x14464) ![0, 0] S32x14336.size inb_S32x14464_S32x14336_0_0)).emb (ix2 (n0 := 32) (n1 := 14336) ⟨(x 0).val, hx0⟩ ⟨(x 1).val, h⟩) = x := by
        refine funext (Fin.forall_fin_two.mpr ⟨Fin.ext ?_, Fin.ext ?_⟩)
        · refine (embU (s := S32x14464) (off := ![0, 0]) (size := S32x14336.size) (inb := inb_S32x14464_S32x14336_0_0) _ 0 rfl).trans ?_
          show 0 + (x 0).val = (x 0).val
          omega
        · refine (embU (s := S32x14464) (off := ![0, 0]) (size := S32x14336.size) (inb := inb_S32x14464_S32x14336_0_0) _ 1 rfl).trans ?_
          show 0 + (x 1).val = (x 1).val
          omega
      have hw := View.write_emb_of_mem (v := (Memref.whole cc0_scratch11).access (Rect.unit (s := S32x14464) ![0, 0] S32x14336.size inb_S32x14464_S32x14336_0_0)) a (k0_pay33 v) (Finset.mem_univ (ix2 (n0 := 32) (n1 := 14336) ⟨(x 0).val, hx0⟩ ⟨(x 1).val, h⟩))
      rw [hx] at hw
      exact hw
  · rename_i h
    have hx : ((Memref.whole cc0_scratch11).access (Rect.unit (s := S32x14464) ![0, 14336] S32x128.size inb_S32x14464_S32x128_0_14336)).emb (ix2 (n0 := 32) (n1 := 128) ⟨(x 0).val, hx0⟩ ⟨(x 1).val % 128, Nat.mod_lt _ (by decide)⟩) = x := by
      refine funext (Fin.forall_fin_two.mpr ⟨Fin.ext ?_, Fin.ext ?_⟩)
      · refine (embU (s := S32x14464) (off := ![0, 14336]) (size := S32x128.size) (inb := inb_S32x14464_S32x128_0_14336) _ 0 rfl).trans ?_
        show 0 + (x 0).val = (x 0).val
        omega
      · refine (embU (s := S32x14464) (off := ![0, 14336]) (size := S32x128.size) (inb := inb_S32x14464_S32x128_0_14336) _ 1 rfl).trans ?_
        show 14336 + (x 1).val % 128 = (x 1).val
        omega
    have hw := View.write_emb_of_mem (v := (Memref.whole cc0_scratch11).access (Rect.unit (s := S32x14464) ![0, 14336] S32x128.size inb_S32x14464_S32x128_0_14336)) (((Memref.whole cc0_scratch11).access (Rect.unit (s := S32x14464) ![0, 0] S32x14336.size inb_S32x14464_S32x14336_0_0)).write (Elt F) a (k0_pay33 v) Finset.univ) (k0_pay34 (F := F)) (Finset.mem_univ (ix2 (n0 := 32) (n1 := 128) ⟨(x 0).val, hx0⟩ ⟨(x 1).val % 128, Nat.mod_lt _ (by decide)⟩))
    rw [hx] at hw
    exact hw

/-- The codes of the hidden activations, as the copy out reads them. -/
abbrev mHc : Memref sig .tc .vmem S32x14336 .fp8e4m3 := (Memref.whole cc0_scratch11).slice (Rect.unit (s := S32x14464) ![0, 0] S32x14336.size inb_S32x14464_S32x14336_0_0) (fun _ => rfl)
/-- The places that copy reads. -/
def hcS : Finset S32x14464.Idx := mHc.view.set

theorem hc_read (v : FVec F S32x14336 .f32) : mHc.view.read (Elt F) (hcv v) = k0_pay33 v := by
  funext z
  have h1 : (z 1).val < 14336 := (z 1).isLt
  have e0 := embU (s := S32x14464) (off := ![0, 0]) (size := S32x14336.size) (inb := inb_S32x14464_S32x14336_0_0) z 0 rfl
  have e1 := embU (s := S32x14464) (off := ![0, 0]) (size := S32x14336.size) (inb := inb_S32x14464_S32x14336_0_0) z 1 rfl
  show hcv v ((Rect.unit (s := S32x14464) ![0, 0] S32x14336.size inb_S32x14464_S32x14336_0_0).emb z) = _
  unfold hcv
  rw [dif_pos (by rw [e1]; show 0 + (z 1).val < 14336; omega)]
  refine congrArg (k0_pay33 v) (funext (Fin.forall_fin_two.mpr ⟨Fin.ext ?_, Fin.ext ?_⟩))
  · exact e0.trans (Nat.zero_add _)
  · exact e1.trans (Nat.zero_add _)

abbrev NOH : ℕ := (Memref.whole main_v4_3).view.dmaCredit
theorem NOH_pos : 0 < NOH := by decide
/-- The copy of `main_v4_3` out. -/
def OutH (c : Dev nD) (v : FVec F S32x14336 .f32) : sProp 𝕄 := Transfers.Flight EC (c : Thread nD τ) (.dma (semOut 2)) () NOH
  iprop(((c : Thread nD τ).loc main_v4_3 ↦{fullShare} k0_pay33 v) ∗ ((c : Thread nD τ).loc cc0_scratch11 ↦[hcS]{qR} hcv v))

/-- The state before the first group. -/
theorem dn_start (c : Dev nD) (f4 : Vec F S14336x4096 .fp8e4m3) (b : ℕ → BitVec 1) (hc : Vec F S32x14464 .fp8e4m3) (q : PosShare TreeShare) :
    iprop(LiveP c b ∗ Cop c f4 b (NL b) ∗ ((c : Thread nD τ).loc cc0_scratch11 ↦{q} hc) ∗ ((c : Thread nD τ).loc cc0_scratch12 ↦{fullShare} k0_pay35 (F := F)) ∗ Owes c : sProp 𝕄) ⊢ DnSt c f4 b hc q 0 := by
  have hle := NL_le b
  have h1 : FreeS (F := F) c (NL b) ⊢ bigSep (Finset.Ico (4 * 0) (4 * 0 + 56)) (OptFree c f4 b) := by
    refine BIBase.Entails.trans (Q := bigSep (Finset.Ico (NL b) 56) (OptFree c f4 b)) ?_ (big_ext (F := F) (fun i hi => by rw [Finset.mem_Ico] at hi ⊢; omega) _ fun i hi hn => if_pos (by rw [Finset.mem_Ico] at hi hn; omega))
    unfold FreeS
    refine bigSep_mono fun i hi => ?_
    have hge : ¬ i < NL b := by rw [Finset.mem_Ico] at hi; omega
    show (_ : sProp 𝕄) ⊢ OptFree c f4 b i
    unfold OptFree
    rw [if_neg hge]
    unfold SV
    iintro ⟨%f, H⟩
    iexists f
    isplitl [H]; · iexact H
    ipureintro
    exact fun h => absurd h hge
  have h2 : Toks c f4 b (NL b) ⊢ bigSep (Finset.Ico (4 * 0 + 56) 170) (OptTok c f4 b) := by
    unfold Toks
    exact bigSep_subset (fun i hi => by rw [Finset.mem_Ico] at hi ⊢; omega)
  unfold Cop DnSt Cells
  rw [Finset.range_eq_Ico]
  iintro ⟨HL, ⟨HC, HF, HT⟩, H11, H12, HO⟩
  ihave HF := h1 $$ HF
  ihave HT := h2 $$ HT
  isplitl [HL]; · iexact HL
  isplitl [HC]; · iexact HC
  isplitl [HF]; · iexact HF
  isplitr
  · iapply (emp_sep_big (F := F) _ (OptTok c f4 b) fun i hi => by simp at hi)
    iempintro
  isplitl [HT]; · iexact HT
  isplitl [H11]; · iexact H11
  isplitl [H12]
  · iexists _
    isplitl [H12]; · iexact H12
    ipureintro
    rfl
  iexact HO

/-- What the kernel owns after the last group. -/
def DnEnd (c : Dev nD) (f4 : Vec F S14336x4096 .fp8e4m3) (b : ℕ → BitVec 1) (hc : Vec F S32x14464 .fp8e4m3) (q : PosShare TreeShare) : sProp 𝕄 :=
  iprop(LiveP c b ∗ Sem14 (F := F) c ∗ iprop(∃ f : Vec F S7168x4096 .fp8e4m3, (c : Thread nD τ).loc cc0_scratch9 ↦{fullShare} f) ∗ bigSep (Finset.Ico 0 170) (OptTok c f4 b)
    ∗ ((c : Thread nD τ).loc cc0_scratch11 ↦{q} hc) ∗ iprop(∃ a, ((c : Thread nD τ).loc cc0_scratch12 ↦{fullShare} a) ∗ ⌜AccRel f4 b hc ((NL b + 3) / 4) a⌝) ∗ Owes c)

theorem dn_end (c : Dev nD) (f4 : Vec F S14336x4096 .fp8e4m3) (b : ℕ → BitVec 1) (hc : Vec F S32x14464 .fp8e4m3) (q : PosShare TreeShare) :
    DnSt c f4 b hc q ((NL b + 3) / 4) ⊢ iprop(|={Set.univ}=> DnEnd c f4 b hc q) := by
  have hle := NL_le b
  have h1 : bigSep (Finset.Ico (4 * ((NL b + 3) / 4)) (4 * ((NL b + 3) / 4) + 56)) (OptFree c f4 b) ⊢ (iprop(∃ f : Vec F S7168x4096 .fp8e4m3, (c : Thread nD τ).loc cc0_scratch9 ↦{fullShare} f) : sProp 𝕄) := by
    have e : bigSep (Finset.Ico (4 * ((NL b + 3) / 4)) (4 * ((NL b + 3) / 4) + 56)) (OptFree c f4 b) = bigSep (Finset.Ico (4 * ((NL b + 3) / 4)) (4 * ((NL b + 3) / 4) + 56)) (SV c f4 b) := bigSep_congr fun i hi => if_neg (by rw [Finset.mem_Ico] at hi; omega)
    exact (Entails.of_eq e).trans (slots_close c f4 b _)
  have h2 : bigSep (Finset.Ico 0 (4 * ((NL b + 3) / 4))) (OptTok c f4 b) ⊢ bigSep (Finset.Ico 0 170) (OptTok c f4 b) :=
    big_ext (F := F) (fun i hi => by rw [Finset.mem_Ico] at hi ⊢; omega) _ fun i hi hn => if_neg (by rw [Finset.mem_Ico] at hi hn; omega)
  have h3 := cells_shut (F := F) c f4 b ((NL b + 3) / 4) (by omega)
  unfold DnSt DnEnd
  iintro ⟨HL, HC, HF, HT, -, H11, H12, HO⟩
  imod h3 $$ HC with HC
  ihave HF := h1 $$ HF
  ihave HT := h2 $$ HT
  imodintro
  isplitl [HL]; · iexact HL
  isplitl [HC]; · iexact HC
  isplitl [HF]; · iexact HF
  isplitl [HT]; · iexact HT
  isplitl [H11]; · iexact H11
  isplitl [H12]; · iexact H12
  iexact HO

/-- The second loop. -/
theorem dn_loop (c : Dev nD) (f4 : Vec F S14336x4096 .fp8e4m3) (b : ℕ → BitVec 1) (hc : Vec F S32x14464 .fp8e4m3) (q : PosShare TreeShare) (hw : k0_chk9 (W (NL b))) (ng : BitVec 32) (s : FVec F S32x1 .f32) (v : FVec F S32x14336 .f32)
    {α : Type} {K : PUnit.{1} → Prog (TpuEff nD τ sig (Elt F) Λ₀ .tc) α} {Q : α → sProp 𝕄} :
    DnSt c f4 b hc q 0 ⊢ iprop((DnSt c f4 b hc q ((NL b + 3) / 4) -∗ WP c (K ⟨⟩) Q)
      -∗ WP c ((Scf.Loop.for (k0_t2_loop (W (NL b))) (k0_t2_ok (W (NL b)) hw) (⟨⟩ : PUnit.{1}) (dnBody (W (NL b)) hw ng s v)).bind K) Q) := by
  have h := Scf.wp_for_bind _ (wpE (defs₀ (F := F)) Variants.none (c : Thread nD τ) none) Set.univ (k0_t2_loop (W (NL b))).lb (k0_t2_loop (W (NL b))).ub (k0_t2_loop (W (NL b))).st (k0_t2_ok (W (NL b)) hw) (⟨⟩ : PUnit.{1}) (dnBody (W (NL b)) hw ng s v) (fun k _ => DnSt c f4 b hc q k)
    (fun k _ => dn_step c f4 b hc q hw ng s v k) (kk := K) (Q := Q)
  have e : Scf.trips (k0_t2_loop (W (NL b))).lb (k0_t2_loop (W (NL b))).ub (k0_t2_loop (W (NL b))).st = (NL b + 3) / 4 := trips_eq (NL_le b)
  rw [e] at h
  iintro H Hk
  iapply h $$ H
  iintro %a Ha
  iapply Hk
  iexact Ha

/-- The third loop makes no trip. -/
theorem no_loop (c : Dev nD) {n : ℕ} (hn : n ≤ 112) (hw : k0_chk9 (W n)) {body : Fin (k0_t3_loop (W n)).trips → PUnit.{1} → Prog (TpuEff nD τ sig (Elt F) Λ₀ .tc) PUnit.{1}}
    {α : Type} {K : PUnit.{1} → Prog (TpuEff nD τ sig (Elt F) Λ₀ .tc) α} {Q : α → sProp 𝕄} :
    WP c (K ⟨⟩) Q ⊢ WP c ((Scf.Loop.for (k0_t3_loop (W n)) (k0_t3_ok (W n) hw) (⟨⟩ : PUnit.{1}) body).bind K) Q := by
  have e : (k0_t3_loop (W n)).trips = 0 := trips3_eq hn
  have hb : ∀ (k : Fin (k0_t3_loop (W n)).trips) (a : PUnit.{1}), (iprop(⌜True⌝) : sProp 𝕄) ⊢ WP c (body k a) (fun _ => iprop(⌜True⌝)) := by
    intro k
    have hk : k.val < 0 := lt_of_lt_of_eq k.isLt e
    exact absurd hk (Nat.not_lt_zero _)
  have h := Scf.wp_for_bind _ (wpE (defs₀ (F := F)) Variants.none (c : Thread nD τ) none) Set.univ (k0_t3_loop (W n)).lb (k0_t3_loop (W n)).ub (k0_t3_loop (W n)).st (k0_t3_ok (W n) hw) (⟨⟩ : PUnit.{1}) body (fun _ _ => iprop(⌜True⌝))
    hb (kk := K) (Q := Q)
  iintro H
  iapply h
  · ipureintro; trivial
  iintro %a -
  iexact H

/-- The second half of the kernel: the codes of the hidden activations and the second product. -/
theorem p14 (c : Dev nD) (f4 : Vec F S14336x4096 .fp8e4m3) (b : ℕ → BitVec 1) (hw : k0_chk9 (W (NL b))) (ng : BitVec 32) (s : FVec F S32x1 .f32) (v : FVec F S32x14336 .f32)
    (a11 : Vec F S32x14464 .fp8e4m3) (o3 : Vec F S32x14336 .fp8e4m3) (t o4 : Vec F S1x32 .f32) (a12 : Vec F S32x4096 .f32) (ws : Vec F S1x4096 .f32) (a13 : Vec F S32x4096 .bf16) {Q : _ → sProp 𝕄} :
    iprop(LiveP c b ∗ Cop c f4 b (NL b) ∗ (((c : Thread nD τ).loc cc0_scratch11) ↦{fullShare} a11) ∗ (((c : Thread nD τ).loc main_v4_3) ↦{fullShare} o3) ∗ semVal (c, .dma (semOut 2)) 0 ∗ (((c : Thread nD τ).loc cc0_scratch7) ↦{fullShare} t) ∗ (((c : Thread nD τ).loc main_v4_4) ↦{fullShare} o4) ∗ semVal (c, .dma (semOut 3)) 0
        ∗ (((c : Thread nD τ).loc cc0_scratch12) ↦{fullShare} a12) ∗ (((c : Thread nD τ).loc cc0_scratch3) ↦{fullShare} ws) ∗ (((c : Thread nD τ).loc cc0_scratch13) ↦{fullShare} a13) ∗ Owes c : sProp 𝕄)
      ⊢ iprop((∀ acc, iprop(⌜AccRel f4 b (hcv v) ((NL b + 3) / 4) acc⌝ ∗ LiveP c b ∗ Sem14 (F := F) c ∗ iprop(∃ f : Vec F S7168x4096 .fp8e4m3, (c : Thread nD τ).loc cc0_scratch9 ↦{fullShare} f) ∗ bigSep (Finset.Ico 0 170) (OptTok c f4 b)
          ∗ (((c : Thread nD τ).loc cc0_scratch11) ↦{qL} hcv v) ∗ (((c : Thread nD τ).loc cc0_scratch11) ↦[Finset.univ \ hcS]{qR} hcv v) ∗ OutH c v ∗ OutT c fullShare t ∗ (((c : Thread nD τ).loc cc0_scratch12) ↦{fullShare} acc) ∗ (((c : Thread nD τ).loc cc0_scratch3) ↦{fullShare} ws) ∗ (((c : Thread nD τ).loc cc0_scratch13) ↦{fullShare} a13) ∗ Owes c)
          -∗ Q ⟨k0_pay36 s acc ws, a13⟩)
        -∗ WP c (k0_part14 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 (W (NL b)) hw ng s v) Q) := by
  have hsplit := (pointsTo_split_subset (Val := Elt F) (ℓ := (c : Thread nD τ).loc cc0_scratch11) (q := qR) (f := hcv v) (Finset.subset_univ hcS) (Ix := Unit) (Name := ℕ) (U := Pipeline.UD sig nD τ) (Lvl := ℕ)).1
  rw [k0_part14_eq_skeleton]
  unfold k0_part14_skel
  iintro ⟨HL, HC, H11, Ho3, HV2, H7, Ho4, HV3, H12, H3, H13, HO⟩ Hk
  iapply (wp_ld c (m := Memref.whole cc0_scratch11) (r := Rect.unit (s := S32x14464) ![0, 0] S32x14336.size inb_S32x14464_S32x14336_0_0) (f := a11) (fun z => a11 ((Rect.unit (s := S32x14464) ![0, 0] S32x14336.size inb_S32x14464_S32x14336_0_0).emb z)) (fun z => rfl) sub_univ) $$ H11
  iintro H11
  iapply (wp_stW c (m := Memref.whole cc0_scratch11) (r := Rect.unit (s := S32x14464) ![0, 0] S32x14336.size inb_S32x14464_S32x14336_0_0) (f := a11) rfl sub_univ) $$ H11
  iintro H11
  iapply (wp_ld c (m := Memref.whole cc0_scratch11) (r := Rect.unit (s := S32x14464) ![0, 14336] S32x128.size inb_S32x14464_S32x128_0_14336) (f := _) (fun z => _) (fun z => rfl) sub_univ) $$ H11
  iintro H11
  iapply (wp_stW c (m := Memref.whole cc0_scratch11) (r := Rect.unit (s := S32x14464) ![0, 14336] S32x128.size inb_S32x14464_S32x128_0_14336) (w' := hcv v) (hcv_write a11 v) sub_univ) $$ H11
  iintro H11
  ihave H11 := (pointsTo_share (PosShare.mem_left_op_right fullShare)).1 $$ H11
  icases H11 with ⟨H11, H11'⟩
  ihave H11' := hsplit $$ H11'
  icases H11' with ⟨Hs, Hr⟩
  iapply (wp_cp c (src := mHc) (dst := Memref.whole main_v4_3) (sm' := semOut 2) (semOut_all 2 _) (fs := hcv v) (fd := o3) (w := k0_pay33 v) (q := qR) (N := NOH) rfl NOH_pos (Ss := hcS) rfl (View.set_whole _)
    ((congrArg (fun w => (Memref.whole main_v4_3).view.write (Elt F) o3 w Finset.univ) (hc_read v)).trans (whole_val (F := F) (b := main_v4_3) o3 (k0_pay33 v)))) $$ [Hs Ho3 HV2]
  · isplitl [Hs]; · iexact Hs
    isplitl [Ho3]; · iexact Ho3
    iexact HV2
  iintro HOH
  iapply (wp_cp c (src := Memref.whole cc0_scratch7) (dst := Memref.whole main_v4_4) (sm' := semOut 3) (semOut_all 3 _) (fs := t) (fd := o4) (w := t) (q := fullShare) (N := NOT) rfl NOT_pos (View.set_whole _) (View.set_whole _) (whole_val (F := F) (b := main_v4_4) o4 t)) $$ [H7 Ho4 HV3]
  · isplitl [H7]; · iexact H7
    isplitl [Ho4]; · iexact Ho4
    iexact HV3
  iintro Ho4
  iapply (wp_ld c (m := Memref.whole cc0_scratch12) (r := Rect.unit (s := S32x4096) ![0, 0] S32x4096.size inb_S32x4096_S32x4096_0_0) (f := a12) a12 (fun z => congrArg a12 (Rect.emb_unit_full _ z)) sub_univ) $$ H12
  iintro H12
  iapply (wp_stW c (m := Memref.whole cc0_scratch12) (r := Rect.unit (s := S32x4096) ![0, 0] S32x4096.size inb_S32x4096_S32x4096_0_0) (f := a12) (w' := (k0_pay35 (F := F))) (st_write12 a12 (k0_pay35 (F := F))) sub_univ) $$ H12
  iintro H12
  iapply (dn_loop c f4 b (hcv v) qL hw ng s v) $$ [HL HC H11 H12 HO]
  · iapply (dn_start c f4 b (hcv v) qL)
    isplitl [HL]; · iexact HL
    isplitl [HC]; · iexact HC
    isplitl [H11]; · iexact H11
    isplitl [H12]; · iexact H12
    iexact HO
  iintro HD
  iapply (no_loop c (NL_le b) hw)
  imod (dn_end c f4 b (hcv v) qL) $$ HD with HD
  unfold DnEnd
  icases HD with ⟨HL, HS, H9, HT, H11, ⟨%acc, H12, %hacc⟩, HO⟩
  iapply (wp_ld c (m := Memref.whole cc0_scratch12) (r := Rect.unit (s := S32x4096) ![0, 0] S32x4096.size inb_S32x4096_S32x4096_0_0) (f := acc) acc (fun z => congrArg acc (Rect.emb_unit_full _ z)) sub_univ) $$ H12
  iintro H12
  iapply (wp_ld c (m := Memref.whole cc0_scratch3) (r := Rect.unit (s := S1x4096) ![0, 0] S1x4096.size inb_S1x4096_S1x4096_0_0) (f := ws) ws (fun z => congrArg ws (Rect.emb_unit_full _ z)) sub_univ) $$ H3
  iintro H3
  iapply (wp_ld c (m := Memref.whole cc0_scratch13) (r := Rect.unit (s := S32x4096) ![0, 0] S32x4096.size inb_S32x4096_S32x4096_0_0) (f := a13) a13 (fun z => congrArg a13 (Rect.emb_unit_full _ z)) sub_univ) $$ H13
  iintro H13
  iapply (hRet c)
  iapply Hk $$ %acc
  unfold OutH OutT
  isplitr; · ipureintro; exact hacc
  isplitl [HL]; · iexact HL
  isplitl [HS]; · iexact HS
  isplitl [H9]; · iexact H9
  isplitl [HT]; · iexact HT
  isplitl [H11]; · iexact H11
  isplitl [Hr]; · iexact Hr
  isplitl [HOH]; · iexact HOH
  isplitl [Ho4]; · iexact Ho4
  isplitl [H12]; · iexact H12
  isplitl [H3]; · iexact H3
  isplitl [H13]; · iexact H13
  iexact HO

end Cert.KernelIdeal.Hand

end
-- ==== Proof.KI.BodyD.lean ====
/- The end of the kernel, and what the loops start from and leave. -/
module

public import proofs.«01_k».proof.Proof.KI.BodyC

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx (ix2 ix3 eq_ix2)
/-- The end of the kernel: the result is stored and every copy out awaited. -/
def kTail (v282 : FVec F S32x4096 .bf16) : Prog (TpuEff nD τ sig (Elt F) Λ₀ .tc) PUnit := do
  Prog.lift (.store (Memref.whole cc0_scratch13) (Rect.unit (s := S32x4096) ![0, 0] S32x4096.size inb_S32x4096_S32x4096_0_0) (k0_pay1 v282) Finset.univ (View.stores_vmem h_S32x4096 ((Memref.isWhole_whole _).storeExact_slice rfl _ packedbf16_S32x4096_S32x4096_0_0) (fun _ => rfl)) (.inl rfl))
  Prog.lift (.enqueueDma (Memref.whole cc0_scratch13) (.here (Memref.whole main_v4_0)) (.dma ((cc0_scoped1.slice (Rect.unit (s := S5) ![4] S1.size inb_S5_S1_4)).squeeze S_ squeezes_S1_S_).sem) (Memref.isWhole_whole _).wordExact (Memref.isWhole_whole _).wordExact ⟨Or.inl rfl, trivial⟩)
  Prog.lift (.waitDma2 ((cc0_scoped1.slice (Rect.unit (s := S5) ![0] S1.size inb_S5_S1_0)).squeeze S_ squeezes_S1_S_).sem (Memref.whole cc0_scratch4) (Memref.whole main_v4_1) (Memref.isWhole_whole _).wordExact (Memref.isWhole_whole _).wordExact)
  Prog.lift (.waitDma2 ((cc0_scoped1.slice (Rect.unit (s := S5) ![1] S1.size inb_S5_S1_1)).squeeze S_ squeezes_S1_S_).sem (Memref.whole cc0_scratch6) (Memref.whole main_v4_2) (Memref.isWhole_whole _).wordExact (Memref.isWhole_whole _).wordExact)
  Prog.lift (.waitDma2 ((cc0_scoped1.slice (Rect.unit (s := S5) ![2] S1.size inb_S5_S1_2)).squeeze S_ squeezes_S1_S_).sem mHc (Memref.whole main_v4_3) ((Memref.isWhole_whole cc0_scratch11).wordExact_slice rfl _ wordsfp8e4m3_S32x14464_S32x14336_0_0) (Memref.isWhole_whole _).wordExact)
  Prog.lift (.waitDma2 ((cc0_scoped1.slice (Rect.unit (s := S5) ![3] S1.size inb_S5_S1_3)).squeeze S_ squeezes_S1_S_).sem (Memref.whole cc0_scratch7) (Memref.whole main_v4_4) (Memref.isWhole_whole _).wordExact (Memref.isWhole_whole _).wordExact)
  Prog.lift (.waitDma2 ((cc0_scoped1.slice (Rect.unit (s := S5) ![4] S1.size inb_S5_S1_4)).squeeze S_ squeezes_S1_S_).sem (Memref.whole cc0_scratch13) (Memref.whole main_v4_0) (Memref.isWhole_whole _).wordExact (Memref.isWhole_whole _).wordExact)
  pure ⟨⟩

theorem kMain_eq : kMain (F := F) = (k0_part7 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3).bind fun _ => (k0_part8 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3).bind fun _ => (k0_part9 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3).bind fun r =>
    (k0_part10 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 r.1 r.2.1 r.2.2.1 r.2.2.2).bind fun _ => (k0_part11 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3).bind fun r11 =>
    (k0_part12 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 r11.1 r11.2.1 r11.2.2.1 r11.2.2.2).bind fun r12 => (k0_part13 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 r12.1 r12.2).bind fun r13 =>
    (k0_part14 (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scoped0 cc0_scoped1 cc0_scoped2 cc0_scoped3 r11.1 r11.2.2.1 r11.2.2.2 r13.1 r13.2).bind fun r14 => kTail r14.1 := rfl

/-- What the first half computes from the operands. -/
abbrev dOf (x : Vec F S32x4096 .bf16) (f1 : Vec F S4096x14336 .fp8e4m3) (us bu : Vec F S1x14336 .f32) (f4 : Vec F S14336x4096 .fp8e4m3) : Dt F :=
  ⟨k0_pay17 (k0_pay13 x) (k0_pay16 x) 23#32, k0_pay18 (k0_pay15 x), f1, us, bu, f4⟩
/-- The hidden activations, each row divided by its scale. -/
def hsc (d : Dt F) : FVec F S32x14336 .f32 := k0_pay32 (k0_pay27 (rmx d 28)) (k0_pay28 (rmx d 28)) (hFull d)
/-- What the kernel's first result is. -/
def YRel (d : Dt F) (ws : Vec F S1x4096 .f32) (y : Vec F S32x4096 .bf16) : Prop :=
  ∃ acc, AccRel d.f4 (bits d) (hcv (hsc d)) ((NL (bits d) + 3) / 4) acc ∧ y = k0_pay1 (k0_pay36 (k0_pay30 (k0_pay27 (rmx d 28)) (k0_pay28 (rmx d 28))) acc ws)
/-- What the kernel's second result is. -/
def oXc (x : Vec F S32x4096 .bf16) : Vec F S32x4096 .fp8e4m3 := k0_pay17 (k0_pay13 x) (k0_pay16 x) 23#32
/-- What the kernel's third result is. -/
def oXs (x : Vec F S32x4096 .bf16) : Vec F S1x32 .f32 := k0_pay19 (k0_pay15 x)
/-- What the kernel's fourth result is. -/
def oHc (d : Dt F) : Vec F S32x14336 .fp8e4m3 := k0_pay33 (hsc d)
/-- What the kernel's fifth result is. -/
def oHs (d : Dt F) : Vec F S1x32 .f32 := k0_pay31 (k0_pay27 (rmx d 28)) (k0_pay28 (rmx d 28))

/-- The eight cells of the first matrix's copies, at zero. -/
def Sem8 (c : Dev nD) : sProp 𝕄 := bigSep (Finset.Ico 0 8) fun k => semVal (c, .dma (semUn k)) 0
/-- Every cell at zero. -/
def Sems (c : Dev nD) : sProp 𝕄 := iprop(semVal (c, .dma (semIn 0)) 0 ∗ semVal (c, .dma (semIn 1)) 0 ∗ semVal (c, .dma (semIn 2)) 0 ∗ semVal (c, .dma (semIn 3)) 0 ∗ semVal (c, .dma (semOut 0)) 0 ∗ semVal (c, .dma (semOut 1)) 0 ∗ semVal (c, .dma (semOut 2)) 0 ∗ semVal (c, .dma (semOut 3)) 0 ∗ semVal (c, .dma (semOut 4)) 0 ∗ Sem8 (F := F) c ∗ Sem14 (F := F) c)
/-- The kernel's own buffers. -/
def Scrs (c : Dev nD) : sProp 𝕄 := iprop(iprop(∃ f : Buf (Elt F) ((c : Thread nD τ).loc cc0_scratch0), ((c : Thread nD τ).loc cc0_scratch0) ↦{fullShare} f) ∗ iprop(∃ f : Buf (Elt F) ((c : Thread nD τ).loc cc0_scratch1), ((c : Thread nD τ).loc cc0_scratch1) ↦{fullShare} f) ∗ iprop(∃ f : Buf (Elt F) ((c : Thread nD τ).loc cc0_scratch2), ((c : Thread nD τ).loc cc0_scratch2) ↦{fullShare} f) ∗ iprop(∃ f : Buf (Elt F) ((c : Thread nD τ).loc cc0_scratch3), ((c : Thread nD τ).loc cc0_scratch3) ↦{fullShare} f) ∗ iprop(∃ f : Buf (Elt F) ((c : Thread nD τ).loc cc0_scratch4), ((c : Thread nD τ).loc cc0_scratch4) ↦{fullShare} f) ∗ iprop(∃ f : Buf (Elt F) ((c : Thread nD τ).loc cc0_scratch5), ((c : Thread nD τ).loc cc0_scratch5) ↦{fullShare} f) ∗ iprop(∃ f : Buf (Elt F) ((c : Thread nD τ).loc cc0_scratch6), ((c : Thread nD τ).loc cc0_scratch6) ↦{fullShare} f) ∗ iprop(∃ f : Buf (Elt F) ((c : Thread nD τ).loc cc0_scratch7), ((c : Thread nD τ).loc cc0_scratch7) ↦{fullShare} f) ∗ iprop(∃ f : Buf (Elt F) ((c : Thread nD τ).loc cc0_scratch8), ((c : Thread nD τ).loc cc0_scratch8) ↦{fullShare} f) ∗ iprop(∃ f : Buf (Elt F) ((c : Thread nD τ).loc cc0_scratch9), ((c : Thread nD τ).loc cc0_scratch9) ↦{fullShare} f) ∗ iprop(∃ f : Buf (Elt F) ((c : Thread nD τ).loc cc0_scratch10), ((c : Thread nD τ).loc cc0_scratch10) ↦{fullShare} f) ∗ iprop(∃ f : Buf (Elt F) ((c : Thread nD τ).loc cc0_scratch11), ((c : Thread nD τ).loc cc0_scratch11) ↦{fullShare} f) ∗ iprop(∃ f : Buf (Elt F) ((c : Thread nD τ).loc cc0_scratch12), ((c : Thread nD τ).loc cc0_scratch12) ↦{fullShare} f) ∗ iprop(∃ f : Buf (Elt F) ((c : Thread nD τ).loc cc0_scratch13), ((c : Thread nD τ).loc cc0_scratch13) ↦{fullShare} f) ∗ iprop(∃ f : Buf (Elt F) ((c : Thread nD τ).loc cc0_scratch14), ((c : Thread nD τ).loc cc0_scratch14) ↦{fullShare} f))
/-- The operands. -/
def Args (c : Dev nD) (x : Vec F S32x4096 .bf16) (f1 : Vec F S4096x14336 .fp8e4m3) (us bu : Vec F S1x14336 .f32) (f4 : Vec F S14336x4096 .fp8e4m3) (ws : Vec F S1x4096 .f32) : sProp 𝕄 := iprop((((c : Thread nD τ).loc main_v0) ↦{fullShare} x) ∗ (((c : Thread nD τ).loc main_arg1) ↦{fullShare} f1) ∗ (((c : Thread nD τ).loc main_v1) ↦{fullShare} us) ∗ (((c : Thread nD τ).loc main_v2) ↦{fullShare} bu) ∗ (((c : Thread nD τ).loc main_arg4) ↦{fullShare} f4) ∗ (((c : Thread nD τ).loc main_v3) ↦{fullShare} ws))
/-- The results. -/
def Outs (c : Dev nD) (y : Vec F S32x4096 .bf16) (xc : Vec F S32x4096 .fp8e4m3) (xs : Vec F S1x32 .f32) (hc : Vec F S32x14336 .fp8e4m3) (hs : Vec F S1x32 .f32) : sProp 𝕄 :=
  iprop((((c : Thread nD τ).loc main_v4_0) ↦{fullShare} y) ∗ (((c : Thread nD τ).loc main_v4_1) ↦{fullShare} xc) ∗ (((c : Thread nD τ).loc main_v4_2) ↦{fullShare} xs) ∗ (((c : Thread nD τ).loc main_v4_3) ↦{fullShare} hc) ∗ (((c : Thread nD τ).loc main_v4_4) ↦{fullShare} hs))

theorem sep_eight (n : ℕ) (Φ : ℕ → sProp 𝕄) : bigSep (Finset.Ico n (n + 8)) Φ = iprop(Φ n ∗ Φ (n + 1) ∗ Φ (n + 2) ∗ Φ (n + 3) ∗ Φ (n + 4) ∗ Φ (n + 5) ∗ Φ (n + 6) ∗ Φ (n + 7) ∗ emp) := by
  rw [sep_head (by omega), sep_head (by omega), sep_head (by omega), sep_head (by omega), sep_head (by omega), sep_head (by omega), sep_head (by omega), sep_head (by omega), Finset.Ico_self, bigSep_empty]
  rfl

theorem ring_ready (c : Dev nD) (f1 : Vec F S4096x14336 .fp8e4m3) (f : Vec F S8x4096x512 .fp8e4m3) :
    iprop((((c : Thread nD τ).loc main_arg1) ↦{fullShare} f1) ∗ (((c : Thread nD τ).loc cc0_scratch8) ↦{fullShare} f) ∗ Sem8 (F := F) c : sProp 𝕄)
      ⊢ iprop(bigSep (Finset.Ico 0 (0 + 8)) (RingReady c f1) ∗ bigSep (Finset.Ico (0 + 8) 28) (ColB c f1)) := by
  have e1 : bigSep (Finset.Ico 0 (0 + 8)) (RingReady c f1) = iprop(bigSep (Finset.Ico 0 (0 + 8)) (ColB c f1) ∗ bigSep (Finset.Ico 0 (0 + 8)) (fun k => iprop(RingF c k ∗ semVal (c, .dma (semUn k)) 0 : sProp 𝕄))) := bigSep_sep ..
  have e2 : bigSep (Finset.Ico 0 (0 + 8)) (fun k => iprop(RingF c k ∗ semVal (c, .dma (semUn k)) 0 : sProp 𝕄)) = iprop(bigSep (Finset.Ico 0 (0 + 8)) (RingF (F := F) c) ∗ Sem8 c) := bigSep_sep ..
  have e3 := (w1_split c f1).trans (sep_app (F := F) (by omega : 0 ≤ 0 + 8) (by omega : 0 + 8 ≤ 28) (ColB c f1))
  have h4 := ring_split (F := F) c f 0
  rw [e1, e2, e3]
  iintro ⟨⟨H1, H2⟩, H3, H4⟩
  ihave H3 := h4 $$ H3
  isplitr [H2]
  · isplitl [H1]; · iexact H1
    isplitl [H3]; · iexact H3
    iexact H4
  iexact H2

theorem ring_back (c : Dev nD) (f1 : Vec F S4096x14336 .fp8e4m3) :
    iprop(bigSep (Finset.Ico 28 (28 + 8)) (RingC c f1) ∗ bigSep (Finset.range 28) (ColB c f1) : sProp 𝕄)
      ⊢ iprop((((c : Thread nD τ).loc main_arg1) ↦{fullShare} f1) ∗ iprop(∃ f : Buf (Elt F) ((c : Thread nD τ).loc cc0_scratch8), ((c : Thread nD τ).loc cc0_scratch8) ↦{fullShare} f) ∗ Sem8 (F := F) c) := by
  have e1 : bigSep (Finset.Ico 28 (28 + 8)) (RingC c f1) = bigSep (Finset.Ico 28 (28 + 8)) (fun k => iprop(RingF c k ∗ semVal (c, .dma (semUn k)) 0 : sProp 𝕄)) := bigSep_congr fun i hi => if_neg (by rw [Finset.mem_Ico] at hi; omega)
  have e2 : bigSep (Finset.Ico 28 (28 + 8)) (fun k => iprop(RingF c k ∗ semVal (c, .dma (semUn k)) 0 : sProp 𝕄)) = iprop(bigSep (Finset.Ico 28 (28 + 8)) (RingF (F := F) c) ∗ bigSep (Finset.Ico 28 (28 + 8)) (fun k => (semVal (c, .dma (semUn k)) 0 : sProp 𝕄))) := bigSep_sep ..
  have e3 : bigSep (Finset.Ico 28 (28 + 8)) (fun k => (semVal (c, .dma (semUn k)) 0 : sProp 𝕄)) = Sem8 c := sep_rot (fun k => (semVal (c, .dma (semUn k)) 0 : sProp 𝕄)) 8 (by decide) (fun n => by
    have : semUn (n + 8) = semUn n := by rw [← semUn_mod (n + 8), ← semUn_mod n, Nat.add_mod_right]
    rw [this]) 28
  have h4 := ring_join (F := F) c (f1 (ix2 (n0 := 4096) (n1 := 14336) ⟨0, by decide⟩ ⟨0, by decide⟩)) 28
  rw [e1, e2, e3, Finset.range_eq_Ico, ← w1_split]
  iintro ⟨⟨H1, H2⟩, H3⟩
  ihave H1 := h4 $$ H1
  isplitl [H3]; · iexact H3
  isplitl [H1]; · iexact H1
  iexact H2

/-- The state before the first chunk. -/
theorem up_start (c : Dev nD) (d : Dt F) (q : PosShare TreeShare) (L : Buf (Elt F) ((c : Thread nD τ).loc cc0_scratch14)) (H : Vec F S32x14336 .f32) :
    iprop((((c : Thread nD τ).loc cc0_scratch14) ↦{fullShare} L) ∗ Cells c d.f4 (bits d) 0 ∗ FreeS c 0 ∗ bigSep (Finset.Ico 0 170) (OptTok c d.f4 (bits d)) ∗ bigSep (Finset.Ico 0 (0 + 8)) (RingC c d.f1) ∗ bigSep (Finset.Ico (0 + 8) 28) (ColB c d.f1)
      ∗ Owes c ∗ Ops c d q ∗ (((c : Thread nD τ).loc cc0_scratch10) ↦{fullShare} H) : sProp 𝕄) ⊢ UpSt c d q 0 := by
  have e0 : cnt (bits d) (4 * 0) = 0 := cnt_zero _
  unfold UpSt Cop Live Hid Toks
  rw [e0]
  iintro ⟨HL, HC, HF, HT, HR, HB, HO, HOp, HH⟩
  isplitl [HL]
  · iexists L
    isplitl [HL]; · iexact HL
    ipureintro
    intro x hx
    exact absurd hx (Nat.not_lt_zero _)
  isplitl [HC HF HT]
  · isplitl [HC]; · iexact HC
    isplitl [HF]; · iexact HF
    iexact HT
  isplitl [HR]; · iexact HR
  isplitl [HB]; · iexact HB
  isplitr
  · iapply (emp_sep_big (F := F) _ (ColB c d.f1) fun i hi => by simp at hi)
    iempintro
  isplitl [HO]; · iexact HO
  isplitl [HOp]; · iexact HOp
  iexists H
  isplitl [HH]; · iexact HH
  ipureintro
  intro x hx
  exact absurd hx (by omega)

/-- The end of the kernel. -/
theorem tail_ok (c : Dev nD) (v282 : FVec F S32x4096 .bf16) (cx : Vec F S32x4096 .fp8e4m3) (xs t : Vec F S1x32 .f32) (v : FVec F S32x14336 .f32) (a13 o0 : Vec F S32x4096 .bf16) {Q : PUnit → sProp 𝕄} :
    iprop((((c : Thread nD τ).loc cc0_scratch13) ↦{fullShare} a13) ∗ (((c : Thread nD τ).loc main_v4_0) ↦{fullShare} o0) ∗ semVal (c, .dma (semOut 4)) 0 ∗ OutC c qR cx ∗ (((c : Thread nD τ).loc cc0_scratch4) ↦{qL} cx) ∗ OutS c fullShare xs
        ∗ OutH c v ∗ (((c : Thread nD τ).loc cc0_scratch11) ↦{qL} hcv v) ∗ (((c : Thread nD τ).loc cc0_scratch11) ↦[Finset.univ \ hcS]{qR} hcv v) ∗ OutT c fullShare t ∗ Owes c : sProp 𝕄)
      ⊢ iprop((iprop(Outs c (k0_pay1 v282) cx xs (k0_pay33 v) t ∗ (((c : Thread nD τ).loc cc0_scratch13) ↦{fullShare} (k0_pay1 v282)) ∗ (((c : Thread nD τ).loc cc0_scratch4) ↦{fullShare} cx) ∗ (((c : Thread nD τ).loc cc0_scratch6) ↦{fullShare} xs) ∗ (((c : Thread nD τ).loc cc0_scratch11) ↦{fullShare} hcv v) ∗ (((c : Thread nD τ).loc cc0_scratch7) ↦{fullShare} t)
          ∗ semVal (c, .dma (semOut 0)) 0 ∗ semVal (c, .dma (semOut 1)) 0 ∗ semVal (c, .dma (semOut 2)) 0 ∗ semVal (c, .dma (semOut 3)) 0 ∗ semVal (c, .dma (semOut 4)) 0 ∗ Owes c) -∗ Q ⟨⟩) -∗ WP c (kTail v282) Q) := by
  have hsplit := (pointsTo_split_subset (Val := Elt F) (ℓ := (c : Thread nD τ).loc cc0_scratch11) (q := qR) (f := hcv v) (Finset.subset_univ hcS) (Ix := Unit) (Name := ℕ) (U := Pipeline.UD sig nD τ) (Lvl := ℕ)).2
  have hs4 := (pointsTo_share (PosShare.mem_left_op_right fullShare) (Val := Elt F) (ℓ := (c : Thread nD τ).loc cc0_scratch4) (f := cx) (I := Finset.univ) (Ix := Unit) (Name := ℕ) (U := Pipeline.UD sig nD τ) (Lvl := ℕ)).2
  have hs11 := (pointsTo_share (PosShare.mem_left_op_right fullShare) (Val := Elt F) (ℓ := (c : Thread nD τ).loc cc0_scratch11) (f := hcv v) (I := Finset.univ) (Ix := Unit) (Name := ℕ) (U := Pipeline.UD sig nD τ) (Lvl := ℕ)).2
  unfold kTail Outs
  iintro ⟨H13, Ho0, HV4, HOC, H4, HOS, HOH, H11, Hr, HOT, HO⟩ Hk
  iapply (wp_stW c (m := Memref.whole cc0_scratch13) (r := Rect.unit (s := S32x4096) ![0, 0] S32x4096.size inb_S32x4096_S32x4096_0_0) (f := a13) (w' := (k0_pay1 v282)) (st_write13 a13 (k0_pay1 v282)) sub_univ) $$ H13
  iintro H13
  iapply (wp_cp c (src := Memref.whole cc0_scratch13) (dst := Memref.whole main_v4_0) (sm' := semOut 4) (semOut_all 4 _) (fs := (k0_pay1 v282)) (fd := o0) (w := (k0_pay1 v282)) (q := fullShare) (N := NOY) rfl NOY_pos (View.set_whole _) (View.set_whole _) (whole_val (F := F) (b := main_v4_0) o0 (k0_pay1 v282))) $$ [H13 Ho0 HV4]
  · isplitl [H13]; · iexact H13
    isplitl [Ho0]; · iexact Ho0
    iexact HV4
  iintro Ho0
  unfold OutC
  iapply (wp_cpWait c (src := Memref.whole cc0_scratch4) (dst := Memref.whole main_v4_1) (sm' := semOut 0) (semOut_all 0 _) (N := NOC) rfl) $$ [HOC HO]
  · isplitl [HOC]; · iexact HOC
    iexact HO
  iintro ⟨⟨Ho1, H4'⟩, HV0, HO⟩
  unfold OutS
  iapply (wp_cpWait c (src := Memref.whole cc0_scratch6) (dst := Memref.whole main_v4_2) (sm' := semOut 1) (semOut_all 1 _) (N := NOS) rfl) $$ [HOS HO]
  · isplitl [HOS]; · iexact HOS
    iexact HO
  iintro ⟨⟨Ho2, H6⟩, HV1, HO⟩
  unfold OutH
  iapply (wp_cpWait c (src := mHc) (dst := Memref.whole main_v4_3) (sm' := semOut 2) (semOut_all 2 _) (N := NOH) rfl) $$ [HOH HO]
  · isplitl [HOH]; · iexact HOH
    iexact HO
  iintro ⟨⟨Ho3, Hs⟩, HV2, HO⟩
  unfold OutT
  iapply (wp_cpWait c (src := Memref.whole cc0_scratch7) (dst := Memref.whole main_v4_4) (sm' := semOut 3) (semOut_all 3 _) (N := NOT) rfl) $$ [HOT HO]
  · isplitl [HOT]; · iexact HOT
    iexact HO
  iintro ⟨⟨Ho4, H7⟩, HV3, HO⟩
  iapply (wp_cpWait c (src := Memref.whole cc0_scratch13) (dst := Memref.whole main_v4_0) (sm' := semOut 4) (semOut_all 4 _) (N := NOY) rfl) $$ [Ho0 HO]
  · isplitl [Ho0]; · iexact Ho0
    iexact HO
  iintro ⟨⟨Ho0, H13⟩, HV4, HO⟩
  ihave H4 := hs4 $$ [H4 H4']
  · isplitl [H4]; · iexact H4
    iexact H4'
  ihave Hr := hsplit $$ [Hs Hr]
  · isplitl [Hs]; · iexact Hs
    iexact Hr
  ihave H11 := hs11 $$ [H11 Hr]
  · isplitl [H11]; · iexact H11
    iexact Hr
  iapply (hRet c)
  iapply Hk
  isplitl [Ho0 Ho1 Ho2 Ho3 Ho4]
  · isplitl [Ho0]; · iexact Ho0
    isplitl [Ho1]; · iexact Ho1
    isplitl [Ho2]; · iexact Ho2
    isplitl [Ho3]; · iexact Ho3
    iexact Ho4
  isplitl [H13]; · iexact H13
  isplitl [H4]; · iexact H4
  isplitl [H6]; · iexact H6
  isplitl [H11]; · iexact H11
  isplitl [H7]; · iexact H7
  isplitl [HV0]; · iexact HV0
  isplitl [HV1]; · iexact HV1
  isplitl [HV2]; · iexact HV2
  isplitl [HV3]; · iexact HV3
  isplitl [HV4]; · iexact HV4
  iexact HO

end Cert.KernelIdeal.Hand

end
-- ==== Proof.KI.Body.lean ====
/- The kernel runs, and what it leaves. -/
module

public import proofs.«01_k».proof.Proof.KI.BodyD

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The kernel runs: the operands come back unchanged and the results are the values above. -/
theorem kernel_ok (c : Dev nD) (x : Vec F S32x4096 .bf16) (f1 : Vec F S4096x14336 .fp8e4m3) (us bu : Vec F S1x14336 .f32) (f4 : Vec F S14336x4096 .fp8e4m3) (ws : Vec F S1x4096 .f32)
    (o0 : Vec F S32x4096 .bf16) (o1 : Vec F S32x4096 .fp8e4m3) (o2 : Vec F S1x32 .f32) (o3 : Vec F S32x14336 .fp8e4m3) (o4 : Vec F S1x32 .f32) {Q : PUnit → sProp 𝕄} :
    iprop(Args c x f1 us bu f4 ws ∗ Outs c o0 o1 o2 o3 o4 ∗ Scrs (F := F) c ∗ Sems (F := F) c ∗ Owes c : sProp 𝕄)
      ⊢ iprop((∀ y, iprop(⌜YRel (dOf x f1 us bu f4) ws y⌝ ∗ Args c x f1 us bu f4 ws ∗ Outs c y (oXc x) (oXs x) (oHc (dOf x f1 us bu f4)) (oHs (dOf x f1 us bu f4)) ∗ Scrs (F := F) c ∗ Sems (F := F) c ∗ Owes c) -∗ Q ⟨⟩) -∗ WP c (kMain (F := F)) Q) := by
  have h8 := sep_eight (F := F) 0 (RingReady c f1)
  have hC8 := sep_eight (F := F) 0 (RingC c (dOf x f1 us bu f4).f1)
  have hw4 := w4_split c f4 (bits (dOf x f1 us bu f4))
  have hso := fun f => slots_open (F := F) c f
  have hco := cells_open (F := F) c f4 (bits (dOf x f1 us bu f4))
  have hus := up_start c (dOf x f1 us bu f4) qL
  rw [hC8] at hus
  have hrr := ring_ready c f1
  rw [h8] at hrr
  rw [kMain_eq, WP_bind]
  unfold Args Outs Scrs Sems
  iintro ⟨⟨Hx, Hf1, Hus, Hbu, Hf4, Hws⟩, ⟨Ho0, Ho1, Ho2, Ho3, Ho4⟩, ⟨⟨%a0, S0⟩, ⟨%a1, S1⟩, ⟨%a2, S2⟩, ⟨%a3, S3⟩, ⟨%a4, S4⟩, ⟨%a5, S5⟩, ⟨%a6, S6⟩, ⟨%a7, S7⟩, ⟨%a8, S8⟩, ⟨%a9, S9⟩, ⟨%a10, S10⟩, ⟨%a11, S11⟩, ⟨%a12, S12⟩, ⟨%a13, S13⟩, ⟨%a14, S14⟩⟩, ⟨I0, I1, I2, I3, V0, V1, V2, V3, V4, S8s, S14s⟩, HO⟩ Hk
  imod hco $$ S14s with HC
  ihave HF := (hso a9) $$ S9
  ihave H4 := hw4 $$ Hf4
  icases H4 with ⟨HT, Hf4⟩
  ihave HR := (hrr a8) $$ [Hf1 S8 S8s]
  · isplitl [Hf1]; · iexact Hf1
    isplitl [S8]; · iexact S8
    iexact S8s
  icases HR with ⟨⟨R0, R1, R2, R3, R4, R5, R6, R7, -⟩, HB⟩
  iapply (p7 c x us bu ws f1 a0 a1 a2 a3) $$ [Hx S0 I0 Hus S1 I1 Hbu S2 I2 Hws S3 I3 R0 R1 R2]
  · isplitl [Hx S0 I0]
    · isplitl [Hx]; · iexact Hx
      isplitl [S0]; · iexact S0
      iexact I0
    isplitl [Hus S1 I1]
    · isplitl [Hus]; · iexact Hus
      isplitl [S1]; · iexact S1
      iexact I1
    isplitl [Hbu S2 I2]
    · isplitl [Hbu]; · iexact Hbu
      isplitl [S2]; · iexact S2
      iexact I2
    isplitl [Hws S3 I3]
    · isplitl [Hws]; · iexact Hws
      isplitl [S3]; · iexact S3
      iexact I3
    isplitl [R0]; · iexact R0
    isplitl [R1]; · iexact R1
    iexact R2
  iintro ⟨HX, HU, HBu, HW, R0, R1, R2⟩
  rw [WP_bind]
  iapply (p8 c f1) $$ [R3 R4 R5 R6 R7]
  · isplitl [R3]; · iexact R3
    isplitl [R4]; · iexact R4
    isplitl [R5]; · iexact R5
    isplitl [R6]; · iexact R6
    iexact R7
  iintro ⟨R3, R4, R5, R6, R7⟩
  rw [WP_bind]
  iapply (p9 c x) $$ [HX HO]
  · isplitl [HX]; · iexact HX
    iexact HO
  iintro ⟨S0, Hx, I0, HO⟩
  rw [WP_bind]
  iapply (p10 c us bu (k0_pay13 x) (k0_pay15 x) (k0_pay16 x) 23#32 a4 a5 a6 o1 o2) $$ [S4 S5 S6 Ho1 Ho2 V0 V1 HU HBu HO]
  · isplitl [S4]; · iexact S4
    isplitl [S5]; · iexact S5
    isplitl [S6]; · iexact S6
    isplitl [Ho1]; · iexact Ho1
    isplitl [Ho2]; · iexact Ho2
    isplitl [V0]; · iexact V0
    isplitl [V1]; · iexact V1
    isplitl [HU]; · iexact HU
    isplitl [HBu]; · iexact HBu
    iexact HO
  iintro ⟨S4, S5, HOC, HOS, S1, Hus, S2, Hbu, I1, I2, HO⟩
  rw [WP_bind]
  iapply (p11 c (dOf x f1 us bu f4) qL ws) $$ [HW S14 HC HF HT R0 R1 R2 R3 R4 R5 R6 R7 HB HO S4 S5 S1 S2 S10]
  · isplitl [HW]; · iexact HW
    iapply (hus a14 a10)
    isplitl [S14]; · iexact S14
    isplitl [HC]; · iexact HC
    isplitl [HF]; · iexact HF
    isplitl [HT]; · iexact HT
    isplitl [R0 R1 R2 R3 R4 R5 R6 R7]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      iempintro
    isplitl [HB]; · iexact HB
    isplitl [HO]; · iexact HO
    isplitl [S4 S5 S1 S2]
    · unfold Ops
      isplitl [S4]; · iexact S4
      isplitl [S5]; · iexact S5
      isplitl [S1]; · iexact S1
      iexact S2
    iexact S10
  unfold Cop Ops
  iintro ⟨S3, Hws, I3, HL, ⟨HC, HF, HT⟩, HR, -, HB, HO, ⟨S4, S5, S1, S2⟩, HH⟩
  ihave HR := (ring_back c f1) $$ [HR HB]
  · isplitl [HR]; · iexact HR
    iexact HB
  icases HR with ⟨Hf1, S8, S8s⟩
  rw [WP_bind]
  iapply (p12 c (bits (dOf x f1 us bu f4)) (rmx (dOf x f1 us bu f4) 28) (chk9_ok (NL_le _)) (ngE (W (NL (bits (dOf x f1 us bu f4)))))) $$ [HL HF]
  · isplitl [HL]; · iexact HL
    iexact HF
  iintro ⟨HL, HF⟩
  rw [WP_bind]
  iapply (p13 c (dOf x f1 us bu f4) (k0_pay27 (rmx (dOf x f1 us bu f4) 28)) (k0_pay28 (rmx (dOf x f1 us bu f4) 28)) a7) $$ [S7 HH]
  · isplitl [S7]; · iexact S7
    iexact HH
  iintro ⟨S7, S10⟩
  rw [WP_bind]
  iapply (p14 c f4 (bits (dOf x f1 us bu f4)) (chk9_ok (NL_le _)) (ngE (W (NL (bits (dOf x f1 us bu f4))))) (k0_pay30 (k0_pay27 (rmx (dOf x f1 us bu f4) 28)) (k0_pay28 (rmx (dOf x f1 us bu f4) 28))) (hsc (dOf x f1 us bu f4)) a11 o3 (oHs (dOf x f1 us bu f4)) o4 a12 ws a13) $$ [HL HC HF HT S11 Ho3 V2 S7 Ho4 V3 S12 S3 S13 HO]
  · isplitl [HL]; · iexact HL
    isplitl [HC HF HT]
    · unfold Cop
      isplitl [HC]; · iexact HC
      isplitl [HF]; · iexact HF
      iexact HT
    isplitl [S11]; · iexact S11
    isplitl [Ho3]; · iexact Ho3
    isplitl [V2]; · iexact V2
    isplitl [S7]; · iexact S7
    isplitl [Ho4]; · iexact Ho4
    isplitl [V3]; · iexact V3
    isplitl [S12]; · iexact S12
    isplitl [S3]; · iexact S3
    isplitl [S13]; · iexact S13
    iexact HO
  iintro %acc ⟨%hacc, HL, S14s, S9, HT, S11, Hr, HOH, HOT, S12, S3, S13, HO⟩
  ihave Hf4 := Hf4 $$ HT
  iapply (tail_ok c (k0_pay36 (k0_pay30 (k0_pay27 (rmx (dOf x f1 us bu f4) 28)) (k0_pay28 (rmx (dOf x f1 us bu f4) 28))) acc ws) (oXc x) (oXs x) (oHs (dOf x f1 us bu f4)) (hsc (dOf x f1 us bu f4)) a13 o0) $$ [S13 Ho0 V4 HOC S4 HOS HOH S11 Hr HOT HO]
  · isplitl [S13]; · iexact S13
    isplitl [Ho0]; · iexact Ho0
    isplitl [V4]; · iexact V4
    isplitl [HOC]; · iexact HOC
    isplitl [S4]; · iexact S4
    isplitl [HOS]; · iexact HOS
    isplitl [HOH]; · iexact HOH
    isplitl [S11]; · iexact S11
    isplitl [Hr]; · iexact Hr
    isplitl [HOT]; · iexact HOT
    iexact HO
  unfold Outs oHc
  iintro ⟨HOuts, S13, S4, S6, S11, S7, V0, V1, V2, V3, V4, HO⟩
  iapply Hk $$ %(k0_pay1 (k0_pay36 (k0_pay30 (k0_pay27 (rmx (dOf x f1 us bu f4) 28)) (k0_pay28 (rmx (dOf x f1 us bu f4) 28))) acc ws))
  isplitr
  · ipureintro
    exact ⟨acc, hacc, rfl⟩
  isplitl [Hx Hf1 Hus Hbu Hf4 Hws]
  · isplitl [Hx]; · iexact Hx
    isplitl [Hf1]; · iexact Hf1
    isplitl [Hus]; · iexact Hus
    isplitl [Hbu]; · iexact Hbu
    isplitl [Hf4]; · iexact Hf4
    iexact Hws
  isplitl [HOuts]; · iexact HOuts
  unfold LiveP
  icases HL with ⟨%L, S14, -⟩
  isplitl [S0 S1 S2 S3 S4 S5 S6 S7 S8 S9 S10 S11 S12 S13 S14]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexact S8
    isplitl [S9]; · iexact S9
    isplitl [S10]; · iexists _; iexact S10
    isplitl [S11]; · iexists _; iexact S11
    isplitl [S12]; · iexists _; iexact S12
    isplitl [S13]; · iexists _; iexact S13
    iexists _; iexact S14
  isplitr [HO]
  · isplitl [I0]; · iexact I0
    isplitl [I1]; · iexact I1
    isplitl [I2]; · iexact I2
    isplitl [I3]; · iexact I3
    isplitl [V0]; · iexact V0
    isplitl [V1]; · iexact V1
    isplitl [V2]; · iexact V2
    isplitl [V3]; · iexact V3
    isplitl [V4]; · iexact V4
    isplitl [S8s]; · iexact S8s
    iexact S14s
  iexact HO

end Cert.KernelIdeal.Hand

end
-- ==== Proof.KI.Run.lean ====
/- The whole program runs: the frame. -/
module

public import proofs.«01_k».proof.Proof.KI.Body
public import proofs.«01_k».proof.Proof.Gen.KernelIdeal.Points
public import proofs.«01_k».proof.Proof.Gen.KernelIdeal.Frame
public import proofs.«01_k».proof.Proof.Gen.KernelIdeal.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The kernel's own cells. -/
abbrev osem0 : Fin 31 → SemLoc sig := fun j => SemLoc.dma ⟨j.val, j.isLt⟩
theorem ownSemFacts0 : Pipeline.OwnSemFacts (cfg0.spec) osem0 := by decide
/-- The cells, listed. -/
def SemList (c : Dev nD) : sProp 𝕄 := iprop(semVal (c, .dma (semIn 0)) 0 ∗ semVal (c, .dma (semIn 1)) 0 ∗ semVal (c, .dma (semIn 2)) 0 ∗ semVal (c, .dma (semIn 3)) 0 ∗ semVal (c, .dma (semOut 0)) 0 ∗ semVal (c, .dma (semOut 1)) 0 ∗ semVal (c, .dma (semOut 2)) 0 ∗ semVal (c, .dma (semOut 3)) 0 ∗ semVal (c, .dma (semOut 4)) 0 ∗ semVal (c, .dma (semUn 0)) 0 ∗ semVal (c, .dma (semUn 1)) 0 ∗ semVal (c, .dma (semUn 2)) 0 ∗ semVal (c, .dma (semUn 3)) 0 ∗ semVal (c, .dma (semUn 4)) 0 ∗ semVal (c, .dma (semUn 5)) 0 ∗ semVal (c, .dma (semUn 6)) 0 ∗ semVal (c, .dma (semUn 7)) 0 ∗ semVal (c, .dma (semDn 0)) 0 ∗ semVal (c, .dma (semDn 1)) 0 ∗ semVal (c, .dma (semDn 2)) 0 ∗ semVal (c, .dma (semDn 3)) 0 ∗ semVal (c, .dma (semDn 4)) 0 ∗ semVal (c, .dma (semDn 5)) 0 ∗ semVal (c, .dma (semDn 6)) 0 ∗ semVal (c, .dma (semDn 7)) 0 ∗ semVal (c, .dma (semDn 8)) 0 ∗ semVal (c, .dma (semDn 9)) 0 ∗ semVal (c, .dma (semDn 10)) 0 ∗ semVal (c, .dma (semDn 11)) 0 ∗ semVal (c, .dma (semDn 12)) 0 ∗ semVal (c, .dma (semDn 13)) 0)
theorem ownSems00_eq (c : Dev nD) :
    (Pipeline.ownSems0 (Ix := Unit) (Name := ℕ) (U := Pipeline.UD sig nD τ) (Lvl := ℕ) (Val := Elt F) (τ := τ) osem0 c : sProp 𝕄) = SemList c := by
  rw [Pipeline.ownSems0_eq_of_list c osem0 [0, 1, 2, 3, 4, 5, 6, 7, 8, 9, 10, 11, 12, 13, 14, 15, 16, 17, 18, 19, 20, 21, 22, 23, 24, 25, 26, 27, 28, 29, 30] (by decide) (by decide)]; rfl

theorem sem14_eq (c : Dev nD) : Sem14 (F := F) c = iprop(semVal (c, .dma (semDn 0)) 0 ∗ semVal (c, .dma (semDn 1)) 0 ∗ semVal (c, .dma (semDn 2)) 0 ∗ semVal (c, .dma (semDn 3)) 0 ∗ semVal (c, .dma (semDn 4)) 0 ∗ semVal (c, .dma (semDn 5)) 0 ∗ semVal (c, .dma (semDn 6)) 0 ∗ semVal (c, .dma (semDn 7)) 0 ∗ semVal (c, .dma (semDn 8)) 0 ∗ semVal (c, .dma (semDn 9)) 0 ∗ semVal (c, .dma (semDn 10)) 0 ∗ semVal (c, .dma (semDn 11)) 0 ∗ semVal (c, .dma (semDn 12)) 0 ∗ semVal (c, .dma (semDn 13)) 0 ∗ emp) := by
  unfold Sem14
  rw [sep_head (by omega), sep_head (by omega), sep_head (by omega), sep_head (by omega), sep_head (by omega), sep_head (by omega), sep_head (by omega), sep_head (by omega), sep_head (by omega), sep_head (by omega), sep_head (by omega), sep_head (by omega), sep_head (by omega), sep_head (by omega), Finset.Ico_self, bigSep_empty]; rfl
theorem sem8_eq (c : Dev nD) : Sem8 (F := F) c = iprop(semVal (c, .dma (semUn 0)) 0 ∗ semVal (c, .dma (semUn 1)) 0 ∗ semVal (c, .dma (semUn 2)) 0 ∗ semVal (c, .dma (semUn 3)) 0 ∗ semVal (c, .dma (semUn 4)) 0 ∗ semVal (c, .dma (semUn 5)) 0 ∗ semVal (c, .dma (semUn 6)) 0 ∗ semVal (c, .dma (semUn 7)) 0 ∗ emp) := sep_eight 0 _

theorem sems_in (c : Dev nD) : SemList (F := F) c ⊢ Sems c := by
  unfold SemList Sems
  rw [sem14_eq, sem8_eq]
  iintro ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30⟩
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9 Q10 Q11 Q12 Q13 Q14 Q15 Q16]
  · isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    iempintro
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  iempintro

theorem sems_out (c : Dev nD) : Sems (F := F) c ⊢ SemList c := by
  unfold SemList Sems
  rw [sem14_eq, sem8_eq]
  iintro ⟨Q0, Q1, Q2, Q3, Q4, Q5, Q6, Q7, Q8, ⟨Q9, Q10, Q11, Q12, Q13, Q14, Q15, Q16, -⟩, ⟨Q17, Q18, Q19, Q20, Q21, Q22, Q23, Q24, Q25, Q26, Q27, Q28, Q29, Q30, -⟩⟩
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  iexact Q30

/-- What the kernel reads. -/
def H0 : Finset (Ref sig .tc) := {main_v0, main_arg1, main_v1, main_v2, main_arg4, main_v3}
theorem H0_sub : H0 ⊆ Pipeline.restRefs sig (cfg0.spec) := by decide
/-- What the kernel writes. -/
def R0 : Finset (Ref sig .tc) := {main_v4_0, main_v4_1, main_v4_2, main_v4_3, main_v4_4}
theorem R0_sub : R0 ⊆ Pipeline.restRefs sig (cfg0.spec) \ H0 := by decide
theorem hbmPts0_eq (c : Dev nD) :
    (bigSep H0 (fun b => ((c : Thread nD τ).loc b) ↦{fullShare} V m c b) : sProp 𝕄) = Args c (V m c main_v0) (V m c main_arg1) (V m c main_v1) (V m c main_v2) (V m c main_arg4) (V m c main_v3) := by
  rw [BI.bigSep_eq_bigSepL_of_eq [main_v0, main_arg1, main_v1, main_v2, main_arg4, main_v3] (by decide) (by decide)]; rfl
/-- The results, each at some contents. -/
def OutsE (c : Dev nD) : sProp 𝕄 := iprop(iprop(∃ f : Buf (Elt F) ((c : Thread nD τ).loc main_v4_0), ((c : Thread nD τ).loc main_v4_0) ↦{fullShare} f) ∗ iprop(∃ f : Buf (Elt F) ((c : Thread nD τ).loc main_v4_1), ((c : Thread nD τ).loc main_v4_1) ↦{fullShare} f) ∗ iprop(∃ f : Buf (Elt F) ((c : Thread nD τ).loc main_v4_2), ((c : Thread nD τ).loc main_v4_2) ↦{fullShare} f) ∗ iprop(∃ f : Buf (Elt F) ((c : Thread nD τ).loc main_v4_3), ((c : Thread nD τ).loc main_v4_3) ↦{fullShare} f) ∗ iprop(∃ f : Buf (Elt F) ((c : Thread nD τ).loc main_v4_4), ((c : Thread nD τ).loc main_v4_4) ↦{fullShare} f))
theorem ownedPts0_eq (c : Dev nD) : (Pipeline.owned R0 c : sProp 𝕄) = OutsE c := by
  unfold Pipeline.owned; rw [BI.bigSep_eq_bigSepL_of_eq [main_v4_0, main_v4_1, main_v4_2, main_v4_3, main_v4_4] (by decide) (by decide)]; rfl

theorem PhiDR0_eq (c : Dev nD) :
    (Pipeline.ΦDR osem0 (cfg0.spec) H0 R0 (V m) c : sProp 𝕄) = iprop(Scrs (F := F) c ∗ (∃ r, prngReg c r) ∗ SemList (F := F) c ∗ Args c (V m c main_v0) (V m c main_arg1) (V m c main_v1) (V m c main_v2) (V m c main_arg4) (V m c main_v3) ∗ OutsE (F := F) c) := by
  rw [Pipeline.ΦDR_eq, scopedRest0_eq, ownSems00_eq, hbmPts0_eq, ownedPts0_eq]; rfl

/-- The data of the run. -/
def dats (_ : Fin 1) (c : Dev nD) : Dat τ (Elt F) Unit ℕ (Pipeline.UD sig nD τ) ℕ cfg0 c where
  A w := w.elim0
  after w t := w.elim0
  Φ _ := Pipeline.ΦDR osem0 (cfg0.spec) H0 R0 (V m) c
  q _ := fullShare
  owed _ := 0
theorem A_eq (c : Dev nD) (w : Fin cfg0.W) : (dats m 0 c).A w = V m c (Pipeline.arrRef (cfg0.spec) w) := w.elim0

theorem sound_body (c : Dev nD) (t : Fin cfg0.N) :
    iprop((dats m 0 c).Φ t.castSucc ∗ (dats m 0 c).owesAt () t.castSucc) ⊢ WP c (bodyAt0 t) (fun _ => iprop((dats m 0 c).Φ t.succ ∗ (dats m 0 c).owesAt () t.succ)) := by
  rw [show (dats m 0 c).Φ t.succ = Pipeline.ΦDR osem0 (cfg0.spec) H0 R0 (V m) c from rfl, show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  have hk : bodyAt0 (F := F) t = kMain := by
    show cc0_relu_mlp_fp8 (F := F) _ _ _ _ _ _ _ _ _ _ _ _ _ _ _ _ _ _ _ _ _ _ _ _ _ _ _ _ _ _ _ _ _ _ _ _ _ _ _ _ _ _ _ _ _ _ _ _ _ _ _ _ _ _ _ _ = _
    rw [cc0_relu_mlp_fp8_eq_skeleton]
  rw [hk]
  have hsi := sems_in (F := F) c
  have hso := sems_out (F := F) c
  have hOe : ∀ y a b d e, Outs c y a b d e ⊢ OutsE (F := F) c := by
    intro y a b d e
    unfold Outs OutsE
    iintro ⟨G0, G1, G2, G3, G4⟩
    isplitl [G0]; · iexists _; iexact G0
    isplitl [G1]; · iexists _; iexact G1
    isplitl [G2]; · iexists _; iexact G2
    isplitl [G3]; · iexists _; iexact G3
    iexists _; iexact G4
  have hOi : OutsE (F := F) c ⊢ iprop(∃ y a b d e, Outs c y a b d e) := by
    unfold Outs OutsE
    iintro ⟨⟨%f0, G0⟩, ⟨%f1, G1⟩, ⟨%f2, G2⟩, ⟨%f3, G3⟩, ⟨%f4, G4⟩⟩
    iexists f0, f1, f2, f3, f4
    isplitl [G0]; · iexact G0
    isplitl [G1]; · iexact G1
    isplitl [G2]; · iexact G2
    isplitl [G3]; · iexact G3
    iexact G4
  iintro ⟨⟨HS, Hg, HQ, HA, HO⟩, ⟨%W, -, HW⟩⟩
  ihave HQ := hsi $$ HQ
  ihave HO := hOi $$ HO
  icases HO with ⟨%o0, %o1, %o2, %o3, %o4, HO⟩
  iapply (kernel_ok c (V m c main_v0) (V m c main_arg1) (V m c main_v1) (V m c main_v2) (V m c main_arg4) (V m c main_v3) o0 o1 o2 o3 o4) $$ [HS HQ HA HO HW]
  · isplitl [HA]; · iexact HA
    isplitl [HO]; · iexact HO
    isplitl [HS]; · iexact HS
    isplitl [HQ]; · iexact HQ
    unfold Owes
    iexists W
    iexact HW
  unfold Owes
  iintro %y ⟨-, HA, HO, HS, HQ, %W', HW⟩
  ihave HQ := hso $$ HQ
  ihave HO := (hOe _ _ _ _ _) $$ HO
  isplitr [HW]
  · isplitl [HS]; · iexact HS
    isplitl [Hg]; · iexact Hg
    isplitl [HQ]; · iexact HQ
    isplitl [HA]; · iexact HA
    iexact HO
  iexists W'
  isplitr
  · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  · iintro ⟨H1, H2, -⟩
    isplitl [H1]; · iexact H1
    iexact H2
  · show (_ : sProp 𝕄) ⊢ _
    iintro ⟨H1, H2⟩
    isplitl [H1]; · iexact H1
    isplitl [H2]; · iexact H2
    iapply (Entails.of_eq (by rfl : (iprop(emp) : sProp 𝕄) = _))
    iempintro

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c), ((h.1 c).2 main_arg5 (Finset.mem_sdiff.mpr ⟨Pipeline.mem_restRefs_of main_arg5 (by decide) (by decide), by decide⟩)).trans (V_main_arg5 m c)⟩, h.2⟩) (run_main m ρ)

end Cert.KernelIdeal.Hand

end
-- ==== Proof.Val.Quant.lean ====
module

public import Idealize.ShloMosaic.PureOps.Ideal.Laws
public import Idealize.ShloMosaic.Lib.ValueIdx
public import Mathlib.Analysis.SpecialFunctions.Log.Basic
public import Mathlib.Analysis.SpecialFunctions.Pow.Real

@[expose] public section

noncomputable section

namespace Cert.Val

open Idealize.ShloMosaic

/-- The word `k * 2^23` denotes the power `2 ^ (k - 127)`, for an exponent field `k` of a normal number. -/
theorem ofBits_pow (k : ℕ) (h1 : 1 ≤ k) (h2 : k ≤ 254) :
    Ideal.ofBits .f32 (BitVec.ofNat 32 k <<< (23#32)) = (((2 : ℝ) ^ ((k : ℤ) - 127) : ℝ) : EReal) := by
  have hd : ∀ k : Fin 255, ((BitVec.ofNat 32 k.val <<< (23#32)).extractLsb' 31 1 == 1#1) = false
      ∧ ((BitVec.ofNat 32 k.val <<< (23#32)).extractLsb' 23 8).toNat = k.val
      ∧ ((BitVec.ofNat 32 k.val <<< (23#32)).extractLsb' 0 23).toNat = 0 := by decide +kernel
  obtain ⟨a, b, c⟩ := hd ⟨k, by omega⟩
  have a' : ((BitVec.ofNat 32 k <<< (23#32)).extractLsb' (8 + 23) 1 == 1#1) = false := a
  have hi : ∀ w : BitVec 32, Ideal.ofBits .f32 w = Ideal.ieee 8 23 w := fun _ => rfl
  rw [hi]
  generalize BitVec.ofNat 32 k <<< (23#32) = w at a' b c ⊢
  unfold Ideal.ieee
  simp only [a', b, c]
  rw [if_neg (by omega), if_neg (by omega)]
  congr 1
  have e : ((k : ℤ) - (2 ^ (8 - 1) - 1) - ((23 : ℕ) : ℤ)) = ((k : ℤ) - 127) - 23 := by norm_num
  rw [e, zpow_sub₀ (by norm_num : (2 : ℝ) ≠ 0) _ 23]
  norm_num
  ring

/-- The factor of the quantiser, near one part in 448. -/
def qc : EReal := Ideal.ofBits .f32 0x3B124925#32

/-- The threshold of column `k`: the power of two with exponent field `min (k + 1) 253`. -/
def pw (k : Fin 255) : EReal :=
  Ideal.ofBits .f32 (IntOp.shli .vector (IntOp.minsi (BitVec.ofNat 32 k.val + 1#32) 253#32) 23#32)

theorem pw_eq (k : Fin 255) : pw k = (((2 : ℝ) ^ (((min (k.val + 1) 253 : ℕ) : ℤ) - 127) : ℝ) : EReal) := by
  have hd : ∀ k : Fin 255, IntOp.shli .vector (IntOp.minsi (BitVec.ofNat 32 k.val + 1#32) 253#32) 23#32
      = BitVec.ofNat 32 (min (k.val + 1) 253) <<< (23#32) := by decide +kernel
  unfold pw
  rw [hd k]
  exact ofBits_pow _ (by omega) (by omega)

/-- The exponent as the kernel computes it, from the count `w` of thresholds and the row's maximum `a`. -/
def kE (w : BitVec 32) (a : EReal) : BitVec 32 :=
  Scalar.select ((IntOp.cmpi .eq w 0#32 ||| IntOp.cmpi .eq w 255#32) ||| Ideal.cmp .oeq a (Ideal.ofBits .f32 0x00000000#32)) 0#32 (w - 126#32)

/-- The exponent as the reference states it, from the row's maximum `a`. -/
def refE (a : EReal) : EReal :=
  Scalar.select (Ideal.cmp .olt (a * qc) (Ideal.ofBits .f32 0x00800000#32) ||| Ideal.cmp .oge (a * qc) (Ideal.ofBits .f32 0x7E800000#32))
    (Ideal.ofBits .f32 0x00000000#32)
    (Ideal.liftRound Int.floor (Ideal.div (Ideal.log (a * qc)) (Ideal.log (Ideal.ofBits .f32 0x40000000#32))) + Ideal.ofBits .f32 0x3F800000#32)

theorem ofBits_lo : Ideal.ofBits .f32 0x00800000#32 = (((2 : ℝ) ^ (-126 : ℤ) : ℝ) : EReal) := by
  have := ofBits_pow 1 (by norm_num) (by norm_num)
  simpa using this

theorem ofBits_hi : Ideal.ofBits .f32 0x7E800000#32 = (((2 : ℝ) ^ (126 : ℤ) : ℝ) : EReal) := by
  have := ofBits_pow 253 (by norm_num) (by norm_num)
  simpa using this

theorem ofBits_two : Ideal.ofBits .f32 0x40000000#32 = ((2 : ℝ) : EReal) := by
  have := ofBits_pow 128 (by norm_num) (by norm_num)
  simpa using this

theorem ofBits_one : Ideal.ofBits .f32 0x3F800000#32 = ((1 : ℝ) : EReal) := by
  have := ofBits_pow 127 (by norm_num) (by norm_num)
  simpa using this

theorem ofBits_zero : Ideal.ofBits .f32 0x00000000#32 = 0 := Ideal.ofBits_zero_f32

/-- How many thresholds are at most `t`. -/
def cntT (t : EReal) : ℕ := ∑ k : Fin 255, if pw k ≤ t then 1 else 0

theorem cntT_low (t : EReal) (h : t < (((2 : ℝ) ^ (-126 : ℤ) : ℝ) : EReal)) : cntT t = 0 := by
  refine Finset.sum_eq_zero fun k _ => if_neg (not_le.2 (lt_of_lt_of_le h ?_))
  rw [pw_eq]
  exact EReal.coe_le_coe_iff.2 (zpow_le_zpow_right₀ (by norm_num) (by omega))

theorem cntT_high (t : EReal) (h : (((2 : ℝ) ^ (126 : ℤ) : ℝ) : EReal) ≤ t) : cntT t = 255 := by
  have : ∀ k : Fin 255, (if pw k ≤ t then 1 else 0) = 1 := fun k => if_pos (le_trans (by
    rw [pw_eq]; exact EReal.coe_le_coe_iff.2 (zpow_le_zpow_right₀ (by norm_num) (by omega))) h)
  unfold cntT
  rw [Finset.sum_congr rfl fun k _ => this k]
  simp

/-- An integer power of two is at most `r` exactly when its exponent is at most the floor of the logarithm. -/
theorem two_zpow_le (z : ℤ) (r : ℝ) (hr : 0 < r) : (2 : ℝ) ^ z ≤ r ↔ z ≤ ⌊Real.log r / Real.log 2⌋ := by
  have hl : 0 < Real.log 2 := Real.log_pos (by norm_num)
  rw [Int.le_floor, le_div_iff₀ hl, ← Real.log_zpow, Real.log_le_log_iff (by positivity) hr]

theorem cntT_mid (r : ℝ) (h1 : (2 : ℝ) ^ (-126 : ℤ) ≤ r) (h2 : r < (2 : ℝ) ^ (126 : ℤ)) :
    1 ≤ cntT (r : EReal) ∧ cntT (r : EReal) ≤ 252 ∧ ((cntT (r : EReal) : ℕ) : ℤ) = ⌊Real.log r / Real.log 2⌋ + 127 := by
  have hr : 0 < r := lt_of_lt_of_le (by positivity) h1
  have l1 : (-126 : ℤ) ≤ ⌊Real.log r / Real.log 2⌋ := (two_zpow_le _ r hr).1 h1
  have l2 : ⌊Real.log r / Real.log 2⌋ < (126 : ℤ) := by
    by_contra hc; exact absurd ((two_zpow_le 126 r hr).2 (not_lt.1 hc)) (not_le.2 h2)
  obtain ⟨n, hn⟩ : ∃ n : ℕ, ((n : ℕ) : ℤ) = ⌊Real.log r / Real.log 2⌋ + 127 := ⟨(⌊Real.log r / Real.log 2⌋ + 127).toNat, by omega⟩
  have hk : ∀ k : Fin 255, (if pw k ≤ (r : EReal) then 1 else 0 : ℕ) = if k.val < n then 1 else 0 := fun k => by
    have : pw k ≤ (r : EReal) ↔ k.val < n := by
      rw [pw_eq, EReal.coe_le_coe_iff, two_zpow_le _ r hr]; omega
    simp only [this]
  have hc : cntT (r : EReal) = n := by
    unfold cntT
    rw [Finset.sum_congr rfl fun k _ => hk k, Fin.sum_univ_eq_sum_range (fun k => if k < n then 1 else 0) 255, ← Finset.sum_filter,
      Finset.sum_const, smul_eq_mul, mul_one]
    have : (Finset.range 255).filter (fun k => k < n) = Finset.range n := by
      ext k; simp only [Finset.mem_filter, Finset.mem_range]; omega
    rw [this, Finset.card_range]
  rw [hc]
  omega

/-- Half of the quantiser's agreement: where the exponent is an integer `e` on both sides the two scales agree. -/
theorem exp2_int (e : ℤ) : Ideal.exp2 (((e : ℝ)) : EReal) = (((2 : ℝ) ^ e : ℝ) : EReal) := by
  show ((Real.rpow 2 (e : ℝ) : ℝ) : EReal) = _
  congr 1
  exact Real.rpow_intCast 2 e

/-- The kernel's two powers of two are those of the reference's exponent. -/
theorem scales_eq (w : BitVec 32) (a : EReal) (hw : w.toNat = cntT (a * qc)) :
    Ideal.ofBits .f32 (IntOp.shli .vector (127#32 + kE w a) 23#32) = Ideal.exp2 (refE a)
    ∧ Ideal.ofBits .f32 (IntOp.shli .vector (127#32 - kE w a) 23#32) = Ideal.exp2 (Ideal.ofBits .f32 0x00000000#32 - refE a) := by
  have hsh : ∀ x : BitVec 32, IntOp.shli .vector x 23#32 = x <<< (23#32) := fun x => by unfold IntOp.shli; rw [if_pos (by decide)]
  have zero_case : kE w a = 0#32 → refE a = 0 → _ := fun hk hr => show
      Ideal.ofBits .f32 (IntOp.shli .vector (127#32 + kE w a) 23#32) = Ideal.exp2 (refE a)
      ∧ Ideal.ofBits .f32 (IntOp.shli .vector (127#32 - kE w a) 23#32) = Ideal.exp2 (Ideal.ofBits .f32 0x00000000#32 - refE a) from by
    have e1 : Ideal.exp2 (0 : EReal) = ((1 : ℝ) : EReal) := by
      have := exp2_int 0; simpa using this
    rw [hk, hr, hsh, hsh, ofBits_zero, sub_zero, e1, show (127#32 + 0#32 : BitVec 32) = BitVec.ofNat 32 127 from rfl,
      show (127#32 - 0#32 : BitVec 32) = BitVec.ofNat 32 127 from rfl, ofBits_pow 127 (by norm_num) (by norm_num)]
    norm_num
  rcases lt_or_ge (a * qc) (((2 : ℝ) ^ (-126 : ℤ) : ℝ) : EReal) with hlo | hlo
  · refine zero_case ?_ ?_
    · have : w = 0#32 := BitVec.eq_of_toNat_eq (by rw [hw, cntT_low _ hlo]; rfl)
      subst this
      have h1 : IntOp.cmpi .eq 0#32 0#32 = 1#1 := by decide
      unfold kE
      rw [h1, show ∀ x y : BitVec 1, ((1#1 ||| x) ||| y) = 1#1 from by decide]; rfl
    · have h1 : Ideal.cmp .olt (a * qc) (Ideal.ofBits .f32 0x00800000#32) = 1#1 := by
        rw [ofBits_lo]; unfold Ideal.cmp; simp only [decide_eq_true hlo]; rfl
      unfold refE
      rw [h1, show ∀ x : BitVec 1, (1#1 ||| x) = 1#1 from by decide, ofBits_zero]; rfl
  rcases le_or_gt ((((2 : ℝ) ^ (126 : ℤ) : ℝ) : EReal)) (a * qc) with hhi | hhi
  · refine zero_case ?_ ?_
    · have : w = 255#32 := BitVec.eq_of_toNat_eq (by rw [hw, cntT_high _ hhi]; rfl)
      subst this
      have h1 : IntOp.cmpi .eq 255#32 255#32 = 1#1 := by decide
      unfold kE
      rw [h1, show ∀ x y : BitVec 1, ((x ||| 1#1) ||| y) = 1#1 from by decide]; rfl
    · have h1 : Ideal.cmp .oge (a * qc) (Ideal.ofBits .f32 0x7E800000#32) = 1#1 := by
        rw [ofBits_hi]; unfold Ideal.cmp; simp only [decide_eq_true hhi]; rfl
      unfold refE
      rw [h1, show ∀ x : BitVec 1, (x ||| 1#1) = 1#1 from by decide, ofBits_zero]; rfl
  obtain ⟨r, hr⟩ : ∃ r : ℝ, a * qc = (r : EReal) := by
    refine ⟨(a * qc).toReal, (EReal.coe_toReal (ne_top_of_lt hhi) ?_).symm⟩
    exact (lt_of_lt_of_le (EReal.bot_lt_coe _) hlo).ne'
  rw [hr] at hw hlo hhi
  have h1 := EReal.coe_le_coe_iff.1 hlo
  have h2 := EReal.coe_lt_coe_iff.1 hhi
  have hr0 : 0 < r := lt_of_lt_of_le (by positivity) h1
  obtain ⟨c1, c2, c3⟩ := cntT_mid r h1 h2
  rw [← hw] at c1 c2 c3
  have hwn : w = BitVec.ofNat 32 w.toNat := by simp
  have ha : a ≠ 0 := fun h0 => by
    rw [h0, zero_mul] at hr
    exact hr0.ne (by exact_mod_cast hr)
  have kd : ∀ n : Fin 253, 1 ≤ n.val → IntOp.cmpi .eq (BitVec.ofNat 32 n.val) 0#32 = 0#1 ∧ IntOp.cmpi .eq (BitVec.ofNat 32 n.val) 255#32 = 0#1
      ∧ 127#32 + (BitVec.ofNat 32 n.val - 126#32) = BitVec.ofNat 32 (n.val + 1) ∧ 127#32 - (BitVec.ofNat 32 n.val - 126#32) = BitVec.ofNat 32 (253 - n.val) := by
    decide +kernel
  obtain ⟨k1, k2, k3, k4⟩ := kd ⟨w.toNat, by omega⟩ c1
  simp only [← hwn] at k1 k2 k3 k4
  have k5 : Ideal.cmp .oeq a (Ideal.ofBits .f32 0x00000000#32) = 0#1 := by
    rw [ofBits_zero]; unfold Ideal.cmp; simp only [decide_eq_false ha]; rfl
  have hk : kE w a = w - 126#32 := by
    unfold kE; rw [k1, k2, k5]; rfl
  have hre : refE a = (((⌊Real.log r / Real.log 2⌋ + 1 : ℤ) : ℝ) : EReal) := by
    have t1 : Ideal.cmp .olt (r : EReal) (Ideal.ofBits .f32 0x00800000#32) = 0#1 := by
      rw [ofBits_lo]; unfold Ideal.cmp; simp only [decide_eq_false (not_lt.2 hlo)]; rfl
    have t2 : Ideal.cmp .oge (r : EReal) (Ideal.ofBits .f32 0x7E800000#32) = 0#1 := by
      rw [ofBits_hi]; unfold Ideal.cmp; simp only [decide_eq_false (not_le.2 hhi)]; rfl
    have t3 : Ideal.log (r : EReal) = ((Real.log r : ℝ) : EReal) := by
      show (if r ≤ 0 then (⊥ : EReal) else (Real.log r : EReal)) = _
      rw [if_neg (not_le.2 hr0)]
    have t4 : Ideal.log (Ideal.ofBits .f32 0x40000000#32) = ((Real.log 2 : ℝ) : EReal) := by
      rw [ofBits_two]
      show (if (2 : ℝ) ≤ 0 then (⊥ : EReal) else (Real.log 2 : EReal)) = _
      rw [if_neg (by norm_num)]
    have hl : Real.log 2 ≠ 0 := (Real.log_pos (by norm_num)).ne'
    have t5 : Ideal.div ((Real.log r : ℝ) : EReal) ((Real.log 2 : ℝ) : EReal) = ((Real.log r / Real.log 2 : ℝ) : EReal) := by
      unfold Ideal.div
      rw [if_neg (by exact_mod_cast hl), ← EReal.coe_inv, ← EReal.coe_mul, div_eq_mul_inv]
    unfold refE
    rw [hr, t1, t2, t3, t4, t5, ofBits_one]
    show ((((⌊Real.log r / Real.log 2⌋ : ℤ) : ℝ)) : EReal) + ((1 : ℝ) : EReal) = _
    rw [← EReal.coe_add]; push_cast; rfl
  have hneg : Ideal.ofBits .f32 0x00000000#32 - refE a = (((-(⌊Real.log r / Real.log 2⌋ + 1) : ℤ) : ℝ) : EReal) := by
    rw [ofBits_zero, hre, zero_sub, ← EReal.coe_neg]; push_cast; rfl
  rw [hk, hneg, hre, hsh, hsh, k3, k4, exp2_int, exp2_int, ofBits_pow _ (by omega) (by omega), ofBits_pow _ (by omega) (by omega)]
  constructor
  · congr 2; omega
  · congr 2; omega

end Cert.Val

end
-- ==== Proof.Val.Spec.lean ====
module

public import proofs.«01_k».proof.Proof.Val.Quant
public import Idealize.ShloMosaic.Lib.MatmulPlain
public import Idealize.ShloMosaic.Lib.ValueIdxCoords
public import Idealize.ShloMosaic.Lib.ValueLayout
public import Idealize.ShloMosaic.Lib.ValueLayoutCasts
public import Idealize.ShloMosaic.Lib.WordSum

@[expose] public section

noncomputable section

namespace Cert.Val

open Idealize.ShloMosaic
open Idealize.ShloMosaic.ValueIdx

/-- The largest of finitely many values, `⊥` for none. -/
def top {n : ℕ} (v : Fin n → EReal) : EReal := Finset.univ.fold max ⊥ v

/-- The largest magnitude of a row. -/
def rmax {n : ℕ} (v : Fin n → EReal) : EReal := top fun k => max (v k) (-(v k))

/-- A value held between -448 and 448. -/
def clampc (x : EReal) : EReal := min (Ideal.ofBits .f32 0x43E00000#32) (max (Ideal.ofBits .f32 0xC3E00000#32) x)

/-- The code of a value `v` of a row whose largest magnitude is `a`. -/
def code (v a : EReal) : EReal := clampc (v * Ideal.exp2 (Ideal.ofBits .f32 0x00000000#32 - refE a))

/-- The scale of a row whose largest magnitude is `a`. -/
def scl (a : EReal) : EReal := Ideal.exp2 (refE a)

/-- The hidden value of row `r` and column `j`, from the input, the up weights, their scales and the bias. -/
def hid (X : Fin 32 → Fin 4096 → EReal) (U : Fin 4096 → Fin 14336 → EReal) (us bu : Fin 14336 → EReal) (r : Fin 32) (j : Fin 14336) : EReal :=
  max (((∑ k : Fin 4096, code (X r k) (rmax (X r)) * U k j) * scl (rmax (X r))) * us j + bu j) 0

/-- The output of row `r` and column `n`, from the hidden values, the down weights and their scales. -/
def outp (H : Fin 32 → Fin 14336 → EReal) (W : Fin 14336 → Fin 4096 → EReal) (ws : Fin 4096 → EReal) (r : Fin 32) (n : Fin 4096) : EReal :=
  ((∑ j : Fin 14336, code (H r j) (rmax (H r)) * W j n) * scl (rmax (H r))) * ws n

theorem ofBits_bot : Ideal.ofBits .f32 0xFF800000#32 = ⊥ := by simp [Ideal.ofBits, Ideal.ieee]

/-- A row's maximum, kept as a column. -/
theorem rowmax_apply {m n : ℕ} (v : FVec Ideal ⟨2, ![m, n]⟩ .f32) (h : Shape.Reduces ⟨2, ![m, n]⟩ [1] ⟨1, ![m]⟩)
    (hφ : FKind.Formats FTy.f32) (hacc : (0xFF800000#32 : BitVec 32) = FKind.maximumf.neutral .f32 hφ) (r : Fin m) :
    multiReduction .maximumf [1] ⟨1, ![m]⟩ v 0xFF800000#32 h hφ hacc (ix1 r) = top fun k => v (ix2 r k) := by
  rw [Ideal.multiReduction_maximumf_single]
  unfold top
  show Finset.fold max (Ideal.ofBits .f32 0xFF800000#32) _ _ = _
  rw [ofBits_bot]
  refine Finset.fold_congr fun k _ => ?_
  show v (h.lift (ix1 r) k) = v (ix2 r k)
  congr 1
  funext a
  match a with
  | ⟨0, _⟩ => rfl
  | ⟨1, _⟩ => rfl

/-- A column repeated along rows. -/
theorem bcol_apply {α : Type} {a b : ℕ} (v : (⟨2, ![a, 1]⟩ : Shape).Idx → α) (h : (⟨2, ![a, 1]⟩ : Shape).Broadcasts ⟨2, ![a, b]⟩) (i : Fin a) (j : Fin b) :
    broadcastTo ⟨2, ![a, b]⟩ v h (ix2 i j) = v (ix2 i 0) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The reference's exponents of a whole array of maxima. -/
def vRefE {s : Shape} (a : FVec Ideal s .f32) : FVec Ideal s .f32 :=
  select (ori (cmpf .olt (mulf a (broadcast s (Scalar.ofBits .f32 0x3B124925#32))) (broadcast s (Scalar.ofBits .f32 0x00800000#32)))
      (cmpf .oge (mulf a (broadcast s (Scalar.ofBits .f32 0x3B124925#32))) (broadcast s (Scalar.ofBits .f32 0x7E800000#32))))
    (broadcast s (Scalar.ofBits .f32 0x00000000#32))
    (addf (floor (divf (log (mulf a (broadcast s (Scalar.ofBits .f32 0x3B124925#32)))) (log (broadcast s (Scalar.ofBits .f32 0x40000000#32)))))
      (broadcast s (Scalar.ofBits .f32 0x3F800000#32)))

theorem vRefE_apply {s : Shape} (a : FVec Ideal s .f32) (i : s.Idx) : vRefE a i = refE (a i) := rfl

/-- A whole array held between -448 and 448. -/
def vClamp {s : Shape} (a : FVec Ideal s .f32) : FVec Ideal s .f32 :=
  minimumf (broadcast s (Scalar.ofBits .f32 0x43E00000#32)) (maximumf (broadcast s (Scalar.ofBits .f32 0xC3E00000#32)) a)

theorem vClamp_apply {s : Shape} (a : FVec Ideal s .f32) (i : s.Idx) : vClamp a i = clampc (a i) := rfl

/-- The reference's inverse scales of a whole array of exponents. -/
def vInv {s : Shape} (a : FVec Ideal s .f32) : FVec Ideal s .f32 := exp2 (subf (broadcast s (Scalar.ofBits .f32 0x00000000#32)) a)

theorem vInv_apply {s : Shape} (a : FVec Ideal s .f32) (i : s.Idx) :
    vInv a i = Ideal.exp2 (Ideal.ofBits .f32 0x00000000#32 - a i) := rfl

theorem vExp2_apply {s : Shape} (a : FVec Ideal s .f32) (i : s.Idx) : (exp2 a : FVec Ideal s .f32) i = Ideal.exp2 (a i) := rfl

theorem vAbs_apply {s : Shape} (a : FVec Ideal s .f32) (i : s.Idx) : (absf a : FVec Ideal s .f32) i = max (a i) (-(a i)) := rfl

/-- The rectifier of a whole array. -/
theorem vRelu_apply {s : Shape} (a : FVec Ideal s .f32) (i : s.Idx) :
    maximumf a (broadcast s (Scalar.ofBits .f32 0x00000000#32)) i = max (a i) 0 := by
  show max (a i) (Ideal.ofBits .f32 0x00000000#32) = _
  rw [ofBits_zero]

end Cert.Val

end
-- ==== Proof.Val.KerPay.lean ====
module

public import proofs.«01_k».proof.Proof.Val.Spec
public import proofs.«01_k».proof.Proof.Gen.KernelIdeal.Skeleton
public import Idealize.ShloMosaic.Lib.Pipeline.Value

@[expose] public section

noncomputable section

namespace Cert.KernelIdeal.Val

open Idealize.ShloMosaic
open Idealize.ShloMosaic.ValueIdx
open Cert.KernelIdeal Cert.KernelIdeal.Gen Cert.Val

/-- A two-axis array as a function of its two coordinates. -/
abbrev co {m n : ℕ} {α : Type} (v : (⟨2, ![m, n]⟩ : Shape).Idx → α) : Fin m → Fin n → α := fun i j => v (ix2 i j)

/-- The thresholds, the same in every row. -/
def vThr : FVec Ideal S32x255 .f32 :=
  bitcastToFloat .f32 (shli (minsi (addi (iota .tc S32x255 32 [1] iota_S32x255_d1_w32) (broadcast S32x255 1#32)) (broadcast S32x255 253#32)) (broadcast S32x255 23#32))

theorem vThr_apply (r : Fin 32) (k : Fin 255) : vThr (ix2 r k) = pw k := by
  have h : vThr (ix2 r k) = Ideal.ofBits .f32 (IntOp.shli .vector (IntOp.minsi (iota .tc S32x255 32 [1] iota_S32x255_d1_w32 (ix2 r k) + 1#32) 253#32) 23#32) := rfl
  rw [h, iota_single_apply]
  rfl

/-- How many thresholds a row's maximum reaches. -/
def vCnt (a : FVec Ideal S32x1 .f32) : IVec S32 32 :=
  multiReductionI .add [1] S32 (extui 32 (cmpf .oge (broadcastTo S32x255 (mulf a (broadcast S32x1 (Scalar.ofBits .f32 0x3B124925#32))) broadcasts_S32x1_S32x255) vThr) natLt_1_32) 0#32 reduces_S32x255_S32 rfl

theorem ext_bit (t p : EReal) : (BitVec.setWidth 32 (Ideal.cmp .oge t p)).toNat = if p ≤ t then 1 else 0 := by
  have h : Ideal.cmp .oge t p = if p ≤ t then 1#1 else 0#1 := by
    by_cases hp : p ≤ t
    · simp [Ideal.cmp, hp]
    · have hd : decide (p ≤ t) = false := decide_eq_false hp
      rw [if_neg hp]
      show BitVec.ofBool (decide (p ≤ t)) = 0#1
      rw [hd]; rfl
  rw [h]
  split <;> rfl

theorem vBit_apply (a : FVec Ideal S32x1 .f32) (r : Fin 32) (k : Fin 255) :
    ((extui 32 (cmpf .oge (broadcastTo S32x255 (mulf a (broadcast S32x1 (Scalar.ofBits .f32 0x3B124925#32))) broadcasts_S32x1_S32x255) vThr) natLt_1_32 : IVec S32x255 32) (ix2 r k)).toNat
      = if pw k ≤ a (ix2 r 0) * qc then 1 else 0 := by
  refine Eq.trans ?_ (ext_bit (a (ix2 r 0) * qc) (pw k))
  refine congrArg (fun z => (BitVec.setWidth 32 z).toNat) ?_
  exact congrArg₂ (Ideal.cmp .oge) (bcol_apply _ _ r k) (vThr_apply r k)

theorem vCnt_apply (a : FVec Ideal S32x1 .f32) (r : Fin 32) : (vCnt a (ix1 r)).toNat = cntT (a (ix2 r 0) * qc) := by
  have hs : ∀ src : IVec S32x255 32, ∑ i ∈ Finset.univ.filter (fun i => Shape.Reduces.drop reduces_S32x255_S32 i = ix1 r), (src i).toNat = ∑ k : Fin 255, (src (ix2 r k)).toNat := fun src => by
    refine (Shape.Reduces.sum_filter_drop_single reduces_S32x255_S32 (fun i => (src i).toNat) (ix1 r)).trans ?_
    refine Finset.sum_congr rfl fun k _ => ?_
    show (src (Shape.Reduces.lift reduces_S32x255_S32 (ix1 r) k)).toNat = (src (ix2 r k)).toNat
    congr 2
    funext ax
    match ax with
    | ⟨0, _⟩ => rfl
    | ⟨1, _⟩ => rfl
  have hc : ∑ k : Fin 255, ((extui 32 (cmpf .oge (broadcastTo S32x255 (mulf a (broadcast S32x1 (Scalar.ofBits .f32 0x3B124925#32))) broadcasts_S32x1_S32x255) vThr) natLt_1_32 : IVec S32x255 32) (ix2 r k)).toNat
      = cntT (a (ix2 r 0) * qc) := Finset.sum_congr rfl fun k _ => vBit_apply a r k
  have hb : cntT (a (ix2 r 0) * qc) < 2 ^ 32 := by
    refine lt_of_le_of_lt (Finset.sum_le_card_nsmul (Finset.univ : Finset (Fin 255)) _ 1 fun k _ => ?_) (by simp)
    split <;> omega
  unfold vCnt
  refine (WordSum.toNat_multiReductionI_add _ reduces_S32x255_S32 rfl (ix1 r) ?_).trans ?_
  · rw [hs, hc]; exact hb
  · rw [hs, hc]

/-- The kernel's exponents of a whole array of counts and maxima. -/
def vKE {s : Shape} (w : IVec s 32) (a : FVec Ideal s .f32) : IVec s 32 :=
  select (ori (ori (cmpi .eq w (broadcast s 0#32)) (cmpi .eq w (broadcast s 255#32))) (cmpf .oeq a (broadcast s (Scalar.ofBits .f32 0x00000000#32))))
    (broadcast s 0#32) (subi w (broadcast s 126#32))

theorem vKE_apply {s : Shape} (w : IVec s 32) (a : FVec Ideal s .f32) (i : s.Idx) : vKE w a i = kE (w i) (a i) := rfl

/-- The scale whose exponent is `e`. -/
def vPos {s : Shape} (e : IVec s 32) : FVec Ideal s .f32 := bitcastToFloat .f32 (shli (addi (broadcast s 127#32) e) (broadcast s 23#32))
/-- The inverse of the scale whose exponent is `e`. -/
def vNeg {s : Shape} (e : IVec s 32) : FVec Ideal s .f32 := bitcastToFloat .f32 (shli (subi (broadcast s 127#32) e) (broadcast s 23#32))

/-- The exponents of a column of maxima. -/
def vE (a : FVec Ideal S32x1 .f32) : IVec S32x1 32 := vKE (shapeCast S32x1 (vCnt a) shapeCasts_S32_S32x1) a

theorem vE_scales (a : FVec Ideal S32x1 .f32) (r : Fin 32) :
    vPos (vE a) (ix2 r 0) = scl (a (ix2 r 0)) ∧ vNeg (vE a) (ix2 r 0) = Ideal.exp2 (Ideal.ofBits .f32 0x00000000#32 - refE (a (ix2 r 0))) := by
  have hw : ((shapeCast S32x1 (vCnt a) shapeCasts_S32_S32x1 : IVec S32x1 32) (ix2 r 0)).toNat = cntT (a (ix2 r 0) * qc) := by
    rw [← vCnt_apply]
    exact congrArg BitVec.toNat (shapeCast_a_a1_apply (vCnt a) _ r 0)
  exact scales_eq _ _ hw

/-- A column laid out as a row by a sum over a diagonal. -/
def vDiag (v : FVec Ideal S32x1 .f32) : FVec Ideal S1x32 .f32 :=
  shapeCast S1x32 (multiReduction .add [0] S32 (select (cmpi .eq (iota .tc S32x32 32 [0] iota_S32x32_d0_w32) (iota .tc S32x32 32 [1] iota_S32x32_d1_w32))
    (broadcastTo S32x32 v broadcasts_S32x1_S32x32) (broadcast S32x32 (Scalar.ofBits .f32 0x00000000#32)) : FVec Ideal S32x32 .f32) 0x00000000#32 reduces_S32x32_S32 (.inl rfl) rfl) shapeCasts_S32_S1x32

theorem diag_apply (v : FVec Ideal S32x1 .f32) (i r : Fin 32) :
    (select (cmpi .eq (iota .tc S32x32 32 [0] iota_S32x32_d0_w32) (iota .tc S32x32 32 [1] iota_S32x32_d1_w32))
      (broadcastTo S32x32 v broadcasts_S32x1_S32x32) (broadcast S32x32 (Scalar.ofBits .f32 0x00000000#32)) : FVec Ideal S32x32 .f32) (ix2 i r)
      = if i = r then v (ix2 r 0) else 0 := by
  have e1 : iota .tc S32x32 32 [0] iota_S32x32_d0_w32 (ix2 i r) = BitVec.ofNat 32 i.val := iota_single_apply _ _ _ _ _ _
  have e2 : iota .tc S32x32 32 [1] iota_S32x32_d1_w32 (ix2 i r) = BitVec.ofNat 32 r.val := iota_single_apply _ _ _ _ _ _
  have h0 : (select (cmpi .eq (iota .tc S32x32 32 [0] iota_S32x32_d0_w32) (iota .tc S32x32 32 [1] iota_S32x32_d1_w32))
      (broadcastTo S32x32 v broadcasts_S32x1_S32x32) (broadcast S32x32 (Scalar.ofBits .f32 0x00000000#32)) : FVec Ideal S32x32 .f32) (ix2 i r)
      = Scalar.select (IntOp.cmpi .eq (iota .tc S32x32 32 [0] iota_S32x32_d0_w32 (ix2 i r)) (iota .tc S32x32 32 [1] iota_S32x32_d1_w32 (ix2 i r)))
        (broadcastTo S32x32 v broadcasts_S32x1_S32x32 (ix2 i r)) (Ideal.ofBits .f32 0x00000000#32) := rfl
  have e3 : broadcastTo S32x32 v broadcasts_S32x1_S32x32 (ix2 i r) = v (ix2 i 0) := bcol_apply _ _ i r
  rw [h0, e1, e2, e3, ofBits_zero]
  have hi := i.isLt
  have hr := r.isLt
  by_cases h : i = r
  · subst h
    rw [if_pos rfl]
    simp [Scalar.select, IntOp.cmpi]
  · rw [if_neg h]
    have hne : ¬ BitVec.ofNat 32 i.val = BitVec.ofNat 32 r.val := fun e => by
      have := congrArg BitVec.toNat e
      simp only [BitVec.toNat_ofNat] at this
      apply h; apply Fin.ext; omega
    have hb : (BitVec.ofNat 32 i.val == BitVec.ofNat 32 r.val) = false := beq_eq_false_iff_ne.2 hne
    show (if BitVec.ofBool (BitVec.ofNat 32 i.val == BitVec.ofNat 32 r.val) = 1#1 then _ else _) = _
    rw [hb]; rfl

theorem vDiag_apply (v : FVec Ideal S32x1 .f32) (u : Fin 1) (r : Fin 32) : vDiag v (ix2 u r) = v (ix2 r 0) := by
  unfold vDiag
  refine (shapeCast_apply _ shapeCasts_S32_S1x32 (ix2 u r) (ix1 r) ?_).trans ?_
  · have hu : u.val = 0 := by omega
    rw [Shape.rowMajor_val_one, Shape.rowMajor_val_two]
    show r.val = u.val * 32 + r.val
    omega
  refine (Ideal.multiReduction_add_single _ _ reduces_S32x32_S32 _ _ (ix1 r)).trans ?_
  refine (Finset.sum_congr rfl fun (i : Fin 32) _ => ?_).trans (Finset.sum_ite_eq' Finset.univ r fun _ => v (ix2 r 0)) |>.trans (if_pos (Finset.mem_univ _))
  refine Eq.trans (congrArg _ ?_) (diag_apply v i r)
  funext ax
  match ax with
  | ⟨0, _⟩ => rfl
  | ⟨1, _⟩ => rfl

/-- The maxima of the input's rows, as a column. -/
def amaxX (x : Vec Ideal S32x4096 .bf16) : FVec Ideal S32x1 .f32 :=
  shapeCast S32x1 (multiReduction .maximumf [1] S32 (absf (k0_pay13 x)) 0xFF800000#32 reduces_S32x4096_S32 (.inl rfl) rfl) shapeCasts_S32_S32x1

theorem pay13 (x : Vec Ideal S32x4096 .bf16) : k0_pay13 x = x := by
  unfold k0_pay13
  first | rfl | (simp only [shapeCast_self]; rfl)

theorem amaxX_apply (x : Vec Ideal S32x4096 .bf16) (r : Fin 32) (u : Fin 1) : amaxX x (ix2 r u) = rmax (co x r) := by
  unfold amaxX
  rw [pay13]
  refine (shapeCast_a_a1_apply _ _ r u).trans ?_
  exact rowmax_apply (absf (φ := .f32) x) _ _ _ r

theorem pay14 (x : Vec Ideal S32x4096 .bf16) : k0_pay14 x = vE (amaxX x) := rfl

/-- The scales of the input. -/
theorem pay15 (x : Vec Ideal S32x4096 .bf16) (r : Fin 32) : k0_pay15 x (ix2 r 0) = scl (rmax (co x r)) := by
  have h : k0_pay15 x = vPos (vE (amaxX x)) := rfl
  rw [h, (vE_scales _ r).1, amaxX_apply]

/-- The codes of the input. -/
theorem pay17 (x : Vec Ideal S32x4096 .bf16) (r : Fin 32) (k : Fin 4096) :
    k0_pay17 (k0_pay13 x) (k0_pay16 x) 23#32 (ix2 r k) = code (x (ix2 r k)) (rmax (co x r)) := by
  have h : k0_pay17 (k0_pay13 x) (k0_pay16 x) 23#32 = vClamp (mulf (k0_pay13 x) (broadcastTo S32x4096 (vNeg (vE (amaxX x))) broadcasts_S32x1_S32x4096)) := by
    unfold k0_pay17
    simp only [shapeCast_self]
    rfl
  rw [h, vClamp_apply, mulf_apply, pay13]
  unfold code
  rw [← amaxX_apply x r 0, ← (vE_scales _ r).2]
  exact congrArg (fun z => clampc (x (ix2 r k) * z)) (bcol_apply _ _ r k)

/-- The scales of the input, repeated along lanes. -/
theorem pay18 (v : FVec Ideal S32x1 .f32) (r : Fin 32) (l : Fin 128) : k0_pay18 v (ix2 r l) = v (ix2 r 0) := by
  have h : k0_pay18 v = broadcastTo S32x128 v broadcasts_S32x1_S32x128 := by
    unfold k0_pay18
    simp only [shapeCast_self]
  rw [h]
  exact bcol_apply _ _ r l

theorem pay19 (v : FVec Ideal S32x1 .f32) : k0_pay19 v = vDiag v := by
  unfold k0_pay19
  simp only [shapeCast_self]
  rfl

/-- The scales of the input, as a row. -/
theorem pay19_apply (x : Vec Ideal S32x4096 .bf16) (u : Fin 1) (r : Fin 32) : k0_pay19 (k0_pay15 x) (ix2 u r) = scl (rmax (co x r)) := by
  rw [pay19, vDiag_apply, pay15]

/-- Four blocks side by side. -/
theorem cat4_apply {α : Type} (f : Fin 4 → S32x128.Idx → α) (r : Fin 32) (j : Fin 512) :
    concatenate S32x512 1 [⟨S32x128, f 0⟩, ⟨S32x128, f 1⟩, ⟨S32x128, f 2⟩, ⟨S32x128, f 3⟩] concatenates_S32x128_S32x128_S32x128_S32x128_S32x512_d1 (ix2 r j)
      = f ⟨j.val / 128, by omega⟩ (ix2 r ⟨j.val % 128, by omega⟩) :=
  concatenate_ofFn_apply (t := S32x512) (s₁ := S32x128) 1 f concatenates_S32x128_S32x128_S32x128_S32x128_S32x512_d1 rfl 128 rfl (ix2 r j) ⟨j.val / 128, by omega⟩ rfl
    (ix2 r ⟨j.val % 128, by omega⟩) rfl (fun b hb => by
      match b with
      | ⟨0, _⟩ => rfl
      | ⟨1, _⟩ => exact absurd rfl hb)

/-- One chunk of hidden values. -/
theorem pay2 (cx : Vec Ideal S32x4096 .fp8e4m3) (w : Vec Ideal S1x4096x512 .fp8e4m3) (sx : Vec Ideal S32x128 .f32) (u b : Vec Ideal S1x512 .f32) (r : Fin 32) (j : Fin 512) :
    k0_pay2 cx w sx u b (ix2 r j) = max (((∑ k : Fin 4096, cx (ix2 r k) * w (ix3 0 k j)) * sx (ix2 r ⟨j.val % 128, by omega⟩)) * u (ix2 0 j) + b (ix2 0 j)) 0 := by
  have h : k0_pay2 cx w sx u b = maximumf (addf (mulf (mulf (FloatOps.matmul (φ₁ := .fp8e4m3) (φ₂ := .fp8e4m3) (DotDims.plain 32 4096 512) none cx (shapeCast S4096x512 w shapeCasts_S1x4096x512_S4096x512) (constant S32x512 .f32 0x00000000#32))
      (concatenate S32x512 1 [⟨S32x128, sx⟩, ⟨S32x128, sx⟩, ⟨S32x128, sx⟩, ⟨S32x128, sx⟩] concatenates_S32x128_S32x128_S32x128_S32x128_S32x512_d1)) (broadcastTo S32x512 u broadcasts_S1x512_S32x512))
      (broadcastTo S32x512 b broadcasts_S1x512_S32x512)) (broadcast S32x512 (Scalar.ofBits .f32 0x00000000#32)) := rfl
  have e1 := Ideal.matmul_plain_apply (φ₁ := .fp8e4m3) (φ₂ := .fp8e4m3) none cx (shapeCast S4096x512 w shapeCasts_S1x4096x512_S4096x512) (constant S32x512 .f32 0x00000000#32) r j
  have e2 := cat4_apply (fun _ => sx) r j
  have e3 := broadcastTo_1b_ab_apply u broadcasts_S1x512_S32x512 r j
  have e4 := broadcastTo_1b_ab_apply b broadcasts_S1x512_S32x512 r j
  rw [h, vRelu_apply, addf_apply, mulf_apply, mulf_apply]
  refine congrArg (fun z => max z 0) (congrArg₂ (· + ·) (congrArg₂ (· * ·) (congrArg₂ (· * ·) (e1.trans ?_) e2) e3) e4)
  rw [constant_apply, ofBits_zero, zero_add]
  exact Finset.sum_congr rfl fun k _ => congrArg (cx (ix2 r k) * ·) (shapeCast_1ab_ab_apply _ _ k j)

/-- One group of the second product. -/
theorem pay11 (f : Fin 4 → Vec Ideal S32x128 .fp8e4m3) (a : Vec Ideal S32x4096 .f32) (w : Vec Ideal S512x4096 .fp8e4m3) (r : Fin 32) (n : Fin 4096) :
    k0_pay11 (f 0) (f 1) (f 2) (f 3) a w (ix2 r n) = a (ix2 r n) + ∑ z : Fin 512, f ⟨z.val / 128, by omega⟩ (ix2 r ⟨z.val % 128, by omega⟩) * w (ix2 z n) := by
  have h : k0_pay11 (f 0) (f 1) (f 2) (f 3) a w = addf a (FloatOps.matmul (φ₁ := .fp8e4m3) (φ₂ := .fp8e4m3) (DotDims.plain 32 512 4096) none
      (concatenate S32x512 1 [⟨S32x128, f 0⟩, ⟨S32x128, f 1⟩, ⟨S32x128, f 2⟩, ⟨S32x128, f 3⟩] concatenates_S32x128_S32x128_S32x128_S32x128_S32x512_d1) w (constant S32x4096 .f32 0x00000000#32)) := by
    unfold k0_pay11
    simp only [shapeCast_self]
    rfl
  have e1 := Ideal.matmul_plain_apply (φ₁ := .fp8e4m3) (φ₂ := .fp8e4m3) none
    (concatenate S32x512 1 [⟨S32x128, f 0⟩, ⟨S32x128, f 1⟩, ⟨S32x128, f 2⟩, ⟨S32x128, f 3⟩] concatenates_S32x128_S32x128_S32x128_S32x128_S32x512_d1 : Vec Ideal S32x512 .fp8e4m3) w (constant S32x4096 .f32 0x00000000#32) r n
  rw [h, addf_apply]
  refine congrArg (a (ix2 r n) + ·) (e1.trans ?_)
  rw [constant_apply, ofBits_zero, zero_add]
  exact Finset.sum_congr rfl fun z _ => congrArg (· * w (ix2 z n)) (cat4_apply f r z)

/-- The lanewise maxima, all lanes together. -/
theorem pay27 (m : FVec Ideal S32x128 .f32) (r : Fin 32) (u : Fin 1) : k0_pay27 m (ix2 r u) = top fun l => m (ix2 r l) := by
  unfold k0_pay27
  refine (shapeCast_a_a1_apply _ _ r u).trans ?_
  exact rowmax_apply m _ _ _ r

/-- The scales of the hidden values. -/
theorem pay30 (m : FVec Ideal S32x128 .f32) (r : Fin 32) : k0_pay30 (k0_pay27 m) (k0_pay28 m) (ix2 r 0) = scl (top fun l => m (ix2 r l)) := by
  have h : k0_pay30 (k0_pay27 m) (k0_pay28 m) = vPos (vE (k0_pay27 m)) := rfl
  rw [h, (vE_scales _ r).1, pay27]

/-- The scales of the hidden values, as a row. -/
theorem pay31 (m : FVec Ideal S32x128 .f32) (u : Fin 1) (r : Fin 32) : k0_pay31 (k0_pay27 m) (k0_pay28 m) (ix2 u r) = scl (top fun l => m (ix2 r l)) := by
  have h : k0_pay31 (k0_pay27 m) (k0_pay28 m) = vDiag (k0_pay30 (k0_pay27 m) (k0_pay28 m)) := by
    unfold k0_pay31
    simp only [shapeCast_self]
    rfl
  rw [h, vDiag_apply, pay30]

/-- The codes of the hidden values. -/
theorem pay32 (m : FVec Ideal S32x128 .f32) (v : Vec Ideal S32x14336 .f32) (r : Fin 32) (j : Fin 14336) :
    k0_pay32 (k0_pay27 m) (k0_pay28 m) v (ix2 r j) = code (v (ix2 r j)) (top fun l => m (ix2 r l)) := by
  have h : k0_pay32 (k0_pay27 m) (k0_pay28 m) v = vClamp (mulf (φ := .f32) v (broadcastTo S32x14336 (vNeg (vE (k0_pay27 m))) broadcasts_S32x1_S32x14336)) := rfl
  rw [h, vClamp_apply, mulf_apply]
  unfold code
  rw [← pay27 m r 0, ← (vE_scales _ r).2]
  exact congrArg (fun z => clampc (v (ix2 r j) * z)) (bcol_apply _ _ r j)

theorem pay33 (v : FVec Ideal S32x14336 .f32) : k0_pay33 v = v := by
  unfold k0_pay33
  simp only [shapeCast_self]
  rfl

theorem pay34 (i : S32x128.Idx) : (k0_pay34 (F := Ideal)) i = 0 := by
  unfold k0_pay34
  simp only [shapeCast_self]
  show Ideal.ofBits .fp8e4m3 0x00#8 = 0
  simp [Ideal.ofBits, Ideal.e4m3fn]

theorem pay35 (i : S32x4096.Idx) : (k0_pay35 (F := Ideal)) i = 0 := by
  unfold k0_pay35
  simp only [shapeCast_self]
  show Ideal.ofBits .f32 0x00000000#32 = 0
  exact ofBits_zero

/-- The output, from the accumulated sums. -/
theorem pay36 (s : FVec Ideal S32x1 .f32) (a : Vec Ideal S32x4096 .f32) (ws : Vec Ideal S1x4096 .f32) (r : Fin 32) (n : Fin 4096) :
    k0_pay1 (k0_pay36 s a ws) (ix2 r n) = (a (ix2 r n) * s (ix2 r 0)) * ws (ix2 0 n) := by
  have h : k0_pay1 (k0_pay36 s a ws) = mulf (φ := .f32) (mulf (φ := .f32) a (broadcastTo S32x4096 s broadcasts_S32x1_S32x4096)) (broadcastTo S32x4096 ws broadcasts_S1x4096_S32x4096) := by
    unfold k0_pay1 k0_pay36
    simp only [shapeCast_self]
    rfl
  have e2 := bcol_apply s broadcasts_S32x1_S32x4096 r n
  have e3 := broadcastTo_1b_ab_apply ws broadcasts_S1x4096_S32x4096 r n
  rw [h, mulf_apply, mulf_apply]
  exact congrArg₂ (· * ·) (congrArg (a (ix2 r n) * ·) e2) e3

end Cert.KernelIdeal.Val

end
-- ==== Proof.Val.KerHid.lean ====
module

public import proofs.«01_k».proof.Proof.Val.KerPay
public import proofs.«01_k».proof.Proof.KI.BodyD

@[expose] public section

noncomputable section

namespace Cert.KernelIdeal.Val

open Idealize.ShloMosaic
open Idealize.ShloMosaic.ValueIdx (ix1 ix2 ix3 mulf_apply addf_apply)
open Cert.KernelIdeal Cert.KernelIdeal.Gen Cert.Val
open Cert.KernelIdeal.Hand (dOf hk wuV cutV hFull rmx bits bt0 bt1 bt2 bt3 hsc Bk WdOk AccRel hcv YRel NL cnt lv ls)

variable (x : Vec Ideal S32x4096 .bf16) (f1 : Vec Ideal S4096x14336 .fp8e4m3) (us bu : Vec Ideal S1x14336 .f32) (f4 : Vec Ideal S14336x4096 .fp8e4m3)

/-- The hidden values the kernel computes. -/
abbrev Hv : Fin 32 → Fin 14336 → EReal := hid (co x) (co f1) (co us 0) (co bu 0)

theorem hk_apply (k : ℕ) (hk' : k < 28) (r : Fin 32) (j : Fin 512) :
    hk (dOf x f1 us bu f4) k (ix2 r j) = Hv x f1 us bu r ⟨512 * k + j.val, by omega⟩ := by
  have hj := j.isLt
  have hm : (512 * k + j.val) % 14336 = 512 * k + j.val := Nat.mod_eq_of_lt (by omega)
  have hf : (⟨(512 * k + j.val) % 14336, Nat.mod_lt _ (by decide)⟩ : Fin 14336) = ⟨512 * k + j.val, by omega⟩ := Fin.ext hm
  have e1 : ∀ k' : Fin 4096, wuV f1 k (ix3 0 k' j) = f1 (ix2 k' ⟨512 * k + j.val, by omega⟩) := fun k' =>
    Eq.trans (b := f1 (ix2 k' ⟨(512 * k + j.val) % 14336, Nat.mod_lt _ (by decide)⟩)) rfl (by rw [hf])
  have e2 : ∀ u : Vec Ideal S1x14336 .f32, cutV u k (ix2 0 j) = u (ix2 0 ⟨512 * k + j.val, by omega⟩) := fun u =>
    Eq.trans (b := u (ix2 0 ⟨(512 * k + j.val) % 14336, Nat.mod_lt _ (by decide)⟩)) rfl (by rw [hf])
  unfold hk
  refine (pay2 _ _ _ _ _ r j).trans ?_
  unfold Hv hid
  refine congrArg (fun z => max z 0) (congrArg₂ (· + ·) (congrArg₂ (· * ·) (congrArg₂ (· * ·) ?_ ?_) (e2 us)) (e2 bu))
  · exact Finset.sum_congr rfl fun k' _ => congrArg₂ (· * ·) (pay17 x r k') (e1 k')
  · exact (pay18 _ r _).trans (pay15 x r)

theorem hFull_apply (r : Fin 32) (j : Fin 14336) : hFull (dOf x f1 us bu f4) (ix2 r j) = Hv x f1 us bu r j := by
  have hj := j.isLt
  have e : hFull (dOf x f1 us bu f4) (ix2 r j) = hk (dOf x f1 us bu f4) (j.val / 512) (ix2 r ⟨j.val % 512, Nat.mod_lt _ (by decide)⟩) := rfl
  rw [e, hk_apply x f1 us bu f4 _ (by omega)]
  congr 1
  apply Fin.ext
  show 512 * (j.val / 512) + j.val % 512 = j.val
  omega

theorem Hv_nonneg (r : Fin 32) (j : Fin 14336) : 0 ≤ Hv x f1 us bu r j := le_max_right _ _

theorem top_le {n : ℕ} (v : Fin n → EReal) (c : EReal) : top v ≤ c ↔ ∀ k, v k ≤ c := by
  unfold top
  rw [Finset.fold_max_le]
  exact ⟨fun h k => h.2 k (Finset.mem_univ _), fun h => ⟨bot_le, fun k _ => h k⟩⟩

theorem rmx_succ (d : Cert.KernelIdeal.Hand.Dt Ideal) (k : ℕ) (r : Fin 32) (l : Fin 128) :
    rmx d (k + 1) (ix2 r l) = max (max (max (max (rmx d k (ix2 r l)) (hk d k (ix2 r ⟨0 + l.val, by omega⟩))) (hk d k (ix2 r ⟨128 + l.val, by omega⟩)))
      (hk d k (ix2 r ⟨256 + l.val, by omega⟩))) (hk d k (ix2 r ⟨384 + l.val, by omega⟩)) := by
  have h : rmx d (k + 1) (ix2 r l) = max (max (max (max (rmx d k (ix2 r l)) (k0_pay4 (hk d k) (ix2 r l))) (k0_pay6 (hk d k) (ix2 r l)))
      (k0_pay8 (hk d k) (ix2 r l))) (k0_pay21 (hk d k) (ix2 r l)) := rfl
  rw [h]
  have e4 : k0_pay4 (hk d k) (ix2 r l) = hk d k (ix2 r ⟨0 + l.val, by omega⟩) := ValueIdx.slice2_axis1_apply 0 (hk d k) slices_S32x512_o0_0_S32x128 r l _ rfl
  have e6 : k0_pay6 (hk d k) (ix2 r l) = hk d k (ix2 r ⟨128 + l.val, by omega⟩) := ValueIdx.slice2_axis1_apply 128 (hk d k) slices_S32x512_o0_128_S32x128 r l _ rfl
  have e8 : k0_pay8 (hk d k) (ix2 r l) = hk d k (ix2 r ⟨256 + l.val, by omega⟩) := ValueIdx.slice2_axis1_apply 256 (hk d k) slices_S32x512_o0_256_S32x128 r l _ rfl
  have e21 : k0_pay21 (hk d k) (ix2 r l) = hk d k (ix2 r ⟨384 + l.val, by omega⟩) := ValueIdx.slice2_axis1_apply 384 (hk d k) slices_S32x512_o0_384_S32x128 r l _ rfl
  rw [e4, e6, e8, e21]

theorem rmx_le (r : Fin 32) (l : Fin 128) (c : EReal) (n : ℕ) (hn : n ≤ 28) :
    rmx (dOf x f1 us bu f4) n (ix2 r l) ≤ c ↔ 0 ≤ c ∧ ∀ i : Fin 14336, i.val < 512 * n → i.val % 128 = l.val → Hv x f1 us bu r i ≤ c := by
  have hl := l.isLt
  induction n with
  | zero =>
    have h : rmx (dOf x f1 us bu f4) 0 (ix2 r l) = Ideal.ofBits .f32 0x00000000#32 := rfl
    rw [h, ofBits_zero]
    exact ⟨fun h => ⟨h, fun i hi => absurd hi (by omega)⟩, fun h => h.1⟩
  | succ n ih =>
    rw [rmx_succ, hk_apply x f1 us bu f4 n (by omega), hk_apply x f1 us bu f4 n (by omega), hk_apply x f1 us bu f4 n (by omega), hk_apply x f1 us bu f4 n (by omega)]
    simp only [max_le_iff, ih (by omega)]
    constructor
    · rintro ⟨⟨⟨⟨⟨h0, h⟩, h1⟩, h2⟩, h3⟩, h4⟩
      refine ⟨h0, fun i hi hm => ?_⟩
      by_cases hi' : i.val < 512 * n
      · exact h i hi' hm
      · have hc : i.val = 512 * n + (0 + l.val) ∨ i.val = 512 * n + (128 + l.val) ∨ i.val = 512 * n + (256 + l.val) ∨ i.val = 512 * n + (384 + l.val) := by omega
        rcases hc with e | e | e | e
        · rw [show i = ⟨512 * n + (0 + l.val), by omega⟩ from Fin.ext e]; exact h1
        · rw [show i = ⟨512 * n + (128 + l.val), by omega⟩ from Fin.ext e]; exact h2
        · rw [show i = ⟨512 * n + (256 + l.val), by omega⟩ from Fin.ext e]; exact h3
        · rw [show i = ⟨512 * n + (384 + l.val), by omega⟩ from Fin.ext e]; exact h4
    · rintro ⟨h0, h⟩
      exact ⟨⟨⟨⟨⟨h0, fun i hi hm => h i (by omega) hm⟩, h _ (by show 512 * n + (0 + l.val) < _; omega) (by show (512 * n + (0 + l.val)) % 128 = _; omega)⟩,
        h _ (by show 512 * n + (128 + l.val) < _; omega) (by show (512 * n + (128 + l.val)) % 128 = _; omega)⟩,
        h _ (by show 512 * n + (256 + l.val) < _; omega) (by show (512 * n + (256 + l.val)) % 128 = _; omega)⟩,
        h _ (by show 512 * n + (384 + l.val) < _; omega) (by show (512 * n + (384 + l.val)) % 128 = _; omega)⟩

/-- The row maximum the kernel keeps is the row's largest magnitude. -/
theorem top_rmx (r : Fin 32) : (top fun l => rmx (dOf x f1 us bu f4) 28 (ix2 r l)) = rmax (Hv x f1 us bu r) := by
  refine eq_of_forall_ge_iff fun c => ?_
  unfold rmax
  rw [top_le, top_le]
  simp only [rmx_le x f1 us bu f4 r _ c 28 le_rfl, max_le_iff]
  constructor
  · intro h j
    have hj := j.isLt
    obtain ⟨h0, h1⟩ := h ⟨j.val % 128, by omega⟩
    have := h1 j (by omega) rfl
    exact ⟨this, le_trans (EReal.neg_le_neg_iff.2 (Hv_nonneg x f1 us bu r j)) (by rw [neg_zero]; exact h0)⟩
  · intro h l
    exact ⟨le_trans (Hv_nonneg x f1 us bu r ⟨0, by decide⟩) (h _).1, fun i _ _ => (h i).1⟩

/-- The codes of the hidden values. -/
abbrev Cv (r : Fin 32) (j : Fin 14336) : EReal := code (Hv x f1 us bu r j) (rmax (Hv x f1 us bu r))

theorem hsc_apply (r : Fin 32) (j : Fin 14336) : hsc (dOf x f1 us bu f4) (ix2 r j) = Cv x f1 us bu r j := by
  unfold hsc
  refine (pay32 _ _ r j).trans ?_
  rw [top_rmx, hFull_apply]

theorem oHs_apply (u : Fin 1) (r : Fin 32) : Cert.KernelIdeal.Hand.oHs (dOf x f1 us bu f4) (ix2 u r) = scl (rmax (Hv x f1 us bu r)) := by
  unfold Cert.KernelIdeal.Hand.oHs
  refine (pay31 _ u r).trans ?_
  rw [top_rmx]

theorem oHc_apply (r : Fin 32) (j : Fin 14336) : Cert.KernelIdeal.Hand.oHc (dOf x f1 us bu f4) (ix2 r j) = Cv x f1 us bu r j := by
  unfold Cert.KernelIdeal.Hand.oHc
  rw [pay33]
  exact hsc_apply x f1 us bu f4 r j

theorem code_zero (a : EReal) : code 0 a = 0 := by
  unfold code
  rw [zero_mul]
  unfold clampc
  have h1 : Ideal.ofBits .f32 0xC3E00000#32 ≤ 0 := by
    have : Ideal.ofBits .f32 0xC3E00000#32 = ((-448 : ℝ) : EReal) := by
      simp [Ideal.ofBits, Ideal.ieee]; rw [← EReal.coe_mul]; norm_num
    rw [this]; exact_mod_cast (by norm_num : (-448 : ℝ) ≤ 0)
  have h2 : 0 ≤ Ideal.ofBits .f32 0x43E00000#32 := by
    have : Ideal.ofBits .f32 0x43E00000#32 = ((448 : ℝ) : EReal) := by
      simp [Ideal.ofBits, Ideal.ieee]; rw [← EReal.coe_mul]; norm_num
    rw [this]; exact_mod_cast (by norm_num : (0 : ℝ) ≤ 448)
  rw [max_eq_right h1, min_eq_right h2]

/-- The largest entry of a block, against each of its entries. -/
theorem blkmax_le (v : FVec Ideal S32x128 .f32) (r : Fin 32) (l : Fin 128) :
    v (ix2 r l) ≤ extractAt ![0, 0, 0] (shapeCast S1x1x1 (multiReduction .maximumf [1, 2] S1 (shapeCast S1x32x128 v shapeCasts_S32x128_S1x32x128 : FVec Ideal S1x32x128 .f32) 0xFF800000#32 reduces_S1x32x128_S1 (.inl rfl) rfl) shapeCasts_S1_S1x1x1) inpos_S1x1x1_p0_0_0 := by
  have h : ∀ j : S1.Idx, v (ix2 r l) ≤ (multiReduction .maximumf [1, 2] S1 (shapeCast S1x32x128 v shapeCasts_S32x128_S1x32x128 : FVec Ideal S1x32x128 .f32) 0xFF800000#32 reduces_S1x32x128_S1 (.inl rfl) rfl) j := fun j => by
    refine le_trans ?_ (le_of_eq (multiReduction_maximumf_eq_fold _ _ _ _ _ j).symm)
    show _ ≤ Finset.fold max _ _ _
    refine (Finset.le_fold_max _).2 (Or.inr ⟨ix3 0 r l, Finset.mem_filter.2 ⟨Finset.mem_univ _, ?_⟩, ?_⟩)
    · funext (a : Fin 1)
      have : ∀ p q : Fin 1, p = q := fun p q => Subsingleton.elim p q
      obtain rfl : a = 0 := this _ _
      exact this _ _
    · exact le_of_eq (ValueIdx.shapeCast_ab_1ab_apply v _ 0 r l).symm
  exact h _

theorem blk0 (h : FVec Ideal S32x512 .f32) (r : Fin 32) (l : Fin 128) : h (ix2 r ⟨0 + l.val, by omega⟩) ≤ k0_pay5 h :=
  (le_of_eq (ValueIdx.slice2_axis1_apply 0 h slices_S32x512_o0_0_S32x128 r l _ rfl).symm).trans (blkmax_le (k0_pay4 h) r l)
theorem blk1 (h : FVec Ideal S32x512 .f32) (r : Fin 32) (l : Fin 128) : h (ix2 r ⟨128 + l.val, by omega⟩) ≤ k0_pay7 h :=
  (le_of_eq (ValueIdx.slice2_axis1_apply 128 h slices_S32x512_o0_128_S32x128 r l _ rfl).symm).trans (blkmax_le (k0_pay6 h) r l)
theorem blk2 (h : FVec Ideal S32x512 .f32) (r : Fin 32) (l : Fin 128) : h (ix2 r ⟨256 + l.val, by omega⟩) ≤ k0_pay10 h :=
  (le_of_eq (ValueIdx.slice2_axis1_apply 256 h slices_S32x512_o0_256_S32x128 r l _ rfl).symm).trans (blkmax_le (k0_pay8 h) r l)
theorem blk3 (h : FVec Ideal S32x512 .f32) (r : Fin 32) (l : Fin 128) : h (ix2 r ⟨384 + l.val, by omega⟩) ≤ k0_pay23 h :=
  (le_of_eq (ValueIdx.slice2_axis1_apply 384 h slices_S32x512_o0_384_S32x128 r l _ rfl).symm).trans (blkmax_le (k0_pay21 h) r l)

/-- A value that is not above zero is at most zero. -/
theorem not_pos (m : EReal) (h : Scalar.cmpf (F := Ideal) (φ := .f32) .ogt m (Scalar.ofBits .f32 0x00000000#32) ≠ 1#1) : m ≤ 0 := by
  by_contra hc
  apply h
  show Ideal.cmp .ogt m (Ideal.ofBits .f32 0x00000000#32) = 1#1
  rw [ofBits_zero]
  simp [Ideal.cmp, not_le.1 hc]

/-- A block whose bit is off is zero. -/
theorem dead (i : ℕ) (hi : i < 112) (hb : bits (dOf x f1 us bu f4) i ≠ 1#1) (r : Fin 32) (z : Fin 128) :
    Hv x f1 us bu r ⟨128 * i + z.val, by omega⟩ = 0 := by
  have hz := z.isLt
  have key : ∀ (o : ℕ) (ho : o + 128 ≤ 512) (m : EReal), 512 * (i / 4) + o = 128 * i → m ≤ 0 →
      hk (dOf x f1 us bu f4) (i / 4) (ix2 r ⟨o + z.val, by omega⟩) ≤ m → Hv x f1 us bu r ⟨128 * i + z.val, by omega⟩ = 0 := by
    intro o ho m hoi hm0 hle
    rw [hk_apply x f1 us bu f4 _ (by omega)] at hle
    refine le_antisymm (le_trans (le_of_eq ?_) (le_trans hle hm0)) (Hv_nonneg _ _ _ _ _ _)
    congr 1
    apply Fin.ext
    show 128 * i + z.val = 512 * (i / 4) + (o + z.val)
    omega
  unfold bits at hb
  generalize hh : hk (dOf x f1 us bu f4) (i / 4) = h at hb
  rw [hh] at key
  split at hb
  · exact key 0 (by omega) _ (by omega) (not_pos _ hb) (blk0 h r z)
  split at hb
  · exact key 128 (by omega) _ (by omega) (not_pos _ hb) (blk1 h r z)
  split at hb
  · exact key 256 (by omega) _ (by omega) (not_pos _ hb) (blk2 h r z)
  · exact key 384 (by omega) _ (by omega) (not_pos _ hb) (blk3 h r z)

end Cert.KernelIdeal.Val

end
-- ==== Proof.Val.KerOut.lean ====
module

public import proofs.«01_k».proof.Proof.Val.KerHid

@[expose] public section

noncomputable section

namespace Cert.KernelIdeal.Val

open Idealize.ShloMosaic
open Idealize.ShloMosaic.ValueIdx (ix1 ix2 ix3)
open Cert.KernelIdeal Cert.KernelIdeal.Gen Cert.Val
open Cert.KernelIdeal.Hand (dOf hk wuV cutV hFull rmx bits hsc Bk WdOk AccRel hcv YRel NL cnt lv ls)

/-- A sum over `n` blocks of `b` is the blocks' sums together. -/
theorem sum_blocks (b : ℕ) (F : ℕ → EReal) (n : ℕ) :
    ∑ j ∈ Finset.range (b * n), F j = ∑ p ∈ Finset.range n, ∑ z ∈ Finset.range b, F (b * p + z) := by
  induction n with
  | zero => simp
  | succ n ih => rw [Nat.mul_succ, Finset.sum_range_add, ih, Finset.sum_range_succ]

/-- The sum over the listed blocks is the sum over all blocks, the others being zero. -/
theorem sum_live (b : ℕ → BitVec 1) (B : ℕ → EReal) (hB : ∀ i < 112, b i ≠ 1#1 → B i = 0) (i : ℕ) (hi : i ≤ 112) :
    ∑ p ∈ Finset.range (cnt b i), B (lv b p) = ∑ j ∈ Finset.range i, B j := by
  induction i with
  | zero => rw [Cert.KernelIdeal.Hand.cnt_zero]; simp
  | succ i ih =>
    rw [Cert.KernelIdeal.Hand.cnt_succ b (by omega), Finset.sum_range_succ]
    rcases Cert.KernelIdeal.Hand.bv1_cases (b i) with h | h
    · rw [h, hB i (by omega) (by rw [h]; decide), add_zero]
      exact ih (by omega)
    · have e : (b i).toNat = 1 := by rw [h]; rfl
      rw [e, Finset.sum_range_succ, ih (by omega), Cert.KernelIdeal.Hand.lv_cnt b (by omega) h]

variable (x : Vec Ideal S32x4096 .bf16) (f1 : Vec Ideal S4096x14336 .fp8e4m3) (us bu : Vec Ideal S1x14336 .f32) (f4 : Vec Ideal S14336x4096 .fp8e4m3)

/-- The product of the code of row `r` and column `j` with the down weight of row `j` and column `n`. -/
def Gv (r : Fin 32) (n : Fin 4096) (j : ℕ) : EReal :=
  if h : j < 14336 then Cv x f1 us bu r ⟨j, h⟩ * f4 (ix2 ⟨j, h⟩ n) else 0

/-- What the slot at position `p` adds. -/
def Tv (r : Fin 32) (n : Fin 4096) (p : ℕ) : EReal :=
  if p < NL (bits (dOf x f1 us bu f4)) then ∑ z ∈ Finset.range 128, Gv x f1 us bu f4 r n (128 * lv (bits (dOf x f1 us bu f4)) p + z) else 0

theorem Bk_live (p : ℕ) (hp : p < NL (bits (dOf x f1 us bu f4))) (r : Fin 32) (z : Fin 128) (h : 128 * lv (bits (dOf x f1 us bu f4)) p + z.val < 14336) :
    Bk (hcv (hsc (dOf x f1 us bu f4))) (ls (bits (dOf x f1 us bu f4)) p) (ix2 r z) = Cv x f1 us bu r ⟨128 * lv (bits (dOf x f1 us bu f4)) p + z.val, h⟩ := by
  have hl : ls (bits (dOf x f1 us bu f4)) p = lv (bits (dOf x f1 us bu f4)) p := by unfold ls; rw [if_pos hp]
  rw [hl]
  rw [← hsc_apply x f1 us bu f4]
  generalize hsc (dOf x f1 us bu f4) = w
  generalize lv (bits (dOf x f1 us bu f4)) p = i at h ⊢
  have hm : (128 * i + z.val) % 14464 = 128 * i + z.val := Nat.mod_eq_of_lt (by omega)
  have e : Bk (hcv w) i (ix2 r z) = hcv w (ix2 r ⟨(128 * i + z.val) % 14464, Nat.mod_lt _ (by decide)⟩) := rfl
  rw [e, show (⟨(128 * i + z.val) % 14464, Nat.mod_lt _ (by decide)⟩ : Fin 14464) = ⟨128 * i + z.val, by omega⟩ from Fin.ext hm]
  unfold hcv
  rw [dif_pos (show ((ix2 r (⟨128 * i + z.val, by omega⟩ : Fin 14464) : S32x14464.Idx) 1).val < 14336 from h), pay33]

theorem Bk_pad (p : ℕ) (hp : ¬ p < NL (bits (dOf x f1 us bu f4))) (r : Fin 32) (z : Fin 128) :
    Bk (hcv (hsc (dOf x f1 us bu f4))) (ls (bits (dOf x f1 us bu f4)) p) (ix2 r z) = 0 := by
  have hz := z.isLt
  have hl : ls (bits (dOf x f1 us bu f4)) p = 112 := by unfold ls; rw [if_neg hp]
  rw [hl]
  generalize hsc (dOf x f1 us bu f4) = w
  have hm : (128 * 112 + z.val) % 14464 = 128 * 112 + z.val := Nat.mod_eq_of_lt (by omega)
  have e : Bk (hcv w) 112 (ix2 r z) = hcv w (ix2 r ⟨(128 * 112 + z.val) % 14464, Nat.mod_lt _ (by decide)⟩) := rfl
  rw [e, show (⟨(128 * 112 + z.val) % 14464, Nat.mod_lt _ (by decide)⟩ : Fin 14464) = ⟨128 * 112 + z.val, by omega⟩ from Fin.ext hm]
  unfold hcv
  rw [dif_neg (show ¬ ((ix2 r (⟨128 * 112 + z.val, by omega⟩ : Fin 14464) : S32x14464.Idx) 1).val < 14336 from by
    show ¬ (128 * 112 + z.val < 14336); omega)]
  exact pay34 _

/-- One slot's part of a group's product. -/
theorem slot (g : ℕ) (wd : Vec Ideal S512x4096 .fp8e4m3) (hw : WdOk f4 (bits (dOf x f1 us bu f4)) g wd) (r : Fin 32) (n : Fin 4096) (q : ℕ) (hq : q < 4) :
    ∑ z ∈ Finset.range 128, (if h : 128 * q + z < 512 then
        Bk (hcv (hsc (dOf x f1 us bu f4))) (ls (bits (dOf x f1 us bu f4)) (4 * g + (128 * q + z) / 128)) (ix2 r ⟨(128 * q + z) % 128, Nat.mod_lt _ (by decide)⟩) * wd (ix2 ⟨128 * q + z, h⟩ n) else 0)
      = Tv x f1 us bu f4 r n (4 * g + q) := by
  unfold Tv
  by_cases hp : 4 * g + q < NL (bits (dOf x f1 us bu f4))
  · rw [if_pos hp]
    refine Finset.sum_congr rfl fun z hz => ?_
    have hz' : z < 128 := Finset.mem_range.1 hz
    have hlv := Cert.KernelIdeal.Hand.lv_lt (bits (dOf x f1 us bu f4)) hp
    have hd : (128 * q + z) / 128 = q := by omega
    have hmm : (128 * q + z) % 128 = z := by omega
    have hlt : 128 * lv (bits (dOf x f1 us bu f4)) (4 * g + q) + z < 14336 := by omega
    rw [dif_pos (by omega)]
    have e1 : wd (ix2 ⟨128 * q + z, by omega⟩ n) = f4 (ix2 ⟨128 * lv (bits (dOf x f1 us bu f4)) (4 * g + q) + z, hlt⟩ n) :=
      hw _ _ (by show 4 * g + (128 * q + z) / 128 < _; rw [hd]; exact hp) (by
        show 128 * lv (bits (dOf x f1 us bu f4)) (4 * g + q) + z = 128 * lv (bits (dOf x f1 us bu f4)) (4 * g + (128 * q + z) / 128) + (128 * q + z) % 128
        rw [hd, hmm]) rfl
    rw [e1, hd]
    unfold Gv
    rw [dif_pos hlt]
    refine congrArg (· * f4 (ix2 ⟨128 * lv (bits (dOf x f1 us bu f4)) (4 * g + q) + z, hlt⟩ n)) ?_
    rw [show (⟨(128 * q + z) % 128, Nat.mod_lt _ (by decide)⟩ : Fin 128) = ⟨z, hz'⟩ from Fin.ext hmm]
    exact Bk_live x f1 us bu f4 _ hp r ⟨z, hz'⟩ hlt
  · rw [if_neg hp]
    refine Finset.sum_eq_zero fun z hz => ?_
    have hz' : z < 128 := Finset.mem_range.1 hz
    have hd : (128 * q + z) / 128 = q := by omega
    rw [dif_pos (by omega), hd, Bk_pad x f1 us bu f4 _ hp, zero_mul]

/-- The accumulator after `g` groups is the sum over the first `4 g` slots. -/
theorem acc_sum (g : ℕ) (a : Vec Ideal S32x4096 .f32) (h : AccRel f4 (bits (dOf x f1 us bu f4)) (hcv (hsc (dOf x f1 us bu f4))) g a) (r : Fin 32) (n : Fin 4096) :
    a (ix2 r n) = ∑ p ∈ Finset.range (4 * g), Tv x f1 us bu f4 r n p := by
  induction g generalizing a with
  | zero =>
    have e : a = k0_pay35 (F := Ideal) := by unfold AccRel at h; exact h
    rw [e, Nat.mul_zero, Finset.range_zero, Finset.sum_empty]
    exact pay35 _
  | succ g ih =>
    unfold AccRel at h
    obtain ⟨a0, wd, h0, hw, e⟩ := h
    rw [e]
    refine (pay11 (fun q => Bk (hcv (hsc (dOf x f1 us bu f4))) (ls (bits (dOf x f1 us bu f4)) (4 * g + q.val))) a0 wd r n).trans ?_
    rw [ih a0 h0, show 4 * (g + 1) = 4 * g + 4 by omega, Finset.sum_range_add]
    refine congrArg (_ + ·) ?_
    have hs := sum_blocks 128 (fun z => if h : z < 512 then
        Bk (hcv (hsc (dOf x f1 us bu f4))) (ls (bits (dOf x f1 us bu f4)) (4 * g + z / 128)) (ix2 r ⟨z % 128, Nat.mod_lt _ (by decide)⟩) * wd (ix2 ⟨z, h⟩ n) else 0) 4
    refine Eq.trans ?_ (hs.trans (Finset.sum_congr rfl fun q hq => slot x f1 us bu f4 g wd hw r n q (Finset.mem_range.1 hq)))
    rw [show 128 * 4 = 512 from rfl, ← Fin.sum_univ_eq_sum_range (fun z => if h : z < 512 then
        Bk (hcv (hsc (dOf x f1 us bu f4))) (ls (bits (dOf x f1 us bu f4)) (4 * g + z / 128)) (ix2 r ⟨z % 128, Nat.mod_lt _ (by decide)⟩) * wd (ix2 ⟨z, h⟩ n) else 0) 512]
    exact Finset.sum_congr rfl fun z _ => by rw [dif_pos z.isLt]

/-- Once every live block is in, the sum is the whole product. -/
theorem acc_all (g : ℕ) (hg : NL (bits (dOf x f1 us bu f4)) ≤ 4 * g) (r : Fin 32) (n : Fin 4096) :
    ∑ p ∈ Finset.range (4 * g), Tv x f1 us bu f4 r n p = ∑ j : Fin 14336, Cv x f1 us bu r j * f4 (ix2 j n) := by
  have e1 : ∑ p ∈ Finset.range (4 * g), Tv x f1 us bu f4 r n p = ∑ p ∈ Finset.range (NL (bits (dOf x f1 us bu f4))), Tv x f1 us bu f4 r n p := by
    refine (Finset.sum_subset (fun p hp => Finset.mem_range.2 (lt_of_lt_of_le (Finset.mem_range.1 hp) hg)) fun p _ hp => ?_).symm
    unfold Tv
    exact if_neg fun h => hp (Finset.mem_range.2 h)
  have e2 : ∑ p ∈ Finset.range (NL (bits (dOf x f1 us bu f4))), Tv x f1 us bu f4 r n p
      = ∑ p ∈ Finset.range (cnt (bits (dOf x f1 us bu f4)) 112), (fun i => ∑ z ∈ Finset.range 128, Gv x f1 us bu f4 r n (128 * i + z)) (lv (bits (dOf x f1 us bu f4)) p) := by
    refine Finset.sum_congr rfl fun p hp => ?_
    unfold Tv
    exact if_pos (Finset.mem_range.1 hp)
  rw [e1, e2, sum_live _ (fun i => ∑ z ∈ Finset.range 128, Gv x f1 us bu f4 r n (128 * i + z)) ?_ 112 le_rfl, ← sum_blocks]
  · rw [show 128 * 112 = 14336 from rfl, ← Fin.sum_univ_eq_sum_range (Gv x f1 us bu f4 r n) 14336]
    exact Finset.sum_congr rfl fun j _ => dif_pos j.isLt
  · intro i hi hb
    refine Finset.sum_eq_zero fun z hz => ?_
    have hz' : z < 128 := Finset.mem_range.1 hz
    unfold Gv
    rw [dif_pos (show 128 * i + z < 14336 by omega)]
    have hd := dead x f1 us bu f4 i hi hb r ⟨z, hz'⟩
    have hc : Cv x f1 us bu r ⟨128 * i + z, by omega⟩ = 0 := by
      unfold Cv
      rw [hd, code_zero]
    rw [hc, zero_mul]

/-- The first result. -/
theorem y_apply (ws : Vec Ideal S1x4096 .f32) (y : Vec Ideal S32x4096 .bf16) (h : YRel (dOf x f1 us bu f4) ws y) (r : Fin 32) (n : Fin 4096) :
    y (ix2 r n) = outp (Hv x f1 us bu) (co f4) (co ws 0) r n := by
  obtain ⟨acc, ha, e⟩ := h
  rw [e]
  refine (pay36 _ acc ws r n).trans ?_
  unfold outp
  refine congrArg (· * ws (ix2 0 n)) (congrArg₂ (· * ·) ?_ ?_)
  · exact (acc_sum x f1 us bu f4 _ acc ha r n).trans (acc_all x f1 us bu f4 _ (by omega) r n)
  · exact (pay30 _ r).trans (congrArg scl (top_rmx x f1 us bu f4 r))

end Cert.KernelIdeal.Val

end
-- ==== Proof.Val.KerRun.lean ====
/- The whole program at the extended reals: what its results hold. -/
module

public import proofs.«01_k».proof.Proof.KI.Run
public import proofs.«01_k».proof.Proof.Val.KerOut
public import Idealize.ShloMosaic.Lib.Pipeline.FrameValue

@[expose] public section

noncomputable section

namespace Cert.KernelIdeal.Val

open Cert.KernelIdeal Cert.KernelIdeal.Gen Cert.KernelIdeal.Hand Cert.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 eq_ix2)
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The first result as a function of the operands. -/
def yOf (x : Vec Ideal S32x4096 .bf16) (f1 : Vec Ideal S4096x14336 .fp8e4m3) (us bu : Vec Ideal S1x14336 .f32) (f4 : Vec Ideal S14336x4096 .fp8e4m3)
    (ws : Vec Ideal S1x4096 .f32) : Vec Ideal S32x4096 .bf16 := fun i => outp (Hv x f1 us bu) (co f4) (co ws 0) (i 0) (i 1)

theorem y_eq (x : Vec Ideal S32x4096 .bf16) (f1 : Vec Ideal S4096x14336 .fp8e4m3) (us bu : Vec Ideal S1x14336 .f32) (f4 : Vec Ideal S14336x4096 .fp8e4m3)
    (ws : Vec Ideal S1x4096 .f32) (y : Vec Ideal S32x4096 .bf16) (h : YRel (dOf x f1 us bu f4) ws y) : y = yOf x f1 us bu f4 ws := by
  funext i
  rw [show i = ix2 (n0 := 32) (n1 := 4096) (i 0) (i 1) from eq_ix2 i]
  exact y_apply x f1 us bu f4 ws y h (i 0) (i 1)

/-- The operands of the two products, as the program holds them. -/
abbrev dM (c : Dev nD) : Dt Ideal := dOf (V m c main_v0) (V m c main_arg1) (V m c main_v1) (V m c main_v2) (V m c main_arg4)

/-- The contents at the end: the five results, everything else as before. -/
def Gm (c : Dev nD) : (b : Ref sig .tc) → Buf (Elt Ideal) ((c.tc : Thread nD τ).loc b) :=
  Function.update (Function.update (Function.update (Function.update (Function.update (V m c)
    main_v4_0 (yOf (V m c main_v0) (V m c main_arg1) (V m c main_v1) (V m c main_v2) (V m c main_arg4) (V m c main_v3)))
    main_v4_1 (oXc (V m c main_v0))) main_v4_2 (oXs (V m c main_v0))) main_v4_3 (oHc (dM m c))) main_v4_4 (oHs (dM m c))

theorem Gm_4 (c : Dev nD) : Gm m c main_v4_4 = oHs (dM m c) := Function.update_self _ _ _
theorem Gm_3 (c : Dev nD) : Gm m c main_v4_3 = oHc (dM m c) := by
  unfold Gm; rw [Function.update_of_ne (by decide), Function.update_self]
theorem Gm_2 (c : Dev nD) : Gm m c main_v4_2 = oXs (V m c main_v0) := by
  unfold Gm; rw [Function.update_of_ne (by decide), Function.update_of_ne (by decide), Function.update_self]
theorem Gm_1 (c : Dev nD) : Gm m c main_v4_1 = oXc (V m c main_v0) := by
  unfold Gm; rw [Function.update_of_ne (by decide), Function.update_of_ne (by decide), Function.update_of_ne (by decide), Function.update_self]
theorem Gm_0 (c : Dev nD) : Gm m c main_v4_0 = yOf (V m c main_v0) (V m c main_arg1) (V m c main_v1) (V m c main_v2) (V m c main_arg4) (V m c main_v3) := by
  unfold Gm; rw [Function.update_of_ne (by decide), Function.update_of_ne (by decide), Function.update_of_ne (by decide), Function.update_of_ne (by decide), Function.update_self]

theorem routed_eq (c : Dev nD) (W : (b : Ref sig .tc) → Buf (Elt Ideal) ((c.tc : Thread nD τ).loc b)) :
    (Pipeline.routed R0 c W : sProp 𝕄) = Outs c (W main_v4_0) (W main_v4_1) (W main_v4_2) (W main_v4_3) (W main_v4_4) := by
  unfold Pipeline.routed; rw [BI.bigSep_eq_bigSepL_of_eq [main_v4_0, main_v4_1, main_v4_2, main_v4_3, main_v4_4] (by decide) (by decide)]; rfl

theorem PhiG_eq (c : Dev nD) (G : (c : Dev nD) → (b : Ref sig .tc) → Buf (Elt Ideal) ((c.tc : Thread nD τ).loc b)) :
    (Pipeline.ΦDRG osem0 (cfg0.spec) H0 R0 (V m) G c : sProp 𝕄) = iprop(Scrs (F := Ideal) c ∗ (∃ r, prngReg c r) ∗ SemList (F := Ideal) c
      ∗ Args c (V m c main_v0) (V m c main_arg1) (V m c main_v1) (V m c main_v2) (V m c main_arg4) (V m c main_v3)
      ∗ Outs c (G c main_v4_0) (G c main_v4_1) (G c main_v4_2) (G c main_v4_3) (G c main_v4_4)) := by
  rw [Pipeline.ΦDRG_eq, scopedRest0_eq, ownSems00_eq, hbmPts0_eq, routed_eq]; rfl

/-- The data of the run: the results unknown before the one point, known after it. -/
def datsG (_ : Fin 1) (c : Dev nD) : Dat τ (Elt Ideal) Unit ℕ (Pipeline.UD sig nD τ) ℕ cfg0 c where
  A w := w.elim0
  after w t := w.elim0
  Φ t := if t.val = 0 then Pipeline.ΦDRG osem0 (cfg0.spec) H0 R0 (V m) (V m) c else Pipeline.ΦDRG osem0 (cfg0.spec) H0 R0 (V m) (Gm m) c
  q _ := fullShare
  owed _ := 0
theorem phi_pos (c : Dev nD) (t : Fin (cfg0.N + 1)) (h : t.val = 0) : (datsG m 0 c).Φ t = Pipeline.ΦDRG osem0 (cfg0.spec) H0 R0 (V m) (V m) c := by
  show (if t.val = 0 then _ else _) = _
  exact if_pos h
theorem phi_neg (c : Dev nD) (t : Fin (cfg0.N + 1)) (h : t.val ≠ 0) : (datsG m 0 c).Φ t = Pipeline.ΦDRG osem0 (cfg0.spec) H0 R0 (V m) (Gm m) c := by
  show (if t.val = 0 then _ else _) = _
  exact if_neg h
theorem AG_eq (c : Dev nD) (w : Fin cfg0.W) : (datsG m 0 c).A w = V m c (Pipeline.arrRef (cfg0.spec) w) := w.elim0

theorem sound_bodyG (c : Dev nD) (t : Fin cfg0.N) :
    iprop((datsG m 0 c).Φ t.castSucc ∗ (datsG m 0 c).owesAt () t.castSucc) ⊢ WP c (bodyAt0 t) (fun _ => iprop((datsG m 0 c).Φ t.succ ∗ (datsG m 0 c).owesAt () t.succ)) := by
  have ht : t.val = 0 := by have h := t.isLt; have hN : cfg0.N = 1 := by decide
                            omega
  have e1 : (datsG m 0 c).Φ t.succ = Pipeline.ΦDRG osem0 (cfg0.spec) H0 R0 (V m) (Gm m) c := phi_neg m c _ (by simp)
  have e2 : (datsG m 0 c).Φ t.castSucc = Pipeline.ΦDRG osem0 (cfg0.spec) H0 R0 (V m) (V m) c := phi_pos m c _ (by simpa using ht)
  rw [e1, e2, PhiG_eq, PhiG_eq, Gm_0, Gm_1, Gm_2, Gm_3, Gm_4]
  unfold Dat.owesAt Pipeline.owesWithin
  rw [show (datsG m 0 c).owed t.castSucc = 0 from rfl, show (datsG m 0 c).owed t.succ = 0 from rfl]
  have hk : bodyAt0 (F := Ideal) t = kMain := by
    show cc0_relu_mlp_fp8 (F := Ideal) _ _ _ _ _ _ _ _ _ _ _ _ _ _ _ _ _ _ _ _ _ _ _ _ _ _ _ _ _ _ _ _ _ _ _ _ _ _ _ _ _ _ _ _ _ _ _ _ _ _ _ _ _ _ _ _ = _
    rw [cc0_relu_mlp_fp8_eq_skeleton]
  rw [hk]
  have hsi := sems_in (F := Ideal) c
  have hso := sems_out (F := Ideal) c
  iintro ⟨⟨HS, Hg, HQ, HA, HO⟩, ⟨%W, -, HW⟩⟩
  ihave HQ := hsi $$ HQ
  iapply (kernel_ok c (V m c main_v0) (V m c main_arg1) (V m c main_v1) (V m c main_v2) (V m c main_arg4) (V m c main_v3) (V m c main_v4_0) (V m c main_v4_1) (V m c main_v4_2) (V m c main_v4_3) (V m c main_v4_4)) $$ [HS HQ HA HO HW]
  · isplitl [HA]; · iexact HA
    isplitl [HO]; · iexact HO
    isplitl [HS]; · iexact HS
    isplitl [HQ]; · iexact HQ
    unfold Cert.KernelIdeal.Hand.Owes
    iexists W
    iexact HW
  unfold Cert.KernelIdeal.Hand.Owes
  iintro %y ⟨%hy, HA, HO, HS, HQ, %W', HW⟩
  have hy' := y_eq _ _ _ _ _ _ y hy
  subst hy'
  ihave HQ := hso $$ HQ
  isplitr [HW]
  · isplitl [HS]; · iexact HS
    isplitl [Hg]; · iexact Hg
    isplitl [HQ]; · iexact HQ
    isplitl [HA]; · iexact HA
    iexact HO
  iexists W'
  isplitr
  · ipureintro; exact fun _ _ => Or.inl trivial
  iexact HW

theorem body_obligationG (c : Dev nD) : BodyObligation (datsG m 0 c) (defs₀ (F := Ideal)) Variants.none () Set.univ := fun t => by
  rw [defs₀_row]
  refine triple_restated (sound_bodyG m c t) rfl ?_ fun _ => ?_
  · iintro ⟨H1, H2, -⟩
    isplitl [H1]; · iexact H1
    iexact H2
  · show (_ : sProp 𝕄) ⊢ _
    iintro ⟨H1, H2⟩
    isplitl [H1]; · iexact H1
    isplitl [H2]; · iexact H2
    iapply (Entails.of_eq (by rfl : (iprop(emp) : sProp 𝕄) = _))
    iempintro

set_option backward.isDefEq.respectTransparency.types false in
theorem run_mainG : θ_run defs (onTc (τ := τ) (main (F := Ideal))) (s₀ m ρ) (fun r => Pipeline.FramePostRG cfgs (datsG m) 0 R0 (V m) (Gm m) r ∧ r.2.sem = fun _ => 0) :=
  Pipeline.θ_run_frame_dmaRG (Q' := _) cfgs (datsG m) (0 : Fin 1) launch0 osem0 defs₀ Variants.none ownSemFacts0 H0 R0 H0_sub R0_sub m ρ main
    (hbody := fun c => (body_obligationG m c).loose) (hshare := fun c => (datsG m 0 c).share_full fun _ => rfl)
    (howed := fun _ _ => rfl) (V := V m) (hmain := hmainD m Variants.none) (hA := AG_eq m) (G := Gm m)
    (hin := fun _ => .of_eq (phi_pos m _ 0 rfl).symm) (hout := fun _ => .of_eq (phi_neg m _ (Fin.last cfg0.N) (by decide)))

/-- The program's five results, its arguments unchanged. -/
theorem run_results : θ_run defs (onTc (τ := τ) (main (F := Ideal))) ⟨m, fun _ => 0, ρ⟩ (fun r => (∀ c : Dev nD,
      r.2.mem ((c.tc : Thread nD τ).loc main_v4_0) = yOf (V m c main_v0) (V m c main_arg1) (V m c main_v1) (V m c main_v2) (V m c main_arg4) (V m c main_v3)
      ∧ r.2.mem ((c.tc : Thread nD τ).loc main_v4_1) = oXc (V m c main_v0)
      ∧ r.2.mem ((c.tc : Thread nD τ).loc main_v4_2) = oXs (V m c main_v0)
      ∧ r.2.mem ((c.tc : Thread nD τ).loc main_v4_3) = oHc (dM m c)
      ∧ r.2.mem ((c.tc : Thread nD τ).loc main_v4_4) = oHs (dM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1.written c (by decide)).trans (Gm_0 m c)), ((h.1.written c (by decide)).trans (Gm_1 m c)), ((h.1.written c (by decide)).trans (Gm_2 m c)), ((h.1.written c (by decide)).trans (Gm_3 m c)), ((h.1.written c (by decide)).trans (Gm_4 m c)), ((h.1.toR c).2 main_arg0 (Finset.mem_sdiff.mpr ⟨Pipeline.mem_restRefs_of main_arg0 (by decide) (by decide), by decide⟩)).trans (V_main_arg0 m c), ((h.1.toR c).2 main_arg1 (Finset.mem_sdiff.mpr ⟨Pipeline.mem_restRefs_of main_arg1 (by decide) (by decide), by decide⟩)).trans (V_main_arg1 m c), ((h.1.toR c).2 main_arg2 (Finset.mem_sdiff.mpr ⟨Pipeline.mem_restRefs_of main_arg2 (by decide) (by decide), by decide⟩)).trans (V_main_arg2 m c), ((h.1.toR c).2 main_arg3 (Finset.mem_sdiff.mpr ⟨Pipeline.mem_restRefs_of main_arg3 (by decide) (by decide), by decide⟩)).trans (V_main_arg3 m c), ((h.1.toR c).2 main_arg4 (Finset.mem_sdiff.mpr ⟨Pipeline.mem_restRefs_of main_arg4 (by decide) (by decide), by decide⟩)).trans (V_main_arg4 m c), ((h.1.toR c).2 main_arg5 (Finset.mem_sdiff.mpr ⟨Pipeline.mem_restRefs_of main_arg5 (by decide) (by decide), by decide⟩)).trans (V_main_arg5 m c)⟩, h.2⟩) (run_mainG m ρ)

end Cert.KernelIdeal.Val

end
-- ==== Proof.Val.KerIn.lean ====
/- What the reshapes at the start of the program leave. -/
module

public import proofs.«01_k».proof.Proof.Gen.KernelIdeal.Frame

@[expose] public section

noncomputable section

namespace Cert.KernelIdeal.Val

open Cert.KernelIdeal Cert.KernelIdeal.Gen
open Idealize.ShloMosaic Idealize.ShloMosaic.TcCoe

variable {F : FTy → Type} [FloatOps F] (m : (ℓ : Loc nD τ sig) → Buf (Elt F) ℓ)

/-- Operand 0, reshaped. -/
theorem V_main_v0 (c : Dev nD) : V m c main_v0 = shapeCast S32x4096 (m ((c : Thread nD τ).loc main_arg0)) shapeCasts_S32x1x4096_S32x4096 := by
  unfold V
  simp only [hostOps0, StableHlo.after_cons, StableHlo.after_nil]
  rw [StableHlo.reshape_result_ne' (h := by decide)]
  rw [StableHlo.reshape_result_ne' (h := by decide)]
  rw [StableHlo.reshape_result_ne' (h := by decide)]
  rw [StableHlo.reshape_result']
  rfl

/-- Operand 2, reshaped. -/
theorem V_main_v1 (c : Dev nD) : V m c main_v1 = shapeCast S1x14336 (m ((c : Thread nD τ).loc main_arg2)) shapeCasts_S14336_S1x14336 := by
  unfold V
  simp only [hostOps0, StableHlo.after_cons, StableHlo.after_nil]
  rw [StableHlo.reshape_result_ne' (h := by decide)]
  rw [StableHlo.reshape_result_ne' (h := by decide)]
  rw [StableHlo.reshape_result']
  rw [StableHlo.reshape_result_ne' (h := by decide)]
  rfl

/-- Operand 3, reshaped. -/
theorem V_main_v2 (c : Dev nD) : V m c main_v2 = shapeCast S1x14336 (m ((c : Thread nD τ).loc main_arg3)) shapeCasts_S14336_S1x14336 := by
  unfold V
  simp only [hostOps0, StableHlo.after_cons, StableHlo.after_nil]
  rw [StableHlo.reshape_result_ne' (h := by decide)]
  rw [StableHlo.reshape_result']
  rw [StableHlo.reshape_result_ne' (h := by decide)]
  rw [StableHlo.reshape_result_ne' (h := by decide)]
  rfl

/-- Operand 5, reshaped. -/
theorem V_main_v3 (c : Dev nD) : V m c main_v3 = shapeCast S1x4096 (m ((c : Thread nD τ).loc main_arg5)) shapeCasts_S4096_S1x4096 := by
  unfold V
  simp only [hostOps0, StableHlo.after_cons, StableHlo.after_nil]
  rw [StableHlo.reshape_result']
  rw [StableHlo.reshape_result_ne' (h := by decide)]
  rw [StableHlo.reshape_result_ne' (h := by decide)]
  rw [StableHlo.reshape_result_ne' (h := by decide)]
  rfl

end Cert.KernelIdeal.Val

end
-- ==== Proof.Val.RefIn.lean ====
/- What the reshapes at the start of the program leave. -/
module

public import proofs.«01_k».proof.Proof.Gen.ReferenceIdeal.Frame

@[expose] public section

noncomputable section

namespace Cert.ReferenceIdeal.Val

open Cert.ReferenceIdeal Cert.ReferenceIdeal.Gen
open Idealize.ShloMosaic Idealize.ShloMosaic.TcCoe

variable {F : FTy → Type} [FloatOps F] (m : (ℓ : Loc nD τ sig) → Buf (Elt F) ℓ)

/-- Operand 0, reshaped. -/
theorem V_main_v0 (c : Dev nD) : V m c main_v0 = shapeCast S32x4096 (m ((c : Thread nD τ).loc main_arg0)) shapeCasts_S32x1x4096_S32x4096 := by
  unfold V
  simp only [hostOps0, StableHlo.after_cons, StableHlo.after_nil]
  rw [StableHlo.reshape_result_ne' (h := by decide)]
  rw [StableHlo.reshape_result_ne' (h := by decide)]
  rw [StableHlo.reshape_result_ne' (h := by decide)]
  rw [StableHlo.reshape_result']
  rfl

/-- Operand 2, reshaped. -/
theorem V_main_v1 (c : Dev nD) : V m c main_v1 = shapeCast S1x14336 (m ((c : Thread nD τ).loc main_arg2)) shapeCasts_S14336_S1x14336 := by
  unfold V
  simp only [hostOps0, StableHlo.after_cons, StableHlo.after_nil]
  rw [StableHlo.reshape_result_ne' (h := by decide)]
  rw [StableHlo.reshape_result_ne' (h := by decide)]
  rw [StableHlo.reshape_result']
  rw [StableHlo.reshape_result_ne' (h := by decide)]
  rfl

/-- Operand 3, reshaped. -/
theorem V_main_v2 (c : Dev nD) : V m c main_v2 = shapeCast S1x14336 (m ((c : Thread nD τ).loc main_arg3)) shapeCasts_S14336_S1x14336 := by
  unfold V
  simp only [hostOps0, StableHlo.after_cons, StableHlo.after_nil]
  rw [StableHlo.reshape_result_ne' (h := by decide)]
  rw [StableHlo.reshape_result']
  rw [StableHlo.reshape_result_ne' (h := by decide)]
  rw [StableHlo.reshape_result_ne' (h := by decide)]
  rfl

/-- Operand 5, reshaped. -/
theorem V_main_v3 (c : Dev nD) : V m c main_v3 = shapeCast S1x4096 (m ((c : Thread nD τ).loc main_arg5)) shapeCasts_S4096_S1x4096 := by
  unfold V
  simp only [hostOps0, StableHlo.after_cons, StableHlo.after_nil]
  rw [StableHlo.reshape_result']
  rw [StableHlo.reshape_result_ne' (h := by decide)]
  rw [StableHlo.reshape_result_ne' (h := by decide)]
  rw [StableHlo.reshape_result_ne' (h := by decide)]
  rfl

end Cert.ReferenceIdeal.Val

end
-- ==== Proof.Val.RefPay.lean ====
module

public import proofs.«01_k».proof.Proof.Val.Spec
public import proofs.«01_k».proof.Proof.Gen.ReferenceIdeal.Skeleton

@[expose] public section

noncomputable section

namespace Cert.ReferenceIdeal.Val

open Idealize.ShloMosaic
open Idealize.ShloMosaic.ValueIdx
open Cert.ReferenceIdeal Cert.ReferenceIdeal.Gen Cert.Val

/-- A two-axis array as a function of its two coordinates. -/
abbrev co {m n : ℕ} {α : Type} (v : (⟨2, ![m, n]⟩ : Shape).Idx → α) : Fin m → Fin n → α := fun i j => v (ix2 i j)

/-- The maxima of the input's rows, as a column. -/
def amaxX (x : Vec Ideal S32x4096 .bf16) : FVec Ideal S32x1 .f32 :=
  shapeCast S32x1 (multiReduction .maximumf [1] S32 (absf (k0_pay4 x)) 0xFF800000#32 reduces_S32x4096_S32 (.inl rfl) rfl) shapeCasts_S32_S32x1

theorem pay4 (x : Vec Ideal S32x4096 .bf16) : k0_pay4 x = x := by
  unfold k0_pay4
  simp only [shapeCast_self]
  rfl

theorem amaxX_apply (x : Vec Ideal S32x4096 .bf16) (r : Fin 32) (u : Fin 1) : amaxX x (ix2 r u) = rmax (co x r) := by
  unfold amaxX
  rw [pay4]
  refine (shapeCast_a_a1_apply _ _ r u).trans ?_
  exact rowmax_apply (absf (φ := .f32) x) _ _ _ r

/-- The exponent of a row of the input. -/
theorem pay5 (x : Vec Ideal S32x4096 .bf16) (r : Fin 32) (u : Fin 1) : k0_pay5 x (ix2 r u) = refE (rmax (co x r)) := by
  have h : k0_pay5 x = vRefE (amaxX x) := rfl
  rw [h, vRefE_apply, amaxX_apply]

/-- The codes of the input. -/
theorem pay6 (x : Vec Ideal S32x4096 .bf16) (r : Fin 32) (k : Fin 4096) : k0_pay6 x (ix2 r k) = code (x (ix2 r k)) (rmax (co x r)) := by
  have h : k0_pay6 x = vClamp (mulf (k0_pay4 x) (broadcastTo S32x4096 (vInv (k0_pay5 x)) broadcasts_S32x1_S32x4096)) := rfl
  rw [h, vClamp_apply, mulf_apply, pay4]
  unfold code
  rw [← pay5 x r 0, ← vInv_apply]
  exact congrArg (fun z => clampc (x (ix2 r k) * z)) (bcol_apply _ _ r k)

/-- The scales of the input. -/
theorem pay7 (x : Vec Ideal S32x4096 .bf16) (r : Fin 32) (u : Fin 1) : k0_pay7 x (ix2 r u) = scl (rmax (co x r)) := by
  have h : k0_pay7 x = exp2 (k0_pay5 x) := rfl
  rw [h, vExp2_apply, pay5]
  rfl

/-- The hidden values. -/
theorem pay9 (x : Vec Ideal S32x4096 .bf16) (f1 : Vec Ideal S4096x14336 .fp8e4m3) (us bu : Vec Ideal S1x14336 .f32) (r : Fin 32) (j : Fin 14336) :
    k0_pay9 (k0_pay8 x f1 us) bu (ix2 r j) = hid (co x) (co f1) (co us 0) (co bu 0) r j := by
  have h : k0_pay9 (k0_pay8 x f1 us) bu = maximumf (addf (mulf (mulf (FloatOps.matmul (φ₁ := .fp8e4m3) (φ₂ := .fp8e4m3) (DotDims.plain 32 4096 14336) none (k0_pay6 x) f1 (constant S32x14336 .f32 0x00000000#32))
      (broadcastTo S32x14336 (k0_pay7 x) broadcasts_S32x1_S32x14336)) (broadcastTo S32x14336 us broadcasts_S1x14336_S32x14336))
      (broadcastTo S32x14336 bu broadcasts_S1x14336_S32x14336)) (broadcast S32x14336 (Scalar.ofBits .f32 0x00000000#32)) := by
    unfold k0_pay9 k0_pay8
    simp only [shapeCast_self]
    rfl
  have e1 := Ideal.matmul_plain_apply (φ₁ := .fp8e4m3) (φ₂ := .fp8e4m3) none (k0_pay6 x) f1 (constant S32x14336 .f32 0x00000000#32) r j
  have e2 := bcol_apply (k0_pay7 x) broadcasts_S32x1_S32x14336 r j
  have e3 := broadcastTo_1b_ab_apply us broadcasts_S1x14336_S32x14336 r j
  have e4 := broadcastTo_1b_ab_apply bu broadcasts_S1x14336_S32x14336 r j
  rw [h, vRelu_apply, addf_apply, mulf_apply, mulf_apply]
  unfold hid
  refine congrArg (fun z => max z 0) (congrArg₂ (· + ·) (congrArg₂ (· * ·) (congrArg₂ (· * ·) (e1.trans ?_) (e2.trans (pay7 x r 0))) e3) e4)
  rw [constant_apply, ofBits_zero, zero_add]
  exact Finset.sum_congr rfl fun k _ => by rw [pay6]

/-- The maxima of the hidden rows, as a column. -/
def amaxH (h : FVec Ideal S32x14336 .f32) : FVec Ideal S32x1 .f32 :=
  shapeCast S32x1 (multiReduction .maximumf [1] S32 (absf h) 0xFF800000#32 reduces_S32x14336_S32 (.inl rfl) rfl) shapeCasts_S32_S32x1

theorem amaxH_apply (h : FVec Ideal S32x14336 .f32) (r : Fin 32) (u : Fin 1) : amaxH h (ix2 r u) = rmax (co h r) := by
  unfold amaxH
  refine (shapeCast_a_a1_apply _ _ r u).trans ?_
  exact rowmax_apply (absf (φ := .f32) h) _ _ _ r

/-- The exponent of a row of the hidden values. -/
theorem pay10 (v40 : FVec Ideal S32x14336 .f32) (v41 : Vec Ideal S1x14336 .f32) (r : Fin 32) (u : Fin 1) :
    k0_pay10 v40 v41 (ix2 r u) = refE (rmax (co (k0_pay9 v40 v41) r)) := by
  have h : k0_pay10 v40 v41 = vRefE (amaxH (k0_pay9 v40 v41)) := rfl
  rw [h, vRefE_apply, amaxH_apply]

/-- The codes of the hidden values. -/
theorem pay11 (v40 : FVec Ideal S32x14336 .f32) (v41 : Vec Ideal S1x14336 .f32) (r : Fin 32) (k : Fin 14336) :
    k0_pay11 v40 v41 (ix2 r k) = code (k0_pay9 v40 v41 (ix2 r k)) (rmax (co (k0_pay9 v40 v41) r)) := by
  have h : k0_pay11 v40 v41 = vClamp (mulf (k0_pay9 v40 v41) (broadcastTo S32x14336 (vInv (k0_pay10 v40 v41)) broadcasts_S32x1_S32x14336)) := rfl
  rw [h, vClamp_apply, mulf_apply]
  unfold code
  rw [← pay10 v40 v41 r 0, ← vInv_apply]
  exact congrArg (fun z => clampc (k0_pay9 v40 v41 (ix2 r k) * z)) (bcol_apply _ _ r k)

/-- The scales of the hidden values. -/
theorem pay12 (v40 : FVec Ideal S32x14336 .f32) (v41 : Vec Ideal S1x14336 .f32) (r : Fin 32) (u : Fin 1) :
    k0_pay12 v40 v41 (ix2 r u) = scl (rmax (co (k0_pay9 v40 v41) r)) := by
  have h : k0_pay12 v40 v41 = exp2 (k0_pay10 v40 v41) := rfl
  rw [h, vExp2_apply, pay10]
  rfl

/-- The output. -/
theorem pay13 (v40 : FVec Ideal S32x14336 .f32) (v41 : Vec Ideal S1x14336 .f32) (f4 : Vec Ideal S14336x4096 .fp8e4m3)
    (ws : Vec Ideal S1x4096 .f32) (r : Fin 32) (n : Fin 4096) :
    k0_pay13 v40 v41 f4 ws (ix2 r n) = outp (co (k0_pay9 v40 v41)) (co f4) (co ws 0) r n := by
  have h : k0_pay13 v40 v41 f4 ws = mulf (mulf (FloatOps.matmul (φ₁ := .fp8e4m3) (φ₂ := .fp8e4m3) (DotDims.plain 32 14336 4096) none (k0_pay11 v40 v41) f4 (constant S32x4096 .f32 0x00000000#32))
      (broadcastTo S32x4096 (k0_pay12 v40 v41) broadcasts_S32x1_S32x4096)) (broadcastTo S32x4096 ws broadcasts_S1x4096_S32x4096) := by
    unfold k0_pay13
    simp only [shapeCast_self]
    rfl
  have e1 := Ideal.matmul_plain_apply (φ₁ := .fp8e4m3) (φ₂ := .fp8e4m3) none (k0_pay11 v40 v41) f4 (constant S32x4096 .f32 0x00000000#32) r n
  have e2 := bcol_apply (k0_pay12 v40 v41) broadcasts_S32x1_S32x4096 r n
  have e3 := broadcastTo_1b_ab_apply ws broadcasts_S1x4096_S32x4096 r n
  rw [h, mulf_apply, mulf_apply]
  unfold outp
  refine congrArg₂ (· * ·) (congrArg₂ (· * ·) (e1.trans ?_) (e2.trans (pay12 v40 v41 r 0))) e3
  rw [constant_apply, ofBits_zero, zero_add]
  exact Finset.sum_congr rfl fun k _ => by rw [pay11]

/-- A column of scales laid out as a row. -/
theorem row_apply (v : FVec Ideal S32x1 .f32) (u : Fin 1) (r : Fin 32) : shapeCast S1x32 v shapeCasts_S32x1_S1x32 (ix2 u r) = v (ix2 r 0) :=
  shapeCast_apply v _ _ _ (by
    have hu : u.val = 0 := by omega
    rw [Shape.rowMajor_val_two, Shape.rowMajor_val_two]
    show r.val * 1 + 0 = u.val * 32 + r.val
    omega)

end Cert.ReferenceIdeal.Val

end
-- ==== Proof.Val.RefValue.lean ====
module

public import proofs.«01_k».proof.Proof.Gen.ReferenceIdeal.Frame
public import Idealize.ShloMosaic.Lib.Pipeline.Value
public import proofs.«01_k».proof.Proof.Val.RefPay

@[expose] public section

noncomputable section

namespace Cert.ReferenceIdeal.RefValue

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v4_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v4_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v4_4) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 6 cfg0.N
      ∧ r.2.mem ((c : Thread nD τ).loc main_v4_1) = (dats m 0 c).arrAt 7 cfg0.N
      ∧ r.2.mem ((c : Thread nD τ).loc main_v4_2) = (dats m 0 c).arrAt 8 cfg0.N
      ∧ r.2.mem ((c : Thread nD τ).loc main_v4_3) = (dats m 0 c).arrAt 9 cfg0.N
      ∧ r.2.mem ((c : Thread nD τ).loc main_v4_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c⟩)
    (run_main m ρ)

/-! ## The rectangles of the body are whole buffers -/

theorem idx_r0_0 (y : S32x4096.Idx) : r0_0.emb y = y := by
  funext a
  apply Fin.ext
  match a with
  | ⟨0, _⟩ => show (0 + 1 * (y 0).val) = (y 0).val; omega
  | ⟨1, _⟩ => show (0 + 1 * (y 1).val) = (y 1).val; omega

theorem ld_r0_0 {e : EltTy} (v : Vec F S32x4096 e) : View.ld v r0_0 = v :=
  funext fun y => congrArg v (idx_r0_0 y)

theorem canon_r0_0 {e : EltTy} (v : Vec F S32x4096 e) : View.canon (Val := Elt F) [⟨r0_0, v⟩] = v := by
  funext y
  have h := View.canon_cons_emb (Val := Elt F) r0_0 v [] y
  rwa [idx_r0_0] at h

theorem idx_r0_1 (y : S4096x14336.Idx) : r0_1.emb y = y := by
  funext a
  apply Fin.ext
  match a with
  | ⟨0, _⟩ => show (0 + 1 * (y 0).val) = (y 0).val; omega
  | ⟨1, _⟩ => show (0 + 1 * (y 1).val) = (y 1).val; omega

theorem ld_r0_1 {e : EltTy} (v : Vec F S4096x14336 e) : View.ld v r0_1 = v :=
  funext fun y => congrArg v (idx_r0_1 y)

theorem canon_r0_1 {e : EltTy} (v : Vec F S4096x14336 e) : View.canon (Val := Elt F) [⟨r0_1, v⟩] = v := by
  funext y
  have h := View.canon_cons_emb (Val := Elt F) r0_1 v [] y
  rwa [idx_r0_1] at h

theorem idx_r0_2 (y : S1x14336.Idx) : r0_2.emb y = y := by
  funext a
  apply Fin.ext
  match a with
  | ⟨0, _⟩ => show (0 + 1 * (y 0).val) = (y 0).val; omega
  | ⟨1, _⟩ => show (0 + 1 * (y 1).val) = (y 1).val; omega

theorem ld_r0_2 {e : EltTy} (v : Vec F S1x14336 e) : View.ld v r0_2 = v :=
  funext fun y => congrArg v (idx_r0_2 y)

theorem canon_r0_2 {e : EltTy} (v : Vec F S1x14336 e) : View.canon (Val := Elt F) [⟨r0_2, v⟩] = v := by
  funext y
  have h := View.canon_cons_emb (Val := Elt F) r0_2 v [] y
  rwa [idx_r0_2] at h

theorem idx_r0_3 (y : S14336x4096.Idx) : r0_3.emb y = y := by
  funext a
  apply Fin.ext
  match a with
  | ⟨0, _⟩ => show (0 + 1 * (y 0).val) = (y 0).val; omega
  | ⟨1, _⟩ => show (0 + 1 * (y 1).val) = (y 1).val; omega

theorem ld_r0_3 {e : EltTy} (v : Vec F S14336x4096 e) : View.ld v r0_3 = v :=
  funext fun y => congrArg v (idx_r0_3 y)

theorem canon_r0_3 {e : EltTy} (v : Vec F S14336x4096 e) : View.canon (Val := Elt F) [⟨r0_3, v⟩] = v := by
  funext y
  have h := View.canon_cons_emb (Val := Elt F) r0_3 v [] y
  rwa [idx_r0_3] at h

theorem idx_r0_4 (y : S1x4096.Idx) : r0_4.emb y = y := by
  funext a
  apply Fin.ext
  match a with
  | ⟨0, _⟩ => show (0 + 1 * (y 0).val) = (y 0).val; omega
  | ⟨1, _⟩ => show (0 + 1 * (y 1).val) = (y 1).val; omega

theorem ld_r0_4 {e : EltTy} (v : Vec F S1x4096 e) : View.ld v r0_4 = v :=
  funext fun y => congrArg v (idx_r0_4 y)

theorem canon_r0_4 {e : EltTy} (v : Vec F S1x4096 e) : View.canon (Val := Elt F) [⟨r0_4, v⟩] = v := by
  funext y
  have h := View.canon_cons_emb (Val := Elt F) r0_4 v [] y
  rwa [idx_r0_4] at h

theorem idx_r0_5 (y : S1x32.Idx) : r0_5.emb y = y := by
  funext a
  apply Fin.ext
  match a with
  | ⟨0, _⟩ => show (0 + 1 * (y 0).val) = (y 0).val; omega
  | ⟨1, _⟩ => show (0 + 1 * (y 1).val) = (y 1).val; omega

theorem ld_r0_5 {e : EltTy} (v : Vec F S1x32 e) : View.ld v r0_5 = v :=
  funext fun y => congrArg v (idx_r0_5 y)

theorem canon_r0_5 {e : EltTy} (v : Vec F S1x32 e) : View.canon (Val := Elt F) [⟨r0_5, v⟩] = v := by
  funext y
  have h := View.canon_cons_emb (Val := Elt F) r0_5 v [] y
  rwa [idx_r0_5] at h

theorem idx_r0_6 (y : S32x14336.Idx) : r0_6.emb y = y := by
  funext a
  apply Fin.ext
  match a with
  | ⟨0, _⟩ => show (0 + 1 * (y 0).val) = (y 0).val; omega
  | ⟨1, _⟩ => show (0 + 1 * (y 1).val) = (y 1).val; omega

theorem ld_r0_6 {e : EltTy} (v : Vec F S32x14336 e) : View.ld v r0_6 = v :=
  funext fun y => congrArg v (idx_r0_6 y)

theorem canon_r0_6 {e : EltTy} (v : Vec F S32x14336 e) : View.canon (Val := Elt F) [⟨r0_6, v⟩] = v := by
  funext y
  have h := View.canon_cons_emb (Val := Elt F) r0_6 v [] y
  rwa [idx_r0_6] at h

/-! ## The only grid point's blocks are whole arrays -/

theorem iblk_0 (c : Dev nD) : iblk m c 0 (0 : Fin 1) = V m c main_v0 := by
  generalize hf : V m c main_v0 = f
  show ((cfg0.win 0).blk (0 : Fin 1)).view.read (Elt F) (V m c main_v0) = f
  rw [hf]
  funext y
  show f _ = f _
  congr 1
  funext a
  apply Fin.ext
  match a with
  | ⟨0, _⟩ => show (0 * 32 + 1 * (y 0).val) = (y 0).val; omega
  | ⟨1, _⟩ => show (0 * 4096 + 1 * (y 1).val) = (y 1).val; omega

theorem iblk_1 (c : Dev nD) : iblk m c 1 (0 : Fin 1) = V m c main_arg1 := by
  generalize hf : V m c main_arg1 = f
  show ((cfg0.win 1).blk (0 : Fin 1)).view.read (Elt F) (V m c main_arg1) = f
  rw [hf]
  funext y
  show f _ = f _
  congr 1
  funext a
  apply Fin.ext
  match a with
  | ⟨0, _⟩ => show (0 * 4096 + 1 * (y 0).val) = (y 0).val; omega
  | ⟨1, _⟩ => show (0 * 14336 + 1 * (y 1).val) = (y 1).val; omega

theorem iblk_2 (c : Dev nD) : iblk m c 2 (0 : Fin 1) = V m c main_v1 := by
  generalize hf : V m c main_v1 = f
  show ((cfg0.win 2).blk (0 : Fin 1)).view.read (Elt F) (V m c main_v1) = f
  rw [hf]
  funext y
  show f _ = f _
  congr 1
  funext a
  apply Fin.ext
  match a with
  | ⟨0, _⟩ => show (0 * 1 + 1 * (y 0).val) = (y 0).val; omega
  | ⟨1, _⟩ => show (0 * 14336 + 1 * (y 1).val) = (y 1).val; omega

theorem iblk_3 (c : Dev nD) : iblk m c 3 (0 : Fin 1) = V m c main_v2 := by
  generalize hf : V m c main_v2 = f
  show ((cfg0.win 3).blk (0 : Fin 1)).view.read (Elt F) (V m c main_v2) = f
  rw [hf]
  funext y
  show f _ = f _
  congr 1
  funext a
  apply Fin.ext
  match a with
  | ⟨0, _⟩ => show (0 * 1 + 1 * (y 0).val) = (y 0).val; omega
  | ⟨1, _⟩ => show (0 * 14336 + 1 * (y 1).val) = (y 1).val; omega

theorem iblk_4 (c : Dev nD) : iblk m c 4 (0 : Fin 1) = V m c main_arg4 := by
  generalize hf : V m c main_arg4 = f
  show ((cfg0.win 4).blk (0 : Fin 1)).view.read (Elt F) (V m c main_arg4) = f
  rw [hf]
  funext y
  show f _ = f _
  congr 1
  funext a
  apply Fin.ext
  match a with
  | ⟨0, _⟩ => show (0 * 14336 + 1 * (y 0).val) = (y 0).val; omega
  | ⟨1, _⟩ => show (0 * 4096 + 1 * (y 1).val) = (y 1).val; omega

theorem iblk_5 (c : Dev nD) : iblk m c 5 (0 : Fin 1) = V m c main_v3 := by
  generalize hf : V m c main_v3 = f
  show ((cfg0.win 5).blk (0 : Fin 1)).view.read (Elt F) (V m c main_v3) = f
  rw [hf]
  funext y
  show f _ = f _
  congr 1
  funext a
  apply Fin.ext
  match a with
  | ⟨0, _⟩ => show (0 * 1 + 1 * (y 0).val) = (y 0).val; omega
  | ⟨1, _⟩ => show (0 * 4096 + 1 * (y 1).val) = (y 1).val; omega

theorem read_6 (c : Dev nD) (f : Buf (Elt F) ((c : Thread nD τ).loc main_v4_0)) : ((cfg0.win 6).blk (0 : Fin 1)).view.read (Elt F) f = f := by
  funext y
  show f _ = f _
  congr 1
  funext a
  apply Fin.ext
  match a with
  | ⟨0, _⟩ => show (0 * 32 + 1 * (y 0).val) = (y 0).val; omega
  | ⟨1, _⟩ => show (0 * 4096 + 1 * (y 1).val) = (y 1).val; omega

theorem read_7 (c : Dev nD) (f : Buf (Elt F) ((c : Thread nD τ).loc main_v4_1)) : ((cfg0.win 7).blk (0 : Fin 1)).view.read (Elt F) f = f := by
  funext y
  show f _ = f _
  congr 1
  funext a
  apply Fin.ext
  match a with
  | ⟨0, _⟩ => show (0 * 32 + 1 * (y 0).val) = (y 0).val; omega
  | ⟨1, _⟩ => show (0 * 4096 + 1 * (y 1).val) = (y 1).val; omega

theorem read_8 (c : Dev nD) (f : Buf (Elt F) ((c : Thread nD τ).loc main_v4_2)) : ((cfg0.win 8).blk (0 : Fin 1)).view.read (Elt F) f = f := by
  funext y
  show f _ = f _
  congr 1
  funext a
  apply Fin.ext
  match a with
  | ⟨0, _⟩ => show (0 * 1 + 1 * (y 0).val) = (y 0).val; omega
  | ⟨1, _⟩ => show (0 * 32 + 1 * (y 1).val) = (y 1).val; omega

theorem read_9 (c : Dev nD) (f : Buf (Elt F) ((c : Thread nD τ).loc main_v4_3)) : ((cfg0.win 9).blk (0 : Fin 1)).view.read (Elt F) f = f := by
  funext y
  show f _ = f _
  congr 1
  funext a
  apply Fin.ext
  match a with
  | ⟨0, _⟩ => show (0 * 32 + 1 * (y 0).val) = (y 0).val; omega
  | ⟨1, _⟩ => show (0 * 14336 + 1 * (y 1).val) = (y 1).val; omega

theorem read_10 (c : Dev nD) (f : Buf (Elt F) ((c : Thread nD τ).loc main_v4_4)) : ((cfg0.win 10).blk (0 : Fin 1)).view.read (Elt F) f = f := by
  funext y
  show f _ = f _
  congr 1
  funext a
  apply Fin.ext
  match a with
  | ⟨0, _⟩ => show (0 * 1 + 1 * (y 0).val) = (y 0).val; omega
  | ⟨1, _⟩ => show (0 * 32 + 1 * (y 1).val) = (y 1).val; omega

/-- What output array 0 holds after the run. -/
theorem arr_6 (c : Dev nD) : (dats m 0 c).arrAt 6 cfg0.N = k0_pay1 (k0_pay13 (k0_pay8 (V m c main_v0) (V m c main_arg1) (V m c main_v1)) (V m c main_v2) (V m c main_arg4) (V m c main_v3)) := by
  have h := blocks6 m c (0 : Fin 1) (by decide)
  refine (read_6 c _).symm.trans (h.trans ((flushed6 m c (0 : Fin 1)).trans ?_))
  refine Eq.trans (b := out0_6 (iblk m c 0 (0 : Fin 1)) (iblk m c 1 (0 : Fin 1)) (iblk m c 2 (0 : Fin 1)) (iblk m c 3 (0 : Fin 1)) (iblk m c 4 (0 : Fin 1)) (iblk m c 5 (0 : Fin 1))) rfl ?_
  rw [iblk_0, iblk_1, iblk_2, iblk_3, iblk_4, iblk_5]
  unfold out0_6 k0_pay14
  rw [canon_r0_0]
  simp only [ld_r0_0, ld_r0_1, ld_r0_2, ld_r0_3, ld_r0_4]

/-- What output array 1 holds after the run. -/
theorem arr_7 (c : Dev nD) : (dats m 0 c).arrAt 7 cfg0.N = k0_pay6 (V m c main_v0) := by
  have h := blocks7 m c (0 : Fin 1) (by decide)
  refine (read_7 c _).symm.trans (h.trans ((flushed7 m c (0 : Fin 1)).trans ?_))
  refine Eq.trans (b := out0_7 (iblk m c 0 (0 : Fin 1)) (iblk m c 1 (0 : Fin 1)) (iblk m c 2 (0 : Fin 1)) (iblk m c 3 (0 : Fin 1)) (iblk m c 4 (0 : Fin 1)) (iblk m c 5 (0 : Fin 1))) rfl ?_
  rw [iblk_0, iblk_1, iblk_2, iblk_3, iblk_4, iblk_5]
  unfold out0_7
  rw [canon_r0_0]
  simp only [ld_r0_0, ld_r0_1, ld_r0_2, ld_r0_3, ld_r0_4]

/-- What output array 2 holds after the run. -/
theorem arr_8 (c : Dev nD) : (dats m 0 c).arrAt 8 cfg0.N = k0_pay2 (k0_pay7 (V m c main_v0)) := by
  have h := blocks8 m c (0 : Fin 1) (by decide)
  refine (read_8 c _).symm.trans (h.trans ((flushed8 m c (0 : Fin 1)).trans ?_))
  refine Eq.trans (b := out0_8 (iblk m c 0 (0 : Fin 1)) (iblk m c 1 (0 : Fin 1)) (iblk m c 2 (0 : Fin 1)) (iblk m c 3 (0 : Fin 1)) (iblk m c 4 (0 : Fin 1)) (iblk m c 5 (0 : Fin 1))) rfl ?_
  rw [iblk_0, iblk_1, iblk_2, iblk_3, iblk_4, iblk_5]
  unfold out0_8
  rw [canon_r0_5]
  simp only [ld_r0_0, ld_r0_1, ld_r0_2, ld_r0_3, ld_r0_4]

/-- What output array 3 holds after the run. -/
theorem arr_9 (c : Dev nD) : (dats m 0 c).arrAt 9 cfg0.N = k0_pay11 (k0_pay8 (V m c main_v0) (V m c main_arg1) (V m c main_v1)) (V m c main_v2) := by
  have h := blocks9 m c (0 : Fin 1) (by decide)
  refine (read_9 c _).symm.trans (h.trans ((flushed9 m c (0 : Fin 1)).trans ?_))
  refine Eq.trans (b := out0_9 (iblk m c 0 (0 : Fin 1)) (iblk m c 1 (0 : Fin 1)) (iblk m c 2 (0 : Fin 1)) (iblk m c 3 (0 : Fin 1)) (iblk m c 4 (0 : Fin 1)) (iblk m c 5 (0 : Fin 1))) rfl ?_
  rw [iblk_0, iblk_1, iblk_2, iblk_3, iblk_4, iblk_5]
  unfold out0_9 k0_pay14
  rw [canon_r0_6]
  simp only [ld_r0_0, ld_r0_1, ld_r0_2, ld_r0_3, ld_r0_4]

/-- What output array 4 holds after the run. -/
theorem arr_10 (c : Dev nD) : (dats m 0 c).arrAt 10 cfg0.N = k0_pay3 (k0_pay12 (k0_pay8 (V m c main_v0) (V m c main_arg1) (V m c main_v1)) (V m c main_v2)) := by
  have h := blocks10 m c (0 : Fin 1) (by decide)
  refine (read_10 c _).symm.trans (h.trans ((flushed10 m c (0 : Fin 1)).trans ?_))
  refine Eq.trans (b := out0_10 (iblk m c 0 (0 : Fin 1)) (iblk m c 1 (0 : Fin 1)) (iblk m c 2 (0 : Fin 1)) (iblk m c 3 (0 : Fin 1)) (iblk m c 4 (0 : Fin 1)) (iblk m c 5 (0 : Fin 1))) rfl ?_
  rw [iblk_0, iblk_1, iblk_2, iblk_3, iblk_4, iblk_5]
  unfold out0_10 k0_pay14
  rw [canon_r0_5]
  simp only [ld_r0_0, ld_r0_1, ld_r0_2, ld_r0_3, ld_r0_4]

end Cert.ReferenceIdeal.RefValue

end
-- ==== Proof.Val.Algebraic.lean ====
/- The two programs compute the same results at the extended reals. -/
module

public import proofs.«01_k».proof.Defs
public import proofs.«01_k».proof.Proof.Val.KerRun
public import proofs.«01_k».proof.Proof.Val.KerIn
public import proofs.«01_k».proof.Proof.Val.RefIn
public import proofs.«01_k».proof.Proof.Val.RefPay
public import proofs.«01_k».proof.Proof.Val.RefValue

@[expose] public section

noncomputable section

namespace Cert.Val

open Idealize.ShloMosaic Idealize.ShloMosaic.TcCoe
open Idealize.ShloMosaic.ValueIdx (ix2 eq_ix2)
open Cert.KernelIdeal (S32x4096 S4096x14336 S1x14336 S14336x4096 S1x4096 S32x14336 S1x32)
open Cert.KernelIdeal.Val (yOf Hv Cv)
open Cert.KernelIdeal.Hand (dOf oXc oXs oHc oHs)

variable (x : Vec Ideal S32x4096 .bf16) (f1 : Vec Ideal S4096x14336 .fp8e4m3) (us bu : Vec Ideal S1x14336 .f32) (f4 : Vec Ideal S14336x4096 .fp8e4m3) (ws : Vec Ideal S1x4096 .f32)

/-- The reference's hidden values are the kernel's. -/
theorem hid_eq (r : Fin 32) (j : Fin 14336) : Cert.ReferenceIdeal.Gen.k0_pay9 (Cert.ReferenceIdeal.Gen.k0_pay8 x f1 us) bu (ix2 r j) = Hv x f1 us bu r j :=
  Cert.ReferenceIdeal.Val.pay9 x f1 us bu r j

theorem hid_co : Cert.ReferenceIdeal.Val.co (Cert.ReferenceIdeal.Gen.k0_pay9 (Cert.ReferenceIdeal.Gen.k0_pay8 x f1 us) bu) = Hv x f1 us bu := by
  funext r j
  exact hid_eq x f1 us bu r j

/-- The first result. -/
theorem eq0 : Cert.ReferenceIdeal.Gen.k0_pay1 (Cert.ReferenceIdeal.Gen.k0_pay13 (Cert.ReferenceIdeal.Gen.k0_pay8 x f1 us) bu f4 ws) = yOf x f1 us bu f4 ws := by
  have h : Cert.ReferenceIdeal.Gen.k0_pay1 (Cert.ReferenceIdeal.Gen.k0_pay13 (Cert.ReferenceIdeal.Gen.k0_pay8 x f1 us) bu f4 ws)
      = Cert.ReferenceIdeal.Gen.k0_pay13 (Cert.ReferenceIdeal.Gen.k0_pay8 x f1 us) bu f4 ws := by
    unfold Cert.ReferenceIdeal.Gen.k0_pay1
    first | rfl | (simp only [shapeCast_self]; rfl)
  rw [h]
  funext i
  rw [show i = ix2 (n0 := 32) (n1 := 4096) (i 0) (i 1) from eq_ix2 i]
  refine (Cert.ReferenceIdeal.Val.pay13 _ bu f4 ws (i 0) (i 1)).trans ?_
  rw [hid_co]
  rfl

/-- The second result. -/
theorem eq1 : Cert.ReferenceIdeal.Gen.k0_pay6 x = oXc x := by
  funext i
  rw [show i = ix2 (n0 := 32) (n1 := 4096) (i 0) (i 1) from eq_ix2 i]
  exact (Cert.ReferenceIdeal.Val.pay6 x (i 0) (i 1)).trans (Cert.KernelIdeal.Val.pay17 x (i 0) (i 1)).symm

/-- The third result. -/
theorem eq2 : Cert.ReferenceIdeal.Gen.k0_pay2 (Cert.ReferenceIdeal.Gen.k0_pay7 x) = oXs x := by
  funext i
  rw [show i = ix2 (n0 := 1) (n1 := 32) (i 0) (i 1) from eq_ix2 i]
  exact (Cert.ReferenceIdeal.Val.row_apply _ (i 0) (i 1)).trans ((Cert.ReferenceIdeal.Val.pay7 x (i 1) 0).trans (Cert.KernelIdeal.Val.pay19_apply x (i 0) (i 1)).symm)

/-- The fourth result. -/
theorem eq3 : Cert.ReferenceIdeal.Gen.k0_pay11 (Cert.ReferenceIdeal.Gen.k0_pay8 x f1 us) bu = oHc (dOf x f1 us bu f4) := by
  funext i
  rw [show i = ix2 (n0 := 32) (n1 := 14336) (i 0) (i 1) from eq_ix2 i]
  refine (Cert.ReferenceIdeal.Val.pay11 _ bu (i 0) (i 1)).trans (Eq.trans ?_ (Cert.KernelIdeal.Val.oHc_apply x f1 us bu f4 (i 0) (i 1)).symm)
  rw [hid_co]
  exact congrArg (fun z => code z _) (hid_eq x f1 us bu (i 0) (i 1))

/-- The fifth result. -/
theorem eq4 : Cert.ReferenceIdeal.Gen.k0_pay3 (Cert.ReferenceIdeal.Gen.k0_pay12 (Cert.ReferenceIdeal.Gen.k0_pay8 x f1 us) bu) = oHs (dOf x f1 us bu f4) := by
  funext i
  rw [show i = ix2 (n0 := 1) (n1 := 32) (i 0) (i 1) from eq_ix2 i]
  refine (Cert.ReferenceIdeal.Val.row_apply _ (i 0) (i 1)).trans ((Cert.ReferenceIdeal.Val.pay12 _ bu (i 1) 0).trans (Eq.trans ?_ (Cert.KernelIdeal.Val.oHs_apply x f1 us bu f4 (i 0) (i 1)).symm))
  rw [hid_co]

/-- Run on the same arguments, the kernel and the reference end with the same five results. -/
theorem algebraic [hK : Cert.KernelIdeal.Facts] [hR : Cert.ReferenceIdeal.Facts] : Cert.algebraic_KernelIdeal_ReferenceIdeal := by
  intro m g m' g' _ hargs
  refine ⟨fun c => yOf (Cert.KernelIdeal.Gen.V m c Cert.KernelIdeal.main_v0) (Cert.KernelIdeal.Gen.V m c Cert.KernelIdeal.main_arg1) (Cert.KernelIdeal.Gen.V m c Cert.KernelIdeal.main_v1)
      (Cert.KernelIdeal.Gen.V m c Cert.KernelIdeal.main_v2) (Cert.KernelIdeal.Gen.V m c Cert.KernelIdeal.main_arg4) (Cert.KernelIdeal.Gen.V m c Cert.KernelIdeal.main_v3),
    fun c => oXc (Cert.KernelIdeal.Gen.V m c Cert.KernelIdeal.main_v0), fun c => oXs (Cert.KernelIdeal.Gen.V m c Cert.KernelIdeal.main_v0),
    fun c => oHc (Cert.KernelIdeal.Val.dM m c), fun c => oHs (Cert.KernelIdeal.Val.dM m c), ?_, ?_⟩
  · exact (θ_run _ _ _).mono (fun _ h => h.1) (Cert.KernelIdeal.Val.run_results m g)
  · refine (θ_run _ _ _).mono (fun r h c => ?_) (Cert.ReferenceIdeal.RefValue.run_blocks m' g')
    obtain ⟨h0, h1, h2, h3, h4, ha⟩ := h c
    obtain ⟨a0, a1, a2, a3, a4, a5⟩ := hargs c
    have e0 : Cert.ReferenceIdeal.Gen.V m' c Cert.ReferenceIdeal.main_v0 = Cert.KernelIdeal.Gen.V m c Cert.KernelIdeal.main_v0 :=
      (Cert.ReferenceIdeal.Val.V_main_v0 m' c).trans (Eq.trans (congrArg (fun z => shapeCast S32x4096 z Cert.KernelIdeal.Gen.shapeCasts_S32x1x4096_S32x4096) a0) (Cert.KernelIdeal.Val.V_main_v0 m c).symm)
    have e1 : Cert.ReferenceIdeal.Gen.V m' c Cert.ReferenceIdeal.main_v1 = Cert.KernelIdeal.Gen.V m c Cert.KernelIdeal.main_v1 :=
      (Cert.ReferenceIdeal.Val.V_main_v1 m' c).trans (Eq.trans (congrArg (fun z => shapeCast S1x14336 z Cert.KernelIdeal.Gen.shapeCasts_S14336_S1x14336) a2) (Cert.KernelIdeal.Val.V_main_v1 m c).symm)
    have e2 : Cert.ReferenceIdeal.Gen.V m' c Cert.ReferenceIdeal.main_v2 = Cert.KernelIdeal.Gen.V m c Cert.KernelIdeal.main_v2 :=
      (Cert.ReferenceIdeal.Val.V_main_v2 m' c).trans (Eq.trans (congrArg (fun z => shapeCast S1x14336 z Cert.KernelIdeal.Gen.shapeCasts_S14336_S1x14336) a3) (Cert.KernelIdeal.Val.V_main_v2 m c).symm)
    have e3 : Cert.ReferenceIdeal.Gen.V m' c Cert.ReferenceIdeal.main_v3 = Cert.KernelIdeal.Gen.V m c Cert.KernelIdeal.main_v3 :=
      (Cert.ReferenceIdeal.Val.V_main_v3 m' c).trans (Eq.trans (congrArg (fun z => shapeCast S1x4096 z Cert.KernelIdeal.Gen.shapeCasts_S4096_S1x4096) a5) (Cert.KernelIdeal.Val.V_main_v3 m c).symm)
    have d1 : Cert.ReferenceIdeal.Gen.V m' c Cert.ReferenceIdeal.main_arg1 = Cert.KernelIdeal.Gen.V m c Cert.KernelIdeal.main_arg1 :=
      (Cert.ReferenceIdeal.Gen.V_main_arg1 m' c).trans (a1.trans (Cert.KernelIdeal.Gen.V_main_arg1 m c).symm)
    have d4 : Cert.ReferenceIdeal.Gen.V m' c Cert.ReferenceIdeal.main_arg4 = Cert.KernelIdeal.Gen.V m c Cert.KernelIdeal.main_arg4 :=
      (Cert.ReferenceIdeal.Gen.V_main_arg4 m' c).trans (a4.trans (Cert.KernelIdeal.Gen.V_main_arg4 m c).symm)
    have k0 := Cert.ReferenceIdeal.RefValue.arr_6 m' c
    have k1 := Cert.ReferenceIdeal.RefValue.arr_7 m' c
    have k2 := Cert.ReferenceIdeal.RefValue.arr_8 m' c
    have k3 := Cert.ReferenceIdeal.RefValue.arr_9 m' c
    have k4 := Cert.ReferenceIdeal.RefValue.arr_10 m' c
    rw [e0, e1, e2, e3, d1, d4] at k0
    rw [e0] at k1 k2
    rw [e0, e1, e2, d1] at k3 k4
    exact ⟨h0.trans (k0.trans (eq0 _ _ _ _ _ _)), h1.trans (k1.trans (eq1 _)), h2.trans (k2.trans (eq2 _)), h3.trans (k3.trans (eq3 _ _ _ _ _)), h4.trans (k4.trans (eq4 _ _ _ _ _)), ha⟩

end Cert.Val

end
-- ==== Proof.lean ====
module

public import proofs.«01_k».proof.Defs
public import proofs.«01_k».proof.Proof.K.Run
public import proofs.«01_k».proof.Proof.KI.Run
public import proofs.«01_k».proof.Proof.Gen.ReferenceIdeal.Frame
public import proofs.«01_k».proof.Proof.Val.Algebraic

@[expose] public section

noncomputable section

namespace Cert.Proof

open Idealize.ShloMosaic Idealize.SL.Sem

/-- The three programs end with their arguments unchanged and every counter at zero, the ideal kernel is the kernel read
    over the extended reals, and it ends with the reference's five results. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ, fun m ρ _ => Cert.ReferenceIdeal.Gen.frame m ρ, trivial, Cert.Val.algebraic⟩

end Cert.Proof

end
